-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Send (m : (ℓ : Loc Cert.Send.nD Cert.Send.τ Cert.Send.sig) → Buf (Elt Bits) ℓ) : Prop :=
  True

def Pre_SendIdeal (m : (ℓ : Loc Cert.SendIdeal.nD Cert.SendIdeal.τ Cert.SendIdeal.sig) → Buf (Elt Ideal) ℓ) : Prop :=
  True

def Pre_SendRefIdeal (m : (ℓ : Loc Cert.SendRefIdeal.nD Cert.SendRefIdeal.τ Cert.SendRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_MmInBig (m : (ℓ : Loc Cert.MmInBig.nD Cert.MmInBig.τ Cert.MmInBig.sig) → Buf (Elt Bits) ℓ) : Prop :=
  True

def Pre_MmInBigIdeal (m : (ℓ : Loc Cert.MmInBigIdeal.nD Cert.MmInBigIdeal.τ Cert.MmInBigIdeal.sig) → Buf (Elt Ideal) ℓ) : Prop :=
  True

def Pre_MmInBigRefIdeal (m : (ℓ : Loc Cert.MmInBigRefIdeal.nD Cert.MmInBigRefIdeal.τ Cert.MmInBigRefIdeal.sig) → Buf (Elt Ideal) ℓ) : Prop :=
  True

def Pre_MmInBigDx (m : (ℓ : Loc Cert.MmInBigDx.nD Cert.MmInBigDx.τ Cert.MmInBigDx.sig) → Buf (Elt Bits) ℓ) : Prop :=
  True

def Pre_MmInBigDxIdeal (m : (ℓ : Loc Cert.MmInBigDxIdeal.nD Cert.MmInBigDxIdeal.τ Cert.MmInBigDxIdeal.sig) → Buf (Elt Ideal) ℓ) : Prop :=
  True

def Pre_MmInBigDxRefIdeal (m : (ℓ : Loc Cert.MmInBigDxRefIdeal.nD Cert.MmInBigDxRefIdeal.τ Cert.MmInBigDxRefIdeal.sig) → Buf (Elt Ideal) ℓ) : Prop :=
  True

def Pre_MmInBigDw (m : (ℓ : Loc Cert.MmInBigDw.nD Cert.MmInBigDw.τ Cert.MmInBigDw.sig) → Buf (Elt Bits) ℓ) : Prop :=
  True

def Pre_MmInBigDwIdeal (m : (ℓ : Loc Cert.MmInBigDwIdeal.nD Cert.MmInBigDwIdeal.τ Cert.MmInBigDwIdeal.sig) → Buf (Elt Ideal) ℓ) : Prop :=
  True

def Pre_MmInBigDwRefIdeal (m : (ℓ : Loc Cert.MmInBigDwRefIdeal.nD Cert.MmInBigDwRefIdeal.τ Cert.MmInBigDwRefIdeal.sig) → Buf (Elt Ideal) ℓ) : Prop :=
  True

def Pre_MmInSmall (m : (ℓ : Loc Cert.MmInSmall.nD Cert.MmInSmall.τ Cert.MmInSmall.sig) → Buf (Elt Bits) ℓ) : Prop :=
  True

def Pre_MmInSmallIdeal (m : (ℓ : Loc Cert.MmInSmallIdeal.nD Cert.MmInSmallIdeal.τ Cert.MmInSmallIdeal.sig) → Buf (Elt Ideal) ℓ) : Prop :=
  True

def Pre_MmInSmallRefIdeal (m : (ℓ : Loc Cert.MmInSmallRefIdeal.nD Cert.MmInSmallRefIdeal.τ Cert.MmInSmallRefIdeal.sig) → Buf (Elt Ideal) ℓ) : Prop :=
  True

def Pre_MmInSmallDx (m : (ℓ : Loc Cert.MmInSmallDx.nD Cert.MmInSmallDx.τ Cert.MmInSmallDx.sig) → Buf (Elt Bits) ℓ) : Prop :=
  True

def Pre_MmInSmallDxIdeal (m : (ℓ : Loc Cert.MmInSmallDxIdeal.nD Cert.MmInSmallDxIdeal.τ Cert.MmInSmallDxIdeal.sig) → Buf (Elt Ideal) ℓ) : Prop :=
  True

def Pre_MmInSmallDxRefIdeal (m : (ℓ : Loc Cert.MmInSmallDxRefIdeal.nD Cert.MmInSmallDxRefIdeal.τ Cert.MmInSmallDxRefIdeal.sig) → Buf (Elt Ideal) ℓ) : Prop :=
  True

def Pre_MmInSmallDw (m : (ℓ : Loc Cert.MmInSmallDw.nD Cert.MmInSmallDw.τ Cert.MmInSmallDw.sig) → Buf (Elt Bits) ℓ) : Prop :=
  True

def Pre_MmInSmallDwIdeal (m : (ℓ : Loc Cert.MmInSmallDwIdeal.nD Cert.MmInSmallDwIdeal.τ Cert.MmInSmallDwIdeal.sig) → Buf (Elt Ideal) ℓ) : Prop :=
  True

def Pre_MmInSmallDwRefIdeal (m : (ℓ : Loc Cert.MmInSmallDwRefIdeal.nD Cert.MmInSmallDwRefIdeal.τ Cert.MmInSmallDwRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmOutDx (m : (ℓ : Loc Cert.MmOutDx.nD Cert.MmOutDx.τ Cert.MmOutDx.sig) → Buf (Elt Bits) ℓ) : Prop :=
  True

def Pre_MmOutDxIdeal (m : (ℓ : Loc Cert.MmOutDxIdeal.nD Cert.MmOutDxIdeal.τ Cert.MmOutDxIdeal.sig) → Buf (Elt Ideal) ℓ) : Prop :=
  True

def Pre_MmOutDxRefIdeal (m : (ℓ : Loc Cert.MmOutDxRefIdeal.nD Cert.MmOutDxRefIdeal.τ Cert.MmOutDxRefIdeal.sig) → Buf (Elt Ideal) ℓ) : Prop :=
  True

def Pre_MmOutDw (m : (ℓ : Loc Cert.MmOutDw.nD Cert.MmOutDw.τ Cert.MmOutDw.sig) → Buf (Elt Bits) ℓ) : Prop :=
  True

def Pre_MmOutDwIdeal (m : (ℓ : Loc Cert.MmOutDwIdeal.nD Cert.MmOutDwIdeal.τ Cert.MmOutDwIdeal.sig) → Buf (Elt Ideal) ℓ) : Prop :=
  True

def Pre_MmOutDwRefIdeal (m : (ℓ : Loc Cert.MmOutDwRefIdeal.nD Cert.MmOutDwRefIdeal.τ Cert.MmOutDwRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmUpDx (m : (ℓ : Loc Cert.MmUpDx.nD Cert.MmUpDx.τ Cert.MmUpDx.sig) → Buf (Elt Bits) ℓ) : Prop :=
  True

def Pre_MmUpDxIdeal (m : (ℓ : Loc Cert.MmUpDxIdeal.nD Cert.MmUpDxIdeal.τ Cert.MmUpDxIdeal.sig) → Buf (Elt Ideal) ℓ) : Prop :=
  True

def Pre_MmUpDxRefIdeal (m : (ℓ : Loc Cert.MmUpDxRefIdeal.nD Cert.MmUpDxRefIdeal.τ Cert.MmUpDxRefIdeal.sig) → Buf (Elt Ideal) ℓ) : Prop :=
  True

def Pre_MmUpDw (m : (ℓ : Loc Cert.MmUpDw.nD Cert.MmUpDw.τ Cert.MmUpDw.sig) → Buf (Elt Bits) ℓ) : Prop :=
  True

def Pre_MmUpDwIdeal (m : (ℓ : Loc Cert.MmUpDwIdeal.nD Cert.MmUpDwIdeal.τ Cert.MmUpDwIdeal.sig) → Buf (Elt Ideal) ℓ) : Prop :=
  True

def Pre_MmUpDwRefIdeal (m : (ℓ : Loc Cert.MmUpDwRefIdeal.nD Cert.MmUpDwRefIdeal.τ Cert.MmUpDwRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MmDownDx (m : (ℓ : Loc Cert.MmDownDx.nD Cert.MmDownDx.τ Cert.MmDownDx.sig) → Buf (Elt Bits) ℓ) : Prop :=
  True

def Pre_MmDownDxIdeal (m : (ℓ : Loc Cert.MmDownDxIdeal.nD Cert.MmDownDxIdeal.τ Cert.MmDownDxIdeal.sig) → Buf (Elt Ideal) ℓ) : Prop :=
  True

def Pre_MmDownDxRefIdeal (m : (ℓ : Loc Cert.MmDownDxRefIdeal.nD Cert.MmDownDxRefIdeal.τ Cert.MmDownDxRefIdeal.sig) → Buf (Elt Ideal) ℓ) : Prop :=
  True

def Pre_MmDownDw (m : (ℓ : Loc Cert.MmDownDw.nD Cert.MmDownDw.τ Cert.MmDownDw.sig) → Buf (Elt Bits) ℓ) : Prop :=
  True

def Pre_MmDownDwIdeal (m : (ℓ : Loc Cert.MmDownDwIdeal.nD Cert.MmDownDwIdeal.τ Cert.MmDownDwIdeal.sig) → Buf (Elt Ideal) ℓ) : Prop :=
  True

def Pre_MmDownDwRefIdeal (m : (ℓ : Loc Cert.MmDownDwRefIdeal.nD Cert.MmDownDwRefIdeal.τ Cert.MmDownDwRefIdeal.sig) → Buf (Elt Ideal) ℓ) : Prop :=
  True

def Pre_AddDh (m : (ℓ : Loc Cert.AddDh.nD Cert.AddDh.τ Cert.AddDh.sig) → Buf (Elt Bits) ℓ) : Prop :=
  True

def Pre_AddDhIdeal (m : (ℓ : Loc Cert.AddDhIdeal.nD Cert.AddDhIdeal.τ Cert.AddDhIdeal.sig) → Buf (Elt Ideal) ℓ) : Prop :=
  True

def Pre_AddDhRefIdeal (m : (ℓ : Loc Cert.AddDhRefIdeal.nD Cert.AddDhRefIdeal.τ Cert.AddDhRefIdeal.sig) → Buf (Elt Ideal) ℓ) : Prop :=
  True

def Pre_AddDx (m : (ℓ : Loc Cert.AddDx.nD Cert.AddDx.τ Cert.AddDx.sig) → Buf (Elt Bits) ℓ) : Prop :=
  True

def Pre_AddDxIdeal (m : (ℓ : Loc Cert.AddDxIdeal.nD Cert.AddDxIdeal.τ Cert.AddDxIdeal.sig) → Buf (Elt Ideal) ℓ) : Prop :=
  True

def Pre_AddDxRefIdeal (m : (ℓ : Loc Cert.AddDxRefIdeal.nD Cert.AddDxRefIdeal.τ Cert.AddDxRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackRefIdeal (m : (ℓ : Loc Cert.MixBackRefIdeal.nD Cert.MixBackRefIdeal.τ Cert.MixBackRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_SendRef (m : (ℓ : Loc Cert.SendRef.nD Cert.SendRef.τ Cert.SendRef.sig) → Buf (Elt Bits) ℓ) : Prop :=
  True

def Pre_ScatterRef (m : (ℓ : Loc Cert.ScatterRef.nD Cert.ScatterRef.τ Cert.ScatterRef.sig) → Buf (Elt Bits) ℓ) : Prop :=
  True

def Pre_PairRef (m : (ℓ : Loc Cert.PairRef.nD Cert.PairRef.τ Cert.PairRef.sig) → Buf (Elt Bits) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6))
      ∧ r.2.sem = fun _ => 0)

def quiescent_Send [hSend : Cert.Send.Facts] : Prop :=
  ∀ (m : (ℓ : Loc Cert.Send.nD Cert.Send.τ Cert.Send.sig) → Buf (Elt Bits) ℓ) (g : Dev Cert.Send.nD → PrngReg), Pre_Send m →
    θ_run (Cert.Send.defs (F := Bits)) (onTc (τ := Cert.Send.τ) (Cert.Send.main (F := Bits))) ⟨m, fun _ => 0, g⟩ (fun r => (∀ c : Dev Cert.Send.nD,
      r.2.mem ((c.tc : Thread Cert.Send.nD Cert.Send.τ).loc Cert.Send.main_arg0) = m ((c.tc : Thread Cert.Send.nD Cert.Send.τ).loc Cert.Send.main_arg0)
      ∧ r.2.mem ((c.tc : Thread Cert.Send.nD Cert.Send.τ).loc Cert.Send.main_arg1) = m ((c.tc : Thread Cert.Send.nD Cert.Send.τ).loc Cert.Send.main_arg1)
      ∧ r.2.mem ((c.tc : Thread Cert.Send.nD Cert.Send.τ).loc Cert.Send.main_arg2) = m ((c.tc : Thread Cert.Send.nD Cert.Send.τ).loc Cert.Send.main_arg2)
      ∧ r.2.mem ((c.tc : Thread Cert.Send.nD Cert.Send.τ).loc Cert.Send.main_arg3) = m ((c.tc : Thread Cert.Send.nD Cert.Send.τ).loc Cert.Send.main_arg3))
      ∧ r.2.sem = fun _ => 0)

def quiescent_SendIdeal [hSendIdeal : Cert.SendIdeal.Facts] : Prop :=
  ∀ (m : (ℓ : Loc Cert.SendIdeal.nD Cert.SendIdeal.τ Cert.SendIdeal.sig) → Buf (Elt Ideal) ℓ) (g : Dev Cert.SendIdeal.nD → PrngReg), Pre_SendIdeal m →
    θ_run (Cert.SendIdeal.defs (F := Ideal)) (onTc (τ := Cert.SendIdeal.τ) (Cert.SendIdeal.main (F := Ideal))) ⟨m, fun _ => 0, g⟩ (fun r => (∀ c : Dev Cert.SendIdeal.nD,
      r.2.mem ((c.tc : Thread Cert.SendIdeal.nD Cert.SendIdeal.τ).loc Cert.SendIdeal.main_arg0) = m ((c.tc : Thread Cert.SendIdeal.nD Cert.SendIdeal.τ).loc Cert.SendIdeal.main_arg0)
      ∧ r.2.mem ((c.tc : Thread Cert.SendIdeal.nD Cert.SendIdeal.τ).loc Cert.SendIdeal.main_arg1) = m ((c.tc : Thread Cert.SendIdeal.nD Cert.SendIdeal.τ).loc Cert.SendIdeal.main_arg1)
      ∧ r.2.mem ((c.tc : Thread Cert.SendIdeal.nD Cert.SendIdeal.τ).loc Cert.SendIdeal.main_arg2) = m ((c.tc : Thread Cert.SendIdeal.nD Cert.SendIdeal.τ).loc Cert.SendIdeal.main_arg2)
      ∧ r.2.mem ((c.tc : Thread Cert.SendIdeal.nD Cert.SendIdeal.τ).loc Cert.SendIdeal.main_arg3) = m ((c.tc : Thread Cert.SendIdeal.nD Cert.SendIdeal.τ).loc Cert.SendIdeal.main_arg3))
      ∧ r.2.sem = fun _ => 0)

def quiescent_SendRefIdeal [hSendRefIdeal : Cert.SendRefIdeal.Facts] : Prop :=
  ∀ (m : (ℓ : Loc Cert.SendRefIdeal.nD Cert.SendRefIdeal.τ Cert.SendRefIdeal.sig) → Buf (Elt Ideal) ℓ) (g : Dev Cert.SendRefIdeal.nD → PrngReg), Pre_SendRefIdeal m →
    θ_run (Cert.SendRefIdeal.defs (F := Ideal)) (onTc (τ := Cert.SendRefIdeal.τ) (Cert.SendRefIdeal.main (F := Ideal))) ⟨m, fun _ => 0, g⟩ (fun r => (∀ c : Dev Cert.SendRefIdeal.nD,
      r.2.mem ((c.tc : Thread Cert.SendRefIdeal.nD Cert.SendRefIdeal.τ).loc Cert.SendRefIdeal.main_arg0) = m ((c.tc : Thread Cert.SendRefIdeal.nD Cert.SendRefIdeal.τ).loc Cert.SendRefIdeal.main_arg0)
      ∧ r.2.mem ((c.tc : Thread Cert.SendRefIdeal.nD Cert.SendRefIdeal.τ).loc Cert.SendRefIdeal.main_arg1) = m ((c.tc : Thread Cert.SendRefIdeal.nD Cert.SendRefIdeal.τ).loc Cert.SendRefIdeal.main_arg1)
      ∧ r.2.mem ((c.tc : Thread Cert.SendRefIdeal.nD Cert.SendRefIdeal.τ).loc Cert.SendRefIdeal.main_arg2) = m ((c.tc : Thread Cert.SendRefIdeal.nD Cert.SendRefIdeal.τ).loc Cert.SendRefIdeal.main_arg2)
      ∧ r.2.mem ((c.tc : Thread Cert.SendRefIdeal.nD Cert.SendRefIdeal.τ).loc Cert.SendRefIdeal.main_arg3) = m ((c.tc : Thread Cert.SendRefIdeal.nD Cert.SendRefIdeal.τ).loc Cert.SendRefIdeal.main_arg3))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2)
      ∧ r.2.mem ((c.tc : Thread Cert.Pair.nD Cert.Pair.τ).loc Cert.Pair.main_arg3) = m ((c.tc : Thread Cert.Pair.nD Cert.Pair.τ).loc Cert.Pair.main_arg3))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
      ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2)
      ∧ r.2.mem ((c.tc : Thread Cert.PairRefIdeal.nD Cert.PairRefIdeal.τ).loc Cert.PairRefIdeal.main_arg3) = m ((c.tc : Thread Cert.PairRefIdeal.nD Cert.PairRefIdeal.τ).loc Cert.PairRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30)
      ∧ r.2.mem ((c.tc : Thread Cert.Small.nD Cert.Small.τ).loc Cert.Small.main_arg31) = m ((c.tc : Thread Cert.Small.nD Cert.Small.τ).loc Cert.Small.main_arg31)
      ∧ r.2.mem ((c.tc : Thread Cert.Small.nD Cert.Small.τ).loc Cert.Small.main_arg32) = m ((c.tc : Thread Cert.Small.nD Cert.Small.τ).loc Cert.Small.main_arg32)
      ∧ r.2.mem ((c.tc : Thread Cert.Small.nD Cert.Small.τ).loc Cert.Small.main_arg33) = m ((c.tc : Thread Cert.Small.nD Cert.Small.τ).loc Cert.Small.main_arg33)
      ∧ r.2.mem ((c.tc : Thread Cert.Small.nD Cert.Small.τ).loc Cert.Small.main_arg34) = m ((c.tc : Thread Cert.Small.nD Cert.Small.τ).loc Cert.Small.main_arg34)
      ∧ r.2.mem ((c.tc : Thread Cert.Small.nD Cert.Small.τ).loc Cert.Small.main_arg35) = m ((c.tc : Thread Cert.Small.nD Cert.Small.τ).loc Cert.Small.main_arg35)
      ∧ r.2.mem ((c.tc : Thread Cert.Small.nD Cert.Small.τ).loc Cert.Small.main_arg36) = m ((c.tc : Thread Cert.Small.nD Cert.Small.τ).loc Cert.Small.main_arg36)
      ∧ r.2.mem ((c.tc : Thread Cert.Small.nD Cert.Small.τ).loc Cert.Small.main_arg37) = m ((c.tc : Thread Cert.Small.nD Cert.Small.τ).loc Cert.Small.main_arg37)
      ∧ r.2.mem ((c.tc : Thread Cert.Small.nD Cert.Small.τ).loc Cert.Small.main_arg38) = m ((c.tc : Thread Cert.Small.nD Cert.Small.τ).loc Cert.Small.main_arg38)
      ∧ r.2.mem ((c.tc : Thread Cert.Small.nD Cert.Small.τ).loc Cert.Small.main_arg39) = m ((c.tc : Thread Cert.Small.nD Cert.Small.τ).loc Cert.Small.main_arg39)
      ∧ r.2.mem ((c.tc : Thread Cert.Small.nD Cert.Small.τ).loc Cert.Small.main_arg40) = m ((c.tc : Thread Cert.Small.nD Cert.Small.τ).loc Cert.Small.main_arg40)
      ∧ r.2.mem ((c.tc : Thread Cert.Small.nD Cert.Small.τ).loc Cert.Small.main_arg41) = m ((c.tc : Thread Cert.Small.nD Cert.Small.τ).loc Cert.Small.main_arg41)
      ∧ r.2.mem ((c.tc : Thread Cert.Small.nD Cert.Small.τ).loc Cert.Small.main_arg42) = m ((c.tc : Thread Cert.Small.nD Cert.Small.τ).loc Cert.Small.main_arg42)
      ∧ r.2.mem ((c.tc : Thread Cert.Small.nD Cert.Small.τ).loc Cert.Small.main_arg43) = m ((c.tc : Thread Cert.Small.nD Cert.Small.τ).loc Cert.Small.main_arg43)
      ∧ r.2.mem ((c.tc : Thread Cert.Small.nD Cert.Small.τ).loc Cert.Small.main_arg44) = m ((c.tc : Thread Cert.Small.nD Cert.Small.τ).loc Cert.Small.main_arg44)
      ∧ r.2.mem ((c.tc : Thread Cert.Small.nD Cert.Small.τ).loc Cert.Small.main_arg45) = m ((c.tc : Thread Cert.Small.nD Cert.Small.τ).loc Cert.Small.main_arg45)
      ∧ r.2.mem ((c.tc : Thread Cert.Small.nD Cert.Small.τ).loc Cert.Small.main_arg46) = m ((c.tc : Thread Cert.Small.nD Cert.Small.τ).loc Cert.Small.main_arg46)
      ∧ r.2.mem ((c.tc : Thread Cert.Small.nD Cert.Small.τ).loc Cert.Small.main_arg47) = m ((c.tc : Thread Cert.Small.nD Cert.Small.τ).loc Cert.Small.main_arg47)
      ∧ r.2.mem ((c.tc : Thread Cert.Small.nD Cert.Small.τ).loc Cert.Small.main_arg48) = m ((c.tc : Thread Cert.Small.nD Cert.Small.τ).loc Cert.Small.main_arg48)
      ∧ r.2.mem ((c.tc : Thread Cert.Small.nD Cert.Small.τ).loc Cert.Small.main_arg49) = m ((c.tc : Thread Cert.Small.nD Cert.Small.τ).loc Cert.Small.main_arg49)
      ∧ r.2.mem ((c.tc : Thread Cert.Small.nD Cert.Small.τ).loc Cert.Small.main_arg50) = m ((c.tc : Thread Cert.Small.nD Cert.Small.τ).loc Cert.Small.main_arg50)
      ∧ r.2.mem ((c.tc : Thread Cert.Small.nD Cert.Small.τ).loc Cert.Small.main_arg51) = m ((c.tc : Thread Cert.Small.nD Cert.Small.τ).loc Cert.Small.main_arg51)
      ∧ r.2.mem ((c.tc : Thread Cert.Small.nD Cert.Small.τ).loc Cert.Small.main_arg52) = m ((c.tc : Thread Cert.Small.nD Cert.Small.τ).loc Cert.Small.main_arg52)
      ∧ r.2.mem ((c.tc : Thread Cert.Small.nD Cert.Small.τ).loc Cert.Small.main_arg53) = m ((c.tc : Thread Cert.Small.nD Cert.Small.τ).loc Cert.Small.main_arg53)
      ∧ r.2.mem ((c.tc : Thread Cert.Small.nD Cert.Small.τ).loc Cert.Small.main_arg54) = m ((c.tc : Thread Cert.Small.nD Cert.Small.τ).loc Cert.Small.main_arg54)
      ∧ r.2.mem ((c.tc : Thread Cert.Small.nD Cert.Small.τ).loc Cert.Small.main_arg55) = m ((c.tc : Thread Cert.Small.nD Cert.Small.τ).loc Cert.Small.main_arg55)
      ∧ r.2.mem ((c.tc : Thread Cert.Small.nD Cert.Small.τ).loc Cert.Small.main_arg56) = m ((c.tc : Thread Cert.Small.nD Cert.Small.τ).loc Cert.Small.main_arg56)
      ∧ r.2.mem ((c.tc : Thread Cert.Small.nD Cert.Small.τ).loc Cert.Small.main_arg57) = m ((c.tc : Thread Cert.Small.nD Cert.Small.τ).loc Cert.Small.main_arg57)
      ∧ r.2.mem ((c.tc : Thread Cert.Small.nD Cert.Small.τ).loc Cert.Small.main_arg58) = m ((c.tc : Thread Cert.Small.nD Cert.Small.τ).loc Cert.Small.main_arg58)
      ∧ r.2.mem ((c.tc : Thread Cert.Small.nD Cert.Small.τ).loc Cert.Small.main_arg59) = m ((c.tc : Thread Cert.Small.nD Cert.Small.τ).loc Cert.Small.main_arg59)
      ∧ r.2.mem ((c.tc : Thread Cert.Small.nD Cert.Small.τ).loc Cert.Small.main_arg60) = m ((c.tc : Thread Cert.Small.nD Cert.Small.τ).loc Cert.Small.main_arg60)
      ∧ r.2.mem ((c.tc : Thread Cert.Small.nD Cert.Small.τ).loc Cert.Small.main_arg61) = m ((c.tc : Thread Cert.Small.nD Cert.Small.τ).loc Cert.Small.main_arg61)
      ∧ r.2.mem ((c.tc : Thread Cert.Small.nD Cert.Small.τ).loc Cert.Small.main_arg62) = m ((c.tc : Thread Cert.Small.nD Cert.Small.τ).loc Cert.Small.main_arg62)
      ∧ r.2.mem ((c.tc : Thread Cert.Small.nD Cert.Small.τ).loc Cert.Small.main_arg63) = m ((c.tc : Thread Cert.Small.nD Cert.Small.τ).loc Cert.Small.main_arg63))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
      ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
      ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
      ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
      ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
      ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35)
      ∧ r.2.mem ((c.tc : Thread Cert.SmallIdeal.nD Cert.SmallIdeal.τ).loc Cert.SmallIdeal.main_arg36) = m ((c.tc : Thread Cert.SmallIdeal.nD Cert.SmallIdeal.τ).loc Cert.SmallIdeal.main_arg36)
      ∧ r.2.mem ((c.tc : Thread Cert.SmallIdeal.nD Cert.SmallIdeal.τ).loc Cert.SmallIdeal.main_arg37) = m ((c.tc : Thread Cert.SmallIdeal.nD Cert.SmallIdeal.τ).loc Cert.SmallIdeal.main_arg37)
      ∧ r.2.mem ((c.tc : Thread Cert.SmallIdeal.nD Cert.SmallIdeal.τ).loc Cert.SmallIdeal.main_arg38) = m ((c.tc : Thread Cert.SmallIdeal.nD Cert.SmallIdeal.τ).loc Cert.SmallIdeal.main_arg38)
      ∧ r.2.mem ((c.tc : Thread Cert.SmallIdeal.nD Cert.SmallIdeal.τ).loc Cert.SmallIdeal.main_arg39) = m ((c.tc : Thread Cert.SmallIdeal.nD Cert.SmallIdeal.τ).loc Cert.SmallIdeal.main_arg39)
      ∧ r.2.mem ((c.tc : Thread Cert.SmallIdeal.nD Cert.SmallIdeal.τ).loc Cert.SmallIdeal.main_arg40) = m ((c.tc : Thread Cert.SmallIdeal.nD Cert.SmallIdeal.τ).loc Cert.SmallIdeal.main_arg40)
      ∧ r.2.mem ((c.tc : Thread Cert.SmallIdeal.nD Cert.SmallIdeal.τ).loc Cert.SmallIdeal.main_arg41) = m ((c.tc : Thread Cert.SmallIdeal.nD Cert.SmallIdeal.τ).loc Cert.SmallIdeal.main_arg41)
      ∧ r.2.mem ((c.tc : Thread Cert.SmallIdeal.nD Cert.SmallIdeal.τ).loc Cert.SmallIdeal.main_arg42) = m ((c.tc : Thread Cert.SmallIdeal.nD Cert.SmallIdeal.τ).loc Cert.SmallIdeal.main_arg42)
      ∧ r.2.mem ((c.tc : Thread Cert.SmallIdeal.nD Cert.SmallIdeal.τ).loc Cert.SmallIdeal.main_arg43) = m ((c.tc : Thread Cert.SmallIdeal.nD Cert.SmallIdeal.τ).loc Cert.SmallIdeal.main_arg43)
      ∧ r.2.mem ((c.tc : Thread Cert.SmallIdeal.nD Cert.SmallIdeal.τ).loc Cert.SmallIdeal.main_arg44) = m ((c.tc : Thread Cert.SmallIdeal.nD Cert.SmallIdeal.τ).loc Cert.SmallIdeal.main_arg44)
      ∧ r.2.mem ((c.tc : Thread Cert.SmallIdeal.nD Cert.SmallIdeal.τ).loc Cert.SmallIdeal.main_arg45) = m ((c.tc : Thread Cert.SmallIdeal.nD Cert.SmallIdeal.τ).loc Cert.SmallIdeal.main_arg45)
      ∧ r.2.mem ((c.tc : Thread Cert.SmallIdeal.nD Cert.SmallIdeal.τ).loc Cert.SmallIdeal.main_arg46) = m ((c.tc : Thread Cert.SmallIdeal.nD Cert.SmallIdeal.τ).loc Cert.SmallIdeal.main_arg46)
      ∧ r.2.mem ((c.tc : Thread Cert.SmallIdeal.nD Cert.SmallIdeal.τ).loc Cert.SmallIdeal.main_arg47) = m ((c.tc : Thread Cert.SmallIdeal.nD Cert.SmallIdeal.τ).loc Cert.SmallIdeal.main_arg47)
      ∧ r.2.mem ((c.tc : Thread Cert.SmallIdeal.nD Cert.SmallIdeal.τ).loc Cert.SmallIdeal.main_arg48) = m ((c.tc : Thread Cert.SmallIdeal.nD Cert.SmallIdeal.τ).loc Cert.SmallIdeal.main_arg48)
      ∧ r.2.mem ((c.tc : Thread Cert.SmallIdeal.nD Cert.SmallIdeal.τ).loc Cert.SmallIdeal.main_arg49) = m ((c.tc : Thread Cert.SmallIdeal.nD Cert.SmallIdeal.τ).loc Cert.SmallIdeal.main_arg49)
      ∧ r.2.mem ((c.tc : Thread Cert.SmallIdeal.nD Cert.SmallIdeal.τ).loc Cert.SmallIdeal.main_arg50) = m ((c.tc : Thread Cert.SmallIdeal.nD Cert.SmallIdeal.τ).loc Cert.SmallIdeal.main_arg50)
      ∧ r.2.mem ((c.tc : Thread Cert.SmallIdeal.nD Cert.SmallIdeal.τ).loc Cert.SmallIdeal.main_arg51) = m ((c.tc : Thread Cert.SmallIdeal.nD Cert.SmallIdeal.τ).loc Cert.SmallIdeal.main_arg51)
      ∧ r.2.mem ((c.tc : Thread Cert.SmallIdeal.nD Cert.SmallIdeal.τ).loc Cert.SmallIdeal.main_arg52) = m ((c.tc : Thread Cert.SmallIdeal.nD Cert.SmallIdeal.τ).loc Cert.SmallIdeal.main_arg52)
      ∧ r.2.mem ((c.tc : Thread Cert.SmallIdeal.nD Cert.SmallIdeal.τ).loc Cert.SmallIdeal.main_arg53) = m ((c.tc : Thread Cert.SmallIdeal.nD Cert.SmallIdeal.τ).loc Cert.SmallIdeal.main_arg53)
      ∧ r.2.mem ((c.tc : Thread Cert.SmallIdeal.nD Cert.SmallIdeal.τ).loc Cert.SmallIdeal.main_arg54) = m ((c.tc : Thread Cert.SmallIdeal.nD Cert.SmallIdeal.τ).loc Cert.SmallIdeal.main_arg54)
      ∧ r.2.mem ((c.tc : Thread Cert.SmallIdeal.nD Cert.SmallIdeal.τ).loc Cert.SmallIdeal.main_arg55) = m ((c.tc : Thread Cert.SmallIdeal.nD Cert.SmallIdeal.τ).loc Cert.SmallIdeal.main_arg55)
      ∧ r.2.mem ((c.tc : Thread Cert.SmallIdeal.nD Cert.SmallIdeal.τ).loc Cert.SmallIdeal.main_arg56) = m ((c.tc : Thread Cert.SmallIdeal.nD Cert.SmallIdeal.τ).loc Cert.SmallIdeal.main_arg56)
      ∧ r.2.mem ((c.tc : Thread Cert.SmallIdeal.nD Cert.SmallIdeal.τ).loc Cert.SmallIdeal.main_arg57) = m ((c.tc : Thread Cert.SmallIdeal.nD Cert.SmallIdeal.τ).loc Cert.SmallIdeal.main_arg57)
      ∧ r.2.mem ((c.tc : Thread Cert.SmallIdeal.nD Cert.SmallIdeal.τ).loc Cert.SmallIdeal.main_arg58) = m ((c.tc : Thread Cert.SmallIdeal.nD Cert.SmallIdeal.τ).loc Cert.SmallIdeal.main_arg58)
      ∧ r.2.mem ((c.tc : Thread Cert.SmallIdeal.nD Cert.SmallIdeal.τ).loc Cert.SmallIdeal.main_arg59) = m ((c.tc : Thread Cert.SmallIdeal.nD Cert.SmallIdeal.τ).loc Cert.SmallIdeal.main_arg59)
      ∧ r.2.mem ((c.tc : Thread Cert.SmallIdeal.nD Cert.SmallIdeal.τ).loc Cert.SmallIdeal.main_arg60) = m ((c.tc : Thread Cert.SmallIdeal.nD Cert.SmallIdeal.τ).loc Cert.SmallIdeal.main_arg60)
      ∧ r.2.mem ((c.tc : Thread Cert.SmallIdeal.nD Cert.SmallIdeal.τ).loc Cert.SmallIdeal.main_arg61) = m ((c.tc : Thread Cert.SmallIdeal.nD Cert.SmallIdeal.τ).loc Cert.SmallIdeal.main_arg61)
      ∧ r.2.mem ((c.tc : Thread Cert.SmallIdeal.nD Cert.SmallIdeal.τ).loc Cert.SmallIdeal.main_arg62) = m ((c.tc : Thread Cert.SmallIdeal.nD Cert.SmallIdeal.τ).loc Cert.SmallIdeal.main_arg62)
      ∧ r.2.mem ((c.tc : Thread Cert.SmallIdeal.nD Cert.SmallIdeal.τ).loc Cert.SmallIdeal.main_arg63) = m ((c.tc : Thread Cert.SmallIdeal.nD Cert.SmallIdeal.τ).loc Cert.SmallIdeal.main_arg63))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24)
      ∧ r.2.mem ((c.tc : Thread Cert.SmallRefIdeal.nD Cert.SmallRefIdeal.τ).loc Cert.SmallRefIdeal.main_arg25) = m ((c.tc : Thread Cert.SmallRefIdeal.nD Cert.SmallRefIdeal.τ).loc Cert.SmallRefIdeal.main_arg25)
      ∧ r.2.mem ((c.tc : Thread Cert.SmallRefIdeal.nD Cert.SmallRefIdeal.τ).loc Cert.SmallRefIdeal.main_arg26) = m ((c.tc : Thread Cert.SmallRefIdeal.nD Cert.SmallRefIdeal.τ).loc Cert.SmallRefIdeal.main_arg26)
      ∧ r.2.mem ((c.tc : Thread Cert.SmallRefIdeal.nD Cert.SmallRefIdeal.τ).loc Cert.SmallRefIdeal.main_arg27) = m ((c.tc : Thread Cert.SmallRefIdeal.nD Cert.SmallRefIdeal.τ).loc Cert.SmallRefIdeal.main_arg27)
      ∧ r.2.mem ((c.tc : Thread Cert.SmallRefIdeal.nD Cert.SmallRefIdeal.τ).loc Cert.SmallRefIdeal.main_arg28) = m ((c.tc : Thread Cert.SmallRefIdeal.nD Cert.SmallRefIdeal.τ).loc Cert.SmallRefIdeal.main_arg28)
      ∧ r.2.mem ((c.tc : Thread Cert.SmallRefIdeal.nD Cert.SmallRefIdeal.τ).loc Cert.SmallRefIdeal.main_arg29) = m ((c.tc : Thread Cert.SmallRefIdeal.nD Cert.SmallRefIdeal.τ).loc Cert.SmallRefIdeal.main_arg29)
      ∧ r.2.mem ((c.tc : Thread Cert.SmallRefIdeal.nD Cert.SmallRefIdeal.τ).loc Cert.SmallRefIdeal.main_arg30) = m ((c.tc : Thread Cert.SmallRefIdeal.nD Cert.SmallRefIdeal.τ).loc Cert.SmallRefIdeal.main_arg30)
      ∧ r.2.mem ((c.tc : Thread Cert.SmallRefIdeal.nD Cert.SmallRefIdeal.τ).loc Cert.SmallRefIdeal.main_arg31) = m ((c.tc : Thread Cert.SmallRefIdeal.nD Cert.SmallRefIdeal.τ).loc Cert.SmallRefIdeal.main_arg31)
      ∧ r.2.mem ((c.tc : Thread Cert.SmallRefIdeal.nD Cert.SmallRefIdeal.τ).loc Cert.SmallRefIdeal.main_arg32) = m ((c.tc : Thread Cert.SmallRefIdeal.nD Cert.SmallRefIdeal.τ).loc Cert.SmallRefIdeal.main_arg32)
      ∧ r.2.mem ((c.tc : Thread Cert.SmallRefIdeal.nD Cert.SmallRefIdeal.τ).loc Cert.SmallRefIdeal.main_arg33) = m ((c.tc : Thread Cert.SmallRefIdeal.nD Cert.SmallRefIdeal.τ).loc Cert.SmallRefIdeal.main_arg33)
      ∧ r.2.mem ((c.tc : Thread Cert.SmallRefIdeal.nD Cert.SmallRefIdeal.τ).loc Cert.SmallRefIdeal.main_arg34) = m ((c.tc : Thread Cert.SmallRefIdeal.nD Cert.SmallRefIdeal.τ).loc Cert.SmallRefIdeal.main_arg34)
      ∧ r.2.mem ((c.tc : Thread Cert.SmallRefIdeal.nD Cert.SmallRefIdeal.τ).loc Cert.SmallRefIdeal.main_arg35) = m ((c.tc : Thread Cert.SmallRefIdeal.nD Cert.SmallRefIdeal.τ).loc Cert.SmallRefIdeal.main_arg35)
      ∧ r.2.mem ((c.tc : Thread Cert.SmallRefIdeal.nD Cert.SmallRefIdeal.τ).loc Cert.SmallRefIdeal.main_arg36) = m ((c.tc : Thread Cert.SmallRefIdeal.nD Cert.SmallRefIdeal.τ).loc Cert.SmallRefIdeal.main_arg36)
      ∧ r.2.mem ((c.tc : Thread Cert.SmallRefIdeal.nD Cert.SmallRefIdeal.τ).loc Cert.SmallRefIdeal.main_arg37) = m ((c.tc : Thread Cert.SmallRefIdeal.nD Cert.SmallRefIdeal.τ).loc Cert.SmallRefIdeal.main_arg37)
      ∧ r.2.mem ((c.tc : Thread Cert.SmallRefIdeal.nD Cert.SmallRefIdeal.τ).loc Cert.SmallRefIdeal.main_arg38) = m ((c.tc : Thread Cert.SmallRefIdeal.nD Cert.SmallRefIdeal.τ).loc Cert.SmallRefIdeal.main_arg38)
      ∧ r.2.mem ((c.tc : Thread Cert.SmallRefIdeal.nD Cert.SmallRefIdeal.τ).loc Cert.SmallRefIdeal.main_arg39) = m ((c.tc : Thread Cert.SmallRefIdeal.nD Cert.SmallRefIdeal.τ).loc Cert.SmallRefIdeal.main_arg39)
      ∧ r.2.mem ((c.tc : Thread Cert.SmallRefIdeal.nD Cert.SmallRefIdeal.τ).loc Cert.SmallRefIdeal.main_arg40) = m ((c.tc : Thread Cert.SmallRefIdeal.nD Cert.SmallRefIdeal.τ).loc Cert.SmallRefIdeal.main_arg40)
      ∧ r.2.mem ((c.tc : Thread Cert.SmallRefIdeal.nD Cert.SmallRefIdeal.τ).loc Cert.SmallRefIdeal.main_arg41) = m ((c.tc : Thread Cert.SmallRefIdeal.nD Cert.SmallRefIdeal.τ).loc Cert.SmallRefIdeal.main_arg41)
      ∧ r.2.mem ((c.tc : Thread Cert.SmallRefIdeal.nD Cert.SmallRefIdeal.τ).loc Cert.SmallRefIdeal.main_arg42) = m ((c.tc : Thread Cert.SmallRefIdeal.nD Cert.SmallRefIdeal.τ).loc Cert.SmallRefIdeal.main_arg42)
      ∧ r.2.mem ((c.tc : Thread Cert.SmallRefIdeal.nD Cert.SmallRefIdeal.τ).loc Cert.SmallRefIdeal.main_arg43) = m ((c.tc : Thread Cert.SmallRefIdeal.nD Cert.SmallRefIdeal.τ).loc Cert.SmallRefIdeal.main_arg43)
      ∧ r.2.mem ((c.tc : Thread Cert.SmallRefIdeal.nD Cert.SmallRefIdeal.τ).loc Cert.SmallRefIdeal.main_arg44) = m ((c.tc : Thread Cert.SmallRefIdeal.nD Cert.SmallRefIdeal.τ).loc Cert.SmallRefIdeal.main_arg44)
      ∧ r.2.mem ((c.tc : Thread Cert.SmallRefIdeal.nD Cert.SmallRefIdeal.τ).loc Cert.SmallRefIdeal.main_arg45) = m ((c.tc : Thread Cert.SmallRefIdeal.nD Cert.SmallRefIdeal.τ).loc Cert.SmallRefIdeal.main_arg45)
      ∧ r.2.mem ((c.tc : Thread Cert.SmallRefIdeal.nD Cert.SmallRefIdeal.τ).loc Cert.SmallRefIdeal.main_arg46) = m ((c.tc : Thread Cert.SmallRefIdeal.nD Cert.SmallRefIdeal.τ).loc Cert.SmallRefIdeal.main_arg46)
      ∧ r.2.mem ((c.tc : Thread Cert.SmallRefIdeal.nD Cert.SmallRefIdeal.τ).loc Cert.SmallRefIdeal.main_arg47) = m ((c.tc : Thread Cert.SmallRefIdeal.nD Cert.SmallRefIdeal.τ).loc Cert.SmallRefIdeal.main_arg47)
      ∧ r.2.mem ((c.tc : Thread Cert.SmallRefIdeal.nD Cert.SmallRefIdeal.τ).loc Cert.SmallRefIdeal.main_arg48) = m ((c.tc : Thread Cert.SmallRefIdeal.nD Cert.SmallRefIdeal.τ).loc Cert.SmallRefIdeal.main_arg48)
      ∧ r.2.mem ((c.tc : Thread Cert.SmallRefIdeal.nD Cert.SmallRefIdeal.τ).loc Cert.SmallRefIdeal.main_arg49) = m ((c.tc : Thread Cert.SmallRefIdeal.nD Cert.SmallRefIdeal.τ).loc Cert.SmallRefIdeal.main_arg49)
      ∧ r.2.mem ((c.tc : Thread Cert.SmallRefIdeal.nD Cert.SmallRefIdeal.τ).loc Cert.SmallRefIdeal.main_arg50) = m ((c.tc : Thread Cert.SmallRefIdeal.nD Cert.SmallRefIdeal.τ).loc Cert.SmallRefIdeal.main_arg50)
      ∧ r.2.mem ((c.tc : Thread Cert.SmallRefIdeal.nD Cert.SmallRefIdeal.τ).loc Cert.SmallRefIdeal.main_arg51) = m ((c.tc : Thread Cert.SmallRefIdeal.nD Cert.SmallRefIdeal.τ).loc Cert.SmallRefIdeal.main_arg51)
      ∧ r.2.mem ((c.tc : Thread Cert.SmallRefIdeal.nD Cert.SmallRefIdeal.τ).loc Cert.SmallRefIdeal.main_arg52) = m ((c.tc : Thread Cert.SmallRefIdeal.nD Cert.SmallRefIdeal.τ).loc Cert.SmallRefIdeal.main_arg52)
      ∧ r.2.mem ((c.tc : Thread Cert.SmallRefIdeal.nD Cert.SmallRefIdeal.τ).loc Cert.SmallRefIdeal.main_arg53) = m ((c.tc : Thread Cert.SmallRefIdeal.nD Cert.SmallRefIdeal.τ).loc Cert.SmallRefIdeal.main_arg53)
      ∧ r.2.mem ((c.tc : Thread Cert.SmallRefIdeal.nD Cert.SmallRefIdeal.τ).loc Cert.SmallRefIdeal.main_arg54) = m ((c.tc : Thread Cert.SmallRefIdeal.nD Cert.SmallRefIdeal.τ).loc Cert.SmallRefIdeal.main_arg54)
      ∧ r.2.mem ((c.tc : Thread Cert.SmallRefIdeal.nD Cert.SmallRefIdeal.τ).loc Cert.SmallRefIdeal.main_arg55) = m ((c.tc : Thread Cert.SmallRefIdeal.nD Cert.SmallRefIdeal.τ).loc Cert.SmallRefIdeal.main_arg55)
      ∧ r.2.mem ((c.tc : Thread Cert.SmallRefIdeal.nD Cert.SmallRefIdeal.τ).loc Cert.SmallRefIdeal.main_arg56) = m ((c.tc : Thread Cert.SmallRefIdeal.nD Cert.SmallRefIdeal.τ).loc Cert.SmallRefIdeal.main_arg56)
      ∧ r.2.mem ((c.tc : Thread Cert.SmallRefIdeal.nD Cert.SmallRefIdeal.τ).loc Cert.SmallRefIdeal.main_arg57) = m ((c.tc : Thread Cert.SmallRefIdeal.nD Cert.SmallRefIdeal.τ).loc Cert.SmallRefIdeal.main_arg57)
      ∧ r.2.mem ((c.tc : Thread Cert.SmallRefIdeal.nD Cert.SmallRefIdeal.τ).loc Cert.SmallRefIdeal.main_arg58) = m ((c.tc : Thread Cert.SmallRefIdeal.nD Cert.SmallRefIdeal.τ).loc Cert.SmallRefIdeal.main_arg58)
      ∧ r.2.mem ((c.tc : Thread Cert.SmallRefIdeal.nD Cert.SmallRefIdeal.τ).loc Cert.SmallRefIdeal.main_arg59) = m ((c.tc : Thread Cert.SmallRefIdeal.nD Cert.SmallRefIdeal.τ).loc Cert.SmallRefIdeal.main_arg59)
      ∧ r.2.mem ((c.tc : Thread Cert.SmallRefIdeal.nD Cert.SmallRefIdeal.τ).loc Cert.SmallRefIdeal.main_arg60) = m ((c.tc : Thread Cert.SmallRefIdeal.nD Cert.SmallRefIdeal.τ).loc Cert.SmallRefIdeal.main_arg60)
      ∧ r.2.mem ((c.tc : Thread Cert.SmallRefIdeal.nD Cert.SmallRefIdeal.τ).loc Cert.SmallRefIdeal.main_arg61) = m ((c.tc : Thread Cert.SmallRefIdeal.nD Cert.SmallRefIdeal.τ).loc Cert.SmallRefIdeal.main_arg61)
      ∧ r.2.mem ((c.tc : Thread Cert.SmallRefIdeal.nD Cert.SmallRefIdeal.τ).loc Cert.SmallRefIdeal.main_arg62) = m ((c.tc : Thread Cert.SmallRefIdeal.nD Cert.SmallRefIdeal.τ).loc Cert.SmallRefIdeal.main_arg62)
      ∧ r.2.mem ((c.tc : Thread Cert.SmallRefIdeal.nD Cert.SmallRefIdeal.τ).loc Cert.SmallRefIdeal.main_arg63) = m ((c.tc : Thread Cert.SmallRefIdeal.nD Cert.SmallRefIdeal.τ).loc Cert.SmallRefIdeal.main_arg63))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_MmInBig [hMmInBig : Cert.MmInBig.Facts] : Prop :=
  ∀ (m : (ℓ : Loc Cert.MmInBig.nD Cert.MmInBig.τ Cert.MmInBig.sig) → Buf (Elt Bits) ℓ) (g : Dev Cert.MmInBig.nD → PrngReg), Pre_MmInBig m →
    θ_run (Cert.MmInBig.defs (F := Bits)) (onTc (τ := Cert.MmInBig.τ) (Cert.MmInBig.main (F := Bits))) ⟨m, fun _ => 0, g⟩ (fun r => (∀ c : Dev Cert.MmInBig.nD,
      r.2.mem ((c.tc : Thread Cert.MmInBig.nD Cert.MmInBig.τ).loc Cert.MmInBig.main_arg0) = m ((c.tc : Thread Cert.MmInBig.nD Cert.MmInBig.τ).loc Cert.MmInBig.main_arg0)
      ∧ r.2.mem ((c.tc : Thread Cert.MmInBig.nD Cert.MmInBig.τ).loc Cert.MmInBig.main_arg1) = m ((c.tc : Thread Cert.MmInBig.nD Cert.MmInBig.τ).loc Cert.MmInBig.main_arg1))
      ∧ r.2.sem = fun _ => 0)

def quiescent_MmInBigIdeal [hMmInBigIdeal : Cert.MmInBigIdeal.Facts] : Prop :=
  ∀ (m : (ℓ : Loc Cert.MmInBigIdeal.nD Cert.MmInBigIdeal.τ Cert.MmInBigIdeal.sig) → Buf (Elt Ideal) ℓ) (g : Dev Cert.MmInBigIdeal.nD → PrngReg), Pre_MmInBigIdeal m →
    θ_run (Cert.MmInBigIdeal.defs (F := Ideal)) (onTc (τ := Cert.MmInBigIdeal.τ) (Cert.MmInBigIdeal.main (F := Ideal))) ⟨m, fun _ => 0, g⟩ (fun r => (∀ c : Dev Cert.MmInBigIdeal.nD,
      r.2.mem ((c.tc : Thread Cert.MmInBigIdeal.nD Cert.MmInBigIdeal.τ).loc Cert.MmInBigIdeal.main_arg0) = m ((c.tc : Thread Cert.MmInBigIdeal.nD Cert.MmInBigIdeal.τ).loc Cert.MmInBigIdeal.main_arg0)
      ∧ r.2.mem ((c.tc : Thread Cert.MmInBigIdeal.nD Cert.MmInBigIdeal.τ).loc Cert.MmInBigIdeal.main_arg1) = m ((c.tc : Thread Cert.MmInBigIdeal.nD Cert.MmInBigIdeal.τ).loc Cert.MmInBigIdeal.main_arg1))
      ∧ r.2.sem = fun _ => 0)

def quiescent_MmInBigRefIdeal [hMmInBigRefIdeal : Cert.MmInBigRefIdeal.Facts] : Prop :=
  ∀ (m : (ℓ : Loc Cert.MmInBigRefIdeal.nD Cert.MmInBigRefIdeal.τ Cert.MmInBigRefIdeal.sig) → Buf (Elt Ideal) ℓ) (g : Dev Cert.MmInBigRefIdeal.nD → PrngReg), Pre_MmInBigRefIdeal m →
    θ_run (Cert.MmInBigRefIdeal.defs (F := Ideal)) (onTc (τ := Cert.MmInBigRefIdeal.τ) (Cert.MmInBigRefIdeal.main (F := Ideal))) ⟨m, fun _ => 0, g⟩ (fun r => (∀ c : Dev Cert.MmInBigRefIdeal.nD,
      r.2.mem ((c.tc : Thread Cert.MmInBigRefIdeal.nD Cert.MmInBigRefIdeal.τ).loc Cert.MmInBigRefIdeal.main_arg0) = m ((c.tc : Thread Cert.MmInBigRefIdeal.nD Cert.MmInBigRefIdeal.τ).loc Cert.MmInBigRefIdeal.main_arg0)
      ∧ r.2.mem ((c.tc : Thread Cert.MmInBigRefIdeal.nD Cert.MmInBigRefIdeal.τ).loc Cert.MmInBigRefIdeal.main_arg1) = m ((c.tc : Thread Cert.MmInBigRefIdeal.nD Cert.MmInBigRefIdeal.τ).loc Cert.MmInBigRefIdeal.main_arg1))
      ∧ r.2.sem = fun _ => 0)

def quiescent_MmInBigDx [hMmInBigDx : Cert.MmInBigDx.Facts] : Prop :=
  ∀ (m : (ℓ : Loc Cert.MmInBigDx.nD Cert.MmInBigDx.τ Cert.MmInBigDx.sig) → Buf (Elt Bits) ℓ) (g : Dev Cert.MmInBigDx.nD → PrngReg), Pre_MmInBigDx m →
    θ_run (Cert.MmInBigDx.defs (F := Bits)) (onTc (τ := Cert.MmInBigDx.τ) (Cert.MmInBigDx.main (F := Bits))) ⟨m, fun _ => 0, g⟩ (fun r => (∀ c : Dev Cert.MmInBigDx.nD,
      r.2.mem ((c.tc : Thread Cert.MmInBigDx.nD Cert.MmInBigDx.τ).loc Cert.MmInBigDx.main_arg0) = m ((c.tc : Thread Cert.MmInBigDx.nD Cert.MmInBigDx.τ).loc Cert.MmInBigDx.main_arg0)
      ∧ r.2.mem ((c.tc : Thread Cert.MmInBigDx.nD Cert.MmInBigDx.τ).loc Cert.MmInBigDx.main_arg1) = m ((c.tc : Thread Cert.MmInBigDx.nD Cert.MmInBigDx.τ).loc Cert.MmInBigDx.main_arg1))
      ∧ r.2.sem = fun _ => 0)

def quiescent_MmInBigDxIdeal [hMmInBigDxIdeal : Cert.MmInBigDxIdeal.Facts] : Prop :=
  ∀ (m : (ℓ : Loc Cert.MmInBigDxIdeal.nD Cert.MmInBigDxIdeal.τ Cert.MmInBigDxIdeal.sig) → Buf (Elt Ideal) ℓ) (g : Dev Cert.MmInBigDxIdeal.nD → PrngReg), Pre_MmInBigDxIdeal m →
    θ_run (Cert.MmInBigDxIdeal.defs (F := Ideal)) (onTc (τ := Cert.MmInBigDxIdeal.τ) (Cert.MmInBigDxIdeal.main (F := Ideal))) ⟨m, fun _ => 0, g⟩ (fun r => (∀ c : Dev Cert.MmInBigDxIdeal.nD,
      r.2.mem ((c.tc : Thread Cert.MmInBigDxIdeal.nD Cert.MmInBigDxIdeal.τ).loc Cert.MmInBigDxIdeal.main_arg0) = m ((c.tc : Thread Cert.MmInBigDxIdeal.nD Cert.MmInBigDxIdeal.τ).loc Cert.MmInBigDxIdeal.main_arg0)
      ∧ r.2.mem ((c.tc : Thread Cert.MmInBigDxIdeal.nD Cert.MmInBigDxIdeal.τ).loc Cert.MmInBigDxIdeal.main_arg1) = m ((c.tc : Thread Cert.MmInBigDxIdeal.nD Cert.MmInBigDxIdeal.τ).loc Cert.MmInBigDxIdeal.main_arg1))
      ∧ r.2.sem = fun _ => 0)

def quiescent_MmInBigDxRefIdeal [hMmInBigDxRefIdeal : Cert.MmInBigDxRefIdeal.Facts] : Prop :=
  ∀ (m : (ℓ : Loc Cert.MmInBigDxRefIdeal.nD Cert.MmInBigDxRefIdeal.τ Cert.MmInBigDxRefIdeal.sig) → Buf (Elt Ideal) ℓ) (g : Dev Cert.MmInBigDxRefIdeal.nD → PrngReg), Pre_MmInBigDxRefIdeal m →
    θ_run (Cert.MmInBigDxRefIdeal.defs (F := Ideal)) (onTc (τ := Cert.MmInBigDxRefIdeal.τ) (Cert.MmInBigDxRefIdeal.main (F := Ideal))) ⟨m, fun _ => 0, g⟩ (fun r => (∀ c : Dev Cert.MmInBigDxRefIdeal.nD,
      r.2.mem ((c.tc : Thread Cert.MmInBigDxRefIdeal.nD Cert.MmInBigDxRefIdeal.τ).loc Cert.MmInBigDxRefIdeal.main_arg0) = m ((c.tc : Thread Cert.MmInBigDxRefIdeal.nD Cert.MmInBigDxRefIdeal.τ).loc Cert.MmInBigDxRefIdeal.main_arg0)
      ∧ r.2.mem ((c.tc : Thread Cert.MmInBigDxRefIdeal.nD Cert.MmInBigDxRefIdeal.τ).loc Cert.MmInBigDxRefIdeal.main_arg1) = m ((c.tc : Thread Cert.MmInBigDxRefIdeal.nD Cert.MmInBigDxRefIdeal.τ).loc Cert.MmInBigDxRefIdeal.main_arg1))
      ∧ r.2.sem = fun _ => 0)

def quiescent_MmInBigDw [hMmInBigDw : Cert.MmInBigDw.Facts] : Prop :=
  ∀ (m : (ℓ : Loc Cert.MmInBigDw.nD Cert.MmInBigDw.τ Cert.MmInBigDw.sig) → Buf (Elt Bits) ℓ) (g : Dev Cert.MmInBigDw.nD → PrngReg), Pre_MmInBigDw m →
    θ_run (Cert.MmInBigDw.defs (F := Bits)) (onTc (τ := Cert.MmInBigDw.τ) (Cert.MmInBigDw.main (F := Bits))) ⟨m, fun _ => 0, g⟩ (fun r => (∀ c : Dev Cert.MmInBigDw.nD,
      r.2.mem ((c.tc : Thread Cert.MmInBigDw.nD Cert.MmInBigDw.τ).loc Cert.MmInBigDw.main_arg0) = m ((c.tc : Thread Cert.MmInBigDw.nD Cert.MmInBigDw.τ).loc Cert.MmInBigDw.main_arg0)
      ∧ r.2.mem ((c.tc : Thread Cert.MmInBigDw.nD Cert.MmInBigDw.τ).loc Cert.MmInBigDw.main_arg1) = m ((c.tc : Thread Cert.MmInBigDw.nD Cert.MmInBigDw.τ).loc Cert.MmInBigDw.main_arg1))
      ∧ r.2.sem = fun _ => 0)

def quiescent_MmInBigDwIdeal [hMmInBigDwIdeal : Cert.MmInBigDwIdeal.Facts] : Prop :=
  ∀ (m : (ℓ : Loc Cert.MmInBigDwIdeal.nD Cert.MmInBigDwIdeal.τ Cert.MmInBigDwIdeal.sig) → Buf (Elt Ideal) ℓ) (g : Dev Cert.MmInBigDwIdeal.nD → PrngReg), Pre_MmInBigDwIdeal m →
    θ_run (Cert.MmInBigDwIdeal.defs (F := Ideal)) (onTc (τ := Cert.MmInBigDwIdeal.τ) (Cert.MmInBigDwIdeal.main (F := Ideal))) ⟨m, fun _ => 0, g⟩ (fun r => (∀ c : Dev Cert.MmInBigDwIdeal.nD,
      r.2.mem ((c.tc : Thread Cert.MmInBigDwIdeal.nD Cert.MmInBigDwIdeal.τ).loc Cert.MmInBigDwIdeal.main_arg0) = m ((c.tc : Thread Cert.MmInBigDwIdeal.nD Cert.MmInBigDwIdeal.τ).loc Cert.MmInBigDwIdeal.main_arg0)
      ∧ r.2.mem ((c.tc : Thread Cert.MmInBigDwIdeal.nD Cert.MmInBigDwIdeal.τ).loc Cert.MmInBigDwIdeal.main_arg1) = m ((c.tc : Thread Cert.MmInBigDwIdeal.nD Cert.MmInBigDwIdeal.τ).loc Cert.MmInBigDwIdeal.main_arg1))
      ∧ r.2.sem = fun _ => 0)

def quiescent_MmInBigDwRefIdeal [hMmInBigDwRefIdeal : Cert.MmInBigDwRefIdeal.Facts] : Prop :=
  ∀ (m : (ℓ : Loc Cert.MmInBigDwRefIdeal.nD Cert.MmInBigDwRefIdeal.τ Cert.MmInBigDwRefIdeal.sig) → Buf (Elt Ideal) ℓ) (g : Dev Cert.MmInBigDwRefIdeal.nD → PrngReg), Pre_MmInBigDwRefIdeal m →
    θ_run (Cert.MmInBigDwRefIdeal.defs (F := Ideal)) (onTc (τ := Cert.MmInBigDwRefIdeal.τ) (Cert.MmInBigDwRefIdeal.main (F := Ideal))) ⟨m, fun _ => 0, g⟩ (fun r => (∀ c : Dev Cert.MmInBigDwRefIdeal.nD,
      r.2.mem ((c.tc : Thread Cert.MmInBigDwRefIdeal.nD Cert.MmInBigDwRefIdeal.τ).loc Cert.MmInBigDwRefIdeal.main_arg0) = m ((c.tc : Thread Cert.MmInBigDwRefIdeal.nD Cert.MmInBigDwRefIdeal.τ).loc Cert.MmInBigDwRefIdeal.main_arg0)
      ∧ r.2.mem ((c.tc : Thread Cert.MmInBigDwRefIdeal.nD Cert.MmInBigDwRefIdeal.τ).loc Cert.MmInBigDwRefIdeal.main_arg1) = m ((c.tc : Thread Cert.MmInBigDwRefIdeal.nD Cert.MmInBigDwRefIdeal.τ).loc Cert.MmInBigDwRefIdeal.main_arg1))
      ∧ r.2.sem = fun _ => 0)

def quiescent_MmInSmall [hMmInSmall : Cert.MmInSmall.Facts] : Prop :=
  ∀ (m : (ℓ : Loc Cert.MmInSmall.nD Cert.MmInSmall.τ Cert.MmInSmall.sig) → Buf (Elt Bits) ℓ) (g : Dev Cert.MmInSmall.nD → PrngReg), Pre_MmInSmall m →
    θ_run (Cert.MmInSmall.defs (F := Bits)) (onTc (τ := Cert.MmInSmall.τ) (Cert.MmInSmall.main (F := Bits))) ⟨m, fun _ => 0, g⟩ (fun r => (∀ c : Dev Cert.MmInSmall.nD,
      r.2.mem ((c.tc : Thread Cert.MmInSmall.nD Cert.MmInSmall.τ).loc Cert.MmInSmall.main_arg0) = m ((c.tc : Thread Cert.MmInSmall.nD Cert.MmInSmall.τ).loc Cert.MmInSmall.main_arg0)
      ∧ r.2.mem ((c.tc : Thread Cert.MmInSmall.nD Cert.MmInSmall.τ).loc Cert.MmInSmall.main_arg1) = m ((c.tc : Thread Cert.MmInSmall.nD Cert.MmInSmall.τ).loc Cert.MmInSmall.main_arg1))
      ∧ r.2.sem = fun _ => 0)

def quiescent_MmInSmallIdeal [hMmInSmallIdeal : Cert.MmInSmallIdeal.Facts] : Prop :=
  ∀ (m : (ℓ : Loc Cert.MmInSmallIdeal.nD Cert.MmInSmallIdeal.τ Cert.MmInSmallIdeal.sig) → Buf (Elt Ideal) ℓ) (g : Dev Cert.MmInSmallIdeal.nD → PrngReg), Pre_MmInSmallIdeal m →
    θ_run (Cert.MmInSmallIdeal.defs (F := Ideal)) (onTc (τ := Cert.MmInSmallIdeal.τ) (Cert.MmInSmallIdeal.main (F := Ideal))) ⟨m, fun _ => 0, g⟩ (fun r => (∀ c : Dev Cert.MmInSmallIdeal.nD,
      r.2.mem ((c.tc : Thread Cert.MmInSmallIdeal.nD Cert.MmInSmallIdeal.τ).loc Cert.MmInSmallIdeal.main_arg0) = m ((c.tc : Thread Cert.MmInSmallIdeal.nD Cert.MmInSmallIdeal.τ).loc Cert.MmInSmallIdeal.main_arg0)
      ∧ r.2.mem ((c.tc : Thread Cert.MmInSmallIdeal.nD Cert.MmInSmallIdeal.τ).loc Cert.MmInSmallIdeal.main_arg1) = m ((c.tc : Thread Cert.MmInSmallIdeal.nD Cert.MmInSmallIdeal.τ).loc Cert.MmInSmallIdeal.main_arg1))
      ∧ r.2.sem = fun _ => 0)

def quiescent_MmInSmallRefIdeal [hMmInSmallRefIdeal : Cert.MmInSmallRefIdeal.Facts] : Prop :=
  ∀ (m : (ℓ : Loc Cert.MmInSmallRefIdeal.nD Cert.MmInSmallRefIdeal.τ Cert.MmInSmallRefIdeal.sig) → Buf (Elt Ideal) ℓ) (g : Dev Cert.MmInSmallRefIdeal.nD → PrngReg), Pre_MmInSmallRefIdeal m →
    θ_run (Cert.MmInSmallRefIdeal.defs (F := Ideal)) (onTc (τ := Cert.MmInSmallRefIdeal.τ) (Cert.MmInSmallRefIdeal.main (F := Ideal))) ⟨m, fun _ => 0, g⟩ (fun r => (∀ c : Dev Cert.MmInSmallRefIdeal.nD,
      r.2.mem ((c.tc : Thread Cert.MmInSmallRefIdeal.nD Cert.MmInSmallRefIdeal.τ).loc Cert.MmInSmallRefIdeal.main_arg0) = m ((c.tc : Thread Cert.MmInSmallRefIdeal.nD Cert.MmInSmallRefIdeal.τ).loc Cert.MmInSmallRefIdeal.main_arg0)
      ∧ r.2.mem ((c.tc : Thread Cert.MmInSmallRefIdeal.nD Cert.MmInSmallRefIdeal.τ).loc Cert.MmInSmallRefIdeal.main_arg1) = m ((c.tc : Thread Cert.MmInSmallRefIdeal.nD Cert.MmInSmallRefIdeal.τ).loc Cert.MmInSmallRefIdeal.main_arg1))
      ∧ r.2.sem = fun _ => 0)

def quiescent_MmInSmallDx [hMmInSmallDx : Cert.MmInSmallDx.Facts] : Prop :=
  ∀ (m : (ℓ : Loc Cert.MmInSmallDx.nD Cert.MmInSmallDx.τ Cert.MmInSmallDx.sig) → Buf (Elt Bits) ℓ) (g : Dev Cert.MmInSmallDx.nD → PrngReg), Pre_MmInSmallDx m →
    θ_run (Cert.MmInSmallDx.defs (F := Bits)) (onTc (τ := Cert.MmInSmallDx.τ) (Cert.MmInSmallDx.main (F := Bits))) ⟨m, fun _ => 0, g⟩ (fun r => (∀ c : Dev Cert.MmInSmallDx.nD,
      r.2.mem ((c.tc : Thread Cert.MmInSmallDx.nD Cert.MmInSmallDx.τ).loc Cert.MmInSmallDx.main_arg0) = m ((c.tc : Thread Cert.MmInSmallDx.nD Cert.MmInSmallDx.τ).loc Cert.MmInSmallDx.main_arg0)
      ∧ r.2.mem ((c.tc : Thread Cert.MmInSmallDx.nD Cert.MmInSmallDx.τ).loc Cert.MmInSmallDx.main_arg1) = m ((c.tc : Thread Cert.MmInSmallDx.nD Cert.MmInSmallDx.τ).loc Cert.MmInSmallDx.main_arg1))
      ∧ r.2.sem = fun _ => 0)

def quiescent_MmInSmallDxIdeal [hMmInSmallDxIdeal : Cert.MmInSmallDxIdeal.Facts] : Prop :=
  ∀ (m : (ℓ : Loc Cert.MmInSmallDxIdeal.nD Cert.MmInSmallDxIdeal.τ Cert.MmInSmallDxIdeal.sig) → Buf (Elt Ideal) ℓ) (g : Dev Cert.MmInSmallDxIdeal.nD → PrngReg), Pre_MmInSmallDxIdeal m →
    θ_run (Cert.MmInSmallDxIdeal.defs (F := Ideal)) (onTc (τ := Cert.MmInSmallDxIdeal.τ) (Cert.MmInSmallDxIdeal.main (F := Ideal))) ⟨m, fun _ => 0, g⟩ (fun r => (∀ c : Dev Cert.MmInSmallDxIdeal.nD,
      r.2.mem ((c.tc : Thread Cert.MmInSmallDxIdeal.nD Cert.MmInSmallDxIdeal.τ).loc Cert.MmInSmallDxIdeal.main_arg0) = m ((c.tc : Thread Cert.MmInSmallDxIdeal.nD Cert.MmInSmallDxIdeal.τ).loc Cert.MmInSmallDxIdeal.main_arg0)
      ∧ r.2.mem ((c.tc : Thread Cert.MmInSmallDxIdeal.nD Cert.MmInSmallDxIdeal.τ).loc Cert.MmInSmallDxIdeal.main_arg1) = m ((c.tc : Thread Cert.MmInSmallDxIdeal.nD Cert.MmInSmallDxIdeal.τ).loc Cert.MmInSmallDxIdeal.main_arg1))
      ∧ r.2.sem = fun _ => 0)

def quiescent_MmInSmallDxRefIdeal [hMmInSmallDxRefIdeal : Cert.MmInSmallDxRefIdeal.Facts] : Prop :=
  ∀ (m : (ℓ : Loc Cert.MmInSmallDxRefIdeal.nD Cert.MmInSmallDxRefIdeal.τ Cert.MmInSmallDxRefIdeal.sig) → Buf (Elt Ideal) ℓ) (g : Dev Cert.MmInSmallDxRefIdeal.nD → PrngReg), Pre_MmInSmallDxRefIdeal m →
    θ_run (Cert.MmInSmallDxRefIdeal.defs (F := Ideal)) (onTc (τ := Cert.MmInSmallDxRefIdeal.τ) (Cert.MmInSmallDxRefIdeal.main (F := Ideal))) ⟨m, fun _ => 0, g⟩ (fun r => (∀ c : Dev Cert.MmInSmallDxRefIdeal.nD,
      r.2.mem ((c.tc : Thread Cert.MmInSmallDxRefIdeal.nD Cert.MmInSmallDxRefIdeal.τ).loc Cert.MmInSmallDxRefIdeal.main_arg0) = m ((c.tc : Thread Cert.MmInSmallDxRefIdeal.nD Cert.MmInSmallDxRefIdeal.τ).loc Cert.MmInSmallDxRefIdeal.main_arg0)
      ∧ r.2.mem ((c.tc : Thread Cert.MmInSmallDxRefIdeal.nD Cert.MmInSmallDxRefIdeal.τ).loc Cert.MmInSmallDxRefIdeal.main_arg1) = m ((c.tc : Thread Cert.MmInSmallDxRefIdeal.nD Cert.MmInSmallDxRefIdeal.τ).loc Cert.MmInSmallDxRefIdeal.main_arg1))
      ∧ r.2.sem = fun _ => 0)

def quiescent_MmInSmallDw [hMmInSmallDw : Cert.MmInSmallDw.Facts] : Prop :=
  ∀ (m : (ℓ : Loc Cert.MmInSmallDw.nD Cert.MmInSmallDw.τ Cert.MmInSmallDw.sig) → Buf (Elt Bits) ℓ) (g : Dev Cert.MmInSmallDw.nD → PrngReg), Pre_MmInSmallDw m →
    θ_run (Cert.MmInSmallDw.defs (F := Bits)) (onTc (τ := Cert.MmInSmallDw.τ) (Cert.MmInSmallDw.main (F := Bits))) ⟨m, fun _ => 0, g⟩ (fun r => (∀ c : Dev Cert.MmInSmallDw.nD,
      r.2.mem ((c.tc : Thread Cert.MmInSmallDw.nD Cert.MmInSmallDw.τ).loc Cert.MmInSmallDw.main_arg0) = m ((c.tc : Thread Cert.MmInSmallDw.nD Cert.MmInSmallDw.τ).loc Cert.MmInSmallDw.main_arg0)
      ∧ r.2.mem ((c.tc : Thread Cert.MmInSmallDw.nD Cert.MmInSmallDw.τ).loc Cert.MmInSmallDw.main_arg1) = m ((c.tc : Thread Cert.MmInSmallDw.nD Cert.MmInSmallDw.τ).loc Cert.MmInSmallDw.main_arg1))
      ∧ r.2.sem = fun _ => 0)

def quiescent_MmInSmallDwIdeal [hMmInSmallDwIdeal : Cert.MmInSmallDwIdeal.Facts] : Prop :=
  ∀ (m : (ℓ : Loc Cert.MmInSmallDwIdeal.nD Cert.MmInSmallDwIdeal.τ Cert.MmInSmallDwIdeal.sig) → Buf (Elt Ideal) ℓ) (g : Dev Cert.MmInSmallDwIdeal.nD → PrngReg), Pre_MmInSmallDwIdeal m →
    θ_run (Cert.MmInSmallDwIdeal.defs (F := Ideal)) (onTc (τ := Cert.MmInSmallDwIdeal.τ) (Cert.MmInSmallDwIdeal.main (F := Ideal))) ⟨m, fun _ => 0, g⟩ (fun r => (∀ c : Dev Cert.MmInSmallDwIdeal.nD,
      r.2.mem ((c.tc : Thread Cert.MmInSmallDwIdeal.nD Cert.MmInSmallDwIdeal.τ).loc Cert.MmInSmallDwIdeal.main_arg0) = m ((c.tc : Thread Cert.MmInSmallDwIdeal.nD Cert.MmInSmallDwIdeal.τ).loc Cert.MmInSmallDwIdeal.main_arg0)
      ∧ r.2.mem ((c.tc : Thread Cert.MmInSmallDwIdeal.nD Cert.MmInSmallDwIdeal.τ).loc Cert.MmInSmallDwIdeal.main_arg1) = m ((c.tc : Thread Cert.MmInSmallDwIdeal.nD Cert.MmInSmallDwIdeal.τ).loc Cert.MmInSmallDwIdeal.main_arg1))
      ∧ r.2.sem = fun _ => 0)

def quiescent_MmInSmallDwRefIdeal [hMmInSmallDwRefIdeal : Cert.MmInSmallDwRefIdeal.Facts] : Prop :=
  ∀ (m : (ℓ : Loc Cert.MmInSmallDwRefIdeal.nD Cert.MmInSmallDwRefIdeal.τ Cert.MmInSmallDwRefIdeal.sig) → Buf (Elt Ideal) ℓ) (g : Dev Cert.MmInSmallDwRefIdeal.nD → PrngReg), Pre_MmInSmallDwRefIdeal m →
    θ_run (Cert.MmInSmallDwRefIdeal.defs (F := Ideal)) (onTc (τ := Cert.MmInSmallDwRefIdeal.τ) (Cert.MmInSmallDwRefIdeal.main (F := Ideal))) ⟨m, fun _ => 0, g⟩ (fun r => (∀ c : Dev Cert.MmInSmallDwRefIdeal.nD,
      r.2.mem ((c.tc : Thread Cert.MmInSmallDwRefIdeal.nD Cert.MmInSmallDwRefIdeal.τ).loc Cert.MmInSmallDwRefIdeal.main_arg0) = m ((c.tc : Thread Cert.MmInSmallDwRefIdeal.nD Cert.MmInSmallDwRefIdeal.τ).loc Cert.MmInSmallDwRefIdeal.main_arg0)
      ∧ r.2.mem ((c.tc : Thread Cert.MmInSmallDwRefIdeal.nD Cert.MmInSmallDwRefIdeal.τ).loc Cert.MmInSmallDwRefIdeal.main_arg1) = m ((c.tc : Thread Cert.MmInSmallDwRefIdeal.nD Cert.MmInSmallDwRefIdeal.τ).loc Cert.MmInSmallDwRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1))
      ∧ r.2.sem = fun _ => 0)

def quiescent_MmOutDx [hMmOutDx : Cert.MmOutDx.Facts] : Prop :=
  ∀ (m : (ℓ : Loc Cert.MmOutDx.nD Cert.MmOutDx.τ Cert.MmOutDx.sig) → Buf (Elt Bits) ℓ) (g : Dev Cert.MmOutDx.nD → PrngReg), Pre_MmOutDx m →
    θ_run (Cert.MmOutDx.defs (F := Bits)) (onTc (τ := Cert.MmOutDx.τ) (Cert.MmOutDx.main (F := Bits))) ⟨m, fun _ => 0, g⟩ (fun r => (∀ c : Dev Cert.MmOutDx.nD,
      r.2.mem ((c.tc : Thread Cert.MmOutDx.nD Cert.MmOutDx.τ).loc Cert.MmOutDx.main_arg0) = m ((c.tc : Thread Cert.MmOutDx.nD Cert.MmOutDx.τ).loc Cert.MmOutDx.main_arg0)
      ∧ r.2.mem ((c.tc : Thread Cert.MmOutDx.nD Cert.MmOutDx.τ).loc Cert.MmOutDx.main_arg1) = m ((c.tc : Thread Cert.MmOutDx.nD Cert.MmOutDx.τ).loc Cert.MmOutDx.main_arg1))
      ∧ r.2.sem = fun _ => 0)

def quiescent_MmOutDxIdeal [hMmOutDxIdeal : Cert.MmOutDxIdeal.Facts] : Prop :=
  ∀ (m : (ℓ : Loc Cert.MmOutDxIdeal.nD Cert.MmOutDxIdeal.τ Cert.MmOutDxIdeal.sig) → Buf (Elt Ideal) ℓ) (g : Dev Cert.MmOutDxIdeal.nD → PrngReg), Pre_MmOutDxIdeal m →
    θ_run (Cert.MmOutDxIdeal.defs (F := Ideal)) (onTc (τ := Cert.MmOutDxIdeal.τ) (Cert.MmOutDxIdeal.main (F := Ideal))) ⟨m, fun _ => 0, g⟩ (fun r => (∀ c : Dev Cert.MmOutDxIdeal.nD,
      r.2.mem ((c.tc : Thread Cert.MmOutDxIdeal.nD Cert.MmOutDxIdeal.τ).loc Cert.MmOutDxIdeal.main_arg0) = m ((c.tc : Thread Cert.MmOutDxIdeal.nD Cert.MmOutDxIdeal.τ).loc Cert.MmOutDxIdeal.main_arg0)
      ∧ r.2.mem ((c.tc : Thread Cert.MmOutDxIdeal.nD Cert.MmOutDxIdeal.τ).loc Cert.MmOutDxIdeal.main_arg1) = m ((c.tc : Thread Cert.MmOutDxIdeal.nD Cert.MmOutDxIdeal.τ).loc Cert.MmOutDxIdeal.main_arg1))
      ∧ r.2.sem = fun _ => 0)

def quiescent_MmOutDxRefIdeal [hMmOutDxRefIdeal : Cert.MmOutDxRefIdeal.Facts] : Prop :=
  ∀ (m : (ℓ : Loc Cert.MmOutDxRefIdeal.nD Cert.MmOutDxRefIdeal.τ Cert.MmOutDxRefIdeal.sig) → Buf (Elt Ideal) ℓ) (g : Dev Cert.MmOutDxRefIdeal.nD → PrngReg), Pre_MmOutDxRefIdeal m →
    θ_run (Cert.MmOutDxRefIdeal.defs (F := Ideal)) (onTc (τ := Cert.MmOutDxRefIdeal.τ) (Cert.MmOutDxRefIdeal.main (F := Ideal))) ⟨m, fun _ => 0, g⟩ (fun r => (∀ c : Dev Cert.MmOutDxRefIdeal.nD,
      r.2.mem ((c.tc : Thread Cert.MmOutDxRefIdeal.nD Cert.MmOutDxRefIdeal.τ).loc Cert.MmOutDxRefIdeal.main_arg0) = m ((c.tc : Thread Cert.MmOutDxRefIdeal.nD Cert.MmOutDxRefIdeal.τ).loc Cert.MmOutDxRefIdeal.main_arg0)
      ∧ r.2.mem ((c.tc : Thread Cert.MmOutDxRefIdeal.nD Cert.MmOutDxRefIdeal.τ).loc Cert.MmOutDxRefIdeal.main_arg1) = m ((c.tc : Thread Cert.MmOutDxRefIdeal.nD Cert.MmOutDxRefIdeal.τ).loc Cert.MmOutDxRefIdeal.main_arg1))
      ∧ r.2.sem = fun _ => 0)

def quiescent_MmOutDw [hMmOutDw : Cert.MmOutDw.Facts] : Prop :=
  ∀ (m : (ℓ : Loc Cert.MmOutDw.nD Cert.MmOutDw.τ Cert.MmOutDw.sig) → Buf (Elt Bits) ℓ) (g : Dev Cert.MmOutDw.nD → PrngReg), Pre_MmOutDw m →
    θ_run (Cert.MmOutDw.defs (F := Bits)) (onTc (τ := Cert.MmOutDw.τ) (Cert.MmOutDw.main (F := Bits))) ⟨m, fun _ => 0, g⟩ (fun r => (∀ c : Dev Cert.MmOutDw.nD,
      r.2.mem ((c.tc : Thread Cert.MmOutDw.nD Cert.MmOutDw.τ).loc Cert.MmOutDw.main_arg0) = m ((c.tc : Thread Cert.MmOutDw.nD Cert.MmOutDw.τ).loc Cert.MmOutDw.main_arg0)
      ∧ r.2.mem ((c.tc : Thread Cert.MmOutDw.nD Cert.MmOutDw.τ).loc Cert.MmOutDw.main_arg1) = m ((c.tc : Thread Cert.MmOutDw.nD Cert.MmOutDw.τ).loc Cert.MmOutDw.main_arg1))
      ∧ r.2.sem = fun _ => 0)

def quiescent_MmOutDwIdeal [hMmOutDwIdeal : Cert.MmOutDwIdeal.Facts] : Prop :=
  ∀ (m : (ℓ : Loc Cert.MmOutDwIdeal.nD Cert.MmOutDwIdeal.τ Cert.MmOutDwIdeal.sig) → Buf (Elt Ideal) ℓ) (g : Dev Cert.MmOutDwIdeal.nD → PrngReg), Pre_MmOutDwIdeal m →
    θ_run (Cert.MmOutDwIdeal.defs (F := Ideal)) (onTc (τ := Cert.MmOutDwIdeal.τ) (Cert.MmOutDwIdeal.main (F := Ideal))) ⟨m, fun _ => 0, g⟩ (fun r => (∀ c : Dev Cert.MmOutDwIdeal.nD,
      r.2.mem ((c.tc : Thread Cert.MmOutDwIdeal.nD Cert.MmOutDwIdeal.τ).loc Cert.MmOutDwIdeal.main_arg0) = m ((c.tc : Thread Cert.MmOutDwIdeal.nD Cert.MmOutDwIdeal.τ).loc Cert.MmOutDwIdeal.main_arg0)
      ∧ r.2.mem ((c.tc : Thread Cert.MmOutDwIdeal.nD Cert.MmOutDwIdeal.τ).loc Cert.MmOutDwIdeal.main_arg1) = m ((c.tc : Thread Cert.MmOutDwIdeal.nD Cert.MmOutDwIdeal.τ).loc Cert.MmOutDwIdeal.main_arg1))
      ∧ r.2.sem = fun _ => 0)

def quiescent_MmOutDwRefIdeal [hMmOutDwRefIdeal : Cert.MmOutDwRefIdeal.Facts] : Prop :=
  ∀ (m : (ℓ : Loc Cert.MmOutDwRefIdeal.nD Cert.MmOutDwRefIdeal.τ Cert.MmOutDwRefIdeal.sig) → Buf (Elt Ideal) ℓ) (g : Dev Cert.MmOutDwRefIdeal.nD → PrngReg), Pre_MmOutDwRefIdeal m →
    θ_run (Cert.MmOutDwRefIdeal.defs (F := Ideal)) (onTc (τ := Cert.MmOutDwRefIdeal.τ) (Cert.MmOutDwRefIdeal.main (F := Ideal))) ⟨m, fun _ => 0, g⟩ (fun r => (∀ c : Dev Cert.MmOutDwRefIdeal.nD,
      r.2.mem ((c.tc : Thread Cert.MmOutDwRefIdeal.nD Cert.MmOutDwRefIdeal.τ).loc Cert.MmOutDwRefIdeal.main_arg0) = m ((c.tc : Thread Cert.MmOutDwRefIdeal.nD Cert.MmOutDwRefIdeal.τ).loc Cert.MmOutDwRefIdeal.main_arg0)
      ∧ r.2.mem ((c.tc : Thread Cert.MmOutDwRefIdeal.nD Cert.MmOutDwRefIdeal.τ).loc Cert.MmOutDwRefIdeal.main_arg1) = m ((c.tc : Thread Cert.MmOutDwRefIdeal.nD Cert.MmOutDwRefIdeal.τ).loc Cert.MmOutDwRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmUpDx [hMmUpDx : Cert.MmUpDx.Facts] : Prop :=
  ∀ (m : (ℓ : Loc Cert.MmUpDx.nD Cert.MmUpDx.τ Cert.MmUpDx.sig) → Buf (Elt Bits) ℓ) (g : Dev Cert.MmUpDx.nD → PrngReg), Pre_MmUpDx m →
    θ_run (Cert.MmUpDx.defs (F := Bits)) (onTc (τ := Cert.MmUpDx.τ) (Cert.MmUpDx.main (F := Bits))) ⟨m, fun _ => 0, g⟩ (fun r => (∀ c : Dev Cert.MmUpDx.nD,
      r.2.mem ((c.tc : Thread Cert.MmUpDx.nD Cert.MmUpDx.τ).loc Cert.MmUpDx.main_arg0) = m ((c.tc : Thread Cert.MmUpDx.nD Cert.MmUpDx.τ).loc Cert.MmUpDx.main_arg0)
      ∧ r.2.mem ((c.tc : Thread Cert.MmUpDx.nD Cert.MmUpDx.τ).loc Cert.MmUpDx.main_arg1) = m ((c.tc : Thread Cert.MmUpDx.nD Cert.MmUpDx.τ).loc Cert.MmUpDx.main_arg1))
      ∧ r.2.sem = fun _ => 0)

def quiescent_MmUpDxIdeal [hMmUpDxIdeal : Cert.MmUpDxIdeal.Facts] : Prop :=
  ∀ (m : (ℓ : Loc Cert.MmUpDxIdeal.nD Cert.MmUpDxIdeal.τ Cert.MmUpDxIdeal.sig) → Buf (Elt Ideal) ℓ) (g : Dev Cert.MmUpDxIdeal.nD → PrngReg), Pre_MmUpDxIdeal m →
    θ_run (Cert.MmUpDxIdeal.defs (F := Ideal)) (onTc (τ := Cert.MmUpDxIdeal.τ) (Cert.MmUpDxIdeal.main (F := Ideal))) ⟨m, fun _ => 0, g⟩ (fun r => (∀ c : Dev Cert.MmUpDxIdeal.nD,
      r.2.mem ((c.tc : Thread Cert.MmUpDxIdeal.nD Cert.MmUpDxIdeal.τ).loc Cert.MmUpDxIdeal.main_arg0) = m ((c.tc : Thread Cert.MmUpDxIdeal.nD Cert.MmUpDxIdeal.τ).loc Cert.MmUpDxIdeal.main_arg0)
      ∧ r.2.mem ((c.tc : Thread Cert.MmUpDxIdeal.nD Cert.MmUpDxIdeal.τ).loc Cert.MmUpDxIdeal.main_arg1) = m ((c.tc : Thread Cert.MmUpDxIdeal.nD Cert.MmUpDxIdeal.τ).loc Cert.MmUpDxIdeal.main_arg1))
      ∧ r.2.sem = fun _ => 0)

def quiescent_MmUpDxRefIdeal [hMmUpDxRefIdeal : Cert.MmUpDxRefIdeal.Facts] : Prop :=
  ∀ (m : (ℓ : Loc Cert.MmUpDxRefIdeal.nD Cert.MmUpDxRefIdeal.τ Cert.MmUpDxRefIdeal.sig) → Buf (Elt Ideal) ℓ) (g : Dev Cert.MmUpDxRefIdeal.nD → PrngReg), Pre_MmUpDxRefIdeal m →
    θ_run (Cert.MmUpDxRefIdeal.defs (F := Ideal)) (onTc (τ := Cert.MmUpDxRefIdeal.τ) (Cert.MmUpDxRefIdeal.main (F := Ideal))) ⟨m, fun _ => 0, g⟩ (fun r => (∀ c : Dev Cert.MmUpDxRefIdeal.nD,
      r.2.mem ((c.tc : Thread Cert.MmUpDxRefIdeal.nD Cert.MmUpDxRefIdeal.τ).loc Cert.MmUpDxRefIdeal.main_arg0) = m ((c.tc : Thread Cert.MmUpDxRefIdeal.nD Cert.MmUpDxRefIdeal.τ).loc Cert.MmUpDxRefIdeal.main_arg0)
      ∧ r.2.mem ((c.tc : Thread Cert.MmUpDxRefIdeal.nD Cert.MmUpDxRefIdeal.τ).loc Cert.MmUpDxRefIdeal.main_arg1) = m ((c.tc : Thread Cert.MmUpDxRefIdeal.nD Cert.MmUpDxRefIdeal.τ).loc Cert.MmUpDxRefIdeal.main_arg1))
      ∧ r.2.sem = fun _ => 0)

def quiescent_MmUpDw [hMmUpDw : Cert.MmUpDw.Facts] : Prop :=
  ∀ (m : (ℓ : Loc Cert.MmUpDw.nD Cert.MmUpDw.τ Cert.MmUpDw.sig) → Buf (Elt Bits) ℓ) (g : Dev Cert.MmUpDw.nD → PrngReg), Pre_MmUpDw m →
    θ_run (Cert.MmUpDw.defs (F := Bits)) (onTc (τ := Cert.MmUpDw.τ) (Cert.MmUpDw.main (F := Bits))) ⟨m, fun _ => 0, g⟩ (fun r => (∀ c : Dev Cert.MmUpDw.nD,
      r.2.mem ((c.tc : Thread Cert.MmUpDw.nD Cert.MmUpDw.τ).loc Cert.MmUpDw.main_arg0) = m ((c.tc : Thread Cert.MmUpDw.nD Cert.MmUpDw.τ).loc Cert.MmUpDw.main_arg0)
      ∧ r.2.mem ((c.tc : Thread Cert.MmUpDw.nD Cert.MmUpDw.τ).loc Cert.MmUpDw.main_arg1) = m ((c.tc : Thread Cert.MmUpDw.nD Cert.MmUpDw.τ).loc Cert.MmUpDw.main_arg1))
      ∧ r.2.sem = fun _ => 0)

def quiescent_MmUpDwIdeal [hMmUpDwIdeal : Cert.MmUpDwIdeal.Facts] : Prop :=
  ∀ (m : (ℓ : Loc Cert.MmUpDwIdeal.nD Cert.MmUpDwIdeal.τ Cert.MmUpDwIdeal.sig) → Buf (Elt Ideal) ℓ) (g : Dev Cert.MmUpDwIdeal.nD → PrngReg), Pre_MmUpDwIdeal m →
    θ_run (Cert.MmUpDwIdeal.defs (F := Ideal)) (onTc (τ := Cert.MmUpDwIdeal.τ) (Cert.MmUpDwIdeal.main (F := Ideal))) ⟨m, fun _ => 0, g⟩ (fun r => (∀ c : Dev Cert.MmUpDwIdeal.nD,
      r.2.mem ((c.tc : Thread Cert.MmUpDwIdeal.nD Cert.MmUpDwIdeal.τ).loc Cert.MmUpDwIdeal.main_arg0) = m ((c.tc : Thread Cert.MmUpDwIdeal.nD Cert.MmUpDwIdeal.τ).loc Cert.MmUpDwIdeal.main_arg0)
      ∧ r.2.mem ((c.tc : Thread Cert.MmUpDwIdeal.nD Cert.MmUpDwIdeal.τ).loc Cert.MmUpDwIdeal.main_arg1) = m ((c.tc : Thread Cert.MmUpDwIdeal.nD Cert.MmUpDwIdeal.τ).loc Cert.MmUpDwIdeal.main_arg1))
      ∧ r.2.sem = fun _ => 0)

def quiescent_MmUpDwRefIdeal [hMmUpDwRefIdeal : Cert.MmUpDwRefIdeal.Facts] : Prop :=
  ∀ (m : (ℓ : Loc Cert.MmUpDwRefIdeal.nD Cert.MmUpDwRefIdeal.τ Cert.MmUpDwRefIdeal.sig) → Buf (Elt Ideal) ℓ) (g : Dev Cert.MmUpDwRefIdeal.nD → PrngReg), Pre_MmUpDwRefIdeal m →
    θ_run (Cert.MmUpDwRefIdeal.defs (F := Ideal)) (onTc (τ := Cert.MmUpDwRefIdeal.τ) (Cert.MmUpDwRefIdeal.main (F := Ideal))) ⟨m, fun _ => 0, g⟩ (fun r => (∀ c : Dev Cert.MmUpDwRefIdeal.nD,
      r.2.mem ((c.tc : Thread Cert.MmUpDwRefIdeal.nD Cert.MmUpDwRefIdeal.τ).loc Cert.MmUpDwRefIdeal.main_arg0) = m ((c.tc : Thread Cert.MmUpDwRefIdeal.nD Cert.MmUpDwRefIdeal.τ).loc Cert.MmUpDwRefIdeal.main_arg0)
      ∧ r.2.mem ((c.tc : Thread Cert.MmUpDwRefIdeal.nD Cert.MmUpDwRefIdeal.τ).loc Cert.MmUpDwRefIdeal.main_arg1) = m ((c.tc : Thread Cert.MmUpDwRefIdeal.nD Cert.MmUpDwRefIdeal.τ).loc Cert.MmUpDwRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1))
      ∧ r.2.sem = fun _ => 0)

def quiescent_MmDownDx [hMmDownDx : Cert.MmDownDx.Facts] : Prop :=
  ∀ (m : (ℓ : Loc Cert.MmDownDx.nD Cert.MmDownDx.τ Cert.MmDownDx.sig) → Buf (Elt Bits) ℓ) (g : Dev Cert.MmDownDx.nD → PrngReg), Pre_MmDownDx m →
    θ_run (Cert.MmDownDx.defs (F := Bits)) (onTc (τ := Cert.MmDownDx.τ) (Cert.MmDownDx.main (F := Bits))) ⟨m, fun _ => 0, g⟩ (fun r => (∀ c : Dev Cert.MmDownDx.nD,
      r.2.mem ((c.tc : Thread Cert.MmDownDx.nD Cert.MmDownDx.τ).loc Cert.MmDownDx.main_arg0) = m ((c.tc : Thread Cert.MmDownDx.nD Cert.MmDownDx.τ).loc Cert.MmDownDx.main_arg0)
      ∧ r.2.mem ((c.tc : Thread Cert.MmDownDx.nD Cert.MmDownDx.τ).loc Cert.MmDownDx.main_arg1) = m ((c.tc : Thread Cert.MmDownDx.nD Cert.MmDownDx.τ).loc Cert.MmDownDx.main_arg1))
      ∧ r.2.sem = fun _ => 0)

def quiescent_MmDownDxIdeal [hMmDownDxIdeal : Cert.MmDownDxIdeal.Facts] : Prop :=
  ∀ (m : (ℓ : Loc Cert.MmDownDxIdeal.nD Cert.MmDownDxIdeal.τ Cert.MmDownDxIdeal.sig) → Buf (Elt Ideal) ℓ) (g : Dev Cert.MmDownDxIdeal.nD → PrngReg), Pre_MmDownDxIdeal m →
    θ_run (Cert.MmDownDxIdeal.defs (F := Ideal)) (onTc (τ := Cert.MmDownDxIdeal.τ) (Cert.MmDownDxIdeal.main (F := Ideal))) ⟨m, fun _ => 0, g⟩ (fun r => (∀ c : Dev Cert.MmDownDxIdeal.nD,
      r.2.mem ((c.tc : Thread Cert.MmDownDxIdeal.nD Cert.MmDownDxIdeal.τ).loc Cert.MmDownDxIdeal.main_arg0) = m ((c.tc : Thread Cert.MmDownDxIdeal.nD Cert.MmDownDxIdeal.τ).loc Cert.MmDownDxIdeal.main_arg0)
      ∧ r.2.mem ((c.tc : Thread Cert.MmDownDxIdeal.nD Cert.MmDownDxIdeal.τ).loc Cert.MmDownDxIdeal.main_arg1) = m ((c.tc : Thread Cert.MmDownDxIdeal.nD Cert.MmDownDxIdeal.τ).loc Cert.MmDownDxIdeal.main_arg1))
      ∧ r.2.sem = fun _ => 0)

def quiescent_MmDownDxRefIdeal [hMmDownDxRefIdeal : Cert.MmDownDxRefIdeal.Facts] : Prop :=
  ∀ (m : (ℓ : Loc Cert.MmDownDxRefIdeal.nD Cert.MmDownDxRefIdeal.τ Cert.MmDownDxRefIdeal.sig) → Buf (Elt Ideal) ℓ) (g : Dev Cert.MmDownDxRefIdeal.nD → PrngReg), Pre_MmDownDxRefIdeal m →
    θ_run (Cert.MmDownDxRefIdeal.defs (F := Ideal)) (onTc (τ := Cert.MmDownDxRefIdeal.τ) (Cert.MmDownDxRefIdeal.main (F := Ideal))) ⟨m, fun _ => 0, g⟩ (fun r => (∀ c : Dev Cert.MmDownDxRefIdeal.nD,
      r.2.mem ((c.tc : Thread Cert.MmDownDxRefIdeal.nD Cert.MmDownDxRefIdeal.τ).loc Cert.MmDownDxRefIdeal.main_arg0) = m ((c.tc : Thread Cert.MmDownDxRefIdeal.nD Cert.MmDownDxRefIdeal.τ).loc Cert.MmDownDxRefIdeal.main_arg0)
      ∧ r.2.mem ((c.tc : Thread Cert.MmDownDxRefIdeal.nD Cert.MmDownDxRefIdeal.τ).loc Cert.MmDownDxRefIdeal.main_arg1) = m ((c.tc : Thread Cert.MmDownDxRefIdeal.nD Cert.MmDownDxRefIdeal.τ).loc Cert.MmDownDxRefIdeal.main_arg1))
      ∧ r.2.sem = fun _ => 0)

def quiescent_MmDownDw [hMmDownDw : Cert.MmDownDw.Facts] : Prop :=
  ∀ (m : (ℓ : Loc Cert.MmDownDw.nD Cert.MmDownDw.τ Cert.MmDownDw.sig) → Buf (Elt Bits) ℓ) (g : Dev Cert.MmDownDw.nD → PrngReg), Pre_MmDownDw m →
    θ_run (Cert.MmDownDw.defs (F := Bits)) (onTc (τ := Cert.MmDownDw.τ) (Cert.MmDownDw.main (F := Bits))) ⟨m, fun _ => 0, g⟩ (fun r => (∀ c : Dev Cert.MmDownDw.nD,
      r.2.mem ((c.tc : Thread Cert.MmDownDw.nD Cert.MmDownDw.τ).loc Cert.MmDownDw.main_arg0) = m ((c.tc : Thread Cert.MmDownDw.nD Cert.MmDownDw.τ).loc Cert.MmDownDw.main_arg0)
      ∧ r.2.mem ((c.tc : Thread Cert.MmDownDw.nD Cert.MmDownDw.τ).loc Cert.MmDownDw.main_arg1) = m ((c.tc : Thread Cert.MmDownDw.nD Cert.MmDownDw.τ).loc Cert.MmDownDw.main_arg1))
      ∧ r.2.sem = fun _ => 0)

def quiescent_MmDownDwIdeal [hMmDownDwIdeal : Cert.MmDownDwIdeal.Facts] : Prop :=
  ∀ (m : (ℓ : Loc Cert.MmDownDwIdeal.nD Cert.MmDownDwIdeal.τ Cert.MmDownDwIdeal.sig) → Buf (Elt Ideal) ℓ) (g : Dev Cert.MmDownDwIdeal.nD → PrngReg), Pre_MmDownDwIdeal m →
    θ_run (Cert.MmDownDwIdeal.defs (F := Ideal)) (onTc (τ := Cert.MmDownDwIdeal.τ) (Cert.MmDownDwIdeal.main (F := Ideal))) ⟨m, fun _ => 0, g⟩ (fun r => (∀ c : Dev Cert.MmDownDwIdeal.nD,
      r.2.mem ((c.tc : Thread Cert.MmDownDwIdeal.nD Cert.MmDownDwIdeal.τ).loc Cert.MmDownDwIdeal.main_arg0) = m ((c.tc : Thread Cert.MmDownDwIdeal.nD Cert.MmDownDwIdeal.τ).loc Cert.MmDownDwIdeal.main_arg0)
      ∧ r.2.mem ((c.tc : Thread Cert.MmDownDwIdeal.nD Cert.MmDownDwIdeal.τ).loc Cert.MmDownDwIdeal.main_arg1) = m ((c.tc : Thread Cert.MmDownDwIdeal.nD Cert.MmDownDwIdeal.τ).loc Cert.MmDownDwIdeal.main_arg1))
      ∧ r.2.sem = fun _ => 0)

def quiescent_MmDownDwRefIdeal [hMmDownDwRefIdeal : Cert.MmDownDwRefIdeal.Facts] : Prop :=
  ∀ (m : (ℓ : Loc Cert.MmDownDwRefIdeal.nD Cert.MmDownDwRefIdeal.τ Cert.MmDownDwRefIdeal.sig) → Buf (Elt Ideal) ℓ) (g : Dev Cert.MmDownDwRefIdeal.nD → PrngReg), Pre_MmDownDwRefIdeal m →
    θ_run (Cert.MmDownDwRefIdeal.defs (F := Ideal)) (onTc (τ := Cert.MmDownDwRefIdeal.τ) (Cert.MmDownDwRefIdeal.main (F := Ideal))) ⟨m, fun _ => 0, g⟩ (fun r => (∀ c : Dev Cert.MmDownDwRefIdeal.nD,
      r.2.mem ((c.tc : Thread Cert.MmDownDwRefIdeal.nD Cert.MmDownDwRefIdeal.τ).loc Cert.MmDownDwRefIdeal.main_arg0) = m ((c.tc : Thread Cert.MmDownDwRefIdeal.nD Cert.MmDownDwRefIdeal.τ).loc Cert.MmDownDwRefIdeal.main_arg0)
      ∧ r.2.mem ((c.tc : Thread Cert.MmDownDwRefIdeal.nD Cert.MmDownDwRefIdeal.τ).loc Cert.MmDownDwRefIdeal.main_arg1) = m ((c.tc : Thread Cert.MmDownDwRefIdeal.nD Cert.MmDownDwRefIdeal.τ).loc Cert.MmDownDwRefIdeal.main_arg1))
      ∧ r.2.sem = fun _ => 0)

def quiescent_AddDh [hAddDh : Cert.AddDh.Facts] : Prop :=
  ∀ (m : (ℓ : Loc Cert.AddDh.nD Cert.AddDh.τ Cert.AddDh.sig) → Buf (Elt Bits) ℓ) (g : Dev Cert.AddDh.nD → PrngReg), Pre_AddDh m →
    θ_run (Cert.AddDh.defs (F := Bits)) (onTc (τ := Cert.AddDh.τ) (Cert.AddDh.main (F := Bits))) ⟨m, fun _ => 0, g⟩ (fun r => (∀ c : Dev Cert.AddDh.nD,
      r.2.mem ((c.tc : Thread Cert.AddDh.nD Cert.AddDh.τ).loc Cert.AddDh.main_arg0) = m ((c.tc : Thread Cert.AddDh.nD Cert.AddDh.τ).loc Cert.AddDh.main_arg0)
      ∧ r.2.mem ((c.tc : Thread Cert.AddDh.nD Cert.AddDh.τ).loc Cert.AddDh.main_arg1) = m ((c.tc : Thread Cert.AddDh.nD Cert.AddDh.τ).loc Cert.AddDh.main_arg1))
      ∧ r.2.sem = fun _ => 0)

def quiescent_AddDhIdeal [hAddDhIdeal : Cert.AddDhIdeal.Facts] : Prop :=
  ∀ (m : (ℓ : Loc Cert.AddDhIdeal.nD Cert.AddDhIdeal.τ Cert.AddDhIdeal.sig) → Buf (Elt Ideal) ℓ) (g : Dev Cert.AddDhIdeal.nD → PrngReg), Pre_AddDhIdeal m →
    θ_run (Cert.AddDhIdeal.defs (F := Ideal)) (onTc (τ := Cert.AddDhIdeal.τ) (Cert.AddDhIdeal.main (F := Ideal))) ⟨m, fun _ => 0, g⟩ (fun r => (∀ c : Dev Cert.AddDhIdeal.nD,
      r.2.mem ((c.tc : Thread Cert.AddDhIdeal.nD Cert.AddDhIdeal.τ).loc Cert.AddDhIdeal.main_arg0) = m ((c.tc : Thread Cert.AddDhIdeal.nD Cert.AddDhIdeal.τ).loc Cert.AddDhIdeal.main_arg0)
      ∧ r.2.mem ((c.tc : Thread Cert.AddDhIdeal.nD Cert.AddDhIdeal.τ).loc Cert.AddDhIdeal.main_arg1) = m ((c.tc : Thread Cert.AddDhIdeal.nD Cert.AddDhIdeal.τ).loc Cert.AddDhIdeal.main_arg1))
      ∧ r.2.sem = fun _ => 0)

def quiescent_AddDhRefIdeal [hAddDhRefIdeal : Cert.AddDhRefIdeal.Facts] : Prop :=
  ∀ (m : (ℓ : Loc Cert.AddDhRefIdeal.nD Cert.AddDhRefIdeal.τ Cert.AddDhRefIdeal.sig) → Buf (Elt Ideal) ℓ) (g : Dev Cert.AddDhRefIdeal.nD → PrngReg), Pre_AddDhRefIdeal m →
    θ_run (Cert.AddDhRefIdeal.defs (F := Ideal)) (onTc (τ := Cert.AddDhRefIdeal.τ) (Cert.AddDhRefIdeal.main (F := Ideal))) ⟨m, fun _ => 0, g⟩ (fun r => (∀ c : Dev Cert.AddDhRefIdeal.nD,
      r.2.mem ((c.tc : Thread Cert.AddDhRefIdeal.nD Cert.AddDhRefIdeal.τ).loc Cert.AddDhRefIdeal.main_arg0) = m ((c.tc : Thread Cert.AddDhRefIdeal.nD Cert.AddDhRefIdeal.τ).loc Cert.AddDhRefIdeal.main_arg0)
      ∧ r.2.mem ((c.tc : Thread Cert.AddDhRefIdeal.nD Cert.AddDhRefIdeal.τ).loc Cert.AddDhRefIdeal.main_arg1) = m ((c.tc : Thread Cert.AddDhRefIdeal.nD Cert.AddDhRefIdeal.τ).loc Cert.AddDhRefIdeal.main_arg1))
      ∧ r.2.sem = fun _ => 0)

def quiescent_AddDx [hAddDx : Cert.AddDx.Facts] : Prop :=
  ∀ (m : (ℓ : Loc Cert.AddDx.nD Cert.AddDx.τ Cert.AddDx.sig) → Buf (Elt Bits) ℓ) (g : Dev Cert.AddDx.nD → PrngReg), Pre_AddDx m →
    θ_run (Cert.AddDx.defs (F := Bits)) (onTc (τ := Cert.AddDx.τ) (Cert.AddDx.main (F := Bits))) ⟨m, fun _ => 0, g⟩ (fun r => (∀ c : Dev Cert.AddDx.nD,
      r.2.mem ((c.tc : Thread Cert.AddDx.nD Cert.AddDx.τ).loc Cert.AddDx.main_arg0) = m ((c.tc : Thread Cert.AddDx.nD Cert.AddDx.τ).loc Cert.AddDx.main_arg0)
      ∧ r.2.mem ((c.tc : Thread Cert.AddDx.nD Cert.AddDx.τ).loc Cert.AddDx.main_arg1) = m ((c.tc : Thread Cert.AddDx.nD Cert.AddDx.τ).loc Cert.AddDx.main_arg1))
      ∧ r.2.sem = fun _ => 0)

def quiescent_AddDxIdeal [hAddDxIdeal : Cert.AddDxIdeal.Facts] : Prop :=
  ∀ (m : (ℓ : Loc Cert.AddDxIdeal.nD Cert.AddDxIdeal.τ Cert.AddDxIdeal.sig) → Buf (Elt Ideal) ℓ) (g : Dev Cert.AddDxIdeal.nD → PrngReg), Pre_AddDxIdeal m →
    θ_run (Cert.AddDxIdeal.defs (F := Ideal)) (onTc (τ := Cert.AddDxIdeal.τ) (Cert.AddDxIdeal.main (F := Ideal))) ⟨m, fun _ => 0, g⟩ (fun r => (∀ c : Dev Cert.AddDxIdeal.nD,
      r.2.mem ((c.tc : Thread Cert.AddDxIdeal.nD Cert.AddDxIdeal.τ).loc Cert.AddDxIdeal.main_arg0) = m ((c.tc : Thread Cert.AddDxIdeal.nD Cert.AddDxIdeal.τ).loc Cert.AddDxIdeal.main_arg0)
      ∧ r.2.mem ((c.tc : Thread Cert.AddDxIdeal.nD Cert.AddDxIdeal.τ).loc Cert.AddDxIdeal.main_arg1) = m ((c.tc : Thread Cert.AddDxIdeal.nD Cert.AddDxIdeal.τ).loc Cert.AddDxIdeal.main_arg1))
      ∧ r.2.sem = fun _ => 0)

def quiescent_AddDxRefIdeal [hAddDxRefIdeal : Cert.AddDxRefIdeal.Facts] : Prop :=
  ∀ (m : (ℓ : Loc Cert.AddDxRefIdeal.nD Cert.AddDxRefIdeal.τ Cert.AddDxRefIdeal.sig) → Buf (Elt Ideal) ℓ) (g : Dev Cert.AddDxRefIdeal.nD → PrngReg), Pre_AddDxRefIdeal m →
    θ_run (Cert.AddDxRefIdeal.defs (F := Ideal)) (onTc (τ := Cert.AddDxRefIdeal.τ) (Cert.AddDxRefIdeal.main (F := Ideal))) ⟨m, fun _ => 0, g⟩ (fun r => (∀ c : Dev Cert.AddDxRefIdeal.nD,
      r.2.mem ((c.tc : Thread Cert.AddDxRefIdeal.nD Cert.AddDxRefIdeal.τ).loc Cert.AddDxRefIdeal.main_arg0) = m ((c.tc : Thread Cert.AddDxRefIdeal.nD Cert.AddDxRefIdeal.τ).loc Cert.AddDxRefIdeal.main_arg0)
      ∧ r.2.mem ((c.tc : Thread Cert.AddDxRefIdeal.nD Cert.AddDxRefIdeal.τ).loc Cert.AddDxRefIdeal.main_arg1) = m ((c.tc : Thread Cert.AddDxRefIdeal.nD Cert.AddDxRefIdeal.τ).loc Cert.AddDxRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1)
      ∧ r.2.mem ((c.tc : Thread Cert.MixBack.nD Cert.MixBack.τ).loc Cert.MixBack.main_arg2) = m ((c.tc : Thread Cert.MixBack.nD Cert.MixBack.τ).loc Cert.MixBack.main_arg2)
      ∧ r.2.mem ((c.tc : Thread Cert.MixBack.nD Cert.MixBack.τ).loc Cert.MixBack.main_arg3) = m ((c.tc : Thread Cert.MixBack.nD Cert.MixBack.τ).loc Cert.MixBack.main_arg3)
      ∧ r.2.mem ((c.tc : Thread Cert.MixBack.nD Cert.MixBack.τ).loc Cert.MixBack.main_arg4) = m ((c.tc : Thread Cert.MixBack.nD Cert.MixBack.τ).loc Cert.MixBack.main_arg4)
      ∧ r.2.mem ((c.tc : Thread Cert.MixBack.nD Cert.MixBack.τ).loc Cert.MixBack.main_arg5) = m ((c.tc : Thread Cert.MixBack.nD Cert.MixBack.τ).loc Cert.MixBack.main_arg5))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
      ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5))
      ∧ r.2.sem = fun _ => 0)

def quiescent_MixBackRefIdeal [hMixBackRefIdeal : Cert.MixBackRefIdeal.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4)
      ∧ r.2.mem ((c.tc : Thread Cert.MixBackRefIdeal.nD Cert.MixBackRefIdeal.τ).loc Cert.MixBackRefIdeal.main_arg5) = m ((c.tc : Thread Cert.MixBackRefIdeal.nD Cert.MixBackRefIdeal.τ).loc Cert.MixBackRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4)
      ∧ r.2.mem ((c.tc : Thread Cert.GatherRef.nD Cert.GatherRef.τ).loc Cert.GatherRef.main_arg5) = m ((c.tc : Thread Cert.GatherRef.nD Cert.GatherRef.τ).loc Cert.GatherRef.main_arg5)
      ∧ r.2.mem ((c.tc : Thread Cert.GatherRef.nD Cert.GatherRef.τ).loc Cert.GatherRef.main_arg6) = m ((c.tc : Thread Cert.GatherRef.nD Cert.GatherRef.τ).loc Cert.GatherRef.main_arg6))
      ∧ r.2.sem = fun _ => 0)

def quiescent_SendRef [hSendRef : Cert.SendRef.Facts] : Prop :=
  ∀ (m : (ℓ : Loc Cert.SendRef.nD Cert.SendRef.τ Cert.SendRef.sig) → Buf (Elt Bits) ℓ) (g : Dev Cert.SendRef.nD → PrngReg), Pre_SendRef m →
    θ_run (Cert.SendRef.defs (F := Bits)) (onTc (τ := Cert.SendRef.τ) (Cert.SendRef.main (F := Bits))) ⟨m, fun _ => 0, g⟩ (fun r => (∀ c : Dev Cert.SendRef.nD,
      r.2.mem ((c.tc : Thread Cert.SendRef.nD Cert.SendRef.τ).loc Cert.SendRef.main_arg0) = m ((c.tc : Thread Cert.SendRef.nD Cert.SendRef.τ).loc Cert.SendRef.main_arg0)
      ∧ r.2.mem ((c.tc : Thread Cert.SendRef.nD Cert.SendRef.τ).loc Cert.SendRef.main_arg1) = m ((c.tc : Thread Cert.SendRef.nD Cert.SendRef.τ).loc Cert.SendRef.main_arg1)
      ∧ r.2.mem ((c.tc : Thread Cert.SendRef.nD Cert.SendRef.τ).loc Cert.SendRef.main_arg2) = m ((c.tc : Thread Cert.SendRef.nD Cert.SendRef.τ).loc Cert.SendRef.main_arg2)
      ∧ r.2.mem ((c.tc : Thread Cert.SendRef.nD Cert.SendRef.τ).loc Cert.SendRef.main_arg3) = m ((c.tc : Thread Cert.SendRef.nD Cert.SendRef.τ).loc Cert.SendRef.main_arg3))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3))
      ∧ r.2.sem = fun _ => 0)

def quiescent_PairRef [hPairRef : Cert.PairRef.Facts] : Prop :=
  ∀ (m : (ℓ : Loc Cert.PairRef.nD Cert.PairRef.τ Cert.PairRef.sig) → Buf (Elt Bits) ℓ) (g : Dev Cert.PairRef.nD → PrngReg), Pre_PairRef m →
    θ_run (Cert.PairRef.defs (F := Bits)) (onTc (τ := Cert.PairRef.τ) (Cert.PairRef.main (F := Bits))) ⟨m, fun _ => 0, g⟩ (fun r => (∀ c : Dev Cert.PairRef.nD,
      r.2.mem ((c.tc : Thread Cert.PairRef.nD Cert.PairRef.τ).loc Cert.PairRef.main_arg0) = m ((c.tc : Thread Cert.PairRef.nD Cert.PairRef.τ).loc Cert.PairRef.main_arg0)
      ∧ r.2.mem ((c.tc : Thread Cert.PairRef.nD Cert.PairRef.τ).loc Cert.PairRef.main_arg1) = m ((c.tc : Thread Cert.PairRef.nD Cert.PairRef.τ).loc Cert.PairRef.main_arg1)
      ∧ r.2.mem ((c.tc : Thread Cert.PairRef.nD Cert.PairRef.τ).loc Cert.PairRef.main_arg2) = m ((c.tc : Thread Cert.PairRef.nD Cert.PairRef.τ).loc Cert.PairRef.main_arg2)
      ∧ r.2.mem ((c.tc : Thread Cert.PairRef.nD Cert.PairRef.τ).loc Cert.PairRef.main_arg3) = m ((c.tc : Thread Cert.PairRef.nD Cert.PairRef.τ).loc Cert.PairRef.main_arg3))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![1024, 1672]⟩ ⟨2, ![1024, 6688]⟩ (Layout.meshBlock [2, 2, 2] ![[], [0, 1]] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![512, 1024]⟩ ⟨2, ![2048, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![1024, 1408]⟩ ⟨2, ![1024, 5632]⟩ (Layout.meshBlock [2, 2, 2] ![[], [0, 1]] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨2, ![704, 1024]⟩ ⟨2, ![2816, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨2, ![4, 768]⟩ ⟨2, ![4, 3072]⟩ (Layout.meshBlock [2, 2, 2] ![[], [0, 1]] c) (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.blockN ⟨2, ![4, 384]⟩ ⟨2, ![4, 1536]⟩ (Layout.meshBlock [2, 2, 2] ![[], [0, 1]] c) (m' (((0 : Dev Cert.GatherRefIdeal.nD).tc : Thread Cert.GatherRefIdeal.nD Cert.GatherRefIdeal.τ).loc Cert.GatherRefIdeal.main_arg5))
      ∧ m ((c.tc : Thread Cert.GatherIdeal.nD Cert.GatherIdeal.τ).loc Cert.GatherIdeal.main_arg6) = Layout.blockN ⟨2, ![3, 1408]⟩ ⟨2, ![3, 5632]⟩ (Layout.meshBlock [2, 2, 2] ![[], [0, 1]] c) (m' (((0 : Dev Cert.GatherRefIdeal.nD).tc : Thread Cert.GatherRefIdeal.nD Cert.GatherRefIdeal.τ).loc Cert.GatherRefIdeal.main_arg6))) →
    ∃ (v0 : Buf (Elt Ideal) (((0 : Dev Cert.GatherRefIdeal.nD).tc : Thread Cert.GatherRefIdeal.nD Cert.GatherRefIdeal.τ).loc Cert.GatherRefIdeal.main_v1)) (v1 : Buf (Elt Ideal) (((0 : Dev Cert.GatherRefIdeal.nD).tc : Thread Cert.GatherRefIdeal.nD Cert.GatherRefIdeal.τ).loc Cert.GatherRefIdeal.main_v2)) (v2 : Buf (Elt Ideal) (((0 : Dev Cert.GatherRefIdeal.nD).tc : Thread Cert.GatherRefIdeal.nD Cert.GatherRefIdeal.τ).loc Cert.GatherRefIdeal.main_v4)) (v3 : Buf (Elt Ideal) (((0 : Dev Cert.GatherRefIdeal.nD).tc : Thread Cert.GatherRefIdeal.nD Cert.GatherRefIdeal.τ).loc Cert.GatherRefIdeal.main_v5)) (v4 : Buf (Elt Ideal) (((0 : Dev Cert.GatherRefIdeal.nD).tc : Thread Cert.GatherRefIdeal.nD Cert.GatherRefIdeal.τ).loc Cert.GatherRefIdeal.main_v7)) (v5 : Buf (Elt Ideal) (((0 : Dev Cert.GatherRefIdeal.nD).tc : Thread Cert.GatherRefIdeal.nD Cert.GatherRefIdeal.τ).loc Cert.GatherRefIdeal.main_v9)) (v6 : Buf (Elt Ideal) (((0 : Dev Cert.GatherRefIdeal.nD).tc : Thread Cert.GatherRefIdeal.nD Cert.GatherRefIdeal.τ).loc Cert.GatherRefIdeal.main_v11)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v2) = v1
          ∧ r.2.mem (((0 : Dev Cert.GatherRefIdeal.nD).tc : Thread Cert.GatherRefIdeal.nD Cert.GatherRefIdeal.τ).loc Cert.GatherRefIdeal.main_v4) = v2
          ∧ r.2.mem (((0 : Dev Cert.GatherRefIdeal.nD).tc : Thread Cert.GatherRefIdeal.nD Cert.GatherRefIdeal.τ).loc Cert.GatherRefIdeal.main_v5) = v3
          ∧ r.2.mem (((0 : Dev Cert.GatherRefIdeal.nD).tc : Thread Cert.GatherRefIdeal.nD Cert.GatherRefIdeal.τ).loc Cert.GatherRefIdeal.main_v7) = v4
          ∧ r.2.mem (((0 : Dev Cert.GatherRefIdeal.nD).tc : Thread Cert.GatherRefIdeal.nD Cert.GatherRefIdeal.τ).loc Cert.GatherRefIdeal.main_v9) = v5
          ∧ r.2.mem (((0 : Dev Cert.GatherRefIdeal.nD).tc : Thread Cert.GatherRefIdeal.nD Cert.GatherRefIdeal.τ).loc Cert.GatherRefIdeal.main_v11) = v6
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6))

def preserves_Send_SendIdeal : Prop :=
  True

def algebraic_SendIdeal_SendRefIdeal [hSendIdeal : Cert.SendIdeal.Facts] [hSendRefIdeal : Cert.SendRefIdeal.Facts] : Prop :=
  ∀ (m : (ℓ : Loc Cert.SendIdeal.nD Cert.SendIdeal.τ Cert.SendIdeal.sig) → Buf (Elt Ideal) ℓ) (g : Dev Cert.SendIdeal.nD → PrngReg)
    (m' : (ℓ : Loc Cert.SendRefIdeal.nD Cert.SendRefIdeal.τ Cert.SendRefIdeal.sig) → Buf (Elt Ideal) ℓ) (g' : Dev Cert.SendRefIdeal.nD → PrngReg), Pre_SendIdeal m →
    (∀ c : Dev Cert.SendIdeal.nD,
      m ((c.tc : Thread Cert.SendIdeal.nD Cert.SendIdeal.τ).loc Cert.SendIdeal.main_arg0) = Layout.block ⟨3, ![4, 1024, 1672]⟩ ⟨3, ![32, 1024, 1672]⟩ 0 8 c (m' (((0 : Dev Cert.SendRefIdeal.nD).tc : Thread Cert.SendRefIdeal.nD Cert.SendRefIdeal.τ).loc Cert.SendRefIdeal.main_arg0))
      ∧ m ((c.tc : Thread Cert.SendIdeal.nD Cert.SendIdeal.τ).loc Cert.SendIdeal.main_arg1) = Layout.block ⟨3, ![4, 512, 1024]⟩ ⟨3, ![32, 512, 1024]⟩ 0 8 c (m' (((0 : Dev Cert.SendRefIdeal.nD).tc : Thread Cert.SendRefIdeal.nD Cert.SendRefIdeal.τ).loc Cert.SendRefIdeal.main_arg1))
      ∧ m ((c.tc : Thread Cert.SendIdeal.nD Cert.SendIdeal.τ).loc Cert.SendIdeal.main_arg2) = Layout.block ⟨3, ![4, 1024, 1408]⟩ ⟨3, ![32, 1024, 1408]⟩ 0 8 c (m' (((0 : Dev Cert.SendRefIdeal.nD).tc : Thread Cert.SendRefIdeal.nD Cert.SendRefIdeal.τ).loc Cert.SendRefIdeal.main_arg2))
      ∧ m ((c.tc : Thread Cert.SendIdeal.nD Cert.SendIdeal.τ).loc Cert.SendIdeal.main_arg3) = Layout.block ⟨3, ![4, 704, 1024]⟩ ⟨3, ![32, 704, 1024]⟩ 0 8 c (m' (((0 : Dev Cert.SendRefIdeal.nD).tc : Thread Cert.SendRefIdeal.nD Cert.SendRefIdeal.τ).loc Cert.SendRefIdeal.main_arg3))) →
    ∃ (v0 : Buf (Elt Ideal) (((0 : Dev Cert.SendRefIdeal.nD).tc : Thread Cert.SendRefIdeal.nD Cert.SendRefIdeal.τ).loc Cert.SendRefIdeal.main_v8)) (v1 : Buf (Elt Ideal) (((0 : Dev Cert.SendRefIdeal.nD).tc : Thread Cert.SendRefIdeal.nD Cert.SendRefIdeal.τ).loc Cert.SendRefIdeal.main_v17)) (v2 : Buf (Elt Ideal) (((0 : Dev Cert.SendRefIdeal.nD).tc : Thread Cert.SendRefIdeal.nD Cert.SendRefIdeal.τ).loc Cert.SendRefIdeal.main_v26)) (v3 : Buf (Elt Ideal) (((0 : Dev Cert.SendRefIdeal.nD).tc : Thread Cert.SendRefIdeal.nD Cert.SendRefIdeal.τ).loc Cert.SendRefIdeal.main_v35)),
      θ_run (Cert.SendIdeal.defs (F := Ideal)) (onTc (τ := Cert.SendIdeal.τ) (Cert.SendIdeal.main (F := Ideal))) ⟨m, fun _ => 0, g⟩ (fun r => ∀ c : Dev Cert.SendIdeal.nD,
          r.2.mem ((c.tc : Thread Cert.SendIdeal.nD Cert.SendIdeal.τ).loc Cert.SendIdeal.main_v1_0) = Layout.block ⟨3, ![4, 512, 1672]⟩ ⟨3, ![32, 512, 1672]⟩ 0 8 c v0
          ∧ r.2.mem ((c.tc : Thread Cert.SendIdeal.nD Cert.SendIdeal.τ).loc Cert.SendIdeal.main_v1_1) = Layout.block ⟨3, ![4, 256, 1024]⟩ ⟨3, ![32, 256, 1024]⟩ 0 8 c v1
          ∧ r.2.mem ((c.tc : Thread Cert.SendIdeal.nD Cert.SendIdeal.τ).loc Cert.SendIdeal.main_v1_2) = Layout.block ⟨3, ![4, 512, 1408]⟩ ⟨3, ![32, 512, 1408]⟩ 0 8 c v2
          ∧ r.2.mem ((c.tc : Thread Cert.SendIdeal.nD Cert.SendIdeal.τ).loc Cert.SendIdeal.main_v1_3) = Layout.block ⟨3, ![4, 352, 1024]⟩ ⟨3, ![32, 352, 1024]⟩ 0 8 c v3
          ∧ r.2.mem ((c.tc : Thread Cert.SendIdeal.nD Cert.SendIdeal.τ).loc Cert.SendIdeal.main_arg0) = m ((c.tc : Thread Cert.SendIdeal.nD Cert.SendIdeal.τ).loc Cert.SendIdeal.main_arg0)
          ∧ r.2.mem ((c.tc : Thread Cert.SendIdeal.nD Cert.SendIdeal.τ).loc Cert.SendIdeal.main_arg1) = m ((c.tc : Thread Cert.SendIdeal.nD Cert.SendIdeal.τ).loc Cert.SendIdeal.main_arg1)
          ∧ r.2.mem ((c.tc : Thread Cert.SendIdeal.nD Cert.SendIdeal.τ).loc Cert.SendIdeal.main_arg2) = m ((c.tc : Thread Cert.SendIdeal.nD Cert.SendIdeal.τ).loc Cert.SendIdeal.main_arg2)
          ∧ r.2.mem ((c.tc : Thread Cert.SendIdeal.nD Cert.SendIdeal.τ).loc Cert.SendIdeal.main_arg3) = m ((c.tc : Thread Cert.SendIdeal.nD Cert.SendIdeal.τ).loc Cert.SendIdeal.main_arg3))
      ∧ θ_run (Cert.SendRefIdeal.defs (F := Ideal)) (onTc (τ := Cert.SendRefIdeal.τ) (Cert.SendRefIdeal.main (F := Ideal))) ⟨m', fun _ => 0, g'⟩ (fun r =>
          r.2.mem (((0 : Dev Cert.SendRefIdeal.nD).tc : Thread Cert.SendRefIdeal.nD Cert.SendRefIdeal.τ).loc Cert.SendRefIdeal.main_v8) = v0
          ∧ r.2.mem (((0 : Dev Cert.SendRefIdeal.nD).tc : Thread Cert.SendRefIdeal.nD Cert.SendRefIdeal.τ).loc Cert.SendRefIdeal.main_v17) = v1
          ∧ r.2.mem (((0 : Dev Cert.SendRefIdeal.nD).tc : Thread Cert.SendRefIdeal.nD Cert.SendRefIdeal.τ).loc Cert.SendRefIdeal.main_v26) = v2
          ∧ r.2.mem (((0 : Dev Cert.SendRefIdeal.nD).tc : Thread Cert.SendRefIdeal.nD Cert.SendRefIdeal.τ).loc Cert.SendRefIdeal.main_v35) = v3
          ∧ r.2.mem (((0 : Dev Cert.SendRefIdeal.nD).tc : Thread Cert.SendRefIdeal.nD Cert.SendRefIdeal.τ).loc Cert.SendRefIdeal.main_arg0) = m' (((0 : Dev Cert.SendRefIdeal.nD).tc : Thread Cert.SendRefIdeal.nD Cert.SendRefIdeal.τ).loc Cert.SendRefIdeal.main_arg0)
          ∧ r.2.mem (((0 : Dev Cert.SendRefIdeal.nD).tc : Thread Cert.SendRefIdeal.nD Cert.SendRefIdeal.τ).loc Cert.SendRefIdeal.main_arg1) = m' (((0 : Dev Cert.SendRefIdeal.nD).tc : Thread Cert.SendRefIdeal.nD Cert.SendRefIdeal.τ).loc Cert.SendRefIdeal.main_arg1)
          ∧ r.2.mem (((0 : Dev Cert.SendRefIdeal.nD).tc : Thread Cert.SendRefIdeal.nD Cert.SendRefIdeal.τ).loc Cert.SendRefIdeal.main_arg2) = m' (((0 : Dev Cert.SendRefIdeal.nD).tc : Thread Cert.SendRefIdeal.nD Cert.SendRefIdeal.τ).loc Cert.SendRefIdeal.main_arg2)
          ∧ r.2.mem (((0 : Dev Cert.SendRefIdeal.nD).tc : Thread Cert.SendRefIdeal.nD Cert.SendRefIdeal.τ).loc Cert.SendRefIdeal.main_arg3) = m' (((0 : Dev Cert.SendRefIdeal.nD).tc : Thread Cert.SendRefIdeal.nD Cert.SendRefIdeal.τ).loc Cert.SendRefIdeal.main_arg3))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 512, 1672]⟩ ⟨3, ![32, 512, 1672]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![4, 256, 1024]⟩ ⟨3, ![32, 256, 1024]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨3, ![4, 512, 1408]⟩ ⟨3, ![32, 512, 1408]⟩ 0 8 c (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.block ⟨3, ![4, 352, 1024]⟩ ⟨3, ![32, 352, 1024]⟩ 0 8 c (m' (((0 : Dev Cert.ScatterRefIdeal.nD).tc : Thread Cert.ScatterRefIdeal.nD Cert.ScatterRefIdeal.τ).loc Cert.ScatterRefIdeal.main_arg3))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)) (v3 : Buf (Elt Ideal) (((0 : Dev Cert.ScatterRefIdeal.nD).tc : Thread Cert.ScatterRefIdeal.nD Cert.ScatterRefIdeal.τ).loc Cert.ScatterRefIdeal.main_v11)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨3, ![4, 512, 1672]⟩ ⟨3, ![32, 512, 1672]⟩ 0 8 c v0
          ∧ r.2.mem ((c.tc : Thread Cert.ScatterIdeal.nD Cert.ScatterIdeal.τ).loc Cert.ScatterIdeal.main_v1_1) = Layout.block ⟨3, ![4, 256, 1024]⟩ ⟨3, ![32, 256, 1024]⟩ 0 8 c v1
          ∧ r.2.mem ((c.tc : Thread Cert.ScatterIdeal.nD Cert.ScatterIdeal.τ).loc Cert.ScatterIdeal.main_v1_2) = Layout.block ⟨3, ![4, 512, 1408]⟩ ⟨3, ![32, 512, 1408]⟩ 0 8 c v2
          ∧ r.2.mem ((c.tc : Thread Cert.ScatterIdeal.nD Cert.ScatterIdeal.τ).loc Cert.ScatterIdeal.main_v1_3) = Layout.block ⟨3, ![4, 352, 1024]⟩ ⟨3, ![32, 352, 1024]⟩ 0 8 c v3
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_v11) = v3
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m ((c.tc : Thread Cert.PairIdeal.nD Cert.PairIdeal.τ).loc Cert.PairIdeal.main_arg0) = Layout.blockN ⟨2, ![512, 1672]⟩ ⟨2, ![1024, 6688]⟩ (Layout.meshBlock [2, 2, 2] ![[2], [0, 1]] c) (m' (((0 : Dev Cert.PairRefIdeal.nD).tc : Thread Cert.PairRefIdeal.nD Cert.PairRefIdeal.τ).loc Cert.PairRefIdeal.main_arg0))
      ∧ m ((c.tc : Thread Cert.PairIdeal.nD Cert.PairIdeal.τ).loc Cert.PairIdeal.main_arg1) = Layout.block ⟨2, ![256, 1024]⟩ ⟨2, ![2048, 1024]⟩ 0 8 c (m' (((0 : Dev Cert.PairRefIdeal.nD).tc : Thread Cert.PairRefIdeal.nD Cert.PairRefIdeal.τ).loc Cert.PairRefIdeal.main_arg1))
      ∧ m ((c.tc : Thread Cert.PairIdeal.nD Cert.PairIdeal.τ).loc Cert.PairIdeal.main_arg2) = Layout.blockN ⟨2, ![512, 1408]⟩ ⟨2, ![1024, 5632]⟩ (Layout.meshBlock [2, 2, 2] ![[2], [0, 1]] c) (m' (((0 : Dev Cert.PairRefIdeal.nD).tc : Thread Cert.PairRefIdeal.nD Cert.PairRefIdeal.τ).loc Cert.PairRefIdeal.main_arg2))
      ∧ m ((c.tc : Thread Cert.PairIdeal.nD Cert.PairIdeal.τ).loc Cert.PairIdeal.main_arg3) = Layout.block ⟨2, ![352, 1024]⟩ ⟨2, ![2816, 1024]⟩ 0 8 c (m' (((0 : Dev Cert.PairRefIdeal.nD).tc : Thread Cert.PairRefIdeal.nD Cert.PairRefIdeal.τ).loc Cert.PairRefIdeal.main_arg3))) →
    ∃ (v0 : Buf (Elt Ideal) (((0 : Dev Cert.PairRefIdeal.nD).tc : Thread Cert.PairRefIdeal.nD Cert.PairRefIdeal.τ).loc Cert.PairRefIdeal.main_v0)) (v1 : Buf (Elt Ideal) (((0 : Dev Cert.PairRefIdeal.nD).tc : Thread Cert.PairRefIdeal.nD Cert.PairRefIdeal.τ).loc Cert.PairRefIdeal.main_v1)) (v2 : Buf (Elt Ideal) (((0 : Dev Cert.PairRefIdeal.nD).tc : Thread Cert.PairRefIdeal.nD Cert.PairRefIdeal.τ).loc Cert.PairRefIdeal.main_v2)) (v3 : Buf (Elt Ideal) (((0 : Dev Cert.PairRefIdeal.nD).tc : Thread Cert.PairRefIdeal.nD Cert.PairRefIdeal.τ).loc Cert.PairRefIdeal.main_v3)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v1_0) = Layout.blockN ⟨3, ![2, 512, 1672]⟩ ⟨3, ![2, 512, 6688]⟩ (Layout.meshBlock [2, 2, 2] ![[], [], [0, 1]] c) v0
          ∧ r.2.mem ((c.tc : Thread Cert.PairIdeal.nD Cert.PairIdeal.τ).loc Cert.PairIdeal.main_v1_1) = Layout.blockN ⟨3, ![2, 256, 1024]⟩ ⟨3, ![8, 256, 1024]⟩ (Layout.meshBlock [2, 2, 2] ![[0, 1], [], []] c) v1
          ∧ r.2.mem ((c.tc : Thread Cert.PairIdeal.nD Cert.PairIdeal.τ).loc Cert.PairIdeal.main_v1_2) = Layout.blockN ⟨3, ![2, 512, 1408]⟩ ⟨3, ![2, 512, 5632]⟩ (Layout.meshBlock [2, 2, 2] ![[], [], [0, 1]] c) v2
          ∧ r.2.mem ((c.tc : Thread Cert.PairIdeal.nD Cert.PairIdeal.τ).loc Cert.PairIdeal.main_v1_3) = Layout.blockN ⟨3, ![2, 352, 1024]⟩ ⟨3, ![8, 352, 1024]⟩ (Layout.meshBlock [2, 2, 2] ![[0, 1], [], []] c) v3
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
          ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ θ_run (Cert.PairRefIdeal.defs (F := Ideal)) (onTc (τ := Cert.PairRefIdeal.τ) (Cert.PairRefIdeal.main (F := Ideal))) ⟨m', fun _ => 0, g'⟩ (fun r =>
          r.2.mem (((0 : Dev Cert.PairRefIdeal.nD).tc : Thread Cert.PairRefIdeal.nD Cert.PairRefIdeal.τ).loc Cert.PairRefIdeal.main_v0) = v0
          ∧ r.2.mem (((0 : Dev Cert.PairRefIdeal.nD).tc : Thread Cert.PairRefIdeal.nD Cert.PairRefIdeal.τ).loc Cert.PairRefIdeal.main_v1) = v1
          ∧ r.2.mem (((0 : Dev Cert.PairRefIdeal.nD).tc : Thread Cert.PairRefIdeal.nD Cert.PairRefIdeal.τ).loc Cert.PairRefIdeal.main_v2) = v2
          ∧ r.2.mem (((0 : Dev Cert.PairRefIdeal.nD).tc : Thread Cert.PairRefIdeal.nD Cert.PairRefIdeal.τ).loc Cert.PairRefIdeal.main_v3) = v3
          ∧ r.2.mem (((0 : Dev Cert.PairRefIdeal.nD).tc : Thread Cert.PairRefIdeal.nD Cert.PairRefIdeal.τ).loc Cert.PairRefIdeal.main_arg0) = m' (((0 : Dev Cert.PairRefIdeal.nD).tc : Thread Cert.PairRefIdeal.nD Cert.PairRefIdeal.τ).loc Cert.PairRefIdeal.main_arg0)
          ∧ r.2.mem (((0 : Dev Cert.PairRefIdeal.nD).tc : Thread Cert.PairRefIdeal.nD Cert.PairRefIdeal.τ).loc Cert.PairRefIdeal.main_arg1) = m' (((0 : Dev Cert.PairRefIdeal.nD).tc : Thread Cert.PairRefIdeal.nD Cert.PairRefIdeal.τ).loc Cert.PairRefIdeal.main_arg1)
          ∧ r.2.mem (((0 : Dev Cert.PairRefIdeal.nD).tc : Thread Cert.PairRefIdeal.nD Cert.PairRefIdeal.τ).loc Cert.PairRefIdeal.main_arg2) = m' (((0 : Dev Cert.PairRefIdeal.nD).tc : Thread Cert.PairRefIdeal.nD Cert.PairRefIdeal.τ).loc Cert.PairRefIdeal.main_arg2)
          ∧ r.2.mem (((0 : Dev Cert.PairRefIdeal.nD).tc : Thread Cert.PairRefIdeal.nD Cert.PairRefIdeal.τ).loc Cert.PairRefIdeal.main_arg3) = m' (((0 : Dev Cert.PairRefIdeal.nD).tc : Thread Cert.PairRefIdeal.nD Cert.PairRefIdeal.τ).loc Cert.PairRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)
      ∧ m' ((c.tc : Thread Cert.SmallRefIdeal.nD Cert.SmallRefIdeal.τ).loc Cert.SmallRefIdeal.main_arg21) = m ((c.tc : Thread Cert.SmallIdeal.nD Cert.SmallIdeal.τ).loc Cert.SmallIdeal.main_arg21)
      ∧ m' ((c.tc : Thread Cert.SmallRefIdeal.nD Cert.SmallRefIdeal.τ).loc Cert.SmallRefIdeal.main_arg22) = m ((c.tc : Thread Cert.SmallIdeal.nD Cert.SmallIdeal.τ).loc Cert.SmallIdeal.main_arg22)
      ∧ m' ((c.tc : Thread Cert.SmallRefIdeal.nD Cert.SmallRefIdeal.τ).loc Cert.SmallRefIdeal.main_arg23) = m ((c.tc : Thread Cert.SmallIdeal.nD Cert.SmallIdeal.τ).loc Cert.SmallIdeal.main_arg23)
      ∧ m' ((c.tc : Thread Cert.SmallRefIdeal.nD Cert.SmallRefIdeal.τ).loc Cert.SmallRefIdeal.main_arg24) = m ((c.tc : Thread Cert.SmallIdeal.nD Cert.SmallIdeal.τ).loc Cert.SmallIdeal.main_arg24)
      ∧ m' ((c.tc : Thread Cert.SmallRefIdeal.nD Cert.SmallRefIdeal.τ).loc Cert.SmallRefIdeal.main_arg25) = m ((c.tc : Thread Cert.SmallIdeal.nD Cert.SmallIdeal.τ).loc Cert.SmallIdeal.main_arg25)
      ∧ m' ((c.tc : Thread Cert.SmallRefIdeal.nD Cert.SmallRefIdeal.τ).loc Cert.SmallRefIdeal.main_arg26) = m ((c.tc : Thread Cert.SmallIdeal.nD Cert.SmallIdeal.τ).loc Cert.SmallIdeal.main_arg26)
      ∧ m' ((c.tc : Thread Cert.SmallRefIdeal.nD Cert.SmallRefIdeal.τ).loc Cert.SmallRefIdeal.main_arg27) = m ((c.tc : Thread Cert.SmallIdeal.nD Cert.SmallIdeal.τ).loc Cert.SmallIdeal.main_arg27)
      ∧ m' ((c.tc : Thread Cert.SmallRefIdeal.nD Cert.SmallRefIdeal.τ).loc Cert.SmallRefIdeal.main_arg28) = m ((c.tc : Thread Cert.SmallIdeal.nD Cert.SmallIdeal.τ).loc Cert.SmallIdeal.main_arg28)
      ∧ m' ((c.tc : Thread Cert.SmallRefIdeal.nD Cert.SmallRefIdeal.τ).loc Cert.SmallRefIdeal.main_arg29) = m ((c.tc : Thread Cert.SmallIdeal.nD Cert.SmallIdeal.τ).loc Cert.SmallIdeal.main_arg29)
      ∧ m' ((c.tc : Thread Cert.SmallRefIdeal.nD Cert.SmallRefIdeal.τ).loc Cert.SmallRefIdeal.main_arg30) = m ((c.tc : Thread Cert.SmallIdeal.nD Cert.SmallIdeal.τ).loc Cert.SmallIdeal.main_arg30)
      ∧ m' ((c.tc : Thread Cert.SmallRefIdeal.nD Cert.SmallRefIdeal.τ).loc Cert.SmallRefIdeal.main_arg31) = m ((c.tc : Thread Cert.SmallIdeal.nD Cert.SmallIdeal.τ).loc Cert.SmallIdeal.main_arg31)
      ∧ m' ((c.tc : Thread Cert.SmallRefIdeal.nD Cert.SmallRefIdeal.τ).loc Cert.SmallRefIdeal.main_arg32) = m ((c.tc : Thread Cert.SmallIdeal.nD Cert.SmallIdeal.τ).loc Cert.SmallIdeal.main_arg32)
      ∧ m' ((c.tc : Thread Cert.SmallRefIdeal.nD Cert.SmallRefIdeal.τ).loc Cert.SmallRefIdeal.main_arg33) = m ((c.tc : Thread Cert.SmallIdeal.nD Cert.SmallIdeal.τ).loc Cert.SmallIdeal.main_arg33)
      ∧ m' ((c.tc : Thread Cert.SmallRefIdeal.nD Cert.SmallRefIdeal.τ).loc Cert.SmallRefIdeal.main_arg34) = m ((c.tc : Thread Cert.SmallIdeal.nD Cert.SmallIdeal.τ).loc Cert.SmallIdeal.main_arg34)
      ∧ m' ((c.tc : Thread Cert.SmallRefIdeal.nD Cert.SmallRefIdeal.τ).loc Cert.SmallRefIdeal.main_arg35) = m ((c.tc : Thread Cert.SmallIdeal.nD Cert.SmallIdeal.τ).loc Cert.SmallIdeal.main_arg35)
      ∧ m' ((c.tc : Thread Cert.SmallRefIdeal.nD Cert.SmallRefIdeal.τ).loc Cert.SmallRefIdeal.main_arg36) = m ((c.tc : Thread Cert.SmallIdeal.nD Cert.SmallIdeal.τ).loc Cert.SmallIdeal.main_arg36)
      ∧ m' ((c.tc : Thread Cert.SmallRefIdeal.nD Cert.SmallRefIdeal.τ).loc Cert.SmallRefIdeal.main_arg37) = m ((c.tc : Thread Cert.SmallIdeal.nD Cert.SmallIdeal.τ).loc Cert.SmallIdeal.main_arg37)
      ∧ m' ((c.tc : Thread Cert.SmallRefIdeal.nD Cert.SmallRefIdeal.τ).loc Cert.SmallRefIdeal.main_arg38) = m ((c.tc : Thread Cert.SmallIdeal.nD Cert.SmallIdeal.τ).loc Cert.SmallIdeal.main_arg38)
      ∧ m' ((c.tc : Thread Cert.SmallRefIdeal.nD Cert.SmallRefIdeal.τ).loc Cert.SmallRefIdeal.main_arg39) = m ((c.tc : Thread Cert.SmallIdeal.nD Cert.SmallIdeal.τ).loc Cert.SmallIdeal.main_arg39)
      ∧ m' ((c.tc : Thread Cert.SmallRefIdeal.nD Cert.SmallRefIdeal.τ).loc Cert.SmallRefIdeal.main_arg40) = m ((c.tc : Thread Cert.SmallIdeal.nD Cert.SmallIdeal.τ).loc Cert.SmallIdeal.main_arg40)
      ∧ m' ((c.tc : Thread Cert.SmallRefIdeal.nD Cert.SmallRefIdeal.τ).loc Cert.SmallRefIdeal.main_arg41) = m ((c.tc : Thread Cert.SmallIdeal.nD Cert.SmallIdeal.τ).loc Cert.SmallIdeal.main_arg41)
      ∧ m' ((c.tc : Thread Cert.SmallRefIdeal.nD Cert.SmallRefIdeal.τ).loc Cert.SmallRefIdeal.main_arg42) = m ((c.tc : Thread Cert.SmallIdeal.nD Cert.SmallIdeal.τ).loc Cert.SmallIdeal.main_arg42)
      ∧ m' ((c.tc : Thread Cert.SmallRefIdeal.nD Cert.SmallRefIdeal.τ).loc Cert.SmallRefIdeal.main_arg43) = m ((c.tc : Thread Cert.SmallIdeal.nD Cert.SmallIdeal.τ).loc Cert.SmallIdeal.main_arg43)
      ∧ m' ((c.tc : Thread Cert.SmallRefIdeal.nD Cert.SmallRefIdeal.τ).loc Cert.SmallRefIdeal.main_arg44) = m ((c.tc : Thread Cert.SmallIdeal.nD Cert.SmallIdeal.τ).loc Cert.SmallIdeal.main_arg44)
      ∧ m' ((c.tc : Thread Cert.SmallRefIdeal.nD Cert.SmallRefIdeal.τ).loc Cert.SmallRefIdeal.main_arg45) = m ((c.tc : Thread Cert.SmallIdeal.nD Cert.SmallIdeal.τ).loc Cert.SmallIdeal.main_arg45)
      ∧ m' ((c.tc : Thread Cert.SmallRefIdeal.nD Cert.SmallRefIdeal.τ).loc Cert.SmallRefIdeal.main_arg46) = m ((c.tc : Thread Cert.SmallIdeal.nD Cert.SmallIdeal.τ).loc Cert.SmallIdeal.main_arg46)
      ∧ m' ((c.tc : Thread Cert.SmallRefIdeal.nD Cert.SmallRefIdeal.τ).loc Cert.SmallRefIdeal.main_arg47) = m ((c.tc : Thread Cert.SmallIdeal.nD Cert.SmallIdeal.τ).loc Cert.SmallIdeal.main_arg47)
      ∧ m' ((c.tc : Thread Cert.SmallRefIdeal.nD Cert.SmallRefIdeal.τ).loc Cert.SmallRefIdeal.main_arg48) = m ((c.tc : Thread Cert.SmallIdeal.nD Cert.SmallIdeal.τ).loc Cert.SmallIdeal.main_arg48)
      ∧ m' ((c.tc : Thread Cert.SmallRefIdeal.nD Cert.SmallRefIdeal.τ).loc Cert.SmallRefIdeal.main_arg49) = m ((c.tc : Thread Cert.SmallIdeal.nD Cert.SmallIdeal.τ).loc Cert.SmallIdeal.main_arg49)
      ∧ m' ((c.tc : Thread Cert.SmallRefIdeal.nD Cert.SmallRefIdeal.τ).loc Cert.SmallRefIdeal.main_arg50) = m ((c.tc : Thread Cert.SmallIdeal.nD Cert.SmallIdeal.τ).loc Cert.SmallIdeal.main_arg50)
      ∧ m' ((c.tc : Thread Cert.SmallRefIdeal.nD Cert.SmallRefIdeal.τ).loc Cert.SmallRefIdeal.main_arg51) = m ((c.tc : Thread Cert.SmallIdeal.nD Cert.SmallIdeal.τ).loc Cert.SmallIdeal.main_arg51)
      ∧ m' ((c.tc : Thread Cert.SmallRefIdeal.nD Cert.SmallRefIdeal.τ).loc Cert.SmallRefIdeal.main_arg52) = m ((c.tc : Thread Cert.SmallIdeal.nD Cert.SmallIdeal.τ).loc Cert.SmallIdeal.main_arg52)
      ∧ m' ((c.tc : Thread Cert.SmallRefIdeal.nD Cert.SmallRefIdeal.τ).loc Cert.SmallRefIdeal.main_arg53) = m ((c.tc : Thread Cert.SmallIdeal.nD Cert.SmallIdeal.τ).loc Cert.SmallIdeal.main_arg53)
      ∧ m' ((c.tc : Thread Cert.SmallRefIdeal.nD Cert.SmallRefIdeal.τ).loc Cert.SmallRefIdeal.main_arg54) = m ((c.tc : Thread Cert.SmallIdeal.nD Cert.SmallIdeal.τ).loc Cert.SmallIdeal.main_arg54)
      ∧ m' ((c.tc : Thread Cert.SmallRefIdeal.nD Cert.SmallRefIdeal.τ).loc Cert.SmallRefIdeal.main_arg55) = m ((c.tc : Thread Cert.SmallIdeal.nD Cert.SmallIdeal.τ).loc Cert.SmallIdeal.main_arg55)
      ∧ m' ((c.tc : Thread Cert.SmallRefIdeal.nD Cert.SmallRefIdeal.τ).loc Cert.SmallRefIdeal.main_arg56) = m ((c.tc : Thread Cert.SmallIdeal.nD Cert.SmallIdeal.τ).loc Cert.SmallIdeal.main_arg56)
      ∧ m' ((c.tc : Thread Cert.SmallRefIdeal.nD Cert.SmallRefIdeal.τ).loc Cert.SmallRefIdeal.main_arg57) = m ((c.tc : Thread Cert.SmallIdeal.nD Cert.SmallIdeal.τ).loc Cert.SmallIdeal.main_arg57)
      ∧ m' ((c.tc : Thread Cert.SmallRefIdeal.nD Cert.SmallRefIdeal.τ).loc Cert.SmallRefIdeal.main_arg58) = m ((c.tc : Thread Cert.SmallIdeal.nD Cert.SmallIdeal.τ).loc Cert.SmallIdeal.main_arg58)
      ∧ m' ((c.tc : Thread Cert.SmallRefIdeal.nD Cert.SmallRefIdeal.τ).loc Cert.SmallRefIdeal.main_arg59) = m ((c.tc : Thread Cert.SmallIdeal.nD Cert.SmallIdeal.τ).loc Cert.SmallIdeal.main_arg59)
      ∧ m' ((c.tc : Thread Cert.SmallRefIdeal.nD Cert.SmallRefIdeal.τ).loc Cert.SmallRefIdeal.main_arg60) = m ((c.tc : Thread Cert.SmallIdeal.nD Cert.SmallIdeal.τ).loc Cert.SmallIdeal.main_arg60)
      ∧ m' ((c.tc : Thread Cert.SmallRefIdeal.nD Cert.SmallRefIdeal.τ).loc Cert.SmallRefIdeal.main_arg61) = m ((c.tc : Thread Cert.SmallIdeal.nD Cert.SmallIdeal.τ).loc Cert.SmallIdeal.main_arg61)
      ∧ m' ((c.tc : Thread Cert.SmallRefIdeal.nD Cert.SmallRefIdeal.τ).loc Cert.SmallRefIdeal.main_arg62) = m ((c.tc : Thread Cert.SmallIdeal.nD Cert.SmallIdeal.τ).loc Cert.SmallIdeal.main_arg62)
      ∧ m' ((c.tc : Thread Cert.SmallRefIdeal.nD Cert.SmallRefIdeal.τ).loc Cert.SmallRefIdeal.main_arg63) = m ((c.tc : Thread Cert.SmallIdeal.nD Cert.SmallIdeal.τ).loc Cert.SmallIdeal.main_arg63)) →
    ∃ (v0 : (c : Dev Cert.SmallIdeal.nD) → Buf (Elt Ideal) ((c.tc : Thread Cert.SmallIdeal.nD Cert.SmallIdeal.τ).loc Cert.SmallIdeal.main_v79)) (v1 : (c : Dev Cert.SmallIdeal.nD) → Buf (Elt Ideal) ((c.tc : Thread Cert.SmallIdeal.nD Cert.SmallIdeal.τ).loc Cert.SmallIdeal.main_v81)) (v2 : (c : Dev Cert.SmallIdeal.nD) → Buf (Elt Ideal) ((c.tc : Thread Cert.SmallIdeal.nD Cert.SmallIdeal.τ).loc Cert.SmallIdeal.main_v83)) (v3 : (c : Dev Cert.SmallIdeal.nD) → Buf (Elt Ideal) ((c.tc : Thread Cert.SmallIdeal.nD Cert.SmallIdeal.τ).loc Cert.SmallIdeal.main_v85)) (v4 : (c : Dev Cert.SmallIdeal.nD) → Buf (Elt Ideal) ((c.tc : Thread Cert.SmallIdeal.nD Cert.SmallIdeal.τ).loc Cert.SmallIdeal.main_v87)) (v5 : (c : Dev Cert.SmallIdeal.nD) → Buf (Elt Ideal) ((c.tc : Thread Cert.SmallIdeal.nD Cert.SmallIdeal.τ).loc Cert.SmallIdeal.main_v89)) (v6 : (c : Dev Cert.SmallIdeal.nD) → Buf (Elt Ideal) ((c.tc : Thread Cert.SmallIdeal.nD Cert.SmallIdeal.τ).loc Cert.SmallIdeal.main_v91)) (v7 : (c : Dev Cert.SmallIdeal.nD) → Buf (Elt Ideal) ((c.tc : Thread Cert.SmallIdeal.nD Cert.SmallIdeal.τ).loc Cert.SmallIdeal.main_v93)) (v8 : (c : Dev Cert.SmallIdeal.nD) → Buf (Elt Ideal) ((c.tc : Thread Cert.SmallIdeal.nD Cert.SmallIdeal.τ).loc Cert.SmallIdeal.main_v95)) (v9 : (c : Dev Cert.SmallIdeal.nD) → Buf (Elt Ideal) ((c.tc : Thread Cert.SmallIdeal.nD Cert.SmallIdeal.τ).loc Cert.SmallIdeal.main_v97)) (v10 : (c : Dev Cert.SmallIdeal.nD) → Buf (Elt Ideal) ((c.tc : Thread Cert.SmallIdeal.nD Cert.SmallIdeal.τ).loc Cert.SmallIdeal.main_v99)) (v11 : (c : Dev Cert.SmallIdeal.nD) → Buf (Elt Ideal) ((c.tc : Thread Cert.SmallIdeal.nD Cert.SmallIdeal.τ).loc Cert.SmallIdeal.main_v101)) (v12 : (c : Dev Cert.SmallIdeal.nD) → Buf (Elt Ideal) ((c.tc : Thread Cert.SmallIdeal.nD Cert.SmallIdeal.τ).loc Cert.SmallIdeal.main_v103)) (v13 : (c : Dev Cert.SmallIdeal.nD) → Buf (Elt Ideal) ((c.tc : Thread Cert.SmallIdeal.nD Cert.SmallIdeal.τ).loc Cert.SmallIdeal.main_v105)) (v14 : (c : Dev Cert.SmallIdeal.nD) → Buf (Elt Ideal) ((c.tc : Thread Cert.SmallIdeal.nD Cert.SmallIdeal.τ).loc Cert.SmallIdeal.main_v107)) (v15 : (c : Dev Cert.SmallIdeal.nD) → Buf (Elt Ideal) ((c.tc : Thread Cert.SmallIdeal.nD Cert.SmallIdeal.τ).loc Cert.SmallIdeal.main_v109)) (v16 : (c : Dev Cert.SmallIdeal.nD) → Buf (Elt Ideal) ((c.tc : Thread Cert.SmallIdeal.nD Cert.SmallIdeal.τ).loc Cert.SmallIdeal.main_v112)) (v17 : (c : Dev Cert.SmallIdeal.nD) → Buf (Elt Ideal) ((c.tc : Thread Cert.SmallIdeal.nD Cert.SmallIdeal.τ).loc Cert.SmallIdeal.main_v114)) (v18 : (c : Dev Cert.SmallIdeal.nD) → Buf (Elt Ideal) ((c.tc : Thread Cert.SmallIdeal.nD Cert.SmallIdeal.τ).loc Cert.SmallIdeal.main_v116)) (v19 : (c : Dev Cert.SmallIdeal.nD) → Buf (Elt Ideal) ((c.tc : Thread Cert.SmallIdeal.nD Cert.SmallIdeal.τ).loc Cert.SmallIdeal.main_v118)) (v20 : (c : Dev Cert.SmallIdeal.nD) → Buf (Elt Ideal) ((c.tc : Thread Cert.SmallIdeal.nD Cert.SmallIdeal.τ).loc Cert.SmallIdeal.main_v120)) (v21 : (c : Dev Cert.SmallIdeal.nD) → Buf (Elt Ideal) ((c.tc : Thread Cert.SmallIdeal.nD Cert.SmallIdeal.τ).loc Cert.SmallIdeal.main_v122)) (v22 : (c : Dev Cert.SmallIdeal.nD) → Buf (Elt Ideal) ((c.tc : Thread Cert.SmallIdeal.nD Cert.SmallIdeal.τ).loc Cert.SmallIdeal.main_v124)) (v23 : (c : Dev Cert.SmallIdeal.nD) → Buf (Elt Ideal) ((c.tc : Thread Cert.SmallIdeal.nD Cert.SmallIdeal.τ).loc Cert.SmallIdeal.main_v126)) (v24 : (c : Dev Cert.SmallIdeal.nD) → Buf (Elt Ideal) ((c.tc : Thread Cert.SmallIdeal.nD Cert.SmallIdeal.τ).loc Cert.SmallIdeal.main_v128)) (v25 : (c : Dev Cert.SmallIdeal.nD) → Buf (Elt Ideal) ((c.tc : Thread Cert.SmallIdeal.nD Cert.SmallIdeal.τ).loc Cert.SmallIdeal.main_v130)) (v26 : (c : Dev Cert.SmallIdeal.nD) → Buf (Elt Ideal) ((c.tc : Thread Cert.SmallIdeal.nD Cert.SmallIdeal.τ).loc Cert.SmallIdeal.main_v132)) (v27 : (c : Dev Cert.SmallIdeal.nD) → Buf (Elt Ideal) ((c.tc : Thread Cert.SmallIdeal.nD Cert.SmallIdeal.τ).loc Cert.SmallIdeal.main_v134)) (v28 : (c : Dev Cert.SmallIdeal.nD) → Buf (Elt Ideal) ((c.tc : Thread Cert.SmallIdeal.nD Cert.SmallIdeal.τ).loc Cert.SmallIdeal.main_v136)) (v29 : (c : Dev Cert.SmallIdeal.nD) → Buf (Elt Ideal) ((c.tc : Thread Cert.SmallIdeal.nD Cert.SmallIdeal.τ).loc Cert.SmallIdeal.main_v138)) (v30 : (c : Dev Cert.SmallIdeal.nD) → Buf (Elt Ideal) ((c.tc : Thread Cert.SmallIdeal.nD Cert.SmallIdeal.τ).loc Cert.SmallIdeal.main_v140)) (v31 : (c : Dev Cert.SmallIdeal.nD) → Buf (Elt Ideal) ((c.tc : Thread Cert.SmallIdeal.nD Cert.SmallIdeal.τ).loc Cert.SmallIdeal.main_v142)) (v32 : (c : Dev Cert.SmallIdeal.nD) → Buf (Elt Ideal) ((c.tc : Thread Cert.SmallIdeal.nD Cert.SmallIdeal.τ).loc Cert.SmallIdeal.main_v145)) (v33 : (c : Dev Cert.SmallIdeal.nD) → Buf (Elt Ideal) ((c.tc : Thread Cert.SmallIdeal.nD Cert.SmallIdeal.τ).loc Cert.SmallIdeal.main_v147)) (v34 : (c : Dev Cert.SmallIdeal.nD) → Buf (Elt Ideal) ((c.tc : Thread Cert.SmallIdeal.nD Cert.SmallIdeal.τ).loc Cert.SmallIdeal.main_v149)) (v35 : (c : Dev Cert.SmallIdeal.nD) → Buf (Elt Ideal) ((c.tc : Thread Cert.SmallIdeal.nD Cert.SmallIdeal.τ).loc Cert.SmallIdeal.main_v151)) (v36 : (c : Dev Cert.SmallIdeal.nD) → Buf (Elt Ideal) ((c.tc : Thread Cert.SmallIdeal.nD Cert.SmallIdeal.τ).loc Cert.SmallIdeal.main_v153)) (v37 : (c : Dev Cert.SmallIdeal.nD) → Buf (Elt Ideal) ((c.tc : Thread Cert.SmallIdeal.nD Cert.SmallIdeal.τ).loc Cert.SmallIdeal.main_v155)) (v38 : (c : Dev Cert.SmallIdeal.nD) → Buf (Elt Ideal) ((c.tc : Thread Cert.SmallIdeal.nD Cert.SmallIdeal.τ).loc Cert.SmallIdeal.main_v157)) (v39 : (c : Dev Cert.SmallIdeal.nD) → Buf (Elt Ideal) ((c.tc : Thread Cert.SmallIdeal.nD Cert.SmallIdeal.τ).loc Cert.SmallIdeal.main_v159)) (v40 : (c : Dev Cert.SmallIdeal.nD) → Buf (Elt Ideal) ((c.tc : Thread Cert.SmallIdeal.nD Cert.SmallIdeal.τ).loc Cert.SmallIdeal.main_v161)) (v41 : (c : Dev Cert.SmallIdeal.nD) → Buf (Elt Ideal) ((c.tc : Thread Cert.SmallIdeal.nD Cert.SmallIdeal.τ).loc Cert.SmallIdeal.main_v163)) (v42 : (c : Dev Cert.SmallIdeal.nD) → Buf (Elt Ideal) ((c.tc : Thread Cert.SmallIdeal.nD Cert.SmallIdeal.τ).loc Cert.SmallIdeal.main_v165)) (v43 : (c : Dev Cert.SmallIdeal.nD) → Buf (Elt Ideal) ((c.tc : Thread Cert.SmallIdeal.nD Cert.SmallIdeal.τ).loc Cert.SmallIdeal.main_v167)) (v44 : (c : Dev Cert.SmallIdeal.nD) → Buf (Elt Ideal) ((c.tc : Thread Cert.SmallIdeal.nD Cert.SmallIdeal.τ).loc Cert.SmallIdeal.main_v169)) (v45 : (c : Dev Cert.SmallIdeal.nD) → Buf (Elt Ideal) ((c.tc : Thread Cert.SmallIdeal.nD Cert.SmallIdeal.τ).loc Cert.SmallIdeal.main_v171)) (v46 : (c : Dev Cert.SmallIdeal.nD) → Buf (Elt Ideal) ((c.tc : Thread Cert.SmallIdeal.nD Cert.SmallIdeal.τ).loc Cert.SmallIdeal.main_v173)) (v47 : (c : Dev Cert.SmallIdeal.nD) → Buf (Elt Ideal) ((c.tc : Thread Cert.SmallIdeal.nD Cert.SmallIdeal.τ).loc Cert.SmallIdeal.main_v175)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v79) = v0 c
          ∧ r.2.mem ((c.tc : Thread Cert.SmallIdeal.nD Cert.SmallIdeal.τ).loc Cert.SmallIdeal.main_v81) = v1 c
          ∧ r.2.mem ((c.tc : Thread Cert.SmallIdeal.nD Cert.SmallIdeal.τ).loc Cert.SmallIdeal.main_v83) = v2 c
          ∧ r.2.mem ((c.tc : Thread Cert.SmallIdeal.nD Cert.SmallIdeal.τ).loc Cert.SmallIdeal.main_v85) = v3 c
          ∧ r.2.mem ((c.tc : Thread Cert.SmallIdeal.nD Cert.SmallIdeal.τ).loc Cert.SmallIdeal.main_v87) = v4 c
          ∧ r.2.mem ((c.tc : Thread Cert.SmallIdeal.nD Cert.SmallIdeal.τ).loc Cert.SmallIdeal.main_v89) = v5 c
          ∧ r.2.mem ((c.tc : Thread Cert.SmallIdeal.nD Cert.SmallIdeal.τ).loc Cert.SmallIdeal.main_v91) = v6 c
          ∧ r.2.mem ((c.tc : Thread Cert.SmallIdeal.nD Cert.SmallIdeal.τ).loc Cert.SmallIdeal.main_v93) = v7 c
          ∧ r.2.mem ((c.tc : Thread Cert.SmallIdeal.nD Cert.SmallIdeal.τ).loc Cert.SmallIdeal.main_v95) = v8 c
          ∧ r.2.mem ((c.tc : Thread Cert.SmallIdeal.nD Cert.SmallIdeal.τ).loc Cert.SmallIdeal.main_v97) = v9 c
          ∧ r.2.mem ((c.tc : Thread Cert.SmallIdeal.nD Cert.SmallIdeal.τ).loc Cert.SmallIdeal.main_v99) = v10 c
          ∧ r.2.mem ((c.tc : Thread Cert.SmallIdeal.nD Cert.SmallIdeal.τ).loc Cert.SmallIdeal.main_v101) = v11 c
          ∧ r.2.mem ((c.tc : Thread Cert.SmallIdeal.nD Cert.SmallIdeal.τ).loc Cert.SmallIdeal.main_v103) = v12 c
          ∧ r.2.mem ((c.tc : Thread Cert.SmallIdeal.nD Cert.SmallIdeal.τ).loc Cert.SmallIdeal.main_v105) = v13 c
          ∧ r.2.mem ((c.tc : Thread Cert.SmallIdeal.nD Cert.SmallIdeal.τ).loc Cert.SmallIdeal.main_v107) = v14 c
          ∧ r.2.mem ((c.tc : Thread Cert.SmallIdeal.nD Cert.SmallIdeal.τ).loc Cert.SmallIdeal.main_v109) = v15 c
          ∧ r.2.mem ((c.tc : Thread Cert.SmallIdeal.nD Cert.SmallIdeal.τ).loc Cert.SmallIdeal.main_v112) = v16 c
          ∧ r.2.mem ((c.tc : Thread Cert.SmallIdeal.nD Cert.SmallIdeal.τ).loc Cert.SmallIdeal.main_v114) = v17 c
          ∧ r.2.mem ((c.tc : Thread Cert.SmallIdeal.nD Cert.SmallIdeal.τ).loc Cert.SmallIdeal.main_v116) = v18 c
          ∧ r.2.mem ((c.tc : Thread Cert.SmallIdeal.nD Cert.SmallIdeal.τ).loc Cert.SmallIdeal.main_v118) = v19 c
          ∧ r.2.mem ((c.tc : Thread Cert.SmallIdeal.nD Cert.SmallIdeal.τ).loc Cert.SmallIdeal.main_v120) = v20 c
          ∧ r.2.mem ((c.tc : Thread Cert.SmallIdeal.nD Cert.SmallIdeal.τ).loc Cert.SmallIdeal.main_v122) = v21 c
          ∧ r.2.mem ((c.tc : Thread Cert.SmallIdeal.nD Cert.SmallIdeal.τ).loc Cert.SmallIdeal.main_v124) = v22 c
          ∧ r.2.mem ((c.tc : Thread Cert.SmallIdeal.nD Cert.SmallIdeal.τ).loc Cert.SmallIdeal.main_v126) = v23 c
          ∧ r.2.mem ((c.tc : Thread Cert.SmallIdeal.nD Cert.SmallIdeal.τ).loc Cert.SmallIdeal.main_v128) = v24 c
          ∧ r.2.mem ((c.tc : Thread Cert.SmallIdeal.nD Cert.SmallIdeal.τ).loc Cert.SmallIdeal.main_v130) = v25 c
          ∧ r.2.mem ((c.tc : Thread Cert.SmallIdeal.nD Cert.SmallIdeal.τ).loc Cert.SmallIdeal.main_v132) = v26 c
          ∧ r.2.mem ((c.tc : Thread Cert.SmallIdeal.nD Cert.SmallIdeal.τ).loc Cert.SmallIdeal.main_v134) = v27 c
          ∧ r.2.mem ((c.tc : Thread Cert.SmallIdeal.nD Cert.SmallIdeal.τ).loc Cert.SmallIdeal.main_v136) = v28 c
          ∧ r.2.mem ((c.tc : Thread Cert.SmallIdeal.nD Cert.SmallIdeal.τ).loc Cert.SmallIdeal.main_v138) = v29 c
          ∧ r.2.mem ((c.tc : Thread Cert.SmallIdeal.nD Cert.SmallIdeal.τ).loc Cert.SmallIdeal.main_v140) = v30 c
          ∧ r.2.mem ((c.tc : Thread Cert.SmallIdeal.nD Cert.SmallIdeal.τ).loc Cert.SmallIdeal.main_v142) = v31 c
          ∧ r.2.mem ((c.tc : Thread Cert.SmallIdeal.nD Cert.SmallIdeal.τ).loc Cert.SmallIdeal.main_v145) = v32 c
          ∧ r.2.mem ((c.tc : Thread Cert.SmallIdeal.nD Cert.SmallIdeal.τ).loc Cert.SmallIdeal.main_v147) = v33 c
          ∧ r.2.mem ((c.tc : Thread Cert.SmallIdeal.nD Cert.SmallIdeal.τ).loc Cert.SmallIdeal.main_v149) = v34 c
          ∧ r.2.mem ((c.tc : Thread Cert.SmallIdeal.nD Cert.SmallIdeal.τ).loc Cert.SmallIdeal.main_v151) = v35 c
          ∧ r.2.mem ((c.tc : Thread Cert.SmallIdeal.nD Cert.SmallIdeal.τ).loc Cert.SmallIdeal.main_v153) = v36 c
          ∧ r.2.mem ((c.tc : Thread Cert.SmallIdeal.nD Cert.SmallIdeal.τ).loc Cert.SmallIdeal.main_v155) = v37 c
          ∧ r.2.mem ((c.tc : Thread Cert.SmallIdeal.nD Cert.SmallIdeal.τ).loc Cert.SmallIdeal.main_v157) = v38 c
          ∧ r.2.mem ((c.tc : Thread Cert.SmallIdeal.nD Cert.SmallIdeal.τ).loc Cert.SmallIdeal.main_v159) = v39 c
          ∧ r.2.mem ((c.tc : Thread Cert.SmallIdeal.nD Cert.SmallIdeal.τ).loc Cert.SmallIdeal.main_v161) = v40 c
          ∧ r.2.mem ((c.tc : Thread Cert.SmallIdeal.nD Cert.SmallIdeal.τ).loc Cert.SmallIdeal.main_v163) = v41 c
          ∧ r.2.mem ((c.tc : Thread Cert.SmallIdeal.nD Cert.SmallIdeal.τ).loc Cert.SmallIdeal.main_v165) = v42 c
          ∧ r.2.mem ((c.tc : Thread Cert.SmallIdeal.nD Cert.SmallIdeal.τ).loc Cert.SmallIdeal.main_v167) = v43 c
          ∧ r.2.mem ((c.tc : Thread Cert.SmallIdeal.nD Cert.SmallIdeal.τ).loc Cert.SmallIdeal.main_v169) = v44 c
          ∧ r.2.mem ((c.tc : Thread Cert.SmallIdeal.nD Cert.SmallIdeal.τ).loc Cert.SmallIdeal.main_v171) = v45 c
          ∧ r.2.mem ((c.tc : Thread Cert.SmallIdeal.nD Cert.SmallIdeal.τ).loc Cert.SmallIdeal.main_v173) = v46 c
          ∧ r.2.mem ((c.tc : Thread Cert.SmallIdeal.nD Cert.SmallIdeal.τ).loc Cert.SmallIdeal.main_v175) = v47 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
          ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
          ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
          ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
          ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
          ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35)
          ∧ r.2.mem ((c.tc : Thread Cert.SmallIdeal.nD Cert.SmallIdeal.τ).loc Cert.SmallIdeal.main_arg36) = m ((c.tc : Thread Cert.SmallIdeal.nD Cert.SmallIdeal.τ).loc Cert.SmallIdeal.main_arg36)
          ∧ r.2.mem ((c.tc : Thread Cert.SmallIdeal.nD Cert.SmallIdeal.τ).loc Cert.SmallIdeal.main_arg37) = m ((c.tc : Thread Cert.SmallIdeal.nD Cert.SmallIdeal.τ).loc Cert.SmallIdeal.main_arg37)
          ∧ r.2.mem ((c.tc : Thread Cert.SmallIdeal.nD Cert.SmallIdeal.τ).loc Cert.SmallIdeal.main_arg38) = m ((c.tc : Thread Cert.SmallIdeal.nD Cert.SmallIdeal.τ).loc Cert.SmallIdeal.main_arg38)
          ∧ r.2.mem ((c.tc : Thread Cert.SmallIdeal.nD Cert.SmallIdeal.τ).loc Cert.SmallIdeal.main_arg39) = m ((c.tc : Thread Cert.SmallIdeal.nD Cert.SmallIdeal.τ).loc Cert.SmallIdeal.main_arg39)
          ∧ r.2.mem ((c.tc : Thread Cert.SmallIdeal.nD Cert.SmallIdeal.τ).loc Cert.SmallIdeal.main_arg40) = m ((c.tc : Thread Cert.SmallIdeal.nD Cert.SmallIdeal.τ).loc Cert.SmallIdeal.main_arg40)
          ∧ r.2.mem ((c.tc : Thread Cert.SmallIdeal.nD Cert.SmallIdeal.τ).loc Cert.SmallIdeal.main_arg41) = m ((c.tc : Thread Cert.SmallIdeal.nD Cert.SmallIdeal.τ).loc Cert.SmallIdeal.main_arg41)
          ∧ r.2.mem ((c.tc : Thread Cert.SmallIdeal.nD Cert.SmallIdeal.τ).loc Cert.SmallIdeal.main_arg42) = m ((c.tc : Thread Cert.SmallIdeal.nD Cert.SmallIdeal.τ).loc Cert.SmallIdeal.main_arg42)
          ∧ r.2.mem ((c.tc : Thread Cert.SmallIdeal.nD Cert.SmallIdeal.τ).loc Cert.SmallIdeal.main_arg43) = m ((c.tc : Thread Cert.SmallIdeal.nD Cert.SmallIdeal.τ).loc Cert.SmallIdeal.main_arg43)
          ∧ r.2.mem ((c.tc : Thread Cert.SmallIdeal.nD Cert.SmallIdeal.τ).loc Cert.SmallIdeal.main_arg44) = m ((c.tc : Thread Cert.SmallIdeal.nD Cert.SmallIdeal.τ).loc Cert.SmallIdeal.main_arg44)
          ∧ r.2.mem ((c.tc : Thread Cert.SmallIdeal.nD Cert.SmallIdeal.τ).loc Cert.SmallIdeal.main_arg45) = m ((c.tc : Thread Cert.SmallIdeal.nD Cert.SmallIdeal.τ).loc Cert.SmallIdeal.main_arg45)
          ∧ r.2.mem ((c.tc : Thread Cert.SmallIdeal.nD Cert.SmallIdeal.τ).loc Cert.SmallIdeal.main_arg46) = m ((c.tc : Thread Cert.SmallIdeal.nD Cert.SmallIdeal.τ).loc Cert.SmallIdeal.main_arg46)
          ∧ r.2.mem ((c.tc : Thread Cert.SmallIdeal.nD Cert.SmallIdeal.τ).loc Cert.SmallIdeal.main_arg47) = m ((c.tc : Thread Cert.SmallIdeal.nD Cert.SmallIdeal.τ).loc Cert.SmallIdeal.main_arg47)
          ∧ r.2.mem ((c.tc : Thread Cert.SmallIdeal.nD Cert.SmallIdeal.τ).loc Cert.SmallIdeal.main_arg48) = m ((c.tc : Thread Cert.SmallIdeal.nD Cert.SmallIdeal.τ).loc Cert.SmallIdeal.main_arg48)
          ∧ r.2.mem ((c.tc : Thread Cert.SmallIdeal.nD Cert.SmallIdeal.τ).loc Cert.SmallIdeal.main_arg49) = m ((c.tc : Thread Cert.SmallIdeal.nD Cert.SmallIdeal.τ).loc Cert.SmallIdeal.main_arg49)
          ∧ r.2.mem ((c.tc : Thread Cert.SmallIdeal.nD Cert.SmallIdeal.τ).loc Cert.SmallIdeal.main_arg50) = m ((c.tc : Thread Cert.SmallIdeal.nD Cert.SmallIdeal.τ).loc Cert.SmallIdeal.main_arg50)
          ∧ r.2.mem ((c.tc : Thread Cert.SmallIdeal.nD Cert.SmallIdeal.τ).loc Cert.SmallIdeal.main_arg51) = m ((c.tc : Thread Cert.SmallIdeal.nD Cert.SmallIdeal.τ).loc Cert.SmallIdeal.main_arg51)
          ∧ r.2.mem ((c.tc : Thread Cert.SmallIdeal.nD Cert.SmallIdeal.τ).loc Cert.SmallIdeal.main_arg52) = m ((c.tc : Thread Cert.SmallIdeal.nD Cert.SmallIdeal.τ).loc Cert.SmallIdeal.main_arg52)
          ∧ r.2.mem ((c.tc : Thread Cert.SmallIdeal.nD Cert.SmallIdeal.τ).loc Cert.SmallIdeal.main_arg53) = m ((c.tc : Thread Cert.SmallIdeal.nD Cert.SmallIdeal.τ).loc Cert.SmallIdeal.main_arg53)
          ∧ r.2.mem ((c.tc : Thread Cert.SmallIdeal.nD Cert.SmallIdeal.τ).loc Cert.SmallIdeal.main_arg54) = m ((c.tc : Thread Cert.SmallIdeal.nD Cert.SmallIdeal.τ).loc Cert.SmallIdeal.main_arg54)
          ∧ r.2.mem ((c.tc : Thread Cert.SmallIdeal.nD Cert.SmallIdeal.τ).loc Cert.SmallIdeal.main_arg55) = m ((c.tc : Thread Cert.SmallIdeal.nD Cert.SmallIdeal.τ).loc Cert.SmallIdeal.main_arg55)
          ∧ r.2.mem ((c.tc : Thread Cert.SmallIdeal.nD Cert.SmallIdeal.τ).loc Cert.SmallIdeal.main_arg56) = m ((c.tc : Thread Cert.SmallIdeal.nD Cert.SmallIdeal.τ).loc Cert.SmallIdeal.main_arg56)
          ∧ r.2.mem ((c.tc : Thread Cert.SmallIdeal.nD Cert.SmallIdeal.τ).loc Cert.SmallIdeal.main_arg57) = m ((c.tc : Thread Cert.SmallIdeal.nD Cert.SmallIdeal.τ).loc Cert.SmallIdeal.main_arg57)
          ∧ r.2.mem ((c.tc : Thread Cert.SmallIdeal.nD Cert.SmallIdeal.τ).loc Cert.SmallIdeal.main_arg58) = m ((c.tc : Thread Cert.SmallIdeal.nD Cert.SmallIdeal.τ).loc Cert.SmallIdeal.main_arg58)
          ∧ r.2.mem ((c.tc : Thread Cert.SmallIdeal.nD Cert.SmallIdeal.τ).loc Cert.SmallIdeal.main_arg59) = m ((c.tc : Thread Cert.SmallIdeal.nD Cert.SmallIdeal.τ).loc Cert.SmallIdeal.main_arg59)
          ∧ r.2.mem ((c.tc : Thread Cert.SmallIdeal.nD Cert.SmallIdeal.τ).loc Cert.SmallIdeal.main_arg60) = m ((c.tc : Thread Cert.SmallIdeal.nD Cert.SmallIdeal.τ).loc Cert.SmallIdeal.main_arg60)
          ∧ r.2.mem ((c.tc : Thread Cert.SmallIdeal.nD Cert.SmallIdeal.τ).loc Cert.SmallIdeal.main_arg61) = m ((c.tc : Thread Cert.SmallIdeal.nD Cert.SmallIdeal.τ).loc Cert.SmallIdeal.main_arg61)
          ∧ r.2.mem ((c.tc : Thread Cert.SmallIdeal.nD Cert.SmallIdeal.τ).loc Cert.SmallIdeal.main_arg62) = m ((c.tc : Thread Cert.SmallIdeal.nD Cert.SmallIdeal.τ).loc Cert.SmallIdeal.main_arg62)
          ∧ r.2.mem ((c.tc : Thread Cert.SmallIdeal.nD Cert.SmallIdeal.τ).loc Cert.SmallIdeal.main_arg63) = m ((c.tc : Thread Cert.SmallIdeal.nD Cert.SmallIdeal.τ).loc Cert.SmallIdeal.main_arg63))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v23) = v0 c
          ∧ r.2.mem ((c.tc : Thread Cert.SmallRefIdeal.nD Cert.SmallRefIdeal.τ).loc Cert.SmallRefIdeal.main_v47) = v1 c
          ∧ r.2.mem ((c.tc : Thread Cert.SmallRefIdeal.nD Cert.SmallRefIdeal.τ).loc Cert.SmallRefIdeal.main_v71) = v2 c
          ∧ r.2.mem ((c.tc : Thread Cert.SmallRefIdeal.nD Cert.SmallRefIdeal.τ).loc Cert.SmallRefIdeal.main_v95) = v3 c
          ∧ r.2.mem ((c.tc : Thread Cert.SmallRefIdeal.nD Cert.SmallRefIdeal.τ).loc Cert.SmallRefIdeal.main_v119) = v4 c
          ∧ r.2.mem ((c.tc : Thread Cert.SmallRefIdeal.nD Cert.SmallRefIdeal.τ).loc Cert.SmallRefIdeal.main_v143) = v5 c
          ∧ r.2.mem ((c.tc : Thread Cert.SmallRefIdeal.nD Cert.SmallRefIdeal.τ).loc Cert.SmallRefIdeal.main_v167) = v6 c
          ∧ r.2.mem ((c.tc : Thread Cert.SmallRefIdeal.nD Cert.SmallRefIdeal.τ).loc Cert.SmallRefIdeal.main_v191) = v7 c
          ∧ r.2.mem ((c.tc : Thread Cert.SmallRefIdeal.nD Cert.SmallRefIdeal.τ).loc Cert.SmallRefIdeal.main_v215) = v8 c
          ∧ r.2.mem ((c.tc : Thread Cert.SmallRefIdeal.nD Cert.SmallRefIdeal.τ).loc Cert.SmallRefIdeal.main_v239) = v9 c
          ∧ r.2.mem ((c.tc : Thread Cert.SmallRefIdeal.nD Cert.SmallRefIdeal.τ).loc Cert.SmallRefIdeal.main_v263) = v10 c
          ∧ r.2.mem ((c.tc : Thread Cert.SmallRefIdeal.nD Cert.SmallRefIdeal.τ).loc Cert.SmallRefIdeal.main_v287) = v11 c
          ∧ r.2.mem ((c.tc : Thread Cert.SmallRefIdeal.nD Cert.SmallRefIdeal.τ).loc Cert.SmallRefIdeal.main_v311) = v12 c
          ∧ r.2.mem ((c.tc : Thread Cert.SmallRefIdeal.nD Cert.SmallRefIdeal.τ).loc Cert.SmallRefIdeal.main_v335) = v13 c
          ∧ r.2.mem ((c.tc : Thread Cert.SmallRefIdeal.nD Cert.SmallRefIdeal.τ).loc Cert.SmallRefIdeal.main_v359) = v14 c
          ∧ r.2.mem ((c.tc : Thread Cert.SmallRefIdeal.nD Cert.SmallRefIdeal.τ).loc Cert.SmallRefIdeal.main_v383) = v15 c
          ∧ r.2.mem ((c.tc : Thread Cert.SmallRefIdeal.nD Cert.SmallRefIdeal.τ).loc Cert.SmallRefIdeal.main_v4) = v16 c
          ∧ r.2.mem ((c.tc : Thread Cert.SmallRefIdeal.nD Cert.SmallRefIdeal.τ).loc Cert.SmallRefIdeal.main_v28) = v17 c
          ∧ r.2.mem ((c.tc : Thread Cert.SmallRefIdeal.nD Cert.SmallRefIdeal.τ).loc Cert.SmallRefIdeal.main_v52) = v18 c
          ∧ r.2.mem ((c.tc : Thread Cert.SmallRefIdeal.nD Cert.SmallRefIdeal.τ).loc Cert.SmallRefIdeal.main_v76) = v19 c
          ∧ r.2.mem ((c.tc : Thread Cert.SmallRefIdeal.nD Cert.SmallRefIdeal.τ).loc Cert.SmallRefIdeal.main_v100) = v20 c
          ∧ r.2.mem ((c.tc : Thread Cert.SmallRefIdeal.nD Cert.SmallRefIdeal.τ).loc Cert.SmallRefIdeal.main_v124) = v21 c
          ∧ r.2.mem ((c.tc : Thread Cert.SmallRefIdeal.nD Cert.SmallRefIdeal.τ).loc Cert.SmallRefIdeal.main_v148) = v22 c
          ∧ r.2.mem ((c.tc : Thread Cert.SmallRefIdeal.nD Cert.SmallRefIdeal.τ).loc Cert.SmallRefIdeal.main_v172) = v23 c
          ∧ r.2.mem ((c.tc : Thread Cert.SmallRefIdeal.nD Cert.SmallRefIdeal.τ).loc Cert.SmallRefIdeal.main_v196) = v24 c
          ∧ r.2.mem ((c.tc : Thread Cert.SmallRefIdeal.nD Cert.SmallRefIdeal.τ).loc Cert.SmallRefIdeal.main_v220) = v25 c
          ∧ r.2.mem ((c.tc : Thread Cert.SmallRefIdeal.nD Cert.SmallRefIdeal.τ).loc Cert.SmallRefIdeal.main_v244) = v26 c
          ∧ r.2.mem ((c.tc : Thread Cert.SmallRefIdeal.nD Cert.SmallRefIdeal.τ).loc Cert.SmallRefIdeal.main_v268) = v27 c
          ∧ r.2.mem ((c.tc : Thread Cert.SmallRefIdeal.nD Cert.SmallRefIdeal.τ).loc Cert.SmallRefIdeal.main_v292) = v28 c
          ∧ r.2.mem ((c.tc : Thread Cert.SmallRefIdeal.nD Cert.SmallRefIdeal.τ).loc Cert.SmallRefIdeal.main_v316) = v29 c
          ∧ r.2.mem ((c.tc : Thread Cert.SmallRefIdeal.nD Cert.SmallRefIdeal.τ).loc Cert.SmallRefIdeal.main_v340) = v30 c
          ∧ r.2.mem ((c.tc : Thread Cert.SmallRefIdeal.nD Cert.SmallRefIdeal.τ).loc Cert.SmallRefIdeal.main_v364) = v31 c
          ∧ r.2.mem ((c.tc : Thread Cert.SmallRefIdeal.nD Cert.SmallRefIdeal.τ).loc Cert.SmallRefIdeal.main_v10) = v32 c
          ∧ r.2.mem ((c.tc : Thread Cert.SmallRefIdeal.nD Cert.SmallRefIdeal.τ).loc Cert.SmallRefIdeal.main_v34) = v33 c
          ∧ r.2.mem ((c.tc : Thread Cert.SmallRefIdeal.nD Cert.SmallRefIdeal.τ).loc Cert.SmallRefIdeal.main_v58) = v34 c
          ∧ r.2.mem ((c.tc : Thread Cert.SmallRefIdeal.nD Cert.SmallRefIdeal.τ).loc Cert.SmallRefIdeal.main_v82) = v35 c
          ∧ r.2.mem ((c.tc : Thread Cert.SmallRefIdeal.nD Cert.SmallRefIdeal.τ).loc Cert.SmallRefIdeal.main_v106) = v36 c
          ∧ r.2.mem ((c.tc : Thread Cert.SmallRefIdeal.nD Cert.SmallRefIdeal.τ).loc Cert.SmallRefIdeal.main_v130) = v37 c
          ∧ r.2.mem ((c.tc : Thread Cert.SmallRefIdeal.nD Cert.SmallRefIdeal.τ).loc Cert.SmallRefIdeal.main_v154) = v38 c
          ∧ r.2.mem ((c.tc : Thread Cert.SmallRefIdeal.nD Cert.SmallRefIdeal.τ).loc Cert.SmallRefIdeal.main_v178) = v39 c
          ∧ r.2.mem ((c.tc : Thread Cert.SmallRefIdeal.nD Cert.SmallRefIdeal.τ).loc Cert.SmallRefIdeal.main_v202) = v40 c
          ∧ r.2.mem ((c.tc : Thread Cert.SmallRefIdeal.nD Cert.SmallRefIdeal.τ).loc Cert.SmallRefIdeal.main_v226) = v41 c
          ∧ r.2.mem ((c.tc : Thread Cert.SmallRefIdeal.nD Cert.SmallRefIdeal.τ).loc Cert.SmallRefIdeal.main_v250) = v42 c
          ∧ r.2.mem ((c.tc : Thread Cert.SmallRefIdeal.nD Cert.SmallRefIdeal.τ).loc Cert.SmallRefIdeal.main_v274) = v43 c
          ∧ r.2.mem ((c.tc : Thread Cert.SmallRefIdeal.nD Cert.SmallRefIdeal.τ).loc Cert.SmallRefIdeal.main_v298) = v44 c
          ∧ r.2.mem ((c.tc : Thread Cert.SmallRefIdeal.nD Cert.SmallRefIdeal.τ).loc Cert.SmallRefIdeal.main_v322) = v45 c
          ∧ r.2.mem ((c.tc : Thread Cert.SmallRefIdeal.nD Cert.SmallRefIdeal.τ).loc Cert.SmallRefIdeal.main_v346) = v46 c
          ∧ r.2.mem ((c.tc : Thread Cert.SmallRefIdeal.nD Cert.SmallRefIdeal.τ).loc Cert.SmallRefIdeal.main_v370) = v47 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20)
          ∧ r.2.mem ((c.tc : Thread Cert.SmallRefIdeal.nD Cert.SmallRefIdeal.τ).loc Cert.SmallRefIdeal.main_arg21) = m' ((c.tc : Thread Cert.SmallRefIdeal.nD Cert.SmallRefIdeal.τ).loc Cert.SmallRefIdeal.main_arg21)
          ∧ r.2.mem ((c.tc : Thread Cert.SmallRefIdeal.nD Cert.SmallRefIdeal.τ).loc Cert.SmallRefIdeal.main_arg22) = m' ((c.tc : Thread Cert.SmallRefIdeal.nD Cert.SmallRefIdeal.τ).loc Cert.SmallRefIdeal.main_arg22)
          ∧ r.2.mem ((c.tc : Thread Cert.SmallRefIdeal.nD Cert.SmallRefIdeal.τ).loc Cert.SmallRefIdeal.main_arg23) = m' ((c.tc : Thread Cert.SmallRefIdeal.nD Cert.SmallRefIdeal.τ).loc Cert.SmallRefIdeal.main_arg23)
          ∧ r.2.mem ((c.tc : Thread Cert.SmallRefIdeal.nD Cert.SmallRefIdeal.τ).loc Cert.SmallRefIdeal.main_arg24) = m' ((c.tc : Thread Cert.SmallRefIdeal.nD Cert.SmallRefIdeal.τ).loc Cert.SmallRefIdeal.main_arg24)
          ∧ r.2.mem ((c.tc : Thread Cert.SmallRefIdeal.nD Cert.SmallRefIdeal.τ).loc Cert.SmallRefIdeal.main_arg25) = m' ((c.tc : Thread Cert.SmallRefIdeal.nD Cert.SmallRefIdeal.τ).loc Cert.SmallRefIdeal.main_arg25)
          ∧ r.2.mem ((c.tc : Thread Cert.SmallRefIdeal.nD Cert.SmallRefIdeal.τ).loc Cert.SmallRefIdeal.main_arg26) = m' ((c.tc : Thread Cert.SmallRefIdeal.nD Cert.SmallRefIdeal.τ).loc Cert.SmallRefIdeal.main_arg26)
          ∧ r.2.mem ((c.tc : Thread Cert.SmallRefIdeal.nD Cert.SmallRefIdeal.τ).loc Cert.SmallRefIdeal.main_arg27) = m' ((c.tc : Thread Cert.SmallRefIdeal.nD Cert.SmallRefIdeal.τ).loc Cert.SmallRefIdeal.main_arg27)
          ∧ r.2.mem ((c.tc : Thread Cert.SmallRefIdeal.nD Cert.SmallRefIdeal.τ).loc Cert.SmallRefIdeal.main_arg28) = m' ((c.tc : Thread Cert.SmallRefIdeal.nD Cert.SmallRefIdeal.τ).loc Cert.SmallRefIdeal.main_arg28)
          ∧ r.2.mem ((c.tc : Thread Cert.SmallRefIdeal.nD Cert.SmallRefIdeal.τ).loc Cert.SmallRefIdeal.main_arg29) = m' ((c.tc : Thread Cert.SmallRefIdeal.nD Cert.SmallRefIdeal.τ).loc Cert.SmallRefIdeal.main_arg29)
          ∧ r.2.mem ((c.tc : Thread Cert.SmallRefIdeal.nD Cert.SmallRefIdeal.τ).loc Cert.SmallRefIdeal.main_arg30) = m' ((c.tc : Thread Cert.SmallRefIdeal.nD Cert.SmallRefIdeal.τ).loc Cert.SmallRefIdeal.main_arg30)
          ∧ r.2.mem ((c.tc : Thread Cert.SmallRefIdeal.nD Cert.SmallRefIdeal.τ).loc Cert.SmallRefIdeal.main_arg31) = m' ((c.tc : Thread Cert.SmallRefIdeal.nD Cert.SmallRefIdeal.τ).loc Cert.SmallRefIdeal.main_arg31)
          ∧ r.2.mem ((c.tc : Thread Cert.SmallRefIdeal.nD Cert.SmallRefIdeal.τ).loc Cert.SmallRefIdeal.main_arg32) = m' ((c.tc : Thread Cert.SmallRefIdeal.nD Cert.SmallRefIdeal.τ).loc Cert.SmallRefIdeal.main_arg32)
          ∧ r.2.mem ((c.tc : Thread Cert.SmallRefIdeal.nD Cert.SmallRefIdeal.τ).loc Cert.SmallRefIdeal.main_arg33) = m' ((c.tc : Thread Cert.SmallRefIdeal.nD Cert.SmallRefIdeal.τ).loc Cert.SmallRefIdeal.main_arg33)
          ∧ r.2.mem ((c.tc : Thread Cert.SmallRefIdeal.nD Cert.SmallRefIdeal.τ).loc Cert.SmallRefIdeal.main_arg34) = m' ((c.tc : Thread Cert.SmallRefIdeal.nD Cert.SmallRefIdeal.τ).loc Cert.SmallRefIdeal.main_arg34)
          ∧ r.2.mem ((c.tc : Thread Cert.SmallRefIdeal.nD Cert.SmallRefIdeal.τ).loc Cert.SmallRefIdeal.main_arg35) = m' ((c.tc : Thread Cert.SmallRefIdeal.nD Cert.SmallRefIdeal.τ).loc Cert.SmallRefIdeal.main_arg35)
          ∧ r.2.mem ((c.tc : Thread Cert.SmallRefIdeal.nD Cert.SmallRefIdeal.τ).loc Cert.SmallRefIdeal.main_arg36) = m' ((c.tc : Thread Cert.SmallRefIdeal.nD Cert.SmallRefIdeal.τ).loc Cert.SmallRefIdeal.main_arg36)
          ∧ r.2.mem ((c.tc : Thread Cert.SmallRefIdeal.nD Cert.SmallRefIdeal.τ).loc Cert.SmallRefIdeal.main_arg37) = m' ((c.tc : Thread Cert.SmallRefIdeal.nD Cert.SmallRefIdeal.τ).loc Cert.SmallRefIdeal.main_arg37)
          ∧ r.2.mem ((c.tc : Thread Cert.SmallRefIdeal.nD Cert.SmallRefIdeal.τ).loc Cert.SmallRefIdeal.main_arg38) = m' ((c.tc : Thread Cert.SmallRefIdeal.nD Cert.SmallRefIdeal.τ).loc Cert.SmallRefIdeal.main_arg38)
          ∧ r.2.mem ((c.tc : Thread Cert.SmallRefIdeal.nD Cert.SmallRefIdeal.τ).loc Cert.SmallRefIdeal.main_arg39) = m' ((c.tc : Thread Cert.SmallRefIdeal.nD Cert.SmallRefIdeal.τ).loc Cert.SmallRefIdeal.main_arg39)
          ∧ r.2.mem ((c.tc : Thread Cert.SmallRefIdeal.nD Cert.SmallRefIdeal.τ).loc Cert.SmallRefIdeal.main_arg40) = m' ((c.tc : Thread Cert.SmallRefIdeal.nD Cert.SmallRefIdeal.τ).loc Cert.SmallRefIdeal.main_arg40)
          ∧ r.2.mem ((c.tc : Thread Cert.SmallRefIdeal.nD Cert.SmallRefIdeal.τ).loc Cert.SmallRefIdeal.main_arg41) = m' ((c.tc : Thread Cert.SmallRefIdeal.nD Cert.SmallRefIdeal.τ).loc Cert.SmallRefIdeal.main_arg41)
          ∧ r.2.mem ((c.tc : Thread Cert.SmallRefIdeal.nD Cert.SmallRefIdeal.τ).loc Cert.SmallRefIdeal.main_arg42) = m' ((c.tc : Thread Cert.SmallRefIdeal.nD Cert.SmallRefIdeal.τ).loc Cert.SmallRefIdeal.main_arg42)
          ∧ r.2.mem ((c.tc : Thread Cert.SmallRefIdeal.nD Cert.SmallRefIdeal.τ).loc Cert.SmallRefIdeal.main_arg43) = m' ((c.tc : Thread Cert.SmallRefIdeal.nD Cert.SmallRefIdeal.τ).loc Cert.SmallRefIdeal.main_arg43)
          ∧ r.2.mem ((c.tc : Thread Cert.SmallRefIdeal.nD Cert.SmallRefIdeal.τ).loc Cert.SmallRefIdeal.main_arg44) = m' ((c.tc : Thread Cert.SmallRefIdeal.nD Cert.SmallRefIdeal.τ).loc Cert.SmallRefIdeal.main_arg44)
          ∧ r.2.mem ((c.tc : Thread Cert.SmallRefIdeal.nD Cert.SmallRefIdeal.τ).loc Cert.SmallRefIdeal.main_arg45) = m' ((c.tc : Thread Cert.SmallRefIdeal.nD Cert.SmallRefIdeal.τ).loc Cert.SmallRefIdeal.main_arg45)
          ∧ r.2.mem ((c.tc : Thread Cert.SmallRefIdeal.nD Cert.SmallRefIdeal.τ).loc Cert.SmallRefIdeal.main_arg46) = m' ((c.tc : Thread Cert.SmallRefIdeal.nD Cert.SmallRefIdeal.τ).loc Cert.SmallRefIdeal.main_arg46)
          ∧ r.2.mem ((c.tc : Thread Cert.SmallRefIdeal.nD Cert.SmallRefIdeal.τ).loc Cert.SmallRefIdeal.main_arg47) = m' ((c.tc : Thread Cert.SmallRefIdeal.nD Cert.SmallRefIdeal.τ).loc Cert.SmallRefIdeal.main_arg47)
          ∧ r.2.mem ((c.tc : Thread Cert.SmallRefIdeal.nD Cert.SmallRefIdeal.τ).loc Cert.SmallRefIdeal.main_arg48) = m' ((c.tc : Thread Cert.SmallRefIdeal.nD Cert.SmallRefIdeal.τ).loc Cert.SmallRefIdeal.main_arg48)
          ∧ r.2.mem ((c.tc : Thread Cert.SmallRefIdeal.nD Cert.SmallRefIdeal.τ).loc Cert.SmallRefIdeal.main_arg49) = m' ((c.tc : Thread Cert.SmallRefIdeal.nD Cert.SmallRefIdeal.τ).loc Cert.SmallRefIdeal.main_arg49)
          ∧ r.2.mem ((c.tc : Thread Cert.SmallRefIdeal.nD Cert.SmallRefIdeal.τ).loc Cert.SmallRefIdeal.main_arg50) = m' ((c.tc : Thread Cert.SmallRefIdeal.nD Cert.SmallRefIdeal.τ).loc Cert.SmallRefIdeal.main_arg50)
          ∧ r.2.mem ((c.tc : Thread Cert.SmallRefIdeal.nD Cert.SmallRefIdeal.τ).loc Cert.SmallRefIdeal.main_arg51) = m' ((c.tc : Thread Cert.SmallRefIdeal.nD Cert.SmallRefIdeal.τ).loc Cert.SmallRefIdeal.main_arg51)
          ∧ r.2.mem ((c.tc : Thread Cert.SmallRefIdeal.nD Cert.SmallRefIdeal.τ).loc Cert.SmallRefIdeal.main_arg52) = m' ((c.tc : Thread Cert.SmallRefIdeal.nD Cert.SmallRefIdeal.τ).loc Cert.SmallRefIdeal.main_arg52)
          ∧ r.2.mem ((c.tc : Thread Cert.SmallRefIdeal.nD Cert.SmallRefIdeal.τ).loc Cert.SmallRefIdeal.main_arg53) = m' ((c.tc : Thread Cert.SmallRefIdeal.nD Cert.SmallRefIdeal.τ).loc Cert.SmallRefIdeal.main_arg53)
          ∧ r.2.mem ((c.tc : Thread Cert.SmallRefIdeal.nD Cert.SmallRefIdeal.τ).loc Cert.SmallRefIdeal.main_arg54) = m' ((c.tc : Thread Cert.SmallRefIdeal.nD Cert.SmallRefIdeal.τ).loc Cert.SmallRefIdeal.main_arg54)
          ∧ r.2.mem ((c.tc : Thread Cert.SmallRefIdeal.nD Cert.SmallRefIdeal.τ).loc Cert.SmallRefIdeal.main_arg55) = m' ((c.tc : Thread Cert.SmallRefIdeal.nD Cert.SmallRefIdeal.τ).loc Cert.SmallRefIdeal.main_arg55)
          ∧ r.2.mem ((c.tc : Thread Cert.SmallRefIdeal.nD Cert.SmallRefIdeal.τ).loc Cert.SmallRefIdeal.main_arg56) = m' ((c.tc : Thread Cert.SmallRefIdeal.nD Cert.SmallRefIdeal.τ).loc Cert.SmallRefIdeal.main_arg56)
          ∧ r.2.mem ((c.tc : Thread Cert.SmallRefIdeal.nD Cert.SmallRefIdeal.τ).loc Cert.SmallRefIdeal.main_arg57) = m' ((c.tc : Thread Cert.SmallRefIdeal.nD Cert.SmallRefIdeal.τ).loc Cert.SmallRefIdeal.main_arg57)
          ∧ r.2.mem ((c.tc : Thread Cert.SmallRefIdeal.nD Cert.SmallRefIdeal.τ).loc Cert.SmallRefIdeal.main_arg58) = m' ((c.tc : Thread Cert.SmallRefIdeal.nD Cert.SmallRefIdeal.τ).loc Cert.SmallRefIdeal.main_arg58)
          ∧ r.2.mem ((c.tc : Thread Cert.SmallRefIdeal.nD Cert.SmallRefIdeal.τ).loc Cert.SmallRefIdeal.main_arg59) = m' ((c.tc : Thread Cert.SmallRefIdeal.nD Cert.SmallRefIdeal.τ).loc Cert.SmallRefIdeal.main_arg59)
          ∧ r.2.mem ((c.tc : Thread Cert.SmallRefIdeal.nD Cert.SmallRefIdeal.τ).loc Cert.SmallRefIdeal.main_arg60) = m' ((c.tc : Thread Cert.SmallRefIdeal.nD Cert.SmallRefIdeal.τ).loc Cert.SmallRefIdeal.main_arg60)
          ∧ r.2.mem ((c.tc : Thread Cert.SmallRefIdeal.nD Cert.SmallRefIdeal.τ).loc Cert.SmallRefIdeal.main_arg61) = m' ((c.tc : Thread Cert.SmallRefIdeal.nD Cert.SmallRefIdeal.τ).loc Cert.SmallRefIdeal.main_arg61)
          ∧ r.2.mem ((c.tc : Thread Cert.SmallRefIdeal.nD Cert.SmallRefIdeal.τ).loc Cert.SmallRefIdeal.main_arg62) = m' ((c.tc : Thread Cert.SmallRefIdeal.nD Cert.SmallRefIdeal.τ).loc Cert.SmallRefIdeal.main_arg62)
          ∧ r.2.mem ((c.tc : Thread Cert.SmallRefIdeal.nD Cert.SmallRefIdeal.τ).loc Cert.SmallRefIdeal.main_arg63) = m' ((c.tc : Thread Cert.SmallRefIdeal.nD Cert.SmallRefIdeal.τ).loc Cert.SmallRefIdeal.main_arg63))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v0) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v0) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v0) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v0) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_MmInBig_MmInBigIdeal : Prop :=
  True

def algebraic_MmInBigIdeal_MmInBigRefIdeal [hMmInBigIdeal : Cert.MmInBigIdeal.Facts] [hMmInBigRefIdeal : Cert.MmInBigRefIdeal.Facts] : Prop :=
  ∀ (m : (ℓ : Loc Cert.MmInBigIdeal.nD Cert.MmInBigIdeal.τ Cert.MmInBigIdeal.sig) → Buf (Elt Ideal) ℓ) (g : Dev Cert.MmInBigIdeal.nD → PrngReg)
    (m' : (ℓ : Loc Cert.MmInBigRefIdeal.nD Cert.MmInBigRefIdeal.τ Cert.MmInBigRefIdeal.sig) → Buf (Elt Ideal) ℓ) (g' : Dev Cert.MmInBigRefIdeal.nD → PrngReg), Pre_MmInBigIdeal m →
    (∀ c : Dev Cert.MmInBigIdeal.nD,
      m' ((c.tc : Thread Cert.MmInBigRefIdeal.nD Cert.MmInBigRefIdeal.τ).loc Cert.MmInBigRefIdeal.main_arg0) = m ((c.tc : Thread Cert.MmInBigIdeal.nD Cert.MmInBigIdeal.τ).loc Cert.MmInBigIdeal.main_arg0)
      ∧ m' ((c.tc : Thread Cert.MmInBigRefIdeal.nD Cert.MmInBigRefIdeal.τ).loc Cert.MmInBigRefIdeal.main_arg1) = m ((c.tc : Thread Cert.MmInBigIdeal.nD Cert.MmInBigIdeal.τ).loc Cert.MmInBigIdeal.main_arg1)) →
    ∃ (v0 : (c : Dev Cert.MmInBigIdeal.nD) → Buf (Elt Ideal) ((c.tc : Thread Cert.MmInBigIdeal.nD Cert.MmInBigIdeal.τ).loc Cert.MmInBigIdeal.main_v0)),
      θ_run (Cert.MmInBigIdeal.defs (F := Ideal)) (onTc (τ := Cert.MmInBigIdeal.τ) (Cert.MmInBigIdeal.main (F := Ideal))) ⟨m, fun _ => 0, g⟩ (fun r => ∀ c : Dev Cert.MmInBigIdeal.nD,
          r.2.mem ((c.tc : Thread Cert.MmInBigIdeal.nD Cert.MmInBigIdeal.τ).loc Cert.MmInBigIdeal.main_v0) = v0 c
          ∧ r.2.mem ((c.tc : Thread Cert.MmInBigIdeal.nD Cert.MmInBigIdeal.τ).loc Cert.MmInBigIdeal.main_arg0) = m ((c.tc : Thread Cert.MmInBigIdeal.nD Cert.MmInBigIdeal.τ).loc Cert.MmInBigIdeal.main_arg0)
          ∧ r.2.mem ((c.tc : Thread Cert.MmInBigIdeal.nD Cert.MmInBigIdeal.τ).loc Cert.MmInBigIdeal.main_arg1) = m ((c.tc : Thread Cert.MmInBigIdeal.nD Cert.MmInBigIdeal.τ).loc Cert.MmInBigIdeal.main_arg1))
      ∧ θ_run (Cert.MmInBigRefIdeal.defs (F := Ideal)) (onTc (τ := Cert.MmInBigRefIdeal.τ) (Cert.MmInBigRefIdeal.main (F := Ideal))) ⟨m', fun _ => 0, g'⟩ (fun r => ∀ c : Dev Cert.MmInBigRefIdeal.nD,
          r.2.mem ((c.tc : Thread Cert.MmInBigRefIdeal.nD Cert.MmInBigRefIdeal.τ).loc Cert.MmInBigRefIdeal.main_v2) = v0 c
          ∧ r.2.mem ((c.tc : Thread Cert.MmInBigRefIdeal.nD Cert.MmInBigRefIdeal.τ).loc Cert.MmInBigRefIdeal.main_arg0) = m' ((c.tc : Thread Cert.MmInBigRefIdeal.nD Cert.MmInBigRefIdeal.τ).loc Cert.MmInBigRefIdeal.main_arg0)
          ∧ r.2.mem ((c.tc : Thread Cert.MmInBigRefIdeal.nD Cert.MmInBigRefIdeal.τ).loc Cert.MmInBigRefIdeal.main_arg1) = m' ((c.tc : Thread Cert.MmInBigRefIdeal.nD Cert.MmInBigRefIdeal.τ).loc Cert.MmInBigRefIdeal.main_arg1))

def preserves_MmInBigDx_MmInBigDxIdeal : Prop :=
  True

def algebraic_MmInBigDxIdeal_MmInBigDxRefIdeal [hMmInBigDxIdeal : Cert.MmInBigDxIdeal.Facts] [hMmInBigDxRefIdeal : Cert.MmInBigDxRefIdeal.Facts] : Prop :=
  ∀ (m : (ℓ : Loc Cert.MmInBigDxIdeal.nD Cert.MmInBigDxIdeal.τ Cert.MmInBigDxIdeal.sig) → Buf (Elt Ideal) ℓ) (g : Dev Cert.MmInBigDxIdeal.nD → PrngReg)
    (m' : (ℓ : Loc Cert.MmInBigDxRefIdeal.nD Cert.MmInBigDxRefIdeal.τ Cert.MmInBigDxRefIdeal.sig) → Buf (Elt Ideal) ℓ) (g' : Dev Cert.MmInBigDxRefIdeal.nD → PrngReg), Pre_MmInBigDxIdeal m →
    (∀ c : Dev Cert.MmInBigDxIdeal.nD,
      m' ((c.tc : Thread Cert.MmInBigDxRefIdeal.nD Cert.MmInBigDxRefIdeal.τ).loc Cert.MmInBigDxRefIdeal.main_arg0) = m ((c.tc : Thread Cert.MmInBigDxIdeal.nD Cert.MmInBigDxIdeal.τ).loc Cert.MmInBigDxIdeal.main_arg0)
      ∧ m' ((c.tc : Thread Cert.MmInBigDxRefIdeal.nD Cert.MmInBigDxRefIdeal.τ).loc Cert.MmInBigDxRefIdeal.main_arg1) = m ((c.tc : Thread Cert.MmInBigDxIdeal.nD Cert.MmInBigDxIdeal.τ).loc Cert.MmInBigDxIdeal.main_arg1)) →
    ∃ (v0 : (c : Dev Cert.MmInBigDxIdeal.nD) → Buf (Elt Ideal) ((c.tc : Thread Cert.MmInBigDxIdeal.nD Cert.MmInBigDxIdeal.τ).loc Cert.MmInBigDxIdeal.main_v0)),
      θ_run (Cert.MmInBigDxIdeal.defs (F := Ideal)) (onTc (τ := Cert.MmInBigDxIdeal.τ) (Cert.MmInBigDxIdeal.main (F := Ideal))) ⟨m, fun _ => 0, g⟩ (fun r => ∀ c : Dev Cert.MmInBigDxIdeal.nD,
          r.2.mem ((c.tc : Thread Cert.MmInBigDxIdeal.nD Cert.MmInBigDxIdeal.τ).loc Cert.MmInBigDxIdeal.main_v0) = v0 c
          ∧ r.2.mem ((c.tc : Thread Cert.MmInBigDxIdeal.nD Cert.MmInBigDxIdeal.τ).loc Cert.MmInBigDxIdeal.main_arg0) = m ((c.tc : Thread Cert.MmInBigDxIdeal.nD Cert.MmInBigDxIdeal.τ).loc Cert.MmInBigDxIdeal.main_arg0)
          ∧ r.2.mem ((c.tc : Thread Cert.MmInBigDxIdeal.nD Cert.MmInBigDxIdeal.τ).loc Cert.MmInBigDxIdeal.main_arg1) = m ((c.tc : Thread Cert.MmInBigDxIdeal.nD Cert.MmInBigDxIdeal.τ).loc Cert.MmInBigDxIdeal.main_arg1))
      ∧ θ_run (Cert.MmInBigDxRefIdeal.defs (F := Ideal)) (onTc (τ := Cert.MmInBigDxRefIdeal.τ) (Cert.MmInBigDxRefIdeal.main (F := Ideal))) ⟨m', fun _ => 0, g'⟩ (fun r => ∀ c : Dev Cert.MmInBigDxRefIdeal.nD,
          r.2.mem ((c.tc : Thread Cert.MmInBigDxRefIdeal.nD Cert.MmInBigDxRefIdeal.τ).loc Cert.MmInBigDxRefIdeal.main_v3) = v0 c
          ∧ r.2.mem ((c.tc : Thread Cert.MmInBigDxRefIdeal.nD Cert.MmInBigDxRefIdeal.τ).loc Cert.MmInBigDxRefIdeal.main_arg0) = m' ((c.tc : Thread Cert.MmInBigDxRefIdeal.nD Cert.MmInBigDxRefIdeal.τ).loc Cert.MmInBigDxRefIdeal.main_arg0)
          ∧ r.2.mem ((c.tc : Thread Cert.MmInBigDxRefIdeal.nD Cert.MmInBigDxRefIdeal.τ).loc Cert.MmInBigDxRefIdeal.main_arg1) = m' ((c.tc : Thread Cert.MmInBigDxRefIdeal.nD Cert.MmInBigDxRefIdeal.τ).loc Cert.MmInBigDxRefIdeal.main_arg1))

def preserves_MmInBigDw_MmInBigDwIdeal : Prop :=
  True

def algebraic_MmInBigDwIdeal_MmInBigDwRefIdeal [hMmInBigDwIdeal : Cert.MmInBigDwIdeal.Facts] [hMmInBigDwRefIdeal : Cert.MmInBigDwRefIdeal.Facts] : Prop :=
  ∀ (m : (ℓ : Loc Cert.MmInBigDwIdeal.nD Cert.MmInBigDwIdeal.τ Cert.MmInBigDwIdeal.sig) → Buf (Elt Ideal) ℓ) (g : Dev Cert.MmInBigDwIdeal.nD → PrngReg)
    (m' : (ℓ : Loc Cert.MmInBigDwRefIdeal.nD Cert.MmInBigDwRefIdeal.τ Cert.MmInBigDwRefIdeal.sig) → Buf (Elt Ideal) ℓ) (g' : Dev Cert.MmInBigDwRefIdeal.nD → PrngReg), Pre_MmInBigDwIdeal m →
    (∀ c : Dev Cert.MmInBigDwIdeal.nD,
      m' ((c.tc : Thread Cert.MmInBigDwRefIdeal.nD Cert.MmInBigDwRefIdeal.τ).loc Cert.MmInBigDwRefIdeal.main_arg0) = m ((c.tc : Thread Cert.MmInBigDwIdeal.nD Cert.MmInBigDwIdeal.τ).loc Cert.MmInBigDwIdeal.main_arg0)
      ∧ m' ((c.tc : Thread Cert.MmInBigDwRefIdeal.nD Cert.MmInBigDwRefIdeal.τ).loc Cert.MmInBigDwRefIdeal.main_arg1) = m ((c.tc : Thread Cert.MmInBigDwIdeal.nD Cert.MmInBigDwIdeal.τ).loc Cert.MmInBigDwIdeal.main_arg1)) →
    ∃ (v0 : (c : Dev Cert.MmInBigDwIdeal.nD) → Buf (Elt Ideal) ((c.tc : Thread Cert.MmInBigDwIdeal.nD Cert.MmInBigDwIdeal.τ).loc Cert.MmInBigDwIdeal.main_v0)),
      θ_run (Cert.MmInBigDwIdeal.defs (F := Ideal)) (onTc (τ := Cert.MmInBigDwIdeal.τ) (Cert.MmInBigDwIdeal.main (F := Ideal))) ⟨m, fun _ => 0, g⟩ (fun r => ∀ c : Dev Cert.MmInBigDwIdeal.nD,
          r.2.mem ((c.tc : Thread Cert.MmInBigDwIdeal.nD Cert.MmInBigDwIdeal.τ).loc Cert.MmInBigDwIdeal.main_v0) = v0 c
          ∧ r.2.mem ((c.tc : Thread Cert.MmInBigDwIdeal.nD Cert.MmInBigDwIdeal.τ).loc Cert.MmInBigDwIdeal.main_arg0) = m ((c.tc : Thread Cert.MmInBigDwIdeal.nD Cert.MmInBigDwIdeal.τ).loc Cert.MmInBigDwIdeal.main_arg0)
          ∧ r.2.mem ((c.tc : Thread Cert.MmInBigDwIdeal.nD Cert.MmInBigDwIdeal.τ).loc Cert.MmInBigDwIdeal.main_arg1) = m ((c.tc : Thread Cert.MmInBigDwIdeal.nD Cert.MmInBigDwIdeal.τ).loc Cert.MmInBigDwIdeal.main_arg1))
      ∧ θ_run (Cert.MmInBigDwRefIdeal.defs (F := Ideal)) (onTc (τ := Cert.MmInBigDwRefIdeal.τ) (Cert.MmInBigDwRefIdeal.main (F := Ideal))) ⟨m', fun _ => 0, g'⟩ (fun r => ∀ c : Dev Cert.MmInBigDwRefIdeal.nD,
          r.2.mem ((c.tc : Thread Cert.MmInBigDwRefIdeal.nD Cert.MmInBigDwRefIdeal.τ).loc Cert.MmInBigDwRefIdeal.main_v3) = v0 c
          ∧ r.2.mem ((c.tc : Thread Cert.MmInBigDwRefIdeal.nD Cert.MmInBigDwRefIdeal.τ).loc Cert.MmInBigDwRefIdeal.main_arg0) = m' ((c.tc : Thread Cert.MmInBigDwRefIdeal.nD Cert.MmInBigDwRefIdeal.τ).loc Cert.MmInBigDwRefIdeal.main_arg0)
          ∧ r.2.mem ((c.tc : Thread Cert.MmInBigDwRefIdeal.nD Cert.MmInBigDwRefIdeal.τ).loc Cert.MmInBigDwRefIdeal.main_arg1) = m' ((c.tc : Thread Cert.MmInBigDwRefIdeal.nD Cert.MmInBigDwRefIdeal.τ).loc Cert.MmInBigDwRefIdeal.main_arg1))

def preserves_MmInSmall_MmInSmallIdeal : Prop :=
  True

def algebraic_MmInSmallIdeal_MmInSmallRefIdeal [hMmInSmallIdeal : Cert.MmInSmallIdeal.Facts] [hMmInSmallRefIdeal : Cert.MmInSmallRefIdeal.Facts] : Prop :=
  ∀ (m : (ℓ : Loc Cert.MmInSmallIdeal.nD Cert.MmInSmallIdeal.τ Cert.MmInSmallIdeal.sig) → Buf (Elt Ideal) ℓ) (g : Dev Cert.MmInSmallIdeal.nD → PrngReg)
    (m' : (ℓ : Loc Cert.MmInSmallRefIdeal.nD Cert.MmInSmallRefIdeal.τ Cert.MmInSmallRefIdeal.sig) → Buf (Elt Ideal) ℓ) (g' : Dev Cert.MmInSmallRefIdeal.nD → PrngReg), Pre_MmInSmallIdeal m →
    (∀ c : Dev Cert.MmInSmallIdeal.nD,
      m' ((c.tc : Thread Cert.MmInSmallRefIdeal.nD Cert.MmInSmallRefIdeal.τ).loc Cert.MmInSmallRefIdeal.main_arg0) = m ((c.tc : Thread Cert.MmInSmallIdeal.nD Cert.MmInSmallIdeal.τ).loc Cert.MmInSmallIdeal.main_arg0)
      ∧ m' ((c.tc : Thread Cert.MmInSmallRefIdeal.nD Cert.MmInSmallRefIdeal.τ).loc Cert.MmInSmallRefIdeal.main_arg1) = m ((c.tc : Thread Cert.MmInSmallIdeal.nD Cert.MmInSmallIdeal.τ).loc Cert.MmInSmallIdeal.main_arg1)) →
    ∃ (v0 : (c : Dev Cert.MmInSmallIdeal.nD) → Buf (Elt Ideal) ((c.tc : Thread Cert.MmInSmallIdeal.nD Cert.MmInSmallIdeal.τ).loc Cert.MmInSmallIdeal.main_v0)),
      θ_run (Cert.MmInSmallIdeal.defs (F := Ideal)) (onTc (τ := Cert.MmInSmallIdeal.τ) (Cert.MmInSmallIdeal.main (F := Ideal))) ⟨m, fun _ => 0, g⟩ (fun r => ∀ c : Dev Cert.MmInSmallIdeal.nD,
          r.2.mem ((c.tc : Thread Cert.MmInSmallIdeal.nD Cert.MmInSmallIdeal.τ).loc Cert.MmInSmallIdeal.main_v0) = v0 c
          ∧ r.2.mem ((c.tc : Thread Cert.MmInSmallIdeal.nD Cert.MmInSmallIdeal.τ).loc Cert.MmInSmallIdeal.main_arg0) = m ((c.tc : Thread Cert.MmInSmallIdeal.nD Cert.MmInSmallIdeal.τ).loc Cert.MmInSmallIdeal.main_arg0)
          ∧ r.2.mem ((c.tc : Thread Cert.MmInSmallIdeal.nD Cert.MmInSmallIdeal.τ).loc Cert.MmInSmallIdeal.main_arg1) = m ((c.tc : Thread Cert.MmInSmallIdeal.nD Cert.MmInSmallIdeal.τ).loc Cert.MmInSmallIdeal.main_arg1))
      ∧ θ_run (Cert.MmInSmallRefIdeal.defs (F := Ideal)) (onTc (τ := Cert.MmInSmallRefIdeal.τ) (Cert.MmInSmallRefIdeal.main (F := Ideal))) ⟨m', fun _ => 0, g'⟩ (fun r => ∀ c : Dev Cert.MmInSmallRefIdeal.nD,
          r.2.mem ((c.tc : Thread Cert.MmInSmallRefIdeal.nD Cert.MmInSmallRefIdeal.τ).loc Cert.MmInSmallRefIdeal.main_v2) = v0 c
          ∧ r.2.mem ((c.tc : Thread Cert.MmInSmallRefIdeal.nD Cert.MmInSmallRefIdeal.τ).loc Cert.MmInSmallRefIdeal.main_arg0) = m' ((c.tc : Thread Cert.MmInSmallRefIdeal.nD Cert.MmInSmallRefIdeal.τ).loc Cert.MmInSmallRefIdeal.main_arg0)
          ∧ r.2.mem ((c.tc : Thread Cert.MmInSmallRefIdeal.nD Cert.MmInSmallRefIdeal.τ).loc Cert.MmInSmallRefIdeal.main_arg1) = m' ((c.tc : Thread Cert.MmInSmallRefIdeal.nD Cert.MmInSmallRefIdeal.τ).loc Cert.MmInSmallRefIdeal.main_arg1))

def preserves_MmInSmallDx_MmInSmallDxIdeal : Prop :=
  True

def algebraic_MmInSmallDxIdeal_MmInSmallDxRefIdeal [hMmInSmallDxIdeal : Cert.MmInSmallDxIdeal.Facts] [hMmInSmallDxRefIdeal : Cert.MmInSmallDxRefIdeal.Facts] : Prop :=
  ∀ (m : (ℓ : Loc Cert.MmInSmallDxIdeal.nD Cert.MmInSmallDxIdeal.τ Cert.MmInSmallDxIdeal.sig) → Buf (Elt Ideal) ℓ) (g : Dev Cert.MmInSmallDxIdeal.nD → PrngReg)
    (m' : (ℓ : Loc Cert.MmInSmallDxRefIdeal.nD Cert.MmInSmallDxRefIdeal.τ Cert.MmInSmallDxRefIdeal.sig) → Buf (Elt Ideal) ℓ) (g' : Dev Cert.MmInSmallDxRefIdeal.nD → PrngReg), Pre_MmInSmallDxIdeal m →
    (∀ c : Dev Cert.MmInSmallDxIdeal.nD,
      m' ((c.tc : Thread Cert.MmInSmallDxRefIdeal.nD Cert.MmInSmallDxRefIdeal.τ).loc Cert.MmInSmallDxRefIdeal.main_arg0) = m ((c.tc : Thread Cert.MmInSmallDxIdeal.nD Cert.MmInSmallDxIdeal.τ).loc Cert.MmInSmallDxIdeal.main_arg0)
      ∧ m' ((c.tc : Thread Cert.MmInSmallDxRefIdeal.nD Cert.MmInSmallDxRefIdeal.τ).loc Cert.MmInSmallDxRefIdeal.main_arg1) = m ((c.tc : Thread Cert.MmInSmallDxIdeal.nD Cert.MmInSmallDxIdeal.τ).loc Cert.MmInSmallDxIdeal.main_arg1)) →
    ∃ (v0 : (c : Dev Cert.MmInSmallDxIdeal.nD) → Buf (Elt Ideal) ((c.tc : Thread Cert.MmInSmallDxIdeal.nD Cert.MmInSmallDxIdeal.τ).loc Cert.MmInSmallDxIdeal.main_v0)),
      θ_run (Cert.MmInSmallDxIdeal.defs (F := Ideal)) (onTc (τ := Cert.MmInSmallDxIdeal.τ) (Cert.MmInSmallDxIdeal.main (F := Ideal))) ⟨m, fun _ => 0, g⟩ (fun r => ∀ c : Dev Cert.MmInSmallDxIdeal.nD,
          r.2.mem ((c.tc : Thread Cert.MmInSmallDxIdeal.nD Cert.MmInSmallDxIdeal.τ).loc Cert.MmInSmallDxIdeal.main_v0) = v0 c
          ∧ r.2.mem ((c.tc : Thread Cert.MmInSmallDxIdeal.nD Cert.MmInSmallDxIdeal.τ).loc Cert.MmInSmallDxIdeal.main_arg0) = m ((c.tc : Thread Cert.MmInSmallDxIdeal.nD Cert.MmInSmallDxIdeal.τ).loc Cert.MmInSmallDxIdeal.main_arg0)
          ∧ r.2.mem ((c.tc : Thread Cert.MmInSmallDxIdeal.nD Cert.MmInSmallDxIdeal.τ).loc Cert.MmInSmallDxIdeal.main_arg1) = m ((c.tc : Thread Cert.MmInSmallDxIdeal.nD Cert.MmInSmallDxIdeal.τ).loc Cert.MmInSmallDxIdeal.main_arg1))
      ∧ θ_run (Cert.MmInSmallDxRefIdeal.defs (F := Ideal)) (onTc (τ := Cert.MmInSmallDxRefIdeal.τ) (Cert.MmInSmallDxRefIdeal.main (F := Ideal))) ⟨m', fun _ => 0, g'⟩ (fun r => ∀ c : Dev Cert.MmInSmallDxRefIdeal.nD,
          r.2.mem ((c.tc : Thread Cert.MmInSmallDxRefIdeal.nD Cert.MmInSmallDxRefIdeal.τ).loc Cert.MmInSmallDxRefIdeal.main_v3) = v0 c
          ∧ r.2.mem ((c.tc : Thread Cert.MmInSmallDxRefIdeal.nD Cert.MmInSmallDxRefIdeal.τ).loc Cert.MmInSmallDxRefIdeal.main_arg0) = m' ((c.tc : Thread Cert.MmInSmallDxRefIdeal.nD Cert.MmInSmallDxRefIdeal.τ).loc Cert.MmInSmallDxRefIdeal.main_arg0)
          ∧ r.2.mem ((c.tc : Thread Cert.MmInSmallDxRefIdeal.nD Cert.MmInSmallDxRefIdeal.τ).loc Cert.MmInSmallDxRefIdeal.main_arg1) = m' ((c.tc : Thread Cert.MmInSmallDxRefIdeal.nD Cert.MmInSmallDxRefIdeal.τ).loc Cert.MmInSmallDxRefIdeal.main_arg1))

def preserves_MmInSmallDw_MmInSmallDwIdeal : Prop :=
  True

def algebraic_MmInSmallDwIdeal_MmInSmallDwRefIdeal [hMmInSmallDwIdeal : Cert.MmInSmallDwIdeal.Facts] [hMmInSmallDwRefIdeal : Cert.MmInSmallDwRefIdeal.Facts] : Prop :=
  ∀ (m : (ℓ : Loc Cert.MmInSmallDwIdeal.nD Cert.MmInSmallDwIdeal.τ Cert.MmInSmallDwIdeal.sig) → Buf (Elt Ideal) ℓ) (g : Dev Cert.MmInSmallDwIdeal.nD → PrngReg)
    (m' : (ℓ : Loc Cert.MmInSmallDwRefIdeal.nD Cert.MmInSmallDwRefIdeal.τ Cert.MmInSmallDwRefIdeal.sig) → Buf (Elt Ideal) ℓ) (g' : Dev Cert.MmInSmallDwRefIdeal.nD → PrngReg), Pre_MmInSmallDwIdeal m →
    (∀ c : Dev Cert.MmInSmallDwIdeal.nD,
      m' ((c.tc : Thread Cert.MmInSmallDwRefIdeal.nD Cert.MmInSmallDwRefIdeal.τ).loc Cert.MmInSmallDwRefIdeal.main_arg0) = m ((c.tc : Thread Cert.MmInSmallDwIdeal.nD Cert.MmInSmallDwIdeal.τ).loc Cert.MmInSmallDwIdeal.main_arg0)
      ∧ m' ((c.tc : Thread Cert.MmInSmallDwRefIdeal.nD Cert.MmInSmallDwRefIdeal.τ).loc Cert.MmInSmallDwRefIdeal.main_arg1) = m ((c.tc : Thread Cert.MmInSmallDwIdeal.nD Cert.MmInSmallDwIdeal.τ).loc Cert.MmInSmallDwIdeal.main_arg1)) →
    ∃ (v0 : (c : Dev Cert.MmInSmallDwIdeal.nD) → Buf (Elt Ideal) ((c.tc : Thread Cert.MmInSmallDwIdeal.nD Cert.MmInSmallDwIdeal.τ).loc Cert.MmInSmallDwIdeal.main_v0)),
      θ_run (Cert.MmInSmallDwIdeal.defs (F := Ideal)) (onTc (τ := Cert.MmInSmallDwIdeal.τ) (Cert.MmInSmallDwIdeal.main (F := Ideal))) ⟨m, fun _ => 0, g⟩ (fun r => ∀ c : Dev Cert.MmInSmallDwIdeal.nD,
          r.2.mem ((c.tc : Thread Cert.MmInSmallDwIdeal.nD Cert.MmInSmallDwIdeal.τ).loc Cert.MmInSmallDwIdeal.main_v0) = v0 c
          ∧ r.2.mem ((c.tc : Thread Cert.MmInSmallDwIdeal.nD Cert.MmInSmallDwIdeal.τ).loc Cert.MmInSmallDwIdeal.main_arg0) = m ((c.tc : Thread Cert.MmInSmallDwIdeal.nD Cert.MmInSmallDwIdeal.τ).loc Cert.MmInSmallDwIdeal.main_arg0)
          ∧ r.2.mem ((c.tc : Thread Cert.MmInSmallDwIdeal.nD Cert.MmInSmallDwIdeal.τ).loc Cert.MmInSmallDwIdeal.main_arg1) = m ((c.tc : Thread Cert.MmInSmallDwIdeal.nD Cert.MmInSmallDwIdeal.τ).loc Cert.MmInSmallDwIdeal.main_arg1))
      ∧ θ_run (Cert.MmInSmallDwRefIdeal.defs (F := Ideal)) (onTc (τ := Cert.MmInSmallDwRefIdeal.τ) (Cert.MmInSmallDwRefIdeal.main (F := Ideal))) ⟨m', fun _ => 0, g'⟩ (fun r => ∀ c : Dev Cert.MmInSmallDwRefIdeal.nD,
          r.2.mem ((c.tc : Thread Cert.MmInSmallDwRefIdeal.nD Cert.MmInSmallDwRefIdeal.τ).loc Cert.MmInSmallDwRefIdeal.main_v3) = v0 c
          ∧ r.2.mem ((c.tc : Thread Cert.MmInSmallDwRefIdeal.nD Cert.MmInSmallDwRefIdeal.τ).loc Cert.MmInSmallDwRefIdeal.main_arg0) = m' ((c.tc : Thread Cert.MmInSmallDwRefIdeal.nD Cert.MmInSmallDwRefIdeal.τ).loc Cert.MmInSmallDwRefIdeal.main_arg0)
          ∧ r.2.mem ((c.tc : Thread Cert.MmInSmallDwRefIdeal.nD Cert.MmInSmallDwRefIdeal.τ).loc Cert.MmInSmallDwRefIdeal.main_arg1) = m' ((c.tc : Thread Cert.MmInSmallDwRefIdeal.nD Cert.MmInSmallDwRefIdeal.τ).loc Cert.MmInSmallDwRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v2) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1))

def preserves_MmOutDx_MmOutDxIdeal : Prop :=
  True

def algebraic_MmOutDxIdeal_MmOutDxRefIdeal [hMmOutDxIdeal : Cert.MmOutDxIdeal.Facts] [hMmOutDxRefIdeal : Cert.MmOutDxRefIdeal.Facts] : Prop :=
  ∀ (m : (ℓ : Loc Cert.MmOutDxIdeal.nD Cert.MmOutDxIdeal.τ Cert.MmOutDxIdeal.sig) → Buf (Elt Ideal) ℓ) (g : Dev Cert.MmOutDxIdeal.nD → PrngReg)
    (m' : (ℓ : Loc Cert.MmOutDxRefIdeal.nD Cert.MmOutDxRefIdeal.τ Cert.MmOutDxRefIdeal.sig) → Buf (Elt Ideal) ℓ) (g' : Dev Cert.MmOutDxRefIdeal.nD → PrngReg), Pre_MmOutDxIdeal m →
    (∀ c : Dev Cert.MmOutDxIdeal.nD,
      m' ((c.tc : Thread Cert.MmOutDxRefIdeal.nD Cert.MmOutDxRefIdeal.τ).loc Cert.MmOutDxRefIdeal.main_arg0) = m ((c.tc : Thread Cert.MmOutDxIdeal.nD Cert.MmOutDxIdeal.τ).loc Cert.MmOutDxIdeal.main_arg0)
      ∧ m' ((c.tc : Thread Cert.MmOutDxRefIdeal.nD Cert.MmOutDxRefIdeal.τ).loc Cert.MmOutDxRefIdeal.main_arg1) = m ((c.tc : Thread Cert.MmOutDxIdeal.nD Cert.MmOutDxIdeal.τ).loc Cert.MmOutDxIdeal.main_arg1)) →
    ∃ (v0 : (c : Dev Cert.MmOutDxIdeal.nD) → Buf (Elt Ideal) ((c.tc : Thread Cert.MmOutDxIdeal.nD Cert.MmOutDxIdeal.τ).loc Cert.MmOutDxIdeal.main_v0)),
      θ_run (Cert.MmOutDxIdeal.defs (F := Ideal)) (onTc (τ := Cert.MmOutDxIdeal.τ) (Cert.MmOutDxIdeal.main (F := Ideal))) ⟨m, fun _ => 0, g⟩ (fun r => ∀ c : Dev Cert.MmOutDxIdeal.nD,
          r.2.mem ((c.tc : Thread Cert.MmOutDxIdeal.nD Cert.MmOutDxIdeal.τ).loc Cert.MmOutDxIdeal.main_v0) = v0 c
          ∧ r.2.mem ((c.tc : Thread Cert.MmOutDxIdeal.nD Cert.MmOutDxIdeal.τ).loc Cert.MmOutDxIdeal.main_arg0) = m ((c.tc : Thread Cert.MmOutDxIdeal.nD Cert.MmOutDxIdeal.τ).loc Cert.MmOutDxIdeal.main_arg0)
          ∧ r.2.mem ((c.tc : Thread Cert.MmOutDxIdeal.nD Cert.MmOutDxIdeal.τ).loc Cert.MmOutDxIdeal.main_arg1) = m ((c.tc : Thread Cert.MmOutDxIdeal.nD Cert.MmOutDxIdeal.τ).loc Cert.MmOutDxIdeal.main_arg1))
      ∧ θ_run (Cert.MmOutDxRefIdeal.defs (F := Ideal)) (onTc (τ := Cert.MmOutDxRefIdeal.τ) (Cert.MmOutDxRefIdeal.main (F := Ideal))) ⟨m', fun _ => 0, g'⟩ (fun r => ∀ c : Dev Cert.MmOutDxRefIdeal.nD,
          r.2.mem ((c.tc : Thread Cert.MmOutDxRefIdeal.nD Cert.MmOutDxRefIdeal.τ).loc Cert.MmOutDxRefIdeal.main_v3) = v0 c
          ∧ r.2.mem ((c.tc : Thread Cert.MmOutDxRefIdeal.nD Cert.MmOutDxRefIdeal.τ).loc Cert.MmOutDxRefIdeal.main_arg0) = m' ((c.tc : Thread Cert.MmOutDxRefIdeal.nD Cert.MmOutDxRefIdeal.τ).loc Cert.MmOutDxRefIdeal.main_arg0)
          ∧ r.2.mem ((c.tc : Thread Cert.MmOutDxRefIdeal.nD Cert.MmOutDxRefIdeal.τ).loc Cert.MmOutDxRefIdeal.main_arg1) = m' ((c.tc : Thread Cert.MmOutDxRefIdeal.nD Cert.MmOutDxRefIdeal.τ).loc Cert.MmOutDxRefIdeal.main_arg1))

def preserves_MmOutDw_MmOutDwIdeal : Prop :=
  True

def algebraic_MmOutDwIdeal_MmOutDwRefIdeal [hMmOutDwIdeal : Cert.MmOutDwIdeal.Facts] [hMmOutDwRefIdeal : Cert.MmOutDwRefIdeal.Facts] : Prop :=
  ∀ (m : (ℓ : Loc Cert.MmOutDwIdeal.nD Cert.MmOutDwIdeal.τ Cert.MmOutDwIdeal.sig) → Buf (Elt Ideal) ℓ) (g : Dev Cert.MmOutDwIdeal.nD → PrngReg)
    (m' : (ℓ : Loc Cert.MmOutDwRefIdeal.nD Cert.MmOutDwRefIdeal.τ Cert.MmOutDwRefIdeal.sig) → Buf (Elt Ideal) ℓ) (g' : Dev Cert.MmOutDwRefIdeal.nD → PrngReg), Pre_MmOutDwIdeal m →
    (∀ c : Dev Cert.MmOutDwIdeal.nD,
      m' ((c.tc : Thread Cert.MmOutDwRefIdeal.nD Cert.MmOutDwRefIdeal.τ).loc Cert.MmOutDwRefIdeal.main_arg0) = m ((c.tc : Thread Cert.MmOutDwIdeal.nD Cert.MmOutDwIdeal.τ).loc Cert.MmOutDwIdeal.main_arg0)
      ∧ m' ((c.tc : Thread Cert.MmOutDwRefIdeal.nD Cert.MmOutDwRefIdeal.τ).loc Cert.MmOutDwRefIdeal.main_arg1) = m ((c.tc : Thread Cert.MmOutDwIdeal.nD Cert.MmOutDwIdeal.τ).loc Cert.MmOutDwIdeal.main_arg1)) →
    ∃ (v0 : (c : Dev Cert.MmOutDwIdeal.nD) → Buf (Elt Ideal) ((c.tc : Thread Cert.MmOutDwIdeal.nD Cert.MmOutDwIdeal.τ).loc Cert.MmOutDwIdeal.main_v0)),
      θ_run (Cert.MmOutDwIdeal.defs (F := Ideal)) (onTc (τ := Cert.MmOutDwIdeal.τ) (Cert.MmOutDwIdeal.main (F := Ideal))) ⟨m, fun _ => 0, g⟩ (fun r => ∀ c : Dev Cert.MmOutDwIdeal.nD,
          r.2.mem ((c.tc : Thread Cert.MmOutDwIdeal.nD Cert.MmOutDwIdeal.τ).loc Cert.MmOutDwIdeal.main_v0) = v0 c
          ∧ r.2.mem ((c.tc : Thread Cert.MmOutDwIdeal.nD Cert.MmOutDwIdeal.τ).loc Cert.MmOutDwIdeal.main_arg0) = m ((c.tc : Thread Cert.MmOutDwIdeal.nD Cert.MmOutDwIdeal.τ).loc Cert.MmOutDwIdeal.main_arg0)
          ∧ r.2.mem ((c.tc : Thread Cert.MmOutDwIdeal.nD Cert.MmOutDwIdeal.τ).loc Cert.MmOutDwIdeal.main_arg1) = m ((c.tc : Thread Cert.MmOutDwIdeal.nD Cert.MmOutDwIdeal.τ).loc Cert.MmOutDwIdeal.main_arg1))
      ∧ θ_run (Cert.MmOutDwRefIdeal.defs (F := Ideal)) (onTc (τ := Cert.MmOutDwRefIdeal.τ) (Cert.MmOutDwRefIdeal.main (F := Ideal))) ⟨m', fun _ => 0, g'⟩ (fun r => ∀ c : Dev Cert.MmOutDwRefIdeal.nD,
          r.2.mem ((c.tc : Thread Cert.MmOutDwRefIdeal.nD Cert.MmOutDwRefIdeal.τ).loc Cert.MmOutDwRefIdeal.main_v3) = v0 c
          ∧ r.2.mem ((c.tc : Thread Cert.MmOutDwRefIdeal.nD Cert.MmOutDwRefIdeal.τ).loc Cert.MmOutDwRefIdeal.main_arg0) = m' ((c.tc : Thread Cert.MmOutDwRefIdeal.nD Cert.MmOutDwRefIdeal.τ).loc Cert.MmOutDwRefIdeal.main_arg0)
          ∧ r.2.mem ((c.tc : Thread Cert.MmOutDwRefIdeal.nD Cert.MmOutDwRefIdeal.τ).loc Cert.MmOutDwRefIdeal.main_arg1) = m' ((c.tc : Thread Cert.MmOutDwRefIdeal.nD Cert.MmOutDwRefIdeal.τ).loc Cert.MmOutDwRefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v0)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v2) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmUpDx_MmUpDxIdeal : Prop :=
  True

def algebraic_MmUpDxIdeal_MmUpDxRefIdeal [hMmUpDxIdeal : Cert.MmUpDxIdeal.Facts] [hMmUpDxRefIdeal : Cert.MmUpDxRefIdeal.Facts] : Prop :=
  ∀ (m : (ℓ : Loc Cert.MmUpDxIdeal.nD Cert.MmUpDxIdeal.τ Cert.MmUpDxIdeal.sig) → Buf (Elt Ideal) ℓ) (g : Dev Cert.MmUpDxIdeal.nD → PrngReg)
    (m' : (ℓ : Loc Cert.MmUpDxRefIdeal.nD Cert.MmUpDxRefIdeal.τ Cert.MmUpDxRefIdeal.sig) → Buf (Elt Ideal) ℓ) (g' : Dev Cert.MmUpDxRefIdeal.nD → PrngReg), Pre_MmUpDxIdeal m →
    (∀ c : Dev Cert.MmUpDxIdeal.nD,
      m' ((c.tc : Thread Cert.MmUpDxRefIdeal.nD Cert.MmUpDxRefIdeal.τ).loc Cert.MmUpDxRefIdeal.main_arg0) = m ((c.tc : Thread Cert.MmUpDxIdeal.nD Cert.MmUpDxIdeal.τ).loc Cert.MmUpDxIdeal.main_arg0)
      ∧ m' ((c.tc : Thread Cert.MmUpDxRefIdeal.nD Cert.MmUpDxRefIdeal.τ).loc Cert.MmUpDxRefIdeal.main_arg1) = m ((c.tc : Thread Cert.MmUpDxIdeal.nD Cert.MmUpDxIdeal.τ).loc Cert.MmUpDxIdeal.main_arg1)) →
    ∃ (v0 : (c : Dev Cert.MmUpDxIdeal.nD) → Buf (Elt Ideal) ((c.tc : Thread Cert.MmUpDxIdeal.nD Cert.MmUpDxIdeal.τ).loc Cert.MmUpDxIdeal.main_v0)),
      θ_run (Cert.MmUpDxIdeal.defs (F := Ideal)) (onTc (τ := Cert.MmUpDxIdeal.τ) (Cert.MmUpDxIdeal.main (F := Ideal))) ⟨m, fun _ => 0, g⟩ (fun r => ∀ c : Dev Cert.MmUpDxIdeal.nD,
          r.2.mem ((c.tc : Thread Cert.MmUpDxIdeal.nD Cert.MmUpDxIdeal.τ).loc Cert.MmUpDxIdeal.main_v0) = v0 c
          ∧ r.2.mem ((c.tc : Thread Cert.MmUpDxIdeal.nD Cert.MmUpDxIdeal.τ).loc Cert.MmUpDxIdeal.main_arg0) = m ((c.tc : Thread Cert.MmUpDxIdeal.nD Cert.MmUpDxIdeal.τ).loc Cert.MmUpDxIdeal.main_arg0)
          ∧ r.2.mem ((c.tc : Thread Cert.MmUpDxIdeal.nD Cert.MmUpDxIdeal.τ).loc Cert.MmUpDxIdeal.main_arg1) = m ((c.tc : Thread Cert.MmUpDxIdeal.nD Cert.MmUpDxIdeal.τ).loc Cert.MmUpDxIdeal.main_arg1))
      ∧ θ_run (Cert.MmUpDxRefIdeal.defs (F := Ideal)) (onTc (τ := Cert.MmUpDxRefIdeal.τ) (Cert.MmUpDxRefIdeal.main (F := Ideal))) ⟨m', fun _ => 0, g'⟩ (fun r => ∀ c : Dev Cert.MmUpDxRefIdeal.nD,
          r.2.mem ((c.tc : Thread Cert.MmUpDxRefIdeal.nD Cert.MmUpDxRefIdeal.τ).loc Cert.MmUpDxRefIdeal.main_v3) = v0 c
          ∧ r.2.mem ((c.tc : Thread Cert.MmUpDxRefIdeal.nD Cert.MmUpDxRefIdeal.τ).loc Cert.MmUpDxRefIdeal.main_arg0) = m' ((c.tc : Thread Cert.MmUpDxRefIdeal.nD Cert.MmUpDxRefIdeal.τ).loc Cert.MmUpDxRefIdeal.main_arg0)
          ∧ r.2.mem ((c.tc : Thread Cert.MmUpDxRefIdeal.nD Cert.MmUpDxRefIdeal.τ).loc Cert.MmUpDxRefIdeal.main_arg1) = m' ((c.tc : Thread Cert.MmUpDxRefIdeal.nD Cert.MmUpDxRefIdeal.τ).loc Cert.MmUpDxRefIdeal.main_arg1))

def preserves_MmUpDw_MmUpDwIdeal : Prop :=
  True

def algebraic_MmUpDwIdeal_MmUpDwRefIdeal [hMmUpDwIdeal : Cert.MmUpDwIdeal.Facts] [hMmUpDwRefIdeal : Cert.MmUpDwRefIdeal.Facts] : Prop :=
  ∀ (m : (ℓ : Loc Cert.MmUpDwIdeal.nD Cert.MmUpDwIdeal.τ Cert.MmUpDwIdeal.sig) → Buf (Elt Ideal) ℓ) (g : Dev Cert.MmUpDwIdeal.nD → PrngReg)
    (m' : (ℓ : Loc Cert.MmUpDwRefIdeal.nD Cert.MmUpDwRefIdeal.τ Cert.MmUpDwRefIdeal.sig) → Buf (Elt Ideal) ℓ) (g' : Dev Cert.MmUpDwRefIdeal.nD → PrngReg), Pre_MmUpDwIdeal m →
    (∀ c : Dev Cert.MmUpDwIdeal.nD,
      m' ((c.tc : Thread Cert.MmUpDwRefIdeal.nD Cert.MmUpDwRefIdeal.τ).loc Cert.MmUpDwRefIdeal.main_arg0) = m ((c.tc : Thread Cert.MmUpDwIdeal.nD Cert.MmUpDwIdeal.τ).loc Cert.MmUpDwIdeal.main_arg0)
      ∧ m' ((c.tc : Thread Cert.MmUpDwRefIdeal.nD Cert.MmUpDwRefIdeal.τ).loc Cert.MmUpDwRefIdeal.main_arg1) = m ((c.tc : Thread Cert.MmUpDwIdeal.nD Cert.MmUpDwIdeal.τ).loc Cert.MmUpDwIdeal.main_arg1)) →
    ∃ (v0 : (c : Dev Cert.MmUpDwIdeal.nD) → Buf (Elt Ideal) ((c.tc : Thread Cert.MmUpDwIdeal.nD Cert.MmUpDwIdeal.τ).loc Cert.MmUpDwIdeal.main_v0)),
      θ_run (Cert.MmUpDwIdeal.defs (F := Ideal)) (onTc (τ := Cert.MmUpDwIdeal.τ) (Cert.MmUpDwIdeal.main (F := Ideal))) ⟨m, fun _ => 0, g⟩ (fun r => ∀ c : Dev Cert.MmUpDwIdeal.nD,
          r.2.mem ((c.tc : Thread Cert.MmUpDwIdeal.nD Cert.MmUpDwIdeal.τ).loc Cert.MmUpDwIdeal.main_v0) = v0 c
          ∧ r.2.mem ((c.tc : Thread Cert.MmUpDwIdeal.nD Cert.MmUpDwIdeal.τ).loc Cert.MmUpDwIdeal.main_arg0) = m ((c.tc : Thread Cert.MmUpDwIdeal.nD Cert.MmUpDwIdeal.τ).loc Cert.MmUpDwIdeal.main_arg0)
          ∧ r.2.mem ((c.tc : Thread Cert.MmUpDwIdeal.nD Cert.MmUpDwIdeal.τ).loc Cert.MmUpDwIdeal.main_arg1) = m ((c.tc : Thread Cert.MmUpDwIdeal.nD Cert.MmUpDwIdeal.τ).loc Cert.MmUpDwIdeal.main_arg1))
      ∧ θ_run (Cert.MmUpDwRefIdeal.defs (F := Ideal)) (onTc (τ := Cert.MmUpDwRefIdeal.τ) (Cert.MmUpDwRefIdeal.main (F := Ideal))) ⟨m', fun _ => 0, g'⟩ (fun r => ∀ c : Dev Cert.MmUpDwRefIdeal.nD,
          r.2.mem ((c.tc : Thread Cert.MmUpDwRefIdeal.nD Cert.MmUpDwRefIdeal.τ).loc Cert.MmUpDwRefIdeal.main_v3) = v0 c
          ∧ r.2.mem ((c.tc : Thread Cert.MmUpDwRefIdeal.nD Cert.MmUpDwRefIdeal.τ).loc Cert.MmUpDwRefIdeal.main_arg0) = m' ((c.tc : Thread Cert.MmUpDwRefIdeal.nD Cert.MmUpDwRefIdeal.τ).loc Cert.MmUpDwRefIdeal.main_arg0)
          ∧ r.2.mem ((c.tc : Thread Cert.MmUpDwRefIdeal.nD Cert.MmUpDwRefIdeal.τ).loc Cert.MmUpDwRefIdeal.main_arg1) = m' ((c.tc : Thread Cert.MmUpDwRefIdeal.nD Cert.MmUpDwRefIdeal.τ).loc Cert.MmUpDwRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v2) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1))

def preserves_MmDownDx_MmDownDxIdeal : Prop :=
  True

def algebraic_MmDownDxIdeal_MmDownDxRefIdeal [hMmDownDxIdeal : Cert.MmDownDxIdeal.Facts] [hMmDownDxRefIdeal : Cert.MmDownDxRefIdeal.Facts] : Prop :=
  ∀ (m : (ℓ : Loc Cert.MmDownDxIdeal.nD Cert.MmDownDxIdeal.τ Cert.MmDownDxIdeal.sig) → Buf (Elt Ideal) ℓ) (g : Dev Cert.MmDownDxIdeal.nD → PrngReg)
    (m' : (ℓ : Loc Cert.MmDownDxRefIdeal.nD Cert.MmDownDxRefIdeal.τ Cert.MmDownDxRefIdeal.sig) → Buf (Elt Ideal) ℓ) (g' : Dev Cert.MmDownDxRefIdeal.nD → PrngReg), Pre_MmDownDxIdeal m →
    (∀ c : Dev Cert.MmDownDxIdeal.nD,
      m' ((c.tc : Thread Cert.MmDownDxRefIdeal.nD Cert.MmDownDxRefIdeal.τ).loc Cert.MmDownDxRefIdeal.main_arg0) = m ((c.tc : Thread Cert.MmDownDxIdeal.nD Cert.MmDownDxIdeal.τ).loc Cert.MmDownDxIdeal.main_arg0)
      ∧ m' ((c.tc : Thread Cert.MmDownDxRefIdeal.nD Cert.MmDownDxRefIdeal.τ).loc Cert.MmDownDxRefIdeal.main_arg1) = m ((c.tc : Thread Cert.MmDownDxIdeal.nD Cert.MmDownDxIdeal.τ).loc Cert.MmDownDxIdeal.main_arg1)) →
    ∃ (v0 : (c : Dev Cert.MmDownDxIdeal.nD) → Buf (Elt Ideal) ((c.tc : Thread Cert.MmDownDxIdeal.nD Cert.MmDownDxIdeal.τ).loc Cert.MmDownDxIdeal.main_v0)),
      θ_run (Cert.MmDownDxIdeal.defs (F := Ideal)) (onTc (τ := Cert.MmDownDxIdeal.τ) (Cert.MmDownDxIdeal.main (F := Ideal))) ⟨m, fun _ => 0, g⟩ (fun r => ∀ c : Dev Cert.MmDownDxIdeal.nD,
          r.2.mem ((c.tc : Thread Cert.MmDownDxIdeal.nD Cert.MmDownDxIdeal.τ).loc Cert.MmDownDxIdeal.main_v0) = v0 c
          ∧ r.2.mem ((c.tc : Thread Cert.MmDownDxIdeal.nD Cert.MmDownDxIdeal.τ).loc Cert.MmDownDxIdeal.main_arg0) = m ((c.tc : Thread Cert.MmDownDxIdeal.nD Cert.MmDownDxIdeal.τ).loc Cert.MmDownDxIdeal.main_arg0)
          ∧ r.2.mem ((c.tc : Thread Cert.MmDownDxIdeal.nD Cert.MmDownDxIdeal.τ).loc Cert.MmDownDxIdeal.main_arg1) = m ((c.tc : Thread Cert.MmDownDxIdeal.nD Cert.MmDownDxIdeal.τ).loc Cert.MmDownDxIdeal.main_arg1))
      ∧ θ_run (Cert.MmDownDxRefIdeal.defs (F := Ideal)) (onTc (τ := Cert.MmDownDxRefIdeal.τ) (Cert.MmDownDxRefIdeal.main (F := Ideal))) ⟨m', fun _ => 0, g'⟩ (fun r => ∀ c : Dev Cert.MmDownDxRefIdeal.nD,
          r.2.mem ((c.tc : Thread Cert.MmDownDxRefIdeal.nD Cert.MmDownDxRefIdeal.τ).loc Cert.MmDownDxRefIdeal.main_v3) = v0 c
          ∧ r.2.mem ((c.tc : Thread Cert.MmDownDxRefIdeal.nD Cert.MmDownDxRefIdeal.τ).loc Cert.MmDownDxRefIdeal.main_arg0) = m' ((c.tc : Thread Cert.MmDownDxRefIdeal.nD Cert.MmDownDxRefIdeal.τ).loc Cert.MmDownDxRefIdeal.main_arg0)
          ∧ r.2.mem ((c.tc : Thread Cert.MmDownDxRefIdeal.nD Cert.MmDownDxRefIdeal.τ).loc Cert.MmDownDxRefIdeal.main_arg1) = m' ((c.tc : Thread Cert.MmDownDxRefIdeal.nD Cert.MmDownDxRefIdeal.τ).loc Cert.MmDownDxRefIdeal.main_arg1))

def preserves_MmDownDw_MmDownDwIdeal : Prop :=
  True

def algebraic_MmDownDwIdeal_MmDownDwRefIdeal [hMmDownDwIdeal : Cert.MmDownDwIdeal.Facts] [hMmDownDwRefIdeal : Cert.MmDownDwRefIdeal.Facts] : Prop :=
  ∀ (m : (ℓ : Loc Cert.MmDownDwIdeal.nD Cert.MmDownDwIdeal.τ Cert.MmDownDwIdeal.sig) → Buf (Elt Ideal) ℓ) (g : Dev Cert.MmDownDwIdeal.nD → PrngReg)
    (m' : (ℓ : Loc Cert.MmDownDwRefIdeal.nD Cert.MmDownDwRefIdeal.τ Cert.MmDownDwRefIdeal.sig) → Buf (Elt Ideal) ℓ) (g' : Dev Cert.MmDownDwRefIdeal.nD → PrngReg), Pre_MmDownDwIdeal m →
    (∀ c : Dev Cert.MmDownDwIdeal.nD,
      m' ((c.tc : Thread Cert.MmDownDwRefIdeal.nD Cert.MmDownDwRefIdeal.τ).loc Cert.MmDownDwRefIdeal.main_arg0) = m ((c.tc : Thread Cert.MmDownDwIdeal.nD Cert.MmDownDwIdeal.τ).loc Cert.MmDownDwIdeal.main_arg0)
      ∧ m' ((c.tc : Thread Cert.MmDownDwRefIdeal.nD Cert.MmDownDwRefIdeal.τ).loc Cert.MmDownDwRefIdeal.main_arg1) = m ((c.tc : Thread Cert.MmDownDwIdeal.nD Cert.MmDownDwIdeal.τ).loc Cert.MmDownDwIdeal.main_arg1)) →
    ∃ (v0 : (c : Dev Cert.MmDownDwIdeal.nD) → Buf (Elt Ideal) ((c.tc : Thread Cert.MmDownDwIdeal.nD Cert.MmDownDwIdeal.τ).loc Cert.MmDownDwIdeal.main_v0)),
      θ_run (Cert.MmDownDwIdeal.defs (F := Ideal)) (onTc (τ := Cert.MmDownDwIdeal.τ) (Cert.MmDownDwIdeal.main (F := Ideal))) ⟨m, fun _ => 0, g⟩ (fun r => ∀ c : Dev Cert.MmDownDwIdeal.nD,
          r.2.mem ((c.tc : Thread Cert.MmDownDwIdeal.nD Cert.MmDownDwIdeal.τ).loc Cert.MmDownDwIdeal.main_v0) = v0 c
          ∧ r.2.mem ((c.tc : Thread Cert.MmDownDwIdeal.nD Cert.MmDownDwIdeal.τ).loc Cert.MmDownDwIdeal.main_arg0) = m ((c.tc : Thread Cert.MmDownDwIdeal.nD Cert.MmDownDwIdeal.τ).loc Cert.MmDownDwIdeal.main_arg0)
          ∧ r.2.mem ((c.tc : Thread Cert.MmDownDwIdeal.nD Cert.MmDownDwIdeal.τ).loc Cert.MmDownDwIdeal.main_arg1) = m ((c.tc : Thread Cert.MmDownDwIdeal.nD Cert.MmDownDwIdeal.τ).loc Cert.MmDownDwIdeal.main_arg1))
      ∧ θ_run (Cert.MmDownDwRefIdeal.defs (F := Ideal)) (onTc (τ := Cert.MmDownDwRefIdeal.τ) (Cert.MmDownDwRefIdeal.main (F := Ideal))) ⟨m', fun _ => 0, g'⟩ (fun r => ∀ c : Dev Cert.MmDownDwRefIdeal.nD,
          r.2.mem ((c.tc : Thread Cert.MmDownDwRefIdeal.nD Cert.MmDownDwRefIdeal.τ).loc Cert.MmDownDwRefIdeal.main_v3) = v0 c
          ∧ r.2.mem ((c.tc : Thread Cert.MmDownDwRefIdeal.nD Cert.MmDownDwRefIdeal.τ).loc Cert.MmDownDwRefIdeal.main_arg0) = m' ((c.tc : Thread Cert.MmDownDwRefIdeal.nD Cert.MmDownDwRefIdeal.τ).loc Cert.MmDownDwRefIdeal.main_arg0)
          ∧ r.2.mem ((c.tc : Thread Cert.MmDownDwRefIdeal.nD Cert.MmDownDwRefIdeal.τ).loc Cert.MmDownDwRefIdeal.main_arg1) = m' ((c.tc : Thread Cert.MmDownDwRefIdeal.nD Cert.MmDownDwRefIdeal.τ).loc Cert.MmDownDwRefIdeal.main_arg1))

def preserves_AddDh_AddDhIdeal : Prop :=
  True

def algebraic_AddDhIdeal_AddDhRefIdeal [hAddDhIdeal : Cert.AddDhIdeal.Facts] [hAddDhRefIdeal : Cert.AddDhRefIdeal.Facts] : Prop :=
  ∀ (m : (ℓ : Loc Cert.AddDhIdeal.nD Cert.AddDhIdeal.τ Cert.AddDhIdeal.sig) → Buf (Elt Ideal) ℓ) (g : Dev Cert.AddDhIdeal.nD → PrngReg)
    (m' : (ℓ : Loc Cert.AddDhRefIdeal.nD Cert.AddDhRefIdeal.τ Cert.AddDhRefIdeal.sig) → Buf (Elt Ideal) ℓ) (g' : Dev Cert.AddDhRefIdeal.nD → PrngReg), Pre_AddDhIdeal m →
    (∀ c : Dev Cert.AddDhIdeal.nD,
      m' ((c.tc : Thread Cert.AddDhRefIdeal.nD Cert.AddDhRefIdeal.τ).loc Cert.AddDhRefIdeal.main_arg0) = m ((c.tc : Thread Cert.AddDhIdeal.nD Cert.AddDhIdeal.τ).loc Cert.AddDhIdeal.main_arg0)
      ∧ m' ((c.tc : Thread Cert.AddDhRefIdeal.nD Cert.AddDhRefIdeal.τ).loc Cert.AddDhRefIdeal.main_arg1) = m ((c.tc : Thread Cert.AddDhIdeal.nD Cert.AddDhIdeal.τ).loc Cert.AddDhIdeal.main_arg1)) →
    ∃ (v0 : (c : Dev Cert.AddDhIdeal.nD) → Buf (Elt Ideal) ((c.tc : Thread Cert.AddDhIdeal.nD Cert.AddDhIdeal.τ).loc Cert.AddDhIdeal.main_v0)),
      θ_run (Cert.AddDhIdeal.defs (F := Ideal)) (onTc (τ := Cert.AddDhIdeal.τ) (Cert.AddDhIdeal.main (F := Ideal))) ⟨m, fun _ => 0, g⟩ (fun r => ∀ c : Dev Cert.AddDhIdeal.nD,
          r.2.mem ((c.tc : Thread Cert.AddDhIdeal.nD Cert.AddDhIdeal.τ).loc Cert.AddDhIdeal.main_v0) = v0 c
          ∧ r.2.mem ((c.tc : Thread Cert.AddDhIdeal.nD Cert.AddDhIdeal.τ).loc Cert.AddDhIdeal.main_arg0) = m ((c.tc : Thread Cert.AddDhIdeal.nD Cert.AddDhIdeal.τ).loc Cert.AddDhIdeal.main_arg0)
          ∧ r.2.mem ((c.tc : Thread Cert.AddDhIdeal.nD Cert.AddDhIdeal.τ).loc Cert.AddDhIdeal.main_arg1) = m ((c.tc : Thread Cert.AddDhIdeal.nD Cert.AddDhIdeal.τ).loc Cert.AddDhIdeal.main_arg1))
      ∧ θ_run (Cert.AddDhRefIdeal.defs (F := Ideal)) (onTc (τ := Cert.AddDhRefIdeal.τ) (Cert.AddDhRefIdeal.main (F := Ideal))) ⟨m', fun _ => 0, g'⟩ (fun r => ∀ c : Dev Cert.AddDhRefIdeal.nD,
          r.2.mem ((c.tc : Thread Cert.AddDhRefIdeal.nD Cert.AddDhRefIdeal.τ).loc Cert.AddDhRefIdeal.main_v0) = v0 c
          ∧ r.2.mem ((c.tc : Thread Cert.AddDhRefIdeal.nD Cert.AddDhRefIdeal.τ).loc Cert.AddDhRefIdeal.main_arg0) = m' ((c.tc : Thread Cert.AddDhRefIdeal.nD Cert.AddDhRefIdeal.τ).loc Cert.AddDhRefIdeal.main_arg0)
          ∧ r.2.mem ((c.tc : Thread Cert.AddDhRefIdeal.nD Cert.AddDhRefIdeal.τ).loc Cert.AddDhRefIdeal.main_arg1) = m' ((c.tc : Thread Cert.AddDhRefIdeal.nD Cert.AddDhRefIdeal.τ).loc Cert.AddDhRefIdeal.main_arg1))

def preserves_AddDx_AddDxIdeal : Prop :=
  True

def algebraic_AddDxIdeal_AddDxRefIdeal [hAddDxIdeal : Cert.AddDxIdeal.Facts] [hAddDxRefIdeal : Cert.AddDxRefIdeal.Facts] : Prop :=
  ∀ (m : (ℓ : Loc Cert.AddDxIdeal.nD Cert.AddDxIdeal.τ Cert.AddDxIdeal.sig) → Buf (Elt Ideal) ℓ) (g : Dev Cert.AddDxIdeal.nD → PrngReg)
    (m' : (ℓ : Loc Cert.AddDxRefIdeal.nD Cert.AddDxRefIdeal.τ Cert.AddDxRefIdeal.sig) → Buf (Elt Ideal) ℓ) (g' : Dev Cert.AddDxRefIdeal.nD → PrngReg), Pre_AddDxIdeal m →
    (∀ c : Dev Cert.AddDxIdeal.nD,
      m' ((c.tc : Thread Cert.AddDxRefIdeal.nD Cert.AddDxRefIdeal.τ).loc Cert.AddDxRefIdeal.main_arg0) = m ((c.tc : Thread Cert.AddDxIdeal.nD Cert.AddDxIdeal.τ).loc Cert.AddDxIdeal.main_arg0)
      ∧ m' ((c.tc : Thread Cert.AddDxRefIdeal.nD Cert.AddDxRefIdeal.τ).loc Cert.AddDxRefIdeal.main_arg1) = m ((c.tc : Thread Cert.AddDxIdeal.nD Cert.AddDxIdeal.τ).loc Cert.AddDxIdeal.main_arg1)) →
    ∃ (v0 : (c : Dev Cert.AddDxIdeal.nD) → Buf (Elt Ideal) ((c.tc : Thread Cert.AddDxIdeal.nD Cert.AddDxIdeal.τ).loc Cert.AddDxIdeal.main_v0)),
      θ_run (Cert.AddDxIdeal.defs (F := Ideal)) (onTc (τ := Cert.AddDxIdeal.τ) (Cert.AddDxIdeal.main (F := Ideal))) ⟨m, fun _ => 0, g⟩ (fun r => ∀ c : Dev Cert.AddDxIdeal.nD,
          r.2.mem ((c.tc : Thread Cert.AddDxIdeal.nD Cert.AddDxIdeal.τ).loc Cert.AddDxIdeal.main_v0) = v0 c
          ∧ r.2.mem ((c.tc : Thread Cert.AddDxIdeal.nD Cert.AddDxIdeal.τ).loc Cert.AddDxIdeal.main_arg0) = m ((c.tc : Thread Cert.AddDxIdeal.nD Cert.AddDxIdeal.τ).loc Cert.AddDxIdeal.main_arg0)
          ∧ r.2.mem ((c.tc : Thread Cert.AddDxIdeal.nD Cert.AddDxIdeal.τ).loc Cert.AddDxIdeal.main_arg1) = m ((c.tc : Thread Cert.AddDxIdeal.nD Cert.AddDxIdeal.τ).loc Cert.AddDxIdeal.main_arg1))
      ∧ θ_run (Cert.AddDxRefIdeal.defs (F := Ideal)) (onTc (τ := Cert.AddDxRefIdeal.τ) (Cert.AddDxRefIdeal.main (F := Ideal))) ⟨m', fun _ => 0, g'⟩ (fun r => ∀ c : Dev Cert.AddDxRefIdeal.nD,
          r.2.mem ((c.tc : Thread Cert.AddDxRefIdeal.nD Cert.AddDxRefIdeal.τ).loc Cert.AddDxRefIdeal.main_v0) = v0 c
          ∧ r.2.mem ((c.tc : Thread Cert.AddDxRefIdeal.nD Cert.AddDxRefIdeal.τ).loc Cert.AddDxRefIdeal.main_arg0) = m' ((c.tc : Thread Cert.AddDxRefIdeal.nD Cert.AddDxRefIdeal.τ).loc Cert.AddDxRefIdeal.main_arg0)
          ∧ r.2.mem ((c.tc : Thread Cert.AddDxRefIdeal.nD Cert.AddDxRefIdeal.τ).loc Cert.AddDxRefIdeal.main_arg1) = m' ((c.tc : Thread Cert.AddDxRefIdeal.nD Cert.AddDxRefIdeal.τ).loc Cert.AddDxRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v34) = v0 c
          ∧ r.2.mem ((c.tc : Thread Cert.GradXRefIdeal.nD Cert.GradXRefIdeal.τ).loc Cert.GradXRefIdeal.main_v17) = v1 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v12) = v0 c
          ∧ r.2.mem ((c.tc : Thread Cert.MixRefIdeal.nD Cert.MixRefIdeal.τ).loc Cert.MixRefIdeal.main_v25) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_MixBack_MixBackIdeal : Prop :=
  True

def algebraic_MixBackIdeal_MixBackRefIdeal [hMixBackIdeal : Cert.MixBackIdeal.Facts] [hMixBackRefIdeal : Cert.MixBackRefIdeal.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.MixBackRefIdeal.nD Cert.MixBackRefIdeal.τ Cert.MixBackRefIdeal.sig) → Buf (Elt Ideal) ℓ) (g' : Dev Cert.MixBackRefIdeal.nD → PrngReg), Pre_MixBackIdeal m →
    (∀ c : Dev Cert.MixBackIdeal.nD,
      m' ((c.tc : Thread Cert.MixBackRefIdeal.nD Cert.MixBackRefIdeal.τ).loc Cert.MixBackRefIdeal.main_arg0) = m ((c.tc : Thread Cert.MixBackIdeal.nD Cert.MixBackIdeal.τ).loc Cert.MixBackIdeal.main_arg0)
      ∧ m' ((c.tc : Thread Cert.MixBackRefIdeal.nD Cert.MixBackRefIdeal.τ).loc Cert.MixBackRefIdeal.main_arg1) = m ((c.tc : Thread Cert.MixBackIdeal.nD Cert.MixBackIdeal.τ).loc Cert.MixBackIdeal.main_arg1)
      ∧ m' ((c.tc : Thread Cert.MixBackRefIdeal.nD Cert.MixBackRefIdeal.τ).loc Cert.MixBackRefIdeal.main_arg2) = m ((c.tc : Thread Cert.MixBackIdeal.nD Cert.MixBackIdeal.τ).loc Cert.MixBackIdeal.main_arg2)
      ∧ m' ((c.tc : Thread Cert.MixBackRefIdeal.nD Cert.MixBackRefIdeal.τ).loc Cert.MixBackRefIdeal.main_arg3) = m ((c.tc : Thread Cert.MixBackIdeal.nD Cert.MixBackIdeal.τ).loc Cert.MixBackIdeal.main_arg3)
      ∧ m' ((c.tc : Thread Cert.MixBackRefIdeal.nD Cert.MixBackRefIdeal.τ).loc Cert.MixBackRefIdeal.main_arg4) = m ((c.tc : Thread Cert.MixBackIdeal.nD Cert.MixBackIdeal.τ).loc Cert.MixBackIdeal.main_arg4)
      ∧ m' ((c.tc : Thread Cert.MixBackRefIdeal.nD Cert.MixBackRefIdeal.τ).loc Cert.MixBackRefIdeal.main_arg5) = m ((c.tc : Thread Cert.MixBackIdeal.nD Cert.MixBackIdeal.τ).loc Cert.MixBackIdeal.main_arg5)) →
    ∃ (v0 : (c : Dev Cert.MixBackIdeal.nD) → Buf (Elt Ideal) ((c.tc : Thread Cert.MixBackIdeal.nD Cert.MixBackIdeal.τ).loc Cert.MixBackIdeal.main_v0_0)) (v1 : (c : Dev Cert.MixBackIdeal.nD) → Buf (Elt Ideal) ((c.tc : Thread Cert.MixBackIdeal.nD Cert.MixBackIdeal.τ).loc Cert.MixBackIdeal.main_v0_1)) (v2 : (c : Dev Cert.MixBackIdeal.nD) → Buf (Elt Ideal) ((c.tc : Thread Cert.MixBackIdeal.nD Cert.MixBackIdeal.τ).loc Cert.MixBackIdeal.main_v0_2)) (v3 : (c : Dev Cert.MixBackIdeal.nD) → Buf (Elt Ideal) ((c.tc : Thread Cert.MixBackIdeal.nD Cert.MixBackIdeal.τ).loc Cert.MixBackIdeal.main_v0_3)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v0_0) = v0 c
          ∧ r.2.mem ((c.tc : Thread Cert.MixBackIdeal.nD Cert.MixBackIdeal.τ).loc Cert.MixBackIdeal.main_v0_1) = v1 c
          ∧ r.2.mem ((c.tc : Thread Cert.MixBackIdeal.nD Cert.MixBackIdeal.τ).loc Cert.MixBackIdeal.main_v0_2) = v2 c
          ∧ r.2.mem ((c.tc : Thread Cert.MixBackIdeal.nD Cert.MixBackIdeal.τ).loc Cert.MixBackIdeal.main_v0_3) = v3 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
          ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
          ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
          ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
          ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5))
      ∧ θ_run (Cert.MixBackRefIdeal.defs (F := Ideal)) (onTc (τ := Cert.MixBackRefIdeal.τ) (Cert.MixBackRefIdeal.main (F := Ideal))) ⟨m', fun _ => 0, g'⟩ (fun r => ∀ c : Dev Cert.MixBackRefIdeal.nD,
          r.2.mem ((c.tc : Thread Cert.MixBackRefIdeal.nD Cert.MixBackRefIdeal.τ).loc Cert.MixBackRefIdeal.main_v50) = v0 c
          ∧ r.2.mem ((c.tc : Thread Cert.MixBackRefIdeal.nD Cert.MixBackRefIdeal.τ).loc Cert.MixBackRefIdeal.main_v71) = v1 c
          ∧ r.2.mem ((c.tc : Thread Cert.MixBackRefIdeal.nD Cert.MixBackRefIdeal.τ).loc Cert.MixBackRefIdeal.main_v54) = v2 c
          ∧ r.2.mem ((c.tc : Thread Cert.MixBackRefIdeal.nD Cert.MixBackRefIdeal.τ).loc Cert.MixBackRefIdeal.main_v33) = v3 c
          ∧ r.2.mem ((c.tc : Thread Cert.MixBackRefIdeal.nD Cert.MixBackRefIdeal.τ).loc Cert.MixBackRefIdeal.main_arg0) = m' ((c.tc : Thread Cert.MixBackRefIdeal.nD Cert.MixBackRefIdeal.τ).loc Cert.MixBackRefIdeal.main_arg0)
          ∧ r.2.mem ((c.tc : Thread Cert.MixBackRefIdeal.nD Cert.MixBackRefIdeal.τ).loc Cert.MixBackRefIdeal.main_arg1) = m' ((c.tc : Thread Cert.MixBackRefIdeal.nD Cert.MixBackRefIdeal.τ).loc Cert.MixBackRefIdeal.main_arg1)
          ∧ r.2.mem ((c.tc : Thread Cert.MixBackRefIdeal.nD Cert.MixBackRefIdeal.τ).loc Cert.MixBackRefIdeal.main_arg2) = m' ((c.tc : Thread Cert.MixBackRefIdeal.nD Cert.MixBackRefIdeal.τ).loc Cert.MixBackRefIdeal.main_arg2)
          ∧ r.2.mem ((c.tc : Thread Cert.MixBackRefIdeal.nD Cert.MixBackRefIdeal.τ).loc Cert.MixBackRefIdeal.main_arg3) = m' ((c.tc : Thread Cert.MixBackRefIdeal.nD Cert.MixBackRefIdeal.τ).loc Cert.MixBackRefIdeal.main_arg3)
          ∧ r.2.mem ((c.tc : Thread Cert.MixBackRefIdeal.nD Cert.MixBackRefIdeal.τ).loc Cert.MixBackRefIdeal.main_arg4) = m' ((c.tc : Thread Cert.MixBackRefIdeal.nD Cert.MixBackRefIdeal.τ).loc Cert.MixBackRefIdeal.main_arg4)
          ∧ r.2.mem ((c.tc : Thread Cert.MixBackRefIdeal.nD Cert.MixBackRefIdeal.τ).loc Cert.MixBackRefIdeal.main_arg5) = m' ((c.tc : Thread Cert.MixBackRefIdeal.nD Cert.MixBackRefIdeal.τ).loc Cert.MixBackRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v30) = v1 c
          ∧ r.2.mem ((c.tc : Thread Cert.LossRefIdeal.nD Cert.LossRefIdeal.τ).loc Cert.LossRefIdeal.main_v51) = v2 c
          ∧ r.2.mem ((c.tc : Thread Cert.LossRefIdeal.nD Cert.LossRefIdeal.τ).loc Cert.LossRefIdeal.main_v33) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![1024, 1672]⟩ ⟨2, ![1024, 6688]⟩ (Layout.meshBlock [2, 2, 2] ![[], [0, 1]] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨2, ![512, 1024]⟩ ⟨2, ![2048, 1024]⟩ (Layout.meshBlock [2, 2, 2] ![[0, 1], []] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![1024, 1408]⟩ ⟨2, ![1024, 5632]⟩ (Layout.meshBlock [2, 2, 2] ![[], [0, 1]] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.blockN ⟨2, ![704, 1024]⟩ ⟨2, ![2816, 1024]⟩ (Layout.meshBlock [2, 2, 2] ![[0, 1], []] c) (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.blockN ⟨2, ![4, 768]⟩ ⟨2, ![4, 3072]⟩ (Layout.meshBlock [2, 2, 2] ![[], [0, 1]] c) (m' (((0 : Dev Cert.GatherRef.nD).tc : Thread Cert.GatherRef.nD Cert.GatherRef.τ).loc Cert.GatherRef.main_arg4))
      ∧ m ((c.tc : Thread Cert.Gather.nD Cert.Gather.τ).loc Cert.Gather.main_arg5) = Layout.blockN ⟨2, ![4, 384]⟩ ⟨2, ![4, 1536]⟩ (Layout.meshBlock [2, 2, 2] ![[], [0, 1]] c) (m' (((0 : Dev Cert.GatherRef.nD).tc : Thread Cert.GatherRef.nD Cert.GatherRef.τ).loc Cert.GatherRef.main_arg5))
      ∧ m ((c.tc : Thread Cert.Gather.nD Cert.Gather.τ).loc Cert.Gather.main_arg6) = Layout.blockN ⟨2, ![3, 1408]⟩ ⟨2, ![3, 5632]⟩ (Layout.meshBlock [2, 2, 2] ![[], [0, 1]] c) (m' (((0 : Dev Cert.GatherRef.nD).tc : Thread Cert.GatherRef.nD Cert.GatherRef.τ).loc Cert.GatherRef.main_arg6))) →
    ∃ (v0 : Buf (Elt Bits) (((0 : Dev Cert.GatherRef.nD).tc : Thread Cert.GatherRef.nD Cert.GatherRef.τ).loc Cert.GatherRef.main_v1)) (v1 : Buf (Elt Bits) (((0 : Dev Cert.GatherRef.nD).tc : Thread Cert.GatherRef.nD Cert.GatherRef.τ).loc Cert.GatherRef.main_v2)) (v2 : Buf (Elt Bits) (((0 : Dev Cert.GatherRef.nD).tc : Thread Cert.GatherRef.nD Cert.GatherRef.τ).loc Cert.GatherRef.main_v4)) (v3 : Buf (Elt Bits) (((0 : Dev Cert.GatherRef.nD).tc : Thread Cert.GatherRef.nD Cert.GatherRef.τ).loc Cert.GatherRef.main_v5)) (v4 : Buf (Elt Bits) (((0 : Dev Cert.GatherRef.nD).tc : Thread Cert.GatherRef.nD Cert.GatherRef.τ).loc Cert.GatherRef.main_v7)) (v5 : Buf (Elt Bits) (((0 : Dev Cert.GatherRef.nD).tc : Thread Cert.GatherRef.nD Cert.GatherRef.τ).loc Cert.GatherRef.main_v9)) (v6 : Buf (Elt Bits) (((0 : Dev Cert.GatherRef.nD).tc : Thread Cert.GatherRef.nD Cert.GatherRef.τ).loc Cert.GatherRef.main_v11)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v1) = v0
          ∧ r.2.mem (((0 : Dev Cert.GatherRef.nD).tc : Thread Cert.GatherRef.nD Cert.GatherRef.τ).loc Cert.GatherRef.main_v2) = v1
          ∧ r.2.mem (((0 : Dev Cert.GatherRef.nD).tc : Thread Cert.GatherRef.nD Cert.GatherRef.τ).loc Cert.GatherRef.main_v4) = v2
          ∧ r.2.mem (((0 : Dev Cert.GatherRef.nD).tc : Thread Cert.GatherRef.nD Cert.GatherRef.τ).loc Cert.GatherRef.main_v5) = v3
          ∧ r.2.mem (((0 : Dev Cert.GatherRef.nD).tc : Thread Cert.GatherRef.nD Cert.GatherRef.τ).loc Cert.GatherRef.main_v7) = v4
          ∧ r.2.mem (((0 : Dev Cert.GatherRef.nD).tc : Thread Cert.GatherRef.nD Cert.GatherRef.τ).loc Cert.GatherRef.main_v9) = v5
          ∧ r.2.mem (((0 : Dev Cert.GatherRef.nD).tc : Thread Cert.GatherRef.nD Cert.GatherRef.τ).loc Cert.GatherRef.main_v11) = v6
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4)
          ∧ r.2.mem (((0 : Dev Cert.GatherRef.nD).tc : Thread Cert.GatherRef.nD Cert.GatherRef.τ).loc Cert.GatherRef.main_arg5) = m' (((0 : Dev Cert.GatherRef.nD).tc : Thread Cert.GatherRef.nD Cert.GatherRef.τ).loc Cert.GatherRef.main_arg5)
          ∧ r.2.mem (((0 : Dev Cert.GatherRef.nD).tc : Thread Cert.GatherRef.nD Cert.GatherRef.τ).loc Cert.GatherRef.main_arg6) = m' (((0 : Dev Cert.GatherRef.nD).tc : Thread Cert.GatherRef.nD Cert.GatherRef.τ).loc Cert.GatherRef.main_arg6))

def bitexact_Send_SendRef [hSend : Cert.Send.Facts] [hSendRef : Cert.SendRef.Facts] : Prop :=
  ∀ (m : (ℓ : Loc Cert.Send.nD Cert.Send.τ Cert.Send.sig) → Buf (Elt Bits) ℓ) (g : Dev Cert.Send.nD → PrngReg)
    (m' : (ℓ : Loc Cert.SendRef.nD Cert.SendRef.τ Cert.SendRef.sig) → Buf (Elt Bits) ℓ) (g' : Dev Cert.SendRef.nD → PrngReg), Pre_Send m →
    (∀ c : Dev Cert.Send.nD,
      m ((c.tc : Thread Cert.Send.nD Cert.Send.τ).loc Cert.Send.main_arg0) = Layout.block ⟨3, ![4, 1024, 1672]⟩ ⟨3, ![32, 1024, 1672]⟩ 0 8 c (m' (((0 : Dev Cert.SendRef.nD).tc : Thread Cert.SendRef.nD Cert.SendRef.τ).loc Cert.SendRef.main_arg0))
      ∧ m ((c.tc : Thread Cert.Send.nD Cert.Send.τ).loc Cert.Send.main_arg1) = Layout.block ⟨3, ![4, 512, 1024]⟩ ⟨3, ![32, 512, 1024]⟩ 0 8 c (m' (((0 : Dev Cert.SendRef.nD).tc : Thread Cert.SendRef.nD Cert.SendRef.τ).loc Cert.SendRef.main_arg1))
      ∧ m ((c.tc : Thread Cert.Send.nD Cert.Send.τ).loc Cert.Send.main_arg2) = Layout.block ⟨3, ![4, 1024, 1408]⟩ ⟨3, ![32, 1024, 1408]⟩ 0 8 c (m' (((0 : Dev Cert.SendRef.nD).tc : Thread Cert.SendRef.nD Cert.SendRef.τ).loc Cert.SendRef.main_arg2))
      ∧ m ((c.tc : Thread Cert.Send.nD Cert.Send.τ).loc Cert.Send.main_arg3) = Layout.block ⟨3, ![4, 704, 1024]⟩ ⟨3, ![32, 704, 1024]⟩ 0 8 c (m' (((0 : Dev Cert.SendRef.nD).tc : Thread Cert.SendRef.nD Cert.SendRef.τ).loc Cert.SendRef.main_arg3))) →
    ∃ (v0 : Buf (Elt Bits) (((0 : Dev Cert.SendRef.nD).tc : Thread Cert.SendRef.nD Cert.SendRef.τ).loc Cert.SendRef.main_v8)) (v1 : Buf (Elt Bits) (((0 : Dev Cert.SendRef.nD).tc : Thread Cert.SendRef.nD Cert.SendRef.τ).loc Cert.SendRef.main_v17)) (v2 : Buf (Elt Bits) (((0 : Dev Cert.SendRef.nD).tc : Thread Cert.SendRef.nD Cert.SendRef.τ).loc Cert.SendRef.main_v26)) (v3 : Buf (Elt Bits) (((0 : Dev Cert.SendRef.nD).tc : Thread Cert.SendRef.nD Cert.SendRef.τ).loc Cert.SendRef.main_v35)),
      θ_run (Cert.Send.defs (F := Bits)) (onTc (τ := Cert.Send.τ) (Cert.Send.main (F := Bits))) ⟨m, fun _ => 0, g⟩ (fun r => ∀ c : Dev Cert.Send.nD,
          r.2.mem ((c.tc : Thread Cert.Send.nD Cert.Send.τ).loc Cert.Send.main_v1_0) = Layout.block ⟨3, ![4, 512, 1672]⟩ ⟨3, ![32, 512, 1672]⟩ 0 8 c v0
          ∧ r.2.mem ((c.tc : Thread Cert.Send.nD Cert.Send.τ).loc Cert.Send.main_v1_1) = Layout.block ⟨3, ![4, 256, 1024]⟩ ⟨3, ![32, 256, 1024]⟩ 0 8 c v1
          ∧ r.2.mem ((c.tc : Thread Cert.Send.nD Cert.Send.τ).loc Cert.Send.main_v1_2) = Layout.block ⟨3, ![4, 512, 1408]⟩ ⟨3, ![32, 512, 1408]⟩ 0 8 c v2
          ∧ r.2.mem ((c.tc : Thread Cert.Send.nD Cert.Send.τ).loc Cert.Send.main_v1_3) = Layout.block ⟨3, ![4, 352, 1024]⟩ ⟨3, ![32, 352, 1024]⟩ 0 8 c v3
          ∧ r.2.mem ((c.tc : Thread Cert.Send.nD Cert.Send.τ).loc Cert.Send.main_arg0) = m ((c.tc : Thread Cert.Send.nD Cert.Send.τ).loc Cert.Send.main_arg0)
          ∧ r.2.mem ((c.tc : Thread Cert.Send.nD Cert.Send.τ).loc Cert.Send.main_arg1) = m ((c.tc : Thread Cert.Send.nD Cert.Send.τ).loc Cert.Send.main_arg1)
          ∧ r.2.mem ((c.tc : Thread Cert.Send.nD Cert.Send.τ).loc Cert.Send.main_arg2) = m ((c.tc : Thread Cert.Send.nD Cert.Send.τ).loc Cert.Send.main_arg2)
          ∧ r.2.mem ((c.tc : Thread Cert.Send.nD Cert.Send.τ).loc Cert.Send.main_arg3) = m ((c.tc : Thread Cert.Send.nD Cert.Send.τ).loc Cert.Send.main_arg3))
      ∧ θ_run (Cert.SendRef.defs (F := Bits)) (onTc (τ := Cert.SendRef.τ) (Cert.SendRef.main (F := Bits))) ⟨m', fun _ => 0, g'⟩ (fun r =>
          r.2.mem (((0 : Dev Cert.SendRef.nD).tc : Thread Cert.SendRef.nD Cert.SendRef.τ).loc Cert.SendRef.main_v8) = v0
          ∧ r.2.mem (((0 : Dev Cert.SendRef.nD).tc : Thread Cert.SendRef.nD Cert.SendRef.τ).loc Cert.SendRef.main_v17) = v1
          ∧ r.2.mem (((0 : Dev Cert.SendRef.nD).tc : Thread Cert.SendRef.nD Cert.SendRef.τ).loc Cert.SendRef.main_v26) = v2
          ∧ r.2.mem (((0 : Dev Cert.SendRef.nD).tc : Thread Cert.SendRef.nD Cert.SendRef.τ).loc Cert.SendRef.main_v35) = v3
          ∧ r.2.mem (((0 : Dev Cert.SendRef.nD).tc : Thread Cert.SendRef.nD Cert.SendRef.τ).loc Cert.SendRef.main_arg0) = m' (((0 : Dev Cert.SendRef.nD).tc : Thread Cert.SendRef.nD Cert.SendRef.τ).loc Cert.SendRef.main_arg0)
          ∧ r.2.mem (((0 : Dev Cert.SendRef.nD).tc : Thread Cert.SendRef.nD Cert.SendRef.τ).loc Cert.SendRef.main_arg1) = m' (((0 : Dev Cert.SendRef.nD).tc : Thread Cert.SendRef.nD Cert.SendRef.τ).loc Cert.SendRef.main_arg1)
          ∧ r.2.mem (((0 : Dev Cert.SendRef.nD).tc : Thread Cert.SendRef.nD Cert.SendRef.τ).loc Cert.SendRef.main_arg2) = m' (((0 : Dev Cert.SendRef.nD).tc : Thread Cert.SendRef.nD Cert.SendRef.τ).loc Cert.SendRef.main_arg2)
          ∧ r.2.mem (((0 : Dev Cert.SendRef.nD).tc : Thread Cert.SendRef.nD Cert.SendRef.τ).loc Cert.SendRef.main_arg3) = m' (((0 : Dev Cert.SendRef.nD).tc : Thread Cert.SendRef.nD Cert.SendRef.τ).loc Cert.SendRef.main_arg3))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 512, 1672]⟩ ⟨3, ![32, 512, 1672]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![4, 256, 1024]⟩ ⟨3, ![32, 256, 1024]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨3, ![4, 512, 1408]⟩ ⟨3, ![32, 512, 1408]⟩ 0 8 c (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.block ⟨3, ![4, 352, 1024]⟩ ⟨3, ![32, 352, 1024]⟩ 0 8 c (m' (((0 : Dev Cert.ScatterRef.nD).tc : Thread Cert.ScatterRef.nD Cert.ScatterRef.τ).loc Cert.ScatterRef.main_arg3))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)) (v3 : Buf (Elt Bits) (((0 : Dev Cert.ScatterRef.nD).tc : Thread Cert.ScatterRef.nD Cert.ScatterRef.τ).loc Cert.ScatterRef.main_v11)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.block ⟨3, ![4, 512, 1672]⟩ ⟨3, ![32, 512, 1672]⟩ 0 8 c v0
          ∧ r.2.mem ((c.tc : Thread Cert.Scatter.nD Cert.Scatter.τ).loc Cert.Scatter.main_v1_1) = Layout.block ⟨3, ![4, 256, 1024]⟩ ⟨3, ![32, 256, 1024]⟩ 0 8 c v1
          ∧ r.2.mem ((c.tc : Thread Cert.Scatter.nD Cert.Scatter.τ).loc Cert.Scatter.main_v1_2) = Layout.block ⟨3, ![4, 512, 1408]⟩ ⟨3, ![32, 512, 1408]⟩ 0 8 c v2
          ∧ r.2.mem ((c.tc : Thread Cert.Scatter.nD Cert.Scatter.τ).loc Cert.Scatter.main_v1_3) = Layout.block ⟨3, ![4, 352, 1024]⟩ ⟨3, ![32, 352, 1024]⟩ 0 8 c v3
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_v11) = v3
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3))

def bitexact_Pair_PairRef [hPair : Cert.Pair.Facts] [hPairRef : Cert.PairRef.Facts] : Prop :=
  ∀ (m : (ℓ : Loc Cert.Pair.nD Cert.Pair.τ Cert.Pair.sig) → Buf (Elt Bits) ℓ) (g : Dev Cert.Pair.nD → PrngReg)
    (m' : (ℓ : Loc Cert.PairRef.nD Cert.PairRef.τ Cert.PairRef.sig) → Buf (Elt Bits) ℓ) (g' : Dev Cert.PairRef.nD → PrngReg), Pre_Pair m →
    (∀ c : Dev Cert.Pair.nD,
      m ((c.tc : Thread Cert.Pair.nD Cert.Pair.τ).loc Cert.Pair.main_arg0) = Layout.blockN ⟨2, ![512, 1672]⟩ ⟨2, ![1024, 6688]⟩ (Layout.meshBlock [2, 2, 2] ![[2], [0, 1]] c) (m' (((0 : Dev Cert.PairRef.nD).tc : Thread Cert.PairRef.nD Cert.PairRef.τ).loc Cert.PairRef.main_arg0))
      ∧ m ((c.tc : Thread Cert.Pair.nD Cert.Pair.τ).loc Cert.Pair.main_arg1) = Layout.block ⟨2, ![256, 1024]⟩ ⟨2, ![2048, 1024]⟩ 0 8 c (m' (((0 : Dev Cert.PairRef.nD).tc : Thread Cert.PairRef.nD Cert.PairRef.τ).loc Cert.PairRef.main_arg1))
      ∧ m ((c.tc : Thread Cert.Pair.nD Cert.Pair.τ).loc Cert.Pair.main_arg2) = Layout.blockN ⟨2, ![512, 1408]⟩ ⟨2, ![1024, 5632]⟩ (Layout.meshBlock [2, 2, 2] ![[2], [0, 1]] c) (m' (((0 : Dev Cert.PairRef.nD).tc : Thread Cert.PairRef.nD Cert.PairRef.τ).loc Cert.PairRef.main_arg2))
      ∧ m ((c.tc : Thread Cert.Pair.nD Cert.Pair.τ).loc Cert.Pair.main_arg3) = Layout.block ⟨2, ![352, 1024]⟩ ⟨2, ![2816, 1024]⟩ 0 8 c (m' (((0 : Dev Cert.PairRef.nD).tc : Thread Cert.PairRef.nD Cert.PairRef.τ).loc Cert.PairRef.main_arg3))) →
    ∃ (v0 : Buf (Elt Bits) (((0 : Dev Cert.PairRef.nD).tc : Thread Cert.PairRef.nD Cert.PairRef.τ).loc Cert.PairRef.main_v0)) (v1 : Buf (Elt Bits) (((0 : Dev Cert.PairRef.nD).tc : Thread Cert.PairRef.nD Cert.PairRef.τ).loc Cert.PairRef.main_v1)) (v2 : Buf (Elt Bits) (((0 : Dev Cert.PairRef.nD).tc : Thread Cert.PairRef.nD Cert.PairRef.τ).loc Cert.PairRef.main_v2)) (v3 : Buf (Elt Bits) (((0 : Dev Cert.PairRef.nD).tc : Thread Cert.PairRef.nD Cert.PairRef.τ).loc Cert.PairRef.main_v3)),
      θ_run (Cert.Pair.defs (F := Bits)) (onTc (τ := Cert.Pair.τ) (Cert.Pair.main (F := Bits))) ⟨m, fun _ => 0, g⟩ (fun r => ∀ c : Dev Cert.Pair.nD,
          r.2.mem ((c.tc : Thread Cert.Pair.nD Cert.Pair.τ).loc Cert.Pair.main_v1_0) = Layout.blockN ⟨3, ![2, 512, 1672]⟩ ⟨3, ![2, 512, 6688]⟩ (Layout.meshBlock [2, 2, 2] ![[], [], [0, 1]] c) v0
          ∧ r.2.mem ((c.tc : Thread Cert.Pair.nD Cert.Pair.τ).loc Cert.Pair.main_v1_1) = Layout.blockN ⟨3, ![2, 256, 1024]⟩ ⟨3, ![8, 256, 1024]⟩ (Layout.meshBlock [2, 2, 2] ![[0, 1], [], []] c) v1
          ∧ r.2.mem ((c.tc : Thread Cert.Pair.nD Cert.Pair.τ).loc Cert.Pair.main_v1_2) = Layout.blockN ⟨3, ![2, 512, 1408]⟩ ⟨3, ![2, 512, 5632]⟩ (Layout.meshBlock [2, 2, 2] ![[], [], [0, 1]] c) v2
          ∧ r.2.mem ((c.tc : Thread Cert.Pair.nD Cert.Pair.τ).loc Cert.Pair.main_v1_3) = Layout.blockN ⟨3, ![2, 352, 1024]⟩ ⟨3, ![8, 352, 1024]⟩ (Layout.meshBlock [2, 2, 2] ![[0, 1], [], []] c) v3
          ∧ r.2.mem ((c.tc : Thread Cert.Pair.nD Cert.Pair.τ).loc Cert.Pair.main_arg0) = m ((c.tc : Thread Cert.Pair.nD Cert.Pair.τ).loc Cert.Pair.main_arg0)
          ∧ r.2.mem ((c.tc : Thread Cert.Pair.nD Cert.Pair.τ).loc Cert.Pair.main_arg1) = m ((c.tc : Thread Cert.Pair.nD Cert.Pair.τ).loc Cert.Pair.main_arg1)
          ∧ r.2.mem ((c.tc : Thread Cert.Pair.nD Cert.Pair.τ).loc Cert.Pair.main_arg2) = m ((c.tc : Thread Cert.Pair.nD Cert.Pair.τ).loc Cert.Pair.main_arg2)
          ∧ r.2.mem ((c.tc : Thread Cert.Pair.nD Cert.Pair.τ).loc Cert.Pair.main_arg3) = m ((c.tc : Thread Cert.Pair.nD Cert.Pair.τ).loc Cert.Pair.main_arg3))
      ∧ θ_run (Cert.PairRef.defs (F := Bits)) (onTc (τ := Cert.PairRef.τ) (Cert.PairRef.main (F := Bits))) ⟨m', fun _ => 0, g'⟩ (fun r =>
          r.2.mem (((0 : Dev Cert.PairRef.nD).tc : Thread Cert.PairRef.nD Cert.PairRef.τ).loc Cert.PairRef.main_v0) = v0
          ∧ r.2.mem (((0 : Dev Cert.PairRef.nD).tc : Thread Cert.PairRef.nD Cert.PairRef.τ).loc Cert.PairRef.main_v1) = v1
          ∧ r.2.mem (((0 : Dev Cert.PairRef.nD).tc : Thread Cert.PairRef.nD Cert.PairRef.τ).loc Cert.PairRef.main_v2) = v2
          ∧ r.2.mem (((0 : Dev Cert.PairRef.nD).tc : Thread Cert.PairRef.nD Cert.PairRef.τ).loc Cert.PairRef.main_v3) = v3
          ∧ r.2.mem (((0 : Dev Cert.PairRef.nD).tc : Thread Cert.PairRef.nD Cert.PairRef.τ).loc Cert.PairRef.main_arg0) = m' (((0 : Dev Cert.PairRef.nD).tc : Thread Cert.PairRef.nD Cert.PairRef.τ).loc Cert.PairRef.main_arg0)
          ∧ r.2.mem (((0 : Dev Cert.PairRef.nD).tc : Thread Cert.PairRef.nD Cert.PairRef.τ).loc Cert.PairRef.main_arg1) = m' (((0 : Dev Cert.PairRef.nD).tc : Thread Cert.PairRef.nD Cert.PairRef.τ).loc Cert.PairRef.main_arg1)
          ∧ r.2.mem (((0 : Dev Cert.PairRef.nD).tc : Thread Cert.PairRef.nD Cert.PairRef.τ).loc Cert.PairRef.main_arg2) = m' (((0 : Dev Cert.PairRef.nD).tc : Thread Cert.PairRef.nD Cert.PairRef.τ).loc Cert.PairRef.main_arg2)
          ∧ r.2.mem (((0 : Dev Cert.PairRef.nD).tc : Thread Cert.PairRef.nD Cert.PairRef.τ).loc Cert.PairRef.main_arg3) = m' (((0 : Dev Cert.PairRef.nD).tc : Thread Cert.PairRef.nD Cert.PairRef.τ).loc Cert.PairRef.main_arg3))

def Claim : Prop :=
  ∃ (hGather : Cert.Gather.Facts) (hGatherIdeal : Cert.GatherIdeal.Facts) (hGatherRefIdeal : Cert.GatherRefIdeal.Facts) (hSend : Cert.Send.Facts) (hSendIdeal : Cert.SendIdeal.Facts) (hSendRefIdeal : Cert.SendRefIdeal.Facts) (hScatter : Cert.Scatter.Facts) (hScatterIdeal : Cert.ScatterIdeal.Facts) (hScatterRefIdeal : Cert.ScatterRefIdeal.Facts) (hPair : Cert.Pair.Facts) (hPairIdeal : Cert.PairIdeal.Facts) (hPairRefIdeal : Cert.PairRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hSmall : Cert.Small.Facts) (hSmallIdeal : Cert.SmallIdeal.Facts) (hSmallRefIdeal : Cert.SmallRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hMmInBig : Cert.MmInBig.Facts) (hMmInBigIdeal : Cert.MmInBigIdeal.Facts) (hMmInBigRefIdeal : Cert.MmInBigRefIdeal.Facts) (hMmInBigDx : Cert.MmInBigDx.Facts) (hMmInBigDxIdeal : Cert.MmInBigDxIdeal.Facts) (hMmInBigDxRefIdeal : Cert.MmInBigDxRefIdeal.Facts) (hMmInBigDw : Cert.MmInBigDw.Facts) (hMmInBigDwIdeal : Cert.MmInBigDwIdeal.Facts) (hMmInBigDwRefIdeal : Cert.MmInBigDwRefIdeal.Facts) (hMmInSmall : Cert.MmInSmall.Facts) (hMmInSmallIdeal : Cert.MmInSmallIdeal.Facts) (hMmInSmallRefIdeal : Cert.MmInSmallRefIdeal.Facts) (hMmInSmallDx : Cert.MmInSmallDx.Facts) (hMmInSmallDxIdeal : Cert.MmInSmallDxIdeal.Facts) (hMmInSmallDxRefIdeal : Cert.MmInSmallDxRefIdeal.Facts) (hMmInSmallDw : Cert.MmInSmallDw.Facts) (hMmInSmallDwIdeal : Cert.MmInSmallDwIdeal.Facts) (hMmInSmallDwRefIdeal : Cert.MmInSmallDwRefIdeal.Facts) (hMmOut : Cert.MmOut.Facts) (hMmOutIdeal : Cert.MmOutIdeal.Facts) (hMmOutRefIdeal : Cert.MmOutRefIdeal.Facts) (hMmOutDx : Cert.MmOutDx.Facts) (hMmOutDxIdeal : Cert.MmOutDxIdeal.Facts) (hMmOutDxRefIdeal : Cert.MmOutDxRefIdeal.Facts) (hMmOutDw : Cert.MmOutDw.Facts) (hMmOutDwIdeal : Cert.MmOutDwIdeal.Facts) (hMmOutDwRefIdeal : Cert.MmOutDwRefIdeal.Facts) (hMmUp : Cert.MmUp.Facts) (hMmUpIdeal : Cert.MmUpIdeal.Facts) (hMmUpRefIdeal : Cert.MmUpRefIdeal.Facts) (hMmUpDx : Cert.MmUpDx.Facts) (hMmUpDxIdeal : Cert.MmUpDxIdeal.Facts) (hMmUpDxRefIdeal : Cert.MmUpDxRefIdeal.Facts) (hMmUpDw : Cert.MmUpDw.Facts) (hMmUpDwIdeal : Cert.MmUpDwIdeal.Facts) (hMmUpDwRefIdeal : Cert.MmUpDwRefIdeal.Facts) (hMmDown : Cert.MmDown.Facts) (hMmDownIdeal : Cert.MmDownIdeal.Facts) (hMmDownRefIdeal : Cert.MmDownRefIdeal.Facts) (hMmDownDx : Cert.MmDownDx.Facts) (hMmDownDxIdeal : Cert.MmDownDxIdeal.Facts) (hMmDownDxRefIdeal : Cert.MmDownDxRefIdeal.Facts) (hMmDownDw : Cert.MmDownDw.Facts) (hMmDownDwIdeal : Cert.MmDownDwIdeal.Facts) (hMmDownDwRefIdeal : Cert.MmDownDwRefIdeal.Facts) (hAddDh : Cert.AddDh.Facts) (hAddDhIdeal : Cert.AddDhIdeal.Facts) (hAddDhRefIdeal : Cert.AddDhRefIdeal.Facts) (hAddDx : Cert.AddDx.Facts) (hAddDxIdeal : Cert.AddDxIdeal.Facts) (hAddDxRefIdeal : Cert.AddDxRefIdeal.Facts) (hGradX : Cert.GradX.Facts) (hGradXIdeal : Cert.GradXIdeal.Facts) (hGradXRefIdeal : Cert.GradXRefIdeal.Facts) (hNorm : Cert.Norm.Facts) (hNormIdeal : Cert.NormIdeal.Facts) (hNormRefIdeal : Cert.NormRefIdeal.Facts) (hMix : Cert.Mix.Facts) (hMixIdeal : Cert.MixIdeal.Facts) (hMixRefIdeal : Cert.MixRefIdeal.Facts) (hMixBack : Cert.MixBack.Facts) (hMixBackIdeal : Cert.MixBackIdeal.Facts) (hMixBackRefIdeal : Cert.MixBackRefIdeal.Facts) (hLoss : Cert.Loss.Facts) (hLossIdeal : Cert.LossIdeal.Facts) (hLossRefIdeal : Cert.LossRefIdeal.Facts) (hGatherRef : Cert.GatherRef.Facts) (hSendRef : Cert.SendRef.Facts) (hScatterRef : Cert.ScatterRef.Facts) (hPairRef : Cert.PairRef.Facts),
    quiescent_Gather (hGather := hGather)
    ∧ quiescent_GatherIdeal (hGatherIdeal := hGatherIdeal)
    ∧ quiescent_GatherRefIdeal (hGatherRefIdeal := hGatherRefIdeal)
    ∧ quiescent_Send (hSend := hSend)
    ∧ quiescent_SendIdeal (hSendIdeal := hSendIdeal)
    ∧ quiescent_SendRefIdeal (hSendRefIdeal := hSendRefIdeal)
    ∧ quiescent_Scatter (hScatter := hScatter)
    ∧ quiescent_ScatterIdeal (hScatterIdeal := hScatterIdeal)
    ∧ quiescent_ScatterRefIdeal (hScatterRefIdeal := hScatterRefIdeal)
    ∧ quiescent_Pair (hPair := hPair)
    ∧ quiescent_PairIdeal (hPairIdeal := hPairIdeal)
    ∧ quiescent_PairRefIdeal (hPairRefIdeal := hPairRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_Small (hSmall := hSmall)
    ∧ quiescent_SmallIdeal (hSmallIdeal := hSmallIdeal)
    ∧ quiescent_SmallRefIdeal (hSmallRefIdeal := hSmallRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_MmInBig (hMmInBig := hMmInBig)
    ∧ quiescent_MmInBigIdeal (hMmInBigIdeal := hMmInBigIdeal)
    ∧ quiescent_MmInBigRefIdeal (hMmInBigRefIdeal := hMmInBigRefIdeal)
    ∧ quiescent_MmInBigDx (hMmInBigDx := hMmInBigDx)
    ∧ quiescent_MmInBigDxIdeal (hMmInBigDxIdeal := hMmInBigDxIdeal)
    ∧ quiescent_MmInBigDxRefIdeal (hMmInBigDxRefIdeal := hMmInBigDxRefIdeal)
    ∧ quiescent_MmInBigDw (hMmInBigDw := hMmInBigDw)
    ∧ quiescent_MmInBigDwIdeal (hMmInBigDwIdeal := hMmInBigDwIdeal)
    ∧ quiescent_MmInBigDwRefIdeal (hMmInBigDwRefIdeal := hMmInBigDwRefIdeal)
    ∧ quiescent_MmInSmall (hMmInSmall := hMmInSmall)
    ∧ quiescent_MmInSmallIdeal (hMmInSmallIdeal := hMmInSmallIdeal)
    ∧ quiescent_MmInSmallRefIdeal (hMmInSmallRefIdeal := hMmInSmallRefIdeal)
    ∧ quiescent_MmInSmallDx (hMmInSmallDx := hMmInSmallDx)
    ∧ quiescent_MmInSmallDxIdeal (hMmInSmallDxIdeal := hMmInSmallDxIdeal)
    ∧ quiescent_MmInSmallDxRefIdeal (hMmInSmallDxRefIdeal := hMmInSmallDxRefIdeal)
    ∧ quiescent_MmInSmallDw (hMmInSmallDw := hMmInSmallDw)
    ∧ quiescent_MmInSmallDwIdeal (hMmInSmallDwIdeal := hMmInSmallDwIdeal)
    ∧ quiescent_MmInSmallDwRefIdeal (hMmInSmallDwRefIdeal := hMmInSmallDwRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmOutDx (hMmOutDx := hMmOutDx)
    ∧ quiescent_MmOutDxIdeal (hMmOutDxIdeal := hMmOutDxIdeal)
    ∧ quiescent_MmOutDxRefIdeal (hMmOutDxRefIdeal := hMmOutDxRefIdeal)
    ∧ quiescent_MmOutDw (hMmOutDw := hMmOutDw)
    ∧ quiescent_MmOutDwIdeal (hMmOutDwIdeal := hMmOutDwIdeal)
    ∧ quiescent_MmOutDwRefIdeal (hMmOutDwRefIdeal := hMmOutDwRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmUpDx (hMmUpDx := hMmUpDx)
    ∧ quiescent_MmUpDxIdeal (hMmUpDxIdeal := hMmUpDxIdeal)
    ∧ quiescent_MmUpDxRefIdeal (hMmUpDxRefIdeal := hMmUpDxRefIdeal)
    ∧ quiescent_MmUpDw (hMmUpDw := hMmUpDw)
    ∧ quiescent_MmUpDwIdeal (hMmUpDwIdeal := hMmUpDwIdeal)
    ∧ quiescent_MmUpDwRefIdeal (hMmUpDwRefIdeal := hMmUpDwRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MmDownDx (hMmDownDx := hMmDownDx)
    ∧ quiescent_MmDownDxIdeal (hMmDownDxIdeal := hMmDownDxIdeal)
    ∧ quiescent_MmDownDxRefIdeal (hMmDownDxRefIdeal := hMmDownDxRefIdeal)
    ∧ quiescent_MmDownDw (hMmDownDw := hMmDownDw)
    ∧ quiescent_MmDownDwIdeal (hMmDownDwIdeal := hMmDownDwIdeal)
    ∧ quiescent_MmDownDwRefIdeal (hMmDownDwRefIdeal := hMmDownDwRefIdeal)
    ∧ quiescent_AddDh (hAddDh := hAddDh)
    ∧ quiescent_AddDhIdeal (hAddDhIdeal := hAddDhIdeal)
    ∧ quiescent_AddDhRefIdeal (hAddDhRefIdeal := hAddDhRefIdeal)
    ∧ quiescent_AddDx (hAddDx := hAddDx)
    ∧ quiescent_AddDxIdeal (hAddDxIdeal := hAddDxIdeal)
    ∧ quiescent_AddDxRefIdeal (hAddDxRefIdeal := hAddDxRefIdeal)
    ∧ quiescent_GradX (hGradX := hGradX)
    ∧ quiescent_GradXIdeal (hGradXIdeal := hGradXIdeal)
    ∧ quiescent_GradXRefIdeal (hGradXRefIdeal := hGradXRefIdeal)
    ∧ quiescent_Norm (hNorm := hNorm)
    ∧ quiescent_NormIdeal (hNormIdeal := hNormIdeal)
    ∧ quiescent_NormRefIdeal (hNormRefIdeal := hNormRefIdeal)
    ∧ quiescent_Mix (hMix := hMix)
    ∧ quiescent_MixIdeal (hMixIdeal := hMixIdeal)
    ∧ quiescent_MixRefIdeal (hMixRefIdeal := hMixRefIdeal)
    ∧ quiescent_MixBack (hMixBack := hMixBack)
    ∧ quiescent_MixBackIdeal (hMixBackIdeal := hMixBackIdeal)
    ∧ quiescent_MixBackRefIdeal (hMixBackRefIdeal := hMixBackRefIdeal)
    ∧ quiescent_Loss (hLoss := hLoss)
    ∧ quiescent_LossIdeal (hLossIdeal := hLossIdeal)
    ∧ quiescent_LossRefIdeal (hLossRefIdeal := hLossRefIdeal)
    ∧ quiescent_GatherRef (hGatherRef := hGatherRef)
    ∧ quiescent_SendRef (hSendRef := hSendRef)
    ∧ quiescent_ScatterRef (hScatterRef := hScatterRef)
    ∧ quiescent_PairRef (hPairRef := hPairRef)
    ∧ preserves_Gather_GatherIdeal
    ∧ algebraic_GatherIdeal_GatherRefIdeal (hGatherIdeal := hGatherIdeal) (hGatherRefIdeal := hGatherRefIdeal)
    ∧ preserves_Send_SendIdeal
    ∧ algebraic_SendIdeal_SendRefIdeal (hSendIdeal := hSendIdeal) (hSendRefIdeal := hSendRefIdeal)
    ∧ preserves_Scatter_ScatterIdeal
    ∧ algebraic_ScatterIdeal_ScatterRefIdeal (hScatterIdeal := hScatterIdeal) (hScatterRefIdeal := hScatterRefIdeal)
    ∧ preserves_Pair_PairIdeal
    ∧ algebraic_PairIdeal_PairRefIdeal (hPairIdeal := hPairIdeal) (hPairRefIdeal := hPairRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_Small_SmallIdeal
    ∧ algebraic_SmallIdeal_SmallRefIdeal (hSmallIdeal := hSmallIdeal) (hSmallRefIdeal := hSmallRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_MmInBig_MmInBigIdeal
    ∧ algebraic_MmInBigIdeal_MmInBigRefIdeal (hMmInBigIdeal := hMmInBigIdeal) (hMmInBigRefIdeal := hMmInBigRefIdeal)
    ∧ preserves_MmInBigDx_MmInBigDxIdeal
    ∧ algebraic_MmInBigDxIdeal_MmInBigDxRefIdeal (hMmInBigDxIdeal := hMmInBigDxIdeal) (hMmInBigDxRefIdeal := hMmInBigDxRefIdeal)
    ∧ preserves_MmInBigDw_MmInBigDwIdeal
    ∧ algebraic_MmInBigDwIdeal_MmInBigDwRefIdeal (hMmInBigDwIdeal := hMmInBigDwIdeal) (hMmInBigDwRefIdeal := hMmInBigDwRefIdeal)
    ∧ preserves_MmInSmall_MmInSmallIdeal
    ∧ algebraic_MmInSmallIdeal_MmInSmallRefIdeal (hMmInSmallIdeal := hMmInSmallIdeal) (hMmInSmallRefIdeal := hMmInSmallRefIdeal)
    ∧ preserves_MmInSmallDx_MmInSmallDxIdeal
    ∧ algebraic_MmInSmallDxIdeal_MmInSmallDxRefIdeal (hMmInSmallDxIdeal := hMmInSmallDxIdeal) (hMmInSmallDxRefIdeal := hMmInSmallDxRefIdeal)
    ∧ preserves_MmInSmallDw_MmInSmallDwIdeal
    ∧ algebraic_MmInSmallDwIdeal_MmInSmallDwRefIdeal (hMmInSmallDwIdeal := hMmInSmallDwIdeal) (hMmInSmallDwRefIdeal := hMmInSmallDwRefIdeal)
    ∧ preserves_MmOut_MmOutIdeal
    ∧ algebraic_MmOutIdeal_MmOutRefIdeal (hMmOutIdeal := hMmOutIdeal) (hMmOutRefIdeal := hMmOutRefIdeal)
    ∧ preserves_MmOutDx_MmOutDxIdeal
    ∧ algebraic_MmOutDxIdeal_MmOutDxRefIdeal (hMmOutDxIdeal := hMmOutDxIdeal) (hMmOutDxRefIdeal := hMmOutDxRefIdeal)
    ∧ preserves_MmOutDw_MmOutDwIdeal
    ∧ algebraic_MmOutDwIdeal_MmOutDwRefIdeal (hMmOutDwIdeal := hMmOutDwIdeal) (hMmOutDwRefIdeal := hMmOutDwRefIdeal)
    ∧ preserves_MmUp_MmUpIdeal
    ∧ algebraic_MmUpIdeal_MmUpRefIdeal (hMmUpIdeal := hMmUpIdeal) (hMmUpRefIdeal := hMmUpRefIdeal)
    ∧ preserves_MmUpDx_MmUpDxIdeal
    ∧ algebraic_MmUpDxIdeal_MmUpDxRefIdeal (hMmUpDxIdeal := hMmUpDxIdeal) (hMmUpDxRefIdeal := hMmUpDxRefIdeal)
    ∧ preserves_MmUpDw_MmUpDwIdeal
    ∧ algebraic_MmUpDwIdeal_MmUpDwRefIdeal (hMmUpDwIdeal := hMmUpDwIdeal) (hMmUpDwRefIdeal := hMmUpDwRefIdeal)
    ∧ preserves_MmDown_MmDownIdeal
    ∧ algebraic_MmDownIdeal_MmDownRefIdeal (hMmDownIdeal := hMmDownIdeal) (hMmDownRefIdeal := hMmDownRefIdeal)
    ∧ preserves_MmDownDx_MmDownDxIdeal
    ∧ algebraic_MmDownDxIdeal_MmDownDxRefIdeal (hMmDownDxIdeal := hMmDownDxIdeal) (hMmDownDxRefIdeal := hMmDownDxRefIdeal)
    ∧ preserves_MmDownDw_MmDownDwIdeal
    ∧ algebraic_MmDownDwIdeal_MmDownDwRefIdeal (hMmDownDwIdeal := hMmDownDwIdeal) (hMmDownDwRefIdeal := hMmDownDwRefIdeal)
    ∧ preserves_AddDh_AddDhIdeal
    ∧ algebraic_AddDhIdeal_AddDhRefIdeal (hAddDhIdeal := hAddDhIdeal) (hAddDhRefIdeal := hAddDhRefIdeal)
    ∧ preserves_AddDx_AddDxIdeal
    ∧ algebraic_AddDxIdeal_AddDxRefIdeal (hAddDxIdeal := hAddDxIdeal) (hAddDxRefIdeal := hAddDxRefIdeal)
    ∧ preserves_GradX_GradXIdeal
    ∧ algebraic_GradXIdeal_GradXRefIdeal (hGradXIdeal := hGradXIdeal) (hGradXRefIdeal := hGradXRefIdeal)
    ∧ preserves_Norm_NormIdeal
    ∧ algebraic_NormIdeal_NormRefIdeal (hNormIdeal := hNormIdeal) (hNormRefIdeal := hNormRefIdeal)
    ∧ preserves_Mix_MixIdeal
    ∧ algebraic_MixIdeal_MixRefIdeal (hMixIdeal := hMixIdeal) (hMixRefIdeal := hMixRefIdeal)
    ∧ preserves_MixBack_MixBackIdeal
    ∧ algebraic_MixBackIdeal_MixBackRefIdeal (hMixBackIdeal := hMixBackIdeal) (hMixBackRefIdeal := hMixBackRefIdeal)
    ∧ preserves_Loss_LossIdeal
    ∧ algebraic_LossIdeal_LossRefIdeal (hLossIdeal := hLossIdeal) (hLossRefIdeal := hLossRefIdeal)
    ∧ bitexact_Gather_GatherRef (hGather := hGather) (hGatherRef := hGatherRef)
    ∧ bitexact_Send_SendRef (hSend := hSend) (hSendRef := hSendRef)
    ∧ bitexact_Scatter_ScatterRef (hScatter := hScatter) (hScatterRef := hScatterRef)
    ∧ bitexact_Pair_PairRef (hPair := hPair) (hPairRef := hPairRef)
-- ==== Gather.lean ====
abbrev S1024x1672 : Shape := ⟨2, ![1024, 1672]⟩
abbrev S512x1024 : Shape := ⟨2, ![512, 1024]⟩
abbrev S1024x1408 : Shape := ⟨2, ![1024, 1408]⟩
abbrev S704x1024 : Shape := ⟨2, ![704, 1024]⟩
abbrev S4x768 : Shape := ⟨2, ![4, 768]⟩
abbrev S4x384 : Shape := ⟨2, ![4, 384]⟩
abbrev S3x1408 : Shape := ⟨2, ![3, 1408]⟩
abbrev S4x1024x1672 : Shape := ⟨3, ![4, 1024, 1672]⟩
abbrev S4x512x1024 : Shape := ⟨3, ![4, 512, 1024]⟩
abbrev S4x1024x1408 : Shape := ⟨3, ![4, 1024, 1408]⟩
abbrev S4x704x1024 : Shape := ⟨3, ![4, 704, 1024]⟩
abbrev S4x4x768 : Shape := ⟨3, ![4, 4, 768]⟩
abbrev S4x4x384 : Shape := ⟨3, ![4, 4, 384]⟩
abbrev S4x3x1408 : Shape := ⟨3, ![4, 3, 1408]⟩
abbrev S21 : Shape := ⟨1, ![21]⟩
abbrev S7 : Shape := ⟨1, ![7]⟩
abbrev S1 : Shape := ⟨1, ![1]⟩
abbrev S_ : Shape := ⟨0, ![]⟩
abbrev S1x1024x1672 : Shape := ⟨3, ![1, 1024, 1672]⟩
abbrev S1x512x1024 : Shape := ⟨3, ![1, 512, 1024]⟩
abbrev S1x1024x1408 : Shape := ⟨3, ![1, 1024, 1408]⟩
abbrev S1x704x1024 : Shape := ⟨3, ![1, 704, 1024]⟩
abbrev S1x4x768 : Shape := ⟨3, ![1, 4, 768]⟩
abbrev S1x4x384 : Shape := ⟨3, ![1, 4, 384]⟩
abbrev S1x3x1408 : Shape := ⟨3, ![1, 3, 1408]⟩

abbrev nBuf : Space → Nat
  | .hbm => 14
  | .vmem => 0
  | .smem => 0
  | _ => 0

abbrev bufTy : (tb : Table) → Fin (tcTables nBuf tb) → BufTy
  | .hbm, ⟨0, _⟩ => ⟨S1024x1672, .bf16⟩
  | .hbm, ⟨1, _⟩ => ⟨S512x1024, .bf16⟩
  | .hbm, ⟨2, _⟩ => ⟨S1024x1408, .bf16⟩
  | .hbm, ⟨3, _⟩ => ⟨S704x1024, .bf16⟩
  | .hbm, ⟨4, _⟩ => ⟨S4x768, .f32⟩
  | .hbm, ⟨5, _⟩ => ⟨S4x384, .f32⟩
  | .hbm, ⟨6, _⟩ => ⟨S3x1408, .f32⟩
  | .hbm, ⟨7, _⟩ => ⟨S4x1024x1672, .bf16⟩
  | .hbm, ⟨8, _⟩ => ⟨S4x512x1024, .bf16⟩
  | .hbm, ⟨9, _⟩ => ⟨S4x1024x1408, .bf16⟩
  | .hbm, ⟨10, _⟩ => ⟨S4x704x1024, .bf16⟩
  | .hbm, ⟨11, _⟩ => ⟨S4x4x768, .f32⟩
  | .hbm, ⟨12, _⟩ => ⟨S4x4x384, .f32⟩
  | .hbm, ⟨13, _⟩ => ⟨S4x3x1408, .f32⟩
  | _, _ => ⟨S1024x1672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_7 : BitVec 32 := 0#32
  let c0_i32_8 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_10 : BitVec 32 := 0#32
  let c0_i32_11 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_12 : BitVec 32 := 0#32
  let c0_i32_13 : BitVec 32 := 0#32
  ![v10.toNat, 0, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_15 : BitVec 32 := 0#32
  let c0_i32_16 : BitVec 32 := 0#32
  ![v10.toNat, 0, 0]
def k0_off6 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_17 : BitVec 32 := 0#32
  let c0_i32_18 : BitVec 32 := 0#32
  ![v10.toNat, 0, 0]
def k0_off7 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_19 : BitVec 32 := 0#32
  let c0_i32_20 : BitVec 32 := 0#32
  ![v10.toNat, 0, 0]
def k0_dev1 (d0 : Dev nD) : Nat :=
  let c0_i32_25 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_21 v2
  let c4_i32_24 : BitVec 32 := 4#32
  let v40 : BitVec 32 := Scalar.muli v39 c4_i32_24
  let v41 : BitVec 32 := Scalar.addi c0_i32_25 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v42 : BitVec 32 := Scalar.muli v5 c2_i32_26
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v44 : BitVec 32 := Scalar.muli v8 c1_i32_27
  let v45 : BitVec 32 := Scalar.addi v43 v44
  v45.toNat
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v53 : BitVec 32 := Scalar.muli v2 c4_i32_33
  let v54 : BitVec 32 := Scalar.addi c0_i32_34 v53
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v52 : BitVec 32 := Scalar.subi c1_i32_30 v5
  let c2_i32_35 : BitVec 32 := 2#32
  let v55 : BitVec 32 := Scalar.muli v52 c2_i32_35
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.muli v8 c1_i32_36
  let v58 : BitVec 32 := Scalar.addi v56 v57
  v58.toNat
def k0_dev3 (d0 : Dev nD) : Nat :=
  let c0_i32_44 : BitVec 32 := 0#32
  let c1_i32_39 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.subi c1_i32_39 v2
  let c4_i32_43 : BitVec 32 := 4#32
  let v67 : BitVec 32 := Scalar.muli v65 c4_i32_43
  let v68 : BitVec 32 := Scalar.addi c0_i32_44 v67
  let c1_i32_40 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.subi c1_i32_40 v5
  let c2_i32_45 : BitVec 32 := 2#32
  let v69 : BitVec 32 := Scalar.muli v66 c2_i32_45
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v71 : BitVec 32 := Scalar.muli v8 c1_i32_46
  let v72 : BitVec 32 := Scalar.addi v70 v71
  v72.toNat
def k0_dev4 (d0 : Dev nD) : Nat :=
  let c0_i32_53 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v79 : BitVec 32 := Scalar.subi c1_i32_49 v2
  let c4_i32_52 : BitVec 32 := 4#32
  let v80 : BitVec 32 := Scalar.muli v79 c4_i32_52
  let v81 : BitVec 32 := Scalar.addi c0_i32_53 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v82 : BitVec 32 := Scalar.muli v5 c2_i32_54
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v84 : BitVec 32 := Scalar.muli v8 c1_i32_55
  let v85 : BitVec 32 := Scalar.addi v83 v84
  v85.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v93 : BitVec 32 := Scalar.muli v2 c4_i32_61
  let v94 : BitVec 32 := Scalar.addi c0_i32_62 v93
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v92 : BitVec 32 := Scalar.subi c1_i32_58 v5
  let c2_i32_63 : BitVec 32 := 2#32
  let v95 : BitVec 32 := Scalar.muli v92 c2_i32_63
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v97 : BitVec 32 := Scalar.muli v8 c1_i32_64
  let v98 : BitVec 32 := Scalar.addi v96 v97
  v98.toNat
def k0_dev6 (d0 : Dev nD) : Nat :=
  let c0_i32_72 : BitVec 32 := 0#32
  let c1_i32_67 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v105 : BitVec 32 := Scalar.subi c1_i32_67 v2
  let c4_i32_71 : BitVec 32 := 4#32
  let v107 : BitVec 32 := Scalar.muli v105 c4_i32_71
  let v108 : BitVec 32 := Scalar.addi c0_i32_72 v107
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v106 : BitVec 32 := Scalar.subi c1_i32_68 v5
  let c2_i32_73 : BitVec 32 := 2#32
  let v109 : BitVec 32 := Scalar.muli v106 c2_i32_73
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v111 : BitVec 32 := Scalar.muli v8 c1_i32_74
  let v112 : BitVec 32 := Scalar.addi v110 v111
  v112.toNat
def k0_dev7 (d0 : Dev nD) : Nat :=
  let c0_i32_81 : BitVec 32 := 0#32
  let c1_i32_77 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v119 : BitVec 32 := Scalar.subi c1_i32_77 v2
  let c4_i32_80 : BitVec 32 := 4#32
  let v120 : BitVec 32 := Scalar.muli v119 c4_i32_80
  let v121 : BitVec 32 := Scalar.addi c0_i32_81 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v122 : BitVec 32 := Scalar.muli v5 c2_i32_82
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v124 : BitVec 32 := Scalar.muli v8 c1_i32_83
  let v125 : BitVec 32 := Scalar.addi v123 v124
  v125.toNat
def k0_dev8 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v133 : BitVec 32 := Scalar.muli v2 c4_i32_88
  let v134 : BitVec 32 := Scalar.addi c0_i32_89 v133
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v132 : BitVec 32 := Scalar.subi c1_i32_86 v5
  let c2_i32_90 : BitVec 32 := 2#32
  let v135 : BitVec 32 := Scalar.muli v132 c2_i32_90
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v137 : BitVec 32 := Scalar.muli v8 c1_i32_91
  let v138 : BitVec 32 := Scalar.addi v136 v137
  v138.toNat
def k0_dev9 (d0 : Dev nD) : Nat :=
  let c0_i32_98 : BitVec 32 := 0#32
  let c1_i32_94 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v145 : BitVec 32 := Scalar.subi c1_i32_94 v2
  let c4_i32_97 : BitVec 32 := 4#32
  let v147 : BitVec 32 := Scalar.muli v145 c4_i32_97
  let v148 : BitVec 32 := Scalar.addi c0_i32_98 v147
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v146 : BitVec 32 := Scalar.subi c1_i32_95 v5
  let c2_i32_99 : BitVec 32 := 2#32
  let v149 : BitVec 32 := Scalar.muli v146 c2_i32_99
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v151 : BitVec 32 := Scalar.muli v8 c1_i32_100
  let v152 : BitVec 32 := Scalar.addi v150 v151
  v152.toNat
def k0_dev10 (d0 : Dev nD) : Nat :=
  let c0_i32_106 : BitVec 32 := 0#32
  let c1_i32_103 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v159 : BitVec 32 := Scalar.subi c1_i32_103 v2
  let c4_i32_105 : BitVec 32 := 4#32
  let v160 : BitVec 32 := Scalar.muli v159 c4_i32_105
  let v161 : BitVec 32 := Scalar.addi c0_i32_106 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v162 : BitVec 32 := Scalar.muli v5 c2_i32_107
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v164 : BitVec 32 := Scalar.muli v8 c1_i32_108
  let v165 : BitVec 32 := Scalar.addi v163 v164
  v165.toNat
def k0_dev11 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v173 : BitVec 32 := Scalar.muli v2 c4_i32_113
  let v174 : BitVec 32 := Scalar.addi c0_i32_114 v173
  let c1_i32_111 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v172 : BitVec 32 := Scalar.subi c1_i32_111 v5
  let c2_i32_115 : BitVec 32 := 2#32
  let v175 : BitVec 32 := Scalar.muli v172 c2_i32_115
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v177 : BitVec 32 := Scalar.muli v8 c1_i32_116
  let v178 : BitVec 32 := Scalar.addi v176 v177
  v178.toNat
def k0_dev12 (d0 : Dev nD) : Nat :=
  let c0_i32_123 : BitVec 32 := 0#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v185 : BitVec 32 := Scalar.subi c1_i32_119 v2
  let c4_i32_122 : BitVec 32 := 4#32
  let v187 : BitVec 32 := Scalar.muli v185 c4_i32_122
  let v188 : BitVec 32 := Scalar.addi c0_i32_123 v187
  let c1_i32_120 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v186 : BitVec 32 := Scalar.subi c1_i32_120 v5
  let c2_i32_124 : BitVec 32 := 2#32
  let v189 : BitVec 32 := Scalar.muli v186 c2_i32_124
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v191 : BitVec 32 := Scalar.muli v8 c1_i32_125
  let v192 : BitVec 32 := Scalar.addi v190 v191
  v192.toNat
def k0_dev13 (d0 : Dev nD) : Nat :=
  let c0_i32_131 : BitVec 32 := 0#32
  let c1_i32_128 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v199 : BitVec 32 := Scalar.subi c1_i32_128 v2
  let c4_i32_130 : BitVec 32 := 4#32
  let v200 : BitVec 32 := Scalar.muli v199 c4_i32_130
  let v201 : BitVec 32 := Scalar.addi c0_i32_131 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v202 : BitVec 32 := Scalar.muli v5 c2_i32_132
  let v203 : BitVec 32 := Scalar.addi v201 v202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v204 : BitVec 32 := Scalar.muli v8 c1_i32_133
  let v205 : BitVec 32 := Scalar.addi v203 v204
  v205.toNat
def k0_dev14 (d0 : Dev nD) : Nat :=
  let c0_i32_139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_138 : BitVec 32 := 4#32
  let v213 : BitVec 32 := Scalar.muli v2 c4_i32_138
  let v214 : BitVec 32 := Scalar.addi c0_i32_139 v213
  let c1_i32_136 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.subi c1_i32_136 v5
  let c2_i32_140 : BitVec 32 := 2#32
  let v215 : BitVec 32 := Scalar.muli v212 c2_i32_140
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v217 : BitVec 32 := Scalar.muli v8 c1_i32_141
  let v218 : BitVec 32 := Scalar.addi v216 v217
  v218.toNat
def k0_dev15 (d0 : Dev nD) : Nat :=
  let c0_i32_148 : BitVec 32 := 0#32
  let c1_i32_144 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v225 : BitVec 32 := Scalar.subi c1_i32_144 v2
  let c4_i32_147 : BitVec 32 := 4#32
  let v227 : BitVec 32 := Scalar.muli v225 c4_i32_147
  let v228 : BitVec 32 := Scalar.addi c0_i32_148 v227
  let c1_i32_145 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v226 : BitVec 32 := Scalar.subi c1_i32_145 v5
  let c2_i32_149 : BitVec 32 := 2#32
  let v229 : BitVec 32 := Scalar.muli v226 c2_i32_149
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v231 : BitVec 32 := Scalar.muli v8 c1_i32_150
  let v232 : BitVec 32 := Scalar.addi v230 v231
  v232.toNat
def k0_dev16 (d0 : Dev nD) : Nat :=
  let c0_i32_156 : BitVec 32 := 0#32
  let c1_i32_153 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v239 : BitVec 32 := Scalar.subi c1_i32_153 v2
  let c4_i32_155 : BitVec 32 := 4#32
  let v240 : BitVec 32 := Scalar.muli v239 c4_i32_155
  let v241 : BitVec 32 := Scalar.addi c0_i32_156 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v242 : BitVec 32 := Scalar.muli v5 c2_i32_157
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v244 : BitVec 32 := Scalar.muli v8 c1_i32_158
  let v245 : BitVec 32 := Scalar.addi v243 v244
  v245.toNat
def k0_dev17 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v253 : BitVec 32 := Scalar.muli v2 c4_i32_163
  let v254 : BitVec 32 := Scalar.addi c0_i32_164 v253
  let c1_i32_161 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v252 : BitVec 32 := Scalar.subi c1_i32_161 v5
  let c2_i32_165 : BitVec 32 := 2#32
  let v255 : BitVec 32 := Scalar.muli v252 c2_i32_165
  let v256 : BitVec 32 := Scalar.addi v254 v255
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v257 : BitVec 32 := Scalar.muli v8 c1_i32_166
  let v258 : BitVec 32 := Scalar.addi v256 v257
  v258.toNat
def k0_dev18 (d0 : Dev nD) : Nat :=
  let c0_i32_173 : BitVec 32 := 0#32
  let c1_i32_169 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v265 : BitVec 32 := Scalar.subi c1_i32_169 v2
  let c4_i32_172 : BitVec 32 := 4#32
  let v267 : BitVec 32 := Scalar.muli v265 c4_i32_172
  let v268 : BitVec 32 := Scalar.addi c0_i32_173 v267
  let c1_i32_170 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v266 : BitVec 32 := Scalar.subi c1_i32_170 v5
  let c2_i32_174 : BitVec 32 := 2#32
  let v269 : BitVec 32 := Scalar.muli v266 c2_i32_174
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v271 : BitVec 32 := Scalar.muli v8 c1_i32_175
  let v272 : BitVec 32 := Scalar.addi v270 v271
  v272.toNat
def k0_dev19 (d0 : Dev nD) : Nat :=
  let c0_i32_181 : BitVec 32 := 0#32
  let c1_i32_178 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_178 v2
  let c4_i32_180 : BitVec 32 := 4#32
  let v280 : BitVec 32 := Scalar.muli v279 c4_i32_180
  let v281 : BitVec 32 := Scalar.addi c0_i32_181 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v282 : BitVec 32 := Scalar.muli v5 c2_i32_182
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v284 : BitVec 32 := Scalar.muli v8 c1_i32_183
  let v285 : BitVec 32 := Scalar.addi v283 v284
  v285.toNat
def k0_dev20 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v293 : BitVec 32 := Scalar.muli v2 c4_i32_188
  let v294 : BitVec 32 := Scalar.addi c0_i32_189 v293
  let c1_i32_186 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v292 : BitVec 32 := Scalar.subi c1_i32_186 v5
  let c2_i32_190 : BitVec 32 := 2#32
  let v295 : BitVec 32 := Scalar.muli v292 c2_i32_190
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v297 : BitVec 32 := Scalar.muli v8 c1_i32_191
  let v298 : BitVec 32 := Scalar.addi v296 v297
  v298.toNat
def k0_dev21 (d0 : Dev nD) : Nat :=
  let c0_i32_198 : BitVec 32 := 0#32
  let c1_i32_194 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v305 : BitVec 32 := Scalar.subi c1_i32_194 v2
  let c4_i32_197 : BitVec 32 := 4#32
  let v307 : BitVec 32 := Scalar.muli v305 c4_i32_197
  let v308 : BitVec 32 := Scalar.addi c0_i32_198 v307
  let c1_i32_195 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v306 : BitVec 32 := Scalar.subi c1_i32_195 v5
  let c2_i32_199 : BitVec 32 := 2#32
  let v309 : BitVec 32 := Scalar.muli v306 c2_i32_199
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v311 : BitVec 32 := Scalar.muli v8 c1_i32_200
  let v312 : BitVec 32 := Scalar.addi v310 v311
  v312.toNat
def k0_off8 (d0 : Dev nD) : Fin 3 → Nat :=
  let c2_i32_204 : BitVec 32 := 2#32
  let c1_i32_203 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v319 : BitVec 32 := Scalar.subi c1_i32_203 v2
  let v320 : BitVec 32 := Scalar.muli c2_i32_204 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v321 : BitVec 32 := Scalar.addi v320 v5
  let c0_i32_212 : BitVec 32 := 0#32
  let c0_i32_213 : BitVec 32 := 0#32
  ![v321.toNat, 0, 0]
def k0_off9 (d0 : Dev nD) : Fin 3 → Nat :=
  let c2_i32_214 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v333 : BitVec 32 := Scalar.muli c2_i32_214 v2
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v334 : BitVec 32 := Scalar.subi c1_i32_215 v5
  let v335 : BitVec 32 := Scalar.addi v333 v334
  let c0_i32_223 : BitVec 32 := 0#32
  let c0_i32_224 : BitVec 32 := 0#32
  ![v335.toNat, 0, 0]
def k0_off10 (d0 : Dev nD) : Fin 3 → Nat :=
  let c2_i32_226 : BitVec 32 := 2#32
  let c1_i32_225 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v347 : BitVec 32 := Scalar.subi c1_i32_225 v2
  let v348 : BitVec 32 := Scalar.muli c2_i32_226 v347
  let c1_i32_227 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v349 : BitVec 32 := Scalar.subi c1_i32_227 v5
  let v350 : BitVec 32 := Scalar.addi v348 v349
  let c0_i32_236 : BitVec 32 := 0#32
  let c0_i32_237 : BitVec 32 := 0#32
  ![v350.toNat, 0, 0]
def k0_off11 (d0 : Dev nD) : Fin 3 → Nat :=
  let c2_i32_239 : BitVec 32 := 2#32
  let c1_i32_238 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v363 : BitVec 32 := Scalar.subi c1_i32_238 v2
  let v364 : BitVec 32 := Scalar.muli c2_i32_239 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v365 : BitVec 32 := Scalar.addi v364 v5
  let c0_i32_247 : BitVec 32 := 0#32
  let c0_i32_248 : BitVec 32 := 0#32
  ![v365.toNat, 0, 0]
def k0_off12 (d0 : Dev nD) : Fin 3 → Nat :=
  let c2_i32_249 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v377 : BitVec 32 := Scalar.muli c2_i32_249 v2
  let c1_i32_250 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v378 : BitVec 32 := Scalar.subi c1_i32_250 v5
  let v379 : BitVec 32 := Scalar.addi v377 v378
  let c0_i32_258 : BitVec 32 := 0#32
  let c0_i32_259 : BitVec 32 := 0#32
  ![v379.toNat, 0, 0]
def k0_off13 (d0 : Dev nD) : Fin 3 → Nat :=
  let c2_i32_261 : BitVec 32 := 2#32
  let c1_i32_260 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v391 : BitVec 32 := Scalar.subi c1_i32_260 v2
  let v392 : BitVec 32 := Scalar.muli c2_i32_261 v391
  let c1_i32_262 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v393 : BitVec 32 := Scalar.subi c1_i32_262 v5
  let v394 : BitVec 32 := Scalar.addi v392 v393
  let c0_i32_271 : BitVec 32 := 0#32
  let c0_i32_272 : BitVec 32 := 0#32
  ![v394.toNat, 0, 0]
def k0_off14 (d0 : Dev nD) : Fin 3 → Nat :=
  let c2_i32_274 : BitVec 32 := 2#32
  let c1_i32_273 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v407 : BitVec 32 := Scalar.subi c1_i32_273 v2
  let v408 : BitVec 32 := Scalar.muli c2_i32_274 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.addi v408 v5
  let c0_i32_282 : BitVec 32 := 0#32
  let c0_i32_283 : BitVec 32 := 0#32
  ![v409.toNat, 0, 0]
def k0_off15 (d0 : Dev nD) : Fin 3 → Nat :=
  let c2_i32_284 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v421 : BitVec 32 := Scalar.muli c2_i32_284 v2
  let c1_i32_285 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v422 : BitVec 32 := Scalar.subi c1_i32_285 v5
  let v423 : BitVec 32 := Scalar.addi v421 v422
  let c0_i32_293 : BitVec 32 := 0#32
  let c0_i32_294 : BitVec 32 := 0#32
  ![v423.toNat, 0, 0]
def k0_off16 (d0 : Dev nD) : Fin 3 → Nat :=
  let c2_i32_296 : BitVec 32 := 2#32
  let c1_i32_295 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v435 : BitVec 32 := Scalar.subi c1_i32_295 v2
  let v436 : BitVec 32 := Scalar.muli c2_i32_296 v435
  let c1_i32_297 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v437 : BitVec 32 := Scalar.subi c1_i32_297 v5
  let v438 : BitVec 32 := Scalar.addi v436 v437
  let c0_i32_306 : BitVec 32 := 0#32
  let c0_i32_307 : BitVec 32 := 0#32
  ![v438.toNat, 0, 0]
def k0_off17 (d0 : Dev nD) : Fin 3 → Nat :=
  let c2_i32_309 : BitVec 32 := 2#32
  let c1_i32_308 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v451 : BitVec 32 := Scalar.subi c1_i32_308 v2
  let v452 : BitVec 32 := Scalar.muli c2_i32_309 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v453 : BitVec 32 := Scalar.addi v452 v5
  let c0_i32_317 : BitVec 32 := 0#32
  let c0_i32_318 : BitVec 32 := 0#32
  ![v453.toNat, 0, 0]
def k0_off18 (d0 : Dev nD) : Fin 3 → Nat :=
  let c2_i32_319 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v465 : BitVec 32 := Scalar.muli c2_i32_319 v2
  let c1_i32_320 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v466 : BitVec 32 := Scalar.subi c1_i32_320 v5
  let v467 : BitVec 32 := Scalar.addi v465 v466
  let c0_i32_328 : BitVec 32 := 0#32
  let c0_i32_329 : BitVec 32 := 0#32
  ![v467.toNat, 0, 0]
def k0_off19 (d0 : Dev nD) : Fin 3 → Nat :=
  let c2_i32_331 : BitVec 32 := 2#32
  let c1_i32_330 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v479 : BitVec 32 := Scalar.subi c1_i32_330 v2
  let v480 : BitVec 32 := Scalar.muli c2_i32_331 v479
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.subi c1_i32_332 v5
  let v482 : BitVec 32 := Scalar.addi v480 v481
  let c0_i32_341 : BitVec 32 := 0#32
  let c0_i32_342 : BitVec 32 := 0#32
  ![v482.toNat, 0, 0]
def k0_off20 (d0 : Dev nD) : Fin 3 → Nat :=
  let c2_i32_344 : BitVec 32 := 2#32
  let c1_i32_343 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v495 : BitVec 32 := Scalar.subi c1_i32_343 v2
  let v496 : BitVec 32 := Scalar.muli c2_i32_344 v495
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.addi v496 v5
  let c0_i32_352 : BitVec 32 := 0#32
  let c0_i32_353 : BitVec 32 := 0#32
  ![v497.toNat, 0, 0]
def k0_off21 (d0 : Dev nD) : Fin 3 → Nat :=
  let c2_i32_354 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v509 : BitVec 32 := Scalar.muli c2_i32_354 v2
  let c1_i32_355 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v510 : BitVec 32 := Scalar.subi c1_i32_355 v5
  let v511 : BitVec 32 := Scalar.addi v509 v510
  let c0_i32_363 : BitVec 32 := 0#32
  let c0_i32_364 : BitVec 32 := 0#32
  ![v511.toNat, 0, 0]
def k0_off22 (d0 : Dev nD) : Fin 3 → Nat :=
  let c2_i32_366 : BitVec 32 := 2#32
  let c1_i32_365 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v523 : BitVec 32 := Scalar.subi c1_i32_365 v2
  let v524 : BitVec 32 := Scalar.muli c2_i32_366 v523
  let c1_i32_367 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v525 : BitVec 32 := Scalar.subi c1_i32_367 v5
  let v526 : BitVec 32 := Scalar.addi v524 v525
  let c0_i32_376 : BitVec 32 := 0#32
  let c0_i32_377 : BitVec 32 := 0#32
  ![v526.toNat, 0, 0]
def k0_off23 (d0 : Dev nD) : Fin 3 → Nat :=
  let c2_i32_379 : BitVec 32 := 2#32
  let c1_i32_378 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v539 : BitVec 32 := Scalar.subi c1_i32_378 v2
  let v540 : BitVec 32 := Scalar.muli c2_i32_379 v539
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v541 : BitVec 32 := Scalar.addi v540 v5
  let c0_i32_387 : BitVec 32 := 0#32
  let c0_i32_388 : BitVec 32 := 0#32
  ![v541.toNat, 0, 0]
def k0_off24 (d0 : Dev nD) : Fin 3 → Nat :=
  let c2_i32_389 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v553 : BitVec 32 := Scalar.muli c2_i32_389 v2
  let c1_i32_390 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v554 : BitVec 32 := Scalar.subi c1_i32_390 v5
  let v555 : BitVec 32 := Scalar.addi v553 v554
  let c0_i32_398 : BitVec 32 := 0#32
  let c0_i32_399 : BitVec 32 := 0#32
  ![v555.toNat, 0, 0]
def k0_off25 (d0 : Dev nD) : Fin 3 → Nat :=
  let c2_i32_401 : BitVec 32 := 2#32
  let c1_i32_400 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v567 : BitVec 32 := Scalar.subi c1_i32_400 v2
  let v568 : BitVec 32 := Scalar.muli c2_i32_401 v567
  let c1_i32_402 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v569 : BitVec 32 := Scalar.subi c1_i32_402 v5
  let v570 : BitVec 32 := Scalar.addi v568 v569
  let c0_i32_411 : BitVec 32 := 0#32
  let c0_i32_412 : BitVec 32 := 0#32
  ![v570.toNat, 0, 0]
def k0_off26 (d0 : Dev nD) : Fin 3 → Nat :=
  let c2_i32_414 : BitVec 32 := 2#32
  let c1_i32_413 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v583 : BitVec 32 := Scalar.subi c1_i32_413 v2
  let v584 : BitVec 32 := Scalar.muli c2_i32_414 v583
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v585 : BitVec 32 := Scalar.addi v584 v5
  let c0_i32_422 : BitVec 32 := 0#32
  let c0_i32_423 : BitVec 32 := 0#32
  ![v585.toNat, 0, 0]
def k0_off27 (d0 : Dev nD) : Fin 3 → Nat :=
  let c2_i32_424 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v597 : BitVec 32 := Scalar.muli c2_i32_424 v2
  let c1_i32_425 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v598 : BitVec 32 := Scalar.subi c1_i32_425 v5
  let v599 : BitVec 32 := Scalar.addi v597 v598
  let c0_i32_433 : BitVec 32 := 0#32
  let c0_i32_434 : BitVec 32 := 0#32
  ![v599.toNat, 0, 0]
def k0_off28 (d0 : Dev nD) : Fin 3 → Nat :=
  let c2_i32_436 : BitVec 32 := 2#32
  let c1_i32_435 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v611 : BitVec 32 := Scalar.subi c1_i32_435 v2
  let v612 : BitVec 32 := Scalar.muli c2_i32_436 v611
  let c1_i32_437 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v613 : BitVec 32 := Scalar.subi c1_i32_437 v5
  let v614 : BitVec 32 := Scalar.addi v612 v613
  let c0_i32_446 : BitVec 32 := 0#32
  let c0_i32_447 : BitVec 32 := 0#32
  ![v614.toNat, 0, 0]
-- ==== Send.lean ====
abbrev S4x1024x1672 : Shape := ⟨3, ![4, 1024, 1672]⟩
abbrev S4x512x1024 : Shape := ⟨3, ![4, 512, 1024]⟩
abbrev S4x1024x1408 : Shape := ⟨3, ![4, 1024, 1408]⟩
abbrev S4x704x1024 : Shape := ⟨3, ![4, 704, 1024]⟩
abbrev S4x512x1672 : Shape := ⟨3, ![4, 512, 1672]⟩
abbrev S4x256x1024 : Shape := ⟨3, ![4, 256, 1024]⟩
abbrev S4x512x1408 : Shape := ⟨3, ![4, 512, 1408]⟩
abbrev S4x352x1024 : Shape := ⟨3, ![4, 352, 1024]⟩
abbrev S4 : Shape := ⟨1, ![4]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x1672, .f32⟩
  | .hbm, ⟨1, _⟩ => ⟨S4x512x1024, .f32⟩
  | .hbm, ⟨2, _⟩ => ⟨S4x1024x1408, .f32⟩
  | .hbm, ⟨3, _⟩ => ⟨S4x704x1024, .f32⟩
  | .hbm, ⟨4, _⟩ => ⟨S4x512x1672, .f32⟩
  | .hbm, ⟨5, _⟩ => ⟨S4x256x1024, .f32⟩
  | .hbm, ⟨6, _⟩ => ⟨S4x512x1408, .f32⟩
  | .hbm, ⟨7, _⟩ => ⟨S4x352x1024, .f32⟩
  | _, _ => ⟨S4x1024x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c0_i32_10 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c512_i32 : BitVec 32 := 512#32
  let v11 : BitVec 32 := Scalar.muli v10 c512_i32
  let c0_i32_11 : BitVec 32 := 0#32
  ![0, v11.toNat, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32_7 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v14 : BitVec 32 := Scalar.muli v5 c2_i32_8
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v16 : BitVec 32 := Scalar.muli v9 c1_i32_9
  let v17 : BitVec 32 := Scalar.addi v15 v16
  v17.toNat
def k0_off2 (d0 : Dev nD) : Fin 3 → Nat :=
  let c0_i32_19 : BitVec 32 := 0#32
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c256_i32 : BitVec 32 := 256#32
  let v24 : BitVec 32 := Scalar.muli v23 c256_i32
  let c0_i32_20 : BitVec 32 := 0#32
  ![0, v24.toNat, 0]
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32_16 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v27 : BitVec 32 := Scalar.muli v5 c2_i32_17
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_18 : BitVec 32 := 1#32
  let v29 : BitVec 32 := Scalar.muli v9 c1_i32_18
  let v30 : BitVec 32 := Scalar.addi v28 v29
  v30.toNat
def k0_off3 (d0 : Dev nD) : Fin 3 → Nat :=
  let c0_i32_29 : BitVec 32 := 0#32
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_21 v8
  let c512_i32_22 : BitVec 32 := 512#32
  let v37 : BitVec 32 := Scalar.muli v36 c512_i32_22
  let c0_i32_30 : BitVec 32 := 0#32
  ![0, v37.toNat, 0]
def k0_dev3 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v38 : BitVec 32 := Scalar.muli v2 c4_i32_25
  let v39 : BitVec 32 := Scalar.addi c0_i32_26 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v40 : BitVec 32 := Scalar.muli v5 c2_i32_27
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_28 : BitVec 32 := 1#32
  let v42 : BitVec 32 := Scalar.muli v9 c1_i32_28
  let v43 : BitVec 32 := Scalar.addi v41 v42
  v43.toNat
def k0_off4 (d0 : Dev nD) : Fin 3 → Nat :=
  let c0_i32_37 : BitVec 32 := 0#32
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_31 v8
  let c352_i32 : BitVec 32 := 352#32
  let v50 : BitVec 32 := Scalar.muli v49 c352_i32
  let c0_i32_38 : BitVec 32 := 0#32
  ![0, v50.toNat, 0]
def k0_dev4 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v51 : BitVec 32 := Scalar.muli v2 c4_i32_33
  let v52 : BitVec 32 := Scalar.addi c0_i32_34 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v53 : BitVec 32 := Scalar.muli v5 c2_i32_35
  let v54 : BitVec 32 := Scalar.addi v52 v53
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v55 : BitVec 32 := Scalar.muli v9 c1_i32_36
  let v56 : BitVec 32 := Scalar.addi v54 v55
  v56.toNat
-- ==== Scatter.lean ====
abbrev S4x512x1672 : Shape := ⟨3, ![4, 512, 1672]⟩
abbrev S4x256x1024 : Shape := ⟨3, ![4, 256, 1024]⟩
abbrev S4x512x1408 : Shape := ⟨3, ![4, 512, 1408]⟩
abbrev S4x352x1024 : Shape := ⟨3, ![4, 352, 1024]⟩
abbrev S12 : Shape := ⟨1, ![12]⟩
abbrev S4 : Shape := ⟨1, ![4]⟩
abbrev S1 : Shape := ⟨1, ![1]⟩
abbrev S_ : Shape := ⟨0, ![]⟩
abbrev S1x512x1672 : Shape := ⟨3, ![1, 512, 1672]⟩
abbrev S512x1672 : Shape := ⟨2, ![512, 1672]⟩
abbrev S1x256x1024 : Shape := ⟨3, ![1, 256, 1024]⟩
abbrev S256x1024 : Shape := ⟨2, ![256, 1024]⟩
abbrev S1x512x1408 : Shape := ⟨3, ![1, 512, 1408]⟩
abbrev S512x1408 : Shape := ⟨2, ![512, 1408]⟩
abbrev S1x352x1024 : Shape := ⟨3, ![1, 352, 1024]⟩
abbrev S352x1024 : Shape := ⟨2, ![352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x512x1672, .f32⟩
  | .hbm, ⟨1, _⟩ => ⟨S4x256x1024, .f32⟩
  | .hbm, ⟨2, _⟩ => ⟨S4x512x1408, .f32⟩
  | .hbm, ⟨3, _⟩ => ⟨S4x352x1024, .f32⟩
  | .hbm, ⟨4, _⟩ => ⟨S4x512x1672, .f32⟩
  | .hbm, ⟨5, _⟩ => ⟨S4x256x1024, .f32⟩
  | .hbm, ⟨6, _⟩ => ⟨S4x512x1408, .f32⟩
  | .hbm, ⟨7, _⟩ => ⟨S4x352x1024, .f32⟩
  | _, _ => ⟨S4x512x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_9 : BitVec 32 := 0#32
  let c0_i32_10 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_14 : BitVec 32 := 0#32
  let c0_i32_15 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_18 : BitVec 32 := 0#32
  let c0_i32_19 : BitVec 32 := 0#32
  ![v10.toNat, 0, 0]
def k0_off5 (d0 : Dev nD) : Fin 3 → Nat :=
  let c2_i32_23 : BitVec 32 := 2#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.subi c1_i32_22 v2
  let v36 : BitVec 32 := Scalar.muli c2_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.addi v36 v5
  let c0_i32_33 : BitVec 32 := 0#32
  let c0_i32_34 : BitVec 32 := 0#32
  ![v37.toNat, 0, 0]
def k0_dev1 (d0 : Dev nD) : Nat :=
  let c0_i32_28 : BitVec 32 := 0#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_24 v2
  let c4_i32_27 : BitVec 32 := 4#32
  let v39 : BitVec 32 := Scalar.muli v38 c4_i32_27
  let v40 : BitVec 32 := Scalar.addi c0_i32_28 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v41 : BitVec 32 := Scalar.muli v5 c2_i32_29
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v43 : BitVec 32 := Scalar.muli v8 c1_i32_30
  let v44 : BitVec 32 := Scalar.addi v42 v43
  v44.toNat
def k0_off6 (d0 : Dev nD) : Fin 3 → Nat :=
  let c2_i32_35 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.muli c2_i32_35 v2
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let v55 : BitVec 32 := Scalar.addi v53 v54
  let c0_i32_46 : BitVec 32 := 0#32
  let c0_i32_47 : BitVec 32 := 0#32
  ![v55.toNat, 0, 0]
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v57 : BitVec 32 := Scalar.muli v2 c4_i32_40
  let v58 : BitVec 32 := Scalar.addi c0_i32_41 v57
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_37 v5
  let c2_i32_42 : BitVec 32 := 2#32
  let v59 : BitVec 32 := Scalar.muli v56 c2_i32_42
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v61 : BitVec 32 := Scalar.muli v8 c1_i32_43
  let v62 : BitVec 32 := Scalar.addi v60 v61
  v62.toNat
def k0_off7 (d0 : Dev nD) : Fin 3 → Nat :=
  let c2_i32_49 : BitVec 32 := 2#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v71 : BitVec 32 := Scalar.subi c1_i32_48 v2
  let v72 : BitVec 32 := Scalar.muli c2_i32_49 v71
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_50 v5
  let v74 : BitVec 32 := Scalar.addi v72 v73
  let c0_i32_61 : BitVec 32 := 0#32
  let c0_i32_62 : BitVec 32 := 0#32
  ![v74.toNat, 0, 0]
def k0_dev3 (d0 : Dev nD) : Nat :=
  let c0_i32_56 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_51 v2
  let c4_i32_55 : BitVec 32 := 4#32
  let v77 : BitVec 32 := Scalar.muli v75 c4_i32_55
  let v78 : BitVec 32 := Scalar.addi c0_i32_56 v77
  let c1_i32_52 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_52 v5
  let c2_i32_57 : BitVec 32 := 2#32
  let v79 : BitVec 32 := Scalar.muli v76 c2_i32_57
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v81 : BitVec 32 := Scalar.muli v8 c1_i32_58
  let v82 : BitVec 32 := Scalar.addi v80 v81
  v82.toNat
def k0_off8 (d0 : Dev nD) : Fin 3 → Nat :=
  let c2_i32_64 : BitVec 32 := 2#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v91 : BitVec 32 := Scalar.subi c1_i32_63 v2
  let v92 : BitVec 32 := Scalar.muli c2_i32_64 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v93 : BitVec 32 := Scalar.addi v92 v5
  let c0_i32_74 : BitVec 32 := 0#32
  let c0_i32_75 : BitVec 32 := 0#32
  ![v93.toNat, 0, 0]
def k0_dev4 (d0 : Dev nD) : Nat :=
  let c0_i32_69 : BitVec 32 := 0#32
  let c1_i32_65 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_65 v2
  let c4_i32_68 : BitVec 32 := 4#32
  let v95 : BitVec 32 := Scalar.muli v94 c4_i32_68
  let v96 : BitVec 32 := Scalar.addi c0_i32_69 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v97 : BitVec 32 := Scalar.muli v5 c2_i32_70
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v99 : BitVec 32 := Scalar.muli v8 c1_i32_71
  let v100 : BitVec 32 := Scalar.addi v98 v99
  v100.toNat
def k0_off9 (d0 : Dev nD) : Fin 3 → Nat :=
  let c2_i32_76 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v109 : BitVec 32 := Scalar.muli c2_i32_76 v2
  let c1_i32_77 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.subi c1_i32_77 v5
  let v111 : BitVec 32 := Scalar.addi v109 v110
  let c0_i32_87 : BitVec 32 := 0#32
  let c0_i32_88 : BitVec 32 := 0#32
  ![v111.toNat, 0, 0]
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v113 : BitVec 32 := Scalar.muli v2 c4_i32_81
  let v114 : BitVec 32 := Scalar.addi c0_i32_82 v113
  let c1_i32_78 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v112 : BitVec 32 := Scalar.subi c1_i32_78 v5
  let c2_i32_83 : BitVec 32 := 2#32
  let v115 : BitVec 32 := Scalar.muli v112 c2_i32_83
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v117 : BitVec 32 := Scalar.muli v8 c1_i32_84
  let v118 : BitVec 32 := Scalar.addi v116 v117
  v118.toNat
def k0_off10 (d0 : Dev nD) : Fin 3 → Nat :=
  let c2_i32_90 : BitVec 32 := 2#32
  let c1_i32_89 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v127 : BitVec 32 := Scalar.subi c1_i32_89 v2
  let v128 : BitVec 32 := Scalar.muli c2_i32_90 v127
  let c1_i32_91 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v129 : BitVec 32 := Scalar.subi c1_i32_91 v5
  let v130 : BitVec 32 := Scalar.addi v128 v129
  let c0_i32_101 : BitVec 32 := 0#32
  let c0_i32_102 : BitVec 32 := 0#32
  ![v130.toNat, 0, 0]
def k0_dev6 (d0 : Dev nD) : Nat :=
  let c0_i32_96 : BitVec 32 := 0#32
  let c1_i32_92 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v131 : BitVec 32 := Scalar.subi c1_i32_92 v2
  let c4_i32_95 : BitVec 32 := 4#32
  let v133 : BitVec 32 := Scalar.muli v131 c4_i32_95
  let v134 : BitVec 32 := Scalar.addi c0_i32_96 v133
  let c1_i32_93 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v132 : BitVec 32 := Scalar.subi c1_i32_93 v5
  let c2_i32_97 : BitVec 32 := 2#32
  let v135 : BitVec 32 := Scalar.muli v132 c2_i32_97
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v137 : BitVec 32 := Scalar.muli v8 c1_i32_98
  let v138 : BitVec 32 := Scalar.addi v136 v137
  v138.toNat
def k0_off11 (d0 : Dev nD) : Fin 3 → Nat :=
  let c2_i32_104 : BitVec 32 := 2#32
  let c1_i32_103 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v147 : BitVec 32 := Scalar.subi c1_i32_103 v2
  let v148 : BitVec 32 := Scalar.muli c2_i32_104 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v149 : BitVec 32 := Scalar.addi v148 v5
  let c0_i32_113 : BitVec 32 := 0#32
  let c0_i32_114 : BitVec 32 := 0#32
  ![v149.toNat, 0, 0]
def k0_dev7 (d0 : Dev nD) : Nat :=
  let c0_i32_108 : BitVec 32 := 0#32
  let c1_i32_105 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_105 v2
  let c4_i32_107 : BitVec 32 := 4#32
  let v151 : BitVec 32 := Scalar.muli v150 c4_i32_107
  let v152 : BitVec 32 := Scalar.addi c0_i32_108 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v153 : BitVec 32 := Scalar.muli v5 c2_i32_109
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v155 : BitVec 32 := Scalar.muli v8 c1_i32_110
  let v156 : BitVec 32 := Scalar.addi v154 v155
  v156.toNat
def k0_off12 (d0 : Dev nD) : Fin 3 → Nat :=
  let c2_i32_115 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v165 : BitVec 32 := Scalar.muli c2_i32_115 v2
  let c1_i32_116 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v166 : BitVec 32 := Scalar.subi c1_i32_116 v5
  let v167 : BitVec 32 := Scalar.addi v165 v166
  let c0_i32_125 : BitVec 32 := 0#32
  let c0_i32_126 : BitVec 32 := 0#32
  ![v167.toNat, 0, 0]
def k0_dev8 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v169 : BitVec 32 := Scalar.muli v2 c4_i32_119
  let v170 : BitVec 32 := Scalar.addi c0_i32_120 v169
  let c1_i32_117 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v168 : BitVec 32 := Scalar.subi c1_i32_117 v5
  let c2_i32_121 : BitVec 32 := 2#32
  let v171 : BitVec 32 := Scalar.muli v168 c2_i32_121
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v173 : BitVec 32 := Scalar.muli v8 c1_i32_122
  let v174 : BitVec 32 := Scalar.addi v172 v173
  v174.toNat
def k0_off13 (d0 : Dev nD) : Fin 3 → Nat :=
  let c2_i32_128 : BitVec 32 := 2#32
  let c1_i32_127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v183 : BitVec 32 := Scalar.subi c1_i32_127 v2
  let v184 : BitVec 32 := Scalar.muli c2_i32_128 v183
  let c1_i32_129 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v185 : BitVec 32 := Scalar.subi c1_i32_129 v5
  let v186 : BitVec 32 := Scalar.addi v184 v185
  let c0_i32_139 : BitVec 32 := 0#32
  let c0_i32_140 : BitVec 32 := 0#32
  ![v186.toNat, 0, 0]
def k0_dev9 (d0 : Dev nD) : Nat :=
  let c0_i32_134 : BitVec 32 := 0#32
  let c1_i32_130 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v187 : BitVec 32 := Scalar.subi c1_i32_130 v2
  let c4_i32_133 : BitVec 32 := 4#32
  let v189 : BitVec 32 := Scalar.muli v187 c4_i32_133
  let v190 : BitVec 32 := Scalar.addi c0_i32_134 v189
  let c1_i32_131 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v188 : BitVec 32 := Scalar.subi c1_i32_131 v5
  let c2_i32_135 : BitVec 32 := 2#32
  let v191 : BitVec 32 := Scalar.muli v188 c2_i32_135
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v193 : BitVec 32 := Scalar.muli v8 c1_i32_136
  let v194 : BitVec 32 := Scalar.addi v192 v193
  v194.toNat
def k0_off14 (d0 : Dev nD) : Fin 3 → Nat :=
  let c2_i32_142 : BitVec 32 := 2#32
  let c1_i32_141 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_141 v2
  let v204 : BitVec 32 := Scalar.muli c2_i32_142 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.addi v204 v5
  let c0_i32_151 : BitVec 32 := 0#32
  let c0_i32_152 : BitVec 32 := 0#32
  ![v205.toNat, 0, 0]
def k0_dev10 (d0 : Dev nD) : Nat :=
  let c0_i32_146 : BitVec 32 := 0#32
  let c1_i32_143 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v206 : BitVec 32 := Scalar.subi c1_i32_143 v2
  let c4_i32_145 : BitVec 32 := 4#32
  let v207 : BitVec 32 := Scalar.muli v206 c4_i32_145
  let v208 : BitVec 32 := Scalar.addi c0_i32_146 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v209 : BitVec 32 := Scalar.muli v5 c2_i32_147
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v211 : BitVec 32 := Scalar.muli v8 c1_i32_148
  let v212 : BitVec 32 := Scalar.addi v210 v211
  v212.toNat
def k0_off15 (d0 : Dev nD) : Fin 3 → Nat :=
  let c2_i32_153 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.muli c2_i32_153 v2
  let c1_i32_154 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v222 : BitVec 32 := Scalar.subi c1_i32_154 v5
  let v223 : BitVec 32 := Scalar.addi v221 v222
  let c0_i32_163 : BitVec 32 := 0#32
  let c0_i32_164 : BitVec 32 := 0#32
  ![v223.toNat, 0, 0]
def k0_dev11 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v225 : BitVec 32 := Scalar.muli v2 c4_i32_157
  let v226 : BitVec 32 := Scalar.addi c0_i32_158 v225
  let c1_i32_155 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v224 : BitVec 32 := Scalar.subi c1_i32_155 v5
  let c2_i32_159 : BitVec 32 := 2#32
  let v227 : BitVec 32 := Scalar.muli v224 c2_i32_159
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v229 : BitVec 32 := Scalar.muli v8 c1_i32_160
  let v230 : BitVec 32 := Scalar.addi v228 v229
  v230.toNat
def k0_off16 (d0 : Dev nD) : Fin 3 → Nat :=
  let c2_i32_166 : BitVec 32 := 2#32
  let c1_i32_165 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v239 : BitVec 32 := Scalar.subi c1_i32_165 v2
  let v240 : BitVec 32 := Scalar.muli c2_i32_166 v239
  let c1_i32_167 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v241 : BitVec 32 := Scalar.subi c1_i32_167 v5
  let v242 : BitVec 32 := Scalar.addi v240 v241
  let c0_i32_177 : BitVec 32 := 0#32
  let c0_i32_178 : BitVec 32 := 0#32
  ![v242.toNat, 0, 0]
def k0_dev12 (d0 : Dev nD) : Nat :=
  let c0_i32_172 : BitVec 32 := 0#32
  let c1_i32_168 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v243 : BitVec 32 := Scalar.subi c1_i32_168 v2
  let c4_i32_171 : BitVec 32 := 4#32
  let v245 : BitVec 32 := Scalar.muli v243 c4_i32_171
  let v246 : BitVec 32 := Scalar.addi c0_i32_172 v245
  let c1_i32_169 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v244 : BitVec 32 := Scalar.subi c1_i32_169 v5
  let c2_i32_173 : BitVec 32 := 2#32
  let v247 : BitVec 32 := Scalar.muli v244 c2_i32_173
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v249 : BitVec 32 := Scalar.muli v8 c1_i32_174
  let v250 : BitVec 32 := Scalar.addi v248 v249
  v250.toNat
-- ==== Pair.lean ====
abbrev S512x1672 : Shape := ⟨2, ![512, 1672]⟩
abbrev S256x1024 : Shape := ⟨2, ![256, 1024]⟩
abbrev S512x1408 : Shape := ⟨2, ![512, 1408]⟩
abbrev S352x1024 : Shape := ⟨2, ![352, 1024]⟩
abbrev S2x512x1672 : Shape := ⟨3, ![2, 512, 1672]⟩
abbrev S2x256x1024 : Shape := ⟨3, ![2, 256, 1024]⟩
abbrev S2x512x1408 : Shape := ⟨3, ![2, 512, 1408]⟩
abbrev S2x352x1024 : Shape := ⟨3, ![2, 352, 1024]⟩
abbrev S4 : Shape := ⟨1, ![4]⟩
abbrev S1 : Shape := ⟨1, ![1]⟩
abbrev S_ : Shape := ⟨0, ![]⟩
abbrev S1x512x1672 : Shape := ⟨3, ![1, 512, 1672]⟩
abbrev S1x256x1024 : Shape := ⟨3, ![1, 256, 1024]⟩
abbrev S1x512x1408 : Shape := ⟨3, ![1, 512, 1408]⟩
abbrev S1x352x1024 : Shape := ⟨3, ![1, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S512x1672, .f32⟩
  | .hbm, ⟨1, _⟩ => ⟨S256x1024, .f32⟩
  | .hbm, ⟨2, _⟩ => ⟨S512x1408, .f32⟩
  | .hbm, ⟨3, _⟩ => ⟨S352x1024, .f32⟩
  | .hbm, ⟨4, _⟩ => ⟨S2x512x1672, .f32⟩
  | .hbm, ⟨5, _⟩ => ⟨S2x256x1024, .f32⟩
  | .hbm, ⟨6, _⟩ => ⟨S2x512x1408, .f32⟩
  | .hbm, ⟨7, _⟩ => ⟨S2x352x1024, .f32⟩
  | _, _ => ⟨S512x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_4 : BitVec 32 := 0#32
  let c0_i32_5 : BitVec 32 := 0#32
  ![v8.toNat, 0, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v14 : BitVec 32 := Scalar.muli v2 c4_i32_8
  let v15 : BitVec 32 := Scalar.addi c0_i32_9 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v16 : BitVec 32 := Scalar.muli v5 c2_i32_10
  let v17 : BitVec 32 := Scalar.addi v15 v16
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_11 : BitVec 32 := 1#32
  let v18 : BitVec 32 := Scalar.muli v9 c1_i32_11
  let v19 : BitVec 32 := Scalar.addi v17 v18
  v19.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let c0_i32_16 : BitVec 32 := 0#32
  ![v8.toNat, 0, 0]
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v30 : BitVec 32 := Scalar.muli v2 c4_i32_19
  let v31 : BitVec 32 := Scalar.addi c0_i32_20 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v32 : BitVec 32 := Scalar.muli v5 c2_i32_21
  let v33 : BitVec 32 := Scalar.addi v31 v32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_22 : BitVec 32 := 1#32
  let v34 : BitVec 32 := Scalar.muli v9 c1_i32_22
  let v35 : BitVec 32 := Scalar.addi v33 v34
  v35.toNat
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_26 : BitVec 32 := 0#32
  let c0_i32_27 : BitVec 32 := 0#32
  ![v8.toNat, 0, 0]
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v46 : BitVec 32 := Scalar.muli v2 c4_i32_30
  let v47 : BitVec 32 := Scalar.addi c0_i32_31 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v48 : BitVec 32 := Scalar.muli v5 c2_i32_32
  let v49 : BitVec 32 := Scalar.addi v47 v48
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_33 : BitVec 32 := 1#32
  let v50 : BitVec 32 := Scalar.muli v9 c1_i32_33
  let v51 : BitVec 32 := Scalar.addi v49 v50
  v51.toNat
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_36 : BitVec 32 := 0#32
  let c0_i32_37 : BitVec 32 := 0#32
  ![v8.toNat, 0, 0]
def k0_dev4 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v62 : BitVec 32 := Scalar.muli v2 c4_i32_40
  let v63 : BitVec 32 := Scalar.addi c0_i32_41 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v64 : BitVec 32 := Scalar.muli v5 c2_i32_42
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_43 : BitVec 32 := 1#32
  let v66 : BitVec 32 := Scalar.muli v9 c1_i32_43
  let v67 : BitVec 32 := Scalar.addi v65 v66
  v67.toNat
def k0_off5 (d0 : Dev nD) : Fin 3 → Nat :=
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_46 v8
  let c0_i32_53 : BitVec 32 := 0#32
  let c0_i32_54 : BitVec 32 := 0#32
  ![v74.toNat, 0, 0]
def k0_off6 (d0 : Dev nD) : Fin 3 → Nat :=
  let c1_i32_55 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_55 v8
  let c0_i32_62 : BitVec 32 := 0#32
  let c0_i32_63 : BitVec 32 := 0#32
  ![v85.toNat, 0, 0]
def k0_off7 (d0 : Dev nD) : Fin 3 → Nat :=
  let c1_i32_64 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v96 : BitVec 32 := Scalar.subi c1_i32_64 v8
  let c0_i32_71 : BitVec 32 := 0#32
  let c0_i32_72 : BitVec 32 := 0#32
  ![v96.toNat, 0, 0]
def k0_off8 (d0 : Dev nD) : Fin 3 → Nat :=
  let c1_i32_73 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v107 : BitVec 32 := Scalar.subi c1_i32_73 v8
  let c0_i32_80 : BitVec 32 := 0#32
  let c0_i32_81 : BitVec 32 := 0#32
  ![v107.toNat, 0, 0]
-- ==== AdamIn.lean ====
abbrev S1024x1672 : Shape := ⟨2, ![1024, 1672]⟩
abbrev S256x1672 : Shape := ⟨2, ![256, 1672]⟩

abbrev nBuf : Space → Nat
  | .hbm => 7
  | .vmem => 14
  | .smem => 0
  | _ => 0

abbrev bufTy : (tb : Table) → Fin (tcTables nBuf tb) → BufTy
  | .hbm, ⟨0, _⟩ => ⟨S1024x1672, .f32⟩
  | .hbm, ⟨1, _⟩ => ⟨S1024x1672, .f32⟩
  | .hbm, ⟨2, _⟩ => ⟨S1024x1672, .f32⟩
  | .hbm, ⟨3, _⟩ => ⟨S1024x1672, .f32⟩
  | .hbm, ⟨4, _⟩ => ⟨S1024x1672, .f32⟩
  | .hbm, ⟨5, _⟩ => ⟨S1024x1672, .f32⟩
  | .hbm, ⟨6, _⟩ => ⟨S1024x1672, .f32⟩
  | .local _ .vmem, ⟨0, _⟩ => ⟨S256x1672, .f32⟩
  | .local _ .vmem, ⟨1, _⟩ => ⟨S256x1672, .f32⟩
  | .local _ .vmem, ⟨2, _⟩ => ⟨S256x1672, .f32⟩
  | .local _ .vmem, ⟨3, _⟩ => ⟨S256x1672, .f32⟩
  | .local _ .vmem, ⟨4, _⟩ => ⟨S256x1672, .f32⟩
  | .local _ .vmem, ⟨5, _⟩ => ⟨S256x1672, .f32⟩
  | .local _ .vmem, ⟨6, _⟩ => ⟨S256x1672, .f32⟩
  | .local _ .vmem, ⟨7, _⟩ => ⟨S256x1672, .f32⟩
  | .local _ .vmem, ⟨8, _⟩ => ⟨S256x1672, .f32⟩
  | .local _ .vmem, ⟨9, _⟩ => ⟨S256x1672, .f32⟩
  | .local _ .vmem, ⟨10, _⟩ => ⟨S256x1672, .f32⟩
  | .local _ .vmem, ⟨11, _⟩ => ⟨S256x1672, .f32⟩
  | .local _ .vmem, ⟨12, _⟩ => ⟨S256x1672, .f32⟩
  | .local _ .vmem, ⟨13, _⟩ => ⟨S256x1672, .f32⟩
  | _, _ => ⟨S1024x1672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x1672 : Shape := ⟨2, ![1024, 1672]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1672, .f32⟩
  | .hbm, ⟨1, _⟩ => ⟨S1024x1672, .f32⟩
  | .hbm, ⟨2, _⟩ => ⟨S1024x1672, .f32⟩
  | .hbm, ⟨3, _⟩ => ⟨S1024x1672, .f32⟩
  | .hbm, ⟨4, _⟩ => ⟨S_, .f32⟩
  | .hbm, ⟨5, _⟩ => ⟨S1024x1672, .f32⟩
  | .hbm, ⟨6, _⟩ => ⟨S1024x1672, .f32⟩
  | .hbm, ⟨7, _⟩ => ⟨S_, .f32⟩
  | .hbm, ⟨8, _⟩ => ⟨S1024x1672, .f32⟩
  | .hbm, ⟨9, _⟩ => ⟨S1024x1672, .f32⟩
  | .hbm, ⟨10, _⟩ => ⟨S1024x1672, .f32⟩
  | .hbm, ⟨11, _⟩ => ⟨S_, .f32⟩
  | .hbm, ⟨12, _⟩ => ⟨S1024x1672, .f32⟩
  | .hbm, ⟨13, _⟩ => ⟨S1024x1672, .f32⟩
  | .hbm, ⟨14, _⟩ => ⟨S1024x1672, .f32⟩
  | .hbm, ⟨15, _⟩ => ⟨S_, .f32⟩
  | .hbm, ⟨16, _⟩ => ⟨S1024x1672, .f32⟩
  | .hbm, ⟨17, _⟩ => ⟨S1024x1672, .f32⟩
  | .hbm, ⟨18, _⟩ => ⟨S1024x1672, .f32⟩
  | .hbm, ⟨19, _⟩ => ⟨S_, .f32⟩
  | .hbm, ⟨20, _⟩ => ⟨S1024x1672, .f32⟩
  | .hbm, ⟨21, _⟩ => ⟨S1024x1672, .f32⟩
  | .hbm, ⟨22, _⟩ => ⟨S_, .f32⟩
  | .hbm, ⟨23, _⟩ => ⟨S1024x1672, .f32⟩
  | .hbm, ⟨24, _⟩ => ⟨S1024x1672, .f32⟩
  | .hbm, ⟨25, _⟩ => ⟨S1024x1672, .f32⟩
  | .hbm, ⟨26, _⟩ => ⟨S_, .f32⟩
  | .hbm, ⟨27, _⟩ => ⟨S1024x1672, .f32⟩
  | .hbm, ⟨28, _⟩ => ⟨S1024x1672, .f32⟩
  | .hbm, ⟨29, _⟩ => ⟨S1024x1672, .f32⟩
  | .hbm, ⟨30, _⟩ => ⟨S_, .f32⟩
  | .hbm, ⟨31, _⟩ => ⟨S1024x1672, .f32⟩
  | .hbm, ⟨32, _⟩ => ⟨S1024x1672, .f32⟩
  | .hbm, ⟨33, _⟩ => ⟨S1024x1672, .f32⟩
  | .hbm, ⟨34, _⟩ => ⟨S_, .f32⟩
  | .hbm, ⟨35, _⟩ => ⟨S1024x1672, .f32⟩
  | .hbm, ⟨36, _⟩ => ⟨S1024x1672, .f32⟩
  | _, _ => ⟨S1024x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Small.lean ====
abbrev S1x1024 : Shape := ⟨2, ![1, 1024]⟩
abbrev S1x4x768 : Shape := ⟨3, ![1, 4, 768]⟩
abbrev S1x8 : Shape := ⟨2, ![1, 8]⟩
abbrev S1x128 : Shape := ⟨2, ![1, 128]⟩
abbrev S1x4x384 : Shape := ⟨3, ![1, 4, 384]⟩
abbrev S1x1536 : Shape := ⟨2, ![1, 1536]⟩
abbrev S1x16 : Shape := ⟨2, ![1, 16]⟩
abbrev S1x3x1408 : Shape := ⟨3, ![1, 3, 1408]⟩
abbrev S1x5632 : Shape := ⟨2, ![1, 5632]⟩
abbrev S1024 : Shape := ⟨1, ![1024]⟩
abbrev S3072 : Shape := ⟨1, ![3072]⟩
abbrev S8 : Shape := ⟨1, ![8]⟩
abbrev S128 : Shape := ⟨1, ![128]⟩
abbrev S1536 : Shape := ⟨1, ![1536]⟩
abbrev S16 : Shape := ⟨1, ![16]⟩
abbrev S4224 : Shape := ⟨1, ![4224]⟩
abbrev S5632 : Shape := ⟨1, ![5632]⟩
abbrev S21312 : Shape := ⟨1, ![21312]⟩
abbrev S_ : Shape := ⟨0, ![]⟩
abbrev S21504 : Shape := ⟨1, ![21504]⟩
abbrev S168x128 : Shape := ⟨2, ![168, 128]⟩
abbrev S8x128 : Shape := ⟨2, ![8, 128]⟩

abbrev nBuf : Space → Nat
  | .hbm => 250
  | .vmem => 14
  | .smem => 0
  | _ => 0

abbrev hbmTy0_0 (i : Nat) : BufTy := match i % 128 with
  | 0 => ⟨S1x1024, .f32⟩
  | 1 => ⟨S1x4x768, .f32⟩
  | 2 => ⟨S1x8, .f32⟩
  | 3 => ⟨S1x8, .f32⟩
  | 4 => ⟨S1x128, .f32⟩
  | 5 => ⟨S1x4x384, .f32⟩
  | 6 => ⟨S1x1536, .f32⟩
  | 7 => ⟨S1x16, .f32⟩
  | 8 => ⟨S1x16, .f32⟩
  | 9 => ⟨S1x16, .f32⟩
  | 10 => ⟨S1x1024, .f32⟩
  | 11 => ⟨S1x1024, .f32⟩
  | 12 => ⟨S1x1024, .f32⟩
  | 13 => ⟨S1x3x1408, .f32⟩
  | 14 => ⟨S1x5632, .f32⟩
  | 15 => ⟨S1x1024, .f32⟩
  | 16 => ⟨S1x1024, .f32⟩
  | 17 => ⟨S1x4x768, .f32⟩
  | 18 => ⟨S1x8, .f32⟩
  | 19 => ⟨S1x8, .f32⟩
  | 20 => ⟨S1x128, .f32⟩
  | 21 => ⟨S1x4x384, .f32⟩
  | 22 => ⟨S1x1536, .f32⟩
  | 23 => ⟨S1x16, .f32⟩
  | 24 => ⟨S1x16, .f32⟩
  | 25 => ⟨S1x16, .f32⟩
  | 26 => ⟨S1x1024, .f32⟩
  | 27 => ⟨S1x1024, .f32⟩
  | 28 => ⟨S1x1024, .f32⟩
  | 29 => ⟨S1x3x1408, .f32⟩
  | 30 => ⟨S1x5632, .f32⟩
  | 31 => ⟨S1x1024, .f32⟩
  | 32 => ⟨S1x1024, .f32⟩
  | 33 => ⟨S1x4x768, .f32⟩
  | 34 => ⟨S1x8, .f32⟩
  | 35 => ⟨S1x8, .f32⟩
  | 36 => ⟨S1x128, .f32⟩
  | 37 => ⟨S1x4x384, .f32⟩
  | 38 => ⟨S1x1536, .f32⟩
  | 39 => ⟨S1x16, .f32⟩
  | 40 => ⟨S1x16, .f32⟩
  | 41 => ⟨S1x16, .f32⟩
  | 42 => ⟨S1x1024, .f32⟩
  | 43 => ⟨S1x1024, .f32⟩
  | 44 => ⟨S1x1024, .f32⟩
  | 45 => ⟨S1x3x1408, .f32⟩
  | 46 => ⟨S1x5632, .f32⟩
  | 47 => ⟨S1x1024, .f32⟩
  | 48 => ⟨S1x1024, .f32⟩
  | 49 => ⟨S1x4x768, .f32⟩
  | 50 => ⟨S1x8, .f32⟩
  | 51 => ⟨S1x8, .f32⟩
  | 52 => ⟨S1x128, .f32⟩
  | 53 => ⟨S1x4x384, .f32⟩
  | 54 => ⟨S1x1536, .f32⟩
  | 55 => ⟨S1x16, .f32⟩
  | 56 => ⟨S1x16, .f32⟩
  | 57 => ⟨S1x16, .f32⟩
  | 58 => ⟨S1x1024, .f32⟩
  | 59 => ⟨S1x1024, .f32⟩
  | 60 => ⟨S1x1024, .f32⟩
  | 61 => ⟨S1x3x1408, .f32⟩
  | 62 => ⟨S1x5632, .f32⟩
  | 63 => ⟨S1x1024, .f32⟩
  | 64 => ⟨S1024, .f32⟩
  | 65 => ⟨S3072, .f32⟩
  | 66 => ⟨S8, .f32⟩
  | 67 => ⟨S8, .f32⟩
  | 68 => ⟨S128, .f32⟩
  | 69 => ⟨S1536, .f32⟩
  | 70 => ⟨S1536, .f32⟩
  | 71 => ⟨S16, .f32⟩
  | 72 => ⟨S16, .f32⟩
  | 73 => ⟨S16, .f32⟩
  | 74 => ⟨S1024, .f32⟩
  | 75 => ⟨S1024, .f32⟩
  | 76 => ⟨S1024, .f32⟩
  | 77 => ⟨S4224, .f32⟩
  | 78 => ⟨S5632, .f32⟩
  | 79 => ⟨S1024, .f32⟩
  | 80 => ⟨S21312, .f32⟩
  | 81 => ⟨S_, .i32⟩
  | 82 => ⟨S_, .f32⟩
  | 83 => ⟨S21504, .f32⟩
  | 84 => ⟨S168x128, .f32⟩
  | 85 => ⟨S1024, .f32⟩
  | 86 => ⟨S3072, .f32⟩
  | 87 => ⟨S8, .f32⟩
  | 88 => ⟨S8, .f32⟩
  | 89 => ⟨S128, .f32⟩
  | 90 => ⟨S1536, .f32⟩
  | 91 => ⟨S1536, .f32⟩
  | 92 => ⟨S16, .f32⟩
  | 93 => ⟨S16, .f32⟩
  | 94 => ⟨S16, .f32⟩
  | 95 => ⟨S1024, .f32⟩
  | 96 => ⟨S1024, .f32⟩
  | 97 => ⟨S1024, .f32⟩
  | 98 => ⟨S4224, .f32⟩
  | 99 => ⟨S5632, .f32⟩
  | 100 => ⟨S1024, .f32⟩
  | 101 => ⟨S21312, .f32⟩
  | 102 => ⟨S_, .i32⟩
  | 103 => ⟨S_, .f32⟩
  | 104 => ⟨S21504, .f32⟩
  | 105 => ⟨S168x128, .f32⟩
  | 106 => ⟨S1024, .f32⟩
  | 107 => ⟨S3072, .f32⟩
  | 108 => ⟨S8, .f32⟩
  | 109 => ⟨S8, .f32⟩
  | 110 => ⟨S128, .f32⟩
  | 111 => ⟨S1536, .f32⟩
  | 112 => ⟨S1536, .f32⟩
  | 113 => ⟨S16, .f32⟩
  | 114 => ⟨S16, .f32⟩
  | 115 => ⟨S16, .f32⟩
  | 116 => ⟨S1024, .f32⟩
  | 117 => ⟨S1024, .f32⟩
  | 118 => ⟨S1024, .f32⟩
  | 119 => ⟨S4224, .f32⟩
  | 120 => ⟨S5632, .f32⟩
  | 121 => ⟨S1024, .f32⟩
  | 122 => ⟨S21312, .f32⟩
  | 123 => ⟨S_, .i32⟩
  | 124 => ⟨S_, .f32⟩
  | 125 => ⟨S21504, .f32⟩
  | 126 => ⟨S168x128, .f32⟩
  | 127 => ⟨S1024, .f32⟩
  | _ => ⟨S1x1024, .f32⟩

abbrev hbmTy0_1 (i : Nat) : BufTy := match i % 128 with
  | 0 => ⟨S3072, .f32⟩
  | 1 => ⟨S8, .f32⟩
  | 2 => ⟨S8, .f32⟩
  | 3 => ⟨S128, .f32⟩
  | 4 => ⟨S1536, .f32⟩
  | 5 => ⟨S1536, .f32⟩
  | 6 => ⟨S16, .f32⟩
  | 7 => ⟨S16, .f32⟩
  | 8 => ⟨S16, .f32⟩
  | 9 => ⟨S1024, .f32⟩
  | 10 => ⟨S1024, .f32⟩
  | 11 => ⟨S1024, .f32⟩
  | 12 => ⟨S4224, .f32⟩
  | 13 => ⟨S5632, .f32⟩
  | 14 => ⟨S1024, .f32⟩
  | 15 => ⟨S21312, .f32⟩
  | 16 => ⟨S_, .i32⟩
  | 17 => ⟨S_, .f32⟩
  | 18 => ⟨S21504, .f32⟩
  | 19 => ⟨S168x128, .f32⟩
  | 20 => ⟨S168x128, .f32⟩
  | 21 => ⟨S168x128, .f32⟩
  | 22 => ⟨S168x128, .f32⟩
  | 23 => ⟨S21504, .f32⟩
  | 24 => ⟨S1024, .f32⟩
  | 25 => ⟨S1x1024, .f32⟩
  | 26 => ⟨S3072, .f32⟩
  | 27 => ⟨S1x4x768, .f32⟩
  | 28 => ⟨S8, .f32⟩
  | 29 => ⟨S1x8, .f32⟩
  | 30 => ⟨S8, .f32⟩
  | 31 => ⟨S1x8, .f32⟩
  | 32 => ⟨S128, .f32⟩
  | 33 => ⟨S1x128, .f32⟩
  | 34 => ⟨S1536, .f32⟩
  | 35 => ⟨S1x4x384, .f32⟩
  | 36 => ⟨S1536, .f32⟩
  | 37 => ⟨S1x1536, .f32⟩
  | 38 => ⟨S16, .f32⟩
  | 39 => ⟨S1x16, .f32⟩
  | 40 => ⟨S16, .f32⟩
  | 41 => ⟨S1x16, .f32⟩
  | 42 => ⟨S16, .f32⟩
  | 43 => ⟨S1x16, .f32⟩
  | 44 => ⟨S1024, .f32⟩
  | 45 => ⟨S1x1024, .f32⟩
  | 46 => ⟨S1024, .f32⟩
  | 47 => ⟨S1x1024, .f32⟩
  | 48 => ⟨S1024, .f32⟩
  | 49 => ⟨S1x1024, .f32⟩
  | 50 => ⟨S4224, .f32⟩
  | 51 => ⟨S1x3x1408, .f32⟩
  | 52 => ⟨S5632, .f32⟩
  | 53 => ⟨S1x5632, .f32⟩
  | 54 => ⟨S1024, .f32⟩
  | 55 => ⟨S1x1024, .f32⟩
  | 56 => ⟨S21504, .f32⟩
  | 57 => ⟨S1024, .f32⟩
  | 58 => ⟨S1x1024, .f32⟩
  | 59 => ⟨S3072, .f32⟩
  | 60 => ⟨S1x4x768, .f32⟩
  | 61 => ⟨S8, .f32⟩
  | 62 => ⟨S1x8, .f32⟩
  | 63 => ⟨S8, .f32⟩
  | 64 => ⟨S1x8, .f32⟩
  | 65 => ⟨S128, .f32⟩
  | 66 => ⟨S1x128, .f32⟩
  | 67 => ⟨S1536, .f32⟩
  | 68 => ⟨S1x4x384, .f32⟩
  | 69 => ⟨S1536, .f32⟩
  | 70 => ⟨S1x1536, .f32⟩
  | 71 => ⟨S16, .f32⟩
  | 72 => ⟨S1x16, .f32⟩
  | 73 => ⟨S16, .f32⟩
  | 74 => ⟨S1x16, .f32⟩
  | 75 => ⟨S16, .f32⟩
  | 76 => ⟨S1x16, .f32⟩
  | 77 => ⟨S1024, .f32⟩
  | 78 => ⟨S1x1024, .f32⟩
  | 79 => ⟨S1024, .f32⟩
  | 80 => ⟨S1x1024, .f32⟩
  | 81 => ⟨S1024, .f32⟩
  | 82 => ⟨S1x1024, .f32⟩
  | 83 => ⟨S4224, .f32⟩
  | 84 => ⟨S1x3x1408, .f32⟩
  | 85 => ⟨S5632, .f32⟩
  | 86 => ⟨S1x5632, .f32⟩
  | 87 => ⟨S1024, .f32⟩
  | 88 => ⟨S1x1024, .f32⟩
  | 89 => ⟨S21504, .f32⟩
  | 90 => ⟨S1024, .f32⟩
  | 91 => ⟨S1x1024, .f32⟩
  | 92 => ⟨S3072, .f32⟩
  | 93 => ⟨S1x4x768, .f32⟩
  | 94 => ⟨S8, .f32⟩
  | 95 => ⟨S1x8, .f32⟩
  | 96 => ⟨S8, .f32⟩
  | 97 => ⟨S1x8, .f32⟩
  | 98 => ⟨S128, .f32⟩
  | 99 => ⟨S1x128, .f32⟩
  | 100 => ⟨S1536, .f32⟩
  | 101 => ⟨S1x4x384, .f32⟩
  | 102 => ⟨S1536, .f32⟩
  | 103 => ⟨S1x1536, .f32⟩
  | 104 => ⟨S16, .f32⟩
  | 105 => ⟨S1x16, .f32⟩
  | 106 => ⟨S16, .f32⟩
  | 107 => ⟨S1x16, .f32⟩
  | 108 => ⟨S16, .f32⟩
  | 109 => ⟨S1x16, .f32⟩
  | 110 => ⟨S1024, .f32⟩
  | 111 => ⟨S1x1024, .f32⟩
  | 112 => ⟨S1024, .f32⟩
  | 113 => ⟨S1x1024, .f32⟩
  | 114 => ⟨S1024, .f32⟩
  | 115 => ⟨S1x1024, .f32⟩
  | 116 => ⟨S4224, .f32⟩
  | 117 => ⟨S1x3x1408, .f32⟩
  | 118 => ⟨S5632, .f32⟩
  | 119 => ⟨S1x5632, .f32⟩
  | 120 => ⟨S1024, .f32⟩
  | 121 => ⟨S1x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_v0 : Ref sig .tc := ⟨.hbm, 64, rfl⟩
abbrev main_v1 : Ref sig .tc := ⟨.hbm, 65, rfl⟩
abbrev main_v2 : Ref sig .tc := ⟨.hbm, 66, rfl⟩
abbrev main_v3 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_c : Ref sig .tc := ⟨.hbm, 81, rfl⟩
abbrev main_call0_v0 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_c_0 : Ref sig .tc := ⟨.hbm, 102, rfl⟩
abbrev main_call1_v0 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_c_1 : Ref sig .tc := ⟨.hbm, 123, rfl⟩
abbrev main_call2_v0 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_c_2 : Ref sig .tc := ⟨.hbm, 144, rfl⟩
abbrev main_call3_v0 : Ref sig .tc := ⟨.hbm, 145, rfl⟩
abbrev main_v74 : Ref sig .tc := ⟨.hbm, 146, rfl⟩
abbrev main_v75 : Ref sig .tc := ⟨.hbm, 147, rfl⟩
abbrev main_v76_0 : Ref sig .tc := ⟨.hbm, 148, rfl⟩
abbrev main_v76_1 : Ref sig .tc := ⟨.hbm, 149, rfl⟩
abbrev main_v76_2 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SmallRefIdeal.lean ====
abbrev S1x1024 : Shape := ⟨2, ![1, 1024]⟩
abbrev S1x4x768 : Shape := ⟨3, ![1, 4, 768]⟩
abbrev S1x8 : Shape := ⟨2, ![1, 8]⟩
abbrev S1x128 : Shape := ⟨2, ![1, 128]⟩
abbrev S1x4x384 : Shape := ⟨3, ![1, 4, 384]⟩
abbrev S1x1536 : Shape := ⟨2, ![1, 1536]⟩
abbrev S1x16 : Shape := ⟨2, ![1, 16]⟩
abbrev S1x3x1408 : Shape := ⟨3, ![1, 3, 1408]⟩
abbrev S1x5632 : Shape := ⟨2, ![1, 5632]⟩
abbrev S_ : Shape := ⟨0, ![]⟩

abbrev nBuf : Space → Nat
  | .hbm => 592
  | .vmem => 0
  | .smem => 0
  | _ => 0

abbrev hbmTy0_0 (i : Nat) : BufTy := match i % 128 with
  | 0 => ⟨S1x1024, .f32⟩
  | 1 => ⟨S1x4x768, .f32⟩
  | 2 => ⟨S1x8, .f32⟩
  | 3 => ⟨S1x8, .f32⟩
  | 4 => ⟨S1x128, .f32⟩
  | 5 => ⟨S1x4x384, .f32⟩
  | 6 => ⟨S1x1536, .f32⟩
  | 7 => ⟨S1x16, .f32⟩
  | 8 => ⟨S1x16, .f32⟩
  | 9 => ⟨S1x16, .f32⟩
  | 10 => ⟨S1x1024, .f32⟩
  | 11 => ⟨S1x1024, .f32⟩
  | 12 => ⟨S1x1024, .f32⟩
  | 13 => ⟨S1x3x1408, .f32⟩
  | 14 => ⟨S1x5632, .f32⟩
  | 15 => ⟨S1x1024, .f32⟩
  | 16 => ⟨S1x1024, .f32⟩
  | 17 => ⟨S1x4x768, .f32⟩
  | 18 => ⟨S1x8, .f32⟩
  | 19 => ⟨S1x8, .f32⟩
  | 20 => ⟨S1x128, .f32⟩
  | 21 => ⟨S1x4x384, .f32⟩
  | 22 => ⟨S1x1536, .f32⟩
  | 23 => ⟨S1x16, .f32⟩
  | 24 => ⟨S1x16, .f32⟩
  | 25 => ⟨S1x16, .f32⟩
  | 26 => ⟨S1x1024, .f32⟩
  | 27 => ⟨S1x1024, .f32⟩
  | 28 => ⟨S1x1024, .f32⟩
  | 29 => ⟨S1x3x1408, .f32⟩
  | 30 => ⟨S1x5632, .f32⟩
  | 31 => ⟨S1x1024, .f32⟩
  | 32 => ⟨S1x1024, .f32⟩
  | 33 => ⟨S1x4x768, .f32⟩
  | 34 => ⟨S1x8, .f32⟩
  | 35 => ⟨S1x8, .f32⟩
  | 36 => ⟨S1x128, .f32⟩
  | 37 => ⟨S1x4x384, .f32⟩
  | 38 => ⟨S1x1536, .f32⟩
  | 39 => ⟨S1x16, .f32⟩
  | 40 => ⟨S1x16, .f32⟩
  | 41 => ⟨S1x16, .f32⟩
  | 42 => ⟨S1x1024, .f32⟩
  | 43 => ⟨S1x1024, .f32⟩
  | 44 => ⟨S1x1024, .f32⟩
  | 45 => ⟨S1x3x1408, .f32⟩
  | 46 => ⟨S1x5632, .f32⟩
  | 47 => ⟨S1x1024, .f32⟩
  | 48 => ⟨S1x1024, .f32⟩
  | 49 => ⟨S1x4x768, .f32⟩
  | 50 => ⟨S1x8, .f32⟩
  | 51 => ⟨S1x8, .f32⟩
  | 52 => ⟨S1x128, .f32⟩
  | 53 => ⟨S1x4x384, .f32⟩
  | 54 => ⟨S1x1536, .f32⟩
  | 55 => ⟨S1x16, .f32⟩
  | 56 => ⟨S1x16, .f32⟩
  | 57 => ⟨S1x16, .f32⟩
  | 58 => ⟨S1x1024, .f32⟩
  | 59 => ⟨S1x1024, .f32⟩
  | 60 => ⟨S1x1024, .f32⟩
  | 61 => ⟨S1x3x1408, .f32⟩
  | 62 => ⟨S1x5632, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x4x768, .f32⟩
  | 99 => ⟨S1x4x768, .f32⟩
  | 100 => ⟨S_, .f32⟩
  | 101 => ⟨S1x4x768, .f32⟩
  | 102 => ⟨S1x4x768, .f32⟩
  | 103 => ⟨S1x4x768, .f32⟩
  | 104 => ⟨S_, .f32⟩
  | 105 => ⟨S1x4x768, .f32⟩
  | 106 => ⟨S1x4x768, .f32⟩
  | 107 => ⟨S1x4x768, .f32⟩
  | 108 => ⟨S_, .f32⟩
  | 109 => ⟨S1x4x768, .f32⟩
  | 110 => ⟨S1x4x768, .f32⟩
  | 111 => ⟨S1x4x768, .f32⟩
  | 112 => ⟨S_, .f32⟩
  | 113 => ⟨S1x4x768, .f32⟩
  | 114 => ⟨S1x4x768, .f32⟩
  | 115 => ⟨S_, .f32⟩
  | 116 => ⟨S1x4x768, .f32⟩
  | 117 => ⟨S1x4x768, .f32⟩
  | 118 => ⟨S1x4x768, .f32⟩
  | 119 => ⟨S_, .f32⟩
  | 120 => ⟨S1x4x768, .f32⟩
  | 121 => ⟨S1x4x768, .f32⟩
  | 122 => ⟨S1x4x768, .f32⟩
  | 123 => ⟨S_, .f32⟩
  | 124 => ⟨S1x4x768, .f32⟩
  | 125 => ⟨S1x4x768, .f32⟩
  | 126 => ⟨S1x4x768, .f32⟩
  | 127 => ⟨S_, .f32⟩
  | _ => ⟨S1x1024, .f32⟩

abbrev hbmTy0_1 (i : Nat) : BufTy := match i % 128 with
  | 0 => ⟨S1x4x768, .f32⟩
  | 1 => ⟨S1x4x768, .f32⟩
  | 2 => ⟨S_, .f32⟩
  | 3 => ⟨S1x8, .f32⟩
  | 4 => ⟨S1x8, .f32⟩
  | 5 => ⟨S_, .f32⟩
  | 6 => ⟨S1x8, .f32⟩
  | 7 => ⟨S1x8, .f32⟩
  | 8 => ⟨S1x8, .f32⟩
  | 9 => ⟨S_, .f32⟩
  | 10 => ⟨S1x8, .f32⟩
  | 11 => ⟨S1x8, .f32⟩
  | 12 => ⟨S1x8, .f32⟩
  | 13 => ⟨S_, .f32⟩
  | 14 => ⟨S1x8, .f32⟩
  | 15 => ⟨S1x8, .f32⟩
  | 16 => ⟨S1x8, .f32⟩
  | 17 => ⟨S_, .f32⟩
  | 18 => ⟨S1x8, .f32⟩
  | 19 => ⟨S1x8, .f32⟩
  | 20 => ⟨S_, .f32⟩
  | 21 => ⟨S1x8, .f32⟩
  | 22 => ⟨S1x8, .f32⟩
  | 23 => ⟨S1x8, .f32⟩
  | 24 => ⟨S_, .f32⟩
  | 25 => ⟨S1x8, .f32⟩
  | 26 => ⟨S1x8, .f32⟩
  | 27 => ⟨S1x8, .f32⟩
  | 28 => ⟨S_, .f32⟩
  | 29 => ⟨S1x8, .f32⟩
  | 30 => ⟨S1x8, .f32⟩
  | 31 => ⟨S1x8, .f32⟩
  | 32 => ⟨S_, .f32⟩
  | 33 => ⟨S1x8, .f32⟩
  | 34 => ⟨S1x8, .f32⟩
  | 35 => ⟨S_, .f32⟩
  | 36 => ⟨S1x8, .f32⟩
  | 37 => ⟨S1x8, .f32⟩
  | 38 => ⟨S_, .f32⟩
  | 39 => ⟨S1x8, .f32⟩
  | 40 => ⟨S1x8, .f32⟩
  | 41 => ⟨S1x8, .f32⟩
  | 42 => ⟨S_, .f32⟩
  | 43 => ⟨S1x8, .f32⟩
  | 44 => ⟨S1x8, .f32⟩
  | 45 => ⟨S1x8, .f32⟩
  | 46 => ⟨S_, .f32⟩
  | 47 => ⟨S1x8, .f32⟩
  | 48 => ⟨S1x8, .f32⟩
  | 49 => ⟨S1x8, .f32⟩
  | 50 => ⟨S_, .f32⟩
  | 51 => ⟨S1x8, .f32⟩
  | 52 => ⟨S1x8, .f32⟩
  | 53 => ⟨S_, .f32⟩
  | 54 => ⟨S1x8, .f32⟩
  | 55 => ⟨S1x8, .f32⟩
  | 56 => ⟨S1x8, .f32⟩
  | 57 => ⟨S_, .f32⟩
  | 58 => ⟨S1x8, .f32⟩
  | 59 => ⟨S1x8, .f32⟩
  | 60 => ⟨S1x8, .f32⟩
  | 61 => ⟨S_, .f32⟩
  | 62 => ⟨S1x8, .f32⟩
  | 63 => ⟨S1x8, .f32⟩
  | 64 => ⟨S1x8, .f32⟩
  | 65 => ⟨S_, .f32⟩
  | 66 => ⟨S1x8, .f32⟩
  | 67 => ⟨S1x8, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S_, .f32⟩
  | 102 => ⟨S1x4x384, .f32⟩
  | 103 => ⟨S1x4x384, .f32⟩
  | 104 => ⟨S_, .f32⟩
  | 105 => ⟨S1x4x384, .f32⟩
  | 106 => ⟨S1x4x384, .f32⟩
  | 107 => ⟨S1x4x384, .f32⟩
  | 108 => ⟨S_, .f32⟩
  | 109 => ⟨S1x4x384, .f32⟩
  | 110 => ⟨S1x4x384, .f32⟩
  | 111 => ⟨S1x4x384, .f32⟩
  | 112 => ⟨S_, .f32⟩
  | 113 => ⟨S1x4x384, .f32⟩
  | 114 => ⟨S1x4x384, .f32⟩
  | 115 => ⟨S1x4x384, .f32⟩
  | 116 => ⟨S_, .f32⟩
  | 117 => ⟨S1x4x384, .f32⟩
  | 118 => ⟨S1x4x384, .f32⟩
  | 119 => ⟨S_, .f32⟩
  | 120 => ⟨S1x4x384, .f32⟩
  | 121 => ⟨S1x4x384, .f32⟩
  | 122 => ⟨S1x4x384, .f32⟩
  | 123 => ⟨S_, .f32⟩
  | 124 => ⟨S1x4x384, .f32⟩
  | 125 => ⟨S1x4x384, .f32⟩
  | 126 => ⟨S1x4x384, .f32⟩
  | 127 => ⟨S_, .f32⟩
  | _ => ⟨S1x1024, .f32⟩

abbrev hbmTy0_2 (i : Nat) : BufTy := match i % 128 with
  | 0 => ⟨S1x4x384, .f32⟩
  | 1 => ⟨S1x4x384, .f32⟩
  | 2 => ⟨S1x4x384, .f32⟩
  | 3 => ⟨S_, .f32⟩
  | 4 => ⟨S1x4x384, .f32⟩
  | 5 => ⟨S1x4x384, .f32⟩
  | 6 => ⟨S_, .f32⟩
  | 7 => ⟨S1x1536, .f32⟩
  | 8 => ⟨S1x1536, .f32⟩
  | 9 => ⟨S_, .f32⟩
  | 10 => ⟨S1x1536, .f32⟩
  | 11 => ⟨S1x1536, .f32⟩
  | 12 => ⟨S1x1536, .f32⟩
  | 13 => ⟨S_, .f32⟩
  | 14 => ⟨S1x1536, .f32⟩
  | 15 => ⟨S1x1536, .f32⟩
  | 16 => ⟨S1x1536, .f32⟩
  | 17 => ⟨S_, .f32⟩
  | 18 => ⟨S1x1536, .f32⟩
  | 19 => ⟨S1x1536, .f32⟩
  | 20 => ⟨S1x1536, .f32⟩
  | 21 => ⟨S_, .f32⟩
  | 22 => ⟨S1x1536, .f32⟩
  | 23 => ⟨S1x1536, .f32⟩
  | 24 => ⟨S_, .f32⟩
  | 25 => ⟨S1x1536, .f32⟩
  | 26 => ⟨S1x1536, .f32⟩
  | 27 => ⟨S1x1536, .f32⟩
  | 28 => ⟨S_, .f32⟩
  | 29 => ⟨S1x1536, .f32⟩
  | 30 => ⟨S1x1536, .f32⟩
  | 31 => ⟨S1x1536, .f32⟩
  | 32 => ⟨S_, .f32⟩
  | 33 => ⟨S1x1536, .f32⟩
  | 34 => ⟨S1x1536, .f32⟩
  | 35 => ⟨S1x1536, .f32⟩
  | 36 => ⟨S_, .f32⟩
  | 37 => ⟨S1x1536, .f32⟩
  | 38 => ⟨S1x1536, .f32⟩
  | 39 => ⟨S_, .f32⟩
  | 40 => ⟨S1x16, .f32⟩
  | 41 => ⟨S1x16, .f32⟩
  | 42 => ⟨S_, .f32⟩
  | 43 => ⟨S1x16, .f32⟩
  | 44 => ⟨S1x16, .f32⟩
  | 45 => ⟨S1x16, .f32⟩
  | 46 => ⟨S_, .f32⟩
  | 47 => ⟨S1x16, .f32⟩
  | 48 => ⟨S1x16, .f32⟩
  | 49 => ⟨S1x16, .f32⟩
  | 50 => ⟨S_, .f32⟩
  | 51 => ⟨S1x16, .f32⟩
  | 52 => ⟨S1x16, .f32⟩
  | 53 => ⟨S1x16, .f32⟩
  | 54 => ⟨S_, .f32⟩
  | 55 => ⟨S1x16, .f32⟩
  | 56 => ⟨S1x16, .f32⟩
  | 57 => ⟨S_, .f32⟩
  | 58 => ⟨S1x16, .f32⟩
  | 59 => ⟨S1x16, .f32⟩
  | 60 => ⟨S1x16, .f32⟩
  | 61 => ⟨S_, .f32⟩
  | 62 => ⟨S1x16, .f32⟩
  | 63 => ⟨S1x16, .f32⟩
  | 64 => ⟨S1x16, .f32⟩
  | 65 => ⟨S_, .f32⟩
  | 66 => ⟨S1x16, .f32⟩
  | 67 => ⟨S1x16, .f32⟩
  | 68 => ⟨S1x16, .f32⟩
  | 69 => ⟨S_, .f32⟩
  | 70 => ⟨S1x16, .f32⟩
  | 71 => ⟨S1x16, .f32⟩
  | 72 => ⟨S_, .f32⟩
  | 73 => ⟨S1x16, .f32⟩
  | 74 => ⟨S1x16, .f32⟩
  | 75 => ⟨S_, .f32⟩
  | 76 => ⟨S1x16, .f32⟩
  | 77 => ⟨S1x16, .f32⟩
  | 78 => ⟨S1x16, .f32⟩
  | 79 => ⟨S_, .f32⟩
  | 80 => ⟨S1x16, .f32⟩
  | 81 => ⟨S1x16, .f32⟩
  | 82 => ⟨S1x16, .f32⟩
  | 83 => ⟨S_, .f32⟩
  | 84 => ⟨S1x16, .f32⟩
  | 85 => ⟨S1x16, .f32⟩
  | 86 => ⟨S1x16, .f32⟩
  | 87 => ⟨S_, .f32⟩
  | 88 => ⟨S1x16, .f32⟩
  | 89 => ⟨S1x16, .f32⟩
  | 90 => ⟨S_, .f32⟩
  | 91 => ⟨S1x16, .f32⟩
  | 92 => ⟨S1x16, .f32⟩
  | 93 => ⟨S1x16, .f32⟩
  | 94 => ⟨S_, .f32⟩
  | 95 => ⟨S1x16, .f32⟩
  | 96 => ⟨S1x16, .f32⟩
  | 97 => ⟨S1x16, .f32⟩
  | 98 => ⟨S_, .f32⟩
  | 99 => ⟨S1x16, .f32⟩
  | 100 => ⟨S1x16, .f32⟩
  | 101 => ⟨S1x16, .f32⟩
  | 102 => ⟨S_, .f32⟩
  | 103 => ⟨S1x16, .f32⟩
  | 104 => ⟨S1x16, .f32⟩
  | 105 => ⟨S_, .f32⟩
  | 106 => ⟨S1x16, .f32⟩
  | 107 => ⟨S1x16, .f32⟩
  | 108 => ⟨S_, .f32⟩
  | 109 => ⟨S1x16, .f32⟩
  | 110 => ⟨S1x16, .f32⟩
  | 111 => ⟨S1x16, .f32⟩
  | 112 => ⟨S_, .f32⟩
  | 113 => ⟨S1x16, .f32⟩
  | 114 => ⟨S1x16, .f32⟩
  | 115 => ⟨S1x16, .f32⟩
  | 116 => ⟨S_, .f32⟩
  | 117 => ⟨S1x16, .f32⟩
  | 118 => ⟨S1x16, .f32⟩
  | 119 => ⟨S1x16, .f32⟩
  | 120 => ⟨S_, .f32⟩
  | 121 => ⟨S1x16, .f32⟩
  | 122 => ⟨S1x16, .f32⟩
  | 123 => ⟨S_, .f32⟩
  | 124 => ⟨S1x16, .f32⟩
  | 125 => ⟨S1x16, .f32⟩
  | 126 => ⟨S1x16, .f32⟩
  | 127 => ⟨S_, .f32⟩
  | _ => ⟨S1x1024, .f32⟩

abbrev hbmTy0_3 (i : Nat) : BufTy := match i % 128 with
  | 0 => ⟨S1x16, .f32⟩
  | 1 => ⟨S1x16, .f32⟩
  | 2 => ⟨S1x16, .f32⟩
  | 3 => ⟨S_, .f32⟩
  | 4 => ⟨S1x16, .f32⟩
  | 5 => ⟨S1x16, .f32⟩
  | 6 => ⟨S1x16, .f32⟩
  | 7 => ⟨S_, .f32⟩
  | 8 => ⟨S1x16, .f32⟩
  | 9 => ⟨S1x16, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S_, .f32⟩
  | 110 => ⟨S1x3x1408, .f32⟩
  | 111 => ⟨S1x3x1408, .f32⟩
  | 112 => ⟨S_, .f32⟩
  | 113 => ⟨S1x3x1408, .f32⟩
  | 114 => ⟨S1x3x1408, .f32⟩
  | 115 => ⟨S1x3x1408, .f32⟩
  | 116 => ⟨S_, .f32⟩
  | 117 => ⟨S1x3x1408, .f32⟩
  | 118 => ⟨S1x3x1408, .f32⟩
  | 119 => ⟨S1x3x1408, .f32⟩
  | 120 => ⟨S_, .f32⟩
  | 121 => ⟨S1x3x1408, .f32⟩
  | 122 => ⟨S1x3x1408, .f32⟩
  | 123 => ⟨S1x3x1408, .f32⟩
  | 124 => ⟨S_, .f32⟩
  | 125 => ⟨S1x3x1408, .f32⟩
  | 126 => ⟨S1x3x1408, .f32⟩
  | 127 => ⟨S_, .f32⟩
  | _ => ⟨S1x1024, .f32⟩

abbrev hbmTy0_4 (i : Nat) : BufTy := match i % 128 with
  | 0 => ⟨S1x3x1408, .f32⟩
  | 1 => ⟨S1x3x1408, .f32⟩
  | 2 => ⟨S1x3x1408, .f32⟩
  | 3 => ⟨S_, .f32⟩
  | 4 => ⟨S1x3x1408, .f32⟩
  | 5 => ⟨S1x3x1408, .f32⟩
  | 6 => ⟨S1x3x1408, .f32⟩
  | 7 => ⟨S_, .f32⟩
  | 8 => ⟨S1x3x1408, .f32⟩
  | 9 => ⟨S1x3x1408, .f32⟩
  | 10 => ⟨S1x3x1408, .f32⟩
  | 11 => ⟨S_, .f32⟩
  | 12 => ⟨S1x3x1408, .f32⟩
  | 13 => ⟨S1x3x1408, .f32⟩
  | 14 => ⟨S_, .f32⟩
  | 15 => ⟨S1x5632, .f32⟩
  | 16 => ⟨S1x5632, .f32⟩
  | 17 => ⟨S_, .f32⟩
  | 18 => ⟨S1x5632, .f32⟩
  | 19 => ⟨S1x5632, .f32⟩
  | 20 => ⟨S1x5632, .f32⟩
  | 21 => ⟨S_, .f32⟩
  | 22 => ⟨S1x5632, .f32⟩
  | 23 => ⟨S1x5632, .f32⟩
  | 24 => ⟨S1x5632, .f32⟩
  | 25 => ⟨S_, .f32⟩
  | 26 => ⟨S1x5632, .f32⟩
  | 27 => ⟨S1x5632, .f32⟩
  | 28 => ⟨S1x5632, .f32⟩
  | 29 => ⟨S_, .f32⟩
  | 30 => ⟨S1x5632, .f32⟩
  | 31 => ⟨S1x5632, .f32⟩
  | 32 => ⟨S_, .f32⟩
  | 33 => ⟨S1x5632, .f32⟩
  | 34 => ⟨S1x5632, .f32⟩
  | 35 => ⟨S1x5632, .f32⟩
  | 36 => ⟨S_, .f32⟩
  | 37 => ⟨S1x5632, .f32⟩
  | 38 => ⟨S1x5632, .f32⟩
  | 39 => ⟨S1x5632, .f32⟩
  | 40 => ⟨S_, .f32⟩
  | 41 => ⟨S1x5632, .f32⟩
  | 42 => ⟨S1x5632, .f32⟩
  | 43 => ⟨S1x5632, .f32⟩
  | 44 => ⟨S_, .f32⟩
  | 45 => ⟨S1x5632, .f32⟩
  | 46 => ⟨S1x5632, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_cst : Ref sig .tc := ⟨.hbm, 64, rfl⟩
abbrev main_v0 : Ref sig .tc := ⟨.hbm, 65, rfl⟩
abbrev main_v1 : Ref sig .tc := ⟨.hbm, 66, rfl⟩
abbrev main_cst_0 : Ref sig .tc := ⟨.hbm, 67, rfl⟩
abbrev main_v2 : Ref sig .tc := ⟨.hbm, 68, rfl⟩
abbrev main_v3 : Ref sig .tc := ⟨.hbm, 69, rfl⟩
abbrev main_v4 : Ref sig .tc := ⟨.hbm, 70, rfl⟩
abbrev main_cst_1 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_cst_2 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_cst_3 : Ref sig .tc := ⟨.hbm, 79, rfl⟩
abbrev main_v11 : Ref sig .tc := ⟨.hbm, 80, rfl⟩
abbrev main_v12 : Ref sig .tc := ⟨.hbm, 81, rfl⟩
abbrev main_cst_4 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_5 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_6 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_cst_7 : Ref sig .tc := ⟨.hbm, 94, rfl⟩
abbrev main_v22 : Ref sig .tc := ⟨.hbm, 95, rfl⟩
abbrev main_v23 : Ref sig .tc := ⟨.hbm, 96, rfl⟩
abbrev main_cst_8 : Ref sig .tc := ⟨.hbm, 97, rfl⟩
abbrev main_v24 : Ref sig .tc := ⟨.hbm, 98, rfl⟩
abbrev main_v25 : Ref sig .tc := ⟨.hbm, 99, rfl⟩
abbrev main_cst_9 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_cst_10 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_cst_11 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_cst_12 : Ref sig .tc := ⟨.hbm, 112, rfl⟩
abbrev main_v35 : Ref sig .tc := ⟨.hbm, 113, rfl⟩
abbrev main_v36 : Ref sig .tc := ⟨.hbm, 114, rfl⟩
abbrev main_cst_13 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_14 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_15 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_cst_16 : Ref sig .tc := ⟨.hbm, 127, rfl⟩
abbrev main_v46 : Ref sig .tc := ⟨.hbm, 128, rfl⟩
abbrev main_v47 : Ref sig .tc := ⟨.hbm, 129, rfl⟩
abbrev main_cst_17 : Ref sig .tc := ⟨.hbm, 130, rfl⟩
abbrev main_v48 : Ref sig .tc := ⟨.hbm, 131, rfl⟩
abbrev main_v49 : Ref sig .tc := ⟨.hbm, 132, rfl⟩
abbrev main_cst_18 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_cst_19 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_cst_20 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_cst_21 : Ref sig .tc := ⟨.hbm, 145, rfl⟩
abbrev main_v59 : Ref sig .tc := ⟨.hbm, 146, rfl⟩
abbrev main_v60 : Ref sig .tc := ⟨.hbm, 147, rfl⟩
abbrev main_cst_22 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_cst_23 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_cst_24 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_cst_25 : Ref sig .tc := ⟨.hbm, 160, rfl⟩
abbrev main_v70 : Ref sig .tc := ⟨.hbm, 161, rfl⟩
abbrev main_v71 : Ref sig .tc := ⟨.hbm, 162, rfl⟩
abbrev main_cst_26 : Ref sig .tc := ⟨.hbm, 163, rfl⟩
abbrev main_v72 : Ref sig .tc := ⟨.hbm, 164, rfl⟩
abbrev main_v73 : Ref sig .tc := ⟨.hbm, 165, rfl⟩
abbrev main_cst_27 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_cst_28 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_cst_29 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_cst_30 : Ref sig .tc := ⟨.hbm, 178, rfl⟩
abbrev main_v83 : Ref sig .tc := ⟨.hbm, 179, rfl⟩
abbrev main_v84 : Ref sig .tc := ⟨.hbm, 180, rfl⟩
abbrev main_cst_31 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_cst_32 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_cst_33 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_cst_34 : Ref sig .tc := ⟨.hbm, 193, rfl⟩
abbrev main_v94 : Ref sig .tc := ⟨.hbm, 194, rfl⟩
abbrev main_v95 : Ref sig .tc := ⟨.hbm, 195, rfl⟩
abbrev main_cst_35 : Ref sig .tc := ⟨.hbm, 196, rfl⟩
abbrev main_v96 : Ref sig .tc := ⟨.hbm, 197, rfl⟩
abbrev main_v97 : Ref sig .tc := ⟨.hbm, 198, rfl⟩
abbrev main_cst_36 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_cst_37 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_cst_38 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_cst_39 : Ref sig .tc := ⟨.hbm, 211, rfl⟩
abbrev main_v107 : Ref sig .tc := ⟨.hbm, 212, rfl⟩
abbrev main_v108 : Ref sig .tc := ⟨.hbm, 213, rfl⟩
abbrev main_cst_40 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_cst_41 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_cst_42 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_cst_43 : Ref sig .tc := ⟨.hbm, 226, rfl⟩
abbrev main_v118 : Ref sig .tc := ⟨.hbm, 227, rfl⟩
abbrev main_v119 : Ref sig .tc := ⟨.hbm, 228, rfl⟩
abbrev main_cst_44 : Ref sig .tc := ⟨.hbm, 229, rfl⟩
abbrev main_v120 : Ref sig .tc := ⟨.hbm, 230, rfl⟩
abbrev main_v121 : Ref sig .tc := ⟨.hbm, 231, rfl⟩
abbrev main_cst_45 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_cst_46 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_cst_47 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_cst_48 : Ref sig .tc := ⟨.hbm, 244, rfl⟩
abbrev main_v131 : Ref sig .tc := ⟨.hbm, 245, rfl⟩
abbrev main_v132 : Ref sig .tc := ⟨.hbm, 246, rfl⟩
abbrev main_cst_49 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_cst_50 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_cst_51 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_cst_52 : Ref sig .tc := ⟨.hbm, 259, rfl⟩
abbrev main_v142 : Ref sig .tc := ⟨.hbm, 260, rfl⟩
abbrev main_v143 : Ref sig .tc := ⟨.hbm, 261, rfl⟩
abbrev main_cst_53 : Ref sig .tc := ⟨.hbm, 262, rfl⟩
abbrev main_v144 : Ref sig .tc := ⟨.hbm, 263, rfl⟩
abbrev main_v145 : Ref sig .tc := ⟨.hbm, 264, rfl⟩
abbrev main_cst_54 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_cst_55 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_cst_56 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_cst_57 : Ref sig .tc := ⟨.hbm, 277, rfl⟩
abbrev main_v155 : Ref sig .tc := ⟨.hbm, 278, rfl⟩
abbrev main_v156 : Ref sig .tc := ⟨.hbm, 279, rfl⟩
abbrev main_cst_58 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_cst_59 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_cst_60 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_cst_61 : Ref sig .tc := ⟨.hbm, 292, rfl⟩
abbrev main_v166 : Ref sig .tc := ⟨.hbm, 293, rfl⟩
abbrev main_v167 : Ref sig .tc := ⟨.hbm, 294, rfl⟩
abbrev main_cst_62 : Ref sig .tc := ⟨.hbm, 295, rfl⟩
abbrev main_v168 : Ref sig .tc := ⟨.hbm, 296, rfl⟩
abbrev main_v169 : Ref sig .tc := ⟨.hbm, 297, rfl⟩
abbrev main_cst_63 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_cst_64 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_cst_65 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_cst_66 : Ref sig .tc := ⟨.hbm, 310, rfl⟩
abbrev main_v179 : Ref sig .tc := ⟨.hbm, 311, rfl⟩
abbrev main_v180 : Ref sig .tc := ⟨.hbm, 312, rfl⟩
abbrev main_cst_67 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_cst_68 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_cst_69 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_cst_70 : Ref sig .tc := ⟨.hbm, 325, rfl⟩
abbrev main_v190 : Ref sig .tc := ⟨.hbm, 326, rfl⟩
abbrev main_v191 : Ref sig .tc := ⟨.hbm, 327, rfl⟩
abbrev main_cst_71 : Ref sig .tc := ⟨.hbm, 328, rfl⟩
abbrev main_v192 : Ref sig .tc := ⟨.hbm, 329, rfl⟩
abbrev main_v193 : Ref sig .tc := ⟨.hbm, 330, rfl⟩
abbrev main_cst_72 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_cst_73 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_cst_74 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_cst_75 : Ref sig .tc := ⟨.hbm, 343, rfl⟩
abbrev main_v203 : Ref sig .tc := ⟨.hbm, 344, rfl⟩
abbrev main_v204 : Ref sig .tc := ⟨.hbm, 345, rfl⟩
abbrev main_cst_76 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_cst_77 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_cst_78 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_cst_79 : Ref sig .tc := ⟨.hbm, 358, rfl⟩
abbrev main_v214 : Ref sig .tc := ⟨.hbm, 359, rfl⟩
abbrev main_v215 : Ref sig .tc := ⟨.hbm, 360, rfl⟩
abbrev main_cst_80 : Ref sig .tc := ⟨.hbm, 361, rfl⟩
abbrev main_v216 : Ref sig .tc := ⟨.hbm, 362, rfl⟩
abbrev main_v217 : Ref sig .tc := ⟨.hbm, 363, rfl⟩
abbrev main_cst_81 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_cst_82 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_cst_83 : Ref sig .tc := ⟨.hbm, 372, rfl⟩
abbrev main_v224 : Ref sig .tc := ⟨.hbm, 373, rfl⟩
abbrev main_v225 : Ref sig .tc := ⟨.hbm, 374, rfl⟩
abbrev main_v226 : Ref sig .tc := ⟨.hbm, 375, rfl⟩
abbrev main_cst_84 : Ref sig .tc := ⟨.hbm, 376, rfl⟩
abbrev main_v227 : Ref sig .tc := ⟨.hbm, 377, rfl⟩
abbrev main_v228 : Ref sig .tc := ⟨.hbm, 378, rfl⟩
abbrev main_cst_85 : Ref sig .tc := ⟨.hbm, 379, rfl⟩
abbrev main_v229 : Ref sig .tc := ⟨.hbm, 380, rfl⟩
abbrev main_v230 : Ref sig .tc := ⟨.hbm, 381, rfl⟩
abbrev main_v231 : Ref sig .tc := ⟨.hbm, 382, rfl⟩
abbrev main_cst_86 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_cst_87 : Ref sig .tc := ⟨.hbm, 387, rfl⟩
abbrev main_v235 : Ref sig .tc := ⟨.hbm, 388, rfl⟩
abbrev main_v236 : Ref sig .tc := ⟨.hbm, 389, rfl⟩
abbrev main_v237 : Ref sig .tc := ⟨.hbm, 390, rfl⟩
abbrev main_cst_88 : Ref sig .tc := ⟨.hbm, 391, rfl⟩
abbrev main_v238 : Ref sig .tc := ⟨.hbm, 392, rfl⟩
abbrev main_v239 : Ref sig .tc := ⟨.hbm, 393, rfl⟩
abbrev main_cst_89 : Ref sig .tc := ⟨.hbm, 394, rfl⟩
abbrev main_v240 : Ref sig .tc := ⟨.hbm, 395, rfl⟩
abbrev main_v241 : Ref sig .tc := ⟨.hbm, 396, rfl⟩
abbrev main_cst_90 : Ref sig .tc := ⟨.hbm, 397, rfl⟩
abbrev main_v242 : Ref sig .tc := ⟨.hbm, 398, rfl⟩
abbrev main_v243 : Ref sig .tc := ⟨.hbm, 399, rfl⟩
abbrev main_v244 : Ref sig .tc := ⟨.hbm, 400, rfl⟩
abbrev main_cst_91 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_cst_92 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_cst_93 : Ref sig .tc := ⟨.hbm, 409, rfl⟩
abbrev main_v251 : Ref sig .tc := ⟨.hbm, 410, rfl⟩
abbrev main_v252 : Ref sig .tc := ⟨.hbm, 411, rfl⟩
abbrev main_cst_94 : Ref sig .tc := ⟨.hbm, 412, rfl⟩
abbrev main_v253 : Ref sig .tc := ⟨.hbm, 413, rfl⟩
abbrev main_v254 : Ref sig .tc := ⟨.hbm, 414, rfl⟩
abbrev main_v255 : Ref sig .tc := ⟨.hbm, 415, rfl⟩
abbrev main_cst_95 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_cst_96 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_cst_97 : Ref sig .tc := ⟨.hbm, 424, rfl⟩
abbrev main_v262 : Ref sig .tc := ⟨.hbm, 425, rfl⟩
abbrev main_v263 : Ref sig .tc := ⟨.hbm, 426, rfl⟩
abbrev main_cst_98 : Ref sig .tc := ⟨.hbm, 427, rfl⟩
abbrev main_v264 : Ref sig .tc := ⟨.hbm, 428, rfl⟩
abbrev main_v265 : Ref sig .tc := ⟨.hbm, 429, rfl⟩
abbrev main_cst_99 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_cst_100 : Ref sig .tc := ⟨.hbm, 434, rfl⟩
abbrev main_v269 : Ref sig .tc := ⟨.hbm, 435, rfl⟩
abbrev main_v270 : Ref sig .tc := ⟨.hbm, 436, rfl⟩
abbrev main_v271 : Ref sig .tc := ⟨.hbm, 437, rfl⟩
abbrev main_cst_101 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_cst_102 : Ref sig .tc := ⟨.hbm, 442, rfl⟩
abbrev main_v275 : Ref sig .tc := ⟨.hbm, 443, rfl⟩
abbrev main_v276 : Ref sig .tc := ⟨.hbm, 444, rfl⟩
abbrev main_cst_103 : Ref sig .tc := ⟨.hbm, 445, rfl⟩
abbrev main_v277 : Ref sig .tc := ⟨.hbm, 446, rfl⟩
abbrev main_v278 : Ref sig .tc := ⟨.hbm, 447, rfl⟩
abbrev main_v279 : Ref sig .tc := ⟨.hbm, 448, rfl⟩
abbrev main_cst_104 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_cst_105 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_106 : Ref sig .tc := ⟨.hbm, 457, rfl⟩
abbrev main_v286 : Ref sig .tc := ⟨.hbm, 458, rfl⟩
abbrev main_v287 : Ref sig .tc := ⟨.hbm, 459, rfl⟩
abbrev main_cst_107 : Ref sig .tc := ⟨.hbm, 460, rfl⟩
abbrev main_v288 : Ref sig .tc := ⟨.hbm, 461, rfl⟩
abbrev main_v289 : Ref sig .tc := ⟨.hbm, 462, rfl⟩
abbrev main_cst_108 : Ref sig .tc := ⟨.hbm, 463, rfl⟩
abbrev main_v290 : Ref sig .tc := ⟨.hbm, 464, rfl⟩
abbrev main_v291 : Ref sig .tc := ⟨.hbm, 465, rfl⟩
abbrev main_v292 : Ref sig .tc := ⟨.hbm, 466, rfl⟩
abbrev main_cst_109 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_cst_110 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev main_cst_111 : Ref sig .tc := ⟨.hbm, 475, rfl⟩
abbrev main_v299 : Ref sig .tc := ⟨.hbm, 476, rfl⟩
abbrev main_v300 : Ref sig .tc := ⟨.hbm, 477, rfl⟩
abbrev main_cst_112 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_cst_113 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_cst_114 : Ref sig .tc := ⟨.hbm, 486, rfl⟩
abbrev main_v307 : Ref sig .tc := ⟨.hbm, 487, rfl⟩
abbrev main_v308 : Ref sig .tc := ⟨.hbm, 488, rfl⟩
abbrev main_v309 : Ref sig .tc := ⟨.hbm, 489, rfl⟩
abbrev main_cst_115 : Ref sig .tc := ⟨.hbm, 490, rfl⟩
abbrev main_v310 : Ref sig .tc := ⟨.hbm, 491, rfl⟩
abbrev main_v311 : Ref sig .tc := ⟨.hbm, 492, rfl⟩
abbrev main_cst_116 : Ref sig .tc := ⟨.hbm, 493, rfl⟩
abbrev main_v312 : Ref sig .tc := ⟨.hbm, 494, rfl⟩
abbrev main_v313 : Ref sig .tc := ⟨.hbm, 495, rfl⟩
abbrev main_cst_117 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_cst_118 : Ref sig .tc := ⟨.hbm, 500, rfl⟩
abbrev main_v317 : Ref sig .tc := ⟨.hbm, 501, rfl⟩
abbrev main_v318 : Ref sig .tc := ⟨.hbm, 502, rfl⟩
abbrev main_v319 : Ref sig .tc := ⟨.hbm, 503, rfl⟩
abbrev main_cst_119 : Ref sig .tc := ⟨.hbm, 504, rfl⟩
abbrev main_v320 : Ref sig .tc := ⟨.hbm, 505, rfl⟩
abbrev main_v321 : Ref sig .tc := ⟨.hbm, 506, rfl⟩
abbrev main_v322 : Ref sig .tc := ⟨.hbm, 507, rfl⟩
abbrev main_cst_120 : Ref sig .tc := ⟨.hbm, 508, rfl⟩
abbrev main_v323 : Ref sig .tc := ⟨.hbm, 509, rfl⟩
abbrev main_v324 : Ref sig .tc := ⟨.hbm, 510, rfl⟩
abbrev main_cst_121 : Ref sig .tc := ⟨.hbm, 511, rfl⟩
abbrev main_v325 : Ref sig .tc := ⟨.hbm, 512, rfl⟩
abbrev main_v326 : Ref sig .tc := ⟨.hbm, 513, rfl⟩
abbrev main_v327 : Ref sig .tc := ⟨.hbm, 514, rfl⟩
abbrev main_cst_122 : Ref sig .tc := ⟨.hbm, 515, rfl⟩
abbrev main_v328 : Ref sig .tc := ⟨.hbm, 516, rfl⟩
abbrev main_v329 : Ref sig .tc := ⟨.hbm, 517, rfl⟩
abbrev main_v330 : Ref sig .tc := ⟨.hbm, 518, rfl⟩
abbrev main_cst_123 : Ref sig .tc := ⟨.hbm, 519, rfl⟩
abbrev main_v331 : Ref sig .tc := ⟨.hbm, 520, rfl⟩
abbrev main_v332 : Ref sig .tc := ⟨.hbm, 521, rfl⟩
abbrev main_v333 : Ref sig .tc := ⟨.hbm, 522, rfl⟩
abbrev main_cst_124 : Ref sig .tc := ⟨.hbm, 523, rfl⟩
abbrev main_v334 : Ref sig .tc := ⟨.hbm, 524, rfl⟩
abbrev main_v335 : Ref sig .tc := ⟨.hbm, 525, rfl⟩
abbrev main_cst_125 : Ref sig .tc := ⟨.hbm, 526, rfl⟩
abbrev main_v336 : Ref sig .tc := ⟨.hbm, 527, rfl⟩
abbrev main_v337 : Ref sig .tc := ⟨.hbm, 528, rfl⟩
abbrev main_cst_126 : Ref sig .tc := ⟨.hbm, 529, rfl⟩
abbrev main_v338 : Ref sig .tc := ⟨.hbm, 530, rfl⟩
abbrev main_v339 : Ref sig .tc := ⟨.hbm, 531, rfl⟩
abbrev main_v340 : Ref sig .tc := ⟨.hbm, 532, rfl⟩
abbrev main_cst_127 : Ref sig .tc := ⟨.hbm, 533, rfl⟩
abbrev main_v341 : Ref sig .tc := ⟨.hbm, 534, rfl⟩
abbrev main_v342 : Ref sig .tc := ⟨.hbm, 535, rfl⟩
abbrev main_v343 : Ref sig .tc := ⟨.hbm, 536, rfl⟩
abbrev main_cst_128 : Ref sig .tc := ⟨.hbm, 537, rfl⟩
abbrev main_v344 : Ref sig .tc := ⟨.hbm, 538, rfl⟩
abbrev main_v345 : Ref sig .tc := ⟨.hbm, 539, rfl⟩
abbrev main_v346 : Ref sig .tc := ⟨.hbm, 540, rfl⟩
abbrev main_cst_129 : Ref sig .tc := ⟨.hbm, 541, rfl⟩
abbrev main_v347 : Ref sig .tc := ⟨.hbm, 542, rfl⟩
abbrev main_v348 : Ref sig .tc := ⟨.hbm, 543, rfl⟩
abbrev main_cst_130 : Ref sig .tc := ⟨.hbm, 544, rfl⟩
abbrev main_v349 : Ref sig .tc := ⟨.hbm, 545, rfl⟩
abbrev main_v350 : Ref sig .tc := ⟨.hbm, 546, rfl⟩
abbrev main_v351 : Ref sig .tc := ⟨.hbm, 547, rfl⟩
abbrev main_cst_131 : Ref sig .tc := ⟨.hbm, 548, rfl⟩
abbrev main_v352 : Ref sig .tc := ⟨.hbm, 549, rfl⟩
abbrev main_v353 : Ref sig .tc := ⟨.hbm, 550, rfl⟩
abbrev main_v354 : Ref sig .tc := ⟨.hbm, 551, rfl⟩
abbrev main_cst_132 : Ref sig .tc := ⟨.hbm, 552, rfl⟩
abbrev main_v355 : Ref sig .tc := ⟨.hbm, 553, rfl⟩
abbrev main_v356 : Ref sig .tc := ⟨.hbm, 554, rfl⟩
abbrev main_v357 : Ref sig .tc := ⟨.hbm, 555, rfl⟩
abbrev main_cst_133 : Ref sig .tc := ⟨.hbm, 556, rfl⟩
abbrev main_v358 : Ref sig .tc := ⟨.hbm, 557, rfl⟩
abbrev main_v359 : Ref sig .tc := ⟨.hbm, 558, rfl⟩
abbrev main_cst_134 : Ref sig .tc := ⟨.hbm, 559, rfl⟩
abbrev main_v360 : Ref sig .tc := ⟨.hbm, 560, rfl⟩
abbrev main_v361 : Ref sig .tc := ⟨.hbm, 561, rfl⟩
abbrev main_cst_135 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_cst_136 : Ref sig .tc := ⟨.hbm, 566, rfl⟩
abbrev main_v365 : Ref sig .tc := ⟨.hbm, 567, rfl⟩
abbrev main_v366 : Ref sig .tc := ⟨.hbm, 568, rfl⟩
abbrev main_v367 : Ref sig .tc := ⟨.hbm, 569, rfl⟩
abbrev main_cst_137 : Ref sig .tc := ⟨.hbm, 570, rfl⟩
abbrev main_v368 : Ref sig .tc := ⟨.hbm, 571, rfl⟩
abbrev main_v369 : Ref sig .tc := ⟨.hbm, 572, rfl⟩
abbrev main_v370 : Ref sig .tc := ⟨.hbm, 573, rfl⟩
abbrev main_cst_138 : Ref sig .tc := ⟨.hbm, 574, rfl⟩
abbrev main_v371 : Ref sig .tc := ⟨.hbm, 575, rfl⟩
abbrev main_v372 : Ref sig .tc := ⟨.hbm, 576, rfl⟩
abbrev main_cst_139 : Ref sig .tc := ⟨.hbm, 577, rfl⟩
abbrev main_v373 : Ref sig .tc := ⟨.hbm, 578, rfl⟩
abbrev main_v374 : Ref sig .tc := ⟨.hbm, 579, rfl⟩
abbrev main_v375 : Ref sig .tc := ⟨.hbm, 580, rfl⟩
abbrev main_cst_140 : Ref sig .tc := ⟨.hbm, 581, rfl⟩
abbrev main_v376 : Ref sig .tc := ⟨.hbm, 582, rfl⟩
abbrev main_v377 : Ref sig .tc := ⟨.hbm, 583, rfl⟩
abbrev main_v378 : Ref sig .tc := ⟨.hbm, 584, rfl⟩
abbrev main_cst_141 : Ref sig .tc := ⟨.hbm, 585, rfl⟩
abbrev main_v379 : Ref sig .tc := ⟨.hbm, 586, rfl⟩
abbrev main_v380 : Ref sig .tc := ⟨.hbm, 587, rfl⟩
abbrev main_v381 : Ref sig .tc := ⟨.hbm, 588, rfl⟩
abbrev main_cst_142 : Ref sig .tc := ⟨.hbm, 589, rfl⟩
abbrev main_v382 : Ref sig .tc := ⟨.hbm, 590, rfl⟩
abbrev main_v383 : Ref sig .tc := ⟨.hbm, 591, rfl⟩

abbrev nD : Nat := 1
abbrev τ : Topo := Topo.v7x

variable {F : FTy → Type} [FloatOps F]
-- ==== SumIn.lean ====
abbrev S4x512x1672 : Shape := ⟨3, ![4, 512, 1672]⟩
abbrev S512x1672 : Shape := ⟨2, ![512, 1672]⟩
abbrev S4x256x1672 : Shape := ⟨3, ![4, 256, 1672]⟩
abbrev S256x1672 : Shape := ⟨2, ![256, 1672]⟩
abbrev S1x256x1672 : Shape := ⟨3, ![1, 256, 1672]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1672, .f32⟩
  | .hbm, ⟨1, _⟩ => ⟨S512x1672, .f32⟩
  | .local _ .vmem, ⟨0, _⟩ => ⟨S4x256x1672, .f32⟩
  | .local _ .vmem, ⟨1, _⟩ => ⟨S4x256x1672, .f32⟩
  | .local _ .vmem, ⟨2, _⟩ => ⟨S256x1672, .f32⟩
  | .local _ .vmem, ⟨3, _⟩ => ⟨S256x1672, .f32⟩
  | _, _ => ⟨S4x512x1672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S4x512x1672 : Shape := ⟨3, ![4, 512, 1672]⟩
abbrev S_ : Shape := ⟨0, ![]⟩
abbrev S512x1672 : Shape := ⟨2, ![512, 1672]⟩

abbrev nBuf : Space → Nat
  | .hbm => 3
  | .vmem => 0
  | .smem => 0
  | _ => 0

abbrev bufTy : (tb : Table) → Fin (tcTables nBuf tb) → BufTy
  | .hbm, ⟨0, _⟩ => ⟨S4x512x1672, .f32⟩
  | .hbm, ⟨1, _⟩ => ⟨S_, .f32⟩
  | .hbm, ⟨2, _⟩ => ⟨S512x1672, .f32⟩
  | _, _ => ⟨S4x512x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumOut.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .local _ .vmem, ⟨0, _⟩ => ⟨S4x256x1024, .f32⟩
  | .local _ .vmem, ⟨1, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S_, .f32⟩
  | .hbm, ⟨2, _⟩ => ⟨S256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumUp.lean ====
abbrev S4x512x1408 : Shape := ⟨3, ![4, 512, 1408]⟩
abbrev S512x1408 : Shape := ⟨2, ![512, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1408, .f32⟩
  | .hbm, ⟨1, _⟩ => ⟨S512x1408, .f32⟩
  | .local _ .vmem, ⟨0, _⟩ => ⟨S4x256x1408, .f32⟩
  | .local _ .vmem, ⟨1, _⟩ => ⟨S4x256x1408, .f32⟩
  | .local _ .vmem, ⟨2, _⟩ => ⟨S256x1408, .f32⟩
  | .local _ .vmem, ⟨3, _⟩ => ⟨S256x1408, .f32⟩
  | _, _ => ⟨S4x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S4x512x1408 : Shape := ⟨3, ![4, 512, 1408]⟩
abbrev S_ : Shape := ⟨0, ![]⟩
abbrev S512x1408 : Shape := ⟨2, ![512, 1408]⟩

abbrev nBuf : Space → Nat
  | .hbm => 3
  | .vmem => 0
  | .smem => 0
  | _ => 0

abbrev bufTy : (tb : Table) → Fin (tcTables nBuf tb) → BufTy
  | .hbm, ⟨0, _⟩ => ⟨S4x512x1408, .f32⟩
  | .hbm, ⟨1, _⟩ => ⟨S_, .f32⟩
  | .hbm, ⟨2, _⟩ => ⟨S512x1408, .f32⟩
  | _, _ => ⟨S4x512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumDown.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x352x1024, .f32⟩
  | .hbm, ⟨1, _⟩ => ⟨S352x1024, .f32⟩
  | .local _ .vmem, ⟨0, _⟩ => ⟨S4x176x1024, .f32⟩
  | .local _ .vmem, ⟨1, _⟩ => ⟨S4x176x1024, .f32⟩
  | .local _ .vmem, ⟨2, _⟩ => ⟨S176x1024, .f32⟩
  | .local _ .vmem, ⟨3, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S4x352x1024 : Shape := ⟨3, ![4, 352, 1024]⟩
abbrev S_ : Shape := ⟨0, ![]⟩
abbrev S352x1024 : Shape := ⟨2, ![352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S_, .f32⟩
  | .hbm, ⟨2, _⟩ => ⟨S352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmInBig.lean ====
abbrev S8192x1024 : Shape := ⟨2, ![8192, 1024]⟩
abbrev S1024x6656 : Shape := ⟨2, ![1024, 6656]⟩
abbrev S8192x6656 : Shape := ⟨2, ![8192, 6656]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6656, .bf16⟩
  | .hbm, ⟨2, _⟩ => ⟨S8192x6656, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInBigIdeal.lean ====
abbrev S8192x1024 : Shape := ⟨2, ![8192, 1024]⟩
abbrev S1024x6656 : Shape := ⟨2, ![1024, 6656]⟩
abbrev S8192x6656 : Shape := ⟨2, ![8192, 6656]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6656, .bf16⟩
  | .hbm, ⟨2, _⟩ => ⟨S8192x6656, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInBigRefIdeal.lean ====
abbrev S8192x1024 : Shape := ⟨2, ![8192, 1024]⟩
abbrev S1024x6656 : Shape := ⟨2, ![1024, 6656]⟩
abbrev S8192x6656 : Shape := ⟨2, ![8192, 6656]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6656, .bf16⟩
  | .hbm, ⟨2, _⟩ => ⟨S8192x1024, .f32⟩
  | .hbm, ⟨3, _⟩ => ⟨S1024x6656, .f32⟩
  | .hbm, ⟨4, _⟩ => ⟨S8192x6656, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmInBigDx.lean ====
abbrev S8192x6656 : Shape := ⟨2, ![8192, 6656]⟩
abbrev S1024x6656 : Shape := ⟨2, ![1024, 6656]⟩
abbrev S8192x1024 : Shape := ⟨2, ![8192, 1024]⟩
abbrev S512x6656 : Shape := ⟨2, ![512, 6656]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x6656, .bf16⟩
  | .hbm, ⟨1, _⟩ => ⟨S1024x6656, .bf16⟩
  | .hbm, ⟨2, _⟩ => ⟨S8192x1024, .f32⟩
  | .local _ .vmem, ⟨0, _⟩ => ⟨S512x6656, .bf16⟩
  | .local _ .vmem, ⟨1, _⟩ => ⟨S512x6656, .bf16⟩
  | .local _ .vmem, ⟨2, _⟩ => ⟨S512x6656, .bf16⟩
  | .local _ .vmem, ⟨3, _⟩ => ⟨S512x6656, .bf16⟩
  | .local _ .vmem, ⟨4, _⟩ => ⟨S512x512, .f32⟩
  | .local _ .vmem, ⟨5, _⟩ => ⟨S512x512, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x6656 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInBigDxIdeal.lean ====
abbrev S8192x6656 : Shape := ⟨2, ![8192, 6656]⟩
abbrev S1024x6656 : Shape := ⟨2, ![1024, 6656]⟩
abbrev S8192x1024 : Shape := ⟨2, ![8192, 1024]⟩
abbrev S512x6656 : Shape := ⟨2, ![512, 6656]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x6656, .bf16⟩
  | .hbm, ⟨1, _⟩ => ⟨S1024x6656, .bf16⟩
  | .hbm, ⟨2, _⟩ => ⟨S8192x1024, .f32⟩
  | .local _ .vmem, ⟨0, _⟩ => ⟨S512x6656, .bf16⟩
  | .local _ .vmem, ⟨1, _⟩ => ⟨S512x6656, .bf16⟩
  | .local _ .vmem, ⟨2, _⟩ => ⟨S512x6656, .bf16⟩
  | .local _ .vmem, ⟨3, _⟩ => ⟨S512x6656, .bf16⟩
  | .local _ .vmem, ⟨4, _⟩ => ⟨S512x512, .f32⟩
  | .local _ .vmem, ⟨5, _⟩ => ⟨S512x512, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x6656 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInBigDxRefIdeal.lean ====
abbrev S8192x6656 : Shape := ⟨2, ![8192, 6656]⟩
abbrev S1024x6656 : Shape := ⟨2, ![1024, 6656]⟩
abbrev S6656x1024 : Shape := ⟨2, ![6656, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S1024x6656, .bf16⟩
  | .hbm, ⟨2, _⟩ => ⟨S8192x6656, .f32⟩
  | .hbm, ⟨3, _⟩ => ⟨S1024x6656, .f32⟩
  | .hbm, ⟨4, _⟩ => ⟨S6656x1024, .f32⟩
  | .hbm, ⟨5, _⟩ => ⟨S8192x1024, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmInBigDw.lean ====
abbrev S8192x1024 : Shape := ⟨2, ![8192, 1024]⟩
abbrev S8192x6656 : Shape := ⟨2, ![8192, 6656]⟩
abbrev S1024x6656 : Shape := ⟨2, ![1024, 6656]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S1024x6656, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 13, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInBigDwIdeal.lean ====
abbrev S8192x1024 : Shape := ⟨2, ![8192, 1024]⟩
abbrev S8192x6656 : Shape := ⟨2, ![8192, 6656]⟩
abbrev S1024x6656 : Shape := ⟨2, ![1024, 6656]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S1024x6656, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 13, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInBigDwRefIdeal.lean ====
abbrev S8192x1024 : Shape := ⟨2, ![8192, 1024]⟩
abbrev S8192x6656 : Shape := ⟨2, ![8192, 6656]⟩
abbrev S1024x8192 : Shape := ⟨2, ![1024, 8192]⟩
abbrev S1024x6656 : Shape := ⟨2, ![1024, 6656]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S8192x1024, .f32⟩
  | .hbm, ⟨3, _⟩ => ⟨S8192x6656, .f32⟩
  | .hbm, ⟨4, _⟩ => ⟨S1024x8192, .f32⟩
  | .hbm, ⟨5, _⟩ => ⟨S1024x6656, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmInSmall.lean ====
abbrev S8192x1024 : Shape := ⟨2, ![8192, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInSmallIdeal.lean ====
abbrev S8192x1024 : Shape := ⟨2, ![8192, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInSmallRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmInSmallDx.lean ====
abbrev S8192x128 : Shape := ⟨2, ![8192, 128]⟩
abbrev S1024x128 : Shape := ⟨2, ![1024, 128]⟩
abbrev S8192x1024 : Shape := ⟨2, ![8192, 1024]⟩
abbrev S512x128 : Shape := ⟨2, ![512, 128]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x512, .f32⟩
  | .local _ .vmem, ⟨5, _⟩ => ⟨S512x512, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInSmallDxIdeal.lean ====
abbrev S8192x128 : Shape := ⟨2, ![8192, 128]⟩
abbrev S1024x128 : Shape := ⟨2, ![1024, 128]⟩
abbrev S8192x1024 : Shape := ⟨2, ![8192, 1024]⟩
abbrev S512x128 : Shape := ⟨2, ![512, 128]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x512, .f32⟩
  | .local _ .vmem, ⟨5, _⟩ => ⟨S512x512, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInSmallDxRefIdeal.lean ====
abbrev S8192x128 : Shape := ⟨2, ![8192, 128]⟩
abbrev S1024x128 : Shape := ⟨2, ![1024, 128]⟩
abbrev S128x1024 : Shape := ⟨2, ![128, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x128, .f32⟩
  | .hbm, ⟨3, _⟩ => ⟨S1024x128, .f32⟩
  | .hbm, ⟨4, _⟩ => ⟨S128x1024, .f32⟩
  | .hbm, ⟨5, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmInSmallDw.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmInSmallDwIdeal.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmInSmallDwRefIdeal.lean ====
abbrev S8192x1024 : Shape := ⟨2, ![8192, 1024]⟩
abbrev S8192x128 : Shape := ⟨2, ![8192, 128]⟩
abbrev S1024x8192 : Shape := ⟨2, ![1024, 8192]⟩
abbrev S1024x128 : Shape := ⟨2, ![1024, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .f32⟩
  | .hbm, ⟨3, _⟩ => ⟨S8192x128, .f32⟩
  | .hbm, ⟨4, _⟩ => ⟨S1024x8192, .f32⟩
  | .hbm, ⟨5, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmOut.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmOutIdeal.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmOutRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmOutDx.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmOutDxIdeal.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmOutDxRefIdeal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S1024x2048, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmOutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutDwIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutDwRefIdeal.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S2048x8192, .f32⟩
  | .hbm, ⟨5, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmUp.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmUpIdeal.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmUpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmUpDx.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S512x512, .f32⟩
  | .local _ .vmem, ⟨5, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmUpDxIdeal.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S512x512, .f32⟩
  | .local _ .vmem, ⟨5, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmUpDxRefIdeal.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x5632, .f32⟩
  | .hbm, ⟨3, _⟩ => ⟨S1024x5632, .f32⟩
  | .hbm, ⟨4, _⟩ => ⟨S5632x1024, .f32⟩
  | .hbm, ⟨5, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmUpDw.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpDwIdeal.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpDwRefIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S1024x8192, .f32⟩
  | .hbm, ⟨5, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDown.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDownIdeal.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x512, .f32⟩
  | .local _ .vmem, ⟨5, _⟩ => ⟨S512x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmDownDx.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDownDxIdeal.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDownDxRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S1024x2816, .f32⟩
  | .hbm, ⟨5, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x512 : Shape := ⟨2, ![1024, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownDwRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S2816x8192, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AddDh.lean ====
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddDhRefIdeal.lean ====
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddDx.lean ====
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddDxRefIdeal.lean ====
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradX.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradXRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mix.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== MixBack.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixBackRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8x128, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S8x128, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8x128, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== GatherRef.lean ====
abbrev S1024x6688 : Shape := ⟨2, ![1024, 6688]⟩
abbrev S2048x1024 : Shape := ⟨2, ![2048, 1024]⟩
abbrev S1024x5632 : Shape := ⟨2, ![1024, 5632]⟩
abbrev S2816x1024 : Shape := ⟨2, ![2816, 1024]⟩
abbrev S4x3072 : Shape := ⟨2, ![4, 3072]⟩
abbrev S4x1536 : Shape := ⟨2, ![4, 1536]⟩
abbrev S3x5632 : Shape := ⟨2, ![3, 5632]⟩
abbrev S1024x4x1672 : Shape := ⟨3, ![1024, 4, 1672]⟩
abbrev S4x1024x1672 : Shape := ⟨3, ![4, 1024, 1672]⟩
abbrev S4x512x1024 : Shape := ⟨3, ![4, 512, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S4x4x768 : Shape := ⟨3, ![4, 4, 768]⟩
abbrev S4x4x384 : Shape := ⟨3, ![4, 4, 384]⟩
abbrev S3x4x1408 : Shape := ⟨3, ![3, 4, 1408]⟩
abbrev S4x3x1408 : Shape := ⟨3, ![4, 3, 1408]⟩

abbrev nBuf : Space → Nat
  | .hbm => 19
  | .vmem => 0
  | .smem => 0
  | _ => 0

abbrev bufTy : (tb : Table) → Fin (tcTables nBuf tb) → BufTy
  | .hbm, ⟨0, _⟩ => ⟨S1024x6688, .bf16⟩
  | .hbm, ⟨1, _⟩ => ⟨S2048x1024, .bf16⟩
  | .hbm, ⟨2, _⟩ => ⟨S1024x5632, .bf16⟩
  | .hbm, ⟨3, _⟩ => ⟨S2816x1024, .bf16⟩
  | .hbm, ⟨4, _⟩ => ⟨S4x3072, .f32⟩
  | .hbm, ⟨5, _⟩ => ⟨S4x1536, .f32⟩
  | .hbm, ⟨6, _⟩ => ⟨S3x5632, .f32⟩
  | .hbm, ⟨7, _⟩ => ⟨S1024x4x1672, .bf16⟩
  | .hbm, ⟨8, _⟩ => ⟨S4x1024x1672, .bf16⟩
  | .hbm, ⟨9, _⟩ => ⟨S4x512x1024, .bf16⟩
  | .hbm, ⟨10, _⟩ => ⟨S1024x4x1408, .bf16⟩
  | .hbm, ⟨11, _⟩ => ⟨S4x1024x1408, .bf16⟩
  | .hbm, ⟨12, _⟩ => ⟨S4x704x1024, .bf16⟩
  | .hbm, ⟨13, _⟩ => ⟨S4x4x768, .f32⟩
  | .hbm, ⟨14, _⟩ => ⟨S4x4x768, .f32⟩
  | .hbm, ⟨15, _⟩ => ⟨S4x4x384, .f32⟩
  | .hbm, ⟨16, _⟩ => ⟨S4x4x384, .f32⟩
  | .hbm, ⟨17, _⟩ => ⟨S3x4x1408, .f32⟩
  | .hbm, ⟨18, _⟩ => ⟨S4x3x1408, .f32⟩
  | _, _ => ⟨S1024x6688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== SendRef.lean ====
abbrev S32x1024x1672 : Shape := ⟨3, ![32, 1024, 1672]⟩
abbrev S32x512x1024 : Shape := ⟨3, ![32, 512, 1024]⟩
abbrev S32x1024x1408 : Shape := ⟨3, ![32, 1024, 1408]⟩
abbrev S32x704x1024 : Shape := ⟨3, ![32, 704, 1024]⟩
abbrev S4x2x4x2x512x1672 : Shape := ⟨6, ![4, 2, 4, 2, 512, 1672]⟩
abbrev S4x1x4x1x512x1672 : Shape := ⟨6, ![4, 1, 4, 1, 512, 1672]⟩
abbrev S4x4x512x1672 : Shape := ⟨4, ![4, 4, 512, 1672]⟩
abbrev S4x1x4x512x1672 : Shape := ⟨5, ![4, 1, 4, 512, 1672]⟩
abbrev S4x2x4x512x1672 : Shape := ⟨5, ![4, 2, 4, 512, 1672]⟩
abbrev S32x512x1672 : Shape := ⟨3, ![32, 512, 1672]⟩
abbrev S4x2x4x2x256x1024 : Shape := ⟨6, ![4, 2, 4, 2, 256, 1024]⟩
abbrev S4x1x4x1x256x1024 : Shape := ⟨6, ![4, 1, 4, 1, 256, 1024]⟩
abbrev S4x4x256x1024 : Shape := ⟨4, ![4, 4, 256, 1024]⟩
abbrev S4x1x4x256x1024 : Shape := ⟨5, ![4, 1, 4, 256, 1024]⟩
abbrev S4x2x4x256x1024 : Shape := ⟨5, ![4, 2, 4, 256, 1024]⟩
abbrev S32x256x1024 : Shape := ⟨3, ![32, 256, 1024]⟩
abbrev S4x2x4x2x512x1408 : Shape := ⟨6, ![4, 2, 4, 2, 512, 1408]⟩
abbrev S4x1x4x1x512x1408 : Shape := ⟨6, ![4, 1, 4, 1, 512, 1408]⟩
abbrev S4x4x512x1408 : Shape := ⟨4, ![4, 4, 512, 1408]⟩
abbrev S4x1x4x512x1408 : Shape := ⟨5, ![4, 1, 4, 512, 1408]⟩
abbrev S4x2x4x512x1408 : Shape := ⟨5, ![4, 2, 4, 512, 1408]⟩
abbrev S32x512x1408 : Shape := ⟨3, ![32, 512, 1408]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S32x352x1024 : Shape := ⟨3, ![32, 352, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x1024x1672, .f32⟩
  | .hbm, ⟨1, _⟩ => ⟨S32x512x1024, .f32⟩
  | .hbm, ⟨2, _⟩ => ⟨S32x1024x1408, .f32⟩
  | .hbm, ⟨3, _⟩ => ⟨S32x704x1024, .f32⟩
  | .hbm, ⟨4, _⟩ => ⟨S4x2x4x2x512x1672, .f32⟩
  | .hbm, ⟨5, _⟩ => ⟨S4x1x4x1x512x1672, .f32⟩
  | .hbm, ⟨6, _⟩ => ⟨S4x4x512x1672, .f32⟩
  | .hbm, ⟨7, _⟩ => ⟨S4x1x4x1x512x1672, .f32⟩
  | .hbm, ⟨8, _⟩ => ⟨S4x4x512x1672, .f32⟩
  | .hbm, ⟨9, _⟩ => ⟨S4x1x4x512x1672, .f32⟩
  | .hbm, ⟨10, _⟩ => ⟨S4x1x4x512x1672, .f32⟩
  | .hbm, ⟨11, _⟩ => ⟨S4x2x4x512x1672, .f32⟩
  | .hbm, ⟨12, _⟩ => ⟨S32x512x1672, .f32⟩
  | .hbm, ⟨13, _⟩ => ⟨S4x2x4x2x256x1024, .f32⟩
  | .hbm, ⟨14, _⟩ => ⟨S4x1x4x1x256x1024, .f32⟩
  | .hbm, ⟨15, _⟩ => ⟨S4x4x256x1024, .f32⟩
  | .hbm, ⟨16, _⟩ => ⟨S4x1x4x1x256x1024, .f32⟩
  | .hbm, ⟨17, _⟩ => ⟨S4x4x256x1024, .f32⟩
  | .hbm, ⟨18, _⟩ => ⟨S4x1x4x256x1024, .f32⟩
  | .hbm, ⟨19, _⟩ => ⟨S4x1x4x256x1024, .f32⟩
  | .hbm, ⟨20, _⟩ => ⟨S4x2x4x256x1024, .f32⟩
  | .hbm, ⟨21, _⟩ => ⟨S32x256x1024, .f32⟩
  | .hbm, ⟨22, _⟩ => ⟨S4x2x4x2x512x1408, .f32⟩
  | .hbm, ⟨23, _⟩ => ⟨S4x1x4x1x512x1408, .f32⟩
  | .hbm, ⟨24, _⟩ => ⟨S4x4x512x1408, .f32⟩
  | .hbm, ⟨25, _⟩ => ⟨S4x1x4x1x512x1408, .f32⟩
  | .hbm, ⟨26, _⟩ => ⟨S4x4x512x1408, .f32⟩
  | .hbm, ⟨27, _⟩ => ⟨S4x1x4x512x1408, .f32⟩
  | .hbm, ⟨28, _⟩ => ⟨S4x1x4x512x1408, .f32⟩
  | .hbm, ⟨29, _⟩ => ⟨S4x2x4x512x1408, .f32⟩
  | .hbm, ⟨30, _⟩ => ⟨S32x512x1408, .f32⟩
  | .hbm, ⟨31, _⟩ => ⟨S4x2x4x2x352x1024, .f32⟩
  | .hbm, ⟨32, _⟩ => ⟨S4x1x4x1x352x1024, .f32⟩
  | .hbm, ⟨33, _⟩ => ⟨S4x4x352x1024, .f32⟩
  | .hbm, ⟨34, _⟩ => ⟨S4x1x4x1x352x1024, .f32⟩
  | .hbm, ⟨35, _⟩ => ⟨S4x4x352x1024, .f32⟩
  | .hbm, ⟨36, _⟩ => ⟨S4x1x4x352x1024, .f32⟩
  | .hbm, ⟨37, _⟩ => ⟨S4x1x4x352x1024, .f32⟩
  | .hbm, ⟨38, _⟩ => ⟨S4x2x4x352x1024, .f32⟩
  | .hbm, ⟨39, _⟩ => ⟨S32x352x1024, .f32⟩
  | _, _ => ⟨S32x1024x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== ScatterRef.lean ====
abbrev S32x512x1672 : Shape := ⟨3, ![32, 512, 1672]⟩
abbrev S32x256x1024 : Shape := ⟨3, ![32, 256, 1024]⟩
abbrev S32x512x1408 : Shape := ⟨3, ![32, 512, 1408]⟩
abbrev S32x352x1024 : Shape := ⟨3, ![32, 352, 1024]⟩
abbrev S4x2x4x512x1672 : Shape := ⟨5, ![4, 2, 4, 512, 1672]⟩
abbrev S4x2x4x256x1024 : Shape := ⟨5, ![4, 2, 4, 256, 1024]⟩
abbrev S4x2x4x512x1408 : Shape := ⟨5, ![4, 2, 4, 512, 1408]⟩
abbrev S4x2x4x352x1024 : Shape := ⟨5, ![4, 2, 4, 352, 1024]⟩

abbrev nBuf : Space → Nat
  | .hbm => 16
  | .vmem => 0
  | .smem => 0
  | _ => 0

abbrev bufTy : (tb : Table) → Fin (tcTables nBuf tb) → BufTy
  | .hbm, ⟨0, _⟩ => ⟨S32x512x1672, .f32⟩
  | .hbm, ⟨1, _⟩ => ⟨S32x256x1024, .f32⟩
  | .hbm, ⟨2, _⟩ => ⟨S32x512x1408, .f32⟩
  | .hbm, ⟨3, _⟩ => ⟨S32x352x1024, .f32⟩
  | .hbm, ⟨4, _⟩ => ⟨S4x2x4x512x1672, .f32⟩
  | .hbm, ⟨5, _⟩ => ⟨S4x2x4x512x1672, .f32⟩
  | .hbm, ⟨6, _⟩ => ⟨S32x512x1672, .f32⟩
  | .hbm, ⟨7, _⟩ => ⟨S4x2x4x256x1024, .f32⟩
  | .hbm, ⟨8, _⟩ => ⟨S4x2x4x256x1024, .f32⟩
  | .hbm, ⟨9, _⟩ => ⟨S32x256x1024, .f32⟩
  | .hbm, ⟨10, _⟩ => ⟨S4x2x4x512x1408, .f32⟩
  | .hbm, ⟨11, _⟩ => ⟨S4x2x4x512x1408, .f32⟩
  | .hbm, ⟨12, _⟩ => ⟨S32x512x1408, .f32⟩
  | .hbm, ⟨13, _⟩ => ⟨S4x2x4x352x1024, .f32⟩
  | .hbm, ⟨14, _⟩ => ⟨S4x2x4x352x1024, .f32⟩
  | .hbm, ⟨15, _⟩ => ⟨S32x352x1024, .f32⟩
  | _, _ => ⟨S32x512x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== PairRef.lean ====
abbrev S1024x6688 : Shape := ⟨2, ![1024, 6688]⟩
abbrev S2048x1024 : Shape := ⟨2, ![2048, 1024]⟩
abbrev S1024x5632 : Shape := ⟨2, ![1024, 5632]⟩
abbrev S2816x1024 : Shape := ⟨2, ![2816, 1024]⟩
abbrev S2x512x6688 : Shape := ⟨3, ![2, 512, 6688]⟩
abbrev S8x256x1024 : Shape := ⟨3, ![8, 256, 1024]⟩
abbrev S2x512x5632 : Shape := ⟨3, ![2, 512, 5632]⟩
abbrev S8x352x1024 : Shape := ⟨3, ![8, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x6688, .f32⟩
  | .hbm, ⟨1, _⟩ => ⟨S2048x1024, .f32⟩
  | .hbm, ⟨2, _⟩ => ⟨S1024x5632, .f32⟩
  | .hbm, ⟨3, _⟩ => ⟨S2816x1024, .f32⟩
  | .hbm, ⟨4, _⟩ => ⟨S2x512x6688, .f32⟩
  | .hbm, ⟨5, _⟩ => ⟨S8x256x1024, .f32⟩
  | .hbm, ⟨6, _⟩ => ⟨S2x512x5632, .f32⟩
  | .hbm, ⟨7, _⟩ => ⟨S8x352x1024, .f32⟩
  | _, _ => ⟨S1024x6688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Exch.lean ====
/-
A straight-line exchange between the devices of a mesh: every device starts a list of copies, some within its own
memory and some into a peer's memory, and then waits for them one by one. No handshake goes before the copies: what a
device writes on its peer was dealt to it before any device started.

`Plan` says what is copied where and by which semaphores. Every semaphore has ONE round with one duty: the copy that
credits it. `wp_starts` and `wp_waits` run the two lists by induction, so the body of a kernel is proved once for every
kernel of this form, whatever the number of its copies.
-/
module

public import Idealize.ShloMosaic.Lib.Pipeline.Regions
public import Idealize.ShloMosaic.Lib.Pipeline.BigSepL
public import Idealize.ShloMosaic.Lib.Pipeline.Kit
public import Idealize.ShloMosaic.Lib.Rounds
public import Idealize.ShloMosaic.Lib.Tactic

@[expose] public section

noncomputable section

namespace Idealize.ShloMosaic.Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

/-- What an exchange copies. A remote copy `i : I` of device `c` reads `src i c` of its own memory and writes `dst i c`
of the memory of `peer i c`; a local copy `j : J` reads `lsrc j c` and writes `ldst j c`. The semaphores are named by
`I ⊕ I ⊕ J`: the one counted at the sender, the one counted at the receiver, the one of a local copy. -/
structure Plan (nD : Nat) (τ : Topo) (sig : RefSig) where
  I : Type
  J : Type
  [fI : Fintype I]
  [dI : DecidableEq I]
  [fJ : Fintype J]
  [dJ : DecidableEq J]
  sh : I → Shape
  el : I → EltTy
  peer : I → Dev nD → Dev nD
  src : (i : I) → Dev nD → Memref sig .tc .hbm (sh i) (el i)
  dst : (i : I) → Dev nD → Memref sig .tc .hbm (sh i) (el i)
  lsh : J → Shape
  lel : J → EltTy
  lsrc : (j : J) → Dev nD → Memref sig .tc .hbm (lsh j) (lel j)
  ldst : (j : J) → Dev nD → Memref sig .tc .hbm (lsh j) (lel j)
  sem : I ⊕ I ⊕ J → DmaSem sig
  amt : I ⊕ I ⊕ J → ℕ
  share : I → PosShare TreeShare
  lshare : J → PosShare TreeShare
  starts : List (J ⊕ I)
  waits : List (I ⊕ I ⊕ J)
  peer_peer : ∀ i c, peer i (peer i c) = c
  sem_inj : Function.Injective sem
  src_exact : ∀ i c, (src i c).view.WordExact
  dst_exact : ∀ i c, (dst i c).view.WordExact
  lsrc_exact : ∀ j c, (lsrc j c).view.WordExact
  ldst_exact : ∀ j c, (ldst j c).view.WordExact
  scratch : ∀ i c, (dst i c).view.ref.isScScratch = false
  amt_pos : ∀ k, 0 < amt k
  src_amt : ∀ i c, (src i c).view.dmaCredit = amt (.inl i)
  dst_send : ∀ i c, (dst i c).view.dmaCredit = amt (.inl i)
  dst_amt : ∀ i c, (dst i c).view.dmaCredit = amt (.inr (.inl i))
  ldst_amt : ∀ j c, (ldst j c).view.dmaCredit = amt (.inr (.inr j))
  starts_nodup : starts.Nodup
  starts_all : ∀ x, x ∈ starts
  waits_nodup : waits.Nodup
  waits_all : ∀ x, x ∈ waits

attribute [instance] Plan.fI Plan.dI Plan.fJ Plan.dJ

variable {nD : Nat} {τ : Topo} {sig : RefSig} {Val : EltTy → Type} {Λ : Labels}

abbrev UU (nD : Nat) (τ : Topo) (sig : RefSig) := UR sig nD τ × UR sig nD τ
local notation "𝕄" => MT nD τ sig Unit Val ℕ (UU nD τ sig) ℕ

/-- Where the ghost state of the exchange's semaphores lives. -/
abbrev ER : Emb (UR sig nD τ) 𝕄 := embR

section PlanOf
variable (p : Plan nD τ sig) (m : (ℓ : Loc nD τ sig) → Buf Val ℓ)

/-- The name of a semaphore. -/
abbrev Plan.Key : Type := p.I ⊕ p.I ⊕ p.J

/-- A device's semaphore. -/
def Plan.cell (ck : Dev nD × p.Key) : GSem nD τ sig := ((ck.1 : Thread nD τ), .dma (p.sem ck.2))

theorem Plan.cell_inj : Function.Injective p.cell := by
  intro a b h
  have h1 : (a.1 : Thread nD τ) = (b.1 : Thread nD τ) := congrArg Prod.fst h
  have h2 : (SemLoc.dma (p.sem a.2) : SemLoc sig) = .dma (p.sem b.2) := congrArg Prod.snd h
  exact Prod.ext (congrArg (fun t : Thread nD τ => t.1) h1) (p.sem_inj (SemLoc.dma.inj h2))

/-! ### What the semaphores hand over -/

/-- A remote copy's source, as its issuer reads it. -/
def Plan.srcPts (i : p.I) (c : Dev nD) : sProp 𝕄 :=
  (p.src i c).view.loc (c : Thread nD τ) ↦[(p.src i c).view.set]{p.share i} m ((p.src i c).view.loc (c : Thread nD τ))

/-- What device `c` writes on device `d`, at any contents. -/
def Plan.dstAny (i : p.I) (c d : Dev nD) : sProp 𝕄 :=
  iprop(∃ f, (p.dst i c).view.loc (d : Thread nD τ) ↦[(p.dst i c).view.set]{fullShare} f)

/-- What device `c` has written on device `d`: its own source. -/
def Plan.dstAt (i : p.I) (c d : Dev nD) : sProp 𝕄 :=
  iprop(∃ f, ⌜(p.dst i c).view.read Val f = (p.src i c).view.read Val (m ((p.src i c).view.loc (c : Thread nD τ)))⌝
    ∗ (p.dst i c).view.loc (d : Thread nD τ) ↦[(p.dst i c).view.set]{fullShare} f)

/-- A local copy's source. -/
def Plan.lsrcPts (j : p.J) (c : Dev nD) : sProp 𝕄 :=
  (p.lsrc j c).view.loc (c : Thread nD τ) ↦[(p.lsrc j c).view.set]{p.lshare j} m ((p.lsrc j c).view.loc (c : Thread nD τ))

/-- A local copy's target, at any contents. -/
def Plan.ldstAny (j : p.J) (c : Dev nD) : sProp 𝕄 :=
  iprop(∃ f, (p.ldst j c).view.loc (c : Thread nD τ) ↦[(p.ldst j c).view.set]{fullShare} f)

/-- A local copy's target once the copy is done. -/
def Plan.ldstAt (j : p.J) (c : Dev nD) : sProp 𝕄 :=
  iprop(∃ f, ⌜(p.ldst j c).view.read Val f = (p.lsrc j c).view.read Val (m ((p.lsrc j c).view.loc (c : Thread nD τ)))⌝
    ∗ (p.ldst j c).view.loc (c : Thread nD τ) ↦[(p.ldst j c).view.set]{fullShare} f)

/-- What the wait on a semaphore gives its device. -/
def Plan.pay : Dev nD × p.Key → sProp 𝕄
  | (c, .inl i) => p.srcPts m i c
  | (c, .inr (.inl i)) => p.dstAt m i (p.peer i c) c
  | (c, .inr (.inr j)) => iprop(p.ldstAt m j c ∗ p.lsrcPts m j c)

instance (ck : Dev nD × p.Key) : BI.Storable (upEmb : UEmb _ 𝕄) (p.pay m ck) := by
  obtain ⟨c, k⟩ := ck
  rcases k with i | i | j
  · unfold Plan.pay Plan.srcPts; infer_instance
  · unfold Plan.pay Plan.dstAt; infer_instance
  · unfold Plan.pay Plan.ldstAt Plan.lsrcPts; infer_instance

open Classical in
/-- One round of one duty on every semaphore of the plan, none on any other. -/
def Plan.Rd : Rounds.Schedule (GSem nD τ sig) Unit 𝕄 where
  duties g r := if (∃ ck, p.cell ck = g) ∧ r = 0 then {()} else ∅
  amount g _ _ := if h : ∃ ck, p.cell ck = g then p.amt h.choose.2 else 1
  payload g _ _ := if h : ∃ ck, p.cell ck = g then p.pay m h.choose else iprop(⌜True⌝)
  amount_pos g r d _ := by split; exacts [p.amt_pos _, Nat.one_pos]
  unitless := fun _ => False

instance (g : GSem nD τ sig) (r : ℕ) (d : Unit) : BI.Storable (upEmb : UEmb _ 𝕄) ((p.Rd m).payload g r d) := by
  show BI.Storable (upEmb : UEmb _ 𝕄) (dite _ _ _)
  split <;> infer_instance

theorem Plan.chosen (ck : Dev nD × p.Key) (h : ∃ ck', p.cell ck' = p.cell ck) : h.choose = ck := p.cell_inj h.choose_spec

theorem Plan.duties_eq (ck : Dev nD × p.Key) : (p.Rd m).duties (p.cell ck) 0 = {()} := if_pos ⟨⟨ck, rfl⟩, rfl⟩

theorem Plan.duties_mem (ck : Dev nD × p.Key) : () ∈ (p.Rd m).duties (p.cell ck) 0 := by
  rw [p.duties_eq]; exact Finset.mem_singleton_self _

theorem Plan.duties_later (g : GSem nD τ sig) : ∀ r, 0 + 1 ≤ r → (p.Rd m).duties g r = ∅ :=
  fun r hr => if_neg fun h => by have := h.2; omega

theorem Plan.amount_eq (ck : Dev nD × p.Key) (d : Unit) : (p.Rd m).amount (p.cell ck) 0 d = p.amt ck.2 := by
  have h : ∃ ck', p.cell ck' = p.cell ck := ⟨ck, rfl⟩
  exact (dif_pos h).trans (by rw [p.chosen ck h])

theorem Plan.payload_eq (ck : Dev nD × p.Key) (d : Unit) : (p.Rd m).payload (p.cell ck) 0 d = p.pay m ck := by
  have h : ∃ ck', p.cell ck' = p.cell ck := ⟨ck, rfl⟩
  exact (dif_pos h).trans (by rw [p.chosen ck h])

theorem Plan.expect_eq (ck : Dev nD × p.Key) : (p.Rd m).expect (p.cell ck) 0 = p.amt ck.2 := by
  unfold Rounds.Schedule.expect Rounds.Schedule.amountOf
  rw [p.duties_eq, Finset.sum_singleton, p.amount_eq]

theorem Plan.rest_eq (ck : Dev nD × p.Key) :
    (bigSep ((p.Rd m).duties (p.cell ck) 0 \ ∅) fun d => (p.Rd m).payload (p.cell ck) 0 d) = p.pay m ck := by
  rw [Finset.sdiff_empty, p.duties_eq, bigSep_singleton, p.payload_eq]

/-! ### The programs -/

/-- Device `c` starts the copies of a list. -/
def Plan.startsProg (c : Dev nD) : List (p.J ⊕ p.I) → Prog (TpuEff nD τ sig Val Λ .tc) PUnit → Prog (TpuEff nD τ sig Val Λ .tc) PUnit
  | [], k => k
  | .inl j :: l, k =>
    .op (.enqueueDma (p.lsrc j c) (.here (p.ldst j c)) (.dma (p.sem (.inr (.inr j)))) (p.lsrc_exact j c) (p.ldst_exact j c) ⟨Or.inl rfl, trivial⟩)
      fun _ => Plan.startsProg c l k
  | .inr i :: l, k =>
    .op (.enqueueDma (p.src i c) (.remote (Dev.tc (p.peer i c)) (p.dst i c) (.dma (p.sem (.inl i))) (p.scratch i c)) (.dma (p.sem (.inr (.inl i))))
        (p.src_exact i c) (p.dst_exact i c) ⟨⟨rfl, Or.inl rfl⟩, trivial⟩)
      fun _ => Plan.startsProg c l k

/-- Device `c` waits on the semaphores of a list. -/
def Plan.waitsProg (c : Dev nD) : List p.Key → Prog (TpuEff nD τ sig Val Λ .tc) PUnit
  | [] => .ret ⟨⟩
  | .inl i :: l => .op (.waitDma2 (p.sem (.inl i)) (p.dst i c) (p.src i c) (p.dst_exact i c) (p.src_exact i c)) fun _ => Plan.waitsProg c l
  | .inr (.inl i) :: l => .op (.waitDma2 (p.sem (.inr (.inl i))) (p.src i c) (p.dst i c) (p.src_exact i c) (p.dst_exact i c)) fun _ => Plan.waitsProg c l
  | .inr (.inr j) :: l => .op (.waitDma2 (p.sem (.inr (.inr j))) (p.lsrc j c) (p.ldst j c) (p.lsrc_exact j c) (p.ldst_exact j c)) fun _ => Plan.waitsProg c l

/-- The whole exchange of device `c`. -/
def Plan.prog (c : Dev nD) : Prog (TpuEff nD τ sig Val Λ .tc) PUnit := p.startsProg c p.starts (p.waitsProg c p.waits)

/-- What device `c` owes its peers' semaphores from the copies of a list. -/
def Plan.owe (c : Dev nD) : List (p.J ⊕ p.I) → CellTallies nD τ sig Unit
  | [] => 0
  | .inl _ :: l => Plan.owe c l
  | .inr i :: l => Plan.owe c l + tallyAt (p.cell (p.peer i c, .inr (.inl i))) () (p.amt (.inr (.inl i)))

/-! ### The body -/

/-- Every semaphore's invariant, and that every one is at its first round. -/
def Plan.records (κ : Dev nD × p.Key → ℕ) : sProp 𝕄 :=
  iprop((bigSep Finset.univ fun ck : Dev nD × p.Key => cellInv ER (p.Rd m) (κ ck) (p.cell ck))
    ∗ bigSep Finset.univ fun ck : Dev nD × p.Key => reached (ER (Val := Val)) (p.cell ck) 0)

instance (κ : Dev nD × p.Key → ℕ) : BI.Persistent (p.records m κ) := by unfold Plan.records; infer_instance

/-- What a copy is started with. -/
def Plan.need (c : Dev nD) : p.J ⊕ p.I → sProp 𝕄
  | .inl j => iprop(p.lsrcPts m j c ∗ p.ldstAny j c ∗ dutyTok (ER (Val := Val)) (p.cell (c, .inr (.inr j))) 0 ())
  | .inr i => iprop(p.srcPts m i c ∗ p.dstAny i c (p.peer i c) ∗ dutyTok (ER (Val := Val)) (p.cell (c, .inl i)) 0 ()
      ∗ dutyTok (ER (Val := Val)) (p.cell (p.peer i c, .inr (.inl i))) 0 ())

/-- What starting it gives: the right to wait on the semaphore that this device's own copy counts. -/
def Plan.got (c : Dev nD) : p.J ⊕ p.I → sProp 𝕄
  | .inl j => cred (tallyAt (p.cell (c, .inr (.inr j))) () (p.amt (.inr (.inr j))))
  | .inr i => cred (tallyAt (p.cell (c, .inl i)) () (p.amt (.inl i)))

variable {p m}

theorem Plan.records_inv {κ : Dev nD × p.Key → ℕ} (ck : Dev nD × p.Key) :
    p.records m κ ⊢ cellInv ER (p.Rd m) (κ ck) (p.cell ck) :=
  sep_elim_left.trans (bigSep_elim (Finset.mem_univ ck))

theorem Plan.records_reached {κ : Dev nD × p.Key → ℕ} (ck : Dev nD × p.Key) :
    p.records m κ ⊢ reached (ER (Val := Val)) (p.cell ck) 0 :=
  sep_elim_right.trans (bigSep_elim (Finset.mem_univ ck))

end PlanOf

section Sound
variable {p : Plan nD τ sig} {m : (ℓ : Loc nD τ sig) → Buf Val ℓ} {defs : Defs nD τ sig Val Λ} (𝒱 : Variants)
variable {κ : Dev nD × p.Key → ℕ}

/-- A local copy of device `c`. -/
theorem wp_local (c : Dev nD) (bd : Option 𝒱.V) (j : p.J) (k : PUnit → Prog (TpuEff nD τ sig Val Λ .tc) PUnit) (Q : PUnit → sProp 𝕄) :
    iprop(p.records m κ ∗ p.need m c (.inl j) ∗ (p.got c (.inl j) -∗ wp frame (wpE defs 𝒱 (c : Thread nD τ) bd) Set.univ (k ⟨⟩) Q))
      ⊢ wp frame (wpE defs 𝒱 (c : Thread nD τ) bd) Set.univ
          (.op (.enqueueDma (p.lsrc j c) (.here (p.ldst j c)) (.dma (p.sem (.inr (.inr j)))) (p.lsrc_exact j c) (p.ldst_exact j c) ⟨Or.inl rfl, trivial⟩) k) Q := by
  unfold Plan.need Plan.got Plan.lsrcPts Plan.ldstAny
  iintro ⟨#HR, ⟨Hs, ⟨%fd, Hd⟩, Ht⟩, Hk⟩
  ihave #HI := (Plan.records_inv (c, .inr (.inr j))) $$ HR
  ihave #Hr := (Plan.records_reached (c, .inr (.inr j))) $$ HR
  iapply (Rounds.wp_copy_pointsTo 𝒱 ER (p.Rd m) (c : Thread nD τ) bd (κ := κ (c, .inr (.inr j))) (src := p.lsrc j c) (dst := p.ldst j c)
      (sem := .dma (p.sem (.inr (.inr j)))) (r := 0) (d := ()) (fd := fd)
      (p.duties_mem m (c, .inr (.inr j))) () (p.amt (.inr (.inr j))) (p.ldst_amt j c) (p.amount_eq m (c, .inr (.inr j)) ())
      (by
        show _ ⊢ (p.Rd m).payload (p.cell (c, .inr (.inr j))) 0 ()
        rw [p.payload_eq]
        unfold Plan.pay Plan.ldstAt Plan.lsrcPts
        iintro ⟨Hd, Hs⟩
        isplitl [Hd]
        · iexists ((p.ldst j c).view.write Val fd ((p.lsrc j c).view.read Val (m ((p.lsrc j c).view.loc (c : Thread nD τ)))) Finset.univ); isplitr
          · ipureintro; exact View.read_write_univ _ _
          · iexact Hd
        iexact Hs)) $$ [Hs Hd Ht]
  · isplitr; · iexact HI
    isplitl [Hs]; · iexact Hs
    isplitl [Hd]; · iexact Hd
    isplitl [Ht]; · iexact Ht
    iexact Hr
  iexact Hk

/-- A remote copy of device `c`. -/
theorem wp_remote (c : Dev nD) (bd : Option 𝒱.V) (i : p.I) (O : CellTallies nD τ sig Unit) (W : Waits sig Unit)
    (k : PUnit → Prog (TpuEff nD τ sig Val Λ .tc) PUnit) (Q : PUnit → sProp 𝕄) :
    iprop(p.records m κ ∗ p.need m c (.inr i) ∗ owes (c : Thread nD τ) (O + tallyAt (p.cell (p.peer i c, .inr (.inl i))) () (p.amt (.inr (.inl i)))) W
        ∗ ((p.got c (.inr i) ∗ owes (c : Thread nD τ) O W) -∗ wp frame (wpE defs 𝒱 (c : Thread nD τ) bd) Set.univ (k ⟨⟩) Q))
      ⊢ wp frame (wpE defs 𝒱 (c : Thread nD τ) bd) Set.univ
          (.op (.enqueueDma (p.src i c) (.remote (Dev.tc (p.peer i c)) (p.dst i c) (.dma (p.sem (.inl i))) (p.scratch i c)) (.dma (p.sem (.inr (.inl i))))
        (p.src_exact i c) (p.dst_exact i c) ⟨⟨rfl, Or.inl rfl⟩, trivial⟩) k) Q := by
  unfold Plan.need Plan.got Plan.srcPts Plan.dstAny
  iintro ⟨#HR, ⟨Hs, ⟨%fd, Hd⟩, Ht, Ht'⟩, HO, Hk⟩
  ihave #HI := (Plan.records_inv (c, .inl i)) $$ HR
  ihave #Hr := (Plan.records_reached (c, .inl i)) $$ HR
  ihave #HI' := (Plan.records_inv (p.peer i c, .inr (.inl i))) $$ HR
  ihave #Hr' := (Plan.records_reached (p.peer i c, .inr (.inl i))) $$ HR
  have hamt : p.amt (.inl i) = p.amt (.inr (.inl i)) := (p.dst_send i c).symm.trans (p.dst_amt i c)
  iapply (Rounds.wp_send_pointsTo 𝒱 ER (p.Rd m) (c : Thread nD τ) bd (c' := (p.peer i c : Thread nD τ)) (κ₁ := κ (c, .inl i)) (κ₂ := κ (p.peer i c, .inr (.inl i)))
      (src := p.src i c) (dst := p.dst i c) (sS := .dma (p.sem (.inl i))) (sem := .dma (p.sem (.inr (.inl i))))
      (r₁ := 0) (r₂ := 0) (d₁ := ()) (d₂ := ()) (fd := fd)
      (p.duties_mem m (c, .inl i)) (p.duties_mem m (p.peer i c, .inr (.inl i))) () () (p.amt (.inl i)) (p.dst_send i c) (p.amount_eq m (c, .inl i) ())
      ((p.amount_eq m (p.peer i c, .inr (.inl i)) ()).trans hamt.symm) O (by rw [hamt]) (W := W)
      (by
        show _ ⊢ (p.Rd m).payload (p.cell (c, .inl i)) 0 ()
        rw [p.payload_eq]
        exact BI.Entails.refl _)
      (by
        show _ ⊢ (p.Rd m).payload (p.cell (p.peer i c, .inr (.inl i))) 0 ()
        rw [p.payload_eq]
        show _ ⊢ p.dstAt m i (p.peer i (p.peer i c)) (p.peer i c)
        rw [p.peer_peer]
        unfold Plan.dstAt
        iintro Hd
        iexists ((p.dst i c).view.write Val fd ((p.src i c).view.read Val (m ((p.src i c).view.loc (c : Thread nD τ)))) Finset.univ); isplitr
        · ipureintro; exact View.read_write_univ _ _
        · iexact Hd)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- Starting a list of copies. -/
theorem wp_starts (c : Dev nD) (bd : Option 𝒱.V) (k : Prog (TpuEff nD τ sig Val Λ .tc) PUnit) (W : Waits sig Unit) (Q : PUnit → sProp 𝕄) :
    ∀ l : List (p.J ⊕ p.I),
      iprop(p.records m κ ∗ bigSepL l (p.need m c) ∗ owes (c : Thread nD τ) (p.owe c l) W
          ∗ ((bigSepL l (p.got c) ∗ owes (c : Thread nD τ) 0 W) -∗ wp frame (wpE defs 𝒱 (c : Thread nD τ) bd) Set.univ k Q))
        ⊢ wp frame (wpE defs 𝒱 (c : Thread nD τ) bd) Set.univ (p.startsProg c l k) Q
  | [] => by
    unfold Plan.owe Plan.startsProg
    simp only [bigSepL_nil]
    iintro ⟨-, -, HO, Hk⟩
    iapply Hk
    isplitr; · iempintro
    iexact HO
  | .inl j :: l => by
    unfold Plan.owe Plan.startsProg
    rw [bigSepL_cons', bigSepL_cons']
    iintro ⟨#HR, ⟨Hn, Hl⟩, HO, Hk⟩
    iapply (wp_local 𝒱 c bd j _ Q (κ := κ) (m := m))
    isplitr; · iexact HR
    isplitl [Hn]; · iexact Hn
    iintro Hg
    iapply (wp_starts c bd k W Q l)
    isplitr; · iexact HR
    isplitl [Hl]; · iexact Hl
    isplitl [HO]; · iexact HO
    iintro ⟨Hgl, HO⟩
    iapply Hk
    isplitr [HO]
    · isplitl [Hg]; · iexact Hg
      iexact Hgl
    iexact HO
  | .inr i :: l => by
    unfold Plan.owe Plan.startsProg
    rw [bigSepL_cons', bigSepL_cons']
    iintro ⟨#HR, ⟨Hn, Hl⟩, HO, Hk⟩
    iapply (wp_remote 𝒱 c bd i (p.owe c l) W _ Q (κ := κ) (m := m))
    isplitr; · iexact HR
    isplitl [Hn]; · iexact Hn
    isplitl [HO]; · iexact HO
    iintro ⟨Hg, HO⟩
    iapply (wp_starts c bd k W Q l)
    isplitr; · iexact HR
    isplitl [Hl]; · iexact Hl
    isplitl [HO]; · iexact HO
    iintro ⟨Hgl, HO⟩
    iapply Hk
    isplitr [HO]
    · isplitl [Hg]; · iexact Hg
      iexact Hgl
    iexact HO

/-- What a wait is made with. -/
def Plan.due (p : Plan nD τ sig) (c : Dev nD) (k : p.Key) : sProp 𝕄 :=
  iprop(atPos (ER (Val := Val)) (p.cell (c, k)) 0 ∅ 0 ∗ cred (tallyAt (p.cell (c, k)) () (p.amt k)))

/-- What it leaves: the semaphore at zero and what it handed over. -/
def Plan.done (p : Plan nD τ sig) (m : (ℓ : Loc nD τ sig) → Buf Val ℓ) (c : Dev nD) (k : p.Key) : sProp 𝕄 :=
  iprop(p.pay m (c, k) ∗ semVal (p.cell (c, k)) 0)

/-- One wait of device `c`, whichever operands name its semaphore. -/
theorem wp_wait (c : Dev nD) (bd : Option 𝒱.V) (k : p.Key) (w : TpuEff nD τ sig Val Λ (c : Thread nD τ).2 PUnit)
    (hw : ∀ K : PUnit → sProp 𝕄, wpE defs 𝒱 (c : Thread nD τ) bd Set.univ w K = waitSpec (c : Thread nD τ) Set.univ (.dma (p.sem k)) (p.amt k) K)
    (W : Waits sig Unit) (kk : PUnit → Prog (TpuEff nD τ sig Val Λ .tc) PUnit) (Q : PUnit → sProp 𝕄) :
    iprop(p.records m κ ∗ p.due c k ∗ owes (c : Thread nD τ) 0 W
        ∗ ((p.done m c k ∗ ∃ W', owes (c : Thread nD τ) 0 W') -∗ wp frame (wpE defs 𝒱 (c : Thread nD τ) bd) Set.univ (kk ⟨⟩) Q))
      ⊢ wp frame (wpE defs 𝒱 (c : Thread nD τ) bd) Set.univ (.op w kk) Q := by
  unfold Plan.due Plan.done
  iintro ⟨#HR, ⟨Hat, Hc⟩, HO, Hk⟩
  ihave #HI := (Plan.records_inv (c, k)) $$ HR
  iapply (Rounds.wp_wait_rest_token 𝒱 ER (p.Rd m) (c : Thread nD τ) bd (κ := κ (c, k)) (sm := .dma (p.sem k)) (k' := p.amt k)
      hw (Set.mem_univ _) () (O := 0) (W := W) (R := 0) (m := 0) (T := ∅)
      (by rw [Nat.zero_add]; exact (p.expect_eq m (c, k)).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  have hrest : (bigSep ((p.Rd m).duties ((c : Thread nD τ), .dma (p.sem k)) 0 \ ∅) fun d => (p.Rd m).payload ((c : Thread nD τ), .dma (p.sem k)) 0 d)
      ⊢ p.pay m (c, k) := Entails.of_eq (p.rest_eq m (c, k))
  ihave Hp := hrest $$ Hpay
  imod (Rounds.cell_close ER (p.Rd m) (Set.mem_univ (κ (c, k))) (fun h => h) (R := 0 + 1) (p.duties_later m (p.cell (c, k)))) $$ [Hat] with Hz
  · isplitr; · iexact HI
    iexact Hat
  iapply Hk
  isplitl [Hp Hz]
  · isplitl [Hp]; · iexact Hp
    iexact Hz
  iexists _; iexact HO

/-- Waiting on a list of semaphores. -/
theorem wp_waits (c : Dev nD) (bd : Option 𝒱.V) (Q : PUnit → sProp 𝕄) :
    ∀ (l : List p.Key) (W : Waits sig Unit),
      iprop(p.records m κ ∗ bigSepL l (p.due c) ∗ owes (c : Thread nD τ) 0 W
          ∗ ((bigSepL l (p.done m c) ∗ ∃ W', owes (c : Thread nD τ) 0 W') -∗ Q ⟨⟩))
        ⊢ wp frame (wpE defs 𝒱 (c : Thread nD τ) bd) Set.univ (p.waitsProg c l) Q
  | [], W => by
    unfold Plan.waitsProg
    simp only [bigSepL_nil]
    rw [wp_ret]
    iintro ⟨-, -, HO, Hk⟩
    imodintro
    iapply Hk
    isplitr; · iempintro
    iexists _; iexact HO
  | k :: l, W => by
    have hstep : ∀ (w : TpuEff nD τ sig Val Λ (c : Thread nD τ).2 PUnit)
        (hw : ∀ K : PUnit → sProp 𝕄, wpE defs 𝒱 (c : Thread nD τ) bd Set.univ w K = waitSpec (c : Thread nD τ) Set.univ (.dma (p.sem k)) (p.amt k) K),
        iprop(p.records m κ ∗ bigSepL (k :: l) (p.due c) ∗ owes (c : Thread nD τ) 0 W
          ∗ ((bigSepL (k :: l) (p.done m c) ∗ ∃ W', owes (c : Thread nD τ) 0 W') -∗ Q ⟨⟩))
        ⊢ wp frame (wpE defs 𝒱 (c : Thread nD τ) bd) Set.univ (.op w fun _ => p.waitsProg c l) Q := by
      intro w hw
      rw [bigSepL_cons', bigSepL_cons']
      iintro ⟨#HR, ⟨Hn, Hl⟩, HO, Hk⟩
      iapply (wp_wait 𝒱 c bd k w hw W _ Q (κ := κ) (m := m))
      isplitr; · iexact HR
      isplitl [Hn]; · iexact Hn
      isplitl [HO]; · iexact HO
      iintro ⟨Hg, ⟨%W', HO⟩⟩
      iapply (wp_waits c bd Q l W')
      isplitr; · iexact HR
      isplitl [Hl]; · iexact Hl
      isplitl [HO]; · iexact HO
      iintro ⟨Hgl, HO⟩
      iapply Hk
      isplitr [HO]
      · isplitl [Hg]; · iexact Hg
        iexact Hgl
      iexact HO
    rcases k with i | i | j
    · unfold Plan.waitsProg
      exact hstep _ fun K => (wpE_waitDma2_eq 𝒱 (c : Thread nD τ) bd Set.univ K).trans (by rw [p.src_amt])
    · unfold Plan.waitsProg
      exact hstep _ fun K => (wpE_waitDma2_eq 𝒱 (c : Thread nD τ) bd Set.univ K).trans (by rw [p.dst_amt])
    · unfold Plan.waitsProg
      exact hstep _ fun K => (wpE_waitDma2_eq 𝒱 (c : Thread nD τ) bd Set.univ K).trans (by rw [p.ldst_amt])

end Sound

end Idealize.ShloMosaic.Exch
-- ==== Proof.ExchDeal.lean ====
/-
The ghost state of an exchange: how every device comes by what its copies need before any device starts, and what the
whole exchange of one device leaves.
-/
module

public import proofs.«01_k».proof.Proof.Exch

@[expose] public section

noncomputable section

namespace Idealize.ShloMosaic.Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {nD : Nat} {τ : Topo} {sig : RefSig} {Val : EltTy → Type} {Λ : Labels}
local notation "𝕄" => MT nD τ sig Unit Val ℕ (UU nD τ sig) ℕ

/-- A persistent resource goes to every part. -/
theorem everywhere {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Two families of parts in either order. -/
theorem swap_order {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun x : A × B => Φ x.1 x.2, ← bigSep_univ_prod fun x : B × A => Φ x.2 x.1,
    BI.bigSep_univ_equiv (Equiv.prodComm B A) fun x : A × B => Φ x.1 x.2]
  rfl

section
variable (p : Plan nD τ sig) (m : (ℓ : Loc nD τ sig) → Buf Val ℓ)

/-! ### One device's whole exchange -/

/-- What a device's exchange needs besides the records. -/
def Plan.linear (c : Dev nD) : sProp 𝕄 :=
  iprop((bigSep Finset.univ fun x : p.J ⊕ p.I => p.need m c x)
    ∗ (bigSep Finset.univ fun k : p.Key => atPos (ER (Val := Val)) (p.cell (c, k)) 0 ∅ 0)
    ∗ bigSep Finset.univ fun i : p.I => cred (tallyAt (p.cell (c, .inr (.inl i))) () (p.amt (.inr (.inl i)))))

variable {p m}

theorem over_starts (Φ : p.J ⊕ p.I → sProp 𝕄) : bigSep Finset.univ Φ = bigSepL p.starts Φ :=
  bigSep_univ_eq_bigSepL p.starts (Finset.ext fun x => ⟨fun _ => List.mem_toFinset.mpr (p.starts_all x), fun _ => Finset.mem_univ _⟩) p.starts_nodup Φ

theorem over_waits (Φ : p.Key → sProp 𝕄) : bigSep Finset.univ Φ = bigSepL p.waits Φ :=
  bigSep_univ_eq_bigSepL p.waits (Finset.ext fun x => ⟨fun _ => List.mem_toFinset.mpr (p.waits_all x), fun _ => Finset.mem_univ _⟩) p.waits_nodup Φ

/-- The rights to wait: those the starts gave and those dealt at launch. -/
theorem dues (c : Dev nD) :
    iprop((bigSep Finset.univ fun k : p.Key => (atPos (ER (Val := Val)) (p.cell (c, k)) 0 ∅ 0 : sProp 𝕄))
      ∗ (bigSep Finset.univ fun i : p.I => cred (tallyAt (p.cell (c, .inr (.inl i))) () (p.amt (.inr (.inl i)))))
      ∗ bigSep Finset.univ (p.got c))
    ⊢ bigSep Finset.univ (p.due (Val := Val) c) := by
  have h : bigSep Finset.univ (p.due (Val := Val) c) = iprop((bigSep Finset.univ fun k : p.Key => (atPos (ER (Val := Val)) (p.cell (c, k)) 0 ∅ 0 : sProp 𝕄))
      ∗ bigSep Finset.univ fun k : p.Key => (cred (tallyAt (p.cell (c, k)) () (p.amt k)) : sProp 𝕄)) := by
    rw [← bigSep_sep']; rfl
  rw [h, BI.bigSep_univ_sum (p.got c), BI.bigSep_univ_sum fun k : p.Key => (cred (tallyAt (p.cell (c, k)) () (p.amt k)) : sProp 𝕄),
    BI.bigSep_univ_sum fun k : p.I ⊕ p.J => (cred (tallyAt (p.cell (c, .inr k)) () (p.amt (.inr k))) : sProp 𝕄)]
  show iprop(_ ∗ (bigSep Finset.univ fun i : p.I => (cred (tallyAt (p.cell (c, .inr (.inl i))) () (p.amt (.inr (.inl i)))) : sProp 𝕄))
    ∗ (bigSep Finset.univ fun j : p.J => (cred (tallyAt (p.cell (c, .inr (.inr j))) () (p.amt (.inr (.inr j)))) : sProp 𝕄))
    ∗ (bigSep Finset.univ fun i : p.I => (cred (tallyAt (p.cell (c, .inl i)) () (p.amt (.inl i))) : sProp 𝕄))) ⊢ iprop(_ ∗ _ ∗ _ ∗ _)
  iintro ⟨Ha, Hr, Hl, Hs⟩
  isplitl [Ha]; · iexact Ha
  isplitl [Hs]; · iexact Hs
  isplitl [Hr]; · iexact Hr
  iexact Hl

/-- The whole exchange of device `c`. -/
theorem wp_prog {defs : Defs nD τ sig Val Λ} (𝒱 : Variants) {κ : Dev nD × p.Key → ℕ} (c : Dev nD) (bd : Option 𝒱.V) (W : Waits sig Unit)
    (Q : PUnit → sProp 𝕄) :
    iprop(p.records m κ ∗ p.linear m c ∗ owes (c : Thread nD τ) (p.owe c p.starts) W
        ∗ ((bigSep Finset.univ (p.done m c) ∗ ∃ W', owes (c : Thread nD τ) 0 W') -∗ Q ⟨⟩))
      ⊢ wp frame (wpE defs 𝒱 (c : Thread nD τ) bd) Set.univ (p.prog c) Q := by
  unfold Plan.prog Plan.linear
  rw [over_starts (p.need m c)]
  iintro ⟨#HR, ⟨Hn, Ha, Hr⟩, HO, Hk⟩
  iapply (wp_starts 𝒱 c bd (p.waitsProg c p.waits) W Q p.starts (κ := κ) (m := m))
  isplitr; · iexact HR
  isplitl [Hn]; · iexact Hn
  isplitl [HO]; · iexact HO
  iintro ⟨Hg, HO⟩
  ihave Hg' := (Entails.of_eq (over_starts (p.got c)).symm) $$ Hg
  ihave Hd := (dues c) $$ [Ha Hr Hg']
  · isplitl [Ha]; · iexact Ha
    isplitl [Hr]; · iexact Hr
    iexact Hg'
  ihave Hd' := (Entails.of_eq (over_waits (p.due c))) $$ Hd
  iapply (wp_waits 𝒱 c bd Q p.waits W (κ := κ) (m := m))
  isplitr; · iexact HR
  isplitl [Hd']; · iexact Hd'
  isplitl [HO]; · iexact HO
  iintro ⟨Hdone, HO⟩
  ihave Hdone' := (Entails.of_eq (over_waits (p.done m c)).symm) $$ Hdone
  iapply Hk
  isplitl [Hdone']; · iexact Hdone'
  iexact HO

variable (p m)

/-! ### The ghost state's allocation -/

/-- The semaphores of all devices. -/
def Plan.cells : Finset (GSem nD τ sig) := Finset.univ.map ⟨p.cell, p.cell_inj⟩
/-- Their tokens. -/
def Plan.toks : Finset (GSem nD τ sig × ℕ × Unit) :=
  Finset.univ.map ⟨fun ck : Dev nD × p.Key => (p.cell ck, 0, ()), fun _ _ h => p.cell_inj (congrArg Prod.fst h)⟩

/-- The ghost state a device's semaphores start with. -/
def Plan.G (c : Dev nD) : sProp 𝕄 :=
  iprop((bigSep Finset.univ fun k : p.Key => roundState ER (p.Rd m) (p.cell (c, k)) 0)
    ∗ (bigSep Finset.univ fun k : p.Key => reached (ER (Val := Val)) (p.cell (c, k)) 0)
    ∗ (bigSep Finset.univ fun k : p.Key => atPos (ER (Val := Val)) (p.cell (c, k)) 0 ∅ 0)
    ∗ bigSep Finset.univ fun k : p.Key => dutyTok (ER (Val := Val)) (p.cell (c, k)) 0 ())

theorem fund : BI.own (ER (Val := Val) (initOf p.cells p.toks)) ⊢ (|==> bigSep Finset.univ (p.G m) : sProp 𝕄) := by
  have hX (Φ : GSem nD τ sig → sProp 𝕄) : bigSep p.cells Φ = bigSep Finset.univ fun c : Dev nD => bigSep Finset.univ fun k : p.Key => Φ (p.cell (c, k)) := by
    unfold Plan.cells; rw [bigSep_map, bigSep_univ_prod]; rfl
  have hT : bigSep p.toks (fun x => (dutyTok (ER (Val := Val)) x.1 x.2.1 x.2.2 : sProp 𝕄))
      = bigSep Finset.univ fun c : Dev nD => bigSep Finset.univ fun k : p.Key => dutyTok (ER (Val := Val)) (p.cell (c, k)) 0 () := by
    unfold Plan.toks; rw [bigSep_map, bigSep_univ_prod]; rfl
  iintro HX
  imod (Rounds.fund ER (p.Rd m) p.cells p.toks) $$ HX with ⟨Hst, Hr, Hat, Htok⟩
  imodintro
  ihave Hst' := (Entails.of_eq (hX fun g => roundState ER (p.Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Plan.G; simp only [bigSep_sep']
  isplitl [Hst']; · iexact Hst'
  isplitl [Hr']; · iexact Hr'
  isplitl [Hat']; · iexact Hat'
  iexact Htok'

/-- A device's semaphores at zero become the exchange's. -/
theorem alloc [Infinite ℕ] (c : Dev nD) :
    iprop((bigSep Finset.univ fun k : p.Key => semVal (p.cell (c, k)) 0) ∗ p.G m c)
      ⊢ |={Set.univ}=> iprop((bigSep Finset.univ fun k : p.Key => iprop(∃ κ : ℕ, cellInv ER (p.Rd m) κ (p.cell (c, k))))
          ∗ (bigSep Finset.univ fun k : p.Key => reached (ER (Val := Val)) (p.cell (c, k)) 0)
          ∗ (bigSep Finset.univ fun k : p.Key => atPos (ER (Val := Val)) (p.cell (c, k)) 0 ∅ 0)
          ∗ bigSep Finset.univ fun k : p.Key => dutyTok (ER (Val := Val)) (p.cell (c, k)) 0 ()) := by
  unfold Plan.G
  iintro ⟨Hv, Hst, Hrest⟩
  imod (show iprop((bigSep Finset.univ fun k : p.Key => semVal (p.cell (c, k)) 0) ∗ bigSep Finset.univ fun k : p.Key => roundState ER (p.Rd m) (p.cell (c, k)) 0)
      ⊢ (|={Set.univ}=> bigSep Finset.univ fun k => iprop(∃ κ : ℕ, cellInv ER (p.Rd m) κ (p.cell (c, k))) : sProp 𝕄) from by
        rw [← bigSep_sep']
        exact (bigSep_mono fun k _ => (Rounds.body_intro ER (p.Rd m) (p.cell (c, k))).trans inv_alloc).trans (bigSep_fupd _ _)) $$ [Hv Hst] with Hinv
  · isplitl [Hv] <;> iassumption
  imodintro
  isplitl [Hinv]; · iexact Hinv
  iexact Hrest

/-! ### The launch credit -/

open Classical in
/-- What the copies of a list owe a receive semaphore. -/
theorem owe_recv (i₀ : p.I) (c d : Dev nD) : ∀ l : List (p.J ⊕ p.I), l.Nodup →
    p.owe d l (p.cell (c, .inr (.inl i₀))) () = if (Sum.inr i₀ : p.J ⊕ p.I) ∈ l ∧ d = p.peer i₀ c then p.amt (.inr (.inl i₀)) else 0
  | [], _ => (if_neg (fun h => absurd h.1 List.not_mem_nil)).symm
  | .inl j :: l, h => by
    show p.owe d l _ () = _
    rw [owe_recv i₀ c d l (List.nodup_cons.mp h).2]
    exact if_congr (by rw [List.mem_cons]; exact ⟨fun h => ⟨.inr h.1, h.2⟩, fun h => ⟨h.1.resolve_left Sum.inr_ne_inl, h.2⟩⟩) rfl rfl
  | .inr i :: l, h => by
    show (p.owe d l + tallyAt (p.cell (p.peer i d, .inr (.inl i))) () (p.amt (.inr (.inl i)))) _ () = _
    have hn := (List.nodup_cons.mp h).1
    rw [Pi.add_apply, Finsupp.add_apply, owe_recv i₀ c d l (List.nodup_cons.mp h).2, tallyAt_apply]
    by_cases hi : i = i₀
    · subst hi
      rw [if_neg (c := (Sum.inr i : p.J ⊕ p.I) ∈ l ∧ _) (fun h => hn h.1), Nat.zero_add]
      refine if_congr ⟨fun h => ⟨List.mem_cons_self, ?_⟩, fun h => ⟨?_, rfl⟩⟩ rfl rfl
      · have e := congrArg Prod.fst (p.cell_inj h.1)
        rw [show c = p.peer i d from e, p.peer_peer]
      · rw [h.2, p.peer_peer]
    · have ht : ¬(p.cell (c, .inr (.inl i₀)) = p.cell (p.peer i d, .inr (.inl i)) ∧ () = ()) := fun h =>
        hi (Sum.inl.inj (Sum.inr.inj (congrArg Prod.snd (p.cell_inj h.1)))).symm
      rw [if_neg ht, Nat.add_zero]
      exact if_congr (by rw [List.mem_cons]; exact ⟨fun h => ⟨.inr h.1, h.2⟩, fun h => ⟨h.1.resolve_left fun e => hi (Sum.inr.inj e).symm, h.2⟩⟩) rfl rfl

open Classical in
theorem launch_recv (i : p.I) (c : Dev nD) :
    tallyOn (p.cell (c, .inr (.inl i))) (launchCredit (Pipeline.owing fun d => p.owe d p.starts) 0 (p.cell (c, .inr (.inl i))))
      = (tallyAt (p.cell (c, .inr (.inl i))) () (p.amt (.inr (.inl i))) : CellTallies nD τ sig Unit) := by
  unfold tallyAt; refine congrArg _ (Finsupp.ext fun u => ?_); cases u
  rw [Pipeline.launchCredit_owing, Finsupp.single_eq_same, Finset.sum_congr rfl fun d _ => (owe_recv p i c d p.starts p.starts_nodup).trans
    (if_congr (Q := d = p.peer i c) ⟨fun h => h.2, fun h => ⟨p.starts_all _, h⟩⟩ rfl rfl),
    Finset.sum_ite_eq' Finset.univ (p.peer i c) fun _ => p.amt (.inr (.inl i)), if_pos (Finset.mem_univ _)]

/-- The launch credit holds the right to wait for every copy that arrives. -/
theorem creds (c : Dev nD) : (Pipeline.launchCred (fun d => p.owe d p.starts) c : sProp 𝕄)
    ⊢ bigSep Finset.univ fun i : p.I => cred (tallyAt (p.cell (c, .inr (.inl i))) () (p.amt (.inr (.inl i)))) := by
  have hinj : Function.Injective fun i : p.I => (SemLoc.dma (p.sem (.inr (.inl i))) : SemLoc sig) :=
    fun i j h => Sum.inl.inj (Sum.inr.inj (p.sem_inj (SemLoc.dma.inj h)))
  unfold Pipeline.launchCred
  refine (BI.bigSep_subset (Finset.subset_univ (Finset.univ.map ⟨_, hinj⟩))).trans ?_
  rw [bigSep_map]
  exact bigSep_mono fun i _ => Entails.of_eq (congrArg cred (launch_recv p i c))

/-! ### The deal -/

/-- What a device brings to the deal: its sources, what its peers write, the two ends of its local copies. -/
def Plan.brings (c : Dev nD) : sProp 𝕄 :=
  iprop((bigSep Finset.univ fun i : p.I => p.srcPts m i c) ∗ (bigSep Finset.univ fun i : p.I => p.dstAny i (p.peer i c) c)
    ∗ (bigSep Finset.univ fun j : p.J => p.lsrcPts m j c) ∗ bigSep Finset.univ fun j : p.J => p.ldstAny j c)

/-- A deal between peers: what is held for the peer's copy by every device is held by every device for its own. -/
theorem deal_peers (i : p.I) (Φ : Dev nD → Dev nD → sProp 𝕄) :
    (bigSep Finset.univ fun c : Dev nD => Φ (p.peer i c) c) = bigSep Finset.univ fun c : Dev nD => Φ c (p.peer i c) := by
  rw [BI.bigSep_univ_equiv (⟨p.peer i, p.peer i, p.peer_peer i, p.peer_peer i⟩ : Dev nD ≃ Dev nD) (fun c => Φ (p.peer i c) c)]
  exact bigSep_congr fun c _ => by show Φ (p.peer i (p.peer i c)) (p.peer i c) = _; rw [p.peer_peer]

theorem deal_all (Φ : p.I → Dev nD → Dev nD → sProp 𝕄) :
    (bigSep Finset.univ fun c : Dev nD => bigSep Finset.univ fun i : p.I => Φ i (p.peer i c) c)
      = bigSep Finset.univ fun c : Dev nD => bigSep Finset.univ fun i : p.I => Φ i c (p.peer i c) := by
  rw [swap_order, swap_order fun c i => Φ i c (p.peer i c)]
  exact bigSep_congr fun i _ => deal_peers p i (Φ i)

/-- A device's part of the deal: what its own copies need and the rights to wait for its peers'. -/
theorem linear_intro :
    iprop((bigSep Finset.univ fun c : Dev nD => p.brings m c)
      ∗ (bigSep Finset.univ fun c : Dev nD => bigSep Finset.univ fun k : p.Key => atPos (ER (Val := Val)) (p.cell (c, k)) 0 ∅ 0)
      ∗ (bigSep Finset.univ fun c : Dev nD => bigSep Finset.univ fun k : p.Key => dutyTok (ER (Val := Val)) (p.cell (c, k)) 0 ())
      ∗ (bigSep Finset.univ fun c : Dev nD => Pipeline.launchCred (fun d => p.owe d p.starts) c))
    ⊢ (bigSep Finset.univ fun c : Dev nD => p.linear m c : sProp 𝕄) := by
  have htok : (bigSep Finset.univ fun c : Dev nD => bigSep Finset.univ fun k : p.Key => (dutyTok (ER (Val := Val)) (p.cell (c, k)) 0 () : sProp 𝕄))
      = iprop((bigSep Finset.univ fun c : Dev nD => bigSep Finset.univ fun i : p.I => dutyTok (ER (Val := Val)) (p.cell (c, .inl i)) 0 ())
        ∗ (bigSep Finset.univ fun c : Dev nD => bigSep Finset.univ fun i : p.I => dutyTok (ER (Val := Val)) (p.cell (p.peer i c, .inr (.inl i))) 0 ())
        ∗ bigSep Finset.univ fun c : Dev nD => bigSep Finset.univ fun j : p.J => dutyTok (ER (Val := Val)) (p.cell (c, .inr (.inr j))) 0 ()) := by
    rw [← deal_all p fun i _ d => (dutyTok (ER (Val := Val)) (p.cell (d, .inr (.inl i))) 0 () : sProp 𝕄), ← bigSep_sep', ← bigSep_sep']
    exact bigSep_congr fun c _ => by rw [BI.bigSep_univ_sum, BI.bigSep_univ_sum]; rfl
  have hdst := deal_all p fun i c d => (p.dstAny (Val := Val) i c d)
  have hneed : ∀ c, (bigSep Finset.univ fun x : p.J ⊕ p.I => p.need m c x)
      = iprop(((bigSep Finset.univ fun j : p.J => p.lsrcPts m j c) ∗ (bigSep Finset.univ fun j : p.J => p.ldstAny j c)
          ∗ bigSep Finset.univ fun j : p.J => dutyTok (ER (Val := Val)) (p.cell (c, .inr (.inr j))) 0 ())
        ∗ ((bigSep Finset.univ fun i : p.I => p.srcPts m i c) ∗ (bigSep Finset.univ fun i : p.I => p.dstAny i c (p.peer i c))
          ∗ (bigSep Finset.univ fun i : p.I => dutyTok (ER (Val := Val)) (p.cell (c, .inl i)) 0 ())
          ∗ bigSep Finset.univ fun i : p.I => dutyTok (ER (Val := Val)) (p.cell (p.peer i c, .inr (.inl i))) 0 ())) := by
    intro c
    rw [BI.bigSep_univ_sum]
    unfold Plan.need
    rw [bigSep_sep', bigSep_sep', bigSep_sep', bigSep_sep', bigSep_sep']
    rfl
  rw [htok]
  unfold Plan.brings Plan.linear
  simp only [hneed, bigSep_sep']
  rw [hdst]
  iintro ⟨⟨Hs, Hd, Hls, Hld⟩, Ha, ⟨Ht, Ht', Htl⟩, Hc0⟩
  have hc : (bigSep Finset.univ fun c : Dev nD => Pipeline.launchCred (fun d => p.owe d p.starts) c : sProp 𝕄)
      ⊢ bigSep Finset.univ fun c : Dev nD => bigSep Finset.univ fun i : p.I => cred (tallyAt (p.cell (c, .inr (.inl i))) () (p.amt (.inr (.inl i)))) :=
    bigSep_mono fun c _ => creds p c
  ihave Hc := hc $$ Hc0
  isplitr [Ha Hc]
  · isplitl [Hls Hld Htl]
    · isplitl [Hls]; · iexact Hls
      isplitl [Hld]; · iexact Hld
      iexact Htl
    isplitl [Hs]; · iexact Hs
    isplitl [Hd]; · iexact Hd
    isplitl [Ht]; · iexact Ht
    iexact Ht'
  isplitl [Ha]; · iexact Ha
  iexact Hc

end

end Idealize.ShloMosaic.Exch
-- ==== Proof.FirstTalk.lean ====
/-
A launch whose first operation is a kernel that talks to its peers, and whose set-up is done for all cores at once.

The library's launch for a program that begins with a kernel region lets the cores share, before any of them starts,
the kernel's own semaphores and ghost state; the buffers of @main it deals to each core for itself. Here a core writes
into a RESULT of its peers that no semaphore has handed to it, so the pieces of the result buffers must be dealt to
the cores that write them before any core starts: `hdeal` below is handed every core's buffers as well.
-/
module

public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Idealize.ShloMosaic.FirstTalk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- Every core's level pieces make the level facts of an assignment that speaks of TensorCores' cells alone. -/
theorem levels_dealt (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hother : ∀ (d : Dev nD) (p : Proc τ), p ∈ Finset.univ.erase Proc.tc → (coreLevAts ((d, p) : Thread nD τ) L lv : sProp 𝕄) = BI.emp := by
    intro d p hp
    unfold coreLevAts
    refine (bigSep_congr (Ψ := fun _ : SemLoc sig => (BI.emp : sProp 𝕄)) fun sm _ => ?_).trans (BI.bigSep_emp_const _)
    rw [hL (((d, p) : Thread nD τ), sm) (Finset.ne_of_mem_erase hp), BI.bigSep_empty]
  have hall : (levAts L lv : sProp 𝕄) = iprop((bigSep Finset.univ fun d : Dev nD => coreLevAts (d.tc : Thread nD τ) L lv) ∗ BI.emp) := by
    refine (bigSep_univ_prod fun g : GSem nD τ sig => bigSep (L g) fun ι => levAt g ι (lv g ι)).trans ?_
    refine (bigSep_threads (fun c : Thread nD τ => coreLevAts c L lv)).trans ?_
    congr 1
    refine (bigSep_congr (Ψ := fun _ : Dev nD => (BI.emp : sProp 𝕄)) fun d _ => ?_).trans (BI.bigSep_emp_const _)
    exact (bigSep_congr fun p hp => hother d p hp).trans (BI.bigSep_emp_const _)
  refine (bigSep_mono fun c _ => lev_assign_cells (c.tc : Thread nD τ) L lv).trans ((BI.bigSep_bupd _ _).trans (BI.bupd_mono ?_))
  rw [hall, bigSep_sep']
  show iprop((bigSep Finset.univ fun c : Dev nD => bigSep Finset.univ fun sm : SemLoc sig => levels ((c.tc : Thread nD τ), sm) (L ((c.tc : Thread nD τ), sm)))
      ∗ (bigSep Finset.univ fun d : Dev nD => (coreLevAts (d.tc : Thread nD τ) L lv : sProp 𝕄))) ⊢ iprop(_ ∗ _)
  iintro ⟨-, H⟩
  isplitl [H]; · iexact H
  iempintro

variable {Λ₀ : SL.Sem.Labels} {P : Type} [Fintype P] [DecidableEq P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a))) (p : P)
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- What a talking kernel that comes first in @main is proved from: the layout of its windows, its own semaphores, its
    body, and its protocol as entailments around what a core starts from (`pre`) and leaves (`post`). The own
    semaphores at zero are not handed to `hentry`: the deal over all cores has them. -/
structure Talk where
  win : WinFacts₀ (pcs p).spec
  block_pos : ∀ w : Fin (pcs p).W, 0 < ((pcs p).spec w).block.numel
  stage_whole : ∀ (w : Fin (pcs p).W) (s : Fin ((pcs p).spec w).nbuf), (((pcs p).spec w).stage s).IsWhole
  K : Type
  [fK : Fintype K]
  osem : K → SemLoc sig
  ho : OwnSemFacts (pcs p).spec osem
  hbody : ∀ c, BodyObligationLoose (pdats p c) defs₀ 𝒱₀ ι Set.univ
  hwaits : ∀ c, (levAts L lv : sProp 𝕄) ⊢ cellsWaits (pin pcs a) pdats ι p c
  pre : Dev nD → sProp 𝕄
  post : Dev nD → sProp 𝕄
  X : Dev nD → sProp 𝕄
  Y : Dev nD → sProp 𝕄
  Z : Dev nD → sProp 𝕄
  hentry : ∀ c, iprop(pre c ∗ levAts L lv)
    ⊢ |={Set.univ}=> iprop((pdats p c).arrays ((pdats p c).arrAt · 0) ∗ prefHeld (pcs p).pre c (fun _ => fullShare) (a p).1
        ∗ (pdats p c).owesAt ι 0 ∗ X c ∗ Z c)
  hin : ∀ c, iprop(X c ∗ prefHeld (pcs p).pre c (fun _ => fullShare) (a p).1 ∗ scopedRest (pcs p).spec c) ⊢ (pdats p c).Φ 0
  hout : ∀ c, (pdats p c).Φ (Fin.last (pin pcs a p).N) ⊢ iprop(Y c ∗ ownSems0 osem c ∗ scopedRest (pcs p).spec c)
  hexit : ∀ c, iprop((pdats p c).arrays ((pdats p c).arrAt · (pin pcs a p).N) ∗ (pdats p c).owesAt ι (Fin.last (pin pcs a p).N) ∗ Y c ∗ Z c)
    ⊢ |={Set.univ}=> post c

attribute [instance] Talk.fK

/-- What is left of a core's boundary while its talking kernel's own semaphores are dealt away. -/
def shell (c : Dev nD) {K : Type} [Fintype K] {osem : K → SemLoc sig} (ho : OwnSemFacts (pcs p).spec osem) : sProp 𝕄 :=
  iprop(scopedBufs (c.tc : Thread nD τ) ∗ cellsSems0 (pin pcs a) p c ∗ idleSems0 (pin pcs a) phinj p ho c ∗ opIdle (c.tc : Thread nD τ))

variable {pcs a pdats ι p defs₀ 𝒱₀ L lv}

include phinj in
/-- The boundary is its shell and the own semaphores at zero. -/
theorem boundary_shell (T : Talk pcs a pdats ι p defs₀ 𝒱₀ L lv) (c : Dev nD) :
    (boundary (c.tc : Thread nD τ) : sProp 𝕄) ⊢ iprop(shell pcs a phinj p c T.ho ∗ ownSems0 T.osem c) := by
  unfold boundary shell
  rw [scopedSems0_split (pin pcs a) phinj p T.win T.ho (Ix := Ix) (Val := Val) (Name := Name) (U := U) (Lvl := Lvl) c]
  iintro ⟨Hb, ⟨⟨Hc, Ho⟩, Hi⟩, Hop⟩
  isplitr [Ho]
  · isplitl [Hb]; · iexact Hb
    isplitl [Hc]; · iexact Hc
    isplitl [Hi] <;> iassumption
  iexact Ho

include phinj in
/-- The talking kernel's custom call on core `c`, from the boundary's shell. -/
theorem Talk.wp_call [∀ e, Nonempty (Val e)] [Infinite Name] [EP.LandsIn (upEmb : UEmb _ 𝕄)]
    (T : Talk pcs a pdats ι p defs₀ 𝒱₀ L lv) (c : Dev nD)
    (k : PUnit → Prog (TpuEff nD τ sig Val (Sig Λ₀ P fun p => (pcs p).Adm) .tc) PUnit) (Q : PUnit → sProp 𝕄) :
    iprop((iprop(boundary (c.tc : Thread nD τ) ∗ T.post c) -∗ wp frame (wpE 𝔻 𝕍 (c.tc : Thread nD τ) none) Set.univ (k ⟨⟩) Q)
        ∗ shell pcs a phinj p c T.ho ∗ T.pre c ∗ levAts L lv ∗ cellsGhost (pin pcs a) EP p c ∗ toksInit (pin pcs a) EP p c)
      ⊢ wp frame (wpE 𝔻 𝕍 (c.tc : Thread nD τ) none) Set.univ (.op (.customCall (entry p) ()) k) Q := by
  classical
  have hbufs := scopedBufs_split (pin pcs a) p T.win.stage_scoped T.win.stage_inj T.stage_whole (nD := nD) (τ := τ) (Ix := Ix) (Val := Val) (Name := Name) (U := U) (Lvl := Lvl)
  have hleave : iprop((pdats p c).Φ (Fin.last (pin pcs a p).N) ∗ cellsSems0 (pin pcs a) p c ∗ Dat.staging (pin pcs a p) c ∗ idleSems0 (pin pcs a) phinj p T.ho c)
      ⊢ iprop(T.Y c ∗ scopedSems0 (c.tc : Thread nD τ) ∗ scopedBufs (c.tc : Thread nD τ)) := by
    rw [scopedSems0_split (pin pcs a) phinj p T.win T.ho (Ix := Ix) (Val := Val) (Name := Name) (U := U) (Lvl := Lvl) c, hbufs]
    iintro ⟨HΦ, Hc, Hs, Hi⟩
    ihave H := (T.hout c) $$ HΦ
    icases H with ⟨HY, Ho, Hr⟩
    isplitl [HY]; · iexact HY
    isplitl [Hc Ho Hi]
    · isplitl [Hc Ho]
      · isplitl [Hc] <;> iassumption
      · iexact Hi
    · isplitl [Hs] <;> iassumption
  unfold shell
  iintro ⟨Hk, ⟨Hb, Hc, Hi, Hop⟩, Hpre, #Hla, Hg, Ht⟩
  ihave Hw := (T.hwaits c) $$ Hla
  iapply (fupd_wp frame (wpE 𝔻 𝕍 (c.tc : Thread nD τ) none) Set.univ _ _)
  imod (cellsInit_alloc (pin pcs a) pdats EP phinj p c) $$ [Hc Hg] with ⟨%κ, -, Hinit⟩
  · isplitl [Hc] <;> iassumption
  imod (T.hentry c) $$ [Hpre] with ⟨Harr, Hpf, HO, HX, HZ⟩
  · isplitl [Hpre]; · iexact Hpre
    iexact Hla
  imodintro
  iapply (wp_customCall_entry_frame pcs a pdats ι EP κ phinj p defs₀ 𝒱₀ (fun _ => fullShare) c Set.univ (fun _ _ => Set.mem_univ _)
      (T.hbody c) T.block_pos none (fun u h => nomatch h) (X := T.X c) (Y := T.Y c) (R := scopedRest (pcs p).spec c)
      (I := idleSems0 (pin pcs a) phinj p T.ho c) (Entails.of_eq (hbufs c)) (T.hin c) hleave (k := k) (Q := Q)) $$ [Harr HO Hw Hinit Ht Hpf HX Hi Hb]
  · isplitl [Harr HO Hw Hinit Ht]
    · unfold EntryPre PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hi] <;> iassumption
  iintro ⟨Hpost, HY, Hss, Hb⟩
  unfold EntryPost PerCore.EntryPost
  icases Hpost with ⟨Ha, HO⟩
  iapply (fupd_wp frame (wpE 𝔻 𝕍 (c.tc : Thread nD τ) none) Set.univ _ _)
  imod (T.hexit c) $$ [Ha HO HY HZ] with Hpost
  · isplitl [Ha]; · iexact Ha
    isplitl [HO]; · iexact HO
    isplitl [HY] <;> iassumption
  imodintro
  iapply Hk
  isplitr [Hpost]
  · unfold boundary
    isplitl [Hb]; · iexact Hb
    isplitl [Hss] <;> iassumption
  · iexact Hpost

include phinj in
/-- The launch. `hdeal` makes every core's start from every core's buffers, semaphores (the talking kernel's own among
    them), debts, credit and ghost state at once; `htail` is what @main does after the talking kernel, from what the
    kernel leaves; `hread` reads the end off a final state, of which `hQ` is told that every scoped counter is zero. -/
theorem θ_run_talk_first [∀ e, Nonempty (Val e)] [Infinite Name] [EP.LandsIn (upEmb : UEmb _ 𝕄)]
    (T : Talk pcs a pdats ι p defs₀ 𝒱₀ L lv)
    (m : (ℓ : Loc nD τ sig) → Buf Val ℓ) (g : Dev nD → PrngReg)
    (main : Dev nD → Prog (TpuEff nD τ sig Val (Sig Λ₀ P fun p => (pcs p).Adm) .tc) PUnit)
    (k : PUnit → Prog (TpuEff nD τ sig Val (Sig Λ₀ P fun p => (pcs p).Adm) .tc) PUnit)
    (hmain : ∀ c, main c = .op (.customCall (entry p) ()) k)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (hdeal : iprop((bigSep Finset.univ fun c : Dev nD => iprop(unscopedBufs c (fun b => m ((c.tc : Thread nD τ).loc b)) ∗ ownSems0 T.osem c
          ∗ owes (c.tc : Thread nD τ) (O₀ c) ∅ ∗ launchCred O₀ c ∗ G c)) ∗ levAts L lv)
      ⊢ |={Set.univ}=> bigSep Finset.univ T.pre)
    (Tₙ : Dev nD → sProp 𝕄)
    (htail : ∀ (c : Dev nD) (Q' : PUnit → sProp 𝕄),
      iprop((iprop((Tₙ c ∗ boundary (c.tc : Thread nD τ)) ∗ ∃ W, owes (c.tc : Thread nD τ) (0 : CellTallies nD τ sig Ix) W) -∗ Q' ⟨⟩)
          ∗ boundary (c.tc : Thread nD τ) ∗ T.post c ∗ levAts L lv ∗ ghostOn pcs a EP (Finset.univ.erase p) c)
        ⊢ wp frame (wpE 𝔻 𝕍 (c.tc : Thread nD τ) none) Set.univ (k ⟨⟩) Q')
    (QY : Dev nD → MemSt nD τ sig Val → Prop)
    (hread : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let ghost : Dev nD → sProp 𝕄 := fun c => bigSep Finset.univ fun p' => iprop(cellsGhost (pin pcs a) EP p' c ∗ toksInit (pin pcs a) EP p' c)
  let start : Dev nD → sProp 𝕄 := fun c => iprop(shell pcs a phinj p c T.ho ∗ T.pre c ∗ levAts L lv ∗ ghost c)
  let finish : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => start) (fun _ => finish)
      (fun _ => iprop(emp)) Set.univ ?deal (fun _ c => ?run) fun _ => ?read))
  case deal =>
    have hone : ∀ c : Dev nD, (coreInit (Ix := Ix) (Name := Name) (U := U) (Lvl := Lvl) (owing O₀) 0 (⟨m, fun _ => 0, g⟩ : MemSt nD τ sig Val) (c.tc : Thread nD τ) : sProp 𝕄)
        ⊢ iprop(shell pcs a phinj p c T.ho ∗ levels0 c
            ∗ unscopedBufs c (fun b => m ((c.tc : Thread nD τ).loc b)) ∗ ownSems0 T.osem c ∗ owes (c.tc : Thread nD τ) (O₀ c) ∅ ∗ launchCred O₀ c) := by
      intro c
      refine (coreInit_boundary_owing O₀ m g c).trans ?_
      iintro ⟨Hb, Hub, -, HO, Hlv, -, Hcr⟩
      ihave Hs := (boundary_shell phinj T c) $$ Hb
      icases Hs with ⟨Hsh, Hos⟩
      isplitl [Hsh]; · iexact Hsh
      isplitl [Hlv]; · iexact Hlv
      isplitl [Hub]; · iexact Hub
      isplitl [Hos]; · iexact Hos
      isplitl [HO] <;> iassumption
    have hall : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ fun c : Dev nD => (shell pcs a phinj p c T.ho : sProp 𝕄)) ∗ (bigSep Finset.univ fun c : Dev nD => (levels0 c : sProp 𝕄))
            ∗ bigSep Finset.univ fun c : Dev nD => iprop(unscopedBufs c (fun b => m ((c.tc : Thread nD τ).loc b)) ∗ ownSems0 T.osem c
                ∗ owes (c.tc : Thread nD τ) (O₀ c) ∅ ∗ launchCred O₀ c)) :=
      by
      refine (bigSep_mono fun c _ => hone c).trans ?_
      simp only [bigSep_sep']
      exact BI.Entails.refl _
    have hwith : iprop((bigSep Finset.univ fun c : Dev nD => iprop(unscopedBufs c (fun b => m ((c.tc : Thread nD τ).loc b)) ∗ ownSems0 T.osem c
                ∗ owes (c.tc : Thread nD τ) (O₀ c) ∅ ∗ launchCred O₀ c)) ∗ bigSep Finset.univ G)
        ⊢ (bigSep Finset.univ fun c : Dev nD => iprop(unscopedBufs c (fun b => m ((c.tc : Thread nD τ).loc b)) ∗ ownSems0 T.osem c
          ∗ owes (c.tc : Thread nD τ) (O₀ c) ∅ ∗ launchCred O₀ c ∗ G c) : sProp 𝕄) := by
      rw [← bigSep_sep']
      refine bigSep_mono fun c _ => ?_
      show iprop(iprop(unscopedBufs c (fun b => m ((c.tc : Thread nD τ).loc b)) ∗ ownSems0 T.osem c
                ∗ owes (c.tc : Thread nD τ) (O₀ c) ∅ ∗ launchCred O₀ c) ∗ G c) ⊢ iprop(_ ∗ _)
      iintro ⟨⟨Hub, Hos, HO, Hcr⟩, HG⟩
      isplitl [Hub]; · iexact Hub
      isplitl [Hos]; · iexact Hos
      isplitl [HO]; · iexact HO
      isplitl [Hcr] <;> iassumption
    have hgh : iprop((bigSep Finset.univ fun c : Dev nD => bigSep Finset.univ fun p' => cellsGhost (pin pcs a) EP p' c)
          ∗ (bigSep Finset.univ fun c : Dev nD => bigSep Finset.univ fun p' => (toksInit (pin pcs a) EP p' c : sProp 𝕄)))
        ⊢ bigSep Finset.univ ghost := by
      rw [← bigSep_sep']
      exact bigSep_mono fun c _ => Entails.of_eq (bigSep_sep' Finset.univ (Φ := fun p' => cellsGhost (pin pcs a) EP p' c) (Ψ := fun p' => toksInit (pin pcs a) EP p' c)).symm
    iintro ⟨Hcores, Hu⟩
    ihave Hc := hall $$ Hcores
    icases Hc with ⟨Hsh, Hlv, Hh⟩
    imod (levels_dealt L lv hL) $$ Hlv with #Hla
    imod hu₀ $$ Hu with ⟨HP, HG⟩
    imod (fund_ghost (pin pcs a) EP phinj) $$ HP with ⟨Hg, Ht⟩
    imod hdeal $$ [Hh HG] with HT
    · isplitr [Hla]
      · iapply hwith
        isplitl [Hh] <;> iassumption
      · iexact Hla
    imodintro
    iexists ()
    isplitr []
    · simp only [start, bigSep_sep']
      isplitl [Hsh]; · iexact Hsh
      isplitl [HT]; · iexact HT
      isplitr
      · iapply (BI.bigSep_intro_persistent (S := Finset.univ) fun (c : Dev nD) _ => (BI.Entails.refl (levAts L lv : sProp 𝕄))); iexact Hla
      · iapply hgh
        isplitl [Hg] <;> iassumption
    · iempintro
  case run =>
    have hsplit : ghost c ⊢ iprop((cellsGhost (pin pcs a) EP p c ∗ toksInit (pin pcs a) EP p c) ∗ ghostOn pcs a EP (Finset.univ.erase p) c) :=
      Entails.of_eq (PerCore.ghostOn_erase pcs (fun _ => a) EP (Finset.mem_univ p) c)
    rw [hmain c]
    simp only [start]
    iintro ⟨Hsh, Hpre, #Hla, Hg⟩
    ihave Hg2 := hsplit $$ Hg
    icases Hg2 with ⟨⟨Hg, Ht⟩, Hrest⟩
    iapply (T.wp_call phinj EP c k)
    isplitl [Hrest]
    · iintro ⟨Hbd, Hpost⟩
      iapply (htail c)
      isplitr [Hbd Hpost Hrest]
      · iintro ⟨⟨HT, Hbd⟩, HW⟩
        unfold Idealize.ShloMosaic.post; simp only [liftTc_tc, finish]
        isplitl [HT Hbd]
        · isplitl [HT] <;> iassumption
        · iexact HW
      · isplitl [Hbd]; · iexact Hbd
        isplitl [Hpost]; · iexact Hpost
        isplitr; · iexact Hla
        iexact Hrest
    · isplitl [Hsh]; · iexact Hsh
      isplitl [Hpre]; · iexact Hpre
      isplitr; · iexact Hla
      isplitl [Hg] <;> iassumption
  case read =>
    iintro ⟨H, -, Hsc⟩ %s' HSI
    ihave %hsc := (scSems_read_zero m g s') $$ [Hsc HSI]
    · isplitl [Hsc] <;> iassumption
    imod (posts_fupd Finset.univ (fun c s' => boundary_read c s' (hread c s')) s') $$ [H HSI] with %h
    · isplitl [H] <;> iassumption
    imodintro
    ipureintro
    exact ⟨fun c => h c (Finset.mem_univ c), hsc⟩

end Idealize.ShloMosaic.FirstTalk

end
-- ==== Proof.ExchRun.lean ====
/-
A program that is one exchange, from launch to end: every device ends with what its peers and its own local copies
wrote, and every semaphore at zero.
-/
module

public import proofs.«01_k».proof.Proof.ExchDeal
public import proofs.«01_k».proof.Proof.FirstTalk

@[expose] public section

noncomputable section

namespace Idealize.ShloMosaic.Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
local notation "𝕄" => MT nD τ sig Unit Val ℕ (UU nD τ sig) ℕ

/-- Where the ghost state of the launch's own semaphores lives. -/
abbrev EP : Emb (UR sig nD τ) 𝕄 := embL

/-- The one level assignment used: nothing is ever owed while waiting, so it says only that the cells are TensorCores'. -/
def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h

variable {Λ₀ : SL.Sem.Labels} {P : Type} [Fintype P] [DecidableEq P]
variable (pcs : P → PCfg sig Λ₀ Val) (a : (p : P) → (pcs p).Adm)
variable [hW : ∀ q, IsEmpty (Fin (pin pcs a q).W)]
variable (p : Plan nD τ sig) (m : (ℓ : Loc nD τ sig) → Buf Val ℓ)

/-- What a device starts its exchange with, and ends it with. -/
def before (c : Dev nD) : sProp 𝕄 := iprop(∃ κ, p.records m κ ∗ p.linear m c)
def after (c : Dev nD) : sProp 𝕄 := bigSep Finset.univ (p.done m c)

/-- A kernel without windows: its invariant says whether the exchange has been made. -/
def dats (q : P) (c : Dev nD) : Dat τ Val Unit ℕ (UU nD τ sig) ℕ (pin pcs a q) c where
  A w := isEmptyElim w
  after w _ := isEmptyElim w
  Φ t := if t.val = 0 then before p m c else after p m c
  q _ := fullShare
  owed t := if t.val = 0 then p.owe c p.starts else 0

/-- What a device has at the end. -/
def ends (keep : Dev nD → sProp 𝕄) (c : Dev nD) : sProp 𝕄 := iprop((bigSep Finset.univ fun k : p.Key => p.pay m (c, k)) ∗ keep c ∗ ∃ W, owes (c : Thread nD τ) 0 W)

variable {pcs a p m}
variable (q : P) (defs₀ : Defs nD τ sig Val Λ₀) (𝒱₀ : Variants)

theorem inv_first (c : Dev nD) (t : Fin ((pin pcs a q).N + 1)) (h : t.val = 0) : (dats pcs a p m q c).Φ t = before p m c := if_pos h
theorem inv_last (c : Dev nD) (t : Fin ((pin pcs a q).N + 1)) (h : t.val ≠ 0) : (dats pcs a p m q c).Φ t = after p m c := if_neg h
theorem owed_first (c : Dev nD) (t : Fin ((pin pcs a q).N + 1)) (h : t.val = 0) : (dats pcs a p m q c).owed t = p.owe c p.starts := if_pos h
theorem owed_last (c : Dev nD) (t : Fin ((pin pcs a q).N + 1)) (h : t.val ≠ 0) : (dats pcs a p m q c).owed t = 0 := if_neg h

theorem body_of (hN : (pin pcs a q).N = 1)
    (hprog : ∀ t s (c : Dev nD) (R : sProp 𝕄), wp frame (wpE defs₀ 𝒱₀ (c : Thread nD τ) none) Set.univ (p.prog c) (fun _ => R)
      ⊢ wp frame (wpE defs₀ 𝒱₀ (c : Thread nD τ) none) Set.univ (defs₀ .tc (pin pcs a q).body ((pin pcs a q).bodyArgs t s)) fun _ => R) (c : Dev nD) :
    BodyObligationLoose (dats pcs a p m q c) defs₀ 𝒱₀ () Set.univ := by
  intro t
  obtain ⟨t, ht⟩ := t
  have h0 : t = 0 := by omega
  subst h0
  rw [Finset.univ_eq_empty, BI.bigSep_empty, BI.bigSep_empty]
  refine BI.Entails.trans ?_ (hprog _ _ c _)
  unfold Dat.owesAt Pipeline.owesWithin
  rw [inv_first q c _ (show (Fin.castSucc ⟨0, ht⟩ : Fin ((pin pcs a q).N + 1)).val = 0 from rfl),
    inv_last q c _ (show (Fin.succ ⟨0, ht⟩ : Fin ((pin pcs a q).N + 1)).val ≠ 0 from Nat.one_ne_zero),
    owed_first q c _ (show (Fin.castSucc ⟨0, ht⟩ : Fin ((pin pcs a q).N + 1)).val = 0 from rfl),
    owed_last q c _ (show (Fin.succ ⟨0, ht⟩ : Fin ((pin pcs a q).N + 1)).val ≠ 0 from Nat.one_ne_zero)]
  unfold before after
  show (iprop(_ ∗ _ ∗ _) : sProp 𝕄) ⊢ _
  iintro ⟨⟨%κ, #HR, Hl⟩, ⟨%W, %hW, HO⟩, -⟩
  iapply (wp_prog 𝒱₀ c none W _ (κ := κ) (m := m))
  isplitr; · iexact HR
  isplitl [Hl]; · iexact Hl
  isplitl [HO]; · iexact HO
  iintro ⟨Hd, ⟨%W', HO⟩⟩
  isplitl [Hd]; · iexact Hd
  isplitl [HO]
  · iexists W'
    isplitr; · ipureintro; exact fun _ _ => Or.inl trivial
    iexact HO
  iempintro

/-- The exchange as a talking kernel. -/
def talk (keep : Dev nD → sProp 𝕄) (hwin : WinFacts₀ (pcs q).spec) (hN : (pin pcs a q).N = 1)
    (ho : OwnSemFacts (pcs q).spec fun k : p.Key => (SemLoc.dma (p.sem k) : SemLoc sig))
    (hprog : ∀ t s (c : Dev nD) (R : sProp 𝕄), wp frame (wpE defs₀ 𝒱₀ (c : Thread nD τ) none) Set.univ (p.prog c) (fun _ => R)
      ⊢ wp frame (wpE defs₀ 𝒱₀ (c : Thread nD τ) none) Set.univ (defs₀ .tc (pin pcs a q).body ((pin pcs a q).bodyArgs t s)) fun _ => R)
    (hpref : ∀ c : Dev nD, (BI.emp : sProp 𝕄) ⊢ prefHeld (pcs q).pre c (fun _ => fullShare) (a q).1)
    (hrest : ∀ c : Dev nD, (BI.emp : sProp 𝕄) ⊢ scopedRest (pcs q).spec c) :
    FirstTalk.Talk pcs a (dats pcs a p m) () q defs₀ 𝒱₀ (L (nD := nD) (τ := τ) (sig := sig)) lv where
  win := hwin
  block_pos w := (hW q).elim w
  stage_whole w := (hW q).elim w
  K := p.Key
  osem k := .dma (p.sem k)
  ho := ho
  hbody := body_of q defs₀ 𝒱₀ hN hprog
  hwaits c := Pipeline.cellsWaits_intro (pin pcs a) (dats pcs a p m) () q c fun w s t => ((hW q).false w).elim
  pre c := iprop(before p m c ∗ keep c ∗ owes (c : Thread nD τ) (p.owe c p.starts) ∅)
  post := ends p m keep
  X := before p m
  Y c := bigSep Finset.univ fun k : p.Key => p.pay m (c, k)
  Z := keep
  hentry c := by
    unfold Dat.owesAt Pipeline.owesWithin Dat.arrays
    rw [Finset.univ_eq_empty, BI.bigSep_empty]
    iintro ⟨⟨HX, HZ, HO⟩, -⟩
    imodintro
    isplitr; · iempintro
    isplitr; · iapply (hpref c); iempintro
    isplitl [HO]
    · iexists ∅
      isplitr; · ipureintro; exact fun _ _ => Or.inl trivial
      rw [owed_first q c 0 rfl]
      iexact HO
    isplitl [HX] <;> iassumption
  hin c := by
    rw [inv_first q c 0 rfl]
    iintro ⟨H, -, -⟩
    iexact H
  hout c := by
    rw [inv_last q c (Fin.last _) (by rw [Fin.val_last, hN]; exact Nat.one_ne_zero)]
    unfold after Plan.done
    rw [bigSep_sep']
    iintro ⟨Hp, Hs⟩
    isplitl [Hp]; · iexact Hp
    isplitl [Hs]
    · iapply (show (bigSep Finset.univ fun k : p.Key => (semVal (p.cell (c, k)) 0 : sProp 𝕄)) ⊢ ownSems0 (fun k : p.Key => (SemLoc.dma (p.sem k) : SemLoc sig)) c
        from BI.Entails.refl _)
      iexact Hs
    iapply (hrest c); iempintro
  hexit c := by
    unfold Dat.owesAt Pipeline.owesWithin ends
    rw [owed_last q c (Fin.last _) (by rw [Fin.val_last, hN]; exact Nat.one_ne_zero)]
    iintro ⟨-, ⟨%W, -, HO⟩, HY, HZ⟩
    imodintro
    isplitl [HY]; · iexact HY
    isplitl [HZ]; · iexact HZ
    iexists W; iexact HO

/-- Everything dealt at once. -/
theorem deal (keep : Dev nD → sProp 𝕄) (hsplit : ∀ c : Dev nD, (unscopedBufs c (fun b => m ((c.tc : Thread nD τ).loc b)) : sProp 𝕄) ⊢ iprop(p.brings m c ∗ keep c)) :
    iprop((bigSep Finset.univ fun c : Dev nD => iprop(unscopedBufs c (fun b => m ((c.tc : Thread nD τ).loc b)) ∗ ownSems0 (fun k : p.Key => (SemLoc.dma (p.sem k) : SemLoc sig)) c
          ∗ owes (c.tc : Thread nD τ) (p.owe c p.starts) ∅ ∗ Pipeline.launchCred (fun d => p.owe d p.starts) c ∗ p.G m c)) ∗ levAts (L (nD := nD) (τ := τ) (sig := sig)) lv)
      ⊢ |={Set.univ}=> bigSep Finset.univ fun c : Dev nD => iprop(before p m c ∗ keep c ∗ owes (c : Thread nD τ) (p.owe c p.starts) ∅) := by
  have hone : ∀ c : Dev nD, iprop(unscopedBufs c (fun b => m ((c.tc : Thread nD τ).loc b)) ∗ ownSems0 (fun k : p.Key => (SemLoc.dma (p.sem k) : SemLoc sig)) c
          ∗ owes (c.tc : Thread nD τ) (p.owe c p.starts) ∅ ∗ Pipeline.launchCred (fun d => p.owe d p.starts) c ∗ p.G m c)
      ⊢ (|={Set.univ}=> iprop((p.brings m c ∗ keep c ∗ owes (c.tc : Thread nD τ) (p.owe c p.starts) ∅ ∗ Pipeline.launchCred (fun d => p.owe d p.starts) c)
          ∗ ((bigSep Finset.univ fun k : p.Key => iprop(∃ κ : ℕ, cellInv ER (p.Rd m) κ (p.cell (c, k))))
          ∗ (bigSep Finset.univ fun k : p.Key => reached (ER (Val := Val)) (p.cell (c, k)) 0)
          ∗ (bigSep Finset.univ fun k : p.Key => atPos (ER (Val := Val)) (p.cell (c, k)) 0 ∅ 0)
          ∗ bigSep Finset.univ fun k : p.Key => dutyTok (ER (Val := Val)) (p.cell (c, k)) 0 ())) : sProp 𝕄) := by
    intro c
    iintro ⟨Hb, Hs, HO, Hc, HG⟩
    imod (show iprop(ownSems0 (fun k : p.Key => (SemLoc.dma (p.sem k) : SemLoc sig)) c ∗ p.G m c) ⊢ _ from alloc p m c) $$ [Hs HG] with Ha
    · isplitl [Hs] <;> iassumption
    imodintro
    ihave Hb' := (hsplit c) $$ Hb
    icases Hb' with ⟨Hb1, Hb2⟩
    isplitr [Ha]
    · isplitl [Hb1]; · iexact Hb1
      isplitl [Hb2]; · iexact Hb2
      isplitl [HO]; · iexact HO
      iexact Hc
    iexact Ha
  refine (sep_elim_left.trans ((bigSep_mono fun c _ => hone c).trans (bigSep_fupd _ _))).trans (BI.fupd_mono ?_)
  simp only [bigSep_sep']
  rw [← bigSep_univ_prod (fun ck : Dev nD × p.Key => iprop(∃ κ : ℕ, cellInv ER (p.Rd m) κ (p.cell ck))),
    ← bigSep_univ_prod (fun ck : Dev nD × p.Key => (reached (ER (Val := Val)) (p.cell ck) 0 : sProp 𝕄))]
  iintro ⟨⟨Hb, Hk, HO, Hc⟩, HI, #Hr, Hat, Ht⟩
  ihave HK := (BI.bigSep_exists_pi Finset.univ (fun (ck : Dev nD × p.Key) (κ : ℕ) => (cellInv ER (p.Rd m) κ (p.cell ck) : sProp 𝕄))) $$ HI
  icases HK with ⟨%κ, #HI⟩
  ihave Hl := (linear_intro p m) $$ [Hb Hat Ht Hc]
  · isplitl [Hb]; · iexact Hb
    isplitl [Hat]; · iexact Hat
    isplitl [Ht]; · iexact Ht
    iexact Hc
  isplitl [Hl]
  · iapply (everywhere (R := p.records m κ) (Φ := fun c => p.linear m c) fun c _ => show iprop(p.records m κ ∗ p.linear m c) ⊢ before p m c from by
      unfold before
      iintro ⟨HR, Hl⟩
      iexists κ
      isplitl [HR] <;> iassumption)
    isplitr
    · unfold Plan.records
      isplitr; · iexact HI
      iexact Hr
    iexact Hl
  isplitl [Hk]; · iexact Hk
  iexact HO

/-! ### What the end shows -/

/-- A value read and the state kept. -/
theorem read_keep {A R : sProp 𝕄} {φ : Prop} (h : iprop(A ∗ R) ⊢ ⌜φ⌝) : iprop(A ∗ R) ⊢ iprop(⌜φ⌝ ∗ R) :=
  (BI.and_intro h (BI.Entails.refl _)).trans <| BI.pure_elim fun hφ => by
    show iprop(A ∗ R) ⊢ iprop(⌜φ⌝ ∗ R)
    iintro ⟨-, HR⟩
    isplitr; · ipureintro; exact hφ
    iexact HR

variable (p m)

/-- What an exchange leaves in the memory `μ` of device `c`. -/
def Plan.Landed (c : Dev nD) (μ : (ℓ : Loc nD τ sig) → Buf Val ℓ) : Prop :=
  (∀ i : p.I, (p.dst i (p.peer i c)).view.read Val (μ ((p.dst i (p.peer i c)).view.loc (c : Thread nD τ)))
      = (p.src i (p.peer i c)).view.read Val (m ((p.src i (p.peer i c)).view.loc (p.peer i c : Thread nD τ))))
  ∧ ∀ j : p.J, (p.ldst j c).view.read Val (μ ((p.ldst j c).view.loc (c : Thread nD τ)))
      = (p.lsrc j c).view.read Val (m ((p.lsrc j c).view.loc (c : Thread nD τ)))

variable {p m}

/-- The part of a memory under a view decides what is read through it. -/
theorem read_agree {sp : Space} {s : Shape} {e : EltTy} (M : Memref sig .tc sp s e) (c : Dev nD) (sh : PosShare TreeShare)
    (f : Buf Val (M.view.loc (c : Thread nD τ))) (X : s.Idx → Val e) (s' : Phys nD τ sig Val) :
    iprop((⌜M.view.read Val f = X⌝ ∗ (M.view.loc (c : Thread nD τ) ↦[M.view.set]{sh} f)) ∗ SI s')
      ⊢ (⌜M.view.read Val (s'.mem.mem (M.view.loc (c : Thread nD τ))) = X⌝ : sProp 𝕄) := by
  iintro ⟨⟨%hX, Hf⟩, HSI⟩
  ihave %h := (SI_pointsTo_agree) $$ [HSI Hf]
  · isplitl [HSI] <;> iassumption
  ipureintro
  rw [← hX]
  exact View.read_congr h

theorem pay_read (c : Dev nD) (k : p.Key) (s' : Phys nD τ sig Val) :
    iprop(p.pay m (c, k) ∗ SI s') ⊢ (⌜match k with
      | .inl _ => True
      | .inr (.inl i) => (p.dst i (p.peer i c)).view.read Val (s'.mem.mem ((p.dst i (p.peer i c)).view.loc (c : Thread nD τ)))
          = (p.src i (p.peer i c)).view.read Val (m ((p.src i (p.peer i c)).view.loc (p.peer i c : Thread nD τ)))
      | .inr (.inr j) => (p.ldst j c).view.read Val (s'.mem.mem ((p.ldst j c).view.loc (c : Thread nD τ)))
          = (p.lsrc j c).view.read Val (m ((p.lsrc j c).view.loc (c : Thread nD τ)))⌝ : sProp 𝕄) := by
  rcases k with i | i | j
  · exact BI.pure_intro trivial
  · unfold Plan.pay Plan.dstAt
    iintro ⟨⟨%f, Hf⟩, HSI⟩
    iapply (read_agree (p.dst i (p.peer i c)) c fullShare f _ s')
    isplitl [Hf] <;> iassumption
  · unfold Plan.pay Plan.ldstAt
    iintro ⟨⟨⟨%f, Hf⟩, -⟩, HSI⟩
    iapply (read_agree (p.ldst j c) c fullShare f _ s')
    isplitl [Hf] <;> iassumption

theorem ends_read (keep : Dev nD → sProp 𝕄) (QK : Dev nD → ((ℓ : Loc nD τ sig) → Buf Val ℓ) → Prop)
    (hkeep : ∀ c (s' : Phys nD τ sig Val), iprop(keep c ∗ SI s') ⊢ (⌜QK c s'.mem.mem⌝ : sProp 𝕄)) (c : Dev nD) (s' : Phys nD τ sig Val) :
    iprop(((bigSep Finset.univ fun k : p.Key => p.pay m (c, k)) ∗ keep c) ∗ SI s')
      ⊢ |={Set.univ}=> iprop(⌜p.Landed m c s'.mem.mem ∧ QK c s'.mem.mem⌝ ∗ SI s') := by
  have h1 := fun k : p.Key => (sep_mono_left (bigSep_elim (Φ := fun k : p.Key => p.pay m (c, k)) (Finset.mem_univ k))).trans (pay_read (m := m) c k s')
  have h2 : iprop((bigSep Finset.univ fun k : p.Key => p.pay m (c, k)) ∗ SI s') ⊢ (⌜p.Landed m c s'.mem.mem⌝ : sProp 𝕄) :=
    fun x hx => ⟨fun i => h1 (.inr (.inl i)) x hx, fun j => h1 (.inr (.inr j)) x hx⟩
  iintro ⟨⟨Hp, Hk⟩, HSI⟩
  imodintro
  ihave H := (read_keep h2) $$ [Hp HSI]
  · isplitl [Hp] <;> iassumption
  icases H with ⟨%hl, HSI⟩
  ihave H := (read_keep (hkeep c s')) $$ [Hk HSI]
  · isplitl [Hk] <;> iassumption
  icases H with ⟨%hk, HSI⟩
  isplitr; · ipureintro; exact ⟨hl, hk⟩
  iexact HSI

variable (p m)

/-- A program that is one exchange. -/
theorem θ_run_exchange (keep : Dev nD → sProp 𝕄) [∀ e, Nonempty (Val e)] (phinj : Function.Injective (cellOf (nD := nD) (τ := τ) (pin pcs a)))
    (hwin : WinFacts₀ (pcs q).spec) (hN : (pin pcs a q).N = 1)
    (ho : OwnSemFacts (pcs q).spec fun k : p.Key => (SemLoc.dma (p.sem k) : SemLoc sig))
    (hprog : ∀ t s (c : Dev nD) (R : sProp 𝕄), wp frame (wpE defs₀ 𝒱₀ (c : Thread nD τ) none) Set.univ (p.prog c) (fun _ => R)
      ⊢ wp frame (wpE defs₀ 𝒱₀ (c : Thread nD τ) none) Set.univ (defs₀ .tc (pin pcs a q).body ((pin pcs a q).bodyArgs t s)) fun _ => R)
    (hpref : ∀ c : Dev nD, (BI.emp : sProp 𝕄) ⊢ prefHeld (pcs q).pre c (fun _ => fullShare) (a q).1)
    (hrest : ∀ c : Dev nD, (BI.emp : sProp 𝕄) ⊢ scopedRest (pcs q).spec c)
    (g : Dev nD → PrngReg)
    (main : Dev nD → Prog (TpuEff nD τ sig Val (Pipeline.Sig Λ₀ P fun p => (pcs p).Adm) .tc) PUnit)
    (hmain : ∀ c, main c = .op (.customCall (Pipeline.entry q) ()) .ret)
    (hsplit : ∀ c : Dev nD, (unscopedBufs c (fun b => m ((c.tc : Thread nD τ).loc b)) : sProp 𝕄) ⊢ iprop(p.brings m c ∗ keep c))
    (QK : Dev nD → ((ℓ : Loc nD τ sig) → Buf Val ℓ) → Prop)
    (hkeep : ∀ c (s' : Phys nD τ sig Val), iprop(keep c ∗ SI s') ⊢ (⌜QK c s'.mem.mem⌝ : sProp 𝕄))
    {Q : PUnit × MemSt nD τ sig Val → Prop} (hQ : ∀ s : MemSt nD τ sig Val, (∀ c : Dev nD, p.Landed m c s.mem ∧ QK c s.mem) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q :=
  FirstTalk.θ_run_talk_first phinj EP
    (talk q defs₀ 𝒱₀ keep hwin hN ho hprog hpref hrest) m g main .ret hmain
    (fun c => p.owe c p.starts) L_of_ne (p.G m)
    (initOf (Pipeline.cells (pin pcs a) phinj) (Pipeline.launchToks (pin pcs a) phinj), initOf p.cells p.toks)
    (by
      iintro Hu
      ihave H := (ownU_pair _ _) $$ Hu
      icases H with ⟨HP, HX⟩
      imod (fund p m) $$ HX with HG
      imodintro
      isplitl [HP] <;> iassumption)
    (deal keep hsplit)
    (fun c => iprop((bigSep Finset.univ fun k : p.Key => p.pay m (c, k)) ∗ keep c))
    (fun c Q' => by
      rw [wp_ret]
      show iprop(_ ∗ _ ∗ ends p m keep c ∗ _ ∗ _) ⊢ _
      unfold ends
      iintro ⟨HQ, Hb, ⟨Hp, Hk, HO⟩, -, -⟩
      imodintro
      iapply HQ
      isplitr [HO]
      · isplitr [Hb]
        · isplitl [Hp] <;> iassumption
        iexact Hb
      iexact HO)
    (fun c μ => p.Landed m c μ.mem ∧ QK c μ.mem)
    (ends_read keep QK hkeep)
    hQ

end Idealize.ShloMosaic.Exch
-- ==== Proof.ExchMem.lean ====
/-
How the buffers of a device are dealt to the copies of an exchange: the array that is read, by shares; the array that is
written, by disjoint parts.
-/
module

public import proofs.«01_k».proof.Proof.ExchRun

@[expose] public section

noncomputable section

namespace Idealize.ShloMosaic.Exch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {nD : Nat} {τ : Topo} {sig : RefSig} {Val : EltTy → Type}
local notation "𝕄" => MT nD τ sig Unit Val ℕ (UU nD τ sig) ℕ

/-- What is left of the whole share once `n` pieces are given away, and the piece given away next. -/
def left : ℕ → PosShare TreeShare
  | 0 => fullShare
  | n + 1 => (left n).right
def piece (n : ℕ) : PosShare TreeShare := (left n).left

theorem cut_piece {ℓ : Loc nD τ sig} (f : Buf Val ℓ) (k : ℕ) :
    (ℓ ↦{left k} f : sProp 𝕄) ⊢ iprop((ℓ ↦{piece k} f) ∗ ℓ ↦{left (k + 1)} f) :=
  (pointsTo_share (PosShare.mem_left_op_right (left k))).1

/-- Part of what is held. -/
theorem narrow {ℓ : Loc nD τ sig} (f : Buf Val ℓ) (q : PosShare TreeShare) (K : Finset (Idx ℓ)) :
    (ℓ ↦{q} f : sProp 𝕄) ⊢ ℓ ↦[K]{q} f :=
  ((pointsTo_split_subset (Finset.subset_univ K)).1).trans sep_elim_left

theorem deal_pieces {ℓ : Loc nD τ sig} (f : Buf Val ℓ) : ∀ (n k : ℕ) (K : Fin n → Finset (Idx ℓ)),
    (ℓ ↦{left k} f : sProp 𝕄) ⊢ bigSep Finset.univ fun j : Fin n => ℓ ↦[K j]{piece (j.val + k)} f
  | 0, k, K => by
    rw [Finset.univ_eq_empty (α := Fin 0), BI.bigSep_empty]
    iintro -
    iempintro
  | n + 1, k, K => by
    rw [Fin.univ_succ, Finset.cons_eq_insert, bigSep_insert (by simp [Fin.succ_ne_zero]), bigSep_map]
    refine (cut_piece f k).trans (BI.sep_mono ?_ ?_)
    · refine (narrow f _ (K 0)).trans (Entails.of_eq ?_)
      rw [Fin.val_zero, Nat.zero_add]
    · refine (deal_pieces f n (k + 1) fun j => K j.succ).trans (Entails.of_eq (bigSep_congr fun j _ => ?_))
      show _ = (ℓ ↦[K j.succ]{piece (j.succ.val + k)} f : sProp 𝕄)
      rw [show j.succ.val + k = j.val + (k + 1) from by rw [Fin.val_succ]; omega]

/-- An array that is read: a share kept, one for the local copy, one for each remote copy. -/
theorem deal_source {ℓ : Loc nD τ sig} (f : Buf Val ℓ) {n : ℕ} (L : Finset (Idx ℓ)) (K : Fin n → Finset (Idx ℓ)) :
    (ℓ ↦{fullShare} f : sProp 𝕄)
      ⊢ iprop((ℓ ↦{piece 0} f) ∗ (ℓ ↦[L]{piece 1} f) ∗ bigSep Finset.univ fun j : Fin n => ℓ ↦[K j]{piece (j.val + 2)} f) := by
  refine (cut_piece f 0).trans (sep_mono_right ((cut_piece f 1).trans (BI.sep_mono (narrow f _ L) (deal_pieces f n 2 K))))

/-- An array that is written: the part the local copy writes, and one part for each remote copy. -/
theorem deal_target {ℓ : Loc nD τ sig} (f : Buf Val ℓ) {n : ℕ} (L : Finset (Idx ℓ)) (K : Fin n → Finset (Idx ℓ))
    (hL : ∀ j, Disjoint L (K j)) (hK : ∀ j j', j ≠ j' → Disjoint (K j) (K j')) :
    (ℓ ↦{fullShare} f : sProp 𝕄)
      ⊢ iprop((∃ g, ℓ ↦[L]{fullShare} g) ∗ bigSep Finset.univ fun j : Fin n => iprop(∃ g, ℓ ↦[K j]{fullShare} g)) := by
  have hd : Disjoint L (Finset.univ.biUnion K) := (Finset.disjoint_biUnion_right _ _ _).mpr fun j _ => hL j
  refine (narrow f _ (L ∪ Finset.univ.biUnion K)).trans ((pointsTo_union hd).1.trans (BI.sep_mono ?_ ?_))
  · show (ℓ ↦[L]{fullShare} f : sProp 𝕄) ⊢ iprop(∃ g, ℓ ↦[L]{fullShare} g)
    iintro H
    iexists f
    iexact H
  · rw [pointsTo_biUnion Finset.univ K fun j _ j' _ h => hK j j' h]
    refine bigSep_mono fun j _ => ?_
    show (ℓ ↦[K j]{fullShare} f : sProp 𝕄) ⊢ iprop(∃ g, ℓ ↦[K j]{fullShare} g)
    iintro H
    iexists f
    iexact H

/-- Arrays dealt one by one are dealt together. -/
theorem regroup {A B : Type} [Fintype A] [Fintype B] (X Y K L T : A → sProp 𝕄) (S D : A × B → sProp 𝕄)
    (hin : ∀ a, X a ⊢ iprop(K a ∗ L a ∗ bigSep Finset.univ fun j : B => S (a, j)))
    (hout : ∀ a, Y a ⊢ iprop(T a ∗ bigSep Finset.univ fun j : B => D (a, j))) :
    iprop(bigSep Finset.univ X ∗ bigSep Finset.univ Y)
      ⊢ iprop((bigSep Finset.univ S ∗ bigSep Finset.univ D ∗ bigSep Finset.univ L ∗ bigSep Finset.univ T) ∗ bigSep Finset.univ K) := by
  refine (BI.sep_mono (bigSep_mono fun a _ => hin a) (bigSep_mono fun a _ => hout a)).trans ?_
  simp only [bigSep_sep']
  rw [← bigSep_univ_prod S, ← bigSep_univ_prod D]
  show iprop((bigSep Finset.univ K ∗ bigSep Finset.univ L ∗ bigSep Finset.univ S) ∗ bigSep Finset.univ T ∗ bigSep Finset.univ D) ⊢ iprop(_ ∗ _)
  iintro ⟨⟨HK, HL, HS⟩, HT, HD⟩
  isplitr [HK]
  · isplitl [HS]; · iexact HS
    isplitl [HD]; · iexact HD
    isplitl [HL]; · iexact HL
    iexact HT
  iexact HK

/-- The same where no copy is local. -/
theorem regroup_remote {A B : Type} [Fintype A] [Fintype B] (X Y K : A → sProp 𝕄) (S D : A × B → sProp 𝕄) (L T : Fin 0 → sProp 𝕄)
    (hin : ∀ a, X a ⊢ iprop(K a ∗ bigSep Finset.univ fun j : B => S (a, j)))
    (hout : ∀ a, Y a ⊢ bigSep Finset.univ fun j : B => D (a, j)) :
    iprop(bigSep Finset.univ X ∗ bigSep Finset.univ Y)
      ⊢ iprop((bigSep Finset.univ S ∗ bigSep Finset.univ D ∗ bigSep Finset.univ L ∗ bigSep Finset.univ T) ∗ bigSep Finset.univ K) := by
  refine (BI.sep_mono (bigSep_mono fun a _ => hin a) (bigSep_mono fun a _ => hout a)).trans ?_
  simp only [bigSep_sep']
  rw [← bigSep_univ_prod S, ← bigSep_univ_prod D, Finset.univ_eq_empty (α := Fin 0), BI.bigSep_empty, BI.bigSep_empty]
  show iprop((bigSep Finset.univ K ∗ bigSep Finset.univ S) ∗ bigSep Finset.univ D) ⊢ iprop(_ ∗ _)
  iintro ⟨⟨HK, HS⟩, HD⟩
  isplitr [HK]
  · isplitl [HS]; · iexact HS
    isplitl [HD]; · iexact HD
    isplitl []; · iempintro
    iempintro
  iexact HK

/-- An array of which a share was kept is unchanged at the end. -/
theorem read_kept {A : Type} [Fintype A] [DecidableEq A] (ref : A → Ref sig .tc) (c : Dev nD) (q : PosShare TreeShare) (m : (ℓ : Loc nD τ sig) → Buf Val ℓ)
    (s' : Phys nD τ sig Val) :
    iprop((bigSep Finset.univ fun a : A => ((c : Thread nD τ).loc (ref a)) ↦{q} m ((c : Thread nD τ).loc (ref a))) ∗ SI s')
      ⊢ (⌜∀ a, s'.mem.mem ((c : Thread nD τ).loc (ref a)) = m ((c : Thread nD τ).loc (ref a))⌝ : sProp 𝕄) := by
  have h1 : ∀ a, iprop((bigSep Finset.univ fun a : A => ((c : Thread nD τ).loc (ref a)) ↦{q} m ((c : Thread nD τ).loc (ref a))) ∗ SI s')
      ⊢ (⌜s'.mem.mem ((c : Thread nD τ).loc (ref a)) = m ((c : Thread nD τ).loc (ref a))⌝ : sProp 𝕄) := by
    intro a
    refine (sep_mono_left (bigSep_elim (Φ := fun a : A => (((c : Thread nD τ).loc (ref a)) ↦{q} m ((c : Thread nD τ).loc (ref a)) : sProp 𝕄)) (Finset.mem_univ a))).trans ?_
    iintro ⟨Hf, HSI⟩
    ihave %h := (SI_pointsTo_agree) $$ [HSI Hf]
    · isplitl [HSI] <;> iassumption
    ipureintro
    exact funext fun i => h i (Finset.mem_univ i)
  exact fun x hx a => h1 a x hx

/-- The part of an array that a row block is. -/
theorem row_set (b : Ref sig .tc) {s : Shape} {o z : Fin b.ty.shape.rank → Nat} {h : ∀ a, o a + z a ≤ b.ty.shape.size a}
    {q : Shape.Squeezes ⟨b.ty.shape.rank, z⟩ s} :
    (((Memref.whole b).slice (Rect.unit o z h) (fun _ => rfl)).squeeze s q).view.set = (Rect.unit o z h).set :=
  (View.set_reshape _ _).trans (View.set_slice_whole b _)

/-- Two row blocks of an array, seen without their unit axes, that do not meet. -/
theorem rows_apart (b : Ref sig .tc) {s s' : Shape} {o o' z z' : Fin b.ty.shape.rank → Nat} {h : ∀ a, o a + z a ≤ b.ty.shape.size a}
    {h' : ∀ a, o' a + z' a ≤ b.ty.shape.size a} {q : Shape.Squeezes ⟨b.ty.shape.rank, z⟩ s} {q' : Shape.Squeezes ⟨b.ty.shape.rank, z'⟩ s'}
    (a : Fin b.ty.shape.rank) (ho : o a + z a ≤ o' a ∨ o' a + z' a ≤ o a) :
    Disjoint (((Memref.whole b).slice (Rect.unit o z h) (fun _ => rfl)).squeeze s q).view.set
      (((Memref.whole b).slice (Rect.unit o' z' h') (fun _ => rfl)).squeeze s' q').view.set :=
  (Rect.unit_disjoint a ho).mono (le_of_eq (row_set b)) (le_of_eq (row_set b))

/-- Rows at different places are apart. -/
theorem row_apart {k k' : ℕ} (h : k ≠ k') : k + 1 ≤ k' ∨ k' + 1 ≤ k := by omega

/-- An array that is written by one copy only. -/
theorem deal_alone {ℓ : Loc nD τ sig} (f : Buf Val ℓ) (K : Finset (Idx ℓ)) :
    (ℓ ↦{fullShare} f : sProp 𝕄) ⊢ iprop(∃ g, ℓ ↦[K]{fullShare} g) := by
  refine (narrow f _ K).trans ?_
  show (ℓ ↦[K]{fullShare} f : sProp 𝕄) ⊢ iprop(∃ g, ℓ ↦[K]{fullShare} g)
  iintro H
  iexists f
  iexact H

end Idealize.ShloMosaic.Exch
-- ==== Proof.GatherRun.lean ====
/-
`gather_chips` as an exchange (Exch.lean): its tables read off the printed body, its arrays dealt to the copies, and the
run of the whole program, over any float.
-/
module

public import proofs.«01_k».proof.Proof.ExchMem

public import proofs.«01_k».proof.Proof.Gen.GatherIdeal.Skeleton
public import proofs.«01_k».proof.Proof.Gen.GatherIdeal.Launch

@[expose] public section

noncomputable section

namespace Cert.GatherIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Exch
open Cert.GatherIdeal Cert.GatherIdeal.Facts₀ Cert.GatherIdeal.Facts

set_option Elab.async false

variable {F : FTy → Type} [FloatOps F]
local notation "𝕄" => MT nD τ sig Unit (Elt F) ℕ (UU nD τ sig) ℕ

/-! ### The tables -/

/-- The shape and the element type of a copy of array `a`. -/
def shp : Fin 7 → Shape
  | 0 => S1024x1672
  | 1 => S512x1024
  | 2 => S1024x1408
  | 3 => S704x1024
  | 4 => S4x768
  | 5 => S4x384
  | 6 => S3x1408
def elt : Fin 7 → EltTy
  | 0 => .bf16
  | 1 => .bf16
  | 2 => .bf16
  | 3 => .bf16
  | 4 => .f32
  | 5 => .f32
  | 6 => .f32
/-- The arrays read and the arrays written. -/
def inp : Fin 7 → Ref sig .tc
  | 0 => main_arg0
  | 1 => main_arg1
  | 2 => main_arg2
  | 3 => main_arg3
  | 4 => main_arg4
  | 5 => main_arg5
  | 6 => main_arg6
def out : Fin 7 → Ref sig .tc
  | 0 => main_v1_0
  | 1 => main_v1_1
  | 2 => main_v1_2
  | 3 => main_v1_3
  | 4 => main_v1_4
  | 5 => main_v1_5
  | 6 => main_v1_6
/-- What device `c` reads of array `a` for its copy `j`. -/
def src (i : Fin 7 × Fin 3) (c : Dev nD) : Memref sig .tc .hbm (shp i.1) (elt i.1) :=
  match i with
  | (0, 0) => Memref.whole main_arg0
  | (0, 1) => Memref.whole main_arg0
  | (0, 2) => Memref.whole main_arg0
  | (1, 0) => Memref.whole main_arg1
  | (1, 1) => Memref.whole main_arg1
  | (1, 2) => Memref.whole main_arg1
  | (2, 0) => Memref.whole main_arg2
  | (2, 1) => Memref.whole main_arg2
  | (2, 2) => Memref.whole main_arg2
  | (3, 0) => Memref.whole main_arg3
  | (3, 1) => Memref.whole main_arg3
  | (3, 2) => Memref.whole main_arg3
  | (4, 0) => Memref.whole main_arg4
  | (4, 1) => Memref.whole main_arg4
  | (4, 2) => Memref.whole main_arg4
  | (5, 0) => Memref.whole main_arg5
  | (5, 1) => Memref.whole main_arg5
  | (5, 2) => Memref.whole main_arg5
  | (6, 0) => Memref.whole main_arg6
  | (6, 1) => Memref.whole main_arg6
  | (6, 2) => Memref.whole main_arg6
/-- Where a copy of device `c` from array `a` goes, on whatever device. -/
def dst (a : Fin 7) (c : Dev nD) : Memref sig .tc .hbm (shp a) (elt a) :=
  match a with
  | 0 => ((Memref.whole main_v1_0).slice (Rect.unit (s := S4x1024x1672) (k0_off1 c) S1x1024x1672.size (k0_off1_inb c)) (fun _ => rfl)).squeeze S1024x1672 squeezes_S1x1024x1672_S1024x1672
  | 1 => ((Memref.whole main_v1_1).slice (Rect.unit (s := S4x512x1024) (k0_off2 c) S1x512x1024.size (k0_off2_inb c)) (fun _ => rfl)).squeeze S512x1024 squeezes_S1x512x1024_S512x1024
  | 2 => ((Memref.whole main_v1_2).slice (Rect.unit (s := S4x1024x1408) (k0_off3 c) S1x1024x1408.size (k0_off3_inb c)) (fun _ => rfl)).squeeze S1024x1408 squeezes_S1x1024x1408_S1024x1408
  | 3 => ((Memref.whole main_v1_3).slice (Rect.unit (s := S4x704x1024) (k0_off4 c) S1x704x1024.size (k0_off4_inb c)) (fun _ => rfl)).squeeze S704x1024 squeezes_S1x704x1024_S704x1024
  | 4 => ((Memref.whole main_v1_4).slice (Rect.unit (s := S4x4x768) (k0_off5 c) S1x4x768.size (k0_off5_inb c)) (fun _ => rfl)).squeeze S4x768 squeezes_S1x4x768_S4x768
  | 5 => ((Memref.whole main_v1_5).slice (Rect.unit (s := S4x4x384) (k0_off6 c) S1x4x384.size (k0_off6_inb c)) (fun _ => rfl)).squeeze S4x384 squeezes_S1x4x384_S4x384
  | 6 => ((Memref.whole main_v1_6).slice (Rect.unit (s := S4x3x1408) (k0_off7 c) S1x3x1408.size (k0_off7_inb c)) (fun _ => rfl)).squeeze S3x1408 squeezes_S1x3x1408_S3x1408
/-- What device `c` copies within its own memory. -/
def lsrc (a : Fin 7) (c : Dev nD) : Memref sig .tc .hbm (shp a) (elt a) :=
  match a with
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
/-- The peer of a copy. -/
def peer (i : Fin 7 × Fin 3) (c : Dev nD) : Dev nD :=
  match i with
  | (0, 0) => ⟨k0_dev1 c, k0_dev1_lt c⟩
  | (0, 1) => ⟨k0_dev2 c, k0_dev2_lt c⟩
  | (0, 2) => ⟨k0_dev3 c, k0_dev3_lt c⟩
  | (1, 0) => ⟨k0_dev4 c, k0_dev4_lt c⟩
  | (1, 1) => ⟨k0_dev5 c, k0_dev5_lt c⟩
  | (1, 2) => ⟨k0_dev6 c, k0_dev6_lt c⟩
  | (2, 0) => ⟨k0_dev7 c, k0_dev7_lt c⟩
  | (2, 1) => ⟨k0_dev8 c, k0_dev8_lt c⟩
  | (2, 2) => ⟨k0_dev9 c, k0_dev9_lt c⟩
  | (3, 0) => ⟨k0_dev10 c, k0_dev10_lt c⟩
  | (3, 1) => ⟨k0_dev11 c, k0_dev11_lt c⟩
  | (3, 2) => ⟨k0_dev12 c, k0_dev12_lt c⟩
  | (4, 0) => ⟨k0_dev13 c, k0_dev13_lt c⟩
  | (4, 1) => ⟨k0_dev14 c, k0_dev14_lt c⟩
  | (4, 2) => ⟨k0_dev15 c, k0_dev15_lt c⟩
  | (5, 0) => ⟨k0_dev16 c, k0_dev16_lt c⟩
  | (5, 1) => ⟨k0_dev17 c, k0_dev17_lt c⟩
  | (5, 2) => ⟨k0_dev18 c, k0_dev18_lt c⟩
  | (6, 0) => ⟨k0_dev19 c, k0_dev19_lt c⟩
  | (6, 1) => ⟨k0_dev20 c, k0_dev20_lt c⟩
  | (6, 2) => ⟨k0_dev21 c, k0_dev21_lt c⟩
/-- The semaphores, in the order of the pool. -/
def sem : (Fin 7 × Fin 3) ⊕ (Fin 7 × Fin 3) ⊕ Fin 7 → DmaSem sig
  | .inl i => (⟨3 * i.1.val + i.2.val, by have := i.1.isLt; have := i.2.isLt; omega⟩ : Fin 49)
  | .inr (.inl i) => (⟨21 + (3 * i.1.val + i.2.val), by have := i.1.isLt; have := i.2.isLt; omega⟩ : Fin 49)
  | .inr (.inr a) => (⟨42 + a.val, by have := a.isLt; omega⟩ : Fin 49)
/-- What a copy of array `a` counts. -/
def cnt (a : Fin 7) : ℕ := (dst a 0).view.dmaCredit
def amt : (Fin 7 × Fin 3) ⊕ (Fin 7 × Fin 3) ⊕ Fin 7 → ℕ
  | .inl i => cnt i.1
  | .inr (.inl i) => cnt i.1
  | .inr (.inr a) => cnt a

theorem shp_pos : ∀ a : Fin 7, 0 < (shp a).numel := by decide +kernel
theorem sem_inj : Function.Injective sem := by decide +kernel
theorem peer_peer : ∀ i c, peer i (peer i c) = c := by decide +kernel
theorem dst_exact (a : Fin 7) (c : Dev nD) : (dst a c).view.WordExact :=
  match a with
  | 0 => ((Memref.isWhole_whole _).wordExact_slice rfl _ (k0_off1_wordsbf16 c)).reshape _ _
  | 1 => ((Memref.isWhole_whole _).wordExact_slice rfl _ (k0_off2_wordsbf16 c)).reshape _ _
  | 2 => ((Memref.isWhole_whole _).wordExact_slice rfl _ (k0_off3_wordsbf16 c)).reshape _ _
  | 3 => ((Memref.isWhole_whole _).wordExact_slice rfl _ (k0_off4_wordsbf16 c)).reshape _ _
  | 4 => (View.wordExact_bits rfl).reshape _ _
  | 5 => (View.wordExact_bits rfl).reshape _ _
  | 6 => (View.wordExact_bits rfl).reshape _ _
theorem src_exact (i : Fin 7 × Fin 3) (c : Dev nD) : (src i c).view.WordExact :=
  match i with
  | (0, 0) => (Memref.isWhole_whole _).wordExact
  | (0, 1) => (Memref.isWhole_whole _).wordExact
  | (0, 2) => (Memref.isWhole_whole _).wordExact
  | (1, 0) => (Memref.isWhole_whole _).wordExact
  | (1, 1) => (Memref.isWhole_whole _).wordExact
  | (1, 2) => (Memref.isWhole_whole _).wordExact
  | (2, 0) => (Memref.isWhole_whole _).wordExact
  | (2, 1) => (Memref.isWhole_whole _).wordExact
  | (2, 2) => (Memref.isWhole_whole _).wordExact
  | (3, 0) => (Memref.isWhole_whole _).wordExact
  | (3, 1) => (Memref.isWhole_whole _).wordExact
  | (3, 2) => (Memref.isWhole_whole _).wordExact
  | (4, 0) => (Memref.isWhole_whole _).wordExact
  | (4, 1) => (Memref.isWhole_whole _).wordExact
  | (4, 2) => (Memref.isWhole_whole _).wordExact
  | (5, 0) => (Memref.isWhole_whole _).wordExact
  | (5, 1) => (Memref.isWhole_whole _).wordExact
  | (5, 2) => (Memref.isWhole_whole _).wordExact
  | (6, 0) => (Memref.isWhole_whole _).wordExact
  | (6, 1) => (Memref.isWhole_whole _).wordExact
  | (6, 2) => (Memref.isWhole_whole _).wordExact
theorem lsrc_exact (a : Fin 7) (c : Dev nD) : (lsrc a c).view.WordExact :=
  match a with
  | 0 => (Memref.isWhole_whole _).wordExact
  | 1 => (Memref.isWhole_whole _).wordExact
  | 2 => (Memref.isWhole_whole _).wordExact
  | 3 => (Memref.isWhole_whole _).wordExact
  | 4 => (Memref.isWhole_whole _).wordExact
  | 5 => (Memref.isWhole_whole _).wordExact
  | 6 => (Memref.isWhole_whole _).wordExact
theorem dst_plain (a : Fin 7) (c : Dev nD) : (dst a c).view.ref.isScScratch = false :=
  match a with
  | 0 => rfl
  | 1 => rfl
  | 2 => rfl
  | 3 => rfl
  | 4 => rfl
  | 5 => rfl
  | 6 => rfl
theorem src_cnt (i : Fin 7 × Fin 3) (c : Dev nD) : (src i c).view.dmaCredit = cnt i.1 :=
  match i with
  | (0, 0) => rfl
  | (0, 1) => rfl
  | (0, 2) => rfl
  | (1, 0) => rfl
  | (1, 1) => rfl
  | (1, 2) => rfl
  | (2, 0) => rfl
  | (2, 1) => rfl
  | (2, 2) => rfl
  | (3, 0) => rfl
  | (3, 1) => rfl
  | (3, 2) => rfl
  | (4, 0) => rfl
  | (4, 1) => rfl
  | (4, 2) => rfl
  | (5, 0) => rfl
  | (5, 1) => rfl
  | (5, 2) => rfl
  | (6, 0) => rfl
  | (6, 1) => rfl
  | (6, 2) => rfl
theorem dst_cnt (a : Fin 7) (c : Dev nD) : (dst a c).view.dmaCredit = cnt a :=
  match a with
  | 0 => rfl
  | 1 => rfl
  | 2 => rfl
  | 3 => rfl
  | 4 => rfl
  | 5 => rfl
  | 6 => rfl
/-- The copies and the waits, in the order of the body. -/
def starts : List (Fin 7 ⊕ Fin 7 × Fin 3) :=
  [.inl 0, .inl 1, .inl 2, .inl 3, .inl 4, .inl 5, .inl 6, .inr (0, 0), .inr (0, 1), .inr (0, 2), .inr (1, 0), .inr (1, 1),
   .inr (1, 2), .inr (2, 0), .inr (2, 1), .inr (2, 2), .inr (3, 0), .inr (3, 1), .inr (3, 2), .inr (4, 0), .inr (4, 1), .inr (4, 2), .inr (5, 0), .inr (5, 1),
   .inr (5, 2), .inr (6, 0), .inr (6, 1), .inr (6, 2)]
def waits : List ((Fin 7 × Fin 3) ⊕ (Fin 7 × Fin 3) ⊕ Fin 7) :=
  [.inr (.inl (0, 0)), .inr (.inl (0, 1)), .inr (.inl (0, 2)), .inr (.inl (1, 0)), .inr (.inl (1, 1)), .inr (.inl (1, 2)), .inr (.inl (2, 0)), .inr (.inl (2, 1)), .inr (.inl (2, 2)), .inr (.inl (3, 0)), .inr (.inl (3, 1)), .inr (.inl (3, 2)),
   .inr (.inl (4, 0)), .inr (.inl (4, 1)), .inr (.inl (4, 2)), .inr (.inl (5, 0)), .inr (.inl (5, 1)), .inr (.inl (5, 2)), .inr (.inl (6, 0)), .inr (.inl (6, 1)), .inr (.inl (6, 2)), .inl (0, 0), .inl (0, 1), .inl (0, 2),
   .inl (1, 0), .inl (1, 1), .inl (1, 2), .inl (2, 0), .inl (2, 1), .inl (2, 2), .inl (3, 0), .inl (3, 1), .inl (3, 2), .inl (4, 0), .inl (4, 1), .inl (4, 2),
   .inl (5, 0), .inl (5, 1), .inl (5, 2), .inl (6, 0), .inl (6, 1), .inl (6, 2), .inr (.inr 0), .inr (.inr 1), .inr (.inr 2), .inr (.inr 3), .inr (.inr 4), .inr (.inr 5),
   .inr (.inr 6)]
theorem starts_nodup : starts.Nodup := by decide +kernel
theorem starts_all (x) : x ∈ starts :=
  have h : starts.toFinset = Finset.univ := by decide +kernel
  List.mem_toFinset.mp (h ▸ Finset.mem_univ x)
theorem waits_nodup : waits.Nodup := by decide +kernel
theorem waits_all (x) : x ∈ waits :=
  have h : waits.toFinset = Finset.univ := by decide +kernel
  List.mem_toFinset.mp (h ▸ Finset.mem_univ x)

/-- The exchange. -/
def plan : Plan nD τ sig where
  I := Fin 7 × Fin 3
  J := Fin 7
  sh i := shp i.1
  el i := elt i.1
  peer := peer
  src := src
  dst i := dst i.1
  lsh a := shp a
  lel a := elt a
  lsrc := lsrc
  ldst := dst
  sem := sem
  amt := amt
  share i := piece (i.2.val + 2)
  lshare _ := piece 1
  starts := starts
  waits := waits
  peer_peer := peer_peer
  sem_inj := sem_inj
  src_exact := src_exact
  dst_exact i := dst_exact i.1
  lsrc_exact := lsrc_exact
  ldst_exact := dst_exact
  scratch i := dst_plain i.1
  amt_pos k := match k with
    | .inl i => (dst i.1 0).view.dmaCredit_pos (shp_pos i.1)
    | .inr (.inl i) => (dst i.1 0).view.dmaCredit_pos (shp_pos i.1)
    | .inr (.inr a) => (dst a 0).view.dmaCredit_pos (shp_pos a)
  src_amt := src_cnt
  dst_send i := dst_cnt i.1
  dst_amt i := dst_cnt i.1
  ldst_amt := dst_cnt
  starts_nodup := starts_nodup
  starts_all := starts_all
  waits_nodup := waits_nodup
  waits_all := waits_all

/-! ### The body -/

set_option maxRecDepth 65536 in
theorem body_eq : cc0_gather_chips (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) cc0_scratch0 cc0_scratch1 cc0_scratch2
      = .op .deviceId fun d => plan.prog d := by
  chain_rfl

/-- The printed body runs the exchange. -/
theorem body_runs (𝒱₀ : Variants) (c : Dev nD) (R : sProp 𝕄) :
    wp frame (wpE (defs₀ (F := F)) 𝒱₀ (c : Thread nD τ) none) Set.univ (plan.prog c) (fun _ => R)
      ⊢ wp frame (wpE (defs₀ (F := F)) 𝒱₀ (c : Thread nD τ) none) Set.univ
          (cc0_gather_chips (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) cc0_scratch0 cc0_scratch1 cc0_scratch2) fun _ => R := by
  rw [body_eq, wp_deviceId]

/-! ### The arrays -/

/-- What a device reads, it holds whole; what it writes, too. -/
theorem arrays (c : Dev nD) (V : (b : Ref sig .tc) → Buf (Elt F) ((c : Thread nD τ).loc b)) :
    (unscopedBufs c V : sProp 𝕄)
      ⊢ iprop((bigSep Finset.univ fun a : Fin 7 => ((c : Thread nD τ).loc (inp a)) ↦{fullShare} V (inp a))
          ∗ bigSep Finset.univ fun a : Fin 7 => ((c : Thread nD τ).loc (out a)) ↦{fullShare} V (out a)) := by
  rw [bigSep_univ_eq_bigSepL [0, 1, 2, 3, 4, 5, 6] (by decide) (by decide), bigSep_univ_eq_bigSepL [0, 1, 2, 3, 4, 5, 6] (by decide) (by decide)]
  unfold unscopedBufs
  rw [bigSep_eq_bigSepL_of_eq [main_arg0, main_arg1, main_arg2, main_arg3, main_arg4, main_arg5, main_arg6, main_v1_0, main_v1_1, main_v1_2, main_v1_3, main_v1_4, main_v1_5, main_v1_6] (by decide) (by decide)]
  exact Entails.of_eq (bigSepL_append [main_arg0, main_arg1, main_arg2, main_arg3, main_arg4, main_arg5, main_arg6] [main_v1_0, main_v1_1, main_v1_2, main_v1_3, main_v1_4, main_v1_5, main_v1_6] _)

/-- The row of an array that is written that holds what device `c` sends. -/
def slot (c : Dev nD) : ℕ := 2 * (c.val / 4) + ((c.val / 2) % 2)
theorem slot_peer : ∀ (i : Fin 7 × Fin 3) (c : Dev nD), slot c ≠ slot (peer i c) := by decide +kernel
theorem slot_peers : ∀ (a : Fin 7) (c : Dev nD) (j j' : Fin 3), j ≠ j' → slot (peer (a, j) c) ≠ slot (peer (a, j') c) := by decide +kernel

theorem at_0 (c : Dev nD) : k0_off1 c 0 = slot c := congrFun (Gen.k0_off1_eq c) 0
theorem at_1 (c : Dev nD) : k0_off2 c 0 = slot c := congrFun (Gen.k0_off2_eq c) 0
theorem at_2 (c : Dev nD) : k0_off3 c 0 = slot c := congrFun (Gen.k0_off3_eq c) 0
theorem at_3 (c : Dev nD) : k0_off4 c 0 = slot c := congrFun (Gen.k0_off4_eq c) 0
theorem at_4 (c : Dev nD) : k0_off5 c 0 = slot c := congrFun (Gen.k0_off5_eq c) 0
theorem at_5 (c : Dev nD) : k0_off6 c 0 = slot c := congrFun (Gen.k0_off6_eq c) 0
theorem at_6 (c : Dev nD) : k0_off7 c 0 = slot c := congrFun (Gen.k0_off7_eq c) 0
theorem apart_0 {c c' : Dev nD} (h : slot c ≠ slot c') : Disjoint (dst 0 c).view.set (dst 0 c').view.set :=
  rows_apart main_v1_0 (q := squeezes_S1x1024x1672_S1024x1672) (q' := squeezes_S1x1024x1672_S1024x1672) (0 : Fin 3) (by rw [at_0 c, at_0 c']; exact row_apart h)
theorem apart_1 {c c' : Dev nD} (h : slot c ≠ slot c') : Disjoint (dst 1 c).view.set (dst 1 c').view.set :=
  rows_apart main_v1_1 (q := squeezes_S1x512x1024_S512x1024) (q' := squeezes_S1x512x1024_S512x1024) (0 : Fin 3) (by rw [at_1 c, at_1 c']; exact row_apart h)
theorem apart_2 {c c' : Dev nD} (h : slot c ≠ slot c') : Disjoint (dst 2 c).view.set (dst 2 c').view.set :=
  rows_apart main_v1_2 (q := squeezes_S1x1024x1408_S1024x1408) (q' := squeezes_S1x1024x1408_S1024x1408) (0 : Fin 3) (by rw [at_2 c, at_2 c']; exact row_apart h)
theorem apart_3 {c c' : Dev nD} (h : slot c ≠ slot c') : Disjoint (dst 3 c).view.set (dst 3 c').view.set :=
  rows_apart main_v1_3 (q := squeezes_S1x704x1024_S704x1024) (q' := squeezes_S1x704x1024_S704x1024) (0 : Fin 3) (by rw [at_3 c, at_3 c']; exact row_apart h)
theorem apart_4 {c c' : Dev nD} (h : slot c ≠ slot c') : Disjoint (dst 4 c).view.set (dst 4 c').view.set :=
  rows_apart main_v1_4 (q := squeezes_S1x4x768_S4x768) (q' := squeezes_S1x4x768_S4x768) (0 : Fin 3) (by rw [at_4 c, at_4 c']; exact row_apart h)
theorem apart_5 {c c' : Dev nD} (h : slot c ≠ slot c') : Disjoint (dst 5 c).view.set (dst 5 c').view.set :=
  rows_apart main_v1_5 (q := squeezes_S1x4x384_S4x384) (q' := squeezes_S1x4x384_S4x384) (0 : Fin 3) (by rw [at_5 c, at_5 c']; exact row_apart h)
theorem apart_6 {c c' : Dev nD} (h : slot c ≠ slot c') : Disjoint (dst 6 c).view.set (dst 6 c').view.set :=
  rows_apart main_v1_6 (q := squeezes_S1x3x1408_S3x1408) (q' := squeezes_S1x3x1408_S3x1408) (0 : Fin 3) (by rw [at_6 c, at_6 c']; exact row_apart h)

variable (m : (ℓ : Loc nD τ sig) → Buf (Elt F) ℓ)

/-! What the copies take, read off the tables. -/
def sset_0 (c : Dev nD) (j : Fin 3) : Finset (Idx ((c : Thread nD τ).loc main_arg0)) :=
  match j with | 0 => (src (0, 0) c).view.set | 1 => (src (0, 1) c).view.set | 2 => (src (0, 2) c).view.set
def sset_1 (c : Dev nD) (j : Fin 3) : Finset (Idx ((c : Thread nD τ).loc main_arg1)) :=
  match j with | 0 => (src (1, 0) c).view.set | 1 => (src (1, 1) c).view.set | 2 => (src (1, 2) c).view.set
def sset_2 (c : Dev nD) (j : Fin 3) : Finset (Idx ((c : Thread nD τ).loc main_arg2)) :=
  match j with | 0 => (src (2, 0) c).view.set | 1 => (src (2, 1) c).view.set | 2 => (src (2, 2) c).view.set
def sset_3 (c : Dev nD) (j : Fin 3) : Finset (Idx ((c : Thread nD τ).loc main_arg3)) :=
  match j with | 0 => (src (3, 0) c).view.set | 1 => (src (3, 1) c).view.set | 2 => (src (3, 2) c).view.set
def sset_4 (c : Dev nD) (j : Fin 3) : Finset (Idx ((c : Thread nD τ).loc main_arg4)) :=
  match j with | 0 => (src (4, 0) c).view.set | 1 => (src (4, 1) c).view.set | 2 => (src (4, 2) c).view.set
def sset_5 (c : Dev nD) (j : Fin 3) : Finset (Idx ((c : Thread nD τ).loc main_arg5)) :=
  match j with | 0 => (src (5, 0) c).view.set | 1 => (src (5, 1) c).view.set | 2 => (src (5, 2) c).view.set
def sset_6 (c : Dev nD) (j : Fin 3) : Finset (Idx ((c : Thread nD τ).loc main_arg6)) :=
  match j with | 0 => (src (6, 0) c).view.set | 1 => (src (6, 1) c).view.set | 2 => (src (6, 2) c).view.set
theorem src_at_0_0 (c : Dev nD) : plan.srcPts m (0, 0) c
    = (((c : Thread nD τ).loc (inp 0)) ↦[sset_0 c 0]{piece ((0 : Fin 3).val + 2)} m ((c : Thread nD τ).loc (inp 0)) : sProp 𝕄) := rfl
theorem src_at_0_1 (c : Dev nD) : plan.srcPts m (0, 1) c
    = (((c : Thread nD τ).loc (inp 0)) ↦[sset_0 c 1]{piece ((1 : Fin 3).val + 2)} m ((c : Thread nD τ).loc (inp 0)) : sProp 𝕄) := rfl
theorem src_at_0_2 (c : Dev nD) : plan.srcPts m (0, 2) c
    = (((c : Thread nD τ).loc (inp 0)) ↦[sset_0 c 2]{piece ((2 : Fin 3).val + 2)} m ((c : Thread nD τ).loc (inp 0)) : sProp 𝕄) := rfl
theorem lsrc_at_0 (c : Dev nD) : plan.lsrcPts m (0 : Fin 7) c
    = (((c : Thread nD τ).loc (inp 0)) ↦[(lsrc 0 c).view.set]{piece 1} m ((c : Thread nD τ).loc (inp 0)) : sProp 𝕄) := rfl
theorem ldst_at_0 (c : Dev nD) : plan.ldstAny (0 : Fin 7) c
    = (iprop(∃ f, ((c : Thread nD τ).loc (out 0)) ↦[(dst 0 c).view.set]{fullShare} f) : sProp 𝕄) := rfl
theorem dst_at_0 (j : Fin 3) (c d : Dev nD) : plan.dstAny (0, j) c d
    = (iprop(∃ f, ((d : Thread nD τ).loc (out 0)) ↦[(dst 0 c).view.set]{fullShare} f) : sProp 𝕄) := rfl
theorem src_at_1_0 (c : Dev nD) : plan.srcPts m (1, 0) c
    = (((c : Thread nD τ).loc (inp 1)) ↦[sset_1 c 0]{piece ((0 : Fin 3).val + 2)} m ((c : Thread nD τ).loc (inp 1)) : sProp 𝕄) := rfl
theorem src_at_1_1 (c : Dev nD) : plan.srcPts m (1, 1) c
    = (((c : Thread nD τ).loc (inp 1)) ↦[sset_1 c 1]{piece ((1 : Fin 3).val + 2)} m ((c : Thread nD τ).loc (inp 1)) : sProp 𝕄) := rfl
theorem src_at_1_2 (c : Dev nD) : plan.srcPts m (1, 2) c
    = (((c : Thread nD τ).loc (inp 1)) ↦[sset_1 c 2]{piece ((2 : Fin 3).val + 2)} m ((c : Thread nD τ).loc (inp 1)) : sProp 𝕄) := rfl
theorem lsrc_at_1 (c : Dev nD) : plan.lsrcPts m (1 : Fin 7) c
    = (((c : Thread nD τ).loc (inp 1)) ↦[(lsrc 1 c).view.set]{piece 1} m ((c : Thread nD τ).loc (inp 1)) : sProp 𝕄) := rfl
theorem ldst_at_1 (c : Dev nD) : plan.ldstAny (1 : Fin 7) c
    = (iprop(∃ f, ((c : Thread nD τ).loc (out 1)) ↦[(dst 1 c).view.set]{fullShare} f) : sProp 𝕄) := rfl
theorem dst_at_1 (j : Fin 3) (c d : Dev nD) : plan.dstAny (1, j) c d
    = (iprop(∃ f, ((d : Thread nD τ).loc (out 1)) ↦[(dst 1 c).view.set]{fullShare} f) : sProp 𝕄) := rfl
theorem src_at_2_0 (c : Dev nD) : plan.srcPts m (2, 0) c
    = (((c : Thread nD τ).loc (inp 2)) ↦[sset_2 c 0]{piece ((0 : Fin 3).val + 2)} m ((c : Thread nD τ).loc (inp 2)) : sProp 𝕄) := rfl
theorem src_at_2_1 (c : Dev nD) : plan.srcPts m (2, 1) c
    = (((c : Thread nD τ).loc (inp 2)) ↦[sset_2 c 1]{piece ((1 : Fin 3).val + 2)} m ((c : Thread nD τ).loc (inp 2)) : sProp 𝕄) := rfl
theorem src_at_2_2 (c : Dev nD) : plan.srcPts m (2, 2) c
    = (((c : Thread nD τ).loc (inp 2)) ↦[sset_2 c 2]{piece ((2 : Fin 3).val + 2)} m ((c : Thread nD τ).loc (inp 2)) : sProp 𝕄) := rfl
theorem lsrc_at_2 (c : Dev nD) : plan.lsrcPts m (2 : Fin 7) c
    = (((c : Thread nD τ).loc (inp 2)) ↦[(lsrc 2 c).view.set]{piece 1} m ((c : Thread nD τ).loc (inp 2)) : sProp 𝕄) := rfl
theorem ldst_at_2 (c : Dev nD) : plan.ldstAny (2 : Fin 7) c
    = (iprop(∃ f, ((c : Thread nD τ).loc (out 2)) ↦[(dst 2 c).view.set]{fullShare} f) : sProp 𝕄) := rfl
theorem dst_at_2 (j : Fin 3) (c d : Dev nD) : plan.dstAny (2, j) c d
    = (iprop(∃ f, ((d : Thread nD τ).loc (out 2)) ↦[(dst 2 c).view.set]{fullShare} f) : sProp 𝕄) := rfl
theorem src_at_3_0 (c : Dev nD) : plan.srcPts m (3, 0) c
    = (((c : Thread nD τ).loc (inp 3)) ↦[sset_3 c 0]{piece ((0 : Fin 3).val + 2)} m ((c : Thread nD τ).loc (inp 3)) : sProp 𝕄) := rfl
theorem src_at_3_1 (c : Dev nD) : plan.srcPts m (3, 1) c
    = (((c : Thread nD τ).loc (inp 3)) ↦[sset_3 c 1]{piece ((1 : Fin 3).val + 2)} m ((c : Thread nD τ).loc (inp 3)) : sProp 𝕄) := rfl
theorem src_at_3_2 (c : Dev nD) : plan.srcPts m (3, 2) c
    = (((c : Thread nD τ).loc (inp 3)) ↦[sset_3 c 2]{piece ((2 : Fin 3).val + 2)} m ((c : Thread nD τ).loc (inp 3)) : sProp 𝕄) := rfl
theorem lsrc_at_3 (c : Dev nD) : plan.lsrcPts m (3 : Fin 7) c
    = (((c : Thread nD τ).loc (inp 3)) ↦[(lsrc 3 c).view.set]{piece 1} m ((c : Thread nD τ).loc (inp 3)) : sProp 𝕄) := rfl
theorem ldst_at_3 (c : Dev nD) : plan.ldstAny (3 : Fin 7) c
    = (iprop(∃ f, ((c : Thread nD τ).loc (out 3)) ↦[(dst 3 c).view.set]{fullShare} f) : sProp 𝕄) := rfl
theorem dst_at_3 (j : Fin 3) (c d : Dev nD) : plan.dstAny (3, j) c d
    = (iprop(∃ f, ((d : Thread nD τ).loc (out 3)) ↦[(dst 3 c).view.set]{fullShare} f) : sProp 𝕄) := rfl
theorem src_at_4_0 (c : Dev nD) : plan.srcPts m (4, 0) c
    = (((c : Thread nD τ).loc (inp 4)) ↦[sset_4 c 0]{piece ((0 : Fin 3).val + 2)} m ((c : Thread nD τ).loc (inp 4)) : sProp 𝕄) := rfl
theorem src_at_4_1 (c : Dev nD) : plan.srcPts m (4, 1) c
    = (((c : Thread nD τ).loc (inp 4)) ↦[sset_4 c 1]{piece ((1 : Fin 3).val + 2)} m ((c : Thread nD τ).loc (inp 4)) : sProp 𝕄) := rfl
theorem src_at_4_2 (c : Dev nD) : plan.srcPts m (4, 2) c
    = (((c : Thread nD τ).loc (inp 4)) ↦[sset_4 c 2]{piece ((2 : Fin 3).val + 2)} m ((c : Thread nD τ).loc (inp 4)) : sProp 𝕄) := rfl
theorem lsrc_at_4 (c : Dev nD) : plan.lsrcPts m (4 : Fin 7) c
    = (((c : Thread nD τ).loc (inp 4)) ↦[(lsrc 4 c).view.set]{piece 1} m ((c : Thread nD τ).loc (inp 4)) : sProp 𝕄) := rfl
theorem ldst_at_4 (c : Dev nD) : plan.ldstAny (4 : Fin 7) c
    = (iprop(∃ f, ((c : Thread nD τ).loc (out 4)) ↦[(dst 4 c).view.set]{fullShare} f) : sProp 𝕄) := rfl
theorem dst_at_4 (j : Fin 3) (c d : Dev nD) : plan.dstAny (4, j) c d
    = (iprop(∃ f, ((d : Thread nD τ).loc (out 4)) ↦[(dst 4 c).view.set]{fullShare} f) : sProp 𝕄) := rfl
theorem src_at_5_0 (c : Dev nD) : plan.srcPts m (5, 0) c
    = (((c : Thread nD τ).loc (inp 5)) ↦[sset_5 c 0]{piece ((0 : Fin 3).val + 2)} m ((c : Thread nD τ).loc (inp 5)) : sProp 𝕄) := rfl
theorem src_at_5_1 (c : Dev nD) : plan.srcPts m (5, 1) c
    = (((c : Thread nD τ).loc (inp 5)) ↦[sset_5 c 1]{piece ((1 : Fin 3).val + 2)} m ((c : Thread nD τ).loc (inp 5)) : sProp 𝕄) := rfl
theorem src_at_5_2 (c : Dev nD) : plan.srcPts m (5, 2) c
    = (((c : Thread nD τ).loc (inp 5)) ↦[sset_5 c 2]{piece ((2 : Fin 3).val + 2)} m ((c : Thread nD τ).loc (inp 5)) : sProp 𝕄) := rfl
theorem lsrc_at_5 (c : Dev nD) : plan.lsrcPts m (5 : Fin 7) c
    = (((c : Thread nD τ).loc (inp 5)) ↦[(lsrc 5 c).view.set]{piece 1} m ((c : Thread nD τ).loc (inp 5)) : sProp 𝕄) := rfl
theorem ldst_at_5 (c : Dev nD) : plan.ldstAny (5 : Fin 7) c
    = (iprop(∃ f, ((c : Thread nD τ).loc (out 5)) ↦[(dst 5 c).view.set]{fullShare} f) : sProp 𝕄) := rfl
theorem dst_at_5 (j : Fin 3) (c d : Dev nD) : plan.dstAny (5, j) c d
    = (iprop(∃ f, ((d : Thread nD τ).loc (out 5)) ↦[(dst 5 c).view.set]{fullShare} f) : sProp 𝕄) := rfl
theorem src_at_6_0 (c : Dev nD) : plan.srcPts m (6, 0) c
    = (((c : Thread nD τ).loc (inp 6)) ↦[sset_6 c 0]{piece ((0 : Fin 3).val + 2)} m ((c : Thread nD τ).loc (inp 6)) : sProp 𝕄) := rfl
theorem src_at_6_1 (c : Dev nD) : plan.srcPts m (6, 1) c
    = (((c : Thread nD τ).loc (inp 6)) ↦[sset_6 c 1]{piece ((1 : Fin 3).val + 2)} m ((c : Thread nD τ).loc (inp 6)) : sProp 𝕄) := rfl
theorem src_at_6_2 (c : Dev nD) : plan.srcPts m (6, 2) c
    = (((c : Thread nD τ).loc (inp 6)) ↦[sset_6 c 2]{piece ((2 : Fin 3).val + 2)} m ((c : Thread nD τ).loc (inp 6)) : sProp 𝕄) := rfl
theorem lsrc_at_6 (c : Dev nD) : plan.lsrcPts m (6 : Fin 7) c
    = (((c : Thread nD τ).loc (inp 6)) ↦[(lsrc 6 c).view.set]{piece 1} m ((c : Thread nD τ).loc (inp 6)) : sProp 𝕄) := rfl
theorem ldst_at_6 (c : Dev nD) : plan.ldstAny (6 : Fin 7) c
    = (iprop(∃ f, ((c : Thread nD τ).loc (out 6)) ↦[(dst 6 c).view.set]{fullShare} f) : sProp 𝕄) := rfl
theorem dst_at_6 (j : Fin 3) (c d : Dev nD) : plan.dstAny (6, j) c d
    = (iprop(∃ f, ((d : Thread nD τ).loc (out 6)) ↦[(dst 6 c).view.set]{fullShare} f) : sProp 𝕄) := rfl

/-- An array that is read, dealt to the copies that read it. -/
theorem deal_in (c : Dev nD) (a : Fin 7) : (((c : Thread nD τ).loc (inp a)) ↦{fullShare} m ((c : Thread nD τ).loc (inp a)) : sProp 𝕄)
    ⊢ iprop((((c : Thread nD τ).loc (inp a)) ↦{piece 0} m ((c : Thread nD τ).loc (inp a))) ∗ plan.lsrcPts m a c
        ∗ bigSep Finset.univ fun j : Fin 3 => plan.srcPts m (a, j) c) :=
  match a with
  | 0 => (deal_source (m ((c : Thread nD τ).loc (inp 0))) (lsrc 0 c).view.set (sset_0 c)).trans (sep_mono_right (BI.sep_mono (Entails.of_eq (lsrc_at_0 m c).symm) (bigSep_mono fun j _ => match j with | 0 => Entails.of_eq (src_at_0_0 m c).symm | 1 => Entails.of_eq (src_at_0_1 m c).symm | 2 => Entails.of_eq (src_at_0_2 m c).symm)))
  | 1 => (deal_source (m ((c : Thread nD τ).loc (inp 1))) (lsrc 1 c).view.set (sset_1 c)).trans (sep_mono_right (BI.sep_mono (Entails.of_eq (lsrc_at_1 m c).symm) (bigSep_mono fun j _ => match j with | 0 => Entails.of_eq (src_at_1_0 m c).symm | 1 => Entails.of_eq (src_at_1_1 m c).symm | 2 => Entails.of_eq (src_at_1_2 m c).symm)))
  | 2 => (deal_source (m ((c : Thread nD τ).loc (inp 2))) (lsrc 2 c).view.set (sset_2 c)).trans (sep_mono_right (BI.sep_mono (Entails.of_eq (lsrc_at_2 m c).symm) (bigSep_mono fun j _ => match j with | 0 => Entails.of_eq (src_at_2_0 m c).symm | 1 => Entails.of_eq (src_at_2_1 m c).symm | 2 => Entails.of_eq (src_at_2_2 m c).symm)))
  | 3 => (deal_source (m ((c : Thread nD τ).loc (inp 3))) (lsrc 3 c).view.set (sset_3 c)).trans (sep_mono_right (BI.sep_mono (Entails.of_eq (lsrc_at_3 m c).symm) (bigSep_mono fun j _ => match j with | 0 => Entails.of_eq (src_at_3_0 m c).symm | 1 => Entails.of_eq (src_at_3_1 m c).symm | 2 => Entails.of_eq (src_at_3_2 m c).symm)))
  | 4 => (deal_source (m ((c : Thread nD τ).loc (inp 4))) (lsrc 4 c).view.set (sset_4 c)).trans (sep_mono_right (BI.sep_mono (Entails.of_eq (lsrc_at_4 m c).symm) (bigSep_mono fun j _ => match j with | 0 => Entails.of_eq (src_at_4_0 m c).symm | 1 => Entails.of_eq (src_at_4_1 m c).symm | 2 => Entails.of_eq (src_at_4_2 m c).symm)))
  | 5 => (deal_source (m ((c : Thread nD τ).loc (inp 5))) (lsrc 5 c).view.set (sset_5 c)).trans (sep_mono_right (BI.sep_mono (Entails.of_eq (lsrc_at_5 m c).symm) (bigSep_mono fun j _ => match j with | 0 => Entails.of_eq (src_at_5_0 m c).symm | 1 => Entails.of_eq (src_at_5_1 m c).symm | 2 => Entails.of_eq (src_at_5_2 m c).symm)))
  | 6 => (deal_source (m ((c : Thread nD τ).loc (inp 6))) (lsrc 6 c).view.set (sset_6 c)).trans (sep_mono_right (BI.sep_mono (Entails.of_eq (lsrc_at_6 m c).symm) (bigSep_mono fun j _ => match j with | 0 => Entails.of_eq (src_at_6_0 m c).symm | 1 => Entails.of_eq (src_at_6_1 m c).symm | 2 => Entails.of_eq (src_at_6_2 m c).symm)))

/-- An array that is written, dealt to the copies that write it. -/
theorem deal_out (c : Dev nD) (a : Fin 7) : (((c : Thread nD τ).loc (out a)) ↦{fullShare} m ((c : Thread nD τ).loc (out a)) : sProp 𝕄)
    ⊢ iprop(plan.ldstAny a c ∗ bigSep Finset.univ fun j : Fin 3 => plan.dstAny (a, j) (plan.peer (a, j) c) c) :=
  match a with
  | 0 => (deal_target (m ((c : Thread nD τ).loc (out 0))) (dst 0 c).view.set (fun j : Fin 3 => (dst 0 (peer (0, j) c)).view.set)
      (fun j => apart_0 (slot_peer (0, j) c)) fun j j' h => apart_0 (slot_peers 0 c j j' h)).trans
      (BI.sep_mono (Entails.of_eq (ldst_at_0 c).symm) (bigSep_mono fun j _ => Entails.of_eq (dst_at_0 j (peer (0, j) c) c).symm))
  | 1 => (deal_target (m ((c : Thread nD τ).loc (out 1))) (dst 1 c).view.set (fun j : Fin 3 => (dst 1 (peer (1, j) c)).view.set)
      (fun j => apart_1 (slot_peer (1, j) c)) fun j j' h => apart_1 (slot_peers 1 c j j' h)).trans
      (BI.sep_mono (Entails.of_eq (ldst_at_1 c).symm) (bigSep_mono fun j _ => Entails.of_eq (dst_at_1 j (peer (1, j) c) c).symm))
  | 2 => (deal_target (m ((c : Thread nD τ).loc (out 2))) (dst 2 c).view.set (fun j : Fin 3 => (dst 2 (peer (2, j) c)).view.set)
      (fun j => apart_2 (slot_peer (2, j) c)) fun j j' h => apart_2 (slot_peers 2 c j j' h)).trans
      (BI.sep_mono (Entails.of_eq (ldst_at_2 c).symm) (bigSep_mono fun j _ => Entails.of_eq (dst_at_2 j (peer (2, j) c) c).symm))
  | 3 => (deal_target (m ((c : Thread nD τ).loc (out 3))) (dst 3 c).view.set (fun j : Fin 3 => (dst 3 (peer (3, j) c)).view.set)
      (fun j => apart_3 (slot_peer (3, j) c)) fun j j' h => apart_3 (slot_peers 3 c j j' h)).trans
      (BI.sep_mono (Entails.of_eq (ldst_at_3 c).symm) (bigSep_mono fun j _ => Entails.of_eq (dst_at_3 j (peer (3, j) c) c).symm))
  | 4 => (deal_target (m ((c : Thread nD τ).loc (out 4))) (dst 4 c).view.set (fun j : Fin 3 => (dst 4 (peer (4, j) c)).view.set)
      (fun j => apart_4 (slot_peer (4, j) c)) fun j j' h => apart_4 (slot_peers 4 c j j' h)).trans
      (BI.sep_mono (Entails.of_eq (ldst_at_4 c).symm) (bigSep_mono fun j _ => Entails.of_eq (dst_at_4 j (peer (4, j) c) c).symm))
  | 5 => (deal_target (m ((c : Thread nD τ).loc (out 5))) (dst 5 c).view.set (fun j : Fin 3 => (dst 5 (peer (5, j) c)).view.set)
      (fun j => apart_5 (slot_peer (5, j) c)) fun j j' h => apart_5 (slot_peers 5 c j j' h)).trans
      (BI.sep_mono (Entails.of_eq (ldst_at_5 c).symm) (bigSep_mono fun j _ => Entails.of_eq (dst_at_5 j (peer (5, j) c) c).symm))
  | 6 => (deal_target (m ((c : Thread nD τ).loc (out 6))) (dst 6 c).view.set (fun j : Fin 3 => (dst 6 (peer (6, j) c)).view.set)
      (fun j => apart_6 (slot_peer (6, j) c)) fun j j' h => apart_6 (slot_peers 6 c j j' h)).trans
      (BI.sep_mono (Entails.of_eq (ldst_at_6 c).symm) (bigSep_mono fun j _ => Entails.of_eq (dst_at_6 j (peer (6, j) c) c).symm))

/-- What a device keeps for itself: a share of every array that is read. -/
def keep (c : Dev nD) : sProp 𝕄 :=
  bigSep Finset.univ fun a : Fin 7 => ((c : Thread nD τ).loc (inp a)) ↦{piece 0} m ((c : Thread nD τ).loc (inp a))

theorem split (c : Dev nD) : (unscopedBufs c (fun b => m ((c.tc : Thread nD τ).loc b)) : sProp 𝕄) ⊢ iprop(plan.brings m c ∗ keep m c) :=
  (arrays c fun b => m ((c.tc : Thread nD τ).loc b)).trans (regroup (A := Fin 7) (B := Fin 3) _ _ _ _ _ _ _ (deal_in m c) (deal_out m c))

/-! ### The run -/

instance : ∀ q, IsEmpty (Fin (Pipeline.pin (pcfgs (F := F)) (fun p => (cfgs p).toPCfg_adm) q).W) := fun _ => inferInstanceAs (IsEmpty (Fin 0))

set_option maxRecDepth 65536 in
theorem own_sems : Pipeline.OwnSemFacts (cfg0.spec) fun k : (Fin 7 × Fin 3) ⊕ (Fin 7 × Fin 3) ⊕ Fin 7 => (SemLoc.dma (sem k) : SemLoc sig) := by decide +kernel

set_option maxRecDepth 65536 in
theorem all_scoped : ∀ sm : SemLoc sig, sm.isScoped .tc = true := by decide +kernel

set_option maxRecDepth 65536 in
/-- The whole program: every copy has landed, the arrays that are read are unchanged, every semaphore counts zero. -/
theorem run_main (g : Dev nD → PrngReg) :
    θ_run (defs (F := F)) (onTc (τ := τ) (main (F := F))) ⟨m, fun _ => 0, g⟩ fun r =>
      (∀ c : Dev nD, plan.Landed m c r.2.mem ∧ ∀ a, r.2.mem ((c : Thread nD τ).loc (inp a)) = m ((c : Thread nD τ).loc (inp a)))
        ∧ r.2.sem = fun _ => 0 :=
  θ_run_exchange (pcs := pcfgs (F := F)) (a := fun p => (cfgs p).toPCfg_adm) plan m (0 : Fin 1) defs₀ Variants.none (keep m) Gen.cellOf_inj Gen.winFacts0.to₀
    Gen.N_0 own_sems (fun _ _ c R => body_runs _ c R)
    (fun _ => Entails.of_eq (by unfold Pipeline.prefHeld; exact (BI.bigSep_empty (Φ := _)).symm))
    (fun c => Entails.of_eq (Gen.scopedRest0_eq c).symm) g main (fun _ => rfl) (split m)
    (fun c μ => ∀ a, μ ((c : Thread nD τ).loc (inp a)) = m ((c : Thread nD τ).loc (inp a)))
    (fun c s' => read_kept inp c (piece 0) m s')
    fun s h hs => ⟨h, sem_eq_zero_of_scoped all_scoped hs⟩

end Cert.GatherIdeal.Own

end
-- ==== Proof.Rows.lean ====
/-
Where the elements of an exchanged array lie, by coordinates: a row of a stack seen without its unit axis, a stretch of the
rows of every block, and the host's reshapes, transposes and pairings of stacks, for any sizes.
-/
module

public import Idealize.ShloMosaic.Lib.Pipeline.Value
public import Idealize.ShloMosaic.Lib.Layout
public import Idealize.ShloMosaic.Lib.ValueIdxRank6
public import Mathlib.Tactic.Ring

@[expose] public section

noncomputable section

namespace Idealize.ShloMosaic.Rows

open Idealize.ShloMosaic Idealize.ShloMosaic.ValueIdx

variable {α : Type}

/-- The rank-3 shape of given sizes; -/
abbrev S3 (n p q : ℕ) : Shape := ⟨3, ![n, p, q]⟩
/-- and the rank-2 one. -/
abbrev S2 (p q : ℕ) : Shape := ⟨2, ![p, q]⟩

/-- Element `(i, j)` of row `k` of a stack, seen without its unit axis, is element `(k, i, j)` of the stack. -/
theorem row_idx {n p q : ℕ} {o : Fin 3 → ℕ} (h : ∀ a, o a + (S3 1 p q).size a ≤ (S3 n p q).size a)
    (hq : (S2 p q).numel = (S3 1 p q).numel) (k : Fin n) (ho : o 0 = k.val) (i : Fin p) (j : Fin q) :
    (Rect.unit (s := S3 n p q) o (S3 1 p q).size h).emb (Shape.reshapeEquiv hq (ix2 i j)) = ix3 k i j := by
  have h1 : o 1 = 0 := by have : o 1 + p ≤ p := h 1; omega
  have h2 : o 2 = 0 := by have : o 2 + q ≤ q := h 2; omega
  have e : Shape.reshapeEquiv hq (ix2 i j) = ix3 (⟨0, Nat.one_pos⟩ : Fin 1) i j :=
    Shape.reshapeEquiv_eq_of_rowMajor hq (by
      rw [Shape.rowMajor_val_three, Shape.rowMajor_val_two]
      show ((0 * p + i.val) * q + j.val) = i.val * q + j.val
      simp only [Nat.zero_mul, Nat.zero_add])
  rw [e]
  funext a
  refine Fin.ext ?_
  match a with
  | ⟨0, _⟩ => show o 0 + 1 * 0 = k.val; omega
  | ⟨1, _⟩ => show o 1 + 1 * i.val = i.val; omega
  | ⟨2, _⟩ => show o 2 + 1 * j.val = j.val; omega

/-- Element `(b, i, j)` of a stretch of the rows of every block of a stack, the stretch starting at row `u`. -/
theorem stretch_idx {n p r q : ℕ} {o : Fin 3 → ℕ} (h : ∀ a, o a + (S3 n r q).size a ≤ (S3 n p q).size a)
    (b : Fin n) (i : Fin r) (j : Fin q) (k : Fin p) (hk : o 1 + i.val = k.val) :
    (Rect.unit (s := S3 n p q) o (S3 n r q).size h).emb (ix3 b i j) = ix3 b k j := by
  have h1 : o 0 = 0 := by have : o 0 + n ≤ n := h 0; omega
  have h2 : o 2 = 0 := by have : o 2 + q ≤ q := h 2; omega
  funext a
  refine Fin.ext ?_
  match a with
  | ⟨0, _⟩ => show o 0 + 1 * b.val = b.val; omega
  | ⟨1, _⟩ => show o 1 + 1 * i.val = k.val; omega
  | ⟨2, _⟩ => show o 2 + 1 * j.val = j.val; omega

/-! ## The host's operations -/

/-- Block `b` of core `s` of chip `k` in a stack of 32 blocks. -/
def blk (k : Fin 4) (s : Fin 2) (b : Fin 4) : Fin 32 := ⟨4 * (2 * k.val + s.val) + b.val, by omega⟩

/-- An array whose columns are cut in `n` parts, the parts stacked: element `(k, i, j)` is `(i, k·q + j)` of the array. -/
theorem columns_apply {n p q w : ℕ} (x : (S2 p w).Idx → α) (hs : (S2 p w).ShapeCasts (S3 p n q))
    (ht : (S3 p n q).Transposes [1, 0, 2] (S3 n p q)) (k : Fin n) (i : Fin p) (j : Fin q) (l : Fin w) (hw : w = n * q)
    (hl : l.val = k.val * q + j.val) :
    transpose (S3 n p q) [1, 0, 2] (shapeCast (S3 p n q) x hs) ht (ix3 k i j) = x (ix2 i l) := by
  refine (transpose_apply _ _ ht (ix3 k i j) (ix3 i k j) (fun b => ?_)).trans ?_
  · match b with
    | ⟨0, _⟩ => rfl
    | ⟨1, _⟩ => rfl
    | ⟨2, _⟩ => rfl
  · refine shapeCast_apply _ hs _ _ ?_
    rw [Shape.rowMajor_val_three, Shape.rowMajor_val_two]
    show i.val * w + l.val = (i.val * n + k.val) * q + j.val
    rw [hl, hw]; ring

/-- An array whose rows are cut in `n` parts, the parts stacked: element `(k, i, j)` is `(k·p + i, j)` of the array. -/
theorem rows_apply {n p q w : ℕ} (x : (S2 w q).Idx → α) (hs : (S2 w q).ShapeCasts (S3 n p q))
    (k : Fin n) (i : Fin p) (j : Fin q) (l : Fin w) (hl : l.val = k.val * p + i.val) :
    shapeCast (S3 n p q) x hs (ix3 k i j) = x (ix2 l j) := by
  refine shapeCast_apply _ hs _ _ ?_
  rw [Shape.rowMajor_val_three, Shape.rowMajor_val_two]
  show l.val * q + j.val = (k.val * p + i.val) * q + j.val
  rw [hl]

/-- Block `b` of core `s` of chip `k` after the exchange of the blocks between the chips is block `k` of core `s` of chip `b`. -/
theorem exchange_apply {p q : ℕ} (x : (S3 32 p q).Idx → α) (hs : (S3 32 p q).ShapeCasts ⟨5, ![4, 2, 4, p, q]⟩)
    (ht : (⟨5, ![4, 2, 4, p, q]⟩ : Shape).Transposes [2, 1, 0, 3, 4] ⟨5, ![4, 2, 4, p, q]⟩)
    (hr : (⟨5, ![4, 2, 4, p, q]⟩ : Shape).ShapeCasts (S3 32 p q)) (k : Fin 4) (s : Fin 2) (b : Fin 4) (i : Fin p) (j : Fin q) :
    shapeCast (S3 32 p q) (transpose ⟨5, ![4, 2, 4, p, q]⟩ [2, 1, 0, 3, 4] (shapeCast ⟨5, ![4, 2, 4, p, q]⟩ x hs) ht) hr (ix3 (blk k s b) i j)
      = x (ix3 (blk b s k) i j) := by
  refine (shapeCast_apply _ hr _ (ix5 k s b i j) ?_).trans ((transpose_apply _ _ ht _ (ix5 b s k i j) (fun a => ?_)).trans
    (shapeCast_apply _ hs _ _ ?_))
  · rw [Shape.rowMajor_val_three, Shape.rowMajor_val_five]
    show ((((k.val * 2 + s.val) * 4 + b.val) * p + i.val) * q + j.val) = ((4 * (2 * k.val + s.val) + b.val) * p + i.val) * q + j.val
    ring
  · match a with
    | ⟨0, _⟩ => rfl
    | ⟨1, _⟩ => rfl
    | ⟨2, _⟩ => rfl
    | ⟨3, _⟩ => rfl
    | ⟨4, _⟩ => rfl
  · rw [Shape.rowMajor_val_three, Shape.rowMajor_val_five]
    show ((4 * (2 * b.val + s.val) + k.val) * p + i.val) * q + j.val = ((((b.val * 2 + s.val) * 4 + k.val) * p + i.val) * q + j.val)
    ring

section Swap

variable {r q : ℕ}

/-- A stack of 32 blocks by chip, core, block, half and row; -/
abbrev T6 (r q : ℕ) : Shape := ⟨6, ![4, 2, 4, 2, r, q]⟩
/-- one half of one core's blocks; -/
abbrev T6' (r q : ℕ) : Shape := ⟨6, ![4, 1, 4, 1, r, q]⟩
/-- without its unit axes; -/
abbrev T4 (r q : ℕ) : Shape := ⟨4, ![4, 4, r, q]⟩
/-- with an axis for the core; -/
abbrev T5' (r q : ℕ) : Shape := ⟨5, ![4, 1, 4, r, q]⟩
/-- and both cores'. -/
abbrev T5 (r q : ℕ) : Shape := ⟨5, ![4, 2, 4, r, q]⟩

/-- One half of one core's blocks, at an index. -/
theorem half_apply {R : ℕ} (hR : R = 2 * r) (hq : 1 < r ∧ 1 < q) (x : (S3 32 R q).Idx → α) (h0 : (S3 32 R q).ShapeCasts (T6 r q))
    (off : Fin 6 → ℕ) (s h : Fin 2) (ho : off = ![0, s.val, 0, h.val, 0, 0]) (h1 : (T6 r q).Slices off (T6' r q))
    (h2 : (T6' r q).ShapeCasts (T4 r q)) (h3 : (T4 r q).BroadcastsInDim (T5' r q) (![0, 2, 3, 4] : Fin 4 → Fin (T5' r q).rank))
    (k : Fin 4) (u : Fin 1) (b : Fin 4) (i : Fin r) (j : Fin q) (l : Fin R) (hl : l.val = h.val * r + i.val) :
    broadcastInDim (T5' r q) ![0, 2, 3, 4] h3 (shapeCast (T4 r q) (extractStridedSlice (T6' r q) off (shapeCast (T6 r q) x h0) h1) h2)
        (ix5 k u b i j)
      = x (ix3 (blk k s b) l j) := by
  subst ho
  refine (broadcastInDim_apply _ h3 _ _ (ix4 k b i j) (fun a => ?_)).trans ((shapeCast_apply _ h2 _ (ix6 k (0 : Fin 1) b (0 : Fin 1) i j) ?_).trans
    ((extractStridedSlice_apply _ _ h1 _ (ix6 k s b h i j) (fun a => ?_)).trans (shapeCast_apply _ h0 _ _ ?_)))
  · match a with
    | ⟨0, _⟩ => show k.val = if (4 : ℕ) = 1 then 0 else k.val; rw [if_neg (by decide)]
    | ⟨1, _⟩ => show b.val = if (4 : ℕ) = 1 then 0 else b.val; rw [if_neg (by decide)]
    | ⟨2, _⟩ => show i.val = if r = 1 then 0 else i.val; rw [if_neg (by omega)]
    | ⟨3, _⟩ => show j.val = if q = 1 then 0 else j.val; rw [if_neg (by omega)]
  · rw [Shape.rowMajor_val_four, Shape.rowMajor_val_six]
    show (((((k.val * 1 + 0) * 4 + b.val) * 1 + 0) * r + i.val) * q + j.val) = ((k.val * 4 + b.val) * r + i.val) * q + j.val
    ring
  · match a with
    | ⟨0, _⟩ => show k.val = 0 + k.val; omega
    | ⟨1, _⟩ => show s.val = s.val + 0; omega
    | ⟨2, _⟩ => show b.val = 0 + b.val; omega
    | ⟨3, _⟩ => show h.val = h.val + 0; omega
    | ⟨4, _⟩ => show i.val = 0 + i.val; omega
    | ⟨5, _⟩ => show j.val = 0 + j.val; omega
  · rw [Shape.rowMajor_val_three, Shape.rowMajor_val_six]
    show ((4 * (2 * k.val + s.val) + b.val) * R + l.val) * q + j.val
      = (((((k.val * 2 + s.val) * 4 + b.val) * 2 + h.val) * r + i.val) * q + j.val)
    rw [hl, hR]; ring

/-- Two halves paired by core, at an index of either core. -/
theorem pair_apply (y z : (T5' r q).Idx → α) (hc : Shape.Concatenates [T5' r q, T5' r q] (T5 r q) 1) (hs : (T5 r q).ShapeCasts (S3 32 r q))
    (k : Fin 4) (s : Fin 2) (b : Fin 4) (i : Fin r) (j : Fin q) :
    shapeCast (S3 32 r q) (concatenate (T5 r q) 1 [⟨T5' r q, y⟩, ⟨T5' r q, z⟩] hc) hs (ix3 (blk k s b) i j)
      = (if s = 0 then y else z) (ix5 k (0 : Fin 1) b i j) := by
  refine (shapeCast_apply _ hs _ (ix5 k s b i j) ?_).trans ?_
  · rw [Shape.rowMajor_val_three, Shape.rowMajor_val_five]
    show ((((k.val * 2 + s.val) * 4 + b.val) * r + i.val) * q + j.val) = ((4 * (2 * k.val + s.val) + b.val) * r + i.val) * q + j.val
    ring
  · match s with
    | ⟨0, _⟩ =>
      refine (concatenate_pair_apply_left (t := T5 r q) 1 y z hc _ rfl (ix5 k (0 : Fin 1) b i j) (fun a => ?_)).trans (by simp)
      match a with
      | ⟨0, _⟩ => rfl
      | ⟨1, _⟩ => rfl
      | ⟨2, _⟩ => rfl
      | ⟨3, _⟩ => rfl
      | ⟨4, _⟩ => rfl
    | ⟨1, _⟩ =>
      refine (concatenate_pair_apply_right (t := T5 r q) 1 y z hc _ rfl rfl (ix5 k (0 : Fin 1) b i j) (fun a ha => ?_) rfl).trans (by simp)
      match a, ha with
      | ⟨0, _⟩, _ => rfl
      | ⟨1, _⟩, ha => exact absurd rfl ha
      | ⟨2, _⟩, _ => rfl
      | ⟨3, _⟩, _ => rfl
      | ⟨4, _⟩, _ => rfl

/-- Each core of a chip receives the other's blocks, of every block the half that is its own. -/
theorem swap_apply {R : ℕ} (hR : R = 2 * r) (hq : 1 < r ∧ 1 < q) (x : (S3 32 R q).Idx → α) (h0 : (S3 32 R q).ShapeCasts (T6 r q))
    (h1 : (T6 r q).Slices ![0, 1, 0, 0, 0, 0] (T6' r q)) (h1' : (T6 r q).Slices ![0, 0, 0, 1, 0, 0] (T6' r q))
    (h2 : (T6' r q).ShapeCasts (T4 r q)) (h3 : (T4 r q).BroadcastsInDim (T5' r q) (![0, 2, 3, 4] : Fin 4 → Fin (T5' r q).rank))
    (hc : Shape.Concatenates [T5' r q, T5' r q] (T5 r q) 1) (hs : (T5 r q).ShapeCasts (S3 32 r q))
    (k : Fin 4) (s s' : Fin 2) (hss : s'.val = 1 - s.val) (b : Fin 4) (i : Fin r) (j : Fin q) (l : Fin R) (hl : l.val = s.val * r + i.val) :
    shapeCast (S3 32 r q) (concatenate (T5 r q) 1
        [⟨T5' r q, broadcastInDim (T5' r q) ![0, 2, 3, 4] h3 (shapeCast (T4 r q) (extractStridedSlice (T6' r q) ![0, 1, 0, 0, 0, 0] (shapeCast (T6 r q) x h0) h1) h2)⟩,
         ⟨T5' r q, broadcastInDim (T5' r q) ![0, 2, 3, 4] h3 (shapeCast (T4 r q) (extractStridedSlice (T6' r q) ![0, 0, 0, 1, 0, 0] (shapeCast (T6 r q) x h0) h1') h2)⟩]
        hc) hs (ix3 (blk k s b) i j)
      = x (ix3 (blk k s' b) l j) := by
  rw [pair_apply]
  match s with
  | ⟨0, _⟩ =>
    obtain rfl : s' = 1 := Fin.ext hss
    refine (congrFun (if_pos rfl) _).trans ?_
    exact half_apply hR hq x h0 _ 1 0 rfl h1 h2 h3 k 0 b i j l hl
  | ⟨1, _⟩ =>
    obtain rfl : s' = 0 := Fin.ext hss
    refine (congrFun (if_neg (show ¬ (1 : Fin 2) = 0 by decide)) _).trans ?_
    exact half_apply hR hq x h0 _ 0 1 rfl h1' h2 h3 k 0 b i j l hl

end Swap

/-! ## An exchange against its reference -/

section Ends

/-- The chip of a device, -/
def chip (c : Fin 8) : Fin 4 := ⟨c.val / 2, by omega⟩
/-- its core, -/
def core (c : Fin 8) : Fin 2 := ⟨c.val % 2, by omega⟩
/-- and the device of a chip and a core. -/
def dev (k : Fin 4) (s : Fin 2) : Fin 8 := ⟨2 * k.val + s.val, by omega⟩

theorem chip_dev (k : Fin 4) (s : Fin 2) : chip (dev k s) = k := Fin.ext (by show (2 * k.val + s.val) / 2 = k.val; omega)
theorem core_dev (k : Fin 4) (s : Fin 2) : core (dev k s) = s := Fin.ext (by show (2 * k.val + s.val) % 2 = s.val; omega)
theorem dev_eta (c : Fin 8) : dev (chip c) (core c) = c := Fin.ext (by show 2 * (c.val / 2) + c.val % 2 = c.val; omega)

theorem lin_chip : ∀ c : Fin 8, Layout.meshLin [2, 2, 2] c.val [0, 1] = (chip c).val := by decide
theorem lin_core : ∀ c : Fin 8, Layout.meshLin [2, 2, 2] c.val [2] = (core c).val := by decide

/-- Where block `b` of device `c` is in the stack of all blocks. -/
theorem block_idx {p q : ℕ} (h : Layout.Tiles (S3 4 p q) (S3 32 p q) 0 8) (c : Fin 8) (b : Fin 4) (i : Fin p) (j : Fin q) :
    h.idx c (ix3 b i j) = ix3 (blk (chip c) (core c) b) i j := by
  funext a
  refine Fin.ext ?_
  match a with
  | ⟨0, _⟩ => show c.val * 4 + b.val = 4 * (2 * (c.val / 2) + c.val % 2) + b.val; omega
  | ⟨1, _⟩ => rfl
  | ⟨2, _⟩ => rfl

/-- The exchange of the halves between the cores. -/
theorem swap_end {R r q : ℕ} (hR : R = 2 * r) (hq : 1 < r ∧ 1 < q) (x : (S3 32 R q).Idx → α) (h0 : (S3 32 R q).ShapeCasts (T6 r q))
    (h1 : (T6 r q).Slices ![0, 1, 0, 0, 0, 0] (T6' r q)) (h1' : (T6 r q).Slices ![0, 0, 0, 1, 0, 0] (T6' r q))
    (h2 : (T6' r q).ShapeCasts (T4 r q)) (h3 : (T4 r q).BroadcastsInDim (T5' r q) (![0, 2, 3, 4] : Fin 4 → Fin (T5' r q).rank))
    (hc : Shape.Concatenates [T5' r q, T5' r q] (T5 r q) 1) (hs : (T5 r q).ShapeCasts (S3 32 r q))
    (hi : Layout.Tiles (S3 4 R q) (S3 32 R q) 0 8) (ho : Layout.Tiles (S3 4 r q) (S3 32 r q) 0 8)
    (inp : Fin 8 → (S3 4 R q).Idx → α) (out : (S3 4 r q).Idx → α) (c c' : Fin 8) (hin : ∀ d, inp d = Layout.block (S3 4 R q) (S3 32 R q) 0 8 d x hi)
    (hc' : c' = dev (chip c) ⟨1 - (core c).val, by omega⟩)
    (hout : ∀ (b : Fin 4) (i : Fin r) (j : Fin q) (l : Fin R), l.val = (core c).val * r + i.val → out (ix3 b i j) = inp c' (ix3 b l j)) :
    out = Layout.block (S3 4 r q) (S3 32 r q) 0 8 c (shapeCast (S3 32 r q) (concatenate (T5 r q) 1
        [⟨T5' r q, broadcastInDim (T5' r q) ![0, 2, 3, 4] h3 (shapeCast (T4 r q) (extractStridedSlice (T6' r q) ![0, 1, 0, 0, 0, 0] (shapeCast (T6 r q) x h0) h1) h2)⟩,
         ⟨T5' r q, broadcastInDim (T5' r q) ![0, 2, 3, 4] h3 (shapeCast (T4 r q) (extractStridedSlice (T6' r q) ![0, 0, 0, 1, 0, 0] (shapeCast (T6 r q) x h0) h1') h2)⟩]
        hc) hs) ho := by
  subst hR
  funext y
  obtain ⟨b, i, j, rfl⟩ : ∃ (b : Fin 4) (i : Fin r) (j : Fin q), y = ix3 b i j := ⟨_, _, _, eq_ix3 y⟩
  have hl : (core c).val * r + i.val < 2 * r := by
    have : (core c).val * r ≤ 1 * r := Nat.mul_le_mul_right _ (by omega)
    omega
  rw [Layout.block_apply, block_idx, hout b i j ⟨_, hl⟩ rfl, hin, Layout.block_apply, block_idx,
    swap_apply rfl hq x h0 h1 h1' h2 h3 hc hs (chip c) (core c) ⟨1 - (core c).val, by omega⟩ rfl b i j ⟨_, hl⟩ rfl, hc', chip_dev, core_dev]

/-- The exchange of the blocks between the chips. -/
theorem exchange_end {p q : ℕ} (x : (S3 32 p q).Idx → α) (hs : (S3 32 p q).ShapeCasts ⟨5, ![4, 2, 4, p, q]⟩)
    (ht : (⟨5, ![4, 2, 4, p, q]⟩ : Shape).Transposes [2, 1, 0, 3, 4] ⟨5, ![4, 2, 4, p, q]⟩)
    (hr : (⟨5, ![4, 2, 4, p, q]⟩ : Shape).ShapeCasts (S3 32 p q)) (hi : Layout.Tiles (S3 4 p q) (S3 32 p q) 0 8)
    (inp : Fin 8 → (S3 4 p q).Idx → α) (out : (S3 4 p q).Idx → α) (c : Fin 8) (hin : ∀ d, inp d = Layout.block (S3 4 p q) (S3 32 p q) 0 8 d x hi)
    (hout : ∀ (k : Fin 4) (i : Fin p) (j : Fin q), out (ix3 k i j) = inp (dev k (core c)) (ix3 (chip c) i j)) :
    out = Layout.block (S3 4 p q) (S3 32 p q) 0 8 c
      (shapeCast (S3 32 p q) (transpose ⟨5, ![4, 2, 4, p, q]⟩ [2, 1, 0, 3, 4] (shapeCast ⟨5, ![4, 2, 4, p, q]⟩ x hs) ht) hr) hi := by
  funext y
  obtain ⟨b, i, j, rfl⟩ : ∃ (b : Fin 4) (i : Fin p) (j : Fin q), y = ix3 b i j := ⟨_, _, _, eq_ix3 y⟩
  rw [Layout.block_apply, block_idx, hout, hin, Layout.block_apply, block_idx, exchange_apply, chip_dev, core_dev]

/-- The halves of a chip's columns, from its two cores. -/
theorem halves_cols_end {p q P Q : ℕ} (hP : P = 2 * p) (hQ : Q = 4 * q) (x : (S2 P Q).Idx → α) (hs : (S2 P Q).ShapeCasts (S3 2 p Q))
    (hi : Layout.TilesN (S2 p q) (S2 P Q) fun b => Layout.cutSize [2, 2, 2] ((![[2], [0, 1]] : Fin 2 → List ℕ) b))
    (ho : Layout.TilesN (S3 2 p q) (S3 2 p Q) fun b => Layout.cutSize [2, 2, 2] ((![[], [], [0, 1]] : Fin 3 → List ℕ) b))
    (inp : Fin 8 → (S2 p q).Idx → α) (out : (S3 2 p q).Idx → α) (c : Fin 8)
    (hin : ∀ d, inp d = Layout.blockN (S2 p q) (S2 P Q) (Layout.meshBlock [2, 2, 2] ![[2], [0, 1]] d) x hi)
    (hout : ∀ (s : Fin 2) (i : Fin p) (j : Fin q), out (ix3 s i j) = inp (dev (chip c) s) (ix2 i j)) :
    out = Layout.blockN (S3 2 p q) (S3 2 p Q) (Layout.meshBlock [2, 2, 2] ![[], [], [0, 1]] c) (shapeCast (S3 2 p Q) x hs) ho := by
  subst hP hQ
  funext y
  obtain ⟨s, i, j, rfl⟩ : ∃ (s : Fin 2) (i : Fin p) (j : Fin q), y = ix3 s i j := ⟨_, _, _, eq_ix3 y⟩
  have hl : s.val * p + i.val < 2 * p := by
    have : s.val * p ≤ 1 * p := Nat.mul_le_mul_right _ (by omega)
    omega
  have hk : (chip c).val * q + j.val < 4 * q := by
    have : (chip c).val * q ≤ 3 * q := Nat.mul_le_mul_right _ (by omega)
    omega
  have e1 : ho.idx (Layout.meshBlock [2, 2, 2] ![[], [], [0, 1]] c) (ix3 s i j) = ix3 s i ⟨_, hk⟩ := by
    funext a
    refine Fin.ext ?_
    match a with
    | ⟨0, _⟩ => show 0 * 2 + s.val = s.val; omega
    | ⟨1, _⟩ => show 0 * p + i.val = i.val; omega
    | ⟨2, _⟩ => show Layout.meshLin [2, 2, 2] c.val [0, 1] * q + j.val = (chip c).val * q + j.val; rw [lin_chip]
  have e2 : hi.idx (Layout.meshBlock [2, 2, 2] ![[2], [0, 1]] (dev (chip c) s)) (ix2 i j) = ix2 ⟨_, hl⟩ ⟨_, hk⟩ := by
    funext a
    refine Fin.ext ?_
    match a with
    | ⟨0, _⟩ => show Layout.meshLin [2, 2, 2] (dev (chip c) s).val [2] * p + i.val = s.val * p + i.val; rw [lin_core, core_dev]
    | ⟨1, _⟩ => show Layout.meshLin [2, 2, 2] (dev (chip c) s).val [0, 1] * q + j.val = (chip c).val * q + j.val; rw [lin_chip, chip_dev]
  rw [Layout.blockN_apply, e1, hout, hin, Layout.blockN_apply, e2]
  exact (rows_apply x hs s i ⟨_, hk⟩ ⟨_, hl⟩ rfl).symm

/-- The halves of a chip's rows, from its two cores. -/
theorem halves_rows_end {p q P : ℕ} (hP : P = 8 * p) (x : (S2 P q).Idx → α) (hs : (S2 P q).ShapeCasts (S3 8 p q))
    (hi : Layout.Tiles (S2 p q) (S2 P q) 0 8)
    (ho : Layout.TilesN (S3 2 p q) (S3 8 p q) fun b => Layout.cutSize [2, 2, 2] ((![[0, 1], [], []] : Fin 3 → List ℕ) b))
    (inp : Fin 8 → (S2 p q).Idx → α) (out : (S3 2 p q).Idx → α) (c : Fin 8)
    (hin : ∀ d, inp d = Layout.block (S2 p q) (S2 P q) 0 8 d x hi)
    (hout : ∀ (s : Fin 2) (i : Fin p) (j : Fin q), out (ix3 s i j) = inp (dev (chip c) s) (ix2 i j)) :
    out = Layout.blockN (S3 2 p q) (S3 8 p q) (Layout.meshBlock [2, 2, 2] ![[0, 1], [], []] c) (shapeCast (S3 8 p q) x hs) ho := by
  subst hP
  funext y
  obtain ⟨s, i, j, rfl⟩ : ∃ (s : Fin 2) (i : Fin p) (j : Fin q), y = ix3 s i j := ⟨_, _, _, eq_ix3 y⟩
  have hl : (dev (chip c) s).val * p + i.val < 8 * p := by
    have : (dev (chip c) s).val * p ≤ 7 * p := Nat.mul_le_mul_right _ (by omega)
    omega
  have e1 : ho.idx (Layout.meshBlock [2, 2, 2] ![[0, 1], [], []] c) (ix3 s i j) = ix3 (dev (chip c) s) i j := by
    funext a
    refine Fin.ext ?_
    match a with
    | ⟨0, _⟩ => show Layout.meshLin [2, 2, 2] c.val [0, 1] * 2 + s.val = 2 * (chip c).val + s.val; rw [lin_chip, Nat.mul_comm]
    | ⟨1, _⟩ => show 0 * p + i.val = i.val; omega
    | ⟨2, _⟩ => show 0 * q + j.val = j.val; omega
  have e2 : hi.idx (dev (chip c) s) (ix2 i j) = ix2 ⟨_, hl⟩ j := by
    funext a
    refine Fin.ext ?_
    match a with
    | ⟨0, _⟩ => rfl
    | ⟨1, _⟩ => rfl
  rw [Layout.blockN_apply, e1, hout, hin, Layout.block_apply, e2]
  exact (rows_apply x hs (dev (chip c) s) i j ⟨_, hl⟩ rfl).symm

/-- The columns of an array, a part from every chip. -/
theorem gather_cols_end {p q Q : ℕ} (hQ : Q = 4 * q) (x : (S2 p Q).Idx → α) (hs : (S2 p Q).ShapeCasts (S3 p 4 q))
    (ht : (S3 p 4 q).Transposes [1, 0, 2] (S3 4 p q))
    (hi : Layout.TilesN (S2 p q) (S2 p Q) fun b => Layout.cutSize [2, 2, 2] ((![[], [0, 1]] : Fin 2 → List ℕ) b))
    (inp : Fin 8 → (S2 p q).Idx → α) (out : (S3 4 p q).Idx → α) (c : Fin 8)
    (hin : ∀ d, inp d = Layout.blockN (S2 p q) (S2 p Q) (Layout.meshBlock [2, 2, 2] ![[], [0, 1]] d) x hi)
    (hout : ∀ (k : Fin 4) (i : Fin p) (j : Fin q), out (ix3 k i j) = inp (dev k (core c)) (ix2 i j)) :
    out = transpose (S3 4 p q) [1, 0, 2] (shapeCast (S3 p 4 q) x hs) ht := by
  subst hQ
  funext y
  obtain ⟨k, i, j, rfl⟩ : ∃ (k : Fin 4) (i : Fin p) (j : Fin q), y = ix3 k i j := ⟨_, _, _, eq_ix3 y⟩
  have hk : k.val * q + j.val < 4 * q := by
    have : k.val * q ≤ 3 * q := Nat.mul_le_mul_right _ (by omega)
    omega
  have e2 : hi.idx (Layout.meshBlock [2, 2, 2] ![[], [0, 1]] (dev k (core c))) (ix2 i j) = ix2 i ⟨_, hk⟩ := by
    funext a
    refine Fin.ext ?_
    match a with
    | ⟨0, _⟩ => show 0 * p + i.val = i.val; omega
    | ⟨1, _⟩ => show Layout.meshLin [2, 2, 2] (dev k (core c)).val [0, 1] * q + j.val = k.val * q + j.val; rw [lin_chip, chip_dev]
  rw [hout, hin, Layout.blockN_apply, e2]
  exact (columns_apply x hs ht k i j ⟨_, hk⟩ rfl rfl).symm

/-- The rows of an array, a part from every chip. -/
theorem gather_rows_end {p q P : ℕ} (hP : P = 4 * p) (x : (S2 P q).Idx → α) (hs : (S2 P q).ShapeCasts (S3 4 p q))
    (hi : Layout.TilesN (S2 p q) (S2 P q) fun b => Layout.cutSize [2, 2, 2] ((![[0, 1], []] : Fin 2 → List ℕ) b))
    (inp : Fin 8 → (S2 p q).Idx → α) (out : (S3 4 p q).Idx → α) (c : Fin 8)
    (hin : ∀ d, inp d = Layout.blockN (S2 p q) (S2 P q) (Layout.meshBlock [2, 2, 2] ![[0, 1], []] d) x hi)
    (hout : ∀ (k : Fin 4) (i : Fin p) (j : Fin q), out (ix3 k i j) = inp (dev k (core c)) (ix2 i j)) :
    out = shapeCast (S3 4 p q) x hs := by
  subst hP
  funext y
  obtain ⟨k, i, j, rfl⟩ : ∃ (k : Fin 4) (i : Fin p) (j : Fin q), y = ix3 k i j := ⟨_, _, _, eq_ix3 y⟩
  have hk : k.val * p + i.val < 4 * p := by
    have : k.val * p ≤ 3 * p := Nat.mul_le_mul_right _ (by omega)
    omega
  have e2 : hi.idx (Layout.meshBlock [2, 2, 2] ![[0, 1], []] (dev k (core c))) (ix2 i j) = ix2 ⟨_, hk⟩ j := by
    funext a
    refine Fin.ext ?_
    match a with
    | ⟨0, _⟩ => show Layout.meshLin [2, 2, 2] (dev k (core c)).val [0, 1] * p + i.val = k.val * p + i.val; rw [lin_chip, chip_dev]
    | ⟨1, _⟩ => show 0 * q + j.val = j.val; omega
  rw [hout, hin, Layout.blockN_apply, e2]
  exact (rows_apply x hs k i j ⟨_, hk⟩ rfl).symm

end Ends

end Idealize.ShloMosaic.Rows
-- ==== Proof.GatherRef.lean ====
/-
The values of `gather_chips`: row `k` of what a core ends with is the array of the same core of chip `k`. The frames of the
three programs and the claim about their values follow.
-/
module

public import proofs.«01_k».proof.Defs
public import proofs.«01_k».proof.Proof.GatherRun
public import proofs.«01_k».proof.Proof.Rows
public import proofs.«01_k».proof.Proof.Gen.Gather
public import proofs.«01_k».proof.Proof.Gen.GatherRef
public import proofs.«01_k».proof.Proof.Gen.GatherRefIdeal.Run

@[expose] public section

noncomputable section

namespace Cert.GatherIdeal.Own

open Idealize.ShloMosaic Idealize.ShloMosaic.Rows Idealize.ShloMosaic.ValueIdx
open Idealize.ShloMosaic.TcCoe
open Idealize.SL.Sem
open Idealize.ShloMosaic.Exch
open Cert.GatherIdeal Cert.GatherIdeal.Facts₀ Cert.GatherIdeal.Facts

/-- Array 0 as it lands: row `k` is the array of the same core of chip `k`. -/
theorem row_0 {F : FTy → Type} {m μ : (ℓ : Loc nD τ sig) → Buf (Elt F) ℓ} {c : Dev nD} (h : plan.Landed m c μ) (k : Fin 4) (i : Fin 1024) (j : Fin 1672) :
    μ ((c : Thread nD τ).loc main_v1_0) (ix3 k i j) = m (((dev k (core c) : Dev nD) : Thread nD τ).loc main_arg0) (ix2 i j) := by
  have ho : ∀ (c : Fin 8) (k : Fin 4), k0_off1 (dev k (core c)) 0 = k.val ∧ k0_off1 (dev k (core c)) 1 = 0 ∧ k0_off1 (dev k (core c)) 2 = 0 := by decide +kernel
  have hw : ∀ (c : Fin 8) (k : Fin 4), dev k (core c) = c ∨ peer (0, 0) c = dev k (core c) ∨ peer (0, 1) c = dev k (core c) ∨ peer (0, 2) c = dev k (core c) := by decide +kernel
  suffices key : ∀ d : Dev nD, (d = c ∨ peer (0, 0) c = d ∨ peer (0, 1) c = d ∨ peer (0, 2) c = d) → k0_off1 d 0 = k.val →
      μ ((c : Thread nD τ).loc main_v1_0) (ix3 k i j) = m ((d : Thread nD τ).loc main_arg0) (ix2 i j) from
    key _ (hw c k) (ho c k).1
  rintro d (rfl | rfl | rfl | rfl) hd
  · exact (congrArg (μ ((d : Thread nD τ).loc main_v1_0)) (row_idx (k0_off1_inb d) squeezes_S1x1024x1672_S1024x1672.numel_eq k hd i j)).symm.trans (congrFun (h.2 (0 : Fin 7)) (ix2 i j))
  · exact (congrArg (μ ((c : Thread nD τ).loc main_v1_0)) (row_idx (k0_off1_inb (peer (0, 0) c)) squeezes_S1x1024x1672_S1024x1672.numel_eq k hd i j)).symm.trans (congrFun (h.1 (0, 0)) (ix2 i j))
  · exact (congrArg (μ ((c : Thread nD τ).loc main_v1_0)) (row_idx (k0_off1_inb (peer (0, 1) c)) squeezes_S1x1024x1672_S1024x1672.numel_eq k hd i j)).symm.trans (congrFun (h.1 (0, 1)) (ix2 i j))
  · exact (congrArg (μ ((c : Thread nD τ).loc main_v1_0)) (row_idx (k0_off1_inb (peer (0, 2) c)) squeezes_S1x1024x1672_S1024x1672.numel_eq k hd i j)).symm.trans (congrFun (h.1 (0, 2)) (ix2 i j))

/-- Array 1 as it lands: row `k` is the array of the same core of chip `k`. -/
theorem row_1 {F : FTy → Type} {m μ : (ℓ : Loc nD τ sig) → Buf (Elt F) ℓ} {c : Dev nD} (h : plan.Landed m c μ) (k : Fin 4) (i : Fin 512) (j : Fin 1024) :
    μ ((c : Thread nD τ).loc main_v1_1) (ix3 k i j) = m (((dev k (core c) : Dev nD) : Thread nD τ).loc main_arg1) (ix2 i j) := by
  have ho : ∀ (c : Fin 8) (k : Fin 4), k0_off2 (dev k (core c)) 0 = k.val ∧ k0_off2 (dev k (core c)) 1 = 0 ∧ k0_off2 (dev k (core c)) 2 = 0 := by decide +kernel
  have hw : ∀ (c : Fin 8) (k : Fin 4), dev k (core c) = c ∨ peer (1, 0) c = dev k (core c) ∨ peer (1, 1) c = dev k (core c) ∨ peer (1, 2) c = dev k (core c) := by decide +kernel
  suffices key : ∀ d : Dev nD, (d = c ∨ peer (1, 0) c = d ∨ peer (1, 1) c = d ∨ peer (1, 2) c = d) → k0_off2 d 0 = k.val →
      μ ((c : Thread nD τ).loc main_v1_1) (ix3 k i j) = m ((d : Thread nD τ).loc main_arg1) (ix2 i j) from
    key _ (hw c k) (ho c k).1
  rintro d (rfl | rfl | rfl | rfl) hd
  · exact (congrArg (μ ((d : Thread nD τ).loc main_v1_1)) (row_idx (k0_off2_inb d) squeezes_S1x512x1024_S512x1024.numel_eq k hd i j)).symm.trans (congrFun (h.2 (1 : Fin 7)) (ix2 i j))
  · exact (congrArg (μ ((c : Thread nD τ).loc main_v1_1)) (row_idx (k0_off2_inb (peer (1, 0) c)) squeezes_S1x512x1024_S512x1024.numel_eq k hd i j)).symm.trans (congrFun (h.1 (1, 0)) (ix2 i j))
  · exact (congrArg (μ ((c : Thread nD τ).loc main_v1_1)) (row_idx (k0_off2_inb (peer (1, 1) c)) squeezes_S1x512x1024_S512x1024.numel_eq k hd i j)).symm.trans (congrFun (h.1 (1, 1)) (ix2 i j))
  · exact (congrArg (μ ((c : Thread nD τ).loc main_v1_1)) (row_idx (k0_off2_inb (peer (1, 2) c)) squeezes_S1x512x1024_S512x1024.numel_eq k hd i j)).symm.trans (congrFun (h.1 (1, 2)) (ix2 i j))

/-- Array 2 as it lands: row `k` is the array of the same core of chip `k`. -/
theorem row_2 {F : FTy → Type} {m μ : (ℓ : Loc nD τ sig) → Buf (Elt F) ℓ} {c : Dev nD} (h : plan.Landed m c μ) (k : Fin 4) (i : Fin 1024) (j : Fin 1408) :
    μ ((c : Thread nD τ).loc main_v1_2) (ix3 k i j) = m (((dev k (core c) : Dev nD) : Thread nD τ).loc main_arg2) (ix2 i j) := by
  have ho : ∀ (c : Fin 8) (k : Fin 4), k0_off3 (dev k (core c)) 0 = k.val ∧ k0_off3 (dev k (core c)) 1 = 0 ∧ k0_off3 (dev k (core c)) 2 = 0 := by decide +kernel
  have hw : ∀ (c : Fin 8) (k : Fin 4), dev k (core c) = c ∨ peer (2, 0) c = dev k (core c) ∨ peer (2, 1) c = dev k (core c) ∨ peer (2, 2) c = dev k (core c) := by decide +kernel
  suffices key : ∀ d : Dev nD, (d = c ∨ peer (2, 0) c = d ∨ peer (2, 1) c = d ∨ peer (2, 2) c = d) → k0_off3 d 0 = k.val →
      μ ((c : Thread nD τ).loc main_v1_2) (ix3 k i j) = m ((d : Thread nD τ).loc main_arg2) (ix2 i j) from
    key _ (hw c k) (ho c k).1
  rintro d (rfl | rfl | rfl | rfl) hd
  · exact (congrArg (μ ((d : Thread nD τ).loc main_v1_2)) (row_idx (k0_off3_inb d) squeezes_S1x1024x1408_S1024x1408.numel_eq k hd i j)).symm.trans (congrFun (h.2 (2 : Fin 7)) (ix2 i j))
  · exact (congrArg (μ ((c : Thread nD τ).loc main_v1_2)) (row_idx (k0_off3_inb (peer (2, 0) c)) squeezes_S1x1024x1408_S1024x1408.numel_eq k hd i j)).symm.trans (congrFun (h.1 (2, 0)) (ix2 i j))
  · exact (congrArg (μ ((c : Thread nD τ).loc main_v1_2)) (row_idx (k0_off3_inb (peer (2, 1) c)) squeezes_S1x1024x1408_S1024x1408.numel_eq k hd i j)).symm.trans (congrFun (h.1 (2, 1)) (ix2 i j))
  · exact (congrArg (μ ((c : Thread nD τ).loc main_v1_2)) (row_idx (k0_off3_inb (peer (2, 2) c)) squeezes_S1x1024x1408_S1024x1408.numel_eq k hd i j)).symm.trans (congrFun (h.1 (2, 2)) (ix2 i j))

/-- Array 3 as it lands: row `k` is the array of the same core of chip `k`. -/
theorem row_3 {F : FTy → Type} {m μ : (ℓ : Loc nD τ sig) → Buf (Elt F) ℓ} {c : Dev nD} (h : plan.Landed m c μ) (k : Fin 4) (i : Fin 704) (j : Fin 1024) :
    μ ((c : Thread nD τ).loc main_v1_3) (ix3 k i j) = m (((dev k (core c) : Dev nD) : Thread nD τ).loc main_arg3) (ix2 i j) := by
  have ho : ∀ (c : Fin 8) (k : Fin 4), k0_off4 (dev k (core c)) 0 = k.val ∧ k0_off4 (dev k (core c)) 1 = 0 ∧ k0_off4 (dev k (core c)) 2 = 0 := by decide +kernel
  have hw : ∀ (c : Fin 8) (k : Fin 4), dev k (core c) = c ∨ peer (3, 0) c = dev k (core c) ∨ peer (3, 1) c = dev k (core c) ∨ peer (3, 2) c = dev k (core c) := by decide +kernel
  suffices key : ∀ d : Dev nD, (d = c ∨ peer (3, 0) c = d ∨ peer (3, 1) c = d ∨ peer (3, 2) c = d) → k0_off4 d 0 = k.val →
      μ ((c : Thread nD τ).loc main_v1_3) (ix3 k i j) = m ((d : Thread nD τ).loc main_arg3) (ix2 i j) from
    key _ (hw c k) (ho c k).1
  rintro d (rfl | rfl | rfl | rfl) hd
  · exact (congrArg (μ ((d : Thread nD τ).loc main_v1_3)) (row_idx (k0_off4_inb d) squeezes_S1x704x1024_S704x1024.numel_eq k hd i j)).symm.trans (congrFun (h.2 (3 : Fin 7)) (ix2 i j))
  · exact (congrArg (μ ((c : Thread nD τ).loc main_v1_3)) (row_idx (k0_off4_inb (peer (3, 0) c)) squeezes_S1x704x1024_S704x1024.numel_eq k hd i j)).symm.trans (congrFun (h.1 (3, 0)) (ix2 i j))
  · exact (congrArg (μ ((c : Thread nD τ).loc main_v1_3)) (row_idx (k0_off4_inb (peer (3, 1) c)) squeezes_S1x704x1024_S704x1024.numel_eq k hd i j)).symm.trans (congrFun (h.1 (3, 1)) (ix2 i j))
  · exact (congrArg (μ ((c : Thread nD τ).loc main_v1_3)) (row_idx (k0_off4_inb (peer (3, 2) c)) squeezes_S1x704x1024_S704x1024.numel_eq k hd i j)).symm.trans (congrFun (h.1 (3, 2)) (ix2 i j))

/-- Array 4 as it lands: row `k` is the array of the same core of chip `k`. -/
theorem row_4 {F : FTy → Type} {m μ : (ℓ : Loc nD τ sig) → Buf (Elt F) ℓ} {c : Dev nD} (h : plan.Landed m c μ) (k : Fin 4) (i : Fin 4) (j : Fin 768) :
    μ ((c : Thread nD τ).loc main_v1_4) (ix3 k i j) = m (((dev k (core c) : Dev nD) : Thread nD τ).loc main_arg4) (ix2 i j) := by
  have ho : ∀ (c : Fin 8) (k : Fin 4), k0_off5 (dev k (core c)) 0 = k.val ∧ k0_off5 (dev k (core c)) 1 = 0 ∧ k0_off5 (dev k (core c)) 2 = 0 := by decide +kernel
  have hw : ∀ (c : Fin 8) (k : Fin 4), dev k (core c) = c ∨ peer (4, 0) c = dev k (core c) ∨ peer (4, 1) c = dev k (core c) ∨ peer (4, 2) c = dev k (core c) := by decide +kernel
  suffices key : ∀ d : Dev nD, (d = c ∨ peer (4, 0) c = d ∨ peer (4, 1) c = d ∨ peer (4, 2) c = d) → k0_off5 d 0 = k.val →
      μ ((c : Thread nD τ).loc main_v1_4) (ix3 k i j) = m ((d : Thread nD τ).loc main_arg4) (ix2 i j) from
    key _ (hw c k) (ho c k).1
  rintro d (rfl | rfl | rfl | rfl) hd
  · exact (congrArg (μ ((d : Thread nD τ).loc main_v1_4)) (row_idx (k0_off5_inb d) squeezes_S1x4x768_S4x768.numel_eq k hd i j)).symm.trans (congrFun (h.2 (4 : Fin 7)) (ix2 i j))
  · exact (congrArg (μ ((c : Thread nD τ).loc main_v1_4)) (row_idx (k0_off5_inb (peer (4, 0) c)) squeezes_S1x4x768_S4x768.numel_eq k hd i j)).symm.trans (congrFun (h.1 (4, 0)) (ix2 i j))
  · exact (congrArg (μ ((c : Thread nD τ).loc main_v1_4)) (row_idx (k0_off5_inb (peer (4, 1) c)) squeezes_S1x4x768_S4x768.numel_eq k hd i j)).symm.trans (congrFun (h.1 (4, 1)) (ix2 i j))
  · exact (congrArg (μ ((c : Thread nD τ).loc main_v1_4)) (row_idx (k0_off5_inb (peer (4, 2) c)) squeezes_S1x4x768_S4x768.numel_eq k hd i j)).symm.trans (congrFun (h.1 (4, 2)) (ix2 i j))

/-- Array 5 as it lands: row `k` is the array of the same core of chip `k`. -/
theorem row_5 {F : FTy → Type} {m μ : (ℓ : Loc nD τ sig) → Buf (Elt F) ℓ} {c : Dev nD} (h : plan.Landed m c μ) (k : Fin 4) (i : Fin 4) (j : Fin 384) :
    μ ((c : Thread nD τ).loc main_v1_5) (ix3 k i j) = m (((dev k (core c) : Dev nD) : Thread nD τ).loc main_arg5) (ix2 i j) := by
  have ho : ∀ (c : Fin 8) (k : Fin 4), k0_off6 (dev k (core c)) 0 = k.val ∧ k0_off6 (dev k (core c)) 1 = 0 ∧ k0_off6 (dev k (core c)) 2 = 0 := by decide +kernel
  have hw : ∀ (c : Fin 8) (k : Fin 4), dev k (core c) = c ∨ peer (5, 0) c = dev k (core c) ∨ peer (5, 1) c = dev k (core c) ∨ peer (5, 2) c = dev k (core c) := by decide +kernel
  suffices key : ∀ d : Dev nD, (d = c ∨ peer (5, 0) c = d ∨ peer (5, 1) c = d ∨ peer (5, 2) c = d) → k0_off6 d 0 = k.val →
      μ ((c : Thread nD τ).loc main_v1_5) (ix3 k i j) = m ((d : Thread nD τ).loc main_arg5) (ix2 i j) from
    key _ (hw c k) (ho c k).1
  rintro d (rfl | rfl | rfl | rfl) hd
  · exact (congrArg (μ ((d : Thread nD τ).loc main_v1_5)) (row_idx (k0_off6_inb d) squeezes_S1x4x384_S4x384.numel_eq k hd i j)).symm.trans (congrFun (h.2 (5 : Fin 7)) (ix2 i j))
  · exact (congrArg (μ ((c : Thread nD τ).loc main_v1_5)) (row_idx (k0_off6_inb (peer (5, 0) c)) squeezes_S1x4x384_S4x384.numel_eq k hd i j)).symm.trans (congrFun (h.1 (5, 0)) (ix2 i j))
  · exact (congrArg (μ ((c : Thread nD τ).loc main_v1_5)) (row_idx (k0_off6_inb (peer (5, 1) c)) squeezes_S1x4x384_S4x384.numel_eq k hd i j)).symm.trans (congrFun (h.1 (5, 1)) (ix2 i j))
  · exact (congrArg (μ ((c : Thread nD τ).loc main_v1_5)) (row_idx (k0_off6_inb (peer (5, 2) c)) squeezes_S1x4x384_S4x384.numel_eq k hd i j)).symm.trans (congrFun (h.1 (5, 2)) (ix2 i j))

/-- Array 6 as it lands: row `k` is the array of the same core of chip `k`. -/
theorem row_6 {F : FTy → Type} {m μ : (ℓ : Loc nD τ sig) → Buf (Elt F) ℓ} {c : Dev nD} (h : plan.Landed m c μ) (k : Fin 4) (i : Fin 3) (j : Fin 1408) :
    μ ((c : Thread nD τ).loc main_v1_6) (ix3 k i j) = m (((dev k (core c) : Dev nD) : Thread nD τ).loc main_arg6) (ix2 i j) := by
  have ho : ∀ (c : Fin 8) (k : Fin 4), k0_off7 (dev k (core c)) 0 = k.val ∧ k0_off7 (dev k (core c)) 1 = 0 ∧ k0_off7 (dev k (core c)) 2 = 0 := by decide +kernel
  have hw : ∀ (c : Fin 8) (k : Fin 4), dev k (core c) = c ∨ peer (6, 0) c = dev k (core c) ∨ peer (6, 1) c = dev k (core c) ∨ peer (6, 2) c = dev k (core c) := by decide +kernel
  suffices key : ∀ d : Dev nD, (d = c ∨ peer (6, 0) c = d ∨ peer (6, 1) c = d ∨ peer (6, 2) c = d) → k0_off7 d 0 = k.val →
      μ ((c : Thread nD τ).loc main_v1_6) (ix3 k i j) = m ((d : Thread nD τ).loc main_arg6) (ix2 i j) from
    key _ (hw c k) (ho c k).1
  rintro d (rfl | rfl | rfl | rfl) hd
  · exact (congrArg (μ ((d : Thread nD τ).loc main_v1_6)) (row_idx (k0_off7_inb d) squeezes_S1x3x1408_S3x1408.numel_eq k hd i j)).symm.trans (congrFun (h.2 (6 : Fin 7)) (ix2 i j))
  · exact (congrArg (μ ((c : Thread nD τ).loc main_v1_6)) (row_idx (k0_off7_inb (peer (6, 0) c)) squeezes_S1x3x1408_S3x1408.numel_eq k hd i j)).symm.trans (congrFun (h.1 (6, 0)) (ix2 i j))
  · exact (congrArg (μ ((c : Thread nD τ).loc main_v1_6)) (row_idx (k0_off7_inb (peer (6, 1) c)) squeezes_S1x3x1408_S3x1408.numel_eq k hd i j)).symm.trans (congrFun (h.1 (6, 1)) (ix2 i j))
  · exact (congrArg (μ ((c : Thread nD τ).loc main_v1_6)) (row_idx (k0_off7_inb (peer (6, 2) c)) squeezes_S1x3x1408_S3x1408.numel_eq k hd i j)).symm.trans (congrFun (h.1 (6, 2)) (ix2 i j))

end Cert.GatherIdeal.Own

namespace Cert.Proof.Gather

open Idealize.ShloMosaic Idealize.ShloMosaic.Rows Idealize.SL.Sem Cert.GatherIdeal.Own

/-- The kernel's frame, from the one run at the words. -/
theorem frame_kernel : Cert.quiescent_Gather := fun m ρ _ =>
  (θ_run Cert.GatherIdeal.defs _ _).mono (fun _ h => ⟨fun c => ⟨(h.1 c).2 0, (h.1 c).2 1, (h.1 c).2 2, (h.1 c).2 3, (h.1 c).2 4, (h.1 c).2 5, (h.1 c).2 6⟩, h.2⟩) (run_main (F := Bits) m ρ)

/-- The idealization's. -/
theorem frame_ideal : Cert.quiescent_GatherIdeal := fun m ρ _ =>
  (θ_run Cert.GatherIdeal.defs _ _).mono (fun _ h => ⟨fun c => ⟨(h.1 c).2 0, (h.1 c).2 1, (h.1 c).2 2, (h.1 c).2 3, (h.1 c).2 4, (h.1 c).2 5, (h.1 c).2 6⟩, h.2⟩) (run_main (F := Ideal) m ρ)

/-- The reference's: it has no semaphore. -/
theorem frame_ref : Cert.quiescent_GatherRefIdeal := fun m ρ _ =>
  (θ_run Cert.GatherRefIdeal.defs _ _).mono (fun r h => ⟨fun c => (h c).2.2.2.2.2.2.2, sem_eq_zero_of_no_sems (by decide) r.2⟩)
    (Cert.GatherRefIdeal.Value.run (F := Ideal) m ρ)

/-- The same, of the reference at the words. -/
theorem frame_words : Cert.quiescent_GatherRef := fun m ρ _ =>
  (θ_run Cert.GatherRefIdeal.defs _ _).mono (fun r h => ⟨fun c => (h c).2.2.2.2.2.2.2, sem_eq_zero_of_no_sems (by decide) r.2⟩)
    (Cert.GatherRefIdeal.Value.run (F := Bits) m ρ)

/-- Where the reference holds an array, -/
abbrev whole (b : Ref GatherRefIdeal.sig .tc) := ((0 : Dev GatherRefIdeal.nD).tc : Thread GatherRefIdeal.nD GatherRefIdeal.τ).loc b

/-- and where core `c` of the mesh holds one. -/
abbrev own (c : Dev GatherIdeal.nD) (b : Ref GatherIdeal.sig .tc) := (c.tc : Thread GatherIdeal.nD GatherIdeal.τ).loc b

/-- Each core ends with the whole arrays: over any float values. -/
theorem meets {F : FTy → Type} [FloatOps F] :
  ∀ (m : (ℓ : Loc GatherIdeal.nD GatherIdeal.τ GatherIdeal.sig) → Buf (Elt F) ℓ) (g : Dev GatherIdeal.nD → PrngReg)
    (m' : (ℓ : Loc GatherRefIdeal.nD GatherRefIdeal.τ GatherRefIdeal.sig) → Buf (Elt F) ℓ) (g' : Dev GatherRefIdeal.nD → PrngReg),
    (∀ c : Dev GatherIdeal.nD,
      m (own c GatherIdeal.main_arg0) = Layout.blockN ⟨2, ![1024, 1672]⟩ ⟨2, ![1024, 6688]⟩ (Layout.meshBlock [2, 2, 2] ![[], [0, 1]] c) (m' (whole GatherRefIdeal.main_arg0))
      ∧ m (own c GatherIdeal.main_arg1) = Layout.blockN ⟨2, ![512, 1024]⟩ ⟨2, ![2048, 1024]⟩ (Layout.meshBlock [2, 2, 2] ![[0, 1], []] c) (m' (whole GatherRefIdeal.main_arg1))
      ∧ m (own c GatherIdeal.main_arg2) = Layout.blockN ⟨2, ![1024, 1408]⟩ ⟨2, ![1024, 5632]⟩ (Layout.meshBlock [2, 2, 2] ![[], [0, 1]] c) (m' (whole GatherRefIdeal.main_arg2))
      ∧ m (own c GatherIdeal.main_arg3) = Layout.blockN ⟨2, ![704, 1024]⟩ ⟨2, ![2816, 1024]⟩ (Layout.meshBlock [2, 2, 2] ![[0, 1], []] c) (m' (whole GatherRefIdeal.main_arg3))
      ∧ m (own c GatherIdeal.main_arg4) = Layout.blockN ⟨2, ![4, 768]⟩ ⟨2, ![4, 3072]⟩ (Layout.meshBlock [2, 2, 2] ![[], [0, 1]] c) (m' (whole GatherRefIdeal.main_arg4))
      ∧ m (own c GatherIdeal.main_arg5) = Layout.blockN ⟨2, ![4, 384]⟩ ⟨2, ![4, 1536]⟩ (Layout.meshBlock [2, 2, 2] ![[], [0, 1]] c) (m' (whole GatherRefIdeal.main_arg5))
      ∧ m (own c GatherIdeal.main_arg6) = Layout.blockN ⟨2, ![3, 1408]⟩ ⟨2, ![3, 5632]⟩ (Layout.meshBlock [2, 2, 2] ![[], [0, 1]] c) (m' (whole GatherRefIdeal.main_arg6))) →
    ∃ (v0 : Buf (Elt F) (whole GatherRefIdeal.main_v1)) (v1 : Buf (Elt F) (whole GatherRefIdeal.main_v2)) (v2 : Buf (Elt F) (whole GatherRefIdeal.main_v4)) (v3 : Buf (Elt F) (whole GatherRefIdeal.main_v5)) (v4 : Buf (Elt F) (whole GatherRefIdeal.main_v7)) (v5 : Buf (Elt F) (whole GatherRefIdeal.main_v9)) (v6 : Buf (Elt F) (whole GatherRefIdeal.main_v11)),
      θ_run (GatherIdeal.defs (F := F)) (onTc (τ := GatherIdeal.τ) (GatherIdeal.main (F := F))) ⟨m, fun _ => 0, g⟩ (fun r => ∀ c : Dev GatherIdeal.nD,
          r.2.mem (own c GatherIdeal.main_v1_0) = v0
          ∧ r.2.mem (own c GatherIdeal.main_v1_1) = v1
          ∧ r.2.mem (own c GatherIdeal.main_v1_2) = v2
          ∧ r.2.mem (own c GatherIdeal.main_v1_3) = v3
          ∧ r.2.mem (own c GatherIdeal.main_v1_4) = v4
          ∧ r.2.mem (own c GatherIdeal.main_v1_5) = v5
          ∧ r.2.mem (own c GatherIdeal.main_v1_6) = v6
          ∧ r.2.mem (own c GatherIdeal.main_arg0) = m (own c GatherIdeal.main_arg0)
          ∧ r.2.mem (own c GatherIdeal.main_arg1) = m (own c GatherIdeal.main_arg1)
          ∧ r.2.mem (own c GatherIdeal.main_arg2) = m (own c GatherIdeal.main_arg2)
          ∧ r.2.mem (own c GatherIdeal.main_arg3) = m (own c GatherIdeal.main_arg3)
          ∧ r.2.mem (own c GatherIdeal.main_arg4) = m (own c GatherIdeal.main_arg4)
          ∧ r.2.mem (own c GatherIdeal.main_arg5) = m (own c GatherIdeal.main_arg5)
          ∧ r.2.mem (own c GatherIdeal.main_arg6) = m (own c GatherIdeal.main_arg6))
      ∧ θ_run (GatherRefIdeal.defs (F := F)) (onTc (τ := GatherRefIdeal.τ) (GatherRefIdeal.main (F := F))) ⟨m', fun _ => 0, g'⟩ (fun r =>
          r.2.mem (whole GatherRefIdeal.main_v1) = v0
          ∧ r.2.mem (whole GatherRefIdeal.main_v2) = v1
          ∧ r.2.mem (whole GatherRefIdeal.main_v4) = v2
          ∧ r.2.mem (whole GatherRefIdeal.main_v5) = v3
          ∧ r.2.mem (whole GatherRefIdeal.main_v7) = v4
          ∧ r.2.mem (whole GatherRefIdeal.main_v9) = v5
          ∧ r.2.mem (whole GatherRefIdeal.main_v11) = v6
          ∧ r.2.mem (whole GatherRefIdeal.main_arg0) = m' (whole GatherRefIdeal.main_arg0)
          ∧ r.2.mem (whole GatherRefIdeal.main_arg1) = m' (whole GatherRefIdeal.main_arg1)
          ∧ r.2.mem (whole GatherRefIdeal.main_arg2) = m' (whole GatherRefIdeal.main_arg2)
          ∧ r.2.mem (whole GatherRefIdeal.main_arg3) = m' (whole GatherRefIdeal.main_arg3)
          ∧ r.2.mem (whole GatherRefIdeal.main_arg4) = m' (whole GatherRefIdeal.main_arg4)
          ∧ r.2.mem (whole GatherRefIdeal.main_arg5) = m' (whole GatherRefIdeal.main_arg5)
          ∧ r.2.mem (whole GatherRefIdeal.main_arg6) = m' (whole GatherRefIdeal.main_arg6)) := by
  intro m g m' g' hin
  refine ⟨_, _, _, _, _, _, _, ?_, (θ_run Cert.GatherRefIdeal.defs _ _).mono (fun r h => h 0) (Cert.GatherRefIdeal.Value.run (F := F) m' g')⟩
  refine (θ_run Cert.GatherIdeal.defs _ _).mono (fun r h c => ⟨?_, ?_, ?_, ?_, ?_, ?_, ?_, (h.1 c).2 0, (h.1 c).2 1, (h.1 c).2 2, (h.1 c).2 3, (h.1 c).2 4, (h.1 c).2 5, (h.1 c).2 6⟩) (run_main (F := F) m g)
  · exact gather_cols_end (by decide) _ _ _ (by decide) (fun (d : Dev Cert.GatherIdeal.nD) => m ((d.tc : Thread Cert.GatherIdeal.nD Cert.GatherIdeal.τ).loc Cert.GatherIdeal.main_arg0)) _ c
      (fun d => (hin d).1) (row_0 (h.1 c).1)
  · exact gather_rows_end (by decide) _ _ (by decide) (fun (d : Dev Cert.GatherIdeal.nD) => m ((d.tc : Thread Cert.GatherIdeal.nD Cert.GatherIdeal.τ).loc Cert.GatherIdeal.main_arg1)) _ c
      (fun d => (hin d).2.1) (row_1 (h.1 c).1)
  · exact gather_cols_end (by decide) _ _ _ (by decide) (fun (d : Dev Cert.GatherIdeal.nD) => m ((d.tc : Thread Cert.GatherIdeal.nD Cert.GatherIdeal.τ).loc Cert.GatherIdeal.main_arg2)) _ c
      (fun d => (hin d).2.2.1) (row_2 (h.1 c).1)
  · exact gather_rows_end (by decide) _ _ (by decide) (fun (d : Dev Cert.GatherIdeal.nD) => m ((d.tc : Thread Cert.GatherIdeal.nD Cert.GatherIdeal.τ).loc Cert.GatherIdeal.main_arg3)) _ c
      (fun d => (hin d).2.2.2.1) (row_3 (h.1 c).1)
  · exact gather_cols_end (by decide) _ _ _ (by decide) (fun (d : Dev Cert.GatherIdeal.nD) => m ((d.tc : Thread Cert.GatherIdeal.nD Cert.GatherIdeal.τ).loc Cert.GatherIdeal.main_arg4)) _ c
      (fun d => (hin d).2.2.2.2.1) (row_4 (h.1 c).1)
  · exact gather_cols_end (by decide) _ _ _ (by decide) (fun (d : Dev Cert.GatherIdeal.nD) => m ((d.tc : Thread Cert.GatherIdeal.nD Cert.GatherIdeal.τ).loc Cert.GatherIdeal.main_arg5)) _ c
      (fun d => (hin d).2.2.2.2.2.1) (row_5 (h.1 c).1)
  · exact gather_cols_end (by decide) _ _ _ (by decide) (fun (d : Dev Cert.GatherIdeal.nD) => m ((d.tc : Thread Cert.GatherIdeal.nD Cert.GatherIdeal.τ).loc Cert.GatherIdeal.main_arg6)) _ c
      (fun d => (hin d).2.2.2.2.2.2) (row_6 (h.1 c).1)

/-- The claim over the reals. -/
theorem algebraic : Cert.algebraic_GatherIdeal_GatherRefIdeal := fun m g m' g' _ hin => meets m g m' g' hin

/-- The claim on the words themselves. -/
theorem bitexact : Cert.bitexact_Gather_GatherRef := fun m g m' g' _ hin => meets (F := Bits) m g m' g' hin

end Cert.Proof.Gather

end
-- ==== Proof.SendRun.lean ====
/-
`pair_reduce_send` as an exchange (Exch.lean): its tables read off the printed body, its arrays dealt to the copies, and the
run of the whole program, over any float.
-/
module

public import proofs.«01_k».proof.Proof.ExchMem

public import proofs.«01_k».proof.Proof.Gen.SendIdeal.Skeleton
public import proofs.«01_k».proof.Proof.Gen.SendIdeal.Launch

@[expose] public section

noncomputable section

namespace Cert.SendIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Exch
open Cert.SendIdeal Cert.SendIdeal.Facts₀ Cert.SendIdeal.Facts

set_option Elab.async false

variable {F : FTy → Type} [FloatOps F]
local notation "𝕄" => MT nD τ sig Unit (Elt F) ℕ (UU nD τ sig) ℕ

/-! ### The tables -/

/-- The shape and the element type of a copy of array `a`. -/
def shp : Fin 4 → Shape
  | 0 => S4x512x1672
  | 1 => S4x256x1024
  | 2 => S4x512x1408
  | 3 => S4x352x1024
def elt : Fin 4 → EltTy
  | 0 => .f32
  | 1 => .f32
  | 2 => .f32
  | 3 => .f32
/-- The arrays read and the arrays written. -/
def inp : Fin 4 → Ref sig .tc
  | 0 => main_arg0
  | 1 => main_arg1
  | 2 => main_arg2
  | 3 => main_arg3
def out : Fin 4 → Ref sig .tc
  | 0 => main_v1_0
  | 1 => main_v1_1
  | 2 => main_v1_2
  | 3 => main_v1_3
/-- What device `c` reads of array `a` for its copy `j`. -/
def src (i : Fin 4 × Fin 1) (c : Dev nD) : Memref sig .tc .hbm (shp i.1) (elt i.1) :=
  match i with
  | (0, 0) => (Memref.whole main_arg0).slice (Rect.unit (s := S4x1024x1672) (k0_off1 c) S4x512x1672.size (k0_off1_inb c)) (fun _ => rfl)
  | (1, 0) => (Memref.whole main_arg1).slice (Rect.unit (s := S4x512x1024) (k0_off2 c) S4x256x1024.size (k0_off2_inb c)) (fun _ => rfl)
  | (2, 0) => (Memref.whole main_arg2).slice (Rect.unit (s := S4x1024x1408) (k0_off3 c) S4x512x1408.size (k0_off3_inb c)) (fun _ => rfl)
  | (3, 0) => (Memref.whole main_arg3).slice (Rect.unit (s := S4x704x1024) (k0_off4 c) S4x352x1024.size (k0_off4_inb c)) (fun _ => rfl)
/-- Where a copy of device `c` from array `a` goes, on whatever device. -/
def dst (a : Fin 4) (c : Dev nD) : Memref sig .tc .hbm (shp a) (elt a) :=
  match a with
  | 0 => Memref.whole main_v1_0
  | 1 => Memref.whole main_v1_1
  | 2 => Memref.whole main_v1_2
  | 3 => Memref.whole main_v1_3
/-- The peer of a copy. -/
def peer (i : Fin 4 × Fin 1) (c : Dev nD) : Dev nD :=
  match i with
  | (0, 0) => ⟨k0_dev1 c, k0_dev1_lt c⟩
  | (1, 0) => ⟨k0_dev2 c, k0_dev2_lt c⟩
  | (2, 0) => ⟨k0_dev3 c, k0_dev3_lt c⟩
  | (3, 0) => ⟨k0_dev4 c, k0_dev4_lt c⟩
/-- The semaphores, in the order of the pool. -/
def sem : (Fin 4 × Fin 1) ⊕ (Fin 4 × Fin 1) ⊕ Fin 0 → DmaSem sig
  | .inl i => (⟨i.1.val, by have := i.1.isLt; have := i.2.isLt; omega⟩ : Fin 8)
  | .inr (.inl i) => (⟨4 + (i.1.val), by have := i.1.isLt; have := i.2.isLt; omega⟩ : Fin 8)
  | .inr (.inr a) => a.elim0
/-- What a copy of array `a` counts. -/
def cnt (a : Fin 4) : ℕ := (dst a 0).view.dmaCredit
def amt : (Fin 4 × Fin 1) ⊕ (Fin 4 × Fin 1) ⊕ Fin 0 → ℕ
  | .inl i => cnt i.1
  | .inr (.inl i) => cnt i.1
  | .inr (.inr a) => a.elim0

theorem shp_pos : ∀ a : Fin 4, 0 < (shp a).numel := by decide +kernel
theorem sem_inj : Function.Injective sem := by decide +kernel
theorem peer_peer : ∀ i c, peer i (peer i c) = c := by decide +kernel
theorem dst_exact (a : Fin 4) (c : Dev nD) : (dst a c).view.WordExact :=
  match a with
  | 0 => (Memref.isWhole_whole _).wordExact
  | 1 => (Memref.isWhole_whole _).wordExact
  | 2 => (Memref.isWhole_whole _).wordExact
  | 3 => (Memref.isWhole_whole _).wordExact
theorem src_exact (i : Fin 4 × Fin 1) (c : Dev nD) : (src i c).view.WordExact :=
  match i with
  | (0, 0) => View.wordExact_bits rfl
  | (1, 0) => View.wordExact_bits rfl
  | (2, 0) => View.wordExact_bits rfl
  | (3, 0) => View.wordExact_bits rfl
theorem dst_plain (a : Fin 4) (c : Dev nD) : (dst a c).view.ref.isScScratch = false :=
  match a with
  | 0 => rfl
  | 1 => rfl
  | 2 => rfl
  | 3 => rfl
theorem src_cnt (i : Fin 4 × Fin 1) (c : Dev nD) : (src i c).view.dmaCredit = cnt i.1 :=
  match i with
  | (0, 0) => rfl
  | (1, 0) => rfl
  | (2, 0) => rfl
  | (3, 0) => rfl
theorem dst_cnt (a : Fin 4) (c : Dev nD) : (dst a c).view.dmaCredit = cnt a :=
  match a with
  | 0 => rfl
  | 1 => rfl
  | 2 => rfl
  | 3 => rfl
/-- The copies and the waits, in the order of the body. -/
def starts : List (Fin 0 ⊕ Fin 4 × Fin 1) :=
  [.inr (0, 0), .inr (1, 0), .inr (2, 0), .inr (3, 0)]
def waits : List ((Fin 4 × Fin 1) ⊕ (Fin 4 × Fin 1) ⊕ Fin 0) :=
  [.inr (.inl (0, 0)), .inr (.inl (1, 0)), .inr (.inl (2, 0)), .inr (.inl (3, 0)), .inl (0, 0), .inl (1, 0), .inl (2, 0), .inl (3, 0)]
theorem starts_nodup : starts.Nodup := by decide +kernel
theorem starts_all (x) : x ∈ starts :=
  have h : starts.toFinset = Finset.univ := by decide +kernel
  List.mem_toFinset.mp (h ▸ Finset.mem_univ x)
theorem waits_nodup : waits.Nodup := by decide +kernel
theorem waits_all (x) : x ∈ waits :=
  have h : waits.toFinset = Finset.univ := by decide +kernel
  List.mem_toFinset.mp (h ▸ Finset.mem_univ x)

/-- The exchange. -/
def plan : Plan nD τ sig where
  I := Fin 4 × Fin 1
  J := Fin 0
  sh i := shp i.1
  el i := elt i.1
  peer := peer
  src := src
  dst i := dst i.1
  lsh a := a.elim0
  lel a := a.elim0
  lsrc a := a.elim0
  ldst a := a.elim0
  sem := sem
  amt := amt
  share i := piece (i.2.val + 2)
  lshare _ := piece 1
  starts := starts
  waits := waits
  peer_peer := peer_peer
  sem_inj := sem_inj
  src_exact := src_exact
  dst_exact i := dst_exact i.1
  lsrc_exact a := a.elim0
  ldst_exact a := a.elim0
  scratch i := dst_plain i.1
  amt_pos k := match k with
    | .inl i => (dst i.1 0).view.dmaCredit_pos (shp_pos i.1)
    | .inr (.inl i) => (dst i.1 0).view.dmaCredit_pos (shp_pos i.1)
    | .inr (.inr a) => a.elim0
  src_amt := src_cnt
  dst_send i := dst_cnt i.1
  dst_amt i := dst_cnt i.1
  ldst_amt a := a.elim0
  starts_nodup := starts_nodup
  starts_all := starts_all
  waits_nodup := waits_nodup
  waits_all := waits_all

/-! ### The body -/

set_option maxRecDepth 65536 in
theorem body_eq : cc0_pair_reduce_send (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1
      = .op .deviceId fun d => plan.prog d := by
  chain_rfl

/-- The printed body runs the exchange. -/
theorem body_runs (𝒱₀ : Variants) (c : Dev nD) (R : sProp 𝕄) :
    wp frame (wpE (defs₀ (F := F)) 𝒱₀ (c : Thread nD τ) none) Set.univ (plan.prog c) (fun _ => R)
      ⊢ wp frame (wpE (defs₀ (F := F)) 𝒱₀ (c : Thread nD τ) none) Set.univ
          (cc0_pair_reduce_send (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1) fun _ => R := by
  rw [body_eq, wp_deviceId]

/-! ### The arrays -/

/-- What a device reads, it holds whole; what it writes, too. -/
theorem arrays (c : Dev nD) (V : (b : Ref sig .tc) → Buf (Elt F) ((c : Thread nD τ).loc b)) :
    (unscopedBufs c V : sProp 𝕄)
      ⊢ iprop((bigSep Finset.univ fun a : Fin 4 => ((c : Thread nD τ).loc (inp a)) ↦{fullShare} V (inp a))
          ∗ bigSep Finset.univ fun a : Fin 4 => ((c : Thread nD τ).loc (out a)) ↦{fullShare} V (out a)) := by
  rw [bigSep_univ_eq_bigSepL [0, 1, 2, 3] (by decide) (by decide), bigSep_univ_eq_bigSepL [0, 1, 2, 3] (by decide) (by decide)]
  unfold unscopedBufs
  rw [bigSep_eq_bigSepL_of_eq [main_arg0, main_arg1, main_arg2, main_arg3, main_v1_0, main_v1_1, main_v1_2, main_v1_3] (by decide) (by decide)]
  exact Entails.of_eq (bigSepL_append [main_arg0, main_arg1, main_arg2, main_arg3] [main_v1_0, main_v1_1, main_v1_2, main_v1_3] _)

variable (m : (ℓ : Loc nD τ sig) → Buf (Elt F) ℓ)

/-! What the copies take, read off the tables. -/
def sset_0 (c : Dev nD) (j : Fin 1) : Finset (Idx ((c : Thread nD τ).loc main_arg0)) :=
  match j with | 0 => (src (0, 0) c).view.set
def sset_1 (c : Dev nD) (j : Fin 1) : Finset (Idx ((c : Thread nD τ).loc main_arg1)) :=
  match j with | 0 => (src (1, 0) c).view.set
def sset_2 (c : Dev nD) (j : Fin 1) : Finset (Idx ((c : Thread nD τ).loc main_arg2)) :=
  match j with | 0 => (src (2, 0) c).view.set
def sset_3 (c : Dev nD) (j : Fin 1) : Finset (Idx ((c : Thread nD τ).loc main_arg3)) :=
  match j with | 0 => (src (3, 0) c).view.set
theorem src_at_0_0 (c : Dev nD) : plan.srcPts m (0, 0) c
    = (((c : Thread nD τ).loc (inp 0)) ↦[sset_0 c 0]{piece ((0 : Fin 1).val + 2)} m ((c : Thread nD τ).loc (inp 0)) : sProp 𝕄) := rfl
theorem dst_at_0 (j : Fin 1) (c d : Dev nD) : plan.dstAny (0, j) c d
    = (iprop(∃ f, ((d : Thread nD τ).loc (out 0)) ↦[(dst 0 c).view.set]{fullShare} f) : sProp 𝕄) := rfl
theorem src_at_1_0 (c : Dev nD) : plan.srcPts m (1, 0) c
    = (((c : Thread nD τ).loc (inp 1)) ↦[sset_1 c 0]{piece ((0 : Fin 1).val + 2)} m ((c : Thread nD τ).loc (inp 1)) : sProp 𝕄) := rfl
theorem dst_at_1 (j : Fin 1) (c d : Dev nD) : plan.dstAny (1, j) c d
    = (iprop(∃ f, ((d : Thread nD τ).loc (out 1)) ↦[(dst 1 c).view.set]{fullShare} f) : sProp 𝕄) := rfl
theorem src_at_2_0 (c : Dev nD) : plan.srcPts m (2, 0) c
    = (((c : Thread nD τ).loc (inp 2)) ↦[sset_2 c 0]{piece ((0 : Fin 1).val + 2)} m ((c : Thread nD τ).loc (inp 2)) : sProp 𝕄) := rfl
theorem dst_at_2 (j : Fin 1) (c d : Dev nD) : plan.dstAny (2, j) c d
    = (iprop(∃ f, ((d : Thread nD τ).loc (out 2)) ↦[(dst 2 c).view.set]{fullShare} f) : sProp 𝕄) := rfl
theorem src_at_3_0 (c : Dev nD) : plan.srcPts m (3, 0) c
    = (((c : Thread nD τ).loc (inp 3)) ↦[sset_3 c 0]{piece ((0 : Fin 1).val + 2)} m ((c : Thread nD τ).loc (inp 3)) : sProp 𝕄) := rfl
theorem dst_at_3 (j : Fin 1) (c d : Dev nD) : plan.dstAny (3, j) c d
    = (iprop(∃ f, ((d : Thread nD τ).loc (out 3)) ↦[(dst 3 c).view.set]{fullShare} f) : sProp 𝕄) := rfl

/-- An array that is read, dealt to the copies that read it. -/
theorem deal_in (c : Dev nD) (a : Fin 4) : (((c : Thread nD τ).loc (inp a)) ↦{fullShare} m ((c : Thread nD τ).loc (inp a)) : sProp 𝕄)
    ⊢ iprop((((c : Thread nD τ).loc (inp a)) ↦{piece 0} m ((c : Thread nD τ).loc (inp a)))
        ∗ bigSep Finset.univ fun j : Fin 1 => plan.srcPts m (a, j) c) :=
  match a with
  | 0 => (deal_source (m ((c : Thread nD τ).loc (inp 0))) ∅ (sset_0 c)).trans (sep_mono_right (sep_elim_right.trans (bigSep_mono fun j _ => match j with | 0 => Entails.of_eq (src_at_0_0 m c).symm)))
  | 1 => (deal_source (m ((c : Thread nD τ).loc (inp 1))) ∅ (sset_1 c)).trans (sep_mono_right (sep_elim_right.trans (bigSep_mono fun j _ => match j with | 0 => Entails.of_eq (src_at_1_0 m c).symm)))
  | 2 => (deal_source (m ((c : Thread nD τ).loc (inp 2))) ∅ (sset_2 c)).trans (sep_mono_right (sep_elim_right.trans (bigSep_mono fun j _ => match j with | 0 => Entails.of_eq (src_at_2_0 m c).symm)))
  | 3 => (deal_source (m ((c : Thread nD τ).loc (inp 3))) ∅ (sset_3 c)).trans (sep_mono_right (sep_elim_right.trans (bigSep_mono fun j _ => match j with | 0 => Entails.of_eq (src_at_3_0 m c).symm)))

/-- An array that is written, dealt to the copies that write it. -/
theorem deal_out (c : Dev nD) (a : Fin 4) : (((c : Thread nD τ).loc (out a)) ↦{fullShare} m ((c : Thread nD τ).loc (out a)) : sProp 𝕄)
    ⊢ bigSep Finset.univ fun j : Fin 1 => plan.dstAny (a, j) (plan.peer (a, j) c) c :=
  by
  rw [bigSep_univ_eq_bigSepL [0] (by decide) (by decide), bigSepL_singleton]
  exact match a with
  | 0 => (deal_alone (m ((c : Thread nD τ).loc (out 0))) (dst 0 (peer (0, 0) c)).view.set).trans (Entails.of_eq (dst_at_0 0 (peer (0, 0) c) c).symm)
  | 1 => (deal_alone (m ((c : Thread nD τ).loc (out 1))) (dst 1 (peer (1, 0) c)).view.set).trans (Entails.of_eq (dst_at_1 0 (peer (1, 0) c) c).symm)
  | 2 => (deal_alone (m ((c : Thread nD τ).loc (out 2))) (dst 2 (peer (2, 0) c)).view.set).trans (Entails.of_eq (dst_at_2 0 (peer (2, 0) c) c).symm)
  | 3 => (deal_alone (m ((c : Thread nD τ).loc (out 3))) (dst 3 (peer (3, 0) c)).view.set).trans (Entails.of_eq (dst_at_3 0 (peer (3, 0) c) c).symm)

/-- What a device keeps for itself: a share of every array that is read. -/
def keep (c : Dev nD) : sProp 𝕄 :=
  bigSep Finset.univ fun a : Fin 4 => ((c : Thread nD τ).loc (inp a)) ↦{piece 0} m ((c : Thread nD τ).loc (inp a))

theorem split (c : Dev nD) : (unscopedBufs c (fun b => m ((c.tc : Thread nD τ).loc b)) : sProp 𝕄) ⊢ iprop(plan.brings m c ∗ keep m c) :=
  (arrays c fun b => m ((c.tc : Thread nD τ).loc b)).trans (regroup_remote (A := Fin 4) (B := Fin 1) _ _ _ _ _ _ _ (deal_in m c) (deal_out m c))

/-! ### The run -/

instance : ∀ q, IsEmpty (Fin (Pipeline.pin (pcfgs (F := F)) (fun p => (cfgs p).toPCfg_adm) q).W) := fun _ => inferInstanceAs (IsEmpty (Fin 0))

set_option maxRecDepth 65536 in
theorem own_sems : Pipeline.OwnSemFacts (cfg0.spec) fun k : (Fin 4 × Fin 1) ⊕ (Fin 4 × Fin 1) ⊕ Fin 0 => (SemLoc.dma (sem k) : SemLoc sig) := by decide +kernel

set_option maxRecDepth 65536 in
theorem all_scoped : ∀ sm : SemLoc sig, sm.isScoped .tc = true := by decide +kernel

set_option maxRecDepth 65536 in
/-- The whole program: every copy has landed, the arrays that are read are unchanged, every semaphore counts zero. -/
theorem run_main (g : Dev nD → PrngReg) :
    θ_run (defs (F := F)) (onTc (τ := τ) (main (F := F))) ⟨m, fun _ => 0, g⟩ fun r =>
      (∀ c : Dev nD, plan.Landed m c r.2.mem ∧ ∀ a, r.2.mem ((c : Thread nD τ).loc (inp a)) = m ((c : Thread nD τ).loc (inp a)))
        ∧ r.2.sem = fun _ => 0 :=
  θ_run_exchange (pcs := pcfgs (F := F)) (a := fun p => (cfgs p).toPCfg_adm) plan m (0 : Fin 1) defs₀ Variants.none (keep m) Gen.cellOf_inj Gen.winFacts0.to₀
    Gen.N_0 own_sems (fun _ _ c R => body_runs _ c R)
    (fun _ => Entails.of_eq (by unfold Pipeline.prefHeld; exact (BI.bigSep_empty (Φ := _)).symm))
    (fun c => Entails.of_eq (Gen.scopedRest0_eq c).symm) g main (fun _ => rfl) (split m)
    (fun c μ => ∀ a, μ ((c : Thread nD τ).loc (inp a)) = m ((c : Thread nD τ).loc (inp a)))
    (fun c s' => read_kept inp c (piece 0) m s')
    fun s h hs => ⟨h, sem_eq_zero_of_scoped all_scoped hs⟩

end Cert.SendIdeal.Own

end
-- ==== Proof.SendRef.lean ====
/-
The values of `pair_reduce_send`: what lands at a core is the other core's half of every block, which is that core's part of
the whole arrays exchanged. The frames of the three programs and the claim about their values follow.
-/
module

public import proofs.«01_k».proof.Defs
public import proofs.«01_k».proof.Proof.SendRun
public import proofs.«01_k».proof.Proof.Rows
public import proofs.«01_k».proof.Proof.Gen.Send
public import proofs.«01_k».proof.Proof.Gen.SendRef
public import proofs.«01_k».proof.Proof.Gen.SendRefIdeal.Run

@[expose] public section

noncomputable section

namespace Cert.SendIdeal.Own

open Idealize.ShloMosaic Idealize.ShloMosaic.Rows Idealize.ShloMosaic.ValueIdx
open Idealize.ShloMosaic.TcCoe
open Idealize.SL.Sem
open Idealize.ShloMosaic.Exch
open Cert.SendIdeal Cert.SendIdeal.Facts₀ Cert.SendIdeal.Facts

/-- Every copy comes from the other core of the chip. -/
theorem peer_eq : ∀ (i : Fin 4 × Fin 1) (c : Fin 8), peer i c = dev (chip c) ⟨1 - (core c).val, by omega⟩ := by decide +kernel

/-- Array 0 as it lands: row `l` of the other core's block for row `i` of this core's half. -/
theorem half_0 {F : FTy → Type} {m μ : (ℓ : Loc nD τ sig) → Buf (Elt F) ℓ} {c : Dev nD} (h : plan.Landed m c μ) (b : Fin 4) (i : Fin 512) (j : Fin 1672)
    (l : Fin 1024) (hl : l.val = (core c).val * 512 + i.val) :
    μ ((c : Thread nD τ).loc main_v1_0) (ix3 b i j) = m ((peer (0, 0) c : Thread nD τ).loc main_arg0) (ix3 b l j) := by
  have ho : ∀ c : Fin 8, k0_off1 (peer (0, 0) c) 0 = 0 ∧ k0_off1 (peer (0, 0) c) 1 = (core c).val * 512 ∧ k0_off1 (peer (0, 0) c) 2 = 0 := by
    decide +kernel
  exact (congrFun (h.1 (0, 0)) (ix3 b i j)).trans (congrArg (m ((peer (0, 0) c : Thread nD τ).loc main_arg0))
    (stretch_idx (k0_off1_inb (peer (0, 0) c)) b i j l (by rw [(ho c).2.1, hl])))

/-- Array 1 as it lands: row `l` of the other core's block for row `i` of this core's half. -/
theorem half_1 {F : FTy → Type} {m μ : (ℓ : Loc nD τ sig) → Buf (Elt F) ℓ} {c : Dev nD} (h : plan.Landed m c μ) (b : Fin 4) (i : Fin 256) (j : Fin 1024)
    (l : Fin 512) (hl : l.val = (core c).val * 256 + i.val) :
    μ ((c : Thread nD τ).loc main_v1_1) (ix3 b i j) = m ((peer (1, 0) c : Thread nD τ).loc main_arg1) (ix3 b l j) := by
  have ho : ∀ c : Fin 8, k0_off2 (peer (1, 0) c) 0 = 0 ∧ k0_off2 (peer (1, 0) c) 1 = (core c).val * 256 ∧ k0_off2 (peer (1, 0) c) 2 = 0 := by
    decide +kernel
  exact (congrFun (h.1 (1, 0)) (ix3 b i j)).trans (congrArg (m ((peer (1, 0) c : Thread nD τ).loc main_arg1))
    (stretch_idx (k0_off2_inb (peer (1, 0) c)) b i j l (by rw [(ho c).2.1, hl])))

/-- Array 2 as it lands: row `l` of the other core's block for row `i` of this core's half. -/
theorem half_2 {F : FTy → Type} {m μ : (ℓ : Loc nD τ sig) → Buf (Elt F) ℓ} {c : Dev nD} (h : plan.Landed m c μ) (b : Fin 4) (i : Fin 512) (j : Fin 1408)
    (l : Fin 1024) (hl : l.val = (core c).val * 512 + i.val) :
    μ ((c : Thread nD τ).loc main_v1_2) (ix3 b i j) = m ((peer (2, 0) c : Thread nD τ).loc main_arg2) (ix3 b l j) := by
  have ho : ∀ c : Fin 8, k0_off3 (peer (2, 0) c) 0 = 0 ∧ k0_off3 (peer (2, 0) c) 1 = (core c).val * 512 ∧ k0_off3 (peer (2, 0) c) 2 = 0 := by
    decide +kernel
  exact (congrFun (h.1 (2, 0)) (ix3 b i j)).trans (congrArg (m ((peer (2, 0) c : Thread nD τ).loc main_arg2))
    (stretch_idx (k0_off3_inb (peer (2, 0) c)) b i j l (by rw [(ho c).2.1, hl])))

/-- Array 3 as it lands: row `l` of the other core's block for row `i` of this core's half. -/
theorem half_3 {F : FTy → Type} {m μ : (ℓ : Loc nD τ sig) → Buf (Elt F) ℓ} {c : Dev nD} (h : plan.Landed m c μ) (b : Fin 4) (i : Fin 352) (j : Fin 1024)
    (l : Fin 704) (hl : l.val = (core c).val * 352 + i.val) :
    μ ((c : Thread nD τ).loc main_v1_3) (ix3 b i j) = m ((peer (3, 0) c : Thread nD τ).loc main_arg3) (ix3 b l j) := by
  have ho : ∀ c : Fin 8, k0_off4 (peer (3, 0) c) 0 = 0 ∧ k0_off4 (peer (3, 0) c) 1 = (core c).val * 352 ∧ k0_off4 (peer (3, 0) c) 2 = 0 := by
    decide +kernel
  exact (congrFun (h.1 (3, 0)) (ix3 b i j)).trans (congrArg (m ((peer (3, 0) c : Thread nD τ).loc main_arg3))
    (stretch_idx (k0_off4_inb (peer (3, 0) c)) b i j l (by rw [(ho c).2.1, hl])))

end Cert.SendIdeal.Own

namespace Cert.Proof.Send

open Idealize.ShloMosaic Idealize.ShloMosaic.Rows Idealize.SL.Sem Cert.SendIdeal.Own

/-- The kernel's frame, from the one run at the words. -/
theorem frame_kernel : Cert.quiescent_Send := fun m ρ _ =>
  (θ_run Cert.SendIdeal.defs _ _).mono (fun _ h => ⟨fun c => ⟨(h.1 c).2 0, (h.1 c).2 1, (h.1 c).2 2, (h.1 c).2 3⟩, h.2⟩) (run_main (F := Bits) m ρ)

/-- The idealization's. -/
theorem frame_ideal : Cert.quiescent_SendIdeal := fun m ρ _ =>
  (θ_run Cert.SendIdeal.defs _ _).mono (fun _ h => ⟨fun c => ⟨(h.1 c).2 0, (h.1 c).2 1, (h.1 c).2 2, (h.1 c).2 3⟩, h.2⟩) (run_main (F := Ideal) m ρ)

/-- The reference's: it has no semaphore. -/
theorem frame_ref : Cert.quiescent_SendRefIdeal := fun m ρ _ =>
  (θ_run Cert.SendRefIdeal.defs _ _).mono (fun r h => ⟨fun c => (h c).2.2.2.2, sem_eq_zero_of_no_sems (by decide) r.2⟩)
    (Cert.SendRefIdeal.Value.run (F := Ideal) m ρ)

/-- The same, of the reference at the words. -/
theorem frame_words : Cert.quiescent_SendRef := fun m ρ _ =>
  (θ_run Cert.SendRefIdeal.defs _ _).mono (fun r h => ⟨fun c => (h c).2.2.2.2, sem_eq_zero_of_no_sems (by decide) r.2⟩)
    (Cert.SendRefIdeal.Value.run (F := Bits) m ρ)

/-- Where the reference holds an array, -/
abbrev whole (b : Ref SendRefIdeal.sig .tc) := ((0 : Dev SendRefIdeal.nD).tc : Thread SendRefIdeal.nD SendRefIdeal.τ).loc b

/-- and where core `c` of the mesh holds one. -/
abbrev own (c : Dev SendIdeal.nD) (b : Ref SendIdeal.sig .tc) := (c.tc : Thread SendIdeal.nD SendIdeal.τ).loc b

/-- Each core ends with its part of the exchanged arrays: over any float values. -/
theorem meets {F : FTy → Type} [FloatOps F] :
  ∀ (m : (ℓ : Loc SendIdeal.nD SendIdeal.τ SendIdeal.sig) → Buf (Elt F) ℓ) (g : Dev SendIdeal.nD → PrngReg)
    (m' : (ℓ : Loc SendRefIdeal.nD SendRefIdeal.τ SendRefIdeal.sig) → Buf (Elt F) ℓ) (g' : Dev SendRefIdeal.nD → PrngReg),
    (∀ c : Dev SendIdeal.nD,
      m (own c SendIdeal.main_arg0) = Layout.block ⟨3, ![4, 1024, 1672]⟩ ⟨3, ![32, 1024, 1672]⟩ 0 8 c (m' (whole SendRefIdeal.main_arg0))
      ∧ m (own c SendIdeal.main_arg1) = Layout.block ⟨3, ![4, 512, 1024]⟩ ⟨3, ![32, 512, 1024]⟩ 0 8 c (m' (whole SendRefIdeal.main_arg1))
      ∧ m (own c SendIdeal.main_arg2) = Layout.block ⟨3, ![4, 1024, 1408]⟩ ⟨3, ![32, 1024, 1408]⟩ 0 8 c (m' (whole SendRefIdeal.main_arg2))
      ∧ m (own c SendIdeal.main_arg3) = Layout.block ⟨3, ![4, 704, 1024]⟩ ⟨3, ![32, 704, 1024]⟩ 0 8 c (m' (whole SendRefIdeal.main_arg3))) →
    ∃ (v0 : Buf (Elt F) (whole SendRefIdeal.main_v8)) (v1 : Buf (Elt F) (whole SendRefIdeal.main_v17)) (v2 : Buf (Elt F) (whole SendRefIdeal.main_v26)) (v3 : Buf (Elt F) (whole SendRefIdeal.main_v35)),
      θ_run (SendIdeal.defs (F := F)) (onTc (τ := SendIdeal.τ) (SendIdeal.main (F := F))) ⟨m, fun _ => 0, g⟩ (fun r => ∀ c : Dev SendIdeal.nD,
          r.2.mem (own c SendIdeal.main_v1_0) = Layout.block ⟨3, ![4, 512, 1672]⟩ ⟨3, ![32, 512, 1672]⟩ 0 8 c v0
          ∧ r.2.mem (own c SendIdeal.main_v1_1) = Layout.block ⟨3, ![4, 256, 1024]⟩ ⟨3, ![32, 256, 1024]⟩ 0 8 c v1
          ∧ r.2.mem (own c SendIdeal.main_v1_2) = Layout.block ⟨3, ![4, 512, 1408]⟩ ⟨3, ![32, 512, 1408]⟩ 0 8 c v2
          ∧ r.2.mem (own c SendIdeal.main_v1_3) = Layout.block ⟨3, ![4, 352, 1024]⟩ ⟨3, ![32, 352, 1024]⟩ 0 8 c v3
          ∧ r.2.mem (own c SendIdeal.main_arg0) = m (own c SendIdeal.main_arg0)
          ∧ r.2.mem (own c SendIdeal.main_arg1) = m (own c SendIdeal.main_arg1)
          ∧ r.2.mem (own c SendIdeal.main_arg2) = m (own c SendIdeal.main_arg2)
          ∧ r.2.mem (own c SendIdeal.main_arg3) = m (own c SendIdeal.main_arg3))
      ∧ θ_run (SendRefIdeal.defs (F := F)) (onTc (τ := SendRefIdeal.τ) (SendRefIdeal.main (F := F))) ⟨m', fun _ => 0, g'⟩ (fun r =>
          r.2.mem (whole SendRefIdeal.main_v8) = v0
          ∧ r.2.mem (whole SendRefIdeal.main_v17) = v1
          ∧ r.2.mem (whole SendRefIdeal.main_v26) = v2
          ∧ r.2.mem (whole SendRefIdeal.main_v35) = v3
          ∧ r.2.mem (whole SendRefIdeal.main_arg0) = m' (whole SendRefIdeal.main_arg0)
          ∧ r.2.mem (whole SendRefIdeal.main_arg1) = m' (whole SendRefIdeal.main_arg1)
          ∧ r.2.mem (whole SendRefIdeal.main_arg2) = m' (whole SendRefIdeal.main_arg2)
          ∧ r.2.mem (whole SendRefIdeal.main_arg3) = m' (whole SendRefIdeal.main_arg3)) := by
  intro m g m' g' hin
  refine ⟨_, _, _, _, ?_, (θ_run Cert.SendRefIdeal.defs _ _).mono (fun r h => h 0) (Cert.SendRefIdeal.Value.run (F := F) m' g')⟩
  refine (θ_run Cert.SendIdeal.defs _ _).mono (fun r h c => ⟨?_, ?_, ?_, ?_, (h.1 c).2 0, (h.1 c).2 1, (h.1 c).2 2, (h.1 c).2 3⟩) (run_main (F := F) m g)
  · exact swap_end (by decide) (by decide) _ _ _ _ _ _ _ _ (by decide) (by decide)
      (fun (d : Dev Cert.SendIdeal.nD) => m ((d.tc : Thread Cert.SendIdeal.nD Cert.SendIdeal.τ).loc Cert.SendIdeal.main_arg0)) _ c _ (fun d => (hin d).1)
      (peer_eq (0, 0) c) (half_0 (h.1 c).1)
  · exact swap_end (by decide) (by decide) _ _ _ _ _ _ _ _ (by decide) (by decide)
      (fun (d : Dev Cert.SendIdeal.nD) => m ((d.tc : Thread Cert.SendIdeal.nD Cert.SendIdeal.τ).loc Cert.SendIdeal.main_arg1)) _ c _ (fun d => (hin d).2.1)
      (peer_eq (1, 0) c) (half_1 (h.1 c).1)
  · exact swap_end (by decide) (by decide) _ _ _ _ _ _ _ _ (by decide) (by decide)
      (fun (d : Dev Cert.SendIdeal.nD) => m ((d.tc : Thread Cert.SendIdeal.nD Cert.SendIdeal.τ).loc Cert.SendIdeal.main_arg2)) _ c _ (fun d => (hin d).2.2.1)
      (peer_eq (2, 0) c) (half_2 (h.1 c).1)
  · exact swap_end (by decide) (by decide) _ _ _ _ _ _ _ _ (by decide) (by decide)
      (fun (d : Dev Cert.SendIdeal.nD) => m ((d.tc : Thread Cert.SendIdeal.nD Cert.SendIdeal.τ).loc Cert.SendIdeal.main_arg3)) _ c _ (fun d => (hin d).2.2.2)
      (peer_eq (3, 0) c) (half_3 (h.1 c).1)

/-- The claim over the reals. -/
theorem algebraic : Cert.algebraic_SendIdeal_SendRefIdeal := fun m g m' g' _ hin => meets m g m' g' hin

/-- The claim on the words themselves. -/
theorem bitexact : Cert.bitexact_Send_SendRef := fun m g m' g' _ hin => meets (F := Bits) m g m' g' hin

end Cert.Proof.Send

end
-- ==== Proof.ScatterRun.lean ====
/-
`scatter_chips` as an exchange (Exch.lean): its tables read off the printed body, its arrays dealt to the copies, and the
run of the whole program, over any float.
-/
module

public import proofs.«01_k».proof.Proof.ExchMem

public import proofs.«01_k».proof.Proof.Gen.ScatterIdeal.Skeleton
public import proofs.«01_k».proof.Proof.Gen.ScatterIdeal.Launch

@[expose] public section

noncomputable section

namespace Cert.ScatterIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Exch
open Cert.ScatterIdeal Cert.ScatterIdeal.Facts₀ Cert.ScatterIdeal.Facts

set_option Elab.async false

variable {F : FTy → Type} [FloatOps F]
local notation "𝕄" => MT nD τ sig Unit (Elt F) ℕ (UU nD τ sig) ℕ

/-! ### The tables -/

/-- The shape and the element type of a copy of array `a`. -/
def shp : Fin 4 → Shape
  | 0 => S512x1672
  | 1 => S256x1024
  | 2 => S512x1408
  | 3 => S352x1024
def elt : Fin 4 → EltTy
  | 0 => .f32
  | 1 => .f32
  | 2 => .f32
  | 3 => .f32
/-- The arrays read and the arrays written. -/
def inp : Fin 4 → Ref sig .tc
  | 0 => main_arg0
  | 1 => main_arg1
  | 2 => main_arg2
  | 3 => main_arg3
def out : Fin 4 → Ref sig .tc
  | 0 => main_v1_0
  | 1 => main_v1_1
  | 2 => main_v1_2
  | 3 => main_v1_3
/-- What device `c` reads of array `a` for its copy `j`. -/
def src (i : Fin 4 × Fin 3) (c : Dev nD) : Memref sig .tc .hbm (shp i.1) (elt i.1) :=
  match i with
  | (0, 0) => ((Memref.whole main_arg0).slice (Rect.unit (s := S4x512x1672) (k0_off5 c) S1x512x1672.size (k0_off5_inb c)) (fun _ => rfl)).squeeze S512x1672 squeezes_S1x512x1672_S512x1672
  | (0, 1) => ((Memref.whole main_arg0).slice (Rect.unit (s := S4x512x1672) (k0_off6 c) S1x512x1672.size (k0_off6_inb c)) (fun _ => rfl)).squeeze S512x1672 squeezes_S1x512x1672_S512x1672
  | (0, 2) => ((Memref.whole main_arg0).slice (Rect.unit (s := S4x512x1672) (k0_off7 c) S1x512x1672.size (k0_off7_inb c)) (fun _ => rfl)).squeeze S512x1672 squeezes_S1x512x1672_S512x1672
  | (1, 0) => ((Memref.whole main_arg1).slice (Rect.unit (s := S4x256x1024) (k0_off8 c) S1x256x1024.size (k0_off8_inb c)) (fun _ => rfl)).squeeze S256x1024 squeezes_S1x256x1024_S256x1024
  | (1, 1) => ((Memref.whole main_arg1).slice (Rect.unit (s := S4x256x1024) (k0_off9 c) S1x256x1024.size (k0_off9_inb c)) (fun _ => rfl)).squeeze S256x1024 squeezes_S1x256x1024_S256x1024
  | (1, 2) => ((Memref.whole main_arg1).slice (Rect.unit (s := S4x256x1024) (k0_off10 c) S1x256x1024.size (k0_off10_inb c)) (fun _ => rfl)).squeeze S256x1024 squeezes_S1x256x1024_S256x1024
  | (2, 0) => ((Memref.whole main_arg2).slice (Rect.unit (s := S4x512x1408) (k0_off11 c) S1x512x1408.size (k0_off11_inb c)) (fun _ => rfl)).squeeze S512x1408 squeezes_S1x512x1408_S512x1408
  | (2, 1) => ((Memref.whole main_arg2).slice (Rect.unit (s := S4x512x1408) (k0_off12 c) S1x512x1408.size (k0_off12_inb c)) (fun _ => rfl)).squeeze S512x1408 squeezes_S1x512x1408_S512x1408
  | (2, 2) => ((Memref.whole main_arg2).slice (Rect.unit (s := S4x512x1408) (k0_off13 c) S1x512x1408.size (k0_off13_inb c)) (fun _ => rfl)).squeeze S512x1408 squeezes_S1x512x1408_S512x1408
  | (3, 0) => ((Memref.whole main_arg3).slice (Rect.unit (s := S4x352x1024) (k0_off14 c) S1x352x1024.size (k0_off14_inb c)) (fun _ => rfl)).squeeze S352x1024 squeezes_S1x352x1024_S352x1024
  | (3, 1) => ((Memref.whole main_arg3).slice (Rect.unit (s := S4x352x1024) (k0_off15 c) S1x352x1024.size (k0_off15_inb c)) (fun _ => rfl)).squeeze S352x1024 squeezes_S1x352x1024_S352x1024
  | (3, 2) => ((Memref.whole main_arg3).slice (Rect.unit (s := S4x352x1024) (k0_off16 c) S1x352x1024.size (k0_off16_inb c)) (fun _ => rfl)).squeeze S352x1024 squeezes_S1x352x1024_S352x1024
/-- Where a copy of device `c` from array `a` goes, on whatever device. -/
def dst (a : Fin 4) (c : Dev nD) : Memref sig .tc .hbm (shp a) (elt a) :=
  match a with
  | 0 => ((Memref.whole main_v1_0).slice (Rect.unit (s := S4x512x1672) (k0_off1 c) S1x512x1672.size (k0_off1_inb c)) (fun _ => rfl)).squeeze S512x1672 squeezes_S1x512x1672_S512x1672
  | 1 => ((Memref.whole main_v1_1).slice (Rect.unit (s := S4x256x1024) (k0_off2 c) S1x256x1024.size (k0_off2_inb c)) (fun _ => rfl)).squeeze S256x1024 squeezes_S1x256x1024_S256x1024
  | 2 => ((Memref.whole main_v1_2).slice (Rect.unit (s := S4x512x1408) (k0_off3 c) S1x512x1408.size (k0_off3_inb c)) (fun _ => rfl)).squeeze S512x1408 squeezes_S1x512x1408_S512x1408
  | 3 => ((Memref.whole main_v1_3).slice (Rect.unit (s := S4x352x1024) (k0_off4 c) S1x352x1024.size (k0_off4_inb c)) (fun _ => rfl)).squeeze S352x1024 squeezes_S1x352x1024_S352x1024
/-- What device `c` copies within its own memory. -/
def lsrc (a : Fin 4) (c : Dev nD) : Memref sig .tc .hbm (shp a) (elt a) :=
  match a with
  | 0 => ((Memref.whole main_arg0).slice (Rect.unit (s := S4x512x1672) (k0_off1 c) S1x512x1672.size (k0_off1_inb c)) (fun _ => rfl)).squeeze S512x1672 squeezes_S1x512x1672_S512x1672
  | 1 => ((Memref.whole main_arg1).slice (Rect.unit (s := S4x256x1024) (k0_off2 c) S1x256x1024.size (k0_off2_inb c)) (fun _ => rfl)).squeeze S256x1024 squeezes_S1x256x1024_S256x1024
  | 2 => ((Memref.whole main_arg2).slice (Rect.unit (s := S4x512x1408) (k0_off3 c) S1x512x1408.size (k0_off3_inb c)) (fun _ => rfl)).squeeze S512x1408 squeezes_S1x512x1408_S512x1408
  | 3 => ((Memref.whole main_arg3).slice (Rect.unit (s := S4x352x1024) (k0_off4 c) S1x352x1024.size (k0_off4_inb c)) (fun _ => rfl)).squeeze S352x1024 squeezes_S1x352x1024_S352x1024
/-- The peer of a copy. -/
def peer (i : Fin 4 × Fin 3) (c : Dev nD) : Dev nD :=
  match i with
  | (0, 0) => ⟨k0_dev1 c, k0_dev1_lt c⟩
  | (0, 1) => ⟨k0_dev2 c, k0_dev2_lt c⟩
  | (0, 2) => ⟨k0_dev3 c, k0_dev3_lt c⟩
  | (1, 0) => ⟨k0_dev4 c, k0_dev4_lt c⟩
  | (1, 1) => ⟨k0_dev5 c, k0_dev5_lt c⟩
  | (1, 2) => ⟨k0_dev6 c, k0_dev6_lt c⟩
  | (2, 0) => ⟨k0_dev7 c, k0_dev7_lt c⟩
  | (2, 1) => ⟨k0_dev8 c, k0_dev8_lt c⟩
  | (2, 2) => ⟨k0_dev9 c, k0_dev9_lt c⟩
  | (3, 0) => ⟨k0_dev10 c, k0_dev10_lt c⟩
  | (3, 1) => ⟨k0_dev11 c, k0_dev11_lt c⟩
  | (3, 2) => ⟨k0_dev12 c, k0_dev12_lt c⟩
/-- The semaphores, in the order of the pool. -/
def sem : (Fin 4 × Fin 3) ⊕ (Fin 4 × Fin 3) ⊕ Fin 4 → DmaSem sig
  | .inl i => (⟨3 * i.1.val + i.2.val, by have := i.1.isLt; have := i.2.isLt; omega⟩ : Fin 28)
  | .inr (.inl i) => (⟨12 + (3 * i.1.val + i.2.val), by have := i.1.isLt; have := i.2.isLt; omega⟩ : Fin 28)
  | .inr (.inr a) => (⟨24 + a.val, by have := a.isLt; omega⟩ : Fin 28)
/-- What a copy of array `a` counts. -/
def cnt (a : Fin 4) : ℕ := (dst a 0).view.dmaCredit
def amt : (Fin 4 × Fin 3) ⊕ (Fin 4 × Fin 3) ⊕ Fin 4 → ℕ
  | .inl i => cnt i.1
  | .inr (.inl i) => cnt i.1
  | .inr (.inr a) => cnt a

theorem shp_pos : ∀ a : Fin 4, 0 < (shp a).numel := by decide +kernel
theorem sem_inj : Function.Injective sem := by decide +kernel
theorem peer_peer : ∀ i c, peer i (peer i c) = c := by decide +kernel
theorem dst_exact (a : Fin 4) (c : Dev nD) : (dst a c).view.WordExact :=
  match a with
  | 0 => (View.wordExact_bits rfl).reshape _ _
  | 1 => (View.wordExact_bits rfl).reshape _ _
  | 2 => (View.wordExact_bits rfl).reshape _ _
  | 3 => (View.wordExact_bits rfl).reshape _ _
theorem src_exact (i : Fin 4 × Fin 3) (c : Dev nD) : (src i c).view.WordExact :=
  match i with
  | (0, 0) => (View.wordExact_bits rfl).reshape _ _
  | (0, 1) => (View.wordExact_bits rfl).reshape _ _
  | (0, 2) => (View.wordExact_bits rfl).reshape _ _
  | (1, 0) => (View.wordExact_bits rfl).reshape _ _
  | (1, 1) => (View.wordExact_bits rfl).reshape _ _
  | (1, 2) => (View.wordExact_bits rfl).reshape _ _
  | (2, 0) => (View.wordExact_bits rfl).reshape _ _
  | (2, 1) => (View.wordExact_bits rfl).reshape _ _
  | (2, 2) => (View.wordExact_bits rfl).reshape _ _
  | (3, 0) => (View.wordExact_bits rfl).reshape _ _
  | (3, 1) => (View.wordExact_bits rfl).reshape _ _
  | (3, 2) => (View.wordExact_bits rfl).reshape _ _
theorem lsrc_exact (a : Fin 4) (c : Dev nD) : (lsrc a c).view.WordExact :=
  match a with
  | 0 => (View.wordExact_bits rfl).reshape _ _
  | 1 => (View.wordExact_bits rfl).reshape _ _
  | 2 => (View.wordExact_bits rfl).reshape _ _
  | 3 => (View.wordExact_bits rfl).reshape _ _
theorem dst_plain (a : Fin 4) (c : Dev nD) : (dst a c).view.ref.isScScratch = false :=
  match a with
  | 0 => rfl
  | 1 => rfl
  | 2 => rfl
  | 3 => rfl
theorem src_cnt (i : Fin 4 × Fin 3) (c : Dev nD) : (src i c).view.dmaCredit = cnt i.1 :=
  match i with
  | (0, 0) => rfl
  | (0, 1) => rfl
  | (0, 2) => rfl
  | (1, 0) => rfl
  | (1, 1) => rfl
  | (1, 2) => rfl
  | (2, 0) => rfl
  | (2, 1) => rfl
  | (2, 2) => rfl
  | (3, 0) => rfl
  | (3, 1) => rfl
  | (3, 2) => rfl
theorem dst_cnt (a : Fin 4) (c : Dev nD) : (dst a c).view.dmaCredit = cnt a :=
  match a with
  | 0 => rfl
  | 1 => rfl
  | 2 => rfl
  | 3 => rfl
/-- The copies and the waits, in the order of the body. -/
def starts : List (Fin 4 ⊕ Fin 4 × Fin 3) :=
  [.inl 0, .inl 1, .inl 2, .inl 3, .inr (0, 0), .inr (0, 1), .inr (0, 2), .inr (1, 0), .inr (1, 1), .inr (1, 2), .inr (2, 0), .inr (2, 1),
   .inr (2, 2), .inr (3, 0), .inr (3, 1), .inr (3, 2)]
def waits : List ((Fin 4 × Fin 3) ⊕ (Fin 4 × Fin 3) ⊕ Fin 4) :=
  [.inr (.inl (0, 0)), .inr (.inl (0, 1)), .inr (.inl (0, 2)), .inr (.inl (1, 0)), .inr (.inl (1, 1)), .inr (.inl (1, 2)), .inr (.inl (2, 0)), .inr (.inl (2, 1)), .inr (.inl (2, 2)), .inr (.inl (3, 0)), .inr (.inl (3, 1)), .inr (.inl (3, 2)),
   .inl (0, 0), .inl (0, 1), .inl (0, 2), .inl (1, 0), .inl (1, 1), .inl (1, 2), .inl (2, 0), .inl (2, 1), .inl (2, 2), .inl (3, 0), .inl (3, 1), .inl (3, 2),
   .inr (.inr 0), .inr (.inr 1), .inr (.inr 2), .inr (.inr 3)]
theorem starts_nodup : starts.Nodup := by decide +kernel
theorem starts_all (x) : x ∈ starts :=
  have h : starts.toFinset = Finset.univ := by decide +kernel
  List.mem_toFinset.mp (h ▸ Finset.mem_univ x)
theorem waits_nodup : waits.Nodup := by decide +kernel
theorem waits_all (x) : x ∈ waits :=
  have h : waits.toFinset = Finset.univ := by decide +kernel
  List.mem_toFinset.mp (h ▸ Finset.mem_univ x)

/-- The exchange. -/
def plan : Plan nD τ sig where
  I := Fin 4 × Fin 3
  J := Fin 4
  sh i := shp i.1
  el i := elt i.1
  peer := peer
  src := src
  dst i := dst i.1
  lsh a := shp a
  lel a := elt a
  lsrc := lsrc
  ldst := dst
  sem := sem
  amt := amt
  share i := piece (i.2.val + 2)
  lshare _ := piece 1
  starts := starts
  waits := waits
  peer_peer := peer_peer
  sem_inj := sem_inj
  src_exact := src_exact
  dst_exact i := dst_exact i.1
  lsrc_exact := lsrc_exact
  ldst_exact := dst_exact
  scratch i := dst_plain i.1
  amt_pos k := match k with
    | .inl i => (dst i.1 0).view.dmaCredit_pos (shp_pos i.1)
    | .inr (.inl i) => (dst i.1 0).view.dmaCredit_pos (shp_pos i.1)
    | .inr (.inr a) => (dst a 0).view.dmaCredit_pos (shp_pos a)
  src_amt := src_cnt
  dst_send i := dst_cnt i.1
  dst_amt i := dst_cnt i.1
  ldst_amt := dst_cnt
  starts_nodup := starts_nodup
  starts_all := starts_all
  waits_nodup := waits_nodup
  waits_all := waits_all

/-! ### The body -/

set_option maxRecDepth 65536 in
theorem body_eq : cc0_scatter_chips (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2
      = .op .deviceId fun d => plan.prog d := by
  chain_rfl

/-- The printed body runs the exchange. -/
theorem body_runs (𝒱₀ : Variants) (c : Dev nD) (R : sProp 𝕄) :
    wp frame (wpE (defs₀ (F := F)) 𝒱₀ (c : Thread nD τ) none) Set.univ (plan.prog c) (fun _ => R)
      ⊢ wp frame (wpE (defs₀ (F := F)) 𝒱₀ (c : Thread nD τ) none) Set.univ
          (cc0_scatter_chips (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2) fun _ => R := by
  rw [body_eq, wp_deviceId]

/-! ### The arrays -/

/-- What a device reads, it holds whole; what it writes, too. -/
theorem arrays (c : Dev nD) (V : (b : Ref sig .tc) → Buf (Elt F) ((c : Thread nD τ).loc b)) :
    (unscopedBufs c V : sProp 𝕄)
      ⊢ iprop((bigSep Finset.univ fun a : Fin 4 => ((c : Thread nD τ).loc (inp a)) ↦{fullShare} V (inp a))
          ∗ bigSep Finset.univ fun a : Fin 4 => ((c : Thread nD τ).loc (out a)) ↦{fullShare} V (out a)) := by
  rw [bigSep_univ_eq_bigSepL [0, 1, 2, 3] (by decide) (by decide), bigSep_univ_eq_bigSepL [0, 1, 2, 3] (by decide) (by decide)]
  unfold unscopedBufs
  rw [bigSep_eq_bigSepL_of_eq [main_arg0, main_arg1, main_arg2, main_arg3, main_v1_0, main_v1_1, main_v1_2, main_v1_3] (by decide) (by decide)]
  exact Entails.of_eq (bigSepL_append [main_arg0, main_arg1, main_arg2, main_arg3] [main_v1_0, main_v1_1, main_v1_2, main_v1_3] _)

/-- The row of an array that is written that holds what device `c` sends. -/
def slot (c : Dev nD) : ℕ := 2 * (c.val / 4) + ((c.val / 2) % 2)
theorem slot_peer : ∀ (i : Fin 4 × Fin 3) (c : Dev nD), slot c ≠ slot (peer i c) := by decide +kernel
theorem slot_peers : ∀ (a : Fin 4) (c : Dev nD) (j j' : Fin 3), j ≠ j' → slot (peer (a, j) c) ≠ slot (peer (a, j') c) := by decide +kernel

theorem at_0 (c : Dev nD) : k0_off1 c 0 = slot c := congrFun (Gen.k0_off1_eq c) 0
theorem at_1 (c : Dev nD) : k0_off2 c 0 = slot c := congrFun (Gen.k0_off2_eq c) 0
theorem at_2 (c : Dev nD) : k0_off3 c 0 = slot c := congrFun (Gen.k0_off3_eq c) 0
theorem at_3 (c : Dev nD) : k0_off4 c 0 = slot c := congrFun (Gen.k0_off4_eq c) 0
theorem apart_0 {c c' : Dev nD} (h : slot c ≠ slot c') : Disjoint (dst 0 c).view.set (dst 0 c').view.set :=
  rows_apart main_v1_0 (q := squeezes_S1x512x1672_S512x1672) (q' := squeezes_S1x512x1672_S512x1672) (0 : Fin 3) (by rw [at_0 c, at_0 c']; exact row_apart h)
theorem apart_1 {c c' : Dev nD} (h : slot c ≠ slot c') : Disjoint (dst 1 c).view.set (dst 1 c').view.set :=
  rows_apart main_v1_1 (q := squeezes_S1x256x1024_S256x1024) (q' := squeezes_S1x256x1024_S256x1024) (0 : Fin 3) (by rw [at_1 c, at_1 c']; exact row_apart h)
theorem apart_2 {c c' : Dev nD} (h : slot c ≠ slot c') : Disjoint (dst 2 c).view.set (dst 2 c').view.set :=
  rows_apart main_v1_2 (q := squeezes_S1x512x1408_S512x1408) (q' := squeezes_S1x512x1408_S512x1408) (0 : Fin 3) (by rw [at_2 c, at_2 c']; exact row_apart h)
theorem apart_3 {c c' : Dev nD} (h : slot c ≠ slot c') : Disjoint (dst 3 c).view.set (dst 3 c').view.set :=
  rows_apart main_v1_3 (q := squeezes_S1x352x1024_S352x1024) (q' := squeezes_S1x352x1024_S352x1024) (0 : Fin 3) (by rw [at_3 c, at_3 c']; exact row_apart h)

variable (m : (ℓ : Loc nD τ sig) → Buf (Elt F) ℓ)

/-! What the copies take, read off the tables. -/
def sset_0 (c : Dev nD) (j : Fin 3) : Finset (Idx ((c : Thread nD τ).loc main_arg0)) :=
  match j with | 0 => (src (0, 0) c).view.set | 1 => (src (0, 1) c).view.set | 2 => (src (0, 2) c).view.set
def sset_1 (c : Dev nD) (j : Fin 3) : Finset (Idx ((c : Thread nD τ).loc main_arg1)) :=
  match j with | 0 => (src (1, 0) c).view.set | 1 => (src (1, 1) c).view.set | 2 => (src (1, 2) c).view.set
def sset_2 (c : Dev nD) (j : Fin 3) : Finset (Idx ((c : Thread nD τ).loc main_arg2)) :=
  match j with | 0 => (src (2, 0) c).view.set | 1 => (src (2, 1) c).view.set | 2 => (src (2, 2) c).view.set
def sset_3 (c : Dev nD) (j : Fin 3) : Finset (Idx ((c : Thread nD τ).loc main_arg3)) :=
  match j with | 0 => (src (3, 0) c).view.set | 1 => (src (3, 1) c).view.set | 2 => (src (3, 2) c).view.set
theorem src_at_0_0 (c : Dev nD) : plan.srcPts m (0, 0) c
    = (((c : Thread nD τ).loc (inp 0)) ↦[sset_0 c 0]{piece ((0 : Fin 3).val + 2)} m ((c : Thread nD τ).loc (inp 0)) : sProp 𝕄) := rfl
theorem src_at_0_1 (c : Dev nD) : plan.srcPts m (0, 1) c
    = (((c : Thread nD τ).loc (inp 0)) ↦[sset_0 c 1]{piece ((1 : Fin 3).val + 2)} m ((c : Thread nD τ).loc (inp 0)) : sProp 𝕄) := rfl
theorem src_at_0_2 (c : Dev nD) : plan.srcPts m (0, 2) c
    = (((c : Thread nD τ).loc (inp 0)) ↦[sset_0 c 2]{piece ((2 : Fin 3).val + 2)} m ((c : Thread nD τ).loc (inp 0)) : sProp 𝕄) := rfl
theorem lsrc_at_0 (c : Dev nD) : plan.lsrcPts m (0 : Fin 4) c
    = (((c : Thread nD τ).loc (inp 0)) ↦[(lsrc 0 c).view.set]{piece 1} m ((c : Thread nD τ).loc (inp 0)) : sProp 𝕄) := rfl
theorem ldst_at_0 (c : Dev nD) : plan.ldstAny (0 : Fin 4) c
    = (iprop(∃ f, ((c : Thread nD τ).loc (out 0)) ↦[(dst 0 c).view.set]{fullShare} f) : sProp 𝕄) := rfl
theorem dst_at_0 (j : Fin 3) (c d : Dev nD) : plan.dstAny (0, j) c d
    = (iprop(∃ f, ((d : Thread nD τ).loc (out 0)) ↦[(dst 0 c).view.set]{fullShare} f) : sProp 𝕄) := rfl
theorem src_at_1_0 (c : Dev nD) : plan.srcPts m (1, 0) c
    = (((c : Thread nD τ).loc (inp 1)) ↦[sset_1 c 0]{piece ((0 : Fin 3).val + 2)} m ((c : Thread nD τ).loc (inp 1)) : sProp 𝕄) := rfl
theorem src_at_1_1 (c : Dev nD) : plan.srcPts m (1, 1) c
    = (((c : Thread nD τ).loc (inp 1)) ↦[sset_1 c 1]{piece ((1 : Fin 3).val + 2)} m ((c : Thread nD τ).loc (inp 1)) : sProp 𝕄) := rfl
theorem src_at_1_2 (c : Dev nD) : plan.srcPts m (1, 2) c
    = (((c : Thread nD τ).loc (inp 1)) ↦[sset_1 c 2]{piece ((2 : Fin 3).val + 2)} m ((c : Thread nD τ).loc (inp 1)) : sProp 𝕄) := rfl
theorem lsrc_at_1 (c : Dev nD) : plan.lsrcPts m (1 : Fin 4) c
    = (((c : Thread nD τ).loc (inp 1)) ↦[(lsrc 1 c).view.set]{piece 1} m ((c : Thread nD τ).loc (inp 1)) : sProp 𝕄) := rfl
theorem ldst_at_1 (c : Dev nD) : plan.ldstAny (1 : Fin 4) c
    = (iprop(∃ f, ((c : Thread nD τ).loc (out 1)) ↦[(dst 1 c).view.set]{fullShare} f) : sProp 𝕄) := rfl
theorem dst_at_1 (j : Fin 3) (c d : Dev nD) : plan.dstAny (1, j) c d
    = (iprop(∃ f, ((d : Thread nD τ).loc (out 1)) ↦[(dst 1 c).view.set]{fullShare} f) : sProp 𝕄) := rfl
theorem src_at_2_0 (c : Dev nD) : plan.srcPts m (2, 0) c
    = (((c : Thread nD τ).loc (inp 2)) ↦[sset_2 c 0]{piece ((0 : Fin 3).val + 2)} m ((c : Thread nD τ).loc (inp 2)) : sProp 𝕄) := rfl
theorem src_at_2_1 (c : Dev nD) : plan.srcPts m (2, 1) c
    = (((c : Thread nD τ).loc (inp 2)) ↦[sset_2 c 1]{piece ((1 : Fin 3).val + 2)} m ((c : Thread nD τ).loc (inp 2)) : sProp 𝕄) := rfl
theorem src_at_2_2 (c : Dev nD) : plan.srcPts m (2, 2) c
    = (((c : Thread nD τ).loc (inp 2)) ↦[sset_2 c 2]{piece ((2 : Fin 3).val + 2)} m ((c : Thread nD τ).loc (inp 2)) : sProp 𝕄) := rfl
theorem lsrc_at_2 (c : Dev nD) : plan.lsrcPts m (2 : Fin 4) c
    = (((c : Thread nD τ).loc (inp 2)) ↦[(lsrc 2 c).view.set]{piece 1} m ((c : Thread nD τ).loc (inp 2)) : sProp 𝕄) := rfl
theorem ldst_at_2 (c : Dev nD) : plan.ldstAny (2 : Fin 4) c
    = (iprop(∃ f, ((c : Thread nD τ).loc (out 2)) ↦[(dst 2 c).view.set]{fullShare} f) : sProp 𝕄) := rfl
theorem dst_at_2 (j : Fin 3) (c d : Dev nD) : plan.dstAny (2, j) c d
    = (iprop(∃ f, ((d : Thread nD τ).loc (out 2)) ↦[(dst 2 c).view.set]{fullShare} f) : sProp 𝕄) := rfl
theorem src_at_3_0 (c : Dev nD) : plan.srcPts m (3, 0) c
    = (((c : Thread nD τ).loc (inp 3)) ↦[sset_3 c 0]{piece ((0 : Fin 3).val + 2)} m ((c : Thread nD τ).loc (inp 3)) : sProp 𝕄) := rfl
theorem src_at_3_1 (c : Dev nD) : plan.srcPts m (3, 1) c
    = (((c : Thread nD τ).loc (inp 3)) ↦[sset_3 c 1]{piece ((1 : Fin 3).val + 2)} m ((c : Thread nD τ).loc (inp 3)) : sProp 𝕄) := rfl
theorem src_at_3_2 (c : Dev nD) : plan.srcPts m (3, 2) c
    = (((c : Thread nD τ).loc (inp 3)) ↦[sset_3 c 2]{piece ((2 : Fin 3).val + 2)} m ((c : Thread nD τ).loc (inp 3)) : sProp 𝕄) := rfl
theorem lsrc_at_3 (c : Dev nD) : plan.lsrcPts m (3 : Fin 4) c
    = (((c : Thread nD τ).loc (inp 3)) ↦[(lsrc 3 c).view.set]{piece 1} m ((c : Thread nD τ).loc (inp 3)) : sProp 𝕄) := rfl
theorem ldst_at_3 (c : Dev nD) : plan.ldstAny (3 : Fin 4) c
    = (iprop(∃ f, ((c : Thread nD τ).loc (out 3)) ↦[(dst 3 c).view.set]{fullShare} f) : sProp 𝕄) := rfl
theorem dst_at_3 (j : Fin 3) (c d : Dev nD) : plan.dstAny (3, j) c d
    = (iprop(∃ f, ((d : Thread nD τ).loc (out 3)) ↦[(dst 3 c).view.set]{fullShare} f) : sProp 𝕄) := rfl

/-- An array that is read, dealt to the copies that read it. -/
theorem deal_in (c : Dev nD) (a : Fin 4) : (((c : Thread nD τ).loc (inp a)) ↦{fullShare} m ((c : Thread nD τ).loc (inp a)) : sProp 𝕄)
    ⊢ iprop((((c : Thread nD τ).loc (inp a)) ↦{piece 0} m ((c : Thread nD τ).loc (inp a))) ∗ plan.lsrcPts m a c
        ∗ bigSep Finset.univ fun j : Fin 3 => plan.srcPts m (a, j) c) :=
  match a with
  | 0 => (deal_source (m ((c : Thread nD τ).loc (inp 0))) (lsrc 0 c).view.set (sset_0 c)).trans (sep_mono_right (BI.sep_mono (Entails.of_eq (lsrc_at_0 m c).symm) (bigSep_mono fun j _ => match j with | 0 => Entails.of_eq (src_at_0_0 m c).symm | 1 => Entails.of_eq (src_at_0_1 m c).symm | 2 => Entails.of_eq (src_at_0_2 m c).symm)))
  | 1 => (deal_source (m ((c : Thread nD τ).loc (inp 1))) (lsrc 1 c).view.set (sset_1 c)).trans (sep_mono_right (BI.sep_mono (Entails.of_eq (lsrc_at_1 m c).symm) (bigSep_mono fun j _ => match j with | 0 => Entails.of_eq (src_at_1_0 m c).symm | 1 => Entails.of_eq (src_at_1_1 m c).symm | 2 => Entails.of_eq (src_at_1_2 m c).symm)))
  | 2 => (deal_source (m ((c : Thread nD τ).loc (inp 2))) (lsrc 2 c).view.set (sset_2 c)).trans (sep_mono_right (BI.sep_mono (Entails.of_eq (lsrc_at_2 m c).symm) (bigSep_mono fun j _ => match j with | 0 => Entails.of_eq (src_at_2_0 m c).symm | 1 => Entails.of_eq (src_at_2_1 m c).symm | 2 => Entails.of_eq (src_at_2_2 m c).symm)))
  | 3 => (deal_source (m ((c : Thread nD τ).loc (inp 3))) (lsrc 3 c).view.set (sset_3 c)).trans (sep_mono_right (BI.sep_mono (Entails.of_eq (lsrc_at_3 m c).symm) (bigSep_mono fun j _ => match j with | 0 => Entails.of_eq (src_at_3_0 m c).symm | 1 => Entails.of_eq (src_at_3_1 m c).symm | 2 => Entails.of_eq (src_at_3_2 m c).symm)))

/-- An array that is written, dealt to the copies that write it. -/
theorem deal_out (c : Dev nD) (a : Fin 4) : (((c : Thread nD τ).loc (out a)) ↦{fullShare} m ((c : Thread nD τ).loc (out a)) : sProp 𝕄)
    ⊢ iprop(plan.ldstAny a c ∗ bigSep Finset.univ fun j : Fin 3 => plan.dstAny (a, j) (plan.peer (a, j) c) c) :=
  match a with
  | 0 => (deal_target (m ((c : Thread nD τ).loc (out 0))) (dst 0 c).view.set (fun j : Fin 3 => (dst 0 (peer (0, j) c)).view.set)
      (fun j => apart_0 (slot_peer (0, j) c)) fun j j' h => apart_0 (slot_peers 0 c j j' h)).trans
      (BI.sep_mono (Entails.of_eq (ldst_at_0 c).symm) (bigSep_mono fun j _ => Entails.of_eq (dst_at_0 j (peer (0, j) c) c).symm))
  | 1 => (deal_target (m ((c : Thread nD τ).loc (out 1))) (dst 1 c).view.set (fun j : Fin 3 => (dst 1 (peer (1, j) c)).view.set)
      (fun j => apart_1 (slot_peer (1, j) c)) fun j j' h => apart_1 (slot_peers 1 c j j' h)).trans
      (BI.sep_mono (Entails.of_eq (ldst_at_1 c).symm) (bigSep_mono fun j _ => Entails.of_eq (dst_at_1 j (peer (1, j) c) c).symm))
  | 2 => (deal_target (m ((c : Thread nD τ).loc (out 2))) (dst 2 c).view.set (fun j : Fin 3 => (dst 2 (peer (2, j) c)).view.set)
      (fun j => apart_2 (slot_peer (2, j) c)) fun j j' h => apart_2 (slot_peers 2 c j j' h)).trans
      (BI.sep_mono (Entails.of_eq (ldst_at_2 c).symm) (bigSep_mono fun j _ => Entails.of_eq (dst_at_2 j (peer (2, j) c) c).symm))
  | 3 => (deal_target (m ((c : Thread nD τ).loc (out 3))) (dst 3 c).view.set (fun j : Fin 3 => (dst 3 (peer (3, j) c)).view.set)
      (fun j => apart_3 (slot_peer (3, j) c)) fun j j' h => apart_3 (slot_peers 3 c j j' h)).trans
      (BI.sep_mono (Entails.of_eq (ldst_at_3 c).symm) (bigSep_mono fun j _ => Entails.of_eq (dst_at_3 j (peer (3, j) c) c).symm))

/-- What a device keeps for itself: a share of every array that is read. -/
def keep (c : Dev nD) : sProp 𝕄 :=
  bigSep Finset.univ fun a : Fin 4 => ((c : Thread nD τ).loc (inp a)) ↦{piece 0} m ((c : Thread nD τ).loc (inp a))

theorem split (c : Dev nD) : (unscopedBufs c (fun b => m ((c.tc : Thread nD τ).loc b)) : sProp 𝕄) ⊢ iprop(plan.brings m c ∗ keep m c) :=
  (arrays c fun b => m ((c.tc : Thread nD τ).loc b)).trans (regroup (A := Fin 4) (B := Fin 3) _ _ _ _ _ _ _ (deal_in m c) (deal_out m c))

/-! ### The run -/

instance : ∀ q, IsEmpty (Fin (Pipeline.pin (pcfgs (F := F)) (fun p => (cfgs p).toPCfg_adm) q).W) := fun _ => inferInstanceAs (IsEmpty (Fin 0))

set_option maxRecDepth 65536 in
theorem own_sems : Pipeline.OwnSemFacts (cfg0.spec) fun k : (Fin 4 × Fin 3) ⊕ (Fin 4 × Fin 3) ⊕ Fin 4 => (SemLoc.dma (sem k) : SemLoc sig) := by decide +kernel

set_option maxRecDepth 65536 in
theorem all_scoped : ∀ sm : SemLoc sig, sm.isScoped .tc = true := by decide +kernel

set_option maxRecDepth 65536 in
/-- The whole program: every copy has landed, the arrays that are read are unchanged, every semaphore counts zero. -/
theorem run_main (g : Dev nD → PrngReg) :
    θ_run (defs (F := F)) (onTc (τ := τ) (main (F := F))) ⟨m, fun _ => 0, g⟩ fun r =>
      (∀ c : Dev nD, plan.Landed m c r.2.mem ∧ ∀ a, r.2.mem ((c : Thread nD τ).loc (inp a)) = m ((c : Thread nD τ).loc (inp a)))
        ∧ r.2.sem = fun _ => 0 :=
  θ_run_exchange (pcs := pcfgs (F := F)) (a := fun p => (cfgs p).toPCfg_adm) plan m (0 : Fin 1) defs₀ Variants.none (keep m) Gen.cellOf_inj Gen.winFacts0.to₀
    Gen.N_0 own_sems (fun _ _ c R => body_runs _ c R)
    (fun _ => Entails.of_eq (by unfold Pipeline.prefHeld; exact (BI.bigSep_empty (Φ := _)).symm))
    (fun c => Entails.of_eq (Gen.scopedRest0_eq c).symm) g main (fun _ => rfl) (split m)
    (fun c μ => ∀ a, μ ((c : Thread nD τ).loc (inp a)) = m ((c : Thread nD τ).loc (inp a)))
    (fun c s' => read_kept inp c (piece 0) m s')
    fun s h hs => ⟨h, sem_eq_zero_of_scoped all_scoped hs⟩

end Cert.ScatterIdeal.Own

end
-- ==== Proof.ScatterRef.lean ====
/-
The values of `scatter_chips`: block `k` of what a core ends with is the block for its chip of the same core of chip `k`. The
frames of the three programs and the claim about their values follow.
-/
module

public import proofs.«01_k».proof.Defs
public import proofs.«01_k».proof.Proof.ScatterRun
public import proofs.«01_k».proof.Proof.Rows
public import proofs.«01_k».proof.Proof.Gen.Scatter
public import proofs.«01_k».proof.Proof.Gen.ScatterRef
public import proofs.«01_k».proof.Proof.Gen.ScatterRefIdeal.Run

@[expose] public section

noncomputable section

namespace Cert.ScatterIdeal.Own

open Idealize.ShloMosaic Idealize.ShloMosaic.Rows Idealize.ShloMosaic.ValueIdx
open Idealize.ShloMosaic.TcCoe
open Idealize.SL.Sem
open Idealize.ShloMosaic.Exch
open Cert.ScatterIdeal Cert.ScatterIdeal.Facts₀ Cert.ScatterIdeal.Facts

/-- Array 0 as it lands: row `k` is the block for this chip of the same core of chip `k`. -/
theorem row_0 {F : FTy → Type} {m μ : (ℓ : Loc nD τ sig) → Buf (Elt F) ℓ} {c : Dev nD} (h : plan.Landed m c μ) (k : Fin 4) (i : Fin 512) (j : Fin 1672) :
    μ ((c : Thread nD τ).loc main_v1_0) (ix3 k i j) = m (((dev k (core c) : Dev nD) : Thread nD τ).loc main_arg0) (ix3 (chip c) i j) := by
  have ho : ∀ (c : Fin 8) (k : Fin 4), k0_off1 (dev k (core c)) 0 = k.val ∧ k0_off1 (dev k (core c)) 1 = 0 ∧ k0_off1 (dev k (core c)) 2 = 0 := by decide +kernel
  have hw : ∀ (c : Fin 8) (k : Fin 4), dev k (core c) = c ∨ peer (0, 0) c = dev k (core c) ∨ peer (0, 1) c = dev k (core c) ∨ peer (0, 2) c = dev k (core c) := by decide +kernel
  suffices key : ∀ d : Dev nD, (d = c ∨ peer (0, 0) c = d ∨ peer (0, 1) c = d ∨ peer (0, 2) c = d) → k0_off1 d 0 = k.val →
      μ ((c : Thread nD τ).loc main_v1_0) (ix3 k i j) = m ((d : Thread nD τ).loc main_arg0) (ix3 (chip c) i j) from
    key _ (hw c k) (ho c k).1
  have hl : ∀ c : Fin 8, k0_off1 c 0 = (chip c).val := by decide +kernel
  have h0 : ∀ c : Fin 8, k0_off5 (peer (0, 0) c) 0 = (chip c).val := by decide +kernel
  have h1 : ∀ c : Fin 8, k0_off6 (peer (0, 1) c) 0 = (chip c).val := by decide +kernel
  have h2 : ∀ c : Fin 8, k0_off7 (peer (0, 2) c) 0 = (chip c).val := by decide +kernel
  rintro d (rfl | rfl | rfl | rfl) hd
  · exact (congrArg (μ ((d : Thread nD τ).loc main_v1_0)) (row_idx (k0_off1_inb d) squeezes_S1x512x1672_S512x1672.numel_eq k hd i j)).symm.trans ((congrFun (h.2 (0 : Fin 4)) (ix2 i j)).trans (congrArg (m ((d : Thread nD τ).loc main_arg0)) (row_idx (k0_off1_inb d) squeezes_S1x512x1672_S512x1672.numel_eq (chip d) (hl d) i j)))
  · exact (congrArg (μ ((c : Thread nD τ).loc main_v1_0)) (row_idx (k0_off1_inb (peer (0, 0) c)) squeezes_S1x512x1672_S512x1672.numel_eq k hd i j)).symm.trans ((congrFun (h.1 (0, 0)) (ix2 i j)).trans (congrArg (m ((peer (0, 0) c : Thread nD τ).loc main_arg0)) (row_idx (k0_off5_inb (peer (0, 0) c)) squeezes_S1x512x1672_S512x1672.numel_eq (chip c) (h0 c) i j)))
  · exact (congrArg (μ ((c : Thread nD τ).loc main_v1_0)) (row_idx (k0_off1_inb (peer (0, 1) c)) squeezes_S1x512x1672_S512x1672.numel_eq k hd i j)).symm.trans ((congrFun (h.1 (0, 1)) (ix2 i j)).trans (congrArg (m ((peer (0, 1) c : Thread nD τ).loc main_arg0)) (row_idx (k0_off6_inb (peer (0, 1) c)) squeezes_S1x512x1672_S512x1672.numel_eq (chip c) (h1 c) i j)))
  · exact (congrArg (μ ((c : Thread nD τ).loc main_v1_0)) (row_idx (k0_off1_inb (peer (0, 2) c)) squeezes_S1x512x1672_S512x1672.numel_eq k hd i j)).symm.trans ((congrFun (h.1 (0, 2)) (ix2 i j)).trans (congrArg (m ((peer (0, 2) c : Thread nD τ).loc main_arg0)) (row_idx (k0_off7_inb (peer (0, 2) c)) squeezes_S1x512x1672_S512x1672.numel_eq (chip c) (h2 c) i j)))

/-- Array 1 as it lands: row `k` is the block for this chip of the same core of chip `k`. -/
theorem row_1 {F : FTy → Type} {m μ : (ℓ : Loc nD τ sig) → Buf (Elt F) ℓ} {c : Dev nD} (h : plan.Landed m c μ) (k : Fin 4) (i : Fin 256) (j : Fin 1024) :
    μ ((c : Thread nD τ).loc main_v1_1) (ix3 k i j) = m (((dev k (core c) : Dev nD) : Thread nD τ).loc main_arg1) (ix3 (chip c) i j) := by
  have ho : ∀ (c : Fin 8) (k : Fin 4), k0_off2 (dev k (core c)) 0 = k.val ∧ k0_off2 (dev k (core c)) 1 = 0 ∧ k0_off2 (dev k (core c)) 2 = 0 := by decide +kernel
  have hw : ∀ (c : Fin 8) (k : Fin 4), dev k (core c) = c ∨ peer (1, 0) c = dev k (core c) ∨ peer (1, 1) c = dev k (core c) ∨ peer (1, 2) c = dev k (core c) := by decide +kernel
  suffices key : ∀ d : Dev nD, (d = c ∨ peer (1, 0) c = d ∨ peer (1, 1) c = d ∨ peer (1, 2) c = d) → k0_off2 d 0 = k.val →
      μ ((c : Thread nD τ).loc main_v1_1) (ix3 k i j) = m ((d : Thread nD τ).loc main_arg1) (ix3 (chip c) i j) from
    key _ (hw c k) (ho c k).1
  have hl : ∀ c : Fin 8, k0_off2 c 0 = (chip c).val := by decide +kernel
  have h0 : ∀ c : Fin 8, k0_off8 (peer (1, 0) c) 0 = (chip c).val := by decide +kernel
  have h1 : ∀ c : Fin 8, k0_off9 (peer (1, 1) c) 0 = (chip c).val := by decide +kernel
  have h2 : ∀ c : Fin 8, k0_off10 (peer (1, 2) c) 0 = (chip c).val := by decide +kernel
  rintro d (rfl | rfl | rfl | rfl) hd
  · exact (congrArg (μ ((d : Thread nD τ).loc main_v1_1)) (row_idx (k0_off2_inb d) squeezes_S1x256x1024_S256x1024.numel_eq k hd i j)).symm.trans ((congrFun (h.2 (1 : Fin 4)) (ix2 i j)).trans (congrArg (m ((d : Thread nD τ).loc main_arg1)) (row_idx (k0_off2_inb d) squeezes_S1x256x1024_S256x1024.numel_eq (chip d) (hl d) i j)))
  · exact (congrArg (μ ((c : Thread nD τ).loc main_v1_1)) (row_idx (k0_off2_inb (peer (1, 0) c)) squeezes_S1x256x1024_S256x1024.numel_eq k hd i j)).symm.trans ((congrFun (h.1 (1, 0)) (ix2 i j)).trans (congrArg (m ((peer (1, 0) c : Thread nD τ).loc main_arg1)) (row_idx (k0_off8_inb (peer (1, 0) c)) squeezes_S1x256x1024_S256x1024.numel_eq (chip c) (h0 c) i j)))
  · exact (congrArg (μ ((c : Thread nD τ).loc main_v1_1)) (row_idx (k0_off2_inb (peer (1, 1) c)) squeezes_S1x256x1024_S256x1024.numel_eq k hd i j)).symm.trans ((congrFun (h.1 (1, 1)) (ix2 i j)).trans (congrArg (m ((peer (1, 1) c : Thread nD τ).loc main_arg1)) (row_idx (k0_off9_inb (peer (1, 1) c)) squeezes_S1x256x1024_S256x1024.numel_eq (chip c) (h1 c) i j)))
  · exact (congrArg (μ ((c : Thread nD τ).loc main_v1_1)) (row_idx (k0_off2_inb (peer (1, 2) c)) squeezes_S1x256x1024_S256x1024.numel_eq k hd i j)).symm.trans ((congrFun (h.1 (1, 2)) (ix2 i j)).trans (congrArg (m ((peer (1, 2) c : Thread nD τ).loc main_arg1)) (row_idx (k0_off10_inb (peer (1, 2) c)) squeezes_S1x256x1024_S256x1024.numel_eq (chip c) (h2 c) i j)))

/-- Array 2 as it lands: row `k` is the block for this chip of the same core of chip `k`. -/
theorem row_2 {F : FTy → Type} {m μ : (ℓ : Loc nD τ sig) → Buf (Elt F) ℓ} {c : Dev nD} (h : plan.Landed m c μ) (k : Fin 4) (i : Fin 512) (j : Fin 1408) :
    μ ((c : Thread nD τ).loc main_v1_2) (ix3 k i j) = m (((dev k (core c) : Dev nD) : Thread nD τ).loc main_arg2) (ix3 (chip c) i j) := by
  have ho : ∀ (c : Fin 8) (k : Fin 4), k0_off3 (dev k (core c)) 0 = k.val ∧ k0_off3 (dev k (core c)) 1 = 0 ∧ k0_off3 (dev k (core c)) 2 = 0 := by decide +kernel
  have hw : ∀ (c : Fin 8) (k : Fin 4), dev k (core c) = c ∨ peer (2, 0) c = dev k (core c) ∨ peer (2, 1) c = dev k (core c) ∨ peer (2, 2) c = dev k (core c) := by decide +kernel
  suffices key : ∀ d : Dev nD, (d = c ∨ peer (2, 0) c = d ∨ peer (2, 1) c = d ∨ peer (2, 2) c = d) → k0_off3 d 0 = k.val →
      μ ((c : Thread nD τ).loc main_v1_2) (ix3 k i j) = m ((d : Thread nD τ).loc main_arg2) (ix3 (chip c) i j) from
    key _ (hw c k) (ho c k).1
  have hl : ∀ c : Fin 8, k0_off3 c 0 = (chip c).val := by decide +kernel
  have h0 : ∀ c : Fin 8, k0_off11 (peer (2, 0) c) 0 = (chip c).val := by decide +kernel
  have h1 : ∀ c : Fin 8, k0_off12 (peer (2, 1) c) 0 = (chip c).val := by decide +kernel
  have h2 : ∀ c : Fin 8, k0_off13 (peer (2, 2) c) 0 = (chip c).val := by decide +kernel
  rintro d (rfl | rfl | rfl | rfl) hd
  · exact (congrArg (μ ((d : Thread nD τ).loc main_v1_2)) (row_idx (k0_off3_inb d) squeezes_S1x512x1408_S512x1408.numel_eq k hd i j)).symm.trans ((congrFun (h.2 (2 : Fin 4)) (ix2 i j)).trans (congrArg (m ((d : Thread nD τ).loc main_arg2)) (row_idx (k0_off3_inb d) squeezes_S1x512x1408_S512x1408.numel_eq (chip d) (hl d) i j)))
  · exact (congrArg (μ ((c : Thread nD τ).loc main_v1_2)) (row_idx (k0_off3_inb (peer (2, 0) c)) squeezes_S1x512x1408_S512x1408.numel_eq k hd i j)).symm.trans ((congrFun (h.1 (2, 0)) (ix2 i j)).trans (congrArg (m ((peer (2, 0) c : Thread nD τ).loc main_arg2)) (row_idx (k0_off11_inb (peer (2, 0) c)) squeezes_S1x512x1408_S512x1408.numel_eq (chip c) (h0 c) i j)))
  · exact (congrArg (μ ((c : Thread nD τ).loc main_v1_2)) (row_idx (k0_off3_inb (peer (2, 1) c)) squeezes_S1x512x1408_S512x1408.numel_eq k hd i j)).symm.trans ((congrFun (h.1 (2, 1)) (ix2 i j)).trans (congrArg (m ((peer (2, 1) c : Thread nD τ).loc main_arg2)) (row_idx (k0_off12_inb (peer (2, 1) c)) squeezes_S1x512x1408_S512x1408.numel_eq (chip c) (h1 c) i j)))
  · exact (congrArg (μ ((c : Thread nD τ).loc main_v1_2)) (row_idx (k0_off3_inb (peer (2, 2) c)) squeezes_S1x512x1408_S512x1408.numel_eq k hd i j)).symm.trans ((congrFun (h.1 (2, 2)) (ix2 i j)).trans (congrArg (m ((peer (2, 2) c : Thread nD τ).loc main_arg2)) (row_idx (k0_off13_inb (peer (2, 2) c)) squeezes_S1x512x1408_S512x1408.numel_eq (chip c) (h2 c) i j)))

/-- Array 3 as it lands: row `k` is the block for this chip of the same core of chip `k`. -/
theorem row_3 {F : FTy → Type} {m μ : (ℓ : Loc nD τ sig) → Buf (Elt F) ℓ} {c : Dev nD} (h : plan.Landed m c μ) (k : Fin 4) (i : Fin 352) (j : Fin 1024) :
    μ ((c : Thread nD τ).loc main_v1_3) (ix3 k i j) = m (((dev k (core c) : Dev nD) : Thread nD τ).loc main_arg3) (ix3 (chip c) i j) := by
  have ho : ∀ (c : Fin 8) (k : Fin 4), k0_off4 (dev k (core c)) 0 = k.val ∧ k0_off4 (dev k (core c)) 1 = 0 ∧ k0_off4 (dev k (core c)) 2 = 0 := by decide +kernel
  have hw : ∀ (c : Fin 8) (k : Fin 4), dev k (core c) = c ∨ peer (3, 0) c = dev k (core c) ∨ peer (3, 1) c = dev k (core c) ∨ peer (3, 2) c = dev k (core c) := by decide +kernel
  suffices key : ∀ d : Dev nD, (d = c ∨ peer (3, 0) c = d ∨ peer (3, 1) c = d ∨ peer (3, 2) c = d) → k0_off4 d 0 = k.val →
      μ ((c : Thread nD τ).loc main_v1_3) (ix3 k i j) = m ((d : Thread nD τ).loc main_arg3) (ix3 (chip c) i j) from
    key _ (hw c k) (ho c k).1
  have hl : ∀ c : Fin 8, k0_off4 c 0 = (chip c).val := by decide +kernel
  have h0 : ∀ c : Fin 8, k0_off14 (peer (3, 0) c) 0 = (chip c).val := by decide +kernel
  have h1 : ∀ c : Fin 8, k0_off15 (peer (3, 1) c) 0 = (chip c).val := by decide +kernel
  have h2 : ∀ c : Fin 8, k0_off16 (peer (3, 2) c) 0 = (chip c).val := by decide +kernel
  rintro d (rfl | rfl | rfl | rfl) hd
  · exact (congrArg (μ ((d : Thread nD τ).loc main_v1_3)) (row_idx (k0_off4_inb d) squeezes_S1x352x1024_S352x1024.numel_eq k hd i j)).symm.trans ((congrFun (h.2 (3 : Fin 4)) (ix2 i j)).trans (congrArg (m ((d : Thread nD τ).loc main_arg3)) (row_idx (k0_off4_inb d) squeezes_S1x352x1024_S352x1024.numel_eq (chip d) (hl d) i j)))
  · exact (congrArg (μ ((c : Thread nD τ).loc main_v1_3)) (row_idx (k0_off4_inb (peer (3, 0) c)) squeezes_S1x352x1024_S352x1024.numel_eq k hd i j)).symm.trans ((congrFun (h.1 (3, 0)) (ix2 i j)).trans (congrArg (m ((peer (3, 0) c : Thread nD τ).loc main_arg3)) (row_idx (k0_off14_inb (peer (3, 0) c)) squeezes_S1x352x1024_S352x1024.numel_eq (chip c) (h0 c) i j)))
  · exact (congrArg (μ ((c : Thread nD τ).loc main_v1_3)) (row_idx (k0_off4_inb (peer (3, 1) c)) squeezes_S1x352x1024_S352x1024.numel_eq k hd i j)).symm.trans ((congrFun (h.1 (3, 1)) (ix2 i j)).trans (congrArg (m ((peer (3, 1) c : Thread nD τ).loc main_arg3)) (row_idx (k0_off15_inb (peer (3, 1) c)) squeezes_S1x352x1024_S352x1024.numel_eq (chip c) (h1 c) i j)))
  · exact (congrArg (μ ((c : Thread nD τ).loc main_v1_3)) (row_idx (k0_off4_inb (peer (3, 2) c)) squeezes_S1x352x1024_S352x1024.numel_eq k hd i j)).symm.trans ((congrFun (h.1 (3, 2)) (ix2 i j)).trans (congrArg (m ((peer (3, 2) c : Thread nD τ).loc main_arg3)) (row_idx (k0_off16_inb (peer (3, 2) c)) squeezes_S1x352x1024_S352x1024.numel_eq (chip c) (h2 c) i j)))

end Cert.ScatterIdeal.Own

namespace Cert.Proof.Scatter

open Idealize.ShloMosaic Idealize.ShloMosaic.Rows Idealize.SL.Sem Cert.ScatterIdeal.Own

/-- The kernel's frame, from the one run at the words. -/
theorem frame_kernel : Cert.quiescent_Scatter := fun m ρ _ =>
  (θ_run Cert.ScatterIdeal.defs _ _).mono (fun _ h => ⟨fun c => ⟨(h.1 c).2 0, (h.1 c).2 1, (h.1 c).2 2, (h.1 c).2 3⟩, h.2⟩) (run_main (F := Bits) m ρ)

/-- The idealization's. -/
theorem frame_ideal : Cert.quiescent_ScatterIdeal := fun m ρ _ =>
  (θ_run Cert.ScatterIdeal.defs _ _).mono (fun _ h => ⟨fun c => ⟨(h.1 c).2 0, (h.1 c).2 1, (h.1 c).2 2, (h.1 c).2 3⟩, h.2⟩) (run_main (F := Ideal) m ρ)

/-- The reference's: it has no semaphore. -/
theorem frame_ref : Cert.quiescent_ScatterRefIdeal := fun m ρ _ =>
  (θ_run Cert.ScatterRefIdeal.defs _ _).mono (fun r h => ⟨fun c => (h c).2.2.2.2, sem_eq_zero_of_no_sems (by decide) r.2⟩)
    (Cert.ScatterRefIdeal.Value.run (F := Ideal) m ρ)

/-- The same, of the reference at the words. -/
theorem frame_words : Cert.quiescent_ScatterRef := fun m ρ _ =>
  (θ_run Cert.ScatterRefIdeal.defs _ _).mono (fun r h => ⟨fun c => (h c).2.2.2.2, sem_eq_zero_of_no_sems (by decide) r.2⟩)
    (Cert.ScatterRefIdeal.Value.run (F := Bits) m ρ)

/-- Where the reference holds an array, -/
abbrev whole (b : Ref ScatterRefIdeal.sig .tc) := ((0 : Dev ScatterRefIdeal.nD).tc : Thread ScatterRefIdeal.nD ScatterRefIdeal.τ).loc b

/-- and where core `c` of the mesh holds one. -/
abbrev own (c : Dev ScatterIdeal.nD) (b : Ref ScatterIdeal.sig .tc) := (c.tc : Thread ScatterIdeal.nD ScatterIdeal.τ).loc b

/-- Each core ends with its part of the exchanged arrays: over any float values. -/
theorem meets {F : FTy → Type} [FloatOps F] :
  ∀ (m : (ℓ : Loc ScatterIdeal.nD ScatterIdeal.τ ScatterIdeal.sig) → Buf (Elt F) ℓ) (g : Dev ScatterIdeal.nD → PrngReg)
    (m' : (ℓ : Loc ScatterRefIdeal.nD ScatterRefIdeal.τ ScatterRefIdeal.sig) → Buf (Elt F) ℓ) (g' : Dev ScatterRefIdeal.nD → PrngReg),
    (∀ c : Dev ScatterIdeal.nD,
      m (own c ScatterIdeal.main_arg0) = Layout.block ⟨3, ![4, 512, 1672]⟩ ⟨3, ![32, 512, 1672]⟩ 0 8 c (m' (whole ScatterRefIdeal.main_arg0))
      ∧ m (own c ScatterIdeal.main_arg1) = Layout.block ⟨3, ![4, 256, 1024]⟩ ⟨3, ![32, 256, 1024]⟩ 0 8 c (m' (whole ScatterRefIdeal.main_arg1))
      ∧ m (own c ScatterIdeal.main_arg2) = Layout.block ⟨3, ![4, 512, 1408]⟩ ⟨3, ![32, 512, 1408]⟩ 0 8 c (m' (whole ScatterRefIdeal.main_arg2))
      ∧ m (own c ScatterIdeal.main_arg3) = Layout.block ⟨3, ![4, 352, 1024]⟩ ⟨3, ![32, 352, 1024]⟩ 0 8 c (m' (whole ScatterRefIdeal.main_arg3))) →
    ∃ (v0 : Buf (Elt F) (whole ScatterRefIdeal.main_v2)) (v1 : Buf (Elt F) (whole ScatterRefIdeal.main_v5)) (v2 : Buf (Elt F) (whole ScatterRefIdeal.main_v8)) (v3 : Buf (Elt F) (whole ScatterRefIdeal.main_v11)),
      θ_run (ScatterIdeal.defs (F := F)) (onTc (τ := ScatterIdeal.τ) (ScatterIdeal.main (F := F))) ⟨m, fun _ => 0, g⟩ (fun r => ∀ c : Dev ScatterIdeal.nD,
          r.2.mem (own c ScatterIdeal.main_v1_0) = Layout.block ⟨3, ![4, 512, 1672]⟩ ⟨3, ![32, 512, 1672]⟩ 0 8 c v0
          ∧ r.2.mem (own c ScatterIdeal.main_v1_1) = Layout.block ⟨3, ![4, 256, 1024]⟩ ⟨3, ![32, 256, 1024]⟩ 0 8 c v1
          ∧ r.2.mem (own c ScatterIdeal.main_v1_2) = Layout.block ⟨3, ![4, 512, 1408]⟩ ⟨3, ![32, 512, 1408]⟩ 0 8 c v2
          ∧ r.2.mem (own c ScatterIdeal.main_v1_3) = Layout.block ⟨3, ![4, 352, 1024]⟩ ⟨3, ![32, 352, 1024]⟩ 0 8 c v3
          ∧ r.2.mem (own c ScatterIdeal.main_arg0) = m (own c ScatterIdeal.main_arg0)
          ∧ r.2.mem (own c ScatterIdeal.main_arg1) = m (own c ScatterIdeal.main_arg1)
          ∧ r.2.mem (own c ScatterIdeal.main_arg2) = m (own c ScatterIdeal.main_arg2)
          ∧ r.2.mem (own c ScatterIdeal.main_arg3) = m (own c ScatterIdeal.main_arg3))
      ∧ θ_run (ScatterRefIdeal.defs (F := F)) (onTc (τ := ScatterRefIdeal.τ) (ScatterRefIdeal.main (F := F))) ⟨m', fun _ => 0, g'⟩ (fun r =>
          r.2.mem (whole ScatterRefIdeal.main_v2) = v0
          ∧ r.2.mem (whole ScatterRefIdeal.main_v5) = v1
          ∧ r.2.mem (whole ScatterRefIdeal.main_v8) = v2
          ∧ r.2.mem (whole ScatterRefIdeal.main_v11) = v3
          ∧ r.2.mem (whole ScatterRefIdeal.main_arg0) = m' (whole ScatterRefIdeal.main_arg0)
          ∧ r.2.mem (whole ScatterRefIdeal.main_arg1) = m' (whole ScatterRefIdeal.main_arg1)
          ∧ r.2.mem (whole ScatterRefIdeal.main_arg2) = m' (whole ScatterRefIdeal.main_arg2)
          ∧ r.2.mem (whole ScatterRefIdeal.main_arg3) = m' (whole ScatterRefIdeal.main_arg3)) := by
  intro m g m' g' hin
  refine ⟨_, _, _, _, ?_, (θ_run Cert.ScatterRefIdeal.defs _ _).mono (fun r h => h 0) (Cert.ScatterRefIdeal.Value.run (F := F) m' g')⟩
  refine (θ_run Cert.ScatterIdeal.defs _ _).mono (fun r h c => ⟨?_, ?_, ?_, ?_, (h.1 c).2 0, (h.1 c).2 1, (h.1 c).2 2, (h.1 c).2 3⟩) (run_main (F := F) m g)
  · exact exchange_end _ _ _ _ (by decide) (fun (d : Dev Cert.ScatterIdeal.nD) => m ((d.tc : Thread Cert.ScatterIdeal.nD Cert.ScatterIdeal.τ).loc Cert.ScatterIdeal.main_arg0)) _ c
      (fun d => (hin d).1) (row_0 (h.1 c).1)
  · exact exchange_end _ _ _ _ (by decide) (fun (d : Dev Cert.ScatterIdeal.nD) => m ((d.tc : Thread Cert.ScatterIdeal.nD Cert.ScatterIdeal.τ).loc Cert.ScatterIdeal.main_arg1)) _ c
      (fun d => (hin d).2.1) (row_1 (h.1 c).1)
  · exact exchange_end _ _ _ _ (by decide) (fun (d : Dev Cert.ScatterIdeal.nD) => m ((d.tc : Thread Cert.ScatterIdeal.nD Cert.ScatterIdeal.τ).loc Cert.ScatterIdeal.main_arg2)) _ c
      (fun d => (hin d).2.2.1) (row_2 (h.1 c).1)
  · exact exchange_end _ _ _ _ (by decide) (fun (d : Dev Cert.ScatterIdeal.nD) => m ((d.tc : Thread Cert.ScatterIdeal.nD Cert.ScatterIdeal.τ).loc Cert.ScatterIdeal.main_arg3)) _ c
      (fun d => (hin d).2.2.2) (row_3 (h.1 c).1)

/-- The claim over the reals. -/
theorem algebraic : Cert.algebraic_ScatterIdeal_ScatterRefIdeal := fun m g m' g' _ hin => meets m g m' g' hin

/-- The claim on the words themselves. -/
theorem bitexact : Cert.bitexact_Scatter_ScatterRef := fun m g m' g' _ hin => meets (F := Bits) m g m' g' hin

end Cert.Proof.Scatter

end
-- ==== Proof.PairRun.lean ====
/-
`pair_gather` as an exchange (Exch.lean): its tables read off the printed body, its arrays dealt to the copies, and the
run of the whole program, over any float.
-/
module

public import proofs.«01_k».proof.Proof.ExchMem

public import proofs.«01_k».proof.Proof.Gen.PairIdeal.Skeleton
public import proofs.«01_k».proof.Proof.Gen.PairIdeal.Launch

@[expose] public section

noncomputable section

namespace Cert.PairIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Exch
open Cert.PairIdeal Cert.PairIdeal.Facts₀ Cert.PairIdeal.Facts

set_option Elab.async false

variable {F : FTy → Type} [FloatOps F]
local notation "𝕄" => MT nD τ sig Unit (Elt F) ℕ (UU nD τ sig) ℕ

/-! ### The tables -/

/-- The shape and the element type of a copy of array `a`. -/
def shp : Fin 4 → Shape
  | 0 => S512x1672
  | 1 => S256x1024
  | 2 => S512x1408
  | 3 => S352x1024
def elt : Fin 4 → EltTy
  | 0 => .f32
  | 1 => .f32
  | 2 => .f32
  | 3 => .f32
/-- The arrays read and the arrays written. -/
def inp : Fin 4 → Ref sig .tc
  | 0 => main_arg0
  | 1 => main_arg1
  | 2 => main_arg2
  | 3 => main_arg3
def out : Fin 4 → Ref sig .tc
  | 0 => main_v1_0
  | 1 => main_v1_1
  | 2 => main_v1_2
  | 3 => main_v1_3
/-- What device `c` reads of array `a` for its copy `j`. -/
def src (i : Fin 4 × Fin 1) (c : Dev nD) : Memref sig .tc .hbm (shp i.1) (elt i.1) :=
  match i with
  | (0, 0) => Memref.whole main_arg0
  | (1, 0) => Memref.whole main_arg1
  | (2, 0) => Memref.whole main_arg2
  | (3, 0) => Memref.whole main_arg3
/-- Where a copy of device `c` from array `a` goes, on whatever device. -/
def dst (a : Fin 4) (c : Dev nD) : Memref sig .tc .hbm (shp a) (elt a) :=
  match a with
  | 0 => ((Memref.whole main_v1_0).slice (Rect.unit (s := S2x512x1672) (k0_off1 c) S1x512x1672.size (k0_off1_inb c)) (fun _ => rfl)).squeeze S512x1672 squeezes_S1x512x1672_S512x1672
  | 1 => ((Memref.whole main_v1_1).slice (Rect.unit (s := S2x256x1024) (k0_off2 c) S1x256x1024.size (k0_off2_inb c)) (fun _ => rfl)).squeeze S256x1024 squeezes_S1x256x1024_S256x1024
  | 2 => ((Memref.whole main_v1_2).slice (Rect.unit (s := S2x512x1408) (k0_off3 c) S1x512x1408.size (k0_off3_inb c)) (fun _ => rfl)).squeeze S512x1408 squeezes_S1x512x1408_S512x1408
  | 3 => ((Memref.whole main_v1_3).slice (Rect.unit (s := S2x352x1024) (k0_off4 c) S1x352x1024.size (k0_off4_inb c)) (fun _ => rfl)).squeeze S352x1024 squeezes_S1x352x1024_S352x1024
/-- What device `c` copies within its own memory. -/
def lsrc (a : Fin 4) (c : Dev nD) : Memref sig .tc .hbm (shp a) (elt a) :=
  match a with
  | 0 => Memref.whole main_arg0
  | 1 => Memref.whole main_arg1
  | 2 => Memref.whole main_arg2
  | 3 => Memref.whole main_arg3
/-- The peer of a copy. -/
def peer (i : Fin 4 × Fin 1) (c : Dev nD) : Dev nD :=
  match i with
  | (0, 0) => ⟨k0_dev1 c, k0_dev1_lt c⟩
  | (1, 0) => ⟨k0_dev2 c, k0_dev2_lt c⟩
  | (2, 0) => ⟨k0_dev3 c, k0_dev3_lt c⟩
  | (3, 0) => ⟨k0_dev4 c, k0_dev4_lt c⟩
/-- The semaphores, in the order of the pool. -/
def sem : (Fin 4 × Fin 1) ⊕ (Fin 4 × Fin 1) ⊕ Fin 4 → DmaSem sig
  | .inl i => (⟨i.1.val, by have := i.1.isLt; have := i.2.isLt; omega⟩ : Fin 12)
  | .inr (.inl i) => (⟨4 + (i.1.val), by have := i.1.isLt; have := i.2.isLt; omega⟩ : Fin 12)
  | .inr (.inr a) => (⟨8 + a.val, by have := a.isLt; omega⟩ : Fin 12)
/-- What a copy of array `a` counts. -/
def cnt (a : Fin 4) : ℕ := (dst a 0).view.dmaCredit
def amt : (Fin 4 × Fin 1) ⊕ (Fin 4 × Fin 1) ⊕ Fin 4 → ℕ
  | .inl i => cnt i.1
  | .inr (.inl i) => cnt i.1
  | .inr (.inr a) => cnt a

theorem shp_pos : ∀ a : Fin 4, 0 < (shp a).numel := by decide +kernel
theorem sem_inj : Function.Injective sem := by decide +kernel
theorem peer_peer : ∀ i c, peer i (peer i c) = c := by decide +kernel
theorem dst_exact (a : Fin 4) (c : Dev nD) : (dst a c).view.WordExact :=
  match a with
  | 0 => (View.wordExact_bits rfl).reshape _ _
  | 1 => (View.wordExact_bits rfl).reshape _ _
  | 2 => (View.wordExact_bits rfl).reshape _ _
  | 3 => (View.wordExact_bits rfl).reshape _ _
theorem src_exact (i : Fin 4 × Fin 1) (c : Dev nD) : (src i c).view.WordExact :=
  match i with
  | (0, 0) => (Memref.isWhole_whole _).wordExact
  | (1, 0) => (Memref.isWhole_whole _).wordExact
  | (2, 0) => (Memref.isWhole_whole _).wordExact
  | (3, 0) => (Memref.isWhole_whole _).wordExact
theorem lsrc_exact (a : Fin 4) (c : Dev nD) : (lsrc a c).view.WordExact :=
  match a with
  | 0 => (Memref.isWhole_whole _).wordExact
  | 1 => (Memref.isWhole_whole _).wordExact
  | 2 => (Memref.isWhole_whole _).wordExact
  | 3 => (Memref.isWhole_whole _).wordExact
theorem dst_plain (a : Fin 4) (c : Dev nD) : (dst a c).view.ref.isScScratch = false :=
  match a with
  | 0 => rfl
  | 1 => rfl
  | 2 => rfl
  | 3 => rfl
theorem src_cnt (i : Fin 4 × Fin 1) (c : Dev nD) : (src i c).view.dmaCredit = cnt i.1 :=
  match i with
  | (0, 0) => rfl
  | (1, 0) => rfl
  | (2, 0) => rfl
  | (3, 0) => rfl
theorem dst_cnt (a : Fin 4) (c : Dev nD) : (dst a c).view.dmaCredit = cnt a :=
  match a with
  | 0 => rfl
  | 1 => rfl
  | 2 => rfl
  | 3 => rfl
/-- The copies and the waits, in the order of the body. -/
def starts : List (Fin 4 ⊕ Fin 4 × Fin 1) :=
  [.inl 0, .inr (0, 0), .inl 1, .inr (1, 0), .inl 2, .inr (2, 0), .inl 3, .inr (3, 0)]
def waits : List ((Fin 4 × Fin 1) ⊕ (Fin 4 × Fin 1) ⊕ Fin 4) :=
  [.inr (.inl (0, 0)), .inr (.inl (1, 0)), .inr (.inl (2, 0)), .inr (.inl (3, 0)), .inl (0, 0), .inl (1, 0), .inl (2, 0), .inl (3, 0), .inr (.inr 0), .inr (.inr 1), .inr (.inr 2), .inr (.inr 3)]
theorem starts_nodup : starts.Nodup := by decide +kernel
theorem starts_all (x) : x ∈ starts :=
  have h : starts.toFinset = Finset.univ := by decide +kernel
  List.mem_toFinset.mp (h ▸ Finset.mem_univ x)
theorem waits_nodup : waits.Nodup := by decide +kernel
theorem waits_all (x) : x ∈ waits :=
  have h : waits.toFinset = Finset.univ := by decide +kernel
  List.mem_toFinset.mp (h ▸ Finset.mem_univ x)

/-- The exchange. -/
def plan : Plan nD τ sig where
  I := Fin 4 × Fin 1
  J := Fin 4
  sh i := shp i.1
  el i := elt i.1
  peer := peer
  src := src
  dst i := dst i.1
  lsh a := shp a
  lel a := elt a
  lsrc := lsrc
  ldst := dst
  sem := sem
  amt := amt
  share i := piece (i.2.val + 2)
  lshare _ := piece 1
  starts := starts
  waits := waits
  peer_peer := peer_peer
  sem_inj := sem_inj
  src_exact := src_exact
  dst_exact i := dst_exact i.1
  lsrc_exact := lsrc_exact
  ldst_exact := dst_exact
  scratch i := dst_plain i.1
  amt_pos k := match k with
    | .inl i => (dst i.1 0).view.dmaCredit_pos (shp_pos i.1)
    | .inr (.inl i) => (dst i.1 0).view.dmaCredit_pos (shp_pos i.1)
    | .inr (.inr a) => (dst a 0).view.dmaCredit_pos (shp_pos a)
  src_amt := src_cnt
  dst_send i := dst_cnt i.1
  dst_amt i := dst_cnt i.1
  ldst_amt := dst_cnt
  starts_nodup := starts_nodup
  starts_all := starts_all
  waits_nodup := waits_nodup
  waits_all := waits_all

/-! ### The body -/

set_option maxRecDepth 65536 in
theorem body_eq : cc0_pair_gather (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2
      = .op .deviceId fun d => plan.prog d := by
  chain_rfl

/-- The printed body runs the exchange. -/
theorem body_runs (𝒱₀ : Variants) (c : Dev nD) (R : sProp 𝕄) :
    wp frame (wpE (defs₀ (F := F)) 𝒱₀ (c : Thread nD τ) none) Set.univ (plan.prog c) (fun _ => R)
      ⊢ wp frame (wpE (defs₀ (F := F)) 𝒱₀ (c : Thread nD τ) none) Set.univ
          (cc0_pair_gather (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2) fun _ => R := by
  rw [body_eq, wp_deviceId]

/-! ### The arrays -/

/-- What a device reads, it holds whole; what it writes, too. -/
theorem arrays (c : Dev nD) (V : (b : Ref sig .tc) → Buf (Elt F) ((c : Thread nD τ).loc b)) :
    (unscopedBufs c V : sProp 𝕄)
      ⊢ iprop((bigSep Finset.univ fun a : Fin 4 => ((c : Thread nD τ).loc (inp a)) ↦{fullShare} V (inp a))
          ∗ bigSep Finset.univ fun a : Fin 4 => ((c : Thread nD τ).loc (out a)) ↦{fullShare} V (out a)) := by
  rw [bigSep_univ_eq_bigSepL [0, 1, 2, 3] (by decide) (by decide), bigSep_univ_eq_bigSepL [0, 1, 2, 3] (by decide) (by decide)]
  unfold unscopedBufs
  rw [bigSep_eq_bigSepL_of_eq [main_arg0, main_arg1, main_arg2, main_arg3, main_v1_0, main_v1_1, main_v1_2, main_v1_3] (by decide) (by decide)]
  exact Entails.of_eq (bigSepL_append [main_arg0, main_arg1, main_arg2, main_arg3] [main_v1_0, main_v1_1, main_v1_2, main_v1_3] _)

/-- The row of an array that is written that holds what device `c` sends. -/
def slot (c : Dev nD) : ℕ := c.val % 2
theorem slot_peer : ∀ (i : Fin 4 × Fin 1) (c : Dev nD), slot c ≠ slot (peer i c) := by decide +kernel
theorem slot_peers : ∀ (a : Fin 4) (c : Dev nD) (j j' : Fin 1), j ≠ j' → slot (peer (a, j) c) ≠ slot (peer (a, j') c) := by decide +kernel

theorem at_0 (c : Dev nD) : k0_off1 c 0 = slot c := congrFun (Gen.k0_off1_eq c) 0
theorem at_1 (c : Dev nD) : k0_off2 c 0 = slot c := congrFun (Gen.k0_off2_eq c) 0
theorem at_2 (c : Dev nD) : k0_off3 c 0 = slot c := congrFun (Gen.k0_off3_eq c) 0
theorem at_3 (c : Dev nD) : k0_off4 c 0 = slot c := congrFun (Gen.k0_off4_eq c) 0
theorem apart_0 {c c' : Dev nD} (h : slot c ≠ slot c') : Disjoint (dst 0 c).view.set (dst 0 c').view.set :=
  rows_apart main_v1_0 (q := squeezes_S1x512x1672_S512x1672) (q' := squeezes_S1x512x1672_S512x1672) (0 : Fin 3) (by rw [at_0 c, at_0 c']; exact row_apart h)
theorem apart_1 {c c' : Dev nD} (h : slot c ≠ slot c') : Disjoint (dst 1 c).view.set (dst 1 c').view.set :=
  rows_apart main_v1_1 (q := squeezes_S1x256x1024_S256x1024) (q' := squeezes_S1x256x1024_S256x1024) (0 : Fin 3) (by rw [at_1 c, at_1 c']; exact row_apart h)
theorem apart_2 {c c' : Dev nD} (h : slot c ≠ slot c') : Disjoint (dst 2 c).view.set (dst 2 c').view.set :=
  rows_apart main_v1_2 (q := squeezes_S1x512x1408_S512x1408) (q' := squeezes_S1x512x1408_S512x1408) (0 : Fin 3) (by rw [at_2 c, at_2 c']; exact row_apart h)
theorem apart_3 {c c' : Dev nD} (h : slot c ≠ slot c') : Disjoint (dst 3 c).view.set (dst 3 c').view.set :=
  rows_apart main_v1_3 (q := squeezes_S1x352x1024_S352x1024) (q' := squeezes_S1x352x1024_S352x1024) (0 : Fin 3) (by rw [at_3 c, at_3 c']; exact row_apart h)

variable (m : (ℓ : Loc nD τ sig) → Buf (Elt F) ℓ)

/-! What the copies take, read off the tables. -/
def sset_0 (c : Dev nD) (j : Fin 1) : Finset (Idx ((c : Thread nD τ).loc main_arg0)) :=
  match j with | 0 => (src (0, 0) c).view.set
def sset_1 (c : Dev nD) (j : Fin 1) : Finset (Idx ((c : Thread nD τ).loc main_arg1)) :=
  match j with | 0 => (src (1, 0) c).view.set
def sset_2 (c : Dev nD) (j : Fin 1) : Finset (Idx ((c : Thread nD τ).loc main_arg2)) :=
  match j with | 0 => (src (2, 0) c).view.set
def sset_3 (c : Dev nD) (j : Fin 1) : Finset (Idx ((c : Thread nD τ).loc main_arg3)) :=
  match j with | 0 => (src (3, 0) c).view.set
theorem src_at_0_0 (c : Dev nD) : plan.srcPts m (0, 0) c
    = (((c : Thread nD τ).loc (inp 0)) ↦[sset_0 c 0]{piece ((0 : Fin 1).val + 2)} m ((c : Thread nD τ).loc (inp 0)) : sProp 𝕄) := rfl
theorem lsrc_at_0 (c : Dev nD) : plan.lsrcPts m (0 : Fin 4) c
    = (((c : Thread nD τ).loc (inp 0)) ↦[(lsrc 0 c).view.set]{piece 1} m ((c : Thread nD τ).loc (inp 0)) : sProp 𝕄) := rfl
theorem ldst_at_0 (c : Dev nD) : plan.ldstAny (0 : Fin 4) c
    = (iprop(∃ f, ((c : Thread nD τ).loc (out 0)) ↦[(dst 0 c).view.set]{fullShare} f) : sProp 𝕄) := rfl
theorem dst_at_0 (j : Fin 1) (c d : Dev nD) : plan.dstAny (0, j) c d
    = (iprop(∃ f, ((d : Thread nD τ).loc (out 0)) ↦[(dst 0 c).view.set]{fullShare} f) : sProp 𝕄) := rfl
theorem src_at_1_0 (c : Dev nD) : plan.srcPts m (1, 0) c
    = (((c : Thread nD τ).loc (inp 1)) ↦[sset_1 c 0]{piece ((0 : Fin 1).val + 2)} m ((c : Thread nD τ).loc (inp 1)) : sProp 𝕄) := rfl
theorem lsrc_at_1 (c : Dev nD) : plan.lsrcPts m (1 : Fin 4) c
    = (((c : Thread nD τ).loc (inp 1)) ↦[(lsrc 1 c).view.set]{piece 1} m ((c : Thread nD τ).loc (inp 1)) : sProp 𝕄) := rfl
theorem ldst_at_1 (c : Dev nD) : plan.ldstAny (1 : Fin 4) c
    = (iprop(∃ f, ((c : Thread nD τ).loc (out 1)) ↦[(dst 1 c).view.set]{fullShare} f) : sProp 𝕄) := rfl
theorem dst_at_1 (j : Fin 1) (c d : Dev nD) : plan.dstAny (1, j) c d
    = (iprop(∃ f, ((d : Thread nD τ).loc (out 1)) ↦[(dst 1 c).view.set]{fullShare} f) : sProp 𝕄) := rfl
theorem src_at_2_0 (c : Dev nD) : plan.srcPts m (2, 0) c
    = (((c : Thread nD τ).loc (inp 2)) ↦[sset_2 c 0]{piece ((0 : Fin 1).val + 2)} m ((c : Thread nD τ).loc (inp 2)) : sProp 𝕄) := rfl
theorem lsrc_at_2 (c : Dev nD) : plan.lsrcPts m (2 : Fin 4) c
    = (((c : Thread nD τ).loc (inp 2)) ↦[(lsrc 2 c).view.set]{piece 1} m ((c : Thread nD τ).loc (inp 2)) : sProp 𝕄) := rfl
theorem ldst_at_2 (c : Dev nD) : plan.ldstAny (2 : Fin 4) c
    = (iprop(∃ f, ((c : Thread nD τ).loc (out 2)) ↦[(dst 2 c).view.set]{fullShare} f) : sProp 𝕄) := rfl
theorem dst_at_2 (j : Fin 1) (c d : Dev nD) : plan.dstAny (2, j) c d
    = (iprop(∃ f, ((d : Thread nD τ).loc (out 2)) ↦[(dst 2 c).view.set]{fullShare} f) : sProp 𝕄) := rfl
theorem src_at_3_0 (c : Dev nD) : plan.srcPts m (3, 0) c
    = (((c : Thread nD τ).loc (inp 3)) ↦[sset_3 c 0]{piece ((0 : Fin 1).val + 2)} m ((c : Thread nD τ).loc (inp 3)) : sProp 𝕄) := rfl
theorem lsrc_at_3 (c : Dev nD) : plan.lsrcPts m (3 : Fin 4) c
    = (((c : Thread nD τ).loc (inp 3)) ↦[(lsrc 3 c).view.set]{piece 1} m ((c : Thread nD τ).loc (inp 3)) : sProp 𝕄) := rfl
theorem ldst_at_3 (c : Dev nD) : plan.ldstAny (3 : Fin 4) c
    = (iprop(∃ f, ((c : Thread nD τ).loc (out 3)) ↦[(dst 3 c).view.set]{fullShare} f) : sProp 𝕄) := rfl
theorem dst_at_3 (j : Fin 1) (c d : Dev nD) : plan.dstAny (3, j) c d
    = (iprop(∃ f, ((d : Thread nD τ).loc (out 3)) ↦[(dst 3 c).view.set]{fullShare} f) : sProp 𝕄) := rfl

/-- An array that is read, dealt to the copies that read it. -/
theorem deal_in (c : Dev nD) (a : Fin 4) : (((c : Thread nD τ).loc (inp a)) ↦{fullShare} m ((c : Thread nD τ).loc (inp a)) : sProp 𝕄)
    ⊢ iprop((((c : Thread nD τ).loc (inp a)) ↦{piece 0} m ((c : Thread nD τ).loc (inp a))) ∗ plan.lsrcPts m a c
        ∗ bigSep Finset.univ fun j : Fin 1 => plan.srcPts m (a, j) c) :=
  match a with
  | 0 => (deal_source (m ((c : Thread nD τ).loc (inp 0))) (lsrc 0 c).view.set (sset_0 c)).trans (sep_mono_right (BI.sep_mono (Entails.of_eq (lsrc_at_0 m c).symm) (bigSep_mono fun j _ => match j with | 0 => Entails.of_eq (src_at_0_0 m c).symm)))
  | 1 => (deal_source (m ((c : Thread nD τ).loc (inp 1))) (lsrc 1 c).view.set (sset_1 c)).trans (sep_mono_right (BI.sep_mono (Entails.of_eq (lsrc_at_1 m c).symm) (bigSep_mono fun j _ => match j with | 0 => Entails.of_eq (src_at_1_0 m c).symm)))
  | 2 => (deal_source (m ((c : Thread nD τ).loc (inp 2))) (lsrc 2 c).view.set (sset_2 c)).trans (sep_mono_right (BI.sep_mono (Entails.of_eq (lsrc_at_2 m c).symm) (bigSep_mono fun j _ => match j with | 0 => Entails.of_eq (src_at_2_0 m c).symm)))
  | 3 => (deal_source (m ((c : Thread nD τ).loc (inp 3))) (lsrc 3 c).view.set (sset_3 c)).trans (sep_mono_right (BI.sep_mono (Entails.of_eq (lsrc_at_3 m c).symm) (bigSep_mono fun j _ => match j with | 0 => Entails.of_eq (src_at_3_0 m c).symm)))

/-- An array that is written, dealt to the copies that write it. -/
theorem deal_out (c : Dev nD) (a : Fin 4) : (((c : Thread nD τ).loc (out a)) ↦{fullShare} m ((c : Thread nD τ).loc (out a)) : sProp 𝕄)
    ⊢ iprop(plan.ldstAny a c ∗ bigSep Finset.univ fun j : Fin 1 => plan.dstAny (a, j) (plan.peer (a, j) c) c) :=
  match a with
  | 0 => (deal_target (m ((c : Thread nD τ).loc (out 0))) (dst 0 c).view.set (fun j : Fin 1 => (dst 0 (peer (0, j) c)).view.set)
      (fun j => apart_0 (slot_peer (0, j) c)) fun j j' h => apart_0 (slot_peers 0 c j j' h)).trans
      (BI.sep_mono (Entails.of_eq (ldst_at_0 c).symm) (bigSep_mono fun j _ => Entails.of_eq (dst_at_0 j (peer (0, j) c) c).symm))
  | 1 => (deal_target (m ((c : Thread nD τ).loc (out 1))) (dst 1 c).view.set (fun j : Fin 1 => (dst 1 (peer (1, j) c)).view.set)
      (fun j => apart_1 (slot_peer (1, j) c)) fun j j' h => apart_1 (slot_peers 1 c j j' h)).trans
      (BI.sep_mono (Entails.of_eq (ldst_at_1 c).symm) (bigSep_mono fun j _ => Entails.of_eq (dst_at_1 j (peer (1, j) c) c).symm))
  | 2 => (deal_target (m ((c : Thread nD τ).loc (out 2))) (dst 2 c).view.set (fun j : Fin 1 => (dst 2 (peer (2, j) c)).view.set)
      (fun j => apart_2 (slot_peer (2, j) c)) fun j j' h => apart_2 (slot_peers 2 c j j' h)).trans
      (BI.sep_mono (Entails.of_eq (ldst_at_2 c).symm) (bigSep_mono fun j _ => Entails.of_eq (dst_at_2 j (peer (2, j) c) c).symm))
  | 3 => (deal_target (m ((c : Thread nD τ).loc (out 3))) (dst 3 c).view.set (fun j : Fin 1 => (dst 3 (peer (3, j) c)).view.set)
      (fun j => apart_3 (slot_peer (3, j) c)) fun j j' h => apart_3 (slot_peers 3 c j j' h)).trans
      (BI.sep_mono (Entails.of_eq (ldst_at_3 c).symm) (bigSep_mono fun j _ => Entails.of_eq (dst_at_3 j (peer (3, j) c) c).symm))

/-- What a device keeps for itself: a share of every array that is read. -/
def keep (c : Dev nD) : sProp 𝕄 :=
  bigSep Finset.univ fun a : Fin 4 => ((c : Thread nD τ).loc (inp a)) ↦{piece 0} m ((c : Thread nD τ).loc (inp a))

theorem split (c : Dev nD) : (unscopedBufs c (fun b => m ((c.tc : Thread nD τ).loc b)) : sProp 𝕄) ⊢ iprop(plan.brings m c ∗ keep m c) :=
  (arrays c fun b => m ((c.tc : Thread nD τ).loc b)).trans (regroup (A := Fin 4) (B := Fin 1) _ _ _ _ _ _ _ (deal_in m c) (deal_out m c))

/-! ### The run -/

instance : ∀ q, IsEmpty (Fin (Pipeline.pin (pcfgs (F := F)) (fun p => (cfgs p).toPCfg_adm) q).W) := fun _ => inferInstanceAs (IsEmpty (Fin 0))

set_option maxRecDepth 65536 in
theorem own_sems : Pipeline.OwnSemFacts (cfg0.spec) fun k : (Fin 4 × Fin 1) ⊕ (Fin 4 × Fin 1) ⊕ Fin 4 => (SemLoc.dma (sem k) : SemLoc sig) := by decide +kernel

set_option maxRecDepth 65536 in
theorem all_scoped : ∀ sm : SemLoc sig, sm.isScoped .tc = true := by decide +kernel

set_option maxRecDepth 65536 in
/-- The whole program: every copy has landed, the arrays that are read are unchanged, every semaphore counts zero. -/
theorem run_main (g : Dev nD → PrngReg) :
    θ_run (defs (F := F)) (onTc (τ := τ) (main (F := F))) ⟨m, fun _ => 0, g⟩ fun r =>
      (∀ c : Dev nD, plan.Landed m c r.2.mem ∧ ∀ a, r.2.mem ((c : Thread nD τ).loc (inp a)) = m ((c : Thread nD τ).loc (inp a)))
        ∧ r.2.sem = fun _ => 0 :=
  θ_run_exchange (pcs := pcfgs (F := F)) (a := fun p => (cfgs p).toPCfg_adm) plan m (0 : Fin 1) defs₀ Variants.none (keep m) Gen.cellOf_inj Gen.winFacts0.to₀
    Gen.N_0 own_sems (fun _ _ c R => body_runs _ c R)
    (fun _ => Entails.of_eq (by unfold Pipeline.prefHeld; exact (BI.bigSep_empty (Φ := _)).symm))
    (fun c => Entails.of_eq (Gen.scopedRest0_eq c).symm) g main (fun _ => rfl) (split m)
    (fun c μ => ∀ a, μ ((c : Thread nD τ).loc (inp a)) = m ((c : Thread nD τ).loc (inp a)))
    (fun c s' => read_kept inp c (piece 0) m s')
    fun s h hs => ⟨h, sem_eq_zero_of_scoped all_scoped hs⟩

end Cert.PairIdeal.Own

end
-- ==== Proof.PairRef.lean ====
/-
The values of `pair_gather`: each core of a chip ends with both cores' halves of the chip's arrays. The frames of the three
programs and the claim about their values follow.
-/
module

public import proofs.«01_k».proof.Defs
public import proofs.«01_k».proof.Proof.PairRun
public import proofs.«01_k».proof.Proof.Rows
public import proofs.«01_k».proof.Proof.Gen.Pair
public import proofs.«01_k».proof.Proof.Gen.PairRef
public import proofs.«01_k».proof.Proof.Gen.PairRefIdeal.Run

@[expose] public section

noncomputable section

namespace Cert.PairIdeal.Own

open Idealize.ShloMosaic Idealize.ShloMosaic.Rows Idealize.ShloMosaic.ValueIdx
open Idealize.ShloMosaic.TcCoe
open Idealize.SL.Sem
open Idealize.ShloMosaic.Exch
open Cert.PairIdeal Cert.PairIdeal.Facts₀ Cert.PairIdeal.Facts

/-- Array 0 as it lands: row `k` is the half of core `k` of the chip. -/
theorem row_0 {F : FTy → Type} {m μ : (ℓ : Loc nD τ sig) → Buf (Elt F) ℓ} {c : Dev nD} (h : plan.Landed m c μ) (k : Fin 2) (i : Fin 512) (j : Fin 1672) :
    μ ((c : Thread nD τ).loc main_v1_0) (ix3 k i j) = m (((dev (chip c) k : Dev nD) : Thread nD τ).loc main_arg0) (ix2 i j) := by
  have ho : ∀ (c : Fin 8) (k : Fin 2), k0_off1 (dev (chip c) k) 0 = k.val ∧ k0_off1 (dev (chip c) k) 1 = 0 ∧ k0_off1 (dev (chip c) k) 2 = 0 := by decide +kernel
  have hw : ∀ (c : Fin 8) (k : Fin 2), dev (chip c) k = c ∨ peer (0, 0) c = dev (chip c) k := by decide +kernel
  suffices key : ∀ d : Dev nD, (d = c ∨ peer (0, 0) c = d) → k0_off1 d 0 = k.val →
      μ ((c : Thread nD τ).loc main_v1_0) (ix3 k i j) = m ((d : Thread nD τ).loc main_arg0) (ix2 i j) from
    key _ (hw c k) (ho c k).1
  rintro d (rfl | rfl) hd
  · exact (congrArg (μ ((d : Thread nD τ).loc main_v1_0)) (row_idx (k0_off1_inb d) squeezes_S1x512x1672_S512x1672.numel_eq k hd i j)).symm.trans (congrFun (h.2 (0 : Fin 4)) (ix2 i j))
  · exact (congrArg (μ ((c : Thread nD τ).loc main_v1_0)) (row_idx (k0_off1_inb (peer (0, 0) c)) squeezes_S1x512x1672_S512x1672.numel_eq k hd i j)).symm.trans (congrFun (h.1 (0, 0)) (ix2 i j))

/-- Array 1 as it lands: row `k` is the half of core `k` of the chip. -/
theorem row_1 {F : FTy → Type} {m μ : (ℓ : Loc nD τ sig) → Buf (Elt F) ℓ} {c : Dev nD} (h : plan.Landed m c μ) (k : Fin 2) (i : Fin 256) (j : Fin 1024) :
    μ ((c : Thread nD τ).loc main_v1_1) (ix3 k i j) = m (((dev (chip c) k : Dev nD) : Thread nD τ).loc main_arg1) (ix2 i j) := by
  have ho : ∀ (c : Fin 8) (k : Fin 2), k0_off2 (dev (chip c) k) 0 = k.val ∧ k0_off2 (dev (chip c) k) 1 = 0 ∧ k0_off2 (dev (chip c) k) 2 = 0 := by decide +kernel
  have hw : ∀ (c : Fin 8) (k : Fin 2), dev (chip c) k = c ∨ peer (1, 0) c = dev (chip c) k := by decide +kernel
  suffices key : ∀ d : Dev nD, (d = c ∨ peer (1, 0) c = d) → k0_off2 d 0 = k.val →
      μ ((c : Thread nD τ).loc main_v1_1) (ix3 k i j) = m ((d : Thread nD τ).loc main_arg1) (ix2 i j) from
    key _ (hw c k) (ho c k).1
  rintro d (rfl | rfl) hd
  · exact (congrArg (μ ((d : Thread nD τ).loc main_v1_1)) (row_idx (k0_off2_inb d) squeezes_S1x256x1024_S256x1024.numel_eq k hd i j)).symm.trans (congrFun (h.2 (1 : Fin 4)) (ix2 i j))
  · exact (congrArg (μ ((c : Thread nD τ).loc main_v1_1)) (row_idx (k0_off2_inb (peer (1, 0) c)) squeezes_S1x256x1024_S256x1024.numel_eq k hd i j)).symm.trans (congrFun (h.1 (1, 0)) (ix2 i j))

/-- Array 2 as it lands: row `k` is the half of core `k` of the chip. -/
theorem row_2 {F : FTy → Type} {m μ : (ℓ : Loc nD τ sig) → Buf (Elt F) ℓ} {c : Dev nD} (h : plan.Landed m c μ) (k : Fin 2) (i : Fin 512) (j : Fin 1408) :
    μ ((c : Thread nD τ).loc main_v1_2) (ix3 k i j) = m (((dev (chip c) k : Dev nD) : Thread nD τ).loc main_arg2) (ix2 i j) := by
  have ho : ∀ (c : Fin 8) (k : Fin 2), k0_off3 (dev (chip c) k) 0 = k.val ∧ k0_off3 (dev (chip c) k) 1 = 0 ∧ k0_off3 (dev (chip c) k) 2 = 0 := by decide +kernel
  have hw : ∀ (c : Fin 8) (k : Fin 2), dev (chip c) k = c ∨ peer (2, 0) c = dev (chip c) k := by decide +kernel
  suffices key : ∀ d : Dev nD, (d = c ∨ peer (2, 0) c = d) → k0_off3 d 0 = k.val →
      μ ((c : Thread nD τ).loc main_v1_2) (ix3 k i j) = m ((d : Thread nD τ).loc main_arg2) (ix2 i j) from
    key _ (hw c k) (ho c k).1
  rintro d (rfl | rfl) hd
  · exact (congrArg (μ ((d : Thread nD τ).loc main_v1_2)) (row_idx (k0_off3_inb d) squeezes_S1x512x1408_S512x1408.numel_eq k hd i j)).symm.trans (congrFun (h.2 (2 : Fin 4)) (ix2 i j))
  · exact (congrArg (μ ((c : Thread nD τ).loc main_v1_2)) (row_idx (k0_off3_inb (peer (2, 0) c)) squeezes_S1x512x1408_S512x1408.numel_eq k hd i j)).symm.trans (congrFun (h.1 (2, 0)) (ix2 i j))

/-- Array 3 as it lands: row `k` is the half of core `k` of the chip. -/
theorem row_3 {F : FTy → Type} {m μ : (ℓ : Loc nD τ sig) → Buf (Elt F) ℓ} {c : Dev nD} (h : plan.Landed m c μ) (k : Fin 2) (i : Fin 352) (j : Fin 1024) :
    μ ((c : Thread nD τ).loc main_v1_3) (ix3 k i j) = m (((dev (chip c) k : Dev nD) : Thread nD τ).loc main_arg3) (ix2 i j) := by
  have ho : ∀ (c : Fin 8) (k : Fin 2), k0_off4 (dev (chip c) k) 0 = k.val ∧ k0_off4 (dev (chip c) k) 1 = 0 ∧ k0_off4 (dev (chip c) k) 2 = 0 := by decide +kernel
  have hw : ∀ (c : Fin 8) (k : Fin 2), dev (chip c) k = c ∨ peer (3, 0) c = dev (chip c) k := by decide +kernel
  suffices key : ∀ d : Dev nD, (d = c ∨ peer (3, 0) c = d) → k0_off4 d 0 = k.val →
      μ ((c : Thread nD τ).loc main_v1_3) (ix3 k i j) = m ((d : Thread nD τ).loc main_arg3) (ix2 i j) from
    key _ (hw c k) (ho c k).1
  rintro d (rfl | rfl) hd
  · exact (congrArg (μ ((d : Thread nD τ).loc main_v1_3)) (row_idx (k0_off4_inb d) squeezes_S1x352x1024_S352x1024.numel_eq k hd i j)).symm.trans (congrFun (h.2 (3 : Fin 4)) (ix2 i j))
  · exact (congrArg (μ ((c : Thread nD τ).loc main_v1_3)) (row_idx (k0_off4_inb (peer (3, 0) c)) squeezes_S1x352x1024_S352x1024.numel_eq k hd i j)).symm.trans (congrFun (h.1 (3, 0)) (ix2 i j))

end Cert.PairIdeal.Own

namespace Cert.Proof.Pair

open Idealize.ShloMosaic Idealize.ShloMosaic.Rows Idealize.SL.Sem Cert.PairIdeal.Own

/-- The kernel's frame, from the one run at the words. -/
theorem frame_kernel : Cert.quiescent_Pair := fun m ρ _ =>
  (θ_run Cert.PairIdeal.defs _ _).mono (fun _ h => ⟨fun c => ⟨(h.1 c).2 0, (h.1 c).2 1, (h.1 c).2 2, (h.1 c).2 3⟩, h.2⟩) (run_main (F := Bits) m ρ)

/-- The idealization's. -/
theorem frame_ideal : Cert.quiescent_PairIdeal := fun m ρ _ =>
  (θ_run Cert.PairIdeal.defs _ _).mono (fun _ h => ⟨fun c => ⟨(h.1 c).2 0, (h.1 c).2 1, (h.1 c).2 2, (h.1 c).2 3⟩, h.2⟩) (run_main (F := Ideal) m ρ)

/-- The reference's: it has no semaphore. -/
theorem frame_ref : Cert.quiescent_PairRefIdeal := fun m ρ _ =>
  (θ_run Cert.PairRefIdeal.defs _ _).mono (fun r h => ⟨fun c => (h c).2.2.2.2, sem_eq_zero_of_no_sems (by decide) r.2⟩)
    (Cert.PairRefIdeal.Value.run (F := Ideal) m ρ)

/-- The same, of the reference at the words. -/
theorem frame_words : Cert.quiescent_PairRef := fun m ρ _ =>
  (θ_run Cert.PairRefIdeal.defs _ _).mono (fun r h => ⟨fun c => (h c).2.2.2.2, sem_eq_zero_of_no_sems (by decide) r.2⟩)
    (Cert.PairRefIdeal.Value.run (F := Bits) m ρ)

/-- Where the reference holds an array, -/
abbrev whole (b : Ref PairRefIdeal.sig .tc) := ((0 : Dev PairRefIdeal.nD).tc : Thread PairRefIdeal.nD PairRefIdeal.τ).loc b

/-- and where core `c` of the mesh holds one. -/
abbrev own (c : Dev PairIdeal.nD) (b : Ref PairIdeal.sig .tc) := (c.tc : Thread PairIdeal.nD PairIdeal.τ).loc b

/-- Each core ends with its part of the whole arrays, both halves of it: over any float values. -/
theorem meets {F : FTy → Type} [FloatOps F] :
  ∀ (m : (ℓ : Loc PairIdeal.nD PairIdeal.τ PairIdeal.sig) → Buf (Elt F) ℓ) (g : Dev PairIdeal.nD → PrngReg)
    (m' : (ℓ : Loc PairRefIdeal.nD PairRefIdeal.τ PairRefIdeal.sig) → Buf (Elt F) ℓ) (g' : Dev PairRefIdeal.nD → PrngReg),
    (∀ c : Dev PairIdeal.nD,
      m (own c PairIdeal.main_arg0) = Layout.blockN ⟨2, ![512, 1672]⟩ ⟨2, ![1024, 6688]⟩ (Layout.meshBlock [2, 2, 2] ![[2], [0, 1]] c) (m' (whole PairRefIdeal.main_arg0))
      ∧ m (own c PairIdeal.main_arg1) = Layout.block ⟨2, ![256, 1024]⟩ ⟨2, ![2048, 1024]⟩ 0 8 c (m' (whole PairRefIdeal.main_arg1))
      ∧ m (own c PairIdeal.main_arg2) = Layout.blockN ⟨2, ![512, 1408]⟩ ⟨2, ![1024, 5632]⟩ (Layout.meshBlock [2, 2, 2] ![[2], [0, 1]] c) (m' (whole PairRefIdeal.main_arg2))
      ∧ m (own c PairIdeal.main_arg3) = Layout.block ⟨2, ![352, 1024]⟩ ⟨2, ![2816, 1024]⟩ 0 8 c (m' (whole PairRefIdeal.main_arg3))) →
    ∃ (v0 : Buf (Elt F) (whole PairRefIdeal.main_v0)) (v1 : Buf (Elt F) (whole PairRefIdeal.main_v1)) (v2 : Buf (Elt F) (whole PairRefIdeal.main_v2)) (v3 : Buf (Elt F) (whole PairRefIdeal.main_v3)),
      θ_run (PairIdeal.defs (F := F)) (onTc (τ := PairIdeal.τ) (PairIdeal.main (F := F))) ⟨m, fun _ => 0, g⟩ (fun r => ∀ c : Dev PairIdeal.nD,
          r.2.mem (own c PairIdeal.main_v1_0) = Layout.blockN ⟨3, ![2, 512, 1672]⟩ ⟨3, ![2, 512, 6688]⟩ (Layout.meshBlock [2, 2, 2] ![[], [], [0, 1]] c) v0
          ∧ r.2.mem (own c PairIdeal.main_v1_1) = Layout.blockN ⟨3, ![2, 256, 1024]⟩ ⟨3, ![8, 256, 1024]⟩ (Layout.meshBlock [2, 2, 2] ![[0, 1], [], []] c) v1
          ∧ r.2.mem (own c PairIdeal.main_v1_2) = Layout.blockN ⟨3, ![2, 512, 1408]⟩ ⟨3, ![2, 512, 5632]⟩ (Layout.meshBlock [2, 2, 2] ![[], [], [0, 1]] c) v2
          ∧ r.2.mem (own c PairIdeal.main_v1_3) = Layout.blockN ⟨3, ![2, 352, 1024]⟩ ⟨3, ![8, 352, 1024]⟩ (Layout.meshBlock [2, 2, 2] ![[0, 1], [], []] c) v3
          ∧ r.2.mem (own c PairIdeal.main_arg0) = m (own c PairIdeal.main_arg0)
          ∧ r.2.mem (own c PairIdeal.main_arg1) = m (own c PairIdeal.main_arg1)
          ∧ r.2.mem (own c PairIdeal.main_arg2) = m (own c PairIdeal.main_arg2)
          ∧ r.2.mem (own c PairIdeal.main_arg3) = m (own c PairIdeal.main_arg3))
      ∧ θ_run (PairRefIdeal.defs (F := F)) (onTc (τ := PairRefIdeal.τ) (PairRefIdeal.main (F := F))) ⟨m', fun _ => 0, g'⟩ (fun r =>
          r.2.mem (whole PairRefIdeal.main_v0) = v0
          ∧ r.2.mem (whole PairRefIdeal.main_v1) = v1
          ∧ r.2.mem (whole PairRefIdeal.main_v2) = v2
          ∧ r.2.mem (whole PairRefIdeal.main_v3) = v3
          ∧ r.2.mem (whole PairRefIdeal.main_arg0) = m' (whole PairRefIdeal.main_arg0)
          ∧ r.2.mem (whole PairRefIdeal.main_arg1) = m' (whole PairRefIdeal.main_arg1)
          ∧ r.2.mem (whole PairRefIdeal.main_arg2) = m' (whole PairRefIdeal.main_arg2)
          ∧ r.2.mem (whole PairRefIdeal.main_arg3) = m' (whole PairRefIdeal.main_arg3)) := by
  intro m g m' g' hin
  refine ⟨_, _, _, _, ?_, (θ_run Cert.PairRefIdeal.defs _ _).mono (fun r h => h 0) (Cert.PairRefIdeal.Value.run (F := F) m' g')⟩
  refine (θ_run Cert.PairIdeal.defs _ _).mono (fun r h c => ⟨?_, ?_, ?_, ?_, (h.1 c).2 0, (h.1 c).2 1, (h.1 c).2 2, (h.1 c).2 3⟩) (run_main (F := F) m g)
  · exact halves_cols_end (by decide) (by decide) _ _ (by decide) (by decide)
      (fun (d : Dev Cert.PairIdeal.nD) => m ((d.tc : Thread Cert.PairIdeal.nD Cert.PairIdeal.τ).loc Cert.PairIdeal.main_arg0)) _ c (fun d => (hin d).1) (row_0 (h.1 c).1)
  · exact halves_rows_end (by decide) _ _ (by decide) (by decide)
      (fun (d : Dev Cert.PairIdeal.nD) => m ((d.tc : Thread Cert.PairIdeal.nD Cert.PairIdeal.τ).loc Cert.PairIdeal.main_arg1)) _ c (fun d => (hin d).2.1) (row_1 (h.1 c).1)
  · exact halves_cols_end (by decide) (by decide) _ _ (by decide) (by decide)
      (fun (d : Dev Cert.PairIdeal.nD) => m ((d.tc : Thread Cert.PairIdeal.nD Cert.PairIdeal.τ).loc Cert.PairIdeal.main_arg2)) _ c (fun d => (hin d).2.2.1) (row_2 (h.1 c).1)
  · exact halves_rows_end (by decide) _ _ (by decide) (by decide)
      (fun (d : Dev Cert.PairIdeal.nD) => m ((d.tc : Thread Cert.PairIdeal.nD Cert.PairIdeal.τ).loc Cert.PairIdeal.main_arg3)) _ c (fun d => (hin d).2.2.2) (row_3 (h.1 c).1)

/-- The claim over the reals. -/
theorem algebraic : Cert.algebraic_PairIdeal_PairRefIdeal := fun m g m' g' _ hin => meets m g m' g' hin

/-- The claim on the words themselves. -/
theorem bitexact : Cert.bitexact_Pair_PairRef := fun m g m' g' _ hin => meets (F := Bits) m g m' g' hin

end Cert.Proof.Pair

end
-- ==== Proof.Adam.lean ====
/-
The AdamW update, for each of the step's four large arrays of weights: the kernel updates block after block of rows, the reference the
whole array, by the same operations, so the three results agree entry by entry.
-/
module

public import proofs.«01_k».proof.Defs
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run

@[expose] public section

noncomputable section

/-! ## The update of `w_in` -/

namespace Cert.Proof.AdamIn

open Idealize.ShloMosaic Idealize.SL.Sem

/-- The reference's frame: it has no semaphore. -/
theorem frame_ref : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

/-- The three arrays that the call leaves are those of the reference. -/
theorem algebraic : Cert.algebraic_AdamInIdeal_AdamInRefIdeal := by
  intro m g m' g' _ hin
  refine ⟨_, _, _, Cert.AdamInIdeal.Value.run (F := Ideal) m g,
    (θ_run Cert.AdamInRefIdeal.defs _ _).mono (fun r h c => ?_) (Cert.AdamInRefIdeal.Value.run (F := Ideal) m' g')⟩
  obtain ⟨h0, h1, h2, hargs⟩ := h c
  obtain ⟨e0, e1, e2, e3⟩ := hin c
  rw [e0, e1, e2, e3] at h0
  rw [e1, e2] at h1
  rw [e1, e3] at h2
  exact ⟨h0.trans rfl, h1.trans rfl, h2.trans rfl, hargs⟩

end Cert.Proof.AdamIn

/-! ## The update of `w_out` -/

namespace Cert.Proof.AdamOut

open Idealize.ShloMosaic Idealize.SL.Sem

/-- The reference's frame: it has no semaphore. -/
theorem frame_ref : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

/-- The three arrays that the call leaves are those of the reference. -/
theorem algebraic : Cert.algebraic_AdamOutIdeal_AdamOutRefIdeal := by
  intro m g m' g' _ hin
  refine ⟨_, _, _, Cert.AdamOutIdeal.Value.run (F := Ideal) m g,
    (θ_run Cert.AdamOutRefIdeal.defs _ _).mono (fun r h c => ?_) (Cert.AdamOutRefIdeal.Value.run (F := Ideal) m' g')⟩
  obtain ⟨h0, h1, h2, hargs⟩ := h c
  obtain ⟨e0, e1, e2, e3⟩ := hin c
  rw [e0, e1, e2, e3] at h0
  rw [e1, e2] at h1
  rw [e1, e3] at h2
  exact ⟨h0.trans rfl, h1.trans rfl, h2.trans rfl, hargs⟩

end Cert.Proof.AdamOut

/-! ## The update of `w_up` -/

namespace Cert.Proof.AdamUp

open Idealize.ShloMosaic Idealize.SL.Sem

/-- The reference's frame: it has no semaphore. -/
theorem frame_ref : Cert.quiescent_AdamUpRefIdeal := fun m ρ _ =>
  (θ_run Cert.AdamUpRefIdeal.defs _ _).mono (fun r h => ⟨fun c => (h c).2.2.2, sem_eq_zero_of_no_sems (by decide) r.2⟩)
    (Cert.AdamUpRefIdeal.Value.run (F := Ideal) m ρ)

/-- The three arrays that the call leaves are those of the reference. -/
theorem algebraic : Cert.algebraic_AdamUpIdeal_AdamUpRefIdeal := by
  intro m g m' g' _ hin
  refine ⟨_, _, _, Cert.AdamUpIdeal.Value.run (F := Ideal) m g,
    (θ_run Cert.AdamUpRefIdeal.defs _ _).mono (fun r h c => ?_) (Cert.AdamUpRefIdeal.Value.run (F := Ideal) m' g')⟩
  obtain ⟨h0, h1, h2, hargs⟩ := h c
  obtain ⟨e0, e1, e2, e3⟩ := hin c
  rw [e0, e1, e2, e3] at h0
  rw [e1, e2] at h1
  rw [e1, e3] at h2
  exact ⟨h0.trans rfl, h1.trans rfl, h2.trans rfl, hargs⟩

end Cert.Proof.AdamUp

/-! ## The update of `w_down` -/

namespace Cert.Proof.AdamDown

open Idealize.ShloMosaic Idealize.SL.Sem

/-- The reference's frame: it has no semaphore. -/
theorem frame_ref : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

/-- The three arrays that the call leaves are those of the reference. -/
theorem algebraic : Cert.algebraic_AdamDownIdeal_AdamDownRefIdeal := by
  intro m g m' g' _ hin
  refine ⟨_, _, _, Cert.AdamDownIdeal.Value.run (F := Ideal) m g,
    (θ_run Cert.AdamDownRefIdeal.defs _ _).mono (fun r h c => ?_) (Cert.AdamDownRefIdeal.Value.run (F := Ideal) m' g')⟩
  obtain ⟨h0, h1, h2, hargs⟩ := h c
  obtain ⟨e0, e1, e2, e3⟩ := hin c
  rw [e0, e1, e2, e3] at h0
  rw [e1, e2] at h1
  rw [e1, e3] at h2
  exact ⟨h0.trans rfl, h1.trans rfl, h2.trans rfl, hargs⟩

end Cert.Proof.AdamDown

end
-- ==== Proof.Small.lean ====
/-
The AdamW update of the sixteen small arrays of weights: the kernel lays them end to end in one padded array, updates that block
after block of rows and cuts the sixteen out again; the reference updates the sixteen one by one. The update is the same
operation at every entry, so to cut out an array's part of the updated whole is to update that array.
-/
module

public import Idealize.ShloMosaic.Lib.Pipeline.Value
public import Idealize.ShloMosaic.Lib.KernelVsHost
public import Idealize.ShloMosaic.Lib.StableHlo.RunRead
public import proofs.«01_k».proof.Defs
public import proofs.«01_k».proof.Proof.Gen.Small.Frame
public import proofs.«01_k».proof.Proof.Gen.SmallIdeal.Frame
public import proofs.«01_k».proof.Proof.Gen.SmallRefIdeal.Run

@[expose] public section

noncomputable section

namespace Cert.Proof.Small

open Idealize.ShloMosaic Idealize.SL.Sem
open Cert.SmallIdeal Cert.SmallIdeal.Gen

/-! ## The update of one entry -/

/-- A number of the ideal domain. -/
local notation "𝔼" => Ideal FTy.f32

/-- The first moment after the step: of the gradient `g` and the old moment `a`. -/
def fst1 (g a : 𝔼) : 𝔼 :=
  FloatOps.addf (FloatOps.mulf (Scalar.ofBits .f32 0x3F666666#32) a) (FloatOps.mulf (Scalar.ofBits .f32 0x3DCCCCCD#32) g)

/-- The second moment after the step. -/
def snd1 (g b : 𝔼) : 𝔼 :=
  FloatOps.addf (FloatOps.mulf (Scalar.ofBits .f32 0x3F7FBE77#32) b)
    (FloatOps.mulf (Scalar.ofBits .f32 0x3A83126F#32) (FloatOps.mulf g g))

/-- What the step adds to the weight `w`. -/
def delta1 (w g a b : 𝔼) : 𝔼 :=
  FloatOps.mulf (Scalar.ofBits .f32 0xBA83126F#32)
    (FloatOps.addf
      (FloatOps.divf (FloatOps.divf (fst1 g a) (Scalar.ofBits .f32 0x3F26BD02#32))
        (FloatOps.addf (FloatOps.sqrt (FloatOps.divf (snd1 g b) (Scalar.ofBits .f32 0x3C231ACC#32)))
          (Scalar.ofBits .f32 0x322BCC77#32)))
      (FloatOps.mulf (Scalar.ofBits .f32 0x3C23D70A#32) w))

/-! ## The three packed arrays that the call leaves -/

section Whole

variable (m : (ℓ : Loc nD τ sig) → Buf (Elt Ideal) ℓ) (c : Dev nD)

theorem origin : (![0, 0] : Fin 2 → Nat) = fun _ => 0 := funext fun a => by fin_cases a <;> rfl

/-- Every window's block at point `t` is the block of rows `t`. -/
theorem index_eq : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

theorem row_lt (t : Fin grid0.N) (j : S8x128.Idx) : t.val * 8 + 1 * (j 0).val < 168 := by
  have h : t.val < 21 := t.isLt
  have h' : (j 0).val < 8 := (j 0).isLt
  omega

theorem col_lt (j : S8x128.Idx) : 0 * 128 + 1 * (j 1).val < 128 := by
  have h' : (j 1).val < 128 := (j 1).isLt
  omega

/-- The packed array's entry at which entry `j` of the block of rows `t` lies. -/
def entry (t : Fin grid0.N) (j : S8x128.Idx) : S168x128.Idx
  | ⟨0, _⟩ => ⟨t.val * 8 + 1 * (j 0).val, row_lt t j⟩
  | ⟨1, _⟩ => ⟨0 * 128 + 1 * (j 1).val, col_lt j⟩

/-- An index with the coordinates of `entry`. -/
theorem eq_entry (i : S168x128.Idx) (t : Fin grid0.N) (j : S8x128.Idx) (f : Fin 2 → Nat) (hf : f = ![t.val, 0])
    (h0 : (i 0).val = f 0 * 8 + 1 * (j 0).val) (h1 : (i 1).val = f 1 * 128 + 1 * (j 1).val) : i = entry t j := by
  subst hf
  funext a
  apply Fin.ext
  match a with
  | ⟨0, _⟩ => exact h0
  | ⟨1, _⟩ => exact h1

theorem emb_0 (t : Fin grid0.N) (j : S8x128.Idx) : ((cfg0.win 0).blk t).view.emb j = entry t j :=
  eq_entry _ t j _ (index_eq t).1 rfl rfl
theorem emb_1 (t : Fin grid0.N) (j : S8x128.Idx) : ((cfg0.win 1).blk t).view.emb j = entry t j :=
  eq_entry _ t j _ (index_eq t).2.1 rfl rfl
theorem emb_2 (t : Fin grid0.N) (j : S8x128.Idx) : ((cfg0.win 2).blk t).view.emb j = entry t j :=
  eq_entry _ t j _ (index_eq t).2.2.1 rfl rfl
theorem emb_3 (t : Fin grid0.N) (j : S8x128.Idx) : ((cfg0.win 3).blk t).view.emb j = entry t j :=
  eq_entry _ t j _ (index_eq t).2.2.2.1 rfl rfl
theorem emb_4 (t : Fin grid0.N) (j : S8x128.Idx) : ((cfg0.win 4).blk t).view.emb j = entry t j :=
  eq_entry _ t j _ (index_eq t).2.2.2.2.1 rfl rfl
theorem emb_5 (t : Fin grid0.N) (j : S8x128.Idx) : ((cfg0.win 5).blk t).view.emb j = entry t j :=
  eq_entry _ t j _ (index_eq t).2.2.2.2.2.1 rfl rfl
theorem emb_6 (t : Fin grid0.N) (j : S8x128.Idx) : ((cfg0.win 6).blk t).view.emb j = entry t j :=
  eq_entry _ t j _ (index_eq t).2.2.2.2.2.2 rfl rfl

/-- The row block that holds an entry of the packed array. -/
def blockOf (i : S168x128.Idx) : Fin grid0.N := ⟨(i 0).val / 8, by
  have h : (i 0).val < 168 := (i 0).isLt
  show (i 0).val / 8 < 21
  omega⟩

/-- An entry lies within the bounds of its row block. -/
theorem in_block (i : S168x128.Idx) (a : Fin 2) :
    (![(blockOf i).val, 0] : Fin 2 → Nat) a * S8x128.size a ≤ (i a).val
      ∧ (i a).val < (![(blockOf i).val, 0] : Fin 2 → Nat) a * S8x128.size a + S8x128.size a := by
  match a with
  | ⟨0, _⟩ =>
    show (i 0).val / 8 * 8 ≤ (i 0).val ∧ (i 0).val < (i 0).val / 8 * 8 + 8
    omega
  | ⟨1, _⟩ =>
    have h : (i 1).val < 128 := (i 1).isLt
    show 0 * 128 ≤ (i 1).val ∧ (i 1).val < 0 * 128 + 128
    omega

theorem covered_4 (i : S168x128.Idx) : ∃ t : Fin cfg0.N, (cfg0.win 4).flush t = true ∧ i ∈ ((cfg0.win 4).blk t).view.set :=
  ⟨blockOf i, flush0_4 _, by
    show i ∈ ((View.whole main_v76_0).slice (win0_4.rect (blockOf i))).set
    rw [View.set_slice_whole, Rect.mem_set_unit]
    intro a
    show win0_4.index (blockOf i) a * S8x128.size a ≤ (i a).val ∧ (i a).val < win0_4.index (blockOf i) a * S8x128.size a + S8x128.size a
    rw [(index_eq _).2.2.2.2.1]
    exact in_block i a⟩

theorem covered_5 (i : S168x128.Idx) : ∃ t : Fin cfg0.N, (cfg0.win 5).flush t = true ∧ i ∈ ((cfg0.win 5).blk t).view.set :=
  ⟨blockOf i, flush0_5 _, by
    show i ∈ ((View.whole main_v76_1).slice (win0_5.rect (blockOf i))).set
    rw [View.set_slice_whole, Rect.mem_set_unit]
    intro a
    show win0_5.index (blockOf i) a * S8x128.size a ≤ (i a).val ∧ (i a).val < win0_5.index (blockOf i) a * S8x128.size a + S8x128.size a
    rw [(index_eq _).2.2.2.2.2.1]
    exact in_block i a⟩

theorem covered_6 (i : S168x128.Idx) : ∃ t : Fin cfg0.N, (cfg0.win 6).flush t = true ∧ i ∈ ((cfg0.win 6).blk t).view.set :=
  ⟨blockOf i, flush0_6 _, by
    show i ∈ ((View.whole main_v76_2).slice (win0_6.rect (blockOf i))).set
    rw [View.set_slice_whole, Rect.mem_set_unit]
    intro a
    show win0_6.index (blockOf i) a * S8x128.size a ≤ (i a).val ∧ (i a).val < win0_6.index (blockOf i) a * S8x128.size a + S8x128.size a
    rw [(index_eq _).2.2.2.2.2.2]
    exact in_block i a⟩

theorem pay_4 (x0 x1 x2 x3 : Vec Ideal S8x128 .f32) (j : S8x128.Idx) : k0_pay4 x0 x1 x2 x3 j = delta1 (x0 j) (x1 j) (x2 j) (x3 j) := by
  unfold k0_pay4 k0_pay3 k0_pay2 k0_pay1
  simp only [shapeCast_self]
  rfl

theorem pay_2 (x1 x2 : Vec Ideal S8x128 .f32) (j : S8x128.Idx) : k0_pay2 x1 x2 j = fst1 (x1 j) (x2 j) := by
  unfold k0_pay2 k0_pay1
  simp only [shapeCast_self]
  rfl

theorem pay_3 (x1 x3 : Vec Ideal S8x128 .f32) (j : S8x128.Idx) : k0_pay3 x1 x3 j = snd1 (x1 j) (x3 j) := by
  unfold k0_pay3 k0_pay1
  simp only [shapeCast_self]
  rfl

theorem blk_0 (t : Fin cfg0.N) (j : S8x128.Idx) : iblk (F := Ideal) m c 0 t j = V m c main_v18 (entry t j) := by
  show V m c main_v18 (((cfg0.win 0).blk t).view.emb j) = _
  rw [emb_0]

theorem blk_1 (t : Fin cfg0.N) (j : S8x128.Idx) : iblk (F := Ideal) m c 1 t j = V m c main_v37 (entry t j) := by
  show V m c main_v37 (((cfg0.win 1).blk t).view.emb j) = _
  rw [emb_1]

theorem blk_2 (t : Fin cfg0.N) (j : S8x128.Idx) : iblk (F := Ideal) m c 2 t j = V m c main_v56 (entry t j) := by
  show V m c main_v56 (((cfg0.win 2).blk t).view.emb j) = _
  rw [emb_2]

theorem blk_3 (t : Fin cfg0.N) (j : S8x128.Idx) : iblk (F := Ideal) m c 3 t j = V m c main_v75 (entry t j) := by
  show V m c main_v75 (((cfg0.win 3).blk t).view.emb j) = _
  rw [emb_3]

/-- The packed steps of the weights. -/
theorem whole_4 (G : S168x128.Idx → 𝔼) (hG : ∀ i, G i = delta1 (V m c main_v18 i) (V m c main_v37 i) (V m c main_v56 i) (V m c main_v75 i)) :
    (dats (F := Ideal) m 0 c).arrAt 4 cfg0.N = G :=
  (dats (F := Ideal) m 0 c).arrAt_eq_of_cover 4 G (fun t _ => by
    show (cfg0.win 4).cut (grid0.coords t) ((dats (F := Ideal) m 0 c).after 4 t) = _
    rw [after0_4]
    unfold out0_4
    rw [View.canon_unit_zero origin]
    simp only [View.ld_unit_zero (S := S8x128) origin]
    funext j
    show k0_pay4 (iblk m c 0 t) (iblk m c 1 t) (iblk m c 2 t) (iblk m c 3 t) j = G (((cfg0.win 4).blk t).view.emb j)
    rw [hG, emb_4, pay_4, blk_0, blk_1, blk_2, blk_3]) covered_4

/-- The packed first moments. -/
theorem whole_5 (G : S168x128.Idx → 𝔼) (hG : ∀ i, G i = fst1 (V m c main_v37 i) (V m c main_v56 i)) :
    (dats (F := Ideal) m 0 c).arrAt 5 cfg0.N = G :=
  (dats (F := Ideal) m 0 c).arrAt_eq_of_cover 5 G (fun t _ => by
    show (cfg0.win 5).cut (grid0.coords t) ((dats (F := Ideal) m 0 c).after 5 t) = _
    rw [after0_5]
    unfold out0_5
    rw [View.canon_unit_zero origin]
    simp only [View.ld_unit_zero (S := S8x128) origin]
    funext j
    show k0_pay2 (iblk m c 1 t) (iblk m c 2 t) j = G (((cfg0.win 5).blk t).view.emb j)
    rw [hG, emb_5, pay_2, blk_1, blk_2]) covered_5

/-- The packed second moments. -/
theorem whole_6 (G : S168x128.Idx → 𝔼) (hG : ∀ i, G i = snd1 (V m c main_v37 i) (V m c main_v75 i)) :
    (dats (F := Ideal) m 0 c).arrAt 6 cfg0.N = G :=
  (dats (F := Ideal) m 0 c).arrAt_eq_of_cover 6 G (fun t _ => by
    show (cfg0.win 6).cut (grid0.coords t) ((dats (F := Ideal) m 0 c).after 6 t) = _
    rw [after0_6]
    unfold out0_6
    rw [View.canon_unit_zero origin]
    simp only [View.ld_unit_zero (S := S8x128) origin]
    funext j
    show k0_pay3 (iblk m c 1 t) (iblk m c 3 t) j = G (((cfg0.win 6).blk t).view.emb j)
    rw [hG, emb_6, pay_3, blk_1, blk_3]) covered_6

end Whole

/-! ## The packed arrays that the call finds -/

section Pack

variable (x0 : S1024.Idx → 𝔼) (x1 : S3072.Idx → 𝔼) (x2 : S8.Idx → 𝔼) (x3 : S8.Idx → 𝔼) (x4 : S128.Idx → 𝔼) (x5 : S1536.Idx → 𝔼) (x6 : S1536.Idx → 𝔼) (x7 : S16.Idx → 𝔼) (x8 : S16.Idx → 𝔼) (x9 : S16.Idx → 𝔼) (x10 : S1024.Idx → 𝔼) (x11 : S1024.Idx → 𝔼) (x12 : S1024.Idx → 𝔼) (x13 : S4224.Idx → 𝔼) (x14 : S5632.Idx → 𝔼) (x15 : S1024.Idx → 𝔼)

/-- The sixteen flattened arrays in order. -/
abbrev pieces : List ((s : Shape) × (s.Idx → 𝔼)) :=
  [⟨S1024, x0⟩, ⟨S3072, x1⟩, ⟨S8, x2⟩, ⟨S8, x3⟩, ⟨S128, x4⟩, ⟨S1536, x5⟩, ⟨S1536, x6⟩, ⟨S16, x7⟩, ⟨S16, x8⟩, ⟨S16, x9⟩, ⟨S1024, x10⟩, ⟨S1024, x11⟩, ⟨S1024, x12⟩, ⟨S4224, x13⟩, ⟨S5632, x14⟩, ⟨S1024, x15⟩]

/-- The sixteen laid end to end, padded with zeros and cut into rows. -/
def packed : S168x128.Idx → 𝔼 :=
  shapeCast S168x128
    (pad S21504 ![0] ![192] ![0]
      (concatenate S21312 0 (pieces x0 x1 x2 x3 x4 x5 x6 x7 x8 x9 x10 x11 x12 x13 x14 x15) concatenates_S1024_S3072_S8_S8_S128_S1536_S1536_S16_S16_S16_S1024_S1024_S1024_S4224_S5632_S1024_S21312_d0)
      (sitofp (F := Ideal) .f32 (constantI S_ 32 0#32)) pads_S21312_S21504_01920 h_S_)
    shapeCasts_S21504_S168x128

end Pack

section Found

variable (m : (ℓ : Loc nD τ sig) → Buf (Elt Ideal) ℓ) (c : Dev nD)

/-- A buffer as launched. -/
abbrev at0 (b : Ref sig .tc) : Buf (Elt Ideal) ((c.tc : Thread nD τ).loc b) := m ((c.tc : Thread nD τ).loc b)

/-- A buffer after the first `n` of the operations before the call. -/
def before (n : Nat) (b : Ref sig .tc) : Buf (Elt Ideal) ((c.tc : Thread nD τ).loc b) :=
  StableHlo.upto (List.flatten [hostOps0, hostOps0_1, hostOps0_2, hostOps0_3, hostOps0_4, hostOps0_5, hostOps0_6, hostOps0_7, hostOps0_8])
    (fun b => m (c, b)) n (Proc.devRef .tc b)

/-- The packed weights. -/
theorem found_w : V (F := Ideal) m c main_v18 = packed
    (shapeCast S1024 (at0 m c main_arg0) shapeCasts_S1x1024_S1024)
    (shapeCast S3072 (at0 m c main_arg1) shapeCasts_S1x4x768_S3072)
    (shapeCast S8 (at0 m c main_arg2) shapeCasts_S1x8_S8)
    (shapeCast S8 (at0 m c main_arg3) shapeCasts_S1x8_S8)
    (shapeCast S128 (at0 m c main_arg4) shapeCasts_S1x128_S128)
    (shapeCast S1536 (at0 m c main_arg5) shapeCasts_S1x4x384_S1536)
    (shapeCast S1536 (at0 m c main_arg6) shapeCasts_S1x1536_S1536)
    (shapeCast S16 (at0 m c main_arg7) shapeCasts_S1x16_S16)
    (shapeCast S16 (at0 m c main_arg8) shapeCasts_S1x16_S16)
    (shapeCast S16 (at0 m c main_arg9) shapeCasts_S1x16_S16)
    (shapeCast S1024 (at0 m c main_arg10) shapeCasts_S1x1024_S1024)
    (shapeCast S1024 (at0 m c main_arg11) shapeCasts_S1x1024_S1024)
    (shapeCast S1024 (at0 m c main_arg12) shapeCasts_S1x1024_S1024)
    (shapeCast S4224 (at0 m c main_arg13) shapeCasts_S1x3x1408_S4224)
    (shapeCast S5632 (at0 m c main_arg14) shapeCasts_S1x5632_S5632)
    (shapeCast S1024 (at0 m c main_arg15) shapeCasts_S1x1024_S1024) := by
  have h : V (F := Ideal) m c main_v18 = packed
      (before m c 16 main_v0) (before m c 16 main_v1) (before m c 16 main_v2) (before m c 16 main_v3) (before m c 16 main_v4) (before m c 16 main_v5) (before m c 16 main_v6) (before m c 16 main_v7) (before m c 16 main_v8) (before m c 16 main_v9) (before m c 16 main_v10) (before m c 16 main_v11) (before m c 16 main_v12) (before m c 16 main_v13) (before m c 16 main_v14) (before m c 16 main_v15) := by
    unfold_abbrev_sides
    after_reads_simp
    rfl
  rw [h]
  unfold before
  after_reads_simp
  rfl

/-- The packed gradients. -/
theorem found_g : V (F := Ideal) m c main_v37 = packed
    (shapeCast S1024 (at0 m c main_arg16) shapeCasts_S1x1024_S1024)
    (shapeCast S3072 (at0 m c main_arg17) shapeCasts_S1x4x768_S3072)
    (shapeCast S8 (at0 m c main_arg18) shapeCasts_S1x8_S8)
    (shapeCast S8 (at0 m c main_arg19) shapeCasts_S1x8_S8)
    (shapeCast S128 (at0 m c main_arg20) shapeCasts_S1x128_S128)
    (shapeCast S1536 (at0 m c main_arg21) shapeCasts_S1x4x384_S1536)
    (shapeCast S1536 (at0 m c main_arg22) shapeCasts_S1x1536_S1536)
    (shapeCast S16 (at0 m c main_arg23) shapeCasts_S1x16_S16)
    (shapeCast S16 (at0 m c main_arg24) shapeCasts_S1x16_S16)
    (shapeCast S16 (at0 m c main_arg25) shapeCasts_S1x16_S16)
    (shapeCast S1024 (at0 m c main_arg26) shapeCasts_S1x1024_S1024)
    (shapeCast S1024 (at0 m c main_arg27) shapeCasts_S1x1024_S1024)
    (shapeCast S1024 (at0 m c main_arg28) shapeCasts_S1x1024_S1024)
    (shapeCast S4224 (at0 m c main_arg29) shapeCasts_S1x3x1408_S4224)
    (shapeCast S5632 (at0 m c main_arg30) shapeCasts_S1x5632_S5632)
    (shapeCast S1024 (at0 m c main_arg31) shapeCasts_S1x1024_S1024) := by
  have h : V (F := Ideal) m c main_v37 = packed
      (before m c 37 main_v19) (before m c 37 main_v20) (before m c 37 main_v21) (before m c 37 main_v22) (before m c 37 main_v23) (before m c 37 main_v24) (before m c 37 main_v25) (before m c 37 main_v26) (before m c 37 main_v27) (before m c 37 main_v28) (before m c 37 main_v29) (before m c 37 main_v30) (before m c 37 main_v31) (before m c 37 main_v32) (before m c 37 main_v33) (before m c 37 main_v34) := by
    unfold_abbrev_sides
    after_reads_simp
    rfl
  rw [h]
  unfold before
  after_reads_simp
  rfl

/-- The packed first moments. -/
theorem found_a : V (F := Ideal) m c main_v56 = packed
    (shapeCast S1024 (at0 m c main_arg32) shapeCasts_S1x1024_S1024)
    (shapeCast S3072 (at0 m c main_arg33) shapeCasts_S1x4x768_S3072)
    (shapeCast S8 (at0 m c main_arg34) shapeCasts_S1x8_S8)
    (shapeCast S8 (at0 m c main_arg35) shapeCasts_S1x8_S8)
    (shapeCast S128 (at0 m c main_arg36) shapeCasts_S1x128_S128)
    (shapeCast S1536 (at0 m c main_arg37) shapeCasts_S1x4x384_S1536)
    (shapeCast S1536 (at0 m c main_arg38) shapeCasts_S1x1536_S1536)
    (shapeCast S16 (at0 m c main_arg39) shapeCasts_S1x16_S16)
    (shapeCast S16 (at0 m c main_arg40) shapeCasts_S1x16_S16)
    (shapeCast S16 (at0 m c main_arg41) shapeCasts_S1x16_S16)
    (shapeCast S1024 (at0 m c main_arg42) shapeCasts_S1x1024_S1024)
    (shapeCast S1024 (at0 m c main_arg43) shapeCasts_S1x1024_S1024)
    (shapeCast S1024 (at0 m c main_arg44) shapeCasts_S1x1024_S1024)
    (shapeCast S4224 (at0 m c main_arg45) shapeCasts_S1x3x1408_S4224)
    (shapeCast S5632 (at0 m c main_arg46) shapeCasts_S1x5632_S5632)
    (shapeCast S1024 (at0 m c main_arg47) shapeCasts_S1x1024_S1024) := by
  have h : V (F := Ideal) m c main_v56 = packed
      (before m c 58 main_v38) (before m c 58 main_v39) (before m c 58 main_v40) (before m c 58 main_v41) (before m c 58 main_v42) (before m c 58 main_v43) (before m c 58 main_v44) (before m c 58 main_v45) (before m c 58 main_v46) (before m c 58 main_v47) (before m c 58 main_v48) (before m c 58 main_v49) (before m c 58 main_v50) (before m c 58 main_v51) (before m c 58 main_v52) (before m c 58 main_v53) := by
    unfold_abbrev_sides
    after_reads_simp
    rfl
  rw [h]
  unfold before
  after_reads_simp
  rfl

/-- The packed second moments. -/
theorem found_b : V (F := Ideal) m c main_v75 = packed
    (shapeCast S1024 (at0 m c main_arg48) shapeCasts_S1x1024_S1024)
    (shapeCast S3072 (at0 m c main_arg49) shapeCasts_S1x4x768_S3072)
    (shapeCast S8 (at0 m c main_arg50) shapeCasts_S1x8_S8)
    (shapeCast S8 (at0 m c main_arg51) shapeCasts_S1x8_S8)
    (shapeCast S128 (at0 m c main_arg52) shapeCasts_S1x128_S128)
    (shapeCast S1536 (at0 m c main_arg53) shapeCasts_S1x4x384_S1536)
    (shapeCast S1536 (at0 m c main_arg54) shapeCasts_S1x1536_S1536)
    (shapeCast S16 (at0 m c main_arg55) shapeCasts_S1x16_S16)
    (shapeCast S16 (at0 m c main_arg56) shapeCasts_S1x16_S16)
    (shapeCast S16 (at0 m c main_arg57) shapeCasts_S1x16_S16)
    (shapeCast S1024 (at0 m c main_arg58) shapeCasts_S1x1024_S1024)
    (shapeCast S1024 (at0 m c main_arg59) shapeCasts_S1x1024_S1024)
    (shapeCast S1024 (at0 m c main_arg60) shapeCasts_S1x1024_S1024)
    (shapeCast S4224 (at0 m c main_arg61) shapeCasts_S1x3x1408_S4224)
    (shapeCast S5632 (at0 m c main_arg62) shapeCasts_S1x5632_S5632)
    (shapeCast S1024 (at0 m c main_arg63) shapeCasts_S1x1024_S1024) := by
  have h : V (F := Ideal) m c main_v75 = packed
      (before m c 79 main_v57) (before m c 79 main_v58) (before m c 79 main_v59) (before m c 79 main_v60) (before m c 79 main_v61) (before m c 79 main_v62) (before m c 79 main_v63) (before m c 79 main_v64) (before m c 79 main_v65) (before m c 79 main_v66) (before m c 79 main_v67) (before m c 79 main_v68) (before m c 79 main_v69) (before m c 79 main_v70) (before m c 79 main_v71) (before m c 79 main_v72) := by
    unfold_abbrev_sides
    after_reads_simp
    rfl
  rw [h]
  unfold before
  after_reads_simp
  rfl

end Found

/-! ## One of the sixteen cut out of a packed array -/

/-- The part of a packed array that belongs to one of the sixteen, flat, from entry `off` on. -/
def flatPart (n : Shape) (off : Nat) (hs : S21504.Slices ![off] n) (W : S168x128.Idx → 𝔼) : n.Idx → 𝔼 :=
  extractStridedSlice n ![off] (shapeCast S21504 W shapeCasts_S168x128_S21504) hs

/-- That part in the shape of the array. -/
def part (n s : Shape) (off : Nat) (hs : S21504.Slices ![off] n) (h : n.ShapeCasts s) (W : S168x128.Idx → 𝔼) : s.Idx → 𝔼 :=
  shapeCast s (flatPart n off hs W) h

/-- The sixteen flat shapes. -/
abbrev flatShapes : List Shape := [S1024, S3072, S8, S8, S128, S1536, S1536, S16, S16, S16, S1024, S1024, S1024, S4224, S5632, S1024]

/-- The extent of a flat shape. -/
abbrev extent (s : Shape) : Nat := if h : s.rank = S21312.rank then s.size ((0 : Fin S21312.rank).cast h.symm) else 0

section Cut

variable (x0 : S1024.Idx → 𝔼) (x1 : S3072.Idx → 𝔼) (x2 : S8.Idx → 𝔼) (x3 : S8.Idx → 𝔼) (x4 : S128.Idx → 𝔼) (x5 : S1536.Idx → 𝔼) (x6 : S1536.Idx → 𝔼) (x7 : S16.Idx → 𝔼) (x8 : S16.Idx → 𝔼) (x9 : S16.Idx → 𝔼) (x10 : S1024.Idx → 𝔼) (x11 : S1024.Idx → 𝔼) (x12 : S1024.Idx → 𝔼) (x13 : S4224.Idx → 𝔼) (x14 : S5632.Idx → 𝔼) (x15 : S1024.Idx → 𝔼)

/-- The `k`-th part of the packed array is the `k`-th array. -/
theorem flatPart_packed (n : Shape) (off : Nat) (hs : S21504.Slices ![off] n) (k : Nat) (y : n.Idx → 𝔼)
    (hk : k < (pieces x0 x1 x2 x3 x4 x5 x6 x7 x8 x9 x10 x11 x12 x13 x14 x15).length)
    (hy : (pieces x0 x1 x2 x3 x4 x5 x6 x7 x8 x9 x10 x11 x12 x13 x14 x15)[k] = ⟨n, y⟩) (hr : n.rank = S21312.rank)
    (hpre : ((flatShapes.take k).map extent).sum = off)
    (hle : off + n.size ((0 : Fin S21312.rank).cast hr.symm) ≤ 21312) :
    flatPart n off hs (packed x0 x1 x2 x3 x4 x5 x6 x7 x8 x9 x10 x11 x12 x13 x14 x15) = y := by
  funext j
  have hj : off + (j ((0 : Fin S21312.rank).cast hr.symm)).val < 21312 :=
    Nat.lt_of_lt_of_le (Nat.add_lt_add_left (j _).isLt off) hle
  unfold flatPart packed
  rw [shapeCast_shapeCast]
  rw [extractStridedSlice_apply _ _ _ j (fun a => match a with
    | ⟨0, _⟩ => ⟨off + (j ((0 : Fin S21312.rank).cast hr.symm)).val, Nat.lt_trans hj (show 21312 < 21504 by decide)⟩) (fun a => match a with
    | ⟨0, _⟩ => rfl)]
  rw [pad_apply_of_inside _ _ _ _ _ _ _ _ (fun a => match a with
    | ⟨0, _⟩ => ⟨off + (j ((0 : Fin S21312.rank).cast hr.symm)).val, hj⟩) (fun a => match a with
    | ⟨0, _⟩ => by
      show off + (j ((0 : Fin S21312.rank).cast hr.symm)).val = 0 + (off + (j ((0 : Fin S21312.rank).cast hr.symm)).val) * (0 + 1)
      omega)]
  exact concatenate_apply_piece 0 _ _ _ k hk n y hy hr off (by rw [List.map_take]; exact hpre) j
    (fun b hb => absurd (Subsingleton.elim (α := Fin 1) _ _) hb) rfl

end Cut

/-! ## The step of one array -/

/-- The first moment of one array after the step. -/
def fstOf (s : Shape) (g a : s.Idx → 𝔼) : s.Idx → 𝔼 := fun i => fst1 (g i) (a i)

/-- Its second moment after the step. -/
def sndOf (s : Shape) (g b : s.Idx → 𝔼) : s.Idx → 𝔼 := fun i => snd1 (g i) (b i)

/-- What the step adds to it. -/
def deltaOf (s : Shape) (w g a b : s.Idx → 𝔼) : s.Idx → 𝔼 := fun i => delta1 (w i) (g i) (a i) (b i)

section Parts

variable {n s : Shape} {off : Nat} {hs : S21504.Slices ![off] n} {h : n.ShapeCasts s}
  {W G A B : S168x128.Idx → 𝔼} {w g a b : s.Idx → 𝔼}

/-- An array whose flat form is a part of a packed array is that part. -/
theorem part_eq (h' : s.ShapeCasts n) (hw : flatPart n off hs W = shapeCast n w h') : part n s off hs h W = w := by
  unfold part
  rw [hw, shapeCast_shapeCast]

/-- The part of the packed steps is the array's step. -/
theorem part_delta (hw : part n s off hs h W = w) (hg : part n s off hs h G = g) (ha : part n s off hs h A = a)
    (hb : part n s off hs h B = b) : part n s off hs h (fun i => delta1 (W i) (G i) (A i) (B i)) = deltaOf s w g a b := by
  subst hw hg ha hb
  rfl

theorem part_fst (hg : part n s off hs h G = g) (ha : part n s off hs h A = a) :
    part n s off hs h (fun i => fst1 (G i) (A i)) = fstOf s g a := by
  subst hg ha
  rfl

theorem part_snd (hg : part n s off hs h G = g) (hb : part n s off hs h B = b) :
    part n s off hs h (fun i => snd1 (G i) (B i)) = sndOf s g b := by
  subst hg hb
  rfl

end Parts

/-- The sixteen parts of a packed array are the sixteen arrays. -/
structure Parts (W : S168x128.Idx → 𝔼) (x0 : S1x1024.Idx → 𝔼) (x1 : S1x4x768.Idx → 𝔼) (x2 : S1x8.Idx → 𝔼) (x3 : S1x8.Idx → 𝔼) (x4 : S1x128.Idx → 𝔼) (x5 : S1x4x384.Idx → 𝔼) (x6 : S1x1536.Idx → 𝔼) (x7 : S1x16.Idx → 𝔼) (x8 : S1x16.Idx → 𝔼) (x9 : S1x16.Idx → 𝔼) (x10 : S1x1024.Idx → 𝔼) (x11 : S1x1024.Idx → 𝔼) (x12 : S1x1024.Idx → 𝔼) (x13 : S1x3x1408.Idx → 𝔼) (x14 : S1x5632.Idx → 𝔼) (x15 : S1x1024.Idx → 𝔼) : Prop where
  p0 : part S1024 S1x1024 0 slices_S21504_S1024_0 shapeCasts_S1024_S1x1024 W = x0
  p1 : part S3072 S1x4x768 1024 slices_S21504_S3072_1024 shapeCasts_S3072_S1x4x768 W = x1
  p2 : part S8 S1x8 4096 slices_S21504_S8_4096 shapeCasts_S8_S1x8 W = x2
  p3 : part S8 S1x8 4104 slices_S21504_S8_4104 shapeCasts_S8_S1x8 W = x3
  p4 : part S128 S1x128 4112 slices_S21504_S128_4112 shapeCasts_S128_S1x128 W = x4
  p5 : part S1536 S1x4x384 4240 slices_S21504_S1536_4240 shapeCasts_S1536_S1x4x384 W = x5
  p6 : part S1536 S1x1536 5776 slices_S21504_S1536_5776 shapeCasts_S1536_S1x1536 W = x6
  p7 : part S16 S1x16 7312 slices_S21504_S16_7312 shapeCasts_S16_S1x16 W = x7
  p8 : part S16 S1x16 7328 slices_S21504_S16_7328 shapeCasts_S16_S1x16 W = x8
  p9 : part S16 S1x16 7344 slices_S21504_S16_7344 shapeCasts_S16_S1x16 W = x9
  p10 : part S1024 S1x1024 7360 slices_S21504_S1024_7360 shapeCasts_S1024_S1x1024 W = x10
  p11 : part S1024 S1x1024 8384 slices_S21504_S1024_8384 shapeCasts_S1024_S1x1024 W = x11
  p12 : part S1024 S1x1024 9408 slices_S21504_S1024_9408 shapeCasts_S1024_S1x1024 W = x12
  p13 : part S4224 S1x3x1408 10432 slices_S21504_S4224_10432 shapeCasts_S4224_S1x3x1408 W = x13
  p14 : part S5632 S1x5632 14656 slices_S21504_S5632_14656 shapeCasts_S5632_S1x5632 W = x14
  p15 : part S1024 S1x1024 20288 slices_S21504_S1024_20288 shapeCasts_S1024_S1x1024 W = x15

theorem parts_packed (x0 : S1x1024.Idx → 𝔼) (x1 : S1x4x768.Idx → 𝔼) (x2 : S1x8.Idx → 𝔼) (x3 : S1x8.Idx → 𝔼) (x4 : S1x128.Idx → 𝔼) (x5 : S1x4x384.Idx → 𝔼) (x6 : S1x1536.Idx → 𝔼) (x7 : S1x16.Idx → 𝔼) (x8 : S1x16.Idx → 𝔼) (x9 : S1x16.Idx → 𝔼) (x10 : S1x1024.Idx → 𝔼) (x11 : S1x1024.Idx → 𝔼) (x12 : S1x1024.Idx → 𝔼) (x13 : S1x3x1408.Idx → 𝔼) (x14 : S1x5632.Idx → 𝔼) (x15 : S1x1024.Idx → 𝔼) :
    Parts (packed (shapeCast S1024 x0 shapeCasts_S1x1024_S1024) (shapeCast S3072 x1 shapeCasts_S1x4x768_S3072) (shapeCast S8 x2 shapeCasts_S1x8_S8) (shapeCast S8 x3 shapeCasts_S1x8_S8) (shapeCast S128 x4 shapeCasts_S1x128_S128) (shapeCast S1536 x5 shapeCasts_S1x4x384_S1536) (shapeCast S1536 x6 shapeCasts_S1x1536_S1536) (shapeCast S16 x7 shapeCasts_S1x16_S16) (shapeCast S16 x8 shapeCasts_S1x16_S16) (shapeCast S16 x9 shapeCasts_S1x16_S16) (shapeCast S1024 x10 shapeCasts_S1x1024_S1024) (shapeCast S1024 x11 shapeCasts_S1x1024_S1024) (shapeCast S1024 x12 shapeCasts_S1x1024_S1024) (shapeCast S4224 x13 shapeCasts_S1x3x1408_S4224) (shapeCast S5632 x14 shapeCasts_S1x5632_S5632) (shapeCast S1024 x15 shapeCasts_S1x1024_S1024)) x0 x1 x2 x3 x4 x5 x6 x7 x8 x9 x10 x11 x12 x13 x14 x15 where
  p0 := part_eq shapeCasts_S1x1024_S1024 (flatPart_packed _ _ _ _ _ _ _ _ _ _ _ _ _ _ _ _ S1024 0 _ 0 _ (by show 0 < 16; decide) rfl rfl (by decide) (by decide))
  p1 := part_eq shapeCasts_S1x4x768_S3072 (flatPart_packed _ _ _ _ _ _ _ _ _ _ _ _ _ _ _ _ S3072 1024 _ 1 _ (by show 1 < 16; decide) rfl rfl (by decide) (by decide))
  p2 := part_eq shapeCasts_S1x8_S8 (flatPart_packed _ _ _ _ _ _ _ _ _ _ _ _ _ _ _ _ S8 4096 _ 2 _ (by show 2 < 16; decide) rfl rfl (by decide) (by decide))
  p3 := part_eq shapeCasts_S1x8_S8 (flatPart_packed _ _ _ _ _ _ _ _ _ _ _ _ _ _ _ _ S8 4104 _ 3 _ (by show 3 < 16; decide) rfl rfl (by decide) (by decide))
  p4 := part_eq shapeCasts_S1x128_S128 (flatPart_packed _ _ _ _ _ _ _ _ _ _ _ _ _ _ _ _ S128 4112 _ 4 _ (by show 4 < 16; decide) rfl rfl (by decide) (by decide))
  p5 := part_eq shapeCasts_S1x4x384_S1536 (flatPart_packed _ _ _ _ _ _ _ _ _ _ _ _ _ _ _ _ S1536 4240 _ 5 _ (by show 5 < 16; decide) rfl rfl (by decide) (by decide))
  p6 := part_eq shapeCasts_S1x1536_S1536 (flatPart_packed _ _ _ _ _ _ _ _ _ _ _ _ _ _ _ _ S1536 5776 _ 6 _ (by show 6 < 16; decide) rfl rfl (by decide) (by decide))
  p7 := part_eq shapeCasts_S1x16_S16 (flatPart_packed _ _ _ _ _ _ _ _ _ _ _ _ _ _ _ _ S16 7312 _ 7 _ (by show 7 < 16; decide) rfl rfl (by decide) (by decide))
  p8 := part_eq shapeCasts_S1x16_S16 (flatPart_packed _ _ _ _ _ _ _ _ _ _ _ _ _ _ _ _ S16 7328 _ 8 _ (by show 8 < 16; decide) rfl rfl (by decide) (by decide))
  p9 := part_eq shapeCasts_S1x16_S16 (flatPart_packed _ _ _ _ _ _ _ _ _ _ _ _ _ _ _ _ S16 7344 _ 9 _ (by show 9 < 16; decide) rfl rfl (by decide) (by decide))
  p10 := part_eq shapeCasts_S1x1024_S1024 (flatPart_packed _ _ _ _ _ _ _ _ _ _ _ _ _ _ _ _ S1024 7360 _ 10 _ (by show 10 < 16; decide) rfl rfl (by decide) (by decide))
  p11 := part_eq shapeCasts_S1x1024_S1024 (flatPart_packed _ _ _ _ _ _ _ _ _ _ _ _ _ _ _ _ S1024 8384 _ 11 _ (by show 11 < 16; decide) rfl rfl (by decide) (by decide))
  p12 := part_eq shapeCasts_S1x1024_S1024 (flatPart_packed _ _ _ _ _ _ _ _ _ _ _ _ _ _ _ _ S1024 9408 _ 12 _ (by show 12 < 16; decide) rfl rfl (by decide) (by decide))
  p13 := part_eq shapeCasts_S1x3x1408_S4224 (flatPart_packed _ _ _ _ _ _ _ _ _ _ _ _ _ _ _ _ S4224 10432 _ 13 _ (by show 13 < 16; decide) rfl rfl (by decide) (by decide))
  p14 := part_eq shapeCasts_S1x5632_S5632 (flatPart_packed _ _ _ _ _ _ _ _ _ _ _ _ _ _ _ _ S5632 14656 _ 14 _ (by show 14 < 16; decide) rfl rfl (by decide) (by decide))
  p15 := part_eq shapeCasts_S1x1024_S1024 (flatPart_packed _ _ _ _ _ _ _ _ _ _ _ _ _ _ _ _ S1024 20288 _ 15 _ (by show 15 < 16; decide) rfl rfl (by decide) (by decide))

/-! ## What the operations after the call leave -/

section Tail

variable (Z : Valuation τ sig (Elt Ideal))

/-- The deltas are the parts of the packed array that the call leaves. -/
theorem tail_4 :
    StableHlo.after (List.flatten [hostOps1]) Z (Proc.devRef .tc main_v79)
      = part S1024 S1x1024 0 slices_S21504_S1024_0 shapeCasts_S1024_S1x1024 (Z (Proc.devRef .tc main_v76_0))
    ∧ StableHlo.after (List.flatten [hostOps1]) Z (Proc.devRef .tc main_v81)
      = part S3072 S1x4x768 1024 slices_S21504_S3072_1024 shapeCasts_S3072_S1x4x768 (Z (Proc.devRef .tc main_v76_0))
    ∧ StableHlo.after (List.flatten [hostOps1]) Z (Proc.devRef .tc main_v83)
      = part S8 S1x8 4096 slices_S21504_S8_4096 shapeCasts_S8_S1x8 (Z (Proc.devRef .tc main_v76_0))
    ∧ StableHlo.after (List.flatten [hostOps1]) Z (Proc.devRef .tc main_v85)
      = part S8 S1x8 4104 slices_S21504_S8_4104 shapeCasts_S8_S1x8 (Z (Proc.devRef .tc main_v76_0))
    ∧ StableHlo.after (List.flatten [hostOps1]) Z (Proc.devRef .tc main_v87)
      = part S128 S1x128 4112 slices_S21504_S128_4112 shapeCasts_S128_S1x128 (Z (Proc.devRef .tc main_v76_0))
    ∧ StableHlo.after (List.flatten [hostOps1]) Z (Proc.devRef .tc main_v89)
      = part S1536 S1x4x384 4240 slices_S21504_S1536_4240 shapeCasts_S1536_S1x4x384 (Z (Proc.devRef .tc main_v76_0))
    ∧ StableHlo.after (List.flatten [hostOps1]) Z (Proc.devRef .tc main_v91)
      = part S1536 S1x1536 5776 slices_S21504_S1536_5776 shapeCasts_S1536_S1x1536 (Z (Proc.devRef .tc main_v76_0))
    ∧ StableHlo.after (List.flatten [hostOps1]) Z (Proc.devRef .tc main_v93)
      = part S16 S1x16 7312 slices_S21504_S16_7312 shapeCasts_S16_S1x16 (Z (Proc.devRef .tc main_v76_0))
    ∧ StableHlo.after (List.flatten [hostOps1]) Z (Proc.devRef .tc main_v95)
      = part S16 S1x16 7328 slices_S21504_S16_7328 shapeCasts_S16_S1x16 (Z (Proc.devRef .tc main_v76_0))
    ∧ StableHlo.after (List.flatten [hostOps1]) Z (Proc.devRef .tc main_v97)
      = part S16 S1x16 7344 slices_S21504_S16_7344 shapeCasts_S16_S1x16 (Z (Proc.devRef .tc main_v76_0))
    ∧ StableHlo.after (List.flatten [hostOps1]) Z (Proc.devRef .tc main_v99)
      = part S1024 S1x1024 7360 slices_S21504_S1024_7360 shapeCasts_S1024_S1x1024 (Z (Proc.devRef .tc main_v76_0))
    ∧ StableHlo.after (List.flatten [hostOps1]) Z (Proc.devRef .tc main_v101)
      = part S1024 S1x1024 8384 slices_S21504_S1024_8384 shapeCasts_S1024_S1x1024 (Z (Proc.devRef .tc main_v76_0))
    ∧ StableHlo.after (List.flatten [hostOps1]) Z (Proc.devRef .tc main_v103)
      = part S1024 S1x1024 9408 slices_S21504_S1024_9408 shapeCasts_S1024_S1x1024 (Z (Proc.devRef .tc main_v76_0))
    ∧ StableHlo.after (List.flatten [hostOps1]) Z (Proc.devRef .tc main_v105)
      = part S4224 S1x3x1408 10432 slices_S21504_S4224_10432 shapeCasts_S4224_S1x3x1408 (Z (Proc.devRef .tc main_v76_0))
    ∧ StableHlo.after (List.flatten [hostOps1]) Z (Proc.devRef .tc main_v107)
      = part S5632 S1x5632 14656 slices_S21504_S5632_14656 shapeCasts_S5632_S1x5632 (Z (Proc.devRef .tc main_v76_0))
    ∧ StableHlo.after (List.flatten [hostOps1]) Z (Proc.devRef .tc main_v109)
      = part S1024 S1x1024 20288 slices_S21504_S1024_20288 shapeCasts_S1024_S1x1024 (Z (Proc.devRef .tc main_v76_0)) := by
  unfold part flatPart
  refine ⟨?_, ?_, ?_, ?_, ?_, ?_, ?_, ?_, ?_, ?_, ?_, ?_, ?_, ?_, ?_, ?_⟩ <;> (after_reads_simp; rfl)

/-- The first moments are the parts of the packed array that the call leaves. -/
theorem tail_5 :
    StableHlo.after (List.flatten [hostOps1]) Z (Proc.devRef .tc main_v112)
      = part S1024 S1x1024 0 slices_S21504_S1024_0 shapeCasts_S1024_S1x1024 (Z (Proc.devRef .tc main_v76_1))
    ∧ StableHlo.after (List.flatten [hostOps1]) Z (Proc.devRef .tc main_v114)
      = part S3072 S1x4x768 1024 slices_S21504_S3072_1024 shapeCasts_S3072_S1x4x768 (Z (Proc.devRef .tc main_v76_1))
    ∧ StableHlo.after (List.flatten [hostOps1]) Z (Proc.devRef .tc main_v116)
      = part S8 S1x8 4096 slices_S21504_S8_4096 shapeCasts_S8_S1x8 (Z (Proc.devRef .tc main_v76_1))
    ∧ StableHlo.after (List.flatten [hostOps1]) Z (Proc.devRef .tc main_v118)
      = part S8 S1x8 4104 slices_S21504_S8_4104 shapeCasts_S8_S1x8 (Z (Proc.devRef .tc main_v76_1))
    ∧ StableHlo.after (List.flatten [hostOps1]) Z (Proc.devRef .tc main_v120)
      = part S128 S1x128 4112 slices_S21504_S128_4112 shapeCasts_S128_S1x128 (Z (Proc.devRef .tc main_v76_1))
    ∧ StableHlo.after (List.flatten [hostOps1]) Z (Proc.devRef .tc main_v122)
      = part S1536 S1x4x384 4240 slices_S21504_S1536_4240 shapeCasts_S1536_S1x4x384 (Z (Proc.devRef .tc main_v76_1))
    ∧ StableHlo.after (List.flatten [hostOps1]) Z (Proc.devRef .tc main_v124)
      = part S1536 S1x1536 5776 slices_S21504_S1536_5776 shapeCasts_S1536_S1x1536 (Z (Proc.devRef .tc main_v76_1))
    ∧ StableHlo.after (List.flatten [hostOps1]) Z (Proc.devRef .tc main_v126)
      = part S16 S1x16 7312 slices_S21504_S16_7312 shapeCasts_S16_S1x16 (Z (Proc.devRef .tc main_v76_1))
    ∧ StableHlo.after (List.flatten [hostOps1]) Z (Proc.devRef .tc main_v128)
      = part S16 S1x16 7328 slices_S21504_S16_7328 shapeCasts_S16_S1x16 (Z (Proc.devRef .tc main_v76_1))
    ∧ StableHlo.after (List.flatten [hostOps1]) Z (Proc.devRef .tc main_v130)
      = part S16 S1x16 7344 slices_S21504_S16_7344 shapeCasts_S16_S1x16 (Z (Proc.devRef .tc main_v76_1))
    ∧ StableHlo.after (List.flatten [hostOps1]) Z (Proc.devRef .tc main_v132)
      = part S1024 S1x1024 7360 slices_S21504_S1024_7360 shapeCasts_S1024_S1x1024 (Z (Proc.devRef .tc main_v76_1))
    ∧ StableHlo.after (List.flatten [hostOps1]) Z (Proc.devRef .tc main_v134)
      = part S1024 S1x1024 8384 slices_S21504_S1024_8384 shapeCasts_S1024_S1x1024 (Z (Proc.devRef .tc main_v76_1))
    ∧ StableHlo.after (List.flatten [hostOps1]) Z (Proc.devRef .tc main_v136)
      = part S1024 S1x1024 9408 slices_S21504_S1024_9408 shapeCasts_S1024_S1x1024 (Z (Proc.devRef .tc main_v76_1))
    ∧ StableHlo.after (List.flatten [hostOps1]) Z (Proc.devRef .tc main_v138)
      = part S4224 S1x3x1408 10432 slices_S21504_S4224_10432 shapeCasts_S4224_S1x3x1408 (Z (Proc.devRef .tc main_v76_1))
    ∧ StableHlo.after (List.flatten [hostOps1]) Z (Proc.devRef .tc main_v140)
      = part S5632 S1x5632 14656 slices_S21504_S5632_14656 shapeCasts_S5632_S1x5632 (Z (Proc.devRef .tc main_v76_1))
    ∧ StableHlo.after (List.flatten [hostOps1]) Z (Proc.devRef .tc main_v142)
      = part S1024 S1x1024 20288 slices_S21504_S1024_20288 shapeCasts_S1024_S1x1024 (Z (Proc.devRef .tc main_v76_1)) := by
  unfold part flatPart
  refine ⟨?_, ?_, ?_, ?_, ?_, ?_, ?_, ?_, ?_, ?_, ?_, ?_, ?_, ?_, ?_, ?_⟩ <;> (after_reads_simp; rfl)

/-- The second moments are the parts of the packed array that the call leaves. -/
theorem tail_6 :
    StableHlo.after (List.flatten [hostOps1]) Z (Proc.devRef .tc main_v145)
      = part S1024 S1x1024 0 slices_S21504_S1024_0 shapeCasts_S1024_S1x1024 (Z (Proc.devRef .tc main_v76_2))
    ∧ StableHlo.after (List.flatten [hostOps1]) Z (Proc.devRef .tc main_v147)
      = part S3072 S1x4x768 1024 slices_S21504_S3072_1024 shapeCasts_S3072_S1x4x768 (Z (Proc.devRef .tc main_v76_2))
    ∧ StableHlo.after (List.flatten [hostOps1]) Z (Proc.devRef .tc main_v149)
      = part S8 S1x8 4096 slices_S21504_S8_4096 shapeCasts_S8_S1x8 (Z (Proc.devRef .tc main_v76_2))
    ∧ StableHlo.after (List.flatten [hostOps1]) Z (Proc.devRef .tc main_v151)
      = part S8 S1x8 4104 slices_S21504_S8_4104 shapeCasts_S8_S1x8 (Z (Proc.devRef .tc main_v76_2))
    ∧ StableHlo.after (List.flatten [hostOps1]) Z (Proc.devRef .tc main_v153)
      = part S128 S1x128 4112 slices_S21504_S128_4112 shapeCasts_S128_S1x128 (Z (Proc.devRef .tc main_v76_2))
    ∧ StableHlo.after (List.flatten [hostOps1]) Z (Proc.devRef .tc main_v155)
      = part S1536 S1x4x384 4240 slices_S21504_S1536_4240 shapeCasts_S1536_S1x4x384 (Z (Proc.devRef .tc main_v76_2))
    ∧ StableHlo.after (List.flatten [hostOps1]) Z (Proc.devRef .tc main_v157)
      = part S1536 S1x1536 5776 slices_S21504_S1536_5776 shapeCasts_S1536_S1x1536 (Z (Proc.devRef .tc main_v76_2))
    ∧ StableHlo.after (List.flatten [hostOps1]) Z (Proc.devRef .tc main_v159)
      = part S16 S1x16 7312 slices_S21504_S16_7312 shapeCasts_S16_S1x16 (Z (Proc.devRef .tc main_v76_2))
    ∧ StableHlo.after (List.flatten [hostOps1]) Z (Proc.devRef .tc main_v161)
      = part S16 S1x16 7328 slices_S21504_S16_7328 shapeCasts_S16_S1x16 (Z (Proc.devRef .tc main_v76_2))
    ∧ StableHlo.after (List.flatten [hostOps1]) Z (Proc.devRef .tc main_v163)
      = part S16 S1x16 7344 slices_S21504_S16_7344 shapeCasts_S16_S1x16 (Z (Proc.devRef .tc main_v76_2))
    ∧ StableHlo.after (List.flatten [hostOps1]) Z (Proc.devRef .tc main_v165)
      = part S1024 S1x1024 7360 slices_S21504_S1024_7360 shapeCasts_S1024_S1x1024 (Z (Proc.devRef .tc main_v76_2))
    ∧ StableHlo.after (List.flatten [hostOps1]) Z (Proc.devRef .tc main_v167)
      = part S1024 S1x1024 8384 slices_S21504_S1024_8384 shapeCasts_S1024_S1x1024 (Z (Proc.devRef .tc main_v76_2))
    ∧ StableHlo.after (List.flatten [hostOps1]) Z (Proc.devRef .tc main_v169)
      = part S1024 S1x1024 9408 slices_S21504_S1024_9408 shapeCasts_S1024_S1x1024 (Z (Proc.devRef .tc main_v76_2))
    ∧ StableHlo.after (List.flatten [hostOps1]) Z (Proc.devRef .tc main_v171)
      = part S4224 S1x3x1408 10432 slices_S21504_S4224_10432 shapeCasts_S4224_S1x3x1408 (Z (Proc.devRef .tc main_v76_2))
    ∧ StableHlo.after (List.flatten [hostOps1]) Z (Proc.devRef .tc main_v173)
      = part S5632 S1x5632 14656 slices_S21504_S5632_14656 shapeCasts_S5632_S1x5632 (Z (Proc.devRef .tc main_v76_2))
    ∧ StableHlo.after (List.flatten [hostOps1]) Z (Proc.devRef .tc main_v175)
      = part S1024 S1x1024 20288 slices_S21504_S1024_20288 shapeCasts_S1024_S1x1024 (Z (Proc.devRef .tc main_v76_2)) := by
  unfold part flatPart
  refine ⟨?_, ?_, ?_, ?_, ?_, ?_, ?_, ?_, ?_, ?_, ?_, ?_, ?_, ?_, ?_, ?_⟩ <;> (after_reads_simp; rfl)

end Tail

/-! ## The call's results -/

section Results

variable (m : (ℓ : Loc nD τ sig) → Buf (Elt Ideal) ℓ) (c : Dev nD)

/-- The parts of the packed weights that the call finds are those launched. -/
theorem parts_w : Parts (V (F := Ideal) m c main_v18)
    (at0 m c main_arg0)
    (at0 m c main_arg1)
    (at0 m c main_arg2)
    (at0 m c main_arg3)
    (at0 m c main_arg4)
    (at0 m c main_arg5)
    (at0 m c main_arg6)
    (at0 m c main_arg7)
    (at0 m c main_arg8)
    (at0 m c main_arg9)
    (at0 m c main_arg10)
    (at0 m c main_arg11)
    (at0 m c main_arg12)
    (at0 m c main_arg13)
    (at0 m c main_arg14)
    (at0 m c main_arg15) := by
  rw [found_w]
  exact parts_packed _ _ _ _ _ _ _ _ _ _ _ _ _ _ _ _

/-- The parts of the packed gradients that the call finds are those launched. -/
theorem parts_g : Parts (V (F := Ideal) m c main_v37)
    (at0 m c main_arg16)
    (at0 m c main_arg17)
    (at0 m c main_arg18)
    (at0 m c main_arg19)
    (at0 m c main_arg20)
    (at0 m c main_arg21)
    (at0 m c main_arg22)
    (at0 m c main_arg23)
    (at0 m c main_arg24)
    (at0 m c main_arg25)
    (at0 m c main_arg26)
    (at0 m c main_arg27)
    (at0 m c main_arg28)
    (at0 m c main_arg29)
    (at0 m c main_arg30)
    (at0 m c main_arg31) := by
  rw [found_g]
  exact parts_packed _ _ _ _ _ _ _ _ _ _ _ _ _ _ _ _

/-- The parts of the packed first moments that the call finds are those launched. -/
theorem parts_a : Parts (V (F := Ideal) m c main_v56)
    (at0 m c main_arg32)
    (at0 m c main_arg33)
    (at0 m c main_arg34)
    (at0 m c main_arg35)
    (at0 m c main_arg36)
    (at0 m c main_arg37)
    (at0 m c main_arg38)
    (at0 m c main_arg39)
    (at0 m c main_arg40)
    (at0 m c main_arg41)
    (at0 m c main_arg42)
    (at0 m c main_arg43)
    (at0 m c main_arg44)
    (at0 m c main_arg45)
    (at0 m c main_arg46)
    (at0 m c main_arg47) := by
  rw [found_a]
  exact parts_packed _ _ _ _ _ _ _ _ _ _ _ _ _ _ _ _

/-- The parts of the packed second moments that the call finds are those launched. -/
theorem parts_b : Parts (V (F := Ideal) m c main_v75)
    (at0 m c main_arg48)
    (at0 m c main_arg49)
    (at0 m c main_arg50)
    (at0 m c main_arg51)
    (at0 m c main_arg52)
    (at0 m c main_arg53)
    (at0 m c main_arg54)
    (at0 m c main_arg55)
    (at0 m c main_arg56)
    (at0 m c main_arg57)
    (at0 m c main_arg58)
    (at0 m c main_arg59)
    (at0 m c main_arg60)
    (at0 m c main_arg61)
    (at0 m c main_arg62)
    (at0 m c main_arg63) := by
  rw [found_b]
  exact parts_packed _ _ _ _ _ _ _ _ _ _ _ _ _ _ _ _

/-- The buffers after the call, before the operations that follow it. -/
abbrev left : Valuation τ sig (Elt Ideal) :=
  Pipeline.withArrays (cfgs 0).spec c (V0 m c) fun w => (dats (F := Ideal) m 0 c).arrAt w (cfgs 0).N

theorem left_4 : left m c (Proc.devRef .tc main_v76_0)
    = fun i : S168x128.Idx => delta1 (V m c main_v18 i) (V m c main_v37 i) (V m c main_v56 i) (V m c main_v75 i) :=
  (Pipeline.withArrays_arr (cfgs 0).spec launch0.win.arr_inj c _ _ 4).trans (whole_4 m c _ fun _ => rfl)

theorem left_5 : left m c (Proc.devRef .tc main_v76_1)
    = fun i : S168x128.Idx => fst1 (V m c main_v37 i) (V m c main_v56 i) :=
  (Pipeline.withArrays_arr (cfgs 0).spec launch0.win.arr_inj c _ _ 5).trans (whole_5 m c _ fun _ => rfl)

theorem left_6 : left m c (Proc.devRef .tc main_v76_2)
    = fun i : S168x128.Idx => snd1 (V m c main_v37 i) (V m c main_v75 i) :=
  (Pipeline.withArrays_arr (cfgs 0).spec launch0.win.arr_inj c _ _ 6).trans (whole_6 m c _ fun _ => rfl)

end Results

/-! ## The claims -/

section Cut

variable {m : (ℓ : Loc nD τ sig) → Buf (Elt Ideal) ℓ} {c : Dev nD} {n s : Shape} {off : Nat} {hs : S21504.Slices ![off] n}
  {h : n.ShapeCasts s} {x w g a b : s.Idx → 𝔼}

/-- What is cut out of the packed steps is the array's step. -/
theorem cut_delta (e : x = part n s off hs h (left m c (Proc.devRef .tc main_v76_0))) (hw : part n s off hs h (V m c main_v18) = w)
    (hg : part n s off hs h (V m c main_v37) = g) (ha : part n s off hs h (V m c main_v56) = a)
    (hb : part n s off hs h (V m c main_v75) = b) : x = deltaOf s w g a b :=
  e.trans ((congrArg (part n s off hs h) (left_4 m c)).trans (part_delta hw hg ha hb))

theorem cut_fst (e : x = part n s off hs h (left m c (Proc.devRef .tc main_v76_1)))
    (hg : part n s off hs h (V m c main_v37) = g) (ha : part n s off hs h (V m c main_v56) = a) : x = fstOf s g a :=
  e.trans ((congrArg (part n s off hs h) (left_5 m c)).trans (part_fst hg ha))

theorem cut_snd (e : x = part n s off hs h (left m c (Proc.devRef .tc main_v76_2)))
    (hg : part n s off hs h (V m c main_v37) = g) (hb : part n s off hs h (V m c main_v75) = b) : x = sndOf s g b :=
  e.trans ((congrArg (part n s off hs h) (left_6 m c)).trans (part_snd hg hb))

end Cut

section Same

variable {s : Shape} {w w' g g' a a' b b' : s.Idx → 𝔼}

theorem same_delta (hw : w' = w) (hg : g' = g) (ha : a' = a) (hb : b' = b) : deltaOf s w' g' a' b' = deltaOf s w g a b := by
  rw [hw, hg, ha, hb]

theorem same_fst (hg : g' = g) (ha : a' = a) : fstOf s g' a' = fstOf s g a := by
  rw [hg, ha]

theorem same_snd (hg : g' = g) (hb : b' = b) : sndOf s g' b' = sndOf s g b := by
  rw [hg, hb]

end Same

/-- The reference's frame: it has no semaphore. -/
theorem frame_ref : Cert.quiescent_SmallRefIdeal := fun m ρ _ =>
  (θ_run Cert.SmallRefIdeal.defs _ _).mono (fun r h => ⟨fun c =>
      (h c).2.2.2.2.2.2.2.2.2.2.2.2.2.2.2.2.2.2.2.2.2.2.2.2.2.2.2.2.2.2.2.2.2.2.2.2.2.2.2.2.2.2.2.2.2.2.2.2,
    sem_eq_zero_of_no_sems (by decide) r.2⟩)
    (Cert.SmallRefIdeal.Value.run (F := Ideal) m ρ)

set_option maxHeartbeats 2000000 in
/-- The forty-eight arrays that the call and the operations around it leave are those of the reference. -/
theorem algebraic : Cert.algebraic_SmallIdeal_SmallRefIdeal := by
  intro m ρ m' ρ' _ hin
  refine ⟨fun c => deltaOf S1x1024 (at0 m c main_arg0) (at0 m c main_arg16) (at0 m c main_arg32) (at0 m c main_arg48),
    fun c => deltaOf S1x4x768 (at0 m c main_arg1) (at0 m c main_arg17) (at0 m c main_arg33) (at0 m c main_arg49),
    fun c => deltaOf S1x8 (at0 m c main_arg2) (at0 m c main_arg18) (at0 m c main_arg34) (at0 m c main_arg50),
    fun c => deltaOf S1x8 (at0 m c main_arg3) (at0 m c main_arg19) (at0 m c main_arg35) (at0 m c main_arg51),
    fun c => deltaOf S1x128 (at0 m c main_arg4) (at0 m c main_arg20) (at0 m c main_arg36) (at0 m c main_arg52),
    fun c => deltaOf S1x4x384 (at0 m c main_arg5) (at0 m c main_arg21) (at0 m c main_arg37) (at0 m c main_arg53),
    fun c => deltaOf S1x1536 (at0 m c main_arg6) (at0 m c main_arg22) (at0 m c main_arg38) (at0 m c main_arg54),
    fun c => deltaOf S1x16 (at0 m c main_arg7) (at0 m c main_arg23) (at0 m c main_arg39) (at0 m c main_arg55),
    fun c => deltaOf S1x16 (at0 m c main_arg8) (at0 m c main_arg24) (at0 m c main_arg40) (at0 m c main_arg56),
    fun c => deltaOf S1x16 (at0 m c main_arg9) (at0 m c main_arg25) (at0 m c main_arg41) (at0 m c main_arg57),
    fun c => deltaOf S1x1024 (at0 m c main_arg10) (at0 m c main_arg26) (at0 m c main_arg42) (at0 m c main_arg58),
    fun c => deltaOf S1x1024 (at0 m c main_arg11) (at0 m c main_arg27) (at0 m c main_arg43) (at0 m c main_arg59),
    fun c => deltaOf S1x1024 (at0 m c main_arg12) (at0 m c main_arg28) (at0 m c main_arg44) (at0 m c main_arg60),
    fun c => deltaOf S1x3x1408 (at0 m c main_arg13) (at0 m c main_arg29) (at0 m c main_arg45) (at0 m c main_arg61),
    fun c => deltaOf S1x5632 (at0 m c main_arg14) (at0 m c main_arg30) (at0 m c main_arg46) (at0 m c main_arg62),
    fun c => deltaOf S1x1024 (at0 m c main_arg15) (at0 m c main_arg31) (at0 m c main_arg47) (at0 m c main_arg63),
    fun c => fstOf S1x1024 (at0 m c main_arg16) (at0 m c main_arg32),
    fun c => fstOf S1x4x768 (at0 m c main_arg17) (at0 m c main_arg33),
    fun c => fstOf S1x8 (at0 m c main_arg18) (at0 m c main_arg34),
    fun c => fstOf S1x8 (at0 m c main_arg19) (at0 m c main_arg35),
    fun c => fstOf S1x128 (at0 m c main_arg20) (at0 m c main_arg36),
    fun c => fstOf S1x4x384 (at0 m c main_arg21) (at0 m c main_arg37),
    fun c => fstOf S1x1536 (at0 m c main_arg22) (at0 m c main_arg38),
    fun c => fstOf S1x16 (at0 m c main_arg23) (at0 m c main_arg39),
    fun c => fstOf S1x16 (at0 m c main_arg24) (at0 m c main_arg40),
    fun c => fstOf S1x16 (at0 m c main_arg25) (at0 m c main_arg41),
    fun c => fstOf S1x1024 (at0 m c main_arg26) (at0 m c main_arg42),
    fun c => fstOf S1x1024 (at0 m c main_arg27) (at0 m c main_arg43),
    fun c => fstOf S1x1024 (at0 m c main_arg28) (at0 m c main_arg44),
    fun c => fstOf S1x3x1408 (at0 m c main_arg29) (at0 m c main_arg45),
    fun c => fstOf S1x5632 (at0 m c main_arg30) (at0 m c main_arg46),
    fun c => fstOf S1x1024 (at0 m c main_arg31) (at0 m c main_arg47),
    fun c => sndOf S1x1024 (at0 m c main_arg16) (at0 m c main_arg48),
    fun c => sndOf S1x4x768 (at0 m c main_arg17) (at0 m c main_arg49),
    fun c => sndOf S1x8 (at0 m c main_arg18) (at0 m c main_arg50),
    fun c => sndOf S1x8 (at0 m c main_arg19) (at0 m c main_arg51),
    fun c => sndOf S1x128 (at0 m c main_arg20) (at0 m c main_arg52),
    fun c => sndOf S1x4x384 (at0 m c main_arg21) (at0 m c main_arg53),
    fun c => sndOf S1x1536 (at0 m c main_arg22) (at0 m c main_arg54),
    fun c => sndOf S1x16 (at0 m c main_arg23) (at0 m c main_arg55),
    fun c => sndOf S1x16 (at0 m c main_arg24) (at0 m c main_arg56),
    fun c => sndOf S1x16 (at0 m c main_arg25) (at0 m c main_arg57),
    fun c => sndOf S1x1024 (at0 m c main_arg26) (at0 m c main_arg58),
    fun c => sndOf S1x1024 (at0 m c main_arg27) (at0 m c main_arg59),
    fun c => sndOf S1x1024 (at0 m c main_arg28) (at0 m c main_arg60),
    fun c => sndOf S1x3x1408 (at0 m c main_arg29) (at0 m c main_arg61),
    fun c => sndOf S1x5632 (at0 m c main_arg30) (at0 m c main_arg62),
    fun c => sndOf S1x1024 (at0 m c main_arg31) (at0 m c main_arg63),
    (θ_run Cert.SmallIdeal.defs _ _).mono (fun r h c => ?_) (θ_run_and (run_main (F := Ideal) m ρ) (unchanged m ρ)),
    (θ_run Cert.SmallRefIdeal.defs _ _).mono (fun r h c => ?_) (Cert.SmallRefIdeal.Value.run (F := Ideal) m' ρ')⟩
  · have hk := (h.1 c).2
    have pw := parts_w m c
    have pg := parts_g m c
    have pa := parts_a m c
    have pb := parts_b m c
    obtain ⟨d0, d1, d2, d3, d4, d5, d6, d7, d8, d9, d10, d11, d12, d13, d14, d15⟩ := tail_4 (left m c)
    obtain ⟨a0, a1, a2, a3, a4, a5, a6, a7, a8, a9, a10, a11, a12, a13, a14, a15⟩ := tail_5 (left m c)
    obtain ⟨b0, b1, b2, b3, b4, b5, b6, b7, b8, b9, b10, b11, b12, b13, b14, b15⟩ := tail_6 (left m c)
    exact ⟨cut_delta ((hk main_v79 (Pipeline.mem_restRefs_of main_v79 (by decide) (by decide))).trans d0) pw.p0 pg.p0 pa.p0 pb.p0,
      cut_delta ((hk main_v81 (Pipeline.mem_restRefs_of main_v81 (by decide) (by decide))).trans d1) pw.p1 pg.p1 pa.p1 pb.p1,
      cut_delta ((hk main_v83 (Pipeline.mem_restRefs_of main_v83 (by decide) (by decide))).trans d2) pw.p2 pg.p2 pa.p2 pb.p2,
      cut_delta ((hk main_v85 (Pipeline.mem_restRefs_of main_v85 (by decide) (by decide))).trans d3) pw.p3 pg.p3 pa.p3 pb.p3,
      cut_delta ((hk main_v87 (Pipeline.mem_restRefs_of main_v87 (by decide) (by decide))).trans d4) pw.p4 pg.p4 pa.p4 pb.p4,
      cut_delta ((hk main_v89 (Pipeline.mem_restRefs_of main_v89 (by decide) (by decide))).trans d5) pw.p5 pg.p5 pa.p5 pb.p5,
      cut_delta ((hk main_v91 (Pipeline.mem_restRefs_of main_v91 (by decide) (by decide))).trans d6) pw.p6 pg.p6 pa.p6 pb.p6,
      cut_delta ((hk main_v93 (Pipeline.mem_restRefs_of main_v93 (by decide) (by decide))).trans d7) pw.p7 pg.p7 pa.p7 pb.p7,
      cut_delta ((hk main_v95 (Pipeline.mem_restRefs_of main_v95 (by decide) (by decide))).trans d8) pw.p8 pg.p8 pa.p8 pb.p8,
      cut_delta ((hk main_v97 (Pipeline.mem_restRefs_of main_v97 (by decide) (by decide))).trans d9) pw.p9 pg.p9 pa.p9 pb.p9,
      cut_delta ((hk main_v99 (Pipeline.mem_restRefs_of main_v99 (by decide) (by decide))).trans d10) pw.p10 pg.p10 pa.p10 pb.p10,
      cut_delta ((hk main_v101 (Pipeline.mem_restRefs_of main_v101 (by decide) (by decide))).trans d11) pw.p11 pg.p11 pa.p11 pb.p11,
      cut_delta ((hk main_v103 (Pipeline.mem_restRefs_of main_v103 (by decide) (by decide))).trans d12) pw.p12 pg.p12 pa.p12 pb.p12,
      cut_delta ((hk main_v105 (Pipeline.mem_restRefs_of main_v105 (by decide) (by decide))).trans d13) pw.p13 pg.p13 pa.p13 pb.p13,
      cut_delta ((hk main_v107 (Pipeline.mem_restRefs_of main_v107 (by decide) (by decide))).trans d14) pw.p14 pg.p14 pa.p14 pb.p14,
      cut_delta ((hk main_v109 (Pipeline.mem_restRefs_of main_v109 (by decide) (by decide))).trans d15) pw.p15 pg.p15 pa.p15 pb.p15,
      cut_fst ((hk main_v112 (Pipeline.mem_restRefs_of main_v112 (by decide) (by decide))).trans a0) pg.p0 pa.p0,
      cut_fst ((hk main_v114 (Pipeline.mem_restRefs_of main_v114 (by decide) (by decide))).trans a1) pg.p1 pa.p1,
      cut_fst ((hk main_v116 (Pipeline.mem_restRefs_of main_v116 (by decide) (by decide))).trans a2) pg.p2 pa.p2,
      cut_fst ((hk main_v118 (Pipeline.mem_restRefs_of main_v118 (by decide) (by decide))).trans a3) pg.p3 pa.p3,
      cut_fst ((hk main_v120 (Pipeline.mem_restRefs_of main_v120 (by decide) (by decide))).trans a4) pg.p4 pa.p4,
      cut_fst ((hk main_v122 (Pipeline.mem_restRefs_of main_v122 (by decide) (by decide))).trans a5) pg.p5 pa.p5,
      cut_fst ((hk main_v124 (Pipeline.mem_restRefs_of main_v124 (by decide) (by decide))).trans a6) pg.p6 pa.p6,
      cut_fst ((hk main_v126 (Pipeline.mem_restRefs_of main_v126 (by decide) (by decide))).trans a7) pg.p7 pa.p7,
      cut_fst ((hk main_v128 (Pipeline.mem_restRefs_of main_v128 (by decide) (by decide))).trans a8) pg.p8 pa.p8,
      cut_fst ((hk main_v130 (Pipeline.mem_restRefs_of main_v130 (by decide) (by decide))).trans a9) pg.p9 pa.p9,
      cut_fst ((hk main_v132 (Pipeline.mem_restRefs_of main_v132 (by decide) (by decide))).trans a10) pg.p10 pa.p10,
      cut_fst ((hk main_v134 (Pipeline.mem_restRefs_of main_v134 (by decide) (by decide))).trans a11) pg.p11 pa.p11,
      cut_fst ((hk main_v136 (Pipeline.mem_restRefs_of main_v136 (by decide) (by decide))).trans a12) pg.p12 pa.p12,
      cut_fst ((hk main_v138 (Pipeline.mem_restRefs_of main_v138 (by decide) (by decide))).trans a13) pg.p13 pa.p13,
      cut_fst ((hk main_v140 (Pipeline.mem_restRefs_of main_v140 (by decide) (by decide))).trans a14) pg.p14 pa.p14,
      cut_fst ((hk main_v142 (Pipeline.mem_restRefs_of main_v142 (by decide) (by decide))).trans a15) pg.p15 pa.p15,
      cut_snd ((hk main_v145 (Pipeline.mem_restRefs_of main_v145 (by decide) (by decide))).trans b0) pg.p0 pb.p0,
      cut_snd ((hk main_v147 (Pipeline.mem_restRefs_of main_v147 (by decide) (by decide))).trans b1) pg.p1 pb.p1,
      cut_snd ((hk main_v149 (Pipeline.mem_restRefs_of main_v149 (by decide) (by decide))).trans b2) pg.p2 pb.p2,
      cut_snd ((hk main_v151 (Pipeline.mem_restRefs_of main_v151 (by decide) (by decide))).trans b3) pg.p3 pb.p3,
      cut_snd ((hk main_v153 (Pipeline.mem_restRefs_of main_v153 (by decide) (by decide))).trans b4) pg.p4 pb.p4,
      cut_snd ((hk main_v155 (Pipeline.mem_restRefs_of main_v155 (by decide) (by decide))).trans b5) pg.p5 pb.p5,
      cut_snd ((hk main_v157 (Pipeline.mem_restRefs_of main_v157 (by decide) (by decide))).trans b6) pg.p6 pb.p6,
      cut_snd ((hk main_v159 (Pipeline.mem_restRefs_of main_v159 (by decide) (by decide))).trans b7) pg.p7 pb.p7,
      cut_snd ((hk main_v161 (Pipeline.mem_restRefs_of main_v161 (by decide) (by decide))).trans b8) pg.p8 pb.p8,
      cut_snd ((hk main_v163 (Pipeline.mem_restRefs_of main_v163 (by decide) (by decide))).trans b9) pg.p9 pb.p9,
      cut_snd ((hk main_v165 (Pipeline.mem_restRefs_of main_v165 (by decide) (by decide))).trans b10) pg.p10 pb.p10,
      cut_snd ((hk main_v167 (Pipeline.mem_restRefs_of main_v167 (by decide) (by decide))).trans b11) pg.p11 pb.p11,
      cut_snd ((hk main_v169 (Pipeline.mem_restRefs_of main_v169 (by decide) (by decide))).trans b12) pg.p12 pb.p12,
      cut_snd ((hk main_v171 (Pipeline.mem_restRefs_of main_v171 (by decide) (by decide))).trans b13) pg.p13 pb.p13,
      cut_snd ((hk main_v173 (Pipeline.mem_restRefs_of main_v173 (by decide) (by decide))).trans b14) pg.p14 pb.p14,
      cut_snd ((hk main_v175 (Pipeline.mem_restRefs_of main_v175 (by decide) (by decide))).trans b15) pg.p15 pb.p15,
      h.2 c⟩
  · obtain ⟨h0, h1, h2, h3, h4, h5, h6, h7, h8, h9, h10, h11, h12, h13, h14, h15, h16, h17, h18, h19, h20, h21, h22, h23,
      h24, h25, h26, h27, h28, h29, h30, h31, h32, h33, h34, h35, h36, h37, h38, h39, h40, h41, h42, h43, h44, h45, h46, h47,
      hargs⟩ := h c
    obtain ⟨e0, e1, e2, e3, e4, e5, e6, e7, e8, e9, e10, e11, e12, e13, e14, e15, e16, e17, e18, e19, e20, e21, e22, e23, e24, e25, e26, e27, e28, e29, e30, e31,
      e32, e33, e34, e35, e36, e37, e38, e39, e40, e41, e42, e43, e44, e45, e46, e47, e48, e49, e50, e51, e52, e53, e54, e55, e56, e57, e58, e59, e60, e61, e62, e63⟩ := hin c
    exact ⟨h0.trans (same_delta (s := S1x1024) e0 e16 e32 e48), h1.trans (same_delta (s := S1x4x768) e1 e17 e33 e49),
      h2.trans (same_delta (s := S1x8) e2 e18 e34 e50), h3.trans (same_delta (s := S1x8) e3 e19 e35 e51),
      h4.trans (same_delta (s := S1x128) e4 e20 e36 e52), h5.trans (same_delta (s := S1x4x384) e5 e21 e37 e53),
      h6.trans (same_delta (s := S1x1536) e6 e22 e38 e54), h7.trans (same_delta (s := S1x16) e7 e23 e39 e55),
      h8.trans (same_delta (s := S1x16) e8 e24 e40 e56), h9.trans (same_delta (s := S1x16) e9 e25 e41 e57),
      h10.trans (same_delta (s := S1x1024) e10 e26 e42 e58), h11.trans (same_delta (s := S1x1024) e11 e27 e43 e59),
      h12.trans (same_delta (s := S1x1024) e12 e28 e44 e60), h13.trans (same_delta (s := S1x3x1408) e13 e29 e45 e61),
      h14.trans (same_delta (s := S1x5632) e14 e30 e46 e62), h15.trans (same_delta (s := S1x1024) e15 e31 e47 e63),
      h16.trans (same_fst (s := S1x1024) e16 e32), h17.trans (same_fst (s := S1x4x768) e17 e33),
      h18.trans (same_fst (s := S1x8) e18 e34), h19.trans (same_fst (s := S1x8) e19 e35),
      h20.trans (same_fst (s := S1x128) e20 e36), h21.trans (same_fst (s := S1x4x384) e21 e37),
      h22.trans (same_fst (s := S1x1536) e22 e38), h23.trans (same_fst (s := S1x16) e23 e39),
      h24.trans (same_fst (s := S1x16) e24 e40), h25.trans (same_fst (s := S1x16) e25 e41),
      h26.trans (same_fst (s := S1x1024) e26 e42), h27.trans (same_fst (s := S1x1024) e27 e43),
      h28.trans (same_fst (s := S1x1024) e28 e44), h29.trans (same_fst (s := S1x3x1408) e29 e45),
      h30.trans (same_fst (s := S1x5632) e30 e46), h31.trans (same_fst (s := S1x1024) e31 e47),
      h32.trans (same_snd (s := S1x1024) e16 e48), h33.trans (same_snd (s := S1x4x768) e17 e49),
      h34.trans (same_snd (s := S1x8) e18 e50), h35.trans (same_snd (s := S1x8) e19 e51),
      h36.trans (same_snd (s := S1x128) e20 e52), h37.trans (same_snd (s := S1x4x384) e21 e53),
      h38.trans (same_snd (s := S1x1536) e22 e54), h39.trans (same_snd (s := S1x16) e23 e55),
      h40.trans (same_snd (s := S1x16) e24 e56), h41.trans (same_snd (s := S1x16) e25 e57),
      h42.trans (same_snd (s := S1x1024) e26 e58), h43.trans (same_snd (s := S1x1024) e27 e59),
      h44.trans (same_snd (s := S1x1024) e28 e60), h45.trans (same_snd (s := S1x3x1408) e29 e61),
      h46.trans (same_snd (s := S1x5632) e30 e62), h47.trans (same_snd (s := S1x1024) e31 e63),
      hargs⟩

end Cert.Proof.Small
-- ==== Proof.Sum.lean ====
/-
The sums over the chips: for each of the four gradients the kernel adds the four chips' blocks, a block of rows at a time, and the
reference sums over the leading axis. Over the reals the two are equal.
-/
module

public import proofs.«01_k».proof.Defs
public import proofs.«01_k».proof.Proof.Gen.SumIn.Frame
public import proofs.«01_k».proof.Proof.Gen.SumInIdeal.Frame
public import proofs.«01_k».proof.Proof.Gen.SumInIdeal.Value
public import proofs.«01_k».proof.Proof.Gen.SumInRefIdeal.Run
public import proofs.«01_k».proof.Proof.Gen.SumOut.Frame
public import proofs.«01_k».proof.Proof.Gen.SumOutIdeal.Frame
public import proofs.«01_k».proof.Proof.Gen.SumOutIdeal.Value
public import proofs.«01_k».proof.Proof.Gen.SumOutRefIdeal.Run
public import proofs.«01_k».proof.Proof.Gen.SumUp.Frame
public import proofs.«01_k».proof.Proof.Gen.SumUpIdeal.Frame
public import proofs.«01_k».proof.Proof.Gen.SumUpIdeal.Value
public import proofs.«01_k».proof.Proof.Gen.SumUpRefIdeal.Run
public import proofs.«01_k».proof.Proof.Gen.SumDown.Frame
public import proofs.«01_k».proof.Proof.Gen.SumDownIdeal.Frame
public import proofs.«01_k».proof.Proof.Gen.SumDownIdeal.Value
public import proofs.«01_k».proof.Proof.Gen.SumDownRefIdeal.Run
public import Idealize.ShloMosaic.Lib.Pointwise
public import Idealize.ShloMosaic.PureOps.Ideal.Laws

@[expose] public section

noncomputable section

namespace Cert.Sum

open Idealize.ShloMosaic

variable {F : FTy → Type} [FloatOps F] {r c n : ℕ}

/-- The chips' four blocks, added one after the other. -/
def chips (p : (⟨3, ![4, r, c]⟩ : Shape).Idx → F .f32) (i : (⟨2, ![r, c]⟩ : Shape).Idx) : F .f32 :=
  FloatOps.addf (FloatOps.addf (FloatOps.addf (p (ValueIdx.ix3 0 (i 0) (i 1))) (p (ValueIdx.ix3 1 (i 0) (i 1))))
    (p (ValueIdx.ix3 2 (i 0) (i 1)))) (p (ValueIdx.ix3 3 (i 0) (i 1)))

/-- Over the reals the host's sum over the leading axis is that sum. -/
theorem host_eq {u : Shape} (h : (⟨3, ![4, r, c]⟩ : Shape).ReducesTo [0] ⟨2, ![r, c]⟩) (init : u.Idx → Ideal .f32) (hu : 0 < u.numel)
    (h0 : init (Shape.Idx.first hu) = 0) (p : FVec Ideal ⟨3, ![4, r, c]⟩ .f32) : Host.reduceAdd (F := Ideal) p init h hu = chips (F := Ideal) p := by
  funext j
  show Ideal.hostReduceAdd h p (init (Shape.Idx.first hu)) j = _
  rw [Ideal.hostReduceAdd_r3_a0, h0, zero_add, Fin.sum_univ_four]
  rfl

/-- Block `b` of `n` rows: where the entries `y` of the block read from `p` lie at rows `b * n + …` of all four chips (`src`), and the
    entries of the block written at rows `b * n + …` (`dst`), the four entries above `j` add up to the sum at the place of `j`. -/
theorem block_eq (p : (⟨3, ![4, r, c]⟩ : Shape).Idx → F .f32) (src : (⟨3, ![4, n, c]⟩ : Shape).Idx → (⟨3, ![4, r, c]⟩ : Shape).Idx)
    (dst : (⟨2, ![n, c]⟩ : Shape).Idx → (⟨2, ![r, c]⟩ : Shape).Idx) (b : ℕ)
    (hs : ∀ y, (src y 0).val = (y 0).val ∧ (src y 1).val = b * n + (y 1).val ∧ (src y 2).val = (y 2).val)
    (hd : ∀ j, (dst j 0).val = b * n + (j 0).val ∧ (dst j 1).val = (j 1).val) (j : (⟨2, ![n, c]⟩ : Shape).Idx)
    (y : Fin 4 → (⟨3, ![4, n, c]⟩ : Shape).Idx) (hy : ∀ k, y k 0 = k ∧ (y k 1).val = (j 0).val ∧ (y k 2).val = (j 1).val) :
    FloatOps.addf (FloatOps.addf (FloatOps.addf (p (src (y 0))) (p (src (y 1)))) (p (src (y 2)))) (p (src (y 3))) = chips p (dst j) := by
  have e : ∀ k, src (y k) = ValueIdx.ix3 k (dst j 0) (dst j 1) := by
    intro k
    obtain ⟨s0, s1, s2⟩ := hs (y k)
    obtain ⟨y0, y1, y2⟩ := hy k
    funext a; apply Fin.ext
    match a with
    | ⟨0, _⟩ => exact s0.trans (congrArg Fin.val y0)
    | ⟨1, _⟩ => exact (s1.trans (by rw [y1])).trans (hd j).1.symm
    | ⟨2, _⟩ => exact (s2.trans y2).trans (hd j).2.symm
  rw [e 0, e 1, e 2, e 3]
  rfl

end Cert.Sum

/-! ## The sum for `w_in` -/

namespace Cert.Proof.SumIn

open Idealize.ShloMosaic Idealize.ShloMosaic.TcCoe Idealize.SL.Sem Cert.SumInIdeal Cert.SumInIdeal.Gen Cert.SumInIdeal.Value

/-- Point `t` reads and writes the blocks of rows number `t`. -/
theorem places : ∀ t : Fin grid0.N, (win0_0.index t (0 : Fin 3) = 0 ∧ win0_0.index t (1 : Fin 3) = t.val ∧ win0_0.index t (2 : Fin 3) = 0)
    ∧ win0_1.index t (0 : Fin 2) = t.val ∧ win0_1.index t (1 : Fin 2) = 0 := by decide +kernel

/-- It writes the sums of its rows, -/
theorem flushed {F : FTy → Type} [FloatOps F] (m : (ℓ : Loc nD τ sig) → Buf (Elt F) ℓ) (c : Dev nD) (t : Fin cfg0.N) :
    (dats m 0 c).flushed 1 t = ((cfg0.win 1).blk t).view.read (Elt F) (Cert.Sum.chips (V m c main_arg0)) := by
  rw [flushed1]
  funext j
  obtain ⟨⟨h0, h1, h2⟩, h3, h4⟩ := places t
  have z : ∀ n : ℕ, 0 + 1 * n = n := by omega
  have s : ∀ y, (((cfg0.win 0).blk t).view.emb y 0).val = win0_0.index t (0 : Fin 3) * 4 + 1 * (y 0).val
      ∧ (((cfg0.win 0).blk t).view.emb y 1).val = win0_0.index t (1 : Fin 3) * 256 + 1 * (y 1).val
      ∧ (((cfg0.win 0).blk t).view.emb y 2).val = win0_0.index t (2 : Fin 3) * 1672 + 1 * (y 2).val := fun y => ⟨rfl, rfl, rfl⟩
  have d : ∀ j, (((cfg0.win 1).blk t).view.emb j 0).val = win0_1.index t (0 : Fin 2) * 256 + 1 * (j 0).val
      ∧ (((cfg0.win 1).blk t).view.emb j 1).val = win0_1.index t (1 : Fin 2) * 1672 + 1 * (j 1).val := fun j => ⟨rfl, rfl⟩
  simp only [h0, h1, h2, h3, h4, one_mul, zero_mul, zero_add] at s d
  exact (canon1_eq _ _ _ _ j).trans (Cert.Sum.block_eq (V m c main_arg0) _ _ t.val s d j
    ![r0_0.emb (ix1_0 j), r0_1.emb (ix1_1 j), r0_2.emb (ix1_2 j), r0_3.emb (ix1_3 j)]
    (fun k => by fin_cases k <;> exact ⟨rfl, z _, z _⟩))

/-- and every row is written at some point. -/
theorem covered (i : S512x1672.Idx) : ∃ t : Fin cfg0.N, (cfg0.win 1).flush t = true ∧ i ∈ ((cfg0.win 1).blk t).view.set := by
  have h0 : (i 0).val < 512 := (i 0).isLt
  have h1 : (i 1).val < 1672 := (i 1).isLt
  have hN : grid0.N = 2 := by decide
  have ht : (i 0).val / 256 < grid0.N := by omega
  obtain ⟨-, h3, h4⟩ := places ⟨_, ht⟩
  refine ⟨⟨_, ht⟩, flush0_1 _, ?_⟩
  show i ∈ ((View.whole main_v0).slice (win0_1.rect ⟨_, ht⟩)).set
  rw [View.set_slice_whole, Rect.mem_set_unit]
  intro a
  match a with
  | ⟨0, _⟩ => show win0_1.index _ (0 : Fin 2) * 256 ≤ (i 0).val ∧ (i 0).val < win0_1.index _ (0 : Fin 2) * 256 + 256; rw [h3]; dsimp only; omega
  | ⟨1, _⟩ => show win0_1.index _ (1 : Fin 2) * 1672 ≤ (i 1).val ∧ (i 1).val < win0_1.index _ (1 : Fin 2) * 1672 + 1672; rw [h4]; omega

/-- The reference's frame: it has no semaphore. -/
theorem frame_ref : Cert.quiescent_SumInRefIdeal := fun m ρ _ =>
  (θ_run Cert.SumInRefIdeal.defs _ _).mono (fun r h => ⟨fun c => (h c).2, sem_eq_zero_of_no_sems (by decide) r.2⟩)
    (Cert.SumInRefIdeal.Value.run (F := Ideal) m ρ)

/-- The call leaves the reference's sum. -/
theorem algebraic : Cert.algebraic_SumInIdeal_SumInRefIdeal := by
  intro m g m' g' _ hin
  refine ⟨_, (θ_run Cert.SumInIdeal.defs _ _).mono (fun r h c => ?_) (run_blocks (F := Ideal) m g),
    Cert.SumInRefIdeal.Value.run (F := Ideal) m' g'⟩
  refine ⟨((h c).1.trans ((dats m 0 c).arrAt_eq_of_cover 1 _ (fun t _ => flushed m c t) covered)).trans ?_, (h c).2⟩
  rw [hin c, V_main_arg0]
  exact (Cert.Sum.host_eq _ _ _ Ideal.ofBits_zero_f32 _).symm

end Cert.Proof.SumIn

/-! ## The sum for `w_out` -/

namespace Cert.Proof.SumOut

open Idealize.ShloMosaic Idealize.ShloMosaic.TcCoe Idealize.SL.Sem Cert.SumOutIdeal Cert.SumOutIdeal.Gen Cert.SumOutIdeal.Value

/-- Point `t` reads and writes the blocks of rows number `t`. -/
theorem places : ∀ t : Fin grid0.N, (win0_0.index t (0 : Fin 3) = 0 ∧ win0_0.index t (1 : Fin 3) = t.val ∧ win0_0.index t (2 : Fin 3) = 0)
    ∧ win0_1.index t (0 : Fin 2) = t.val ∧ win0_1.index t (1 : Fin 2) = 0 := by decide +kernel

/-- It writes the sums of its rows, -/
theorem flushed {F : FTy → Type} [FloatOps F] (m : (ℓ : Loc nD τ sig) → Buf (Elt F) ℓ) (c : Dev nD) (t : Fin cfg0.N) :
    (dats m 0 c).flushed 1 t = ((cfg0.win 1).blk t).view.read (Elt F) (Cert.Sum.chips (V m c main_arg0)) := by
  rw [flushed1]
  funext j
  obtain ⟨⟨h0, h1, h2⟩, h3, h4⟩ := places t
  have z : ∀ n : ℕ, 0 + 1 * n = n := by omega
  have s : ∀ y, (((cfg0.win 0).blk t).view.emb y 0).val = win0_0.index t (0 : Fin 3) * 4 + 1 * (y 0).val
      ∧ (((cfg0.win 0).blk t).view.emb y 1).val = win0_0.index t (1 : Fin 3) * 256 + 1 * (y 1).val
      ∧ (((cfg0.win 0).blk t).view.emb y 2).val = win0_0.index t (2 : Fin 3) * 1024 + 1 * (y 2).val := fun y => ⟨rfl, rfl, rfl⟩
  have d : ∀ j, (((cfg0.win 1).blk t).view.emb j 0).val = win0_1.index t (0 : Fin 2) * 256 + 1 * (j 0).val
      ∧ (((cfg0.win 1).blk t).view.emb j 1).val = win0_1.index t (1 : Fin 2) * 1024 + 1 * (j 1).val := fun j => ⟨rfl, rfl⟩
  simp only [h0, h1, h2, h3, h4, one_mul, zero_mul, zero_add] at s d
  exact (canon1_eq _ _ _ _ j).trans (Cert.Sum.block_eq (V m c main_arg0) _ _ t.val s d j
    ![r0_0.emb (ix1_0 j), r0_1.emb (ix1_1 j), r0_2.emb (ix1_2 j), r0_3.emb (ix1_3 j)]
    (fun k => by fin_cases k <;> exact ⟨rfl, z _, z _⟩))

/-- and every row is written at some point. -/
theorem covered (i : S256x1024.Idx) : ∃ t : Fin cfg0.N, (cfg0.win 1).flush t = true ∧ i ∈ ((cfg0.win 1).blk t).view.set := by
  have h0 : (i 0).val < 256 := (i 0).isLt
  have h1 : (i 1).val < 1024 := (i 1).isLt
  have hN : grid0.N = 1 := by decide
  have ht : (i 0).val / 256 < grid0.N := by omega
  obtain ⟨-, h3, h4⟩ := places ⟨_, ht⟩
  refine ⟨⟨_, ht⟩, flush0_1 _, ?_⟩
  show i ∈ ((View.whole main_v0).slice (win0_1.rect ⟨_, ht⟩)).set
  rw [View.set_slice_whole, Rect.mem_set_unit]
  intro a
  match a with
  | ⟨0, _⟩ => show win0_1.index _ (0 : Fin 2) * 256 ≤ (i 0).val ∧ (i 0).val < win0_1.index _ (0 : Fin 2) * 256 + 256; rw [h3]; dsimp only; omega
  | ⟨1, _⟩ => show win0_1.index _ (1 : Fin 2) * 1024 ≤ (i 1).val ∧ (i 1).val < win0_1.index _ (1 : Fin 2) * 1024 + 1024; rw [h4]; omega

/-- The reference's frame: it has no semaphore. -/
theorem frame_ref : Cert.quiescent_SumOutRefIdeal := fun m ρ _ =>
  (θ_run Cert.SumOutRefIdeal.defs _ _).mono (fun r h => ⟨fun c => (h c).2, sem_eq_zero_of_no_sems (by decide) r.2⟩)
    (Cert.SumOutRefIdeal.Value.run (F := Ideal) m ρ)

/-- The call leaves the reference's sum. -/
theorem algebraic : Cert.algebraic_SumOutIdeal_SumOutRefIdeal := by
  intro m g m' g' _ hin
  refine ⟨_, (θ_run Cert.SumOutIdeal.defs _ _).mono (fun r h c => ?_) (run_blocks (F := Ideal) m g),
    Cert.SumOutRefIdeal.Value.run (F := Ideal) m' g'⟩
  refine ⟨((h c).1.trans ((dats m 0 c).arrAt_eq_of_cover 1 _ (fun t _ => flushed m c t) covered)).trans ?_, (h c).2⟩
  rw [hin c, V_main_arg0]
  exact (Cert.Sum.host_eq _ _ _ Ideal.ofBits_zero_f32 _).symm

end Cert.Proof.SumOut

/-! ## The sum for `w_up` -/

namespace Cert.Proof.SumUp

open Idealize.ShloMosaic Idealize.ShloMosaic.TcCoe Idealize.SL.Sem Cert.SumUpIdeal Cert.SumUpIdeal.Gen Cert.SumUpIdeal.Value

/-- Point `t` reads and writes the blocks of rows number `t`. -/
theorem places : ∀ t : Fin grid0.N, (win0_0.index t (0 : Fin 3) = 0 ∧ win0_0.index t (1 : Fin 3) = t.val ∧ win0_0.index t (2 : Fin 3) = 0)
    ∧ win0_1.index t (0 : Fin 2) = t.val ∧ win0_1.index t (1 : Fin 2) = 0 := by decide +kernel

/-- It writes the sums of its rows, -/
theorem flushed {F : FTy → Type} [FloatOps F] (m : (ℓ : Loc nD τ sig) → Buf (Elt F) ℓ) (c : Dev nD) (t : Fin cfg0.N) :
    (dats m 0 c).flushed 1 t = ((cfg0.win 1).blk t).view.read (Elt F) (Cert.Sum.chips (V m c main_arg0)) := by
  rw [flushed1]
  funext j
  obtain ⟨⟨h0, h1, h2⟩, h3, h4⟩ := places t
  have z : ∀ n : ℕ, 0 + 1 * n = n := by omega
  have s : ∀ y, (((cfg0.win 0).blk t).view.emb y 0).val = win0_0.index t (0 : Fin 3) * 4 + 1 * (y 0).val
      ∧ (((cfg0.win 0).blk t).view.emb y 1).val = win0_0.index t (1 : Fin 3) * 256 + 1 * (y 1).val
      ∧ (((cfg0.win 0).blk t).view.emb y 2).val = win0_0.index t (2 : Fin 3) * 1408 + 1 * (y 2).val := fun y => ⟨rfl, rfl, rfl⟩
  have d : ∀ j, (((cfg0.win 1).blk t).view.emb j 0).val = win0_1.index t (0 : Fin 2) * 256 + 1 * (j 0).val
      ∧ (((cfg0.win 1).blk t).view.emb j 1).val = win0_1.index t (1 : Fin 2) * 1408 + 1 * (j 1).val := fun j => ⟨rfl, rfl⟩
  simp only [h0, h1, h2, h3, h4, one_mul, zero_mul, zero_add] at s d
  exact (canon1_eq _ _ _ _ j).trans (Cert.Sum.block_eq (V m c main_arg0) _ _ t.val s d j
    ![r0_0.emb (ix1_0 j), r0_1.emb (ix1_1 j), r0_2.emb (ix1_2 j), r0_3.emb (ix1_3 j)]
    (fun k => by fin_cases k <;> exact ⟨rfl, z _, z _⟩))

/-- and every row is written at some point. -/
theorem covered (i : S512x1408.Idx) : ∃ t : Fin cfg0.N, (cfg0.win 1).flush t = true ∧ i ∈ ((cfg0.win 1).blk t).view.set := by
  have h0 : (i 0).val < 512 := (i 0).isLt
  have h1 : (i 1).val < 1408 := (i 1).isLt
  have hN : grid0.N = 2 := by decide
  have ht : (i 0).val / 256 < grid0.N := by omega
  obtain ⟨-, h3, h4⟩ := places ⟨_, ht⟩
  refine ⟨⟨_, ht⟩, flush0_1 _, ?_⟩
  show i ∈ ((View.whole main_v0).slice (win0_1.rect ⟨_, ht⟩)).set
  rw [View.set_slice_whole, Rect.mem_set_unit]
  intro a
  match a with
  | ⟨0, _⟩ => show win0_1.index _ (0 : Fin 2) * 256 ≤ (i 0).val ∧ (i 0).val < win0_1.index _ (0 : Fin 2) * 256 + 256; rw [h3]; dsimp only; omega
  | ⟨1, _⟩ => show win0_1.index _ (1 : Fin 2) * 1408 ≤ (i 1).val ∧ (i 1).val < win0_1.index _ (1 : Fin 2) * 1408 + 1408; rw [h4]; omega

/-- The reference's frame: it has no semaphore. -/
theorem frame_ref : Cert.quiescent_SumUpRefIdeal := fun m ρ _ =>
  (θ_run Cert.SumUpRefIdeal.defs _ _).mono (fun r h => ⟨fun c => (h c).2, sem_eq_zero_of_no_sems (by decide) r.2⟩)
    (Cert.SumUpRefIdeal.Value.run (F := Ideal) m ρ)

/-- The call leaves the reference's sum. -/
theorem algebraic : Cert.algebraic_SumUpIdeal_SumUpRefIdeal := by
  intro m g m' g' _ hin
  refine ⟨_, (θ_run Cert.SumUpIdeal.defs _ _).mono (fun r h c => ?_) (run_blocks (F := Ideal) m g),
    Cert.SumUpRefIdeal.Value.run (F := Ideal) m' g'⟩
  refine ⟨((h c).1.trans ((dats m 0 c).arrAt_eq_of_cover 1 _ (fun t _ => flushed m c t) covered)).trans ?_, (h c).2⟩
  rw [hin c, V_main_arg0]
  exact (Cert.Sum.host_eq _ _ _ Ideal.ofBits_zero_f32 _).symm

end Cert.Proof.SumUp

/-! ## The sum for `w_down` -/

namespace Cert.Proof.SumDown

open Idealize.ShloMosaic Idealize.ShloMosaic.TcCoe Idealize.SL.Sem Cert.SumDownIdeal Cert.SumDownIdeal.Gen Cert.SumDownIdeal.Value

/-- Point `t` reads and writes the blocks of rows number `t`. -/
theorem places : ∀ t : Fin grid0.N, (win0_0.index t (0 : Fin 3) = 0 ∧ win0_0.index t (1 : Fin 3) = t.val ∧ win0_0.index t (2 : Fin 3) = 0)
    ∧ win0_1.index t (0 : Fin 2) = t.val ∧ win0_1.index t (1 : Fin 2) = 0 := by decide +kernel

/-- It writes the sums of its rows, -/
theorem flushed {F : FTy → Type} [FloatOps F] (m : (ℓ : Loc nD τ sig) → Buf (Elt F) ℓ) (c : Dev nD) (t : Fin cfg0.N) :
    (dats m 0 c).flushed 1 t = ((cfg0.win 1).blk t).view.read (Elt F) (Cert.Sum.chips (V m c main_arg0)) := by
  rw [flushed1]
  funext j
  obtain ⟨⟨h0, h1, h2⟩, h3, h4⟩ := places t
  have z : ∀ n : ℕ, 0 + 1 * n = n := by omega
  have s : ∀ y, (((cfg0.win 0).blk t).view.emb y 0).val = win0_0.index t (0 : Fin 3) * 4 + 1 * (y 0).val
      ∧ (((cfg0.win 0).blk t).view.emb y 1).val = win0_0.index t (1 : Fin 3) * 176 + 1 * (y 1).val
      ∧ (((cfg0.win 0).blk t).view.emb y 2).val = win0_0.index t (2 : Fin 3) * 1024 + 1 * (y 2).val := fun y => ⟨rfl, rfl, rfl⟩
  have d : ∀ j, (((cfg0.win 1).blk t).view.emb j 0).val = win0_1.index t (0 : Fin 2) * 176 + 1 * (j 0).val
      ∧ (((cfg0.win 1).blk t).view.emb j 1).val = win0_1.index t (1 : Fin 2) * 1024 + 1 * (j 1).val := fun j => ⟨rfl, rfl⟩
  simp only [h0, h1, h2, h3, h4, one_mul, zero_mul, zero_add] at s d
  exact (canon1_eq _ _ _ _ j).trans (Cert.Sum.block_eq (V m c main_arg0) _ _ t.val s d j
    ![r0_0.emb (ix1_0 j), r0_1.emb (ix1_1 j), r0_2.emb (ix1_2 j), r0_3.emb (ix1_3 j)]
    (fun k => by fin_cases k <;> exact ⟨rfl, z _, z _⟩))

/-- and every row is written at some point. -/
theorem covered (i : S352x1024.Idx) : ∃ t : Fin cfg0.N, (cfg0.win 1).flush t = true ∧ i ∈ ((cfg0.win 1).blk t).view.set := by
  have h0 : (i 0).val < 352 := (i 0).isLt
  have h1 : (i 1).val < 1024 := (i 1).isLt
  have hN : grid0.N = 2 := by decide
  have ht : (i 0).val / 176 < grid0.N := by omega
  obtain ⟨-, h3, h4⟩ := places ⟨_, ht⟩
  refine ⟨⟨_, ht⟩, flush0_1 _, ?_⟩
  show i ∈ ((View.whole main_v0).slice (win0_1.rect ⟨_, ht⟩)).set
  rw [View.set_slice_whole, Rect.mem_set_unit]
  intro a
  match a with
  | ⟨0, _⟩ => show win0_1.index _ (0 : Fin 2) * 176 ≤ (i 0).val ∧ (i 0).val < win0_1.index _ (0 : Fin 2) * 176 + 176; rw [h3]; dsimp only; omega
  | ⟨1, _⟩ => show win0_1.index _ (1 : Fin 2) * 1024 ≤ (i 1).val ∧ (i 1).val < win0_1.index _ (1 : Fin 2) * 1024 + 1024; rw [h4]; omega

/-- The reference's frame: it has no semaphore. -/
theorem frame_ref : Cert.quiescent_SumDownRefIdeal := fun m ρ _ =>
  (θ_run Cert.SumDownRefIdeal.defs _ _).mono (fun r h => ⟨fun c => (h c).2, sem_eq_zero_of_no_sems (by decide) r.2⟩)
    (Cert.SumDownRefIdeal.Value.run (F := Ideal) m ρ)

/-- The call leaves the reference's sum. -/
theorem algebraic : Cert.algebraic_SumDownIdeal_SumDownRefIdeal := by
  intro m g m' g' _ hin
  refine ⟨_, (θ_run Cert.SumDownIdeal.defs _ _).mono (fun r h c => ?_) (run_blocks (F := Ideal) m g),
    Cert.SumDownRefIdeal.Value.run (F := Ideal) m' g'⟩
  refine ⟨((h c).1.trans ((dats m 0 c).arrAt_eq_of_cover 1 _ (fun t _ => flushed m c t) covered)).trans ?_, (h c).2⟩
  rw [hin c, V_main_arg0]
  exact (Cert.Sum.host_eq _ _ _ Ideal.ofBits_zero_f32 _).symm

end Cert.Proof.SumDown

end
-- ==== Proof.Product.lean ====
/-
The product of two matrices computed block by block, over the reals: a block of rows of one against a block of columns of the other,
and the sums over the blocks of a long axis added up one after the other.
-/
module

public import Idealize.ShloMosaic.Lib.Pipeline.Value
public import Idealize.ShloMosaic.Lib.MatmulPlain
public import Idealize.ShloMosaic.Lib.StackMember
public import Idealize.ShloMosaic.Lib.ValueLayout
public import Idealize.ShloMosaic.PureOps.Ideal.Laws

@[expose] public section

noncomputable section

namespace Cert.Product

open Idealize.ShloMosaic Idealize.ShloMosaic.ValueIdx

variable {M K N tm tn tk J : ℕ}

/-- `A @ B`: the rows of `A` against the columns of `B`, -/
def rc (A : FVec Ideal ⟨2, ![M, K]⟩ .bf16) (B : FVec Ideal ⟨2, ![K, N]⟩ .bf16) (i : (⟨2, ![M, N]⟩ : Shape).Idx) : EReal :=
  ∑ k : Fin K, A (ix2 (i 0) k) * B (ix2 k (i 1))

/-- `A @ B.T`: the rows of `A` against the rows of `B`, -/
def rr (A : FVec Ideal ⟨2, ![M, K]⟩ .bf16) (B : FVec Ideal ⟨2, ![N, K]⟩ .bf16) (i : (⟨2, ![M, N]⟩ : Shape).Idx) : EReal :=
  ∑ k : Fin K, A (ix2 (i 0) k) * B (ix2 (i 1) k)

/-- `A.T @ B`: the columns of `A` against the columns of `B`. -/
def cc (A : FVec Ideal ⟨2, ![K, M]⟩ .bf16) (B : FVec Ideal ⟨2, ![K, N]⟩ .bf16) (i : (⟨2, ![M, N]⟩ : Shape).Idx) : EReal :=
  ∑ k : Fin K, A (ix2 k (i 0)) * B (ix2 k (i 1))

/-! ## The host's products -/

theorem host_rc (h : FTy.bf16.bits < FTy.f32.bits) (A : FVec Ideal ⟨2, ![M, K]⟩ .bf16) (B : FVec Ideal ⟨2, ![K, N]⟩ .bf16) :
    Host.dotGeneral (DotDims.plain M K N) none (extf .f32 A h) (extf .f32 B h) = rc A B := by
  funext i
  obtain ⟨a, b, rfl⟩ : ∃ (x : Fin M) (y : Fin N), i = ix2 x y := ⟨i 0, i 1, eq_ix2 i⟩
  exact StackMember.dotGeneral_plain_apply none (extf (F := Ideal) .f32 A h) (extf (F := Ideal) .f32 B h) a b

theorem host_rr (h : FTy.bf16.bits < FTy.f32.bits) (A : FVec Ideal ⟨2, ![M, K]⟩ .bf16) (B : FVec Ideal ⟨2, ![N, K]⟩ .bf16)
    (ht : (⟨2, ![N, K]⟩ : Shape).Transposes [1, 0] ⟨2, ![K, N]⟩) :
    Host.dotGeneral (DotDims.plain M K N) none (extf .f32 A h) (transpose ⟨2, ![K, N]⟩ [1, 0] (extf .f32 B h) ht) = rr A B := by
  funext i
  obtain ⟨a, b, rfl⟩ : ∃ (x : Fin M) (y : Fin N), i = ix2 x y := ⟨i 0, i 1, eq_ix2 i⟩
  refine (StackMember.dotGeneral_plain_apply none (extf (F := Ideal) .f32 A h) _ a b).trans (Finset.sum_congr rfl fun k _ => ?_)
  rw [transpose_ix2_apply]
  rfl

theorem host_cc (h : FTy.bf16.bits < FTy.f32.bits) (A : FVec Ideal ⟨2, ![K, M]⟩ .bf16) (B : FVec Ideal ⟨2, ![K, N]⟩ .bf16)
    (ht : (⟨2, ![K, M]⟩ : Shape).Transposes [1, 0] ⟨2, ![M, K]⟩) :
    Host.dotGeneral (DotDims.plain M K N) none (transpose ⟨2, ![M, K]⟩ [1, 0] (extf .f32 A h) ht) (extf .f32 B h) = cc A B := by
  funext i
  obtain ⟨a, b, rfl⟩ : ∃ (x : Fin M) (y : Fin N), i = ix2 x y := ⟨i 0, i 1, eq_ix2 i⟩
  refine (StackMember.dotGeneral_plain_apply none _ (extf (F := Ideal) .f32 B h) a b).trans (Finset.sum_congr rfl fun k _ => ?_)
  rw [transpose_ix2_apply]
  rfl

/-! ## Blocks -/

theorem origin : (![0, 0] : Fin 2 → ℕ) = fun _ => 0 := funext fun x => by fin_cases x <;> rfl

/-- The blocks of `tm` rows and `tn` columns, taken row by row, tile a matrix of `a * tm` rows and `b * tn` columns. -/
theorem tile {G : ℕ} (a b : ℕ) (hG : G = a * b) (hM : M = a * tm) (hN : N = b * tn) (f : Fin G → Fin 2 → ℕ)
    (hf : ∀ t, f t 0 = t.val / b ∧ f t 1 = t.val % b) (i : (⟨2, ![M, N]⟩ : Shape).Idx) :
    ∃ t : Fin G, ∀ x : Fin 2, f t x * (![tm, tn] : Fin 2 → ℕ) x ≤ (i x).val ∧ (i x).val < f t x * (![tm, tn] : Fin 2 → ℕ) x + (![tm, tn] : Fin 2 → ℕ) x := by
  have h0 : (i 0).val < a * tm := hM ▸ (i 0).isLt
  have h1 : (i 1).val < b * tn := hN ▸ (i 1).isLt
  have p0 : 0 < tm := Nat.pos_of_mul_pos_left (lt_of_le_of_lt (Nat.zero_le _) h0)
  have p1 : 0 < tn := Nat.pos_of_mul_pos_left (lt_of_le_of_lt (Nat.zero_le _) h1)
  have q0 : (i 0).val / tm < a := Nat.div_lt_of_lt_mul (by rwa [Nat.mul_comm] at h0)
  have q1 : (i 1).val / tn < b := Nat.div_lt_of_lt_mul (by rwa [Nat.mul_comm] at h1)
  have ht : (i 1).val / tn + b * ((i 0).val / tm) < G := by
    have := Nat.mul_le_mul_left b (Nat.succ_le_of_lt q0)
    rw [hG, Nat.mul_comm a b]
    rw [Nat.mul_succ] at this
    exact lt_of_lt_of_le (by rw [Nat.add_comm]; exact Nat.add_lt_add_left q1 _) this
  obtain ⟨e0, e1⟩ := hf ⟨_, ht⟩
  rw [Nat.add_mul_div_left _ _ (lt_of_le_of_lt (Nat.zero_le _) q1), Nat.div_eq_of_lt q1, Nat.zero_add] at e0
  rw [Nat.add_mul_mod_self_left, Nat.mod_eq_of_lt q1] at e1
  refine ⟨⟨_, ht⟩, fun x => ?_⟩
  match x with
  | ⟨0, _⟩ => exact (congrArg (fun n => n * tm ≤ (i 0).val ∧ (i 0).val < n * tm + tm) e0).mpr ⟨Nat.div_mul_le_self _ _, Nat.lt_div_mul_add p0⟩
  | ⟨1, _⟩ => exact (congrArg (fun n => n * tn ≤ (i 1).val ∧ (i 1).val < n * tn + tn) e1).mpr ⟨Nat.div_mul_le_self _ _, Nat.lt_div_mul_add p1⟩

/-! ## One block of a product whose summed axis lies whole in the block -/

/-- An index of two coordinates is known from their values. -/
theorem ix_ext {a b : ℕ} {y z : (⟨2, ![a, b]⟩ : Shape).Idx} (h0 : (y 0).val = (z 0).val) (h1 : (y 1).val = (z 1).val) : y = z := by
  funext x; apply Fin.ext
  match x with
  | ⟨0, _⟩ => exact h0
  | ⟨1, _⟩ => exact h1

/-- Block `(p, q)` of `A @ B`: rows `p * tm + …` of `A` (`s`), columns `q * tn + …` of `B` (`u`), the result's block (`d`). -/
theorem block_rc (A : FVec Ideal ⟨2, ![M, K]⟩ .bf16) (B : FVec Ideal ⟨2, ![K, N]⟩ .bf16) {p q : ℕ} (f₀ f₁ f₂ : Fin 2 → ℕ)
    (hf : (f₀ 0 = p ∧ f₀ 1 = 0) ∧ (f₁ 0 = 0 ∧ f₁ 1 = q) ∧ f₂ 0 = p ∧ f₂ 1 = q) (s : (⟨2, ![tm, K]⟩ : Shape).Idx → (⟨2, ![M, K]⟩ : Shape).Idx) (u : (⟨2, ![K, tn]⟩ : Shape).Idx → (⟨2, ![K, N]⟩ : Shape).Idx)
    (d : (⟨2, ![tm, tn]⟩ : Shape).Idx → (⟨2, ![M, N]⟩ : Shape).Idx)
    (hs : ∀ y, (s y 0).val = f₀ 0 * tm + 1 * (y 0).val ∧ (s y 1).val = f₀ 1 * K + 1 * (y 1).val)
    (hu : ∀ y, (u y 0).val = f₁ 0 * K + 1 * (y 0).val ∧ (u y 1).val = f₁ 1 * tn + 1 * (y 1).val)
    (hd : ∀ y, (d y 0).val = f₂ 0 * tm + 1 * (y 0).val ∧ (d y 1).val = f₂ 1 * tn + 1 * (y 1).val) (j : (⟨2, ![tm, tn]⟩ : Shape).Idx) :
    FloatOps.matmul (F := Ideal) (φ₁ := .bf16) (φ₂ := .bf16) (DotDims.plain tm K tn) none (fun y => A (s y)) (fun y => B (u y))
      (constant ⟨2, ![tm, tn]⟩ .f32 0x00000000#32) j = rc A B (d j) := by
  obtain ⟨a₀, b₀, rfl⟩ : ∃ (x : Fin tm) (y : Fin tn), j = ix2 x y := ⟨j 0, j 1, eq_ix2 j⟩
  obtain ⟨⟨g0, g1⟩, ⟨g2, g3⟩, g4, g5⟩ := hf
  simp only [g0, g1, g2, g3, g4, g5, one_mul, zero_mul, zero_add] at hs hu hd
  rw [Ideal.matmul_plain_apply]
  refine ((congrArg (· + _) Ideal.ofBits_zero_f32).trans (zero_add _)).trans (Finset.sum_congr rfl fun k _ => ?_)
  exact congrArg₂ (fun x y => A x * B y) (ix_ext ((hs _).1.trans (hd (ix2 a₀ b₀)).1.symm) (hs _).2) (ix_ext (hu _).1 ((hu _).2.trans (hd (ix2 a₀ b₀)).2.symm))

/-- Block `(p, q)` of `A @ B.T`: rows `p * tm + …` of `A`, rows `q * tn + …` of `B`. -/
theorem block_rr (A : FVec Ideal ⟨2, ![M, K]⟩ .bf16) (B : FVec Ideal ⟨2, ![N, K]⟩ .bf16) {p q : ℕ} (f₀ f₁ f₂ : Fin 2 → ℕ)
    (hf : (f₀ 0 = p ∧ f₀ 1 = 0) ∧ (f₁ 0 = q ∧ f₁ 1 = 0) ∧ f₂ 0 = p ∧ f₂ 1 = q) (s : (⟨2, ![tm, K]⟩ : Shape).Idx → (⟨2, ![M, K]⟩ : Shape).Idx) (u : (⟨2, ![tn, K]⟩ : Shape).Idx → (⟨2, ![N, K]⟩ : Shape).Idx)
    (d : (⟨2, ![tm, tn]⟩ : Shape).Idx → (⟨2, ![M, N]⟩ : Shape).Idx)
    (hs : ∀ y, (s y 0).val = f₀ 0 * tm + 1 * (y 0).val ∧ (s y 1).val = f₀ 1 * K + 1 * (y 1).val)
    (hu : ∀ y, (u y 0).val = f₁ 0 * tn + 1 * (y 0).val ∧ (u y 1).val = f₁ 1 * K + 1 * (y 1).val)
    (hd : ∀ y, (d y 0).val = f₂ 0 * tm + 1 * (y 0).val ∧ (d y 1).val = f₂ 1 * tn + 1 * (y 1).val) (j : (⟨2, ![tm, tn]⟩ : Shape).Idx) :
    FloatOps.matmul (F := Ideal) (φ₁ := .bf16) (φ₂ := .bf16) (DotDims.transposedRhs tm K tn) none (fun y => A (s y)) (fun y => B (u y))
      (constant ⟨2, ![tm, tn]⟩ .f32 0x00000000#32) j = rr A B (d j) := by
  obtain ⟨a₀, b₀, rfl⟩ : ∃ (x : Fin tm) (y : Fin tn), j = ix2 x y := ⟨j 0, j 1, eq_ix2 j⟩
  obtain ⟨⟨g0, g1⟩, ⟨g2, g3⟩, g4, g5⟩ := hf
  simp only [g0, g1, g2, g3, g4, g5, one_mul, zero_mul, zero_add] at hs hu hd
  rw [Ideal.matmul_transposedRhs_apply]
  refine ((congrArg (· + _) Ideal.ofBits_zero_f32).trans (zero_add _)).trans (Finset.sum_congr rfl fun k _ => ?_)
  exact congrArg₂ (fun x y => A x * B y) (ix_ext ((hs _).1.trans (hd (ix2 a₀ b₀)).1.symm) (hs _).2) (ix_ext ((hu _).1.trans (hd (ix2 a₀ b₀)).2.symm) (hu _).2)

/-! ## A block of a product summed over the blocks of the long axis -/

/-- The columns of a block of `A` against the columns of a block of `B`. -/
abbrev dims (wf : DotDims.WF ⟨2, ![tk, tm]⟩ ⟨2, ![tk, tn]⟩ ⟨2, ![tm, tn]⟩ [0] [0] [1] [1] [] []) :
    DotDims ⟨2, ![tk, tm]⟩ ⟨2, ![tk, tn]⟩ ⟨2, ![tm, tn]⟩ := ⟨[0], [0], [1], [1], [], [], wf⟩

/-- Their product, added to what is there. -/
def added (wf : DotDims.WF ⟨2, ![tk, tm]⟩ ⟨2, ![tk, tn]⟩ ⟨2, ![tm, tn]⟩ [0] [0] [1] [1] [] []) (acc : FVec Ideal ⟨2, ![tm, tn]⟩ .f32)
    (X : FVec Ideal ⟨2, ![tk, tm]⟩ .bf16) (Y : FVec Ideal ⟨2, ![tk, tn]⟩ .bf16) : FVec Ideal ⟨2, ![tm, tn]⟩ .f32 := fun j =>
  acc j + FloatOps.matmul (F := Ideal) (dims wf) none X Y (constant ⟨2, ![tm, tn]⟩ .f32 0x00000000#32) j

theorem matmul_cc (wf : DotDims.WF ⟨2, ![tk, tm]⟩ ⟨2, ![tk, tn]⟩ ⟨2, ![tm, tn]⟩ [0] [0] [1] [1] [] []) (X : FVec Ideal ⟨2, ![tk, tm]⟩ .bf16)
    (Y : FVec Ideal ⟨2, ![tk, tn]⟩ .bf16) (a : Fin tm) (b : Fin tn) :
    FloatOps.matmul (F := Ideal) (dims wf) none X Y (constant ⟨2, ![tm, tn]⟩ .f32 0x00000000#32) (ix2 a b)
      = ∑ k : Fin tk, X (ix2 k a) * Y (ix2 k b) := by
  rw [Ideal.matmul_constant_zero_apply, ← Equiv.sum_comp (contrEquiv1 (dims wf) tk rfl rfl).symm]
  refine Finset.sum_congr rfl fun k _ => ?_
  have hk := contrEquiv1_symm_val (dims wf) tk rfl rfl k
  exact congrArg₂ (fun x y => X x * Y y) (ix_ext (by simp [DotDims.lhsIdx]; exact hk) (by simp [DotDims.lhsIdx]; rfl))
    (ix_ext (by simp [DotDims.rhsIdx]; exact hk) (by simp [DotDims.rhsIdx]; rfl))

/-- The term of the whole sum at `k`, and nothing beyond the axis. -/
def term (A : FVec Ideal ⟨2, ![K, M]⟩ .bf16) (B : FVec Ideal ⟨2, ![K, N]⟩ .bf16) (i : (⟨2, ![M, N]⟩ : Shape).Idx) (k : ℕ) : EReal :=
  if h : k < K then A (ix2 ⟨k, h⟩ (i 0)) * B (ix2 ⟨k, h⟩ (i 1)) else 0

theorem cc_eq (A : FVec Ideal ⟨2, ![K, M]⟩ .bf16) (B : FVec Ideal ⟨2, ![K, N]⟩ .bf16) (i : (⟨2, ![M, N]⟩ : Shape).Idx) :
    cc A B i = ∑ k ∈ Finset.range K, term A B i k := by
  rw [Finset.sum_range]
  exact Finset.sum_congr rfl fun k _ => by rw [term, dif_pos k.isLt]

/-- A sum over a long axis, block by block. -/
theorem sum_blocks (f : ℕ → EReal) (J tk : ℕ) :
    ∑ e ∈ Finset.range J, ∑ k ∈ Finset.range tk, f (e * tk + k) = ∑ k ∈ Finset.range (J * tk), f k := by
  induction J with
  | zero => simp
  | succ J ih => rw [Finset.sum_range_succ, ih, Nat.succ_mul, Finset.sum_range_add]

/-- The fold over the eight points that add to one block. Point `n` reads rows `n % 8 * tk + …` of both operands, columns `r / w * tm + …`
    of `A` and `r % w * tn + …` of `B`; the fold's entry at `j` is the product's at `i`, where `i` lies at `j` in block `(r / w, r % w)`. -/
theorem fold_cc {G : ℕ} (hK : K = 8 * tk) (wf : DotDims.WF ⟨2, ![tk, tm]⟩ ⟨2, ![tk, tn]⟩ ⟨2, ![tm, tn]⟩ [0] [0] [1] [1] [] [])
    (A : FVec Ideal ⟨2, ![K, M]⟩ .bf16) (B : FVec Ideal ⟨2, ![K, N]⟩ .bf16) (r w : ℕ)
    (f₀ f₁ : Fin G → Fin 2 → ℕ) (hf : ∀ t, (f₀ t 0 = t.val % 8 ∧ f₀ t 1 = t.val / 8 / w) ∧ f₁ t 0 = t.val % 8 ∧ f₁ t 1 = t.val / 8 % w)
    (s : Fin G → (⟨2, ![tk, tm]⟩ : Shape).Idx → (⟨2, ![K, M]⟩ : Shape).Idx) (u : Fin G → (⟨2, ![tk, tn]⟩ : Shape).Idx → (⟨2, ![K, N]⟩ : Shape).Idx)
    (hs : ∀ t y, (s t y 0).val = f₀ t 0 * tk + 1 * (y 0).val ∧ (s t y 1).val = f₀ t 1 * tm + 1 * (y 1).val)
    (hu : ∀ t y, (u t y 0).val = f₁ t 0 * tk + 1 * (y 0).val ∧ (u t y 1).val = f₁ t 1 * tn + 1 * (y 1).val)
    (a : (n : ℕ) → n < G → FVec Ideal ⟨2, ![tm, tn]⟩ .f32) (g : (n : ℕ) → n < G → FVec Ideal ⟨2, ![tm, tn]⟩ .f32 → FVec Ideal ⟨2, ![tm, tn]⟩ .f32)
    (ha : ∀ n h, a n h = g n h (fun _ => 0))
    (hg : ∀ n h acc, g n h acc = added wf acc (fun y => A (s ⟨n, h⟩ y)) (fun y => B (u ⟨n, h⟩ y)))
    (h : 8 * r + 7 < G) (i : (⟨2, ![M, N]⟩ : Shape).Idx) (j : (⟨2, ![tm, tn]⟩ : Shape).Idx)
    (hi : (i 0).val = r / w * tm + (j 0).val ∧ (i 1).val = r % w * tn + (j 1).val) :
    Pipeline.accAt a g (8 * r) 7 h j = cc A B i := by
  obtain ⟨a₀, b₀, rfl⟩ : ∃ (x : Fin tm) (y : Fin tn), j = ix2 x y := ⟨j 0, j 1, eq_ix2 j⟩
  have hs' : ∀ t : Fin G, t.val / 8 = r → ∀ y, (s t y 0).val = t.val % 8 * tk + (y 0).val ∧ (s t y 1).val = r / w * tm + (y 1).val := by
    intro t ht y
    have := hs t y
    rwa [(hf t).1.1, (hf t).1.2, ht, one_mul, one_mul] at this
  have hu' : ∀ t : Fin G, t.val / 8 = r → ∀ y, (u t y 0).val = t.val % 8 * tk + (y 0).val ∧ (u t y 1).val = r % w * tn + (y 1).val := by
    intro t ht y
    have := hu t y
    rwa [(hf t).2.1, (hf t).2.2, ht, one_mul, one_mul] at this
  have part : ∀ n (hn : n < G), n / 8 = r → FloatOps.matmul (F := Ideal) (φ₁ := .bf16) (φ₂ := .bf16) (dims wf) none
      (fun y => A (s ⟨n, hn⟩ y)) (fun y => B (u ⟨n, hn⟩ y)) (constant ⟨2, ![tm, tn]⟩ .f32 0x00000000#32) (ix2 a₀ b₀)
        = ∑ k ∈ Finset.range tk, term A B i (n % 8 * tk + k) := by
    intro n hn hr
    rw [matmul_cc, Finset.sum_range]
    refine Finset.sum_congr rfl fun k _ => ?_
    have hk : n % 8 * tk + k.val < K := by
      have := k.isLt
      have h7 : n % 8 ≤ 7 := by omega
      have := Nat.mul_le_mul_right tk h7
      omega
    rw [term, dif_pos hk]
    exact congrArg₂ (fun x y => A x * B y) (ix_ext (hs' ⟨n, hn⟩ hr _).1 ((hs' ⟨n, hn⟩ hr _).2.trans hi.1.symm))
      (ix_ext (hu' ⟨n, hn⟩ hr _).1 ((hu' ⟨n, hn⟩ hr _).2.trans hi.2.symm))
  have one : ∀ (e : ℕ) (he : 8 * r + e < G), e < 8 →
      Pipeline.accAt a g (8 * r) e he (ix2 a₀ b₀) = ∑ x ∈ Finset.range (e + 1), ∑ k ∈ Finset.range tk, term A B i (x * tk + k) := by
    intro e
    induction e with
    | zero =>
      intro he _
      rw [Pipeline.accAt_zero, ha, hg]
      exact (congrArg (0 + ·) (part _ he (by omega))).trans (by simp)
    | succ e ih =>
      intro he h8
      rw [Pipeline.accAt_succ, hg, Finset.sum_range_succ, ← ih (by omega) (by omega)]
      exact congrArg (_ + ·) ((part _ he (by omega)).trans (by rw [show (8 * r + (e + 1)) % 8 = e + 1 by omega]))
  rw [one 7 h (by omega), sum_blocks, cc_eq]
  subst hK
  rfl

end Cert.Product

end
-- ==== Proof.Products.lean ====
/-
The fifteen products of the local step: `A @ B` forwards, `A @ B.T` for the gradients of the activations, `A.T @ B` for those of the
weights. Each call computes a block at a time; its blocks tile the array and hold the reference's product (Product.lean).
-/
module

public import proofs.«01_k».proof.Defs
public import proofs.«01_k».proof.Proof.Gen.MmInBig.Frame
public import proofs.«01_k».proof.Proof.Gen.MmInBigIdeal.Frame
public import proofs.«01_k».proof.Proof.Gen.MmInBigIdeal.Value
public import proofs.«01_k».proof.Proof.Gen.MmInBigRefIdeal.Run
public import proofs.«01_k».proof.Proof.Gen.MmInBigDx.Frame
public import proofs.«01_k».proof.Proof.Gen.MmInBigDxIdeal.Frame
public import proofs.«01_k».proof.Proof.Gen.MmInBigDxIdeal.Value
public import proofs.«01_k».proof.Proof.Gen.MmInBigDxRefIdeal.Run
public import proofs.«01_k».proof.Proof.Gen.MmInBigDw.Frame
public import proofs.«01_k».proof.Proof.Gen.MmInBigDwIdeal.Frame
public import proofs.«01_k».proof.Proof.Gen.MmInBigDwIdeal.Value
public import proofs.«01_k».proof.Proof.Gen.MmInBigDwRefIdeal.Run
public import proofs.«01_k».proof.Proof.Gen.MmInSmall.Frame
public import proofs.«01_k».proof.Proof.Gen.MmInSmallIdeal.Frame
public import proofs.«01_k».proof.Proof.Gen.MmInSmallIdeal.Value
public import proofs.«01_k».proof.Proof.Gen.MmInSmallRefIdeal.Run
public import proofs.«01_k».proof.Proof.Gen.MmInSmallDx.Frame
public import proofs.«01_k».proof.Proof.Gen.MmInSmallDxIdeal.Frame
public import proofs.«01_k».proof.Proof.Gen.MmInSmallDxIdeal.Value
public import proofs.«01_k».proof.Proof.Gen.MmInSmallDxRefIdeal.Run
public import proofs.«01_k».proof.Proof.Gen.MmInSmallDw.Frame
public import proofs.«01_k».proof.Proof.Gen.MmInSmallDwIdeal.Frame
public import proofs.«01_k».proof.Proof.Gen.MmInSmallDwIdeal.Value
public import proofs.«01_k».proof.Proof.Gen.MmInSmallDwRefIdeal.Run
public import proofs.«01_k».proof.Proof.Gen.MmOut.Frame
public import proofs.«01_k».proof.Proof.Gen.MmOutIdeal.Frame
public import proofs.«01_k».proof.Proof.Gen.MmOutIdeal.Value
public import proofs.«01_k».proof.Proof.Gen.MmOutRefIdeal.Run
public import proofs.«01_k».proof.Proof.Gen.MmOutDx.Frame
public import proofs.«01_k».proof.Proof.Gen.MmOutDxIdeal.Frame
public import proofs.«01_k».proof.Proof.Gen.MmOutDxIdeal.Value
public import proofs.«01_k».proof.Proof.Gen.MmOutDxRefIdeal.Run
public import proofs.«01_k».proof.Proof.Gen.MmOutDw.Frame
public import proofs.«01_k».proof.Proof.Gen.MmOutDwIdeal.Frame
public import proofs.«01_k».proof.Proof.Gen.MmOutDwIdeal.Value
public import proofs.«01_k».proof.Proof.Gen.MmOutDwRefIdeal.Run
public import proofs.«01_k».proof.Proof.Gen.MmUp.Frame
public import proofs.«01_k».proof.Proof.Gen.MmUpIdeal.Frame
public import proofs.«01_k».proof.Proof.Gen.MmUpIdeal.Value
public import proofs.«01_k».proof.Proof.Gen.MmUpRefIdeal.Run
public import proofs.«01_k».proof.Proof.Gen.MmUpDx.Frame
public import proofs.«01_k».proof.Proof.Gen.MmUpDxIdeal.Frame
public import proofs.«01_k».proof.Proof.Gen.MmUpDxIdeal.Value
public import proofs.«01_k».proof.Proof.Gen.MmUpDxRefIdeal.Run
public import proofs.«01_k».proof.Proof.Gen.MmUpDw.Frame
public import proofs.«01_k».proof.Proof.Gen.MmUpDwIdeal.Frame
public import proofs.«01_k».proof.Proof.Gen.MmUpDwIdeal.Value
public import proofs.«01_k».proof.Proof.Gen.MmUpDwRefIdeal.Run
public import proofs.«01_k».proof.Proof.Gen.MmDown.Frame
public import proofs.«01_k».proof.Proof.Gen.MmDownIdeal.Frame
public import proofs.«01_k».proof.Proof.Gen.MmDownIdeal.Value
public import proofs.«01_k».proof.Proof.Gen.MmDownRefIdeal.Run
public import proofs.«01_k».proof.Proof.Gen.MmDownDx.Frame
public import proofs.«01_k».proof.Proof.Gen.MmDownDxIdeal.Frame
public import proofs.«01_k».proof.Proof.Gen.MmDownDxIdeal.Value
public import proofs.«01_k».proof.Proof.Gen.MmDownDxRefIdeal.Run
public import proofs.«01_k».proof.Proof.Gen.MmDownDw.Frame
public import proofs.«01_k».proof.Proof.Gen.MmDownDwIdeal.Frame
public import proofs.«01_k».proof.Proof.Gen.MmDownDwIdeal.Value
public import proofs.«01_k».proof.Proof.Gen.MmDownDwRefIdeal.Run
public import proofs.«01_k».proof.Proof.Product

@[expose] public section

noncomputable section

/-! # `A @ B`, a block at a point -/

/-! ## `mm_in_small` -/

namespace Cert.Proof.MmInSmall

open Idealize.ShloMosaic Idealize.ShloMosaic.TcCoe Idealize.SL.Sem Cert.MmInSmallIdeal Cert.MmInSmallIdeal.Gen Cert.MmInSmallIdeal.Value

/-- Which blocks point `t` reads and writes. -/
theorem places : ∀ t : Fin grid0.N, (win0_0.index t (0 : Fin 2) = t.val / 1 ∧ win0_0.index t (1 : Fin 2) = 0)
    ∧ (win0_1.index t (0 : Fin 2) = 0 ∧ win0_1.index t (1 : Fin 2) = t.val % 1)
    ∧ win0_2.index t (0 : Fin 2) = t.val / 1 ∧ win0_2.index t (1 : Fin 2) = t.val % 1 := by decide +kernel

/-- It writes its block of the product. -/
theorem flushed (m : (ℓ : Loc nD τ sig) → Buf (Elt Ideal) ℓ) (c : Dev nD) (t : Fin cfg0.N) :
    (dats m 0 c).flushed 2 t = ((cfg0.win 2).blk t).view.read (Elt Ideal) (Cert.Product.rc (V m c main_arg0) (V m c main_arg1)) := by
  rw [flushed2, out0_2, View.canon_unit_zero Cert.Product.origin, View.ld_unit_zero (S := S512x1024) Cert.Product.origin,
    View.ld_unit_zero (S := S1024x128) Cert.Product.origin]
  exact funext (Cert.Product.block_rc (V m c main_arg0) (V m c main_arg1) _ _ _ (places t) _ _ _ (fun _ => ⟨rfl, rfl⟩) (fun _ => ⟨rfl, rfl⟩)
    (fun _ => ⟨rfl, rfl⟩))

/-- Every entry is written at some point. -/
theorem covered (i : S8192x128.Idx) : ∃ t : Fin cfg0.N, (cfg0.win 2).flush t = true ∧ i ∈ ((cfg0.win 2).blk t).view.set := by
  obtain ⟨t, ht⟩ := Cert.Product.tile (M := 8192) (N := 128) (tm := 512) (tn := 128) 16 1 N_0 rfl rfl (fun t => win0_2.index t) (fun t => (places t).2.2) i
  exact ⟨t, flush0_2 t, by rw [View.set_slice_whole, Rect.mem_set_unit]; exact ht⟩

theorem frame_ref : Cert.quiescent_MmInSmallRefIdeal := fun m ρ _ =>
  (θ_run Cert.MmInSmallRefIdeal.defs _ _).mono (fun r h => ⟨fun c => (h c).2, sem_eq_zero_of_no_sems (by decide) r.2⟩)
    (Cert.MmInSmallRefIdeal.Value.run (F := Ideal) m ρ)

theorem algebraic : Cert.algebraic_MmInSmallIdeal_MmInSmallRefIdeal := by
  intro m g m' g' _ hin
  refine ⟨_, (θ_run Cert.MmInSmallIdeal.defs _ _).mono (fun r h c => ⟨((h c).1.trans ((dats m 0 c).arrAt_eq_of_cover 2 _
    (fun t _ => flushed m c t) covered)).trans ?_, (h c).2⟩) (run_blocks (F := Ideal) m g), Cert.MmInSmallRefIdeal.Value.run (F := Ideal) m' g'⟩
  rw [(hin c).1, (hin c).2, V_main_arg0, V_main_arg1]
  exact (Cert.Product.host_rc _ _ _).symm

end Cert.Proof.MmInSmall

/-! ## `mm_in_big` -/

namespace Cert.Proof.MmInBig

open Idealize.ShloMosaic Idealize.ShloMosaic.TcCoe Idealize.SL.Sem Cert.MmInBigIdeal Cert.MmInBigIdeal.Gen Cert.MmInBigIdeal.Value

theorem places : ∀ t : Fin grid0.N, (win0_0.index t (0 : Fin 2) = t.val / 13 ∧ win0_0.index t (1 : Fin 2) = 0)
    ∧ (win0_1.index t (0 : Fin 2) = 0 ∧ win0_1.index t (1 : Fin 2) = t.val % 13)
    ∧ win0_2.index t (0 : Fin 2) = t.val / 13 ∧ win0_2.index t (1 : Fin 2) = t.val % 13 := by decide +kernel

theorem flushed (m : (ℓ : Loc nD τ sig) → Buf (Elt Ideal) ℓ) (c : Dev nD) (t : Fin cfg0.N) :
    (dats m 0 c).flushed 2 t = ((cfg0.win 2).blk t).view.read (Elt Ideal) (Cert.Product.rc (V m c main_arg0) (V m c main_arg1)) := by
  rw [flushed2, out0_2, View.canon_unit_zero Cert.Product.origin, View.ld_unit_zero (S := S512x1024) Cert.Product.origin,
    View.ld_unit_zero (S := S1024x512) Cert.Product.origin]
  exact funext (Cert.Product.block_rc (V m c main_arg0) (V m c main_arg1) _ _ _ (places t) _ _ _ (fun _ => ⟨rfl, rfl⟩) (fun _ => ⟨rfl, rfl⟩)
    (fun _ => ⟨rfl, rfl⟩))

theorem covered (i : S8192x6656.Idx) : ∃ t : Fin cfg0.N, (cfg0.win 2).flush t = true ∧ i ∈ ((cfg0.win 2).blk t).view.set := by
  obtain ⟨t, ht⟩ := Cert.Product.tile (M := 8192) (N := 6656) (tm := 512) (tn := 512) 16 13 N_0 rfl rfl (fun t => win0_2.index t)
    (fun t => (places t).2.2) i
  exact ⟨t, flush0_2 t, by rw [View.set_slice_whole, Rect.mem_set_unit]; exact ht⟩

theorem frame_ref : Cert.quiescent_MmInBigRefIdeal := fun m ρ _ =>
  (θ_run Cert.MmInBigRefIdeal.defs _ _).mono (fun r h => ⟨fun c => (h c).2, sem_eq_zero_of_no_sems (by decide) r.2⟩)
    (Cert.MmInBigRefIdeal.Value.run (F := Ideal) m ρ)

theorem algebraic : Cert.algebraic_MmInBigIdeal_MmInBigRefIdeal := by
  intro m g m' g' _ hin
  refine ⟨_, (θ_run Cert.MmInBigIdeal.defs _ _).mono (fun r h c => ⟨((h c).1.trans ((dats m 0 c).arrAt_eq_of_cover 2 _
    (fun t _ => flushed m c t) covered)).trans ?_, (h c).2⟩) (run_blocks (F := Ideal) m g), Cert.MmInBigRefIdeal.Value.run (F := Ideal) m' g'⟩
  rw [(hin c).1, (hin c).2, V_main_arg0, V_main_arg1]
  exact (Cert.Product.host_rc _ _ _).symm

end Cert.Proof.MmInBig

/-! ## `mm_out` -/

namespace Cert.Proof.MmOut

open Idealize.ShloMosaic Idealize.ShloMosaic.TcCoe Idealize.SL.Sem Cert.MmOutIdeal Cert.MmOutIdeal.Gen Cert.MmOutIdeal.Value

theorem places : ∀ t : Fin grid0.N, (win0_0.index t (0 : Fin 2) = t.val / 2 ∧ win0_0.index t (1 : Fin 2) = 0)
    ∧ (win0_1.index t (0 : Fin 2) = 0 ∧ win0_1.index t (1 : Fin 2) = t.val % 2)
    ∧ win0_2.index t (0 : Fin 2) = t.val / 2 ∧ win0_2.index t (1 : Fin 2) = t.val % 2 := by decide +kernel

theorem flushed (m : (ℓ : Loc nD τ sig) → Buf (Elt Ideal) ℓ) (c : Dev nD) (t : Fin cfg0.N) :
    (dats m 0 c).flushed 2 t = ((cfg0.win 2).blk t).view.read (Elt Ideal) (Cert.Product.rc (V m c main_arg0) (V m c main_arg1)) := by
  rw [flushed2, out0_2, View.canon_unit_zero Cert.Product.origin, View.ld_unit_zero (S := S512x2048) Cert.Product.origin,
    View.ld_unit_zero (S := S2048x512) Cert.Product.origin]
  exact funext (Cert.Product.block_rc (V m c main_arg0) (V m c main_arg1) _ _ _ (places t) _ _ _ (fun _ => ⟨rfl, rfl⟩) (fun _ => ⟨rfl, rfl⟩)
    (fun _ => ⟨rfl, rfl⟩))

theorem covered (i : S8192x1024.Idx) : ∃ t : Fin cfg0.N, (cfg0.win 2).flush t = true ∧ i ∈ ((cfg0.win 2).blk t).view.set := by
  obtain ⟨t, ht⟩ := Cert.Product.tile (M := 8192) (N := 1024) (tm := 512) (tn := 512) 16 2 N_0 rfl rfl (fun t => win0_2.index t)
    (fun t => (places t).2.2) i
  exact ⟨t, flush0_2 t, by rw [View.set_slice_whole, Rect.mem_set_unit]; exact ht⟩

theorem frame_ref : Cert.quiescent_MmOutRefIdeal := fun m ρ _ =>
  (θ_run Cert.MmOutRefIdeal.defs _ _).mono (fun r h => ⟨fun c => (h c).2, sem_eq_zero_of_no_sems (by decide) r.2⟩)
    (Cert.MmOutRefIdeal.Value.run (F := Ideal) m ρ)

theorem algebraic : Cert.algebraic_MmOutIdeal_MmOutRefIdeal := by
  intro m g m' g' _ hin
  refine ⟨_, (θ_run Cert.MmOutIdeal.defs _ _).mono (fun r h c => ⟨((h c).1.trans ((dats m 0 c).arrAt_eq_of_cover 2 _
    (fun t _ => flushed m c t) covered)).trans ?_, (h c).2⟩) (run_blocks (F := Ideal) m g), Cert.MmOutRefIdeal.Value.run (F := Ideal) m' g'⟩
  rw [(hin c).1, (hin c).2, V_main_arg0, V_main_arg1]
  exact (Cert.Product.host_rc _ _ _).symm

end Cert.Proof.MmOut

/-! ## `mm_up` -/

namespace Cert.Proof.MmUp

open Idealize.ShloMosaic Idealize.ShloMosaic.TcCoe Idealize.SL.Sem Cert.MmUpIdeal Cert.MmUpIdeal.Gen Cert.MmUpIdeal.Value

theorem places : ∀ t : Fin grid0.N, (win0_0.index t (0 : Fin 2) = t.val / 11 ∧ win0_0.index t (1 : Fin 2) = 0)
    ∧ (win0_1.index t (0 : Fin 2) = 0 ∧ win0_1.index t (1 : Fin 2) = t.val % 11)
    ∧ win0_2.index t (0 : Fin 2) = t.val / 11 ∧ win0_2.index t (1 : Fin 2) = t.val % 11 := by decide +kernel

theorem flushed (m : (ℓ : Loc nD τ sig) → Buf (Elt Ideal) ℓ) (c : Dev nD) (t : Fin cfg0.N) :
    (dats m 0 c).flushed 2 t = ((cfg0.win 2).blk t).view.read (Elt Ideal) (Cert.Product.rc (V m c main_arg0) (V m c main_arg1)) := by
  rw [flushed2, out0_2, View.canon_unit_zero Cert.Product.origin, View.ld_unit_zero (S := S512x1024) Cert.Product.origin,
    View.ld_unit_zero (S := S1024x512) Cert.Product.origin]
  exact funext (Cert.Product.block_rc (V m c main_arg0) (V m c main_arg1) _ _ _ (places t) _ _ _ (fun _ => ⟨rfl, rfl⟩) (fun _ => ⟨rfl, rfl⟩)
    (fun _ => ⟨rfl, rfl⟩))

theorem covered (i : S8192x5632.Idx) : ∃ t : Fin cfg0.N, (cfg0.win 2).flush t = true ∧ i ∈ ((cfg0.win 2).blk t).view.set := by
  obtain ⟨t, ht⟩ := Cert.Product.tile (M := 8192) (N := 5632) (tm := 512) (tn := 512) 16 11 N_0 rfl rfl (fun t => win0_2.index t)
    (fun t => (places t).2.2) i
  exact ⟨t, flush0_2 t, by rw [View.set_slice_whole, Rect.mem_set_unit]; exact ht⟩

theorem frame_ref : Cert.quiescent_MmUpRefIdeal := fun m ρ _ =>
  (θ_run Cert.MmUpRefIdeal.defs _ _).mono (fun r h => ⟨fun c => (h c).2, sem_eq_zero_of_no_sems (by decide) r.2⟩)
    (Cert.MmUpRefIdeal.Value.run (F := Ideal) m ρ)

theorem algebraic : Cert.algebraic_MmUpIdeal_MmUpRefIdeal := by
  intro m g m' g' _ hin
  refine ⟨_, (θ_run Cert.MmUpIdeal.defs _ _).mono (fun r h c => ⟨((h c).1.trans ((dats m 0 c).arrAt_eq_of_cover 2 _
    (fun t _ => flushed m c t) covered)).trans ?_, (h c).2⟩) (run_blocks (F := Ideal) m g), Cert.MmUpRefIdeal.Value.run (F := Ideal) m' g'⟩
  rw [(hin c).1, (hin c).2, V_main_arg0, V_main_arg1]
  exact (Cert.Product.host_rc _ _ _).symm

end Cert.Proof.MmUp

/-! ## `mm_down` -/

namespace Cert.Proof.MmDown

open Idealize.ShloMosaic Idealize.ShloMosaic.TcCoe Idealize.SL.Sem Cert.MmDownIdeal Cert.MmDownIdeal.Gen Cert.MmDownIdeal.Value

theorem places : ∀ t : Fin grid0.N, (win0_0.index t (0 : Fin 2) = t.val / 2 ∧ win0_0.index t (1 : Fin 2) = 0)
    ∧ (win0_1.index t (0 : Fin 2) = 0 ∧ win0_1.index t (1 : Fin 2) = t.val % 2)
    ∧ win0_2.index t (0 : Fin 2) = t.val / 2 ∧ win0_2.index t (1 : Fin 2) = t.val % 2 := by decide +kernel

theorem flushed (m : (ℓ : Loc nD τ sig) → Buf (Elt Ideal) ℓ) (c : Dev nD) (t : Fin cfg0.N) :
    (dats m 0 c).flushed 2 t = ((cfg0.win 2).blk t).view.read (Elt Ideal) (Cert.Product.rc (V m c main_arg0) (V m c main_arg1)) := by
  rw [flushed2, out0_2, View.canon_unit_zero Cert.Product.origin, View.ld_unit_zero (S := S512x2816) Cert.Product.origin,
    View.ld_unit_zero (S := S2816x512) Cert.Product.origin]
  exact funext (Cert.Product.block_rc (V m c main_arg0) (V m c main_arg1) _ _ _ (places t) _ _ _ (fun _ => ⟨rfl, rfl⟩) (fun _ => ⟨rfl, rfl⟩)
    (fun _ => ⟨rfl, rfl⟩))

theorem covered (i : S8192x1024.Idx) : ∃ t : Fin cfg0.N, (cfg0.win 2).flush t = true ∧ i ∈ ((cfg0.win 2).blk t).view.set := by
  obtain ⟨t, ht⟩ := Cert.Product.tile (M := 8192) (N := 1024) (tm := 512) (tn := 512) 16 2 N_0 rfl rfl (fun t => win0_2.index t)
    (fun t => (places t).2.2) i
  exact ⟨t, flush0_2 t, by rw [View.set_slice_whole, Rect.mem_set_unit]; exact ht⟩

theorem frame_ref : Cert.quiescent_MmDownRefIdeal := fun m ρ _ =>
  (θ_run Cert.MmDownRefIdeal.defs _ _).mono (fun r h => ⟨fun c => (h c).2, sem_eq_zero_of_no_sems (by decide) r.2⟩)
    (Cert.MmDownRefIdeal.Value.run (F := Ideal) m ρ)

theorem algebraic : Cert.algebraic_MmDownIdeal_MmDownRefIdeal := by
  intro m g m' g' _ hin
  refine ⟨_, (θ_run Cert.MmDownIdeal.defs _ _).mono (fun r h c => ⟨((h c).1.trans ((dats m 0 c).arrAt_eq_of_cover 2 _
    (fun t _ => flushed m c t) covered)).trans ?_, (h c).2⟩) (run_blocks (F := Ideal) m g), Cert.MmDownRefIdeal.Value.run (F := Ideal) m' g'⟩
  rw [(hin c).1, (hin c).2, V_main_arg0, V_main_arg1]
  exact (Cert.Product.host_rc _ _ _).symm

end Cert.Proof.MmDown

/-! # `A @ B.T`, a block at a point -/

/-! ## `mm_in_small_dx` -/

namespace Cert.Proof.MmInSmallDx

open Idealize.ShloMosaic Idealize.ShloMosaic.TcCoe Idealize.SL.Sem Cert.MmInSmallDxIdeal Cert.MmInSmallDxIdeal.Gen Cert.MmInSmallDxIdeal.Value

theorem places : ∀ t : Fin grid0.N, (win0_0.index t (0 : Fin 2) = t.val / 2 ∧ win0_0.index t (1 : Fin 2) = 0)
    ∧ (win0_1.index t (0 : Fin 2) = t.val % 2 ∧ win0_1.index t (1 : Fin 2) = 0)
    ∧ win0_2.index t (0 : Fin 2) = t.val / 2 ∧ win0_2.index t (1 : Fin 2) = t.val % 2 := by decide +kernel

theorem flushed (m : (ℓ : Loc nD τ sig) → Buf (Elt Ideal) ℓ) (c : Dev nD) (t : Fin cfg0.N) :
    (dats m 0 c).flushed 2 t = ((cfg0.win 2).blk t).view.read (Elt Ideal) (Cert.Product.rr (V m c main_arg0) (V m c main_arg1)) := by
  rw [flushed2, out0_2, View.canon_unit_zero Cert.Product.origin, View.ld_unit_zero (S := S512x128) Cert.Product.origin,
    View.ld_unit_zero (S := S512x128) Cert.Product.origin]
  exact funext (Cert.Product.block_rr (V m c main_arg0) (V m c main_arg1) _ _ _ (places t) _ _ _ (fun _ => ⟨rfl, rfl⟩) (fun _ => ⟨rfl, rfl⟩)
    (fun _ => ⟨rfl, rfl⟩))

theorem covered (i : S8192x1024.Idx) : ∃ t : Fin cfg0.N, (cfg0.win 2).flush t = true ∧ i ∈ ((cfg0.win 2).blk t).view.set := by
  obtain ⟨t, ht⟩ := Cert.Product.tile (M := 8192) (N := 1024) (tm := 512) (tn := 512) 16 2 N_0 rfl rfl (fun t => win0_2.index t)
    (fun t => (places t).2.2) i
  exact ⟨t, flush0_2 t, by rw [View.set_slice_whole, Rect.mem_set_unit]; exact ht⟩

theorem frame_ref : Cert.quiescent_MmInSmallDxRefIdeal := fun m ρ _ =>
  (θ_run Cert.MmInSmallDxRefIdeal.defs _ _).mono (fun r h => ⟨fun c => (h c).2, sem_eq_zero_of_no_sems (by decide) r.2⟩)
    (Cert.MmInSmallDxRefIdeal.Value.run (F := Ideal) m ρ)

theorem algebraic : Cert.algebraic_MmInSmallDxIdeal_MmInSmallDxRefIdeal := by
  intro m g m' g' _ hin
  refine ⟨_, (θ_run Cert.MmInSmallDxIdeal.defs _ _).mono (fun r h c => ⟨((h c).1.trans ((dats m 0 c).arrAt_eq_of_cover 2 _
    (fun t _ => flushed m c t) covered)).trans ?_, (h c).2⟩) (run_blocks (F := Ideal) m g), Cert.MmInSmallDxRefIdeal.Value.run (F := Ideal) m' g'⟩
  rw [(hin c).1, (hin c).2, V_main_arg0, V_main_arg1]
  exact (Cert.Product.host_rr _ _ _ _).symm

end Cert.Proof.MmInSmallDx

/-! ## `mm_in_big_dx` -/

namespace Cert.Proof.MmInBigDx

open Idealize.ShloMosaic Idealize.ShloMosaic.TcCoe Idealize.SL.Sem Cert.MmInBigDxIdeal Cert.MmInBigDxIdeal.Gen Cert.MmInBigDxIdeal.Value

theorem places : ∀ t : Fin grid0.N, (win0_0.index t (0 : Fin 2) = t.val / 2 ∧ win0_0.index t (1 : Fin 2) = 0)
    ∧ (win0_1.index t (0 : Fin 2) = t.val % 2 ∧ win0_1.index t (1 : Fin 2) = 0)
    ∧ win0_2.index t (0 : Fin 2) = t.val / 2 ∧ win0_2.index t (1 : Fin 2) = t.val % 2 := by decide +kernel

set_option maxRecDepth 16384 in
theorem flushed (m : (ℓ : Loc nD τ sig) → Buf (Elt Ideal) ℓ) (c : Dev nD) (t : Fin cfg0.N) :
    (dats m 0 c).flushed 2 t = ((cfg0.win 2).blk t).view.read (Elt Ideal) (Cert.Product.rr (V m c main_arg0) (V m c main_arg1)) := by
  rw [flushed2, out0_2, View.canon_unit_zero Cert.Product.origin, View.ld_unit_zero (S := S512x6656) Cert.Product.origin,
    View.ld_unit_zero (S := S512x6656) Cert.Product.origin]
  exact funext (Cert.Product.block_rr (V m c main_arg0) (V m c main_arg1) _ _ _ (places t) _ _ _ (fun _ => ⟨rfl, rfl⟩) (fun _ => ⟨rfl, rfl⟩)
    (fun _ => ⟨rfl, rfl⟩))

theorem covered (i : S8192x1024.Idx) : ∃ t : Fin cfg0.N, (cfg0.win 2).flush t = true ∧ i ∈ ((cfg0.win 2).blk t).view.set := by
  obtain ⟨t, ht⟩ := Cert.Product.tile (M := 8192) (N := 1024) (tm := 512) (tn := 512) 16 2 N_0 rfl rfl (fun t => win0_2.index t)
    (fun t => (places t).2.2) i
  exact ⟨t, flush0_2 t, by rw [View.set_slice_whole, Rect.mem_set_unit]; exact ht⟩

theorem frame_ref : Cert.quiescent_MmInBigDxRefIdeal := fun m ρ _ =>
  (θ_run Cert.MmInBigDxRefIdeal.defs _ _).mono (fun r h => ⟨fun c => (h c).2, sem_eq_zero_of_no_sems (by decide) r.2⟩)
    (Cert.MmInBigDxRefIdeal.Value.run (F := Ideal) m ρ)

theorem algebraic : Cert.algebraic_MmInBigDxIdeal_MmInBigDxRefIdeal := by
  intro m g m' g' _ hin
  refine ⟨_, (θ_run Cert.MmInBigDxIdeal.defs _ _).mono (fun r h c => ⟨((h c).1.trans ((dats m 0 c).arrAt_eq_of_cover 2 _
    (fun t _ => flushed m c t) covered)).trans ?_, (h c).2⟩) (run_blocks (F := Ideal) m g), Cert.MmInBigDxRefIdeal.Value.run (F := Ideal) m' g'⟩
  rw [(hin c).1, (hin c).2, V_main_arg0, V_main_arg1]
  exact (Cert.Product.host_rr _ _ _ _).symm

end Cert.Proof.MmInBigDx

/-! ## `mm_out_dx` -/

namespace Cert.Proof.MmOutDx

open Idealize.ShloMosaic Idealize.ShloMosaic.TcCoe Idealize.SL.Sem Cert.MmOutDxIdeal Cert.MmOutDxIdeal.Gen Cert.MmOutDxIdeal.Value

theorem places : ∀ t : Fin grid0.N, (win0_0.index t (0 : Fin 2) = t.val / 4 ∧ win0_0.index t (1 : Fin 2) = 0)
    ∧ (win0_1.index t (0 : Fin 2) = t.val % 4 ∧ win0_1.index t (1 : Fin 2) = 0)
    ∧ win0_2.index t (0 : Fin 2) = t.val / 4 ∧ win0_2.index t (1 : Fin 2) = t.val % 4 := by decide +kernel

theorem flushed (m : (ℓ : Loc nD τ sig) → Buf (Elt Ideal) ℓ) (c : Dev nD) (t : Fin cfg0.N) :
    (dats m 0 c).flushed 2 t = ((cfg0.win 2).blk t).view.read (Elt Ideal) (Cert.Product.rr (V m c main_arg0) (V m c main_arg1)) := by
  rw [flushed2, out0_2, View.canon_unit_zero Cert.Product.origin, View.ld_unit_zero (S := S512x1024) Cert.Product.origin,
    View.ld_unit_zero (S := S512x1024) Cert.Product.origin]
  exact funext (Cert.Product.block_rr (V m c main_arg0) (V m c main_arg1) _ _ _ (places t) _ _ _ (fun _ => ⟨rfl, rfl⟩) (fun _ => ⟨rfl, rfl⟩)
    (fun _ => ⟨rfl, rfl⟩))

theorem covered (i : S8192x2048.Idx) : ∃ t : Fin cfg0.N, (cfg0.win 2).flush t = true ∧ i ∈ ((cfg0.win 2).blk t).view.set := by
  obtain ⟨t, ht⟩ := Cert.Product.tile (M := 8192) (N := 2048) (tm := 512) (tn := 512) 16 4 N_0 rfl rfl (fun t => win0_2.index t)
    (fun t => (places t).2.2) i
  exact ⟨t, flush0_2 t, by rw [View.set_slice_whole, Rect.mem_set_unit]; exact ht⟩

theorem frame_ref : Cert.quiescent_MmOutDxRefIdeal := fun m ρ _ =>
  (θ_run Cert.MmOutDxRefIdeal.defs _ _).mono (fun r h => ⟨fun c => (h c).2, sem_eq_zero_of_no_sems (by decide) r.2⟩)
    (Cert.MmOutDxRefIdeal.Value.run (F := Ideal) m ρ)

theorem algebraic : Cert.algebraic_MmOutDxIdeal_MmOutDxRefIdeal := by
  intro m g m' g' _ hin
  refine ⟨_, (θ_run Cert.MmOutDxIdeal.defs _ _).mono (fun r h c => ⟨((h c).1.trans ((dats m 0 c).arrAt_eq_of_cover 2 _
    (fun t _ => flushed m c t) covered)).trans ?_, (h c).2⟩) (run_blocks (F := Ideal) m g), Cert.MmOutDxRefIdeal.Value.run (F := Ideal) m' g'⟩
  rw [(hin c).1, (hin c).2, V_main_arg0, V_main_arg1]
  exact (Cert.Product.host_rr _ _ _ _).symm

end Cert.Proof.MmOutDx

/-! ## `mm_up_dx` -/

namespace Cert.Proof.MmUpDx

open Idealize.ShloMosaic Idealize.ShloMosaic.TcCoe Idealize.SL.Sem Cert.MmUpDxIdeal Cert.MmUpDxIdeal.Gen Cert.MmUpDxIdeal.Value

theorem places : ∀ t : Fin grid0.N, (win0_0.index t (0 : Fin 2) = t.val / 2 ∧ win0_0.index t (1 : Fin 2) = 0)
    ∧ (win0_1.index t (0 : Fin 2) = t.val % 2 ∧ win0_1.index t (1 : Fin 2) = 0)
    ∧ win0_2.index t (0 : Fin 2) = t.val / 2 ∧ win0_2.index t (1 : Fin 2) = t.val % 2 := by decide +kernel

set_option maxRecDepth 16384 in
theorem flushed (m : (ℓ : Loc nD τ sig) → Buf (Elt Ideal) ℓ) (c : Dev nD) (t : Fin cfg0.N) :
    (dats m 0 c).flushed 2 t = ((cfg0.win 2).blk t).view.read (Elt Ideal) (Cert.Product.rr (V m c main_arg0) (V m c main_arg1)) := by
  rw [flushed2, out0_2, View.canon_unit_zero Cert.Product.origin, View.ld_unit_zero (S := S512x5632) Cert.Product.origin,
    View.ld_unit_zero (S := S512x5632) Cert.Product.origin]
  exact funext (Cert.Product.block_rr (V m c main_arg0) (V m c main_arg1) _ _ _ (places t) _ _ _ (fun _ => ⟨rfl, rfl⟩) (fun _ => ⟨rfl, rfl⟩)
    (fun _ => ⟨rfl, rfl⟩))

theorem covered (i : S8192x1024.Idx) : ∃ t : Fin cfg0.N, (cfg0.win 2).flush t = true ∧ i ∈ ((cfg0.win 2).blk t).view.set := by
  obtain ⟨t, ht⟩ := Cert.Product.tile (M := 8192) (N := 1024) (tm := 512) (tn := 512) 16 2 N_0 rfl rfl (fun t => win0_2.index t)
    (fun t => (places t).2.2) i
  exact ⟨t, flush0_2 t, by rw [View.set_slice_whole, Rect.mem_set_unit]; exact ht⟩

theorem frame_ref : Cert.quiescent_MmUpDxRefIdeal := fun m ρ _ =>
  (θ_run Cert.MmUpDxRefIdeal.defs _ _).mono (fun r h => ⟨fun c => (h c).2, sem_eq_zero_of_no_sems (by decide) r.2⟩)
    (Cert.MmUpDxRefIdeal.Value.run (F := Ideal) m ρ)

theorem algebraic : Cert.algebraic_MmUpDxIdeal_MmUpDxRefIdeal := by
  intro m g m' g' _ hin
  refine ⟨_, (θ_run Cert.MmUpDxIdeal.defs _ _).mono (fun r h c => ⟨((h c).1.trans ((dats m 0 c).arrAt_eq_of_cover 2 _
    (fun t _ => flushed m c t) covered)).trans ?_, (h c).2⟩) (run_blocks (F := Ideal) m g), Cert.MmUpDxRefIdeal.Value.run (F := Ideal) m' g'⟩
  rw [(hin c).1, (hin c).2, V_main_arg0, V_main_arg1]
  exact (Cert.Product.host_rr _ _ _ _).symm

end Cert.Proof.MmUpDx

/-! ## `mm_down_dx` -/

namespace Cert.Proof.MmDownDx

open Idealize.ShloMosaic Idealize.ShloMosaic.TcCoe Idealize.SL.Sem Cert.MmDownDxIdeal Cert.MmDownDxIdeal.Gen Cert.MmDownDxIdeal.Value

theorem places : ∀ t : Fin grid0.N, (win0_0.index t (0 : Fin 2) = t.val / 11 ∧ win0_0.index t (1 : Fin 2) = 0)
    ∧ (win0_1.index t (0 : Fin 2) = t.val % 11 ∧ win0_1.index t (1 : Fin 2) = 0)
    ∧ win0_2.index t (0 : Fin 2) = t.val / 11 ∧ win0_2.index t (1 : Fin 2) = t.val % 11 := by decide +kernel

theorem flushed (m : (ℓ : Loc nD τ sig) → Buf (Elt Ideal) ℓ) (c : Dev nD) (t : Fin cfg0.N) :
    (dats m 0 c).flushed 2 t = ((cfg0.win 2).blk t).view.read (Elt Ideal) (Cert.Product.rr (V m c main_arg0) (V m c main_arg1)) := by
  rw [flushed2, out0_2, View.canon_unit_zero Cert.Product.origin, View.ld_unit_zero (S := S512x1024) Cert.Product.origin,
    View.ld_unit_zero (S := S256x1024) Cert.Product.origin]
  exact funext (Cert.Product.block_rr (V m c main_arg0) (V m c main_arg1) _ _ _ (places t) _ _ _ (fun _ => ⟨rfl, rfl⟩) (fun _ => ⟨rfl, rfl⟩)
    (fun _ => ⟨rfl, rfl⟩))

theorem covered (i : S8192x2816.Idx) : ∃ t : Fin cfg0.N, (cfg0.win 2).flush t = true ∧ i ∈ ((cfg0.win 2).blk t).view.set := by
  obtain ⟨t, ht⟩ := Cert.Product.tile (M := 8192) (N := 2816) (tm := 512) (tn := 256) 16 11 N_0 rfl rfl (fun t => win0_2.index t)
    (fun t => (places t).2.2) i
  exact ⟨t, flush0_2 t, by rw [View.set_slice_whole, Rect.mem_set_unit]; exact ht⟩

theorem frame_ref : Cert.quiescent_MmDownDxRefIdeal := fun m ρ _ =>
  (θ_run Cert.MmDownDxRefIdeal.defs _ _).mono (fun r h => ⟨fun c => (h c).2, sem_eq_zero_of_no_sems (by decide) r.2⟩)
    (Cert.MmDownDxRefIdeal.Value.run (F := Ideal) m ρ)

theorem algebraic : Cert.algebraic_MmDownDxIdeal_MmDownDxRefIdeal := by
  intro m g m' g' _ hin
  refine ⟨_, (θ_run Cert.MmDownDxIdeal.defs _ _).mono (fun r h c => ⟨((h c).1.trans ((dats m 0 c).arrAt_eq_of_cover 2 _
    (fun t _ => flushed m c t) covered)).trans ?_, (h c).2⟩) (run_blocks (F := Ideal) m g), Cert.MmDownDxRefIdeal.Value.run (F := Ideal) m' g'⟩
  rw [(hin c).1, (hin c).2, V_main_arg0, V_main_arg1]
  exact (Cert.Product.host_rr _ _ _ _).symm

end Cert.Proof.MmDownDx

/-! # `A.T @ B`, added up over eight points -/

/-! ## `mm_in_small_dw` -/

namespace Cert.Proof.MmInSmallDw

open Idealize.ShloMosaic Idealize.ShloMosaic.TcCoe Idealize.SL.Sem Cert.MmInSmallDwIdeal Cert.MmInSmallDwIdeal.Gen Cert.MmInSmallDwIdeal.Value

/-- Which blocks point `t` reads. -/
theorem places : ∀ t : Fin grid0.N, (win0_0.index t (0 : Fin 2) = t.val % 8 ∧ win0_0.index t (1 : Fin 2) = t.val / 8 / 1)
    ∧ win0_1.index t (0 : Fin 2) = t.val % 8 ∧ win0_1.index t (1 : Fin 2) = t.val / 8 % 1 := by decide +kernel

/-- A point adds the product of the two blocks it reads. -/
theorem payload (acc : Vec Ideal S1024x128 .f32) (x0 : Vec Ideal S1024x1024 .bf16) (x1 : Vec Ideal S1024x128 .bf16) : k0_pay2 acc x0 x1
    = Cert.Product.added dot_S1024x1024_S1024x128_S1024x128_0_0_1_1_n_n.wf acc x0 x1 := by
  rw [k0_pay2, shapeCast_self]
  rfl

/-- The array the call leaves. -/
theorem value (m : (ℓ : Loc nD τ sig) → Buf (Elt Ideal) ℓ) (c : Dev nD) : G2 m c = Cert.Product.cc (V m c main_arg0) (V m c main_arg1) := by
  funext i
  have h0 : (i 0).val < 1024 := (i 0).isLt
  have h1 : (i 1).val < 128 := (i 1).isLt
  have hN : cfg0.N = 8 := N_0
  rw [G2, dif_pos (by dsimp only [run2Of]; omega)]
  exact Cert.Product.fold_cc rfl dot_S1024x1024_S1024x128_S1024x128_0_0_1_1_n_n.wf (V m c main_arg0) (V m c main_arg1) (run2Of i) 1
    (fun t => win0_0.index t) (fun t => win0_1.index t) places (fun t => ((cfg0.win 0).blk t).view.emb) (fun t => ((cfg0.win 1).blk t).view.emb)
    (fun _ _ => ⟨rfl, rfl⟩) (fun _ _ => ⟨rfl, rfl⟩) (reset2 m c) (step2 m c)
    (fun n h => congrArg (k0_pay2 · (iblk m c 0 ⟨n, h⟩) (iblk m c 1 ⟨n, h⟩)) (funext fun _ => Ideal.ofBits_zero_f32))
    (fun n h acc => payload acc (iblk m c 0 ⟨n, h⟩) (iblk m c 1 ⟨n, h⟩)) _ i (loc2Of i)
    (by dsimp only [loc2Of, run2Of]; omega)

theorem frame_ref : Cert.quiescent_MmInSmallDwRefIdeal := fun m ρ _ =>
  (θ_run Cert.MmInSmallDwRefIdeal.defs _ _).mono (fun r h => ⟨fun c => (h c).2, sem_eq_zero_of_no_sems (by decide) r.2⟩)
    (Cert.MmInSmallDwRefIdeal.Value.run (F := Ideal) m ρ)

theorem algebraic : Cert.algebraic_MmInSmallDwIdeal_MmInSmallDwRefIdeal := by
  intro m g m' g' _ hin
  refine ⟨_, (θ_run Cert.MmInSmallDwIdeal.defs _ _).mono (fun r h c => ⟨((h c).1.trans (value m c)).trans ?_, (h c).2⟩)
    (run (F := Ideal) m g), Cert.MmInSmallDwRefIdeal.Value.run (F := Ideal) m' g'⟩
  rw [(hin c).1, (hin c).2, V_main_arg0, V_main_arg1]
  exact (Cert.Product.host_cc _ _ _ _).symm

end Cert.Proof.MmInSmallDw

/-! ## `mm_in_big_dw` -/

namespace Cert.Proof.MmInBigDw

open Idealize.ShloMosaic Idealize.ShloMosaic.TcCoe Idealize.SL.Sem Cert.MmInBigDwIdeal Cert.MmInBigDwIdeal.Gen Cert.MmInBigDwIdeal.Value

theorem places : ∀ t : Fin grid0.N, (win0_0.index t (0 : Fin 2) = t.val % 8 ∧ win0_0.index t (1 : Fin 2) = t.val / 8 / 13)
    ∧ win0_1.index t (0 : Fin 2) = t.val % 8 ∧ win0_1.index t (1 : Fin 2) = t.val / 8 % 13 := by decide +kernel

theorem payload (acc : Vec Ideal S1024x512 .f32) (x0 : Vec Ideal S1024x1024 .bf16) (x1 : Vec Ideal S1024x512 .bf16) : k0_pay2 acc x0 x1
    = Cert.Product.added dot_S1024x1024_S1024x512_S1024x512_0_0_1_1_n_n.wf acc x0 x1 := by
  rw [k0_pay2, shapeCast_self]
  rfl

theorem value (m : (ℓ : Loc nD τ sig) → Buf (Elt Ideal) ℓ) (c : Dev nD) : G2 m c = Cert.Product.cc (V m c main_arg0) (V m c main_arg1) := by
  funext i
  have h0 : (i 0).val < 1024 := (i 0).isLt
  have h1 : (i 1).val < 6656 := (i 1).isLt
  have hN : cfg0.N = 104 := N_0
  rw [G2, dif_pos (by dsimp only [run2Of]; omega)]
  exact Cert.Product.fold_cc rfl dot_S1024x1024_S1024x512_S1024x512_0_0_1_1_n_n.wf (V m c main_arg0) (V m c main_arg1) (run2Of i) 13
    (fun t => win0_0.index t) (fun t => win0_1.index t) places (fun t => ((cfg0.win 0).blk t).view.emb) (fun t => ((cfg0.win 1).blk t).view.emb)
    (fun _ _ => ⟨rfl, rfl⟩) (fun _ _ => ⟨rfl, rfl⟩) (reset2 m c) (step2 m c)
    (fun n h => congrArg (k0_pay2 · (iblk m c 0 ⟨n, h⟩) (iblk m c 1 ⟨n, h⟩)) (funext fun _ => Ideal.ofBits_zero_f32))
    (fun n h acc => payload acc (iblk m c 0 ⟨n, h⟩) (iblk m c 1 ⟨n, h⟩)) _ i (loc2Of i)
    (by dsimp only [loc2Of, run2Of]; omega)

theorem frame_ref : Cert.quiescent_MmInBigDwRefIdeal := fun m ρ _ =>
  (θ_run Cert.MmInBigDwRefIdeal.defs _ _).mono (fun r h => ⟨fun c => (h c).2, sem_eq_zero_of_no_sems (by decide) r.2⟩)
    (Cert.MmInBigDwRefIdeal.Value.run (F := Ideal) m ρ)

theorem algebraic : Cert.algebraic_MmInBigDwIdeal_MmInBigDwRefIdeal := by
  intro m g m' g' _ hin
  refine ⟨_, (θ_run Cert.MmInBigDwIdeal.defs _ _).mono (fun r h c => ⟨((h c).1.trans (value m c)).trans ?_, (h c).2⟩)
    (run (F := Ideal) m g), Cert.MmInBigDwRefIdeal.Value.run (F := Ideal) m' g'⟩
  rw [(hin c).1, (hin c).2, V_main_arg0, V_main_arg1]
  exact (Cert.Product.host_cc _ _ _ _).symm

end Cert.Proof.MmInBigDw

/-! ## `mm_out_dw` -/

namespace Cert.Proof.MmOutDw

open Idealize.ShloMosaic Idealize.ShloMosaic.TcCoe Idealize.SL.Sem Cert.MmOutDwIdeal Cert.MmOutDwIdeal.Gen Cert.MmOutDwIdeal.Value

theorem places : ∀ t : Fin grid0.N, (win0_0.index t (0 : Fin 2) = t.val % 8 ∧ win0_0.index t (1 : Fin 2) = t.val / 8 / 2)
    ∧ win0_1.index t (0 : Fin 2) = t.val % 8 ∧ win0_1.index t (1 : Fin 2) = t.val / 8 % 2 := by decide +kernel

theorem payload (acc : Vec Ideal S1024x512 .f32) (x0 : Vec Ideal S1024x1024 .bf16) (x1 : Vec Ideal S1024x512 .bf16) : k0_pay2 acc x0 x1
    = Cert.Product.added dot_S1024x1024_S1024x512_S1024x512_0_0_1_1_n_n.wf acc x0 x1 := by
  rw [k0_pay2, shapeCast_self]
  rfl

theorem value (m : (ℓ : Loc nD τ sig) → Buf (Elt Ideal) ℓ) (c : Dev nD) : G2 m c = Cert.Product.cc (V m c main_arg0) (V m c main_arg1) := by
  funext i
  have h0 : (i 0).val < 2048 := (i 0).isLt
  have h1 : (i 1).val < 1024 := (i 1).isLt
  have hN : cfg0.N = 32 := N_0
  rw [G2, dif_pos (by dsimp only [run2Of]; omega)]
  exact Cert.Product.fold_cc rfl dot_S1024x1024_S1024x512_S1024x512_0_0_1_1_n_n.wf (V m c main_arg0) (V m c main_arg1) (run2Of i) 2
    (fun t => win0_0.index t) (fun t => win0_1.index t) places (fun t => ((cfg0.win 0).blk t).view.emb) (fun t => ((cfg0.win 1).blk t).view.emb)
    (fun _ _ => ⟨rfl, rfl⟩) (fun _ _ => ⟨rfl, rfl⟩) (reset2 m c) (step2 m c)
    (fun n h => congrArg (k0_pay2 · (iblk m c 0 ⟨n, h⟩) (iblk m c 1 ⟨n, h⟩)) (funext fun _ => Ideal.ofBits_zero_f32))
    (fun n h acc => payload acc (iblk m c 0 ⟨n, h⟩) (iblk m c 1 ⟨n, h⟩)) _ i (loc2Of i)
    (by dsimp only [loc2Of, run2Of]; omega)

theorem frame_ref : Cert.quiescent_MmOutDwRefIdeal := fun m ρ _ =>
  (θ_run Cert.MmOutDwRefIdeal.defs _ _).mono (fun r h => ⟨fun c => (h c).2, sem_eq_zero_of_no_sems (by decide) r.2⟩)
    (Cert.MmOutDwRefIdeal.Value.run (F := Ideal) m ρ)

theorem algebraic : Cert.algebraic_MmOutDwIdeal_MmOutDwRefIdeal := by
  intro m g m' g' _ hin
  refine ⟨_, (θ_run Cert.MmOutDwIdeal.defs _ _).mono (fun r h c => ⟨((h c).1.trans (value m c)).trans ?_, (h c).2⟩)
    (run (F := Ideal) m g), Cert.MmOutDwRefIdeal.Value.run (F := Ideal) m' g'⟩
  rw [(hin c).1, (hin c).2, V_main_arg0, V_main_arg1]
  exact (Cert.Product.host_cc _ _ _ _).symm

end Cert.Proof.MmOutDw

/-! ## `mm_up_dw` -/

namespace Cert.Proof.MmUpDw

open Idealize.ShloMosaic Idealize.ShloMosaic.TcCoe Idealize.SL.Sem Cert.MmUpDwIdeal Cert.MmUpDwIdeal.Gen Cert.MmUpDwIdeal.Value

theorem places : ∀ t : Fin grid0.N, (win0_0.index t (0 : Fin 2) = t.val % 8 ∧ win0_0.index t (1 : Fin 2) = t.val / 8 / 11)
    ∧ win0_1.index t (0 : Fin 2) = t.val % 8 ∧ win0_1.index t (1 : Fin 2) = t.val / 8 % 11 := by decide +kernel

theorem payload (acc : Vec Ideal S1024x512 .f32) (x0 : Vec Ideal S1024x1024 .bf16) (x1 : Vec Ideal S1024x512 .bf16) : k0_pay2 acc x0 x1
    = Cert.Product.added dot_S1024x1024_S1024x512_S1024x512_0_0_1_1_n_n.wf acc x0 x1 := by
  rw [k0_pay2, shapeCast_self]
  rfl

theorem value (m : (ℓ : Loc nD τ sig) → Buf (Elt Ideal) ℓ) (c : Dev nD) : G2 m c = Cert.Product.cc (V m c main_arg0) (V m c main_arg1) := by
  funext i
  have h0 : (i 0).val < 1024 := (i 0).isLt
  have h1 : (i 1).val < 5632 := (i 1).isLt
  have hN : cfg0.N = 88 := N_0
  rw [G2, dif_pos (by dsimp only [run2Of]; omega)]
  exact Cert.Product.fold_cc rfl dot_S1024x1024_S1024x512_S1024x512_0_0_1_1_n_n.wf (V m c main_arg0) (V m c main_arg1) (run2Of i) 11
    (fun t => win0_0.index t) (fun t => win0_1.index t) places (fun t => ((cfg0.win 0).blk t).view.emb) (fun t => ((cfg0.win 1).blk t).view.emb)
    (fun _ _ => ⟨rfl, rfl⟩) (fun _ _ => ⟨rfl, rfl⟩) (reset2 m c) (step2 m c)
    (fun n h => congrArg (k0_pay2 · (iblk m c 0 ⟨n, h⟩) (iblk m c 1 ⟨n, h⟩)) (funext fun _ => Ideal.ofBits_zero_f32))
    (fun n h acc => payload acc (iblk m c 0 ⟨n, h⟩) (iblk m c 1 ⟨n, h⟩)) _ i (loc2Of i)
    (by dsimp only [loc2Of, run2Of]; omega)

theorem frame_ref : Cert.quiescent_MmUpDwRefIdeal := fun m ρ _ =>
  (θ_run Cert.MmUpDwRefIdeal.defs _ _).mono (fun r h => ⟨fun c => (h c).2, sem_eq_zero_of_no_sems (by decide) r.2⟩)
    (Cert.MmUpDwRefIdeal.Value.run (F := Ideal) m ρ)

theorem algebraic : Cert.algebraic_MmUpDwIdeal_MmUpDwRefIdeal := by
  intro m g m' g' _ hin
  refine ⟨_, (θ_run Cert.MmUpDwIdeal.defs _ _).mono (fun r h c => ⟨((h c).1.trans (value m c)).trans ?_, (h c).2⟩)
    (run (F := Ideal) m g), Cert.MmUpDwRefIdeal.Value.run (F := Ideal) m' g'⟩
  rw [(hin c).1, (hin c).2, V_main_arg0, V_main_arg1]
  exact (Cert.Product.host_cc _ _ _ _).symm

end Cert.Proof.MmUpDw

/-! ## `mm_down_dw` -/

namespace Cert.Proof.MmDownDw

open Idealize.ShloMosaic Idealize.ShloMosaic.TcCoe Idealize.SL.Sem Cert.MmDownDwIdeal Cert.MmDownDwIdeal.Gen Cert.MmDownDwIdeal.Value

theorem places : ∀ t : Fin grid0.N, (win0_0.index t (0 : Fin 2) = t.val % 8 ∧ win0_0.index t (1 : Fin 2) = t.val / 8 / 2)
    ∧ win0_1.index t (0 : Fin 2) = t.val % 8 ∧ win0_1.index t (1 : Fin 2) = t.val / 8 % 2 := by decide +kernel

theorem payload (acc : Vec Ideal S1408x512 .f32) (x0 : Vec Ideal S1024x1408 .bf16) (x1 : Vec Ideal S1024x512 .bf16) : k0_pay2 acc x0 x1
    = Cert.Product.added dot_S1024x1408_S1024x512_S1408x512_0_0_1_1_n_n.wf acc x0 x1 := by
  rw [k0_pay2, shapeCast_self]
  rfl

theorem value (m : (ℓ : Loc nD τ sig) → Buf (Elt Ideal) ℓ) (c : Dev nD) : G2 m c = Cert.Product.cc (V m c main_arg0) (V m c main_arg1) := by
  funext i
  have h0 : (i 0).val < 2816 := (i 0).isLt
  have h1 : (i 1).val < 1024 := (i 1).isLt
  have hN : cfg0.N = 32 := N_0
  rw [G2, dif_pos (by dsimp only [run2Of]; omega)]
  exact Cert.Product.fold_cc rfl dot_S1024x1408_S1024x512_S1408x512_0_0_1_1_n_n.wf (V m c main_arg0) (V m c main_arg1) (run2Of i) 2
    (fun t => win0_0.index t) (fun t => win0_1.index t) places (fun t => ((cfg0.win 0).blk t).view.emb) (fun t => ((cfg0.win 1).blk t).view.emb)
    (fun _ _ => ⟨rfl, rfl⟩) (fun _ _ => ⟨rfl, rfl⟩) (reset2 m c) (step2 m c)
    (fun n h => congrArg (k0_pay2 · (iblk m c 0 ⟨n, h⟩) (iblk m c 1 ⟨n, h⟩)) (funext fun _ => Ideal.ofBits_zero_f32))
    (fun n h acc => payload acc (iblk m c 0 ⟨n, h⟩) (iblk m c 1 ⟨n, h⟩)) _ i (loc2Of i)
    (by dsimp only [loc2Of, run2Of]; omega)

theorem frame_ref : Cert.quiescent_MmDownDwRefIdeal := fun m ρ _ =>
  (θ_run Cert.MmDownDwRefIdeal.defs _ _).mono (fun r h => ⟨fun c => (h c).2, sem_eq_zero_of_no_sems (by decide) r.2⟩)
    (Cert.MmDownDwRefIdeal.Value.run (F := Ideal) m ρ)

theorem algebraic : Cert.algebraic_MmDownDwIdeal_MmDownDwRefIdeal := by
  intro m g m' g' _ hin
  refine ⟨_, (θ_run Cert.MmDownDwIdeal.defs _ _).mono (fun r h c => ⟨((h c).1.trans (value m c)).trans ?_, (h c).2⟩)
    (run (F := Ideal) m g), Cert.MmDownDwRefIdeal.Value.run (F := Ideal) m' g'⟩
  rw [(hin c).1, (hin c).2, V_main_arg0, V_main_arg1]
  exact (Cert.Product.host_cc _ _ _ _).symm

end Cert.Proof.MmDownDw

end
-- ==== Proof.GradX.lean ====
/-
The gradient of `x`. The gradients of the norm's output add up in two calls; a third takes the sum back through the norm, a block of
256 rows at a time, adds the gradient along the residual, and adds up the rows' parts of the gradient of the norm's weight.
-/
module

public import proofs.«01_k».proof.Defs
public import proofs.«01_k».proof.Proof.Gen.AddDh.Frame
public import proofs.«01_k».proof.Proof.Gen.AddDhIdeal.Frame
public import proofs.«01_k».proof.Proof.Gen.AddDhIdeal.Value
public import proofs.«01_k».proof.Proof.Gen.AddDhRefIdeal.Run
public import proofs.«01_k».proof.Proof.Gen.AddDx.Frame
public import proofs.«01_k».proof.Proof.Gen.AddDxIdeal.Frame
public import proofs.«01_k».proof.Proof.Gen.AddDxIdeal.Value
public import proofs.«01_k».proof.Proof.Gen.AddDxRefIdeal.Run
public import proofs.«01_k».proof.Proof.Gen.GradX.Frame
public import proofs.«01_k».proof.Proof.Gen.GradXIdeal.Frame
public import proofs.«01_k».proof.Proof.Gen.GradXIdeal.Value
public import proofs.«01_k».proof.Proof.Gen.GradXRefIdeal.Run
public import proofs.«01_k».proof.Proof.Product
public import Idealize.ShloMosaic.Lib.Pointwise
public import Idealize.ShloMosaic.Lib.Tactic

@[expose] public section

noncomputable section

/-! ## `add_dh` -/

namespace Cert.Proof.AddDh

open Idealize.ShloMosaic Idealize.SL.Sem

theorem frame_ref : Cert.quiescent_AddDhRefIdeal := fun m ρ _ =>
  (θ_run Cert.AddDhRefIdeal.defs _ _).mono (fun r h => ⟨fun c => (h c).2, sem_eq_zero_of_no_sems (by decide) r.2⟩)
    (Cert.AddDhRefIdeal.Value.run (F := Ideal) m ρ)

/-- The sum that the call leaves is the reference's. -/
theorem algebraic : Cert.algebraic_AddDhIdeal_AddDhRefIdeal := by
  intro m g m' g' _ hin
  refine ⟨_, Cert.AddDhIdeal.Value.run (F := Ideal) m g,
    (θ_run Cert.AddDhRefIdeal.defs _ _).mono (fun r h c => ?_) (Cert.AddDhRefIdeal.Value.run (F := Ideal) m' g')⟩
  obtain ⟨h0, hargs⟩ := h c
  rw [(hin c).1, (hin c).2] at h0
  exact ⟨h0.trans rfl, hargs⟩

end Cert.Proof.AddDh

/-! ## `ssd_add_dx` -/

namespace Cert.Proof.AddDx

open Idealize.ShloMosaic Idealize.SL.Sem

theorem frame_ref : Cert.quiescent_AddDxRefIdeal := fun m ρ _ =>
  (θ_run Cert.AddDxRefIdeal.defs _ _).mono (fun r h => ⟨fun c => (h c).2, sem_eq_zero_of_no_sems (by decide) r.2⟩)
    (Cert.AddDxRefIdeal.Value.run (F := Ideal) m ρ)

/-- The sum that the call leaves is the reference's. -/
theorem algebraic : Cert.algebraic_AddDxIdeal_AddDxRefIdeal := by
  intro m g m' g' _ hin
  refine ⟨_, Cert.AddDxIdeal.Value.run (F := Ideal) m g,
    (θ_run Cert.AddDxRefIdeal.defs _ _).mono (fun r h c => ?_) (Cert.AddDxRefIdeal.Value.run (F := Ideal) m' g')⟩
  obtain ⟨h0, hargs⟩ := h c
  rw [(hin c).1, (hin c).2] at h0
  exact ⟨h0.trans rfl, hargs⟩

end Cert.Proof.AddDx

/-! ## The norm backwards, a row at a time -/

namespace Cert.NormBack

open Idealize.ShloMosaic

variable {R : ℕ}

/-- The mean of the squares of a row, and the small constant beside it. -/
def spread (x : Fin 1024 → EReal) : EReal :=
  Ideal.div (∑ k, x k * x k) (Ideal.ofBits .f32 0x44800000#32) + Ideal.ofBits .f32 0x358637BD#32

/-- What a row's gradient takes along the row itself. -/
def along (x w d : Fin 1024 → EReal) : EReal :=
  Ideal.div ((∑ k, x k * (d k * w k)) * (Ideal.ofBits .f32 0xBF000000#32 * Ideal.div (Ideal.rsqrt (spread x)) (spread x)))
    (Ideal.ofBits .f32 0x44800000#32)

/-- The gradient of a row `x`, from that of the norm's output (`d`) and that along the residual (`e`), -/
def back (x w d e : Fin 1024 → EReal) (k : Fin 1024) : EReal :=
  d k * w k * Ideal.rsqrt (spread x) + x k * along x w d + along x w d * x k + e k

/-- and the row's part of the gradient of the weight. -/
def part (x d : Fin 1024 → EReal) (k : Fin 1024) : EReal := x k * Ideal.rsqrt (spread x) * d k

/-- A row of a matrix, -/
def row (X : (⟨2, ![R, 1024]⟩ : Shape).Idx → EReal) (r : Fin R) (k : Fin 1024) : EReal := X (ix2 r k)

/-- the gradient of all rows, -/
def rows (X D E : (⟨2, ![R, 1024]⟩ : Shape).Idx → EReal) (W : (⟨2, ![1, 1024]⟩ : Shape).Idx → EReal)
    (i : (⟨2, ![R, 1024]⟩ : Shape).Idx) : EReal := back (row X (i 0)) (row W 0) (row D (i 0)) (row E (i 0)) (i 1)

/-- and that of the weight. -/
def weight (X D : (⟨2, ![R, 1024]⟩ : Shape).Idx → EReal) (i : (⟨2, ![1, 1024]⟩ : Shape).Idx) : EReal :=
  ∑ r : Fin R, part (row X r) (row D r) (i 1)

end Cert.NormBack

/-! ## `rms1_bwd` -/

namespace Cert.Proof.GradX

section Kernel

open Idealize.ShloMosaic Cert.GradXIdeal Cert.GradXIdeal.Gen Cert.NormBack

set_option maxRecDepth 16384

theorem spread_at (x : Vec Ideal S256x1024 .f32) (a : Fin 256) (z : Fin 1) : k0_pay4 (F := Ideal) x (ix2 a z) = spread (row x a) := by
  pointwise [k0_pay4, spread, row]

theorem inverse_at (x : Vec Ideal S256x1024 .f32) (a : Fin 256) (z : Fin 1) :
    k0_pay5 (F := Ideal) x (ix2 a z) = Ideal.rsqrt (spread (row x a)) := by
  rw [← spread_at x a z]; rfl

/-- The block of the gradient that a point writes, -/
theorem rows_at (x d e : Vec Ideal S256x1024 .f32) (w : Vec Ideal S1x1024 .f32) :
    k0_pay1 (F := Ideal) (k0_pay7 x w d) e = rows x d e w := by
  funext j
  obtain ⟨a, b, rfl⟩ : ∃ (a : Fin 256) (b : Fin 1024), j = ix2 a b := ⟨j 0, j 1, eq_ix2 j⟩
  pointwise [k0_pay1, k0_pay7, rows, back, along]
  simp only [spread_at, inverse_at, Fin.sum_univ_one]
  rfl

/-- and what it adds to the gradient of the weight. -/
theorem weight_at (x d : Vec Ideal S256x1024 .f32) : k0_pay6 (F := Ideal) x d = weight x d := by
  funext j
  obtain ⟨a, b, rfl⟩ : ∃ (a : Fin 1) (b : Fin 1024), j = ix2 a b := ⟨j 0, j 1, eq_ix2 j⟩
  pointwise [k0_pay6, weight, part]
  simp only [inverse_at]
  rfl

/-- The sum of the weight's gradients, onto zeros and onto what is there. -/
theorem add_at (v acc : Vec Ideal S1x1024 .f32) (j : S1x1024.Idx) : k0_pay2 (F := Ideal) v acc j = acc j + v j := by
  obtain ⟨a, b, rfl⟩ : ∃ (a : Fin 1) (b : Fin 1024), j = ix2 a b := ⟨j 0, j 1, eq_ix2 j⟩
  pointwise [k0_pay2]

theorem add_at_zero (v : Vec Ideal S1x1024 .f32) (j : S1x1024.Idx) : k0_pay2 (F := Ideal) v (k0_pay3 (F := Ideal)) j = v j := by
  rw [add_at]
  exact (congrArg (· + _) Ideal.ofBits_zero_f32).trans (zero_add _)

/-- What a point leaves in the blocks of the two results: the first point of all, -/
theorem first_rows (c : Dev nD) (i : grid0.Coords) (a1 : Memref sig .tc .vmem S256x1024 .f32) (h1 : a1.IsWhole) (a2 : Memref sig .tc .vmem S1x1024 .f32)
    (h2 : a2.IsWhole) (a3 : Memref sig .tc .vmem S256x1024 .f32) (h3 : a3.IsWhole) (a4 : Memref sig .tc .vmem S256x1024 .f32) (h4 : a4.IsWhole)
    (a5 : Memref sig .tc .vmem S256x1024 .f32) (h5 : a5.IsWhole) (a6 : Memref sig .tc .vmem S1x1024 .f32) (h6 : a6.IsWhole) (hc : cond0_0 i)
    (x : Vec Ideal S256x1024 .f32) (w : Vec Ideal S1x1024 .f32) (d e : Vec Ideal S256x1024 .f32) :
    out0_A_4 c i a1 h1 a2 h2 a3 h3 a4 h4 a5 h5 a6 h6 hc x w d e = rows x d e w := by
  unfold out0_A_4
  rw [View.read_writes_eq_canon _ _ _ (cover0_A_4 c i a1 h1 a2 h2 a3 h3 a4 h4 a5 h5 a6 h6 hc x w d e)]
  unfold kernelRun0_A
  dsimp only
  sl_unfold_words
  rw [View.canon_unit_zero Cert.Product.origin]
  simp only [View.readAt_eq_ld, h1.read_unread, h2.read_unread, h3.read_unread, h4.read_unread,
    View.ld_unit_zero (S := S256x1024) Cert.Product.origin, View.ld_unit_zero (S := S1x1024) Cert.Product.origin]
  exact rows_at x d e w

theorem first_weight (c : Dev nD) (i : grid0.Coords) (a1 : Memref sig .tc .vmem S256x1024 .f32) (h1 : a1.IsWhole) (a2 : Memref sig .tc .vmem S1x1024 .f32)
    (h2 : a2.IsWhole) (a3 : Memref sig .tc .vmem S256x1024 .f32) (h3 : a3.IsWhole) (a4 : Memref sig .tc .vmem S256x1024 .f32) (h4 : a4.IsWhole)
    (a5 : Memref sig .tc .vmem S256x1024 .f32) (h5 : a5.IsWhole) (a6 : Memref sig .tc .vmem S1x1024 .f32) (h6 : a6.IsWhole) (hc : cond0_0 i)
    (x : Vec Ideal S256x1024 .f32) (w : Vec Ideal S1x1024 .f32) (d e : Vec Ideal S256x1024 .f32) (j : S1x1024.Idx) :
    out0_A_5 c i a1 h1 a2 h2 a3 h3 a4 h4 a5 h5 a6 h6 hc x w d e j = weight x d j := by
  unfold out0_A_5
  rw [View.read_writes_eq_canon _ _ _ (cover0_A_5 c i a1 h1 a2 h2 a3 h3 a4 h4 a5 h5 a6 h6 hc x w d e)]
  unfold kernelRun0_A
  dsimp only
  sl_unfold_words
  rw [View.canon_cons_unit_zero (S := S1x1024) Cert.Product.origin, View.readCov_unit_zero (S := S1x1024) _ Cert.Product.origin]
  simp only [View.readAt_eq_ld, h1.read_unread, h3.read_unread, View.ld_unit_zero (S := S256x1024) Cert.Product.origin, weight_at]
  exact add_at_zero _ j

/-- and every later one, which finds `acc` for the gradient of the weight. -/
theorem later_rows (c : Dev nD) (i : grid0.Coords) (a1 : Memref sig .tc .vmem S256x1024 .f32) (h1 : a1.IsWhole) (a2 : Memref sig .tc .vmem S1x1024 .f32)
    (h2 : a2.IsWhole) (a3 : Memref sig .tc .vmem S256x1024 .f32) (h3 : a3.IsWhole) (a4 : Memref sig .tc .vmem S256x1024 .f32) (h4 : a4.IsWhole)
    (a5 : Memref sig .tc .vmem S256x1024 .f32) (h5 : a5.IsWhole) (a6 : Memref sig .tc .vmem S1x1024 .f32) (h6 : a6.IsWhole) (hc : ¬cond0_0 i)
    (x : Vec Ideal S256x1024 .f32) (w : Vec Ideal S1x1024 .f32) (d e : Vec Ideal S256x1024 .f32) (acc : Vec Ideal S1x1024 .f32) :
    out0_B_4 c i a1 h1 a2 h2 a3 h3 a4 h4 a5 h5 a6 h6 hc x w d e acc = rows x d e w := by
  unfold out0_B_4
  rw [View.read_writes_eq_canon _ _ _ (cover0_B_4 c i a1 h1 a2 h2 a3 h3 a4 h4 a5 h5 a6 h6 hc x w d e acc)]
  unfold kernelRun0_B
  dsimp only
  sl_unfold_words
  rw [View.canon_unit_zero Cert.Product.origin]
  simp only [View.readAt_eq_ld, h1.read_unread, h2.read_unread, h3.read_unread, h4.read_unread,
    View.ld_unit_zero (S := S256x1024) Cert.Product.origin, View.ld_unit_zero (S := S1x1024) Cert.Product.origin]
  exact rows_at x d e w

theorem later_weight (c : Dev nD) (i : grid0.Coords) (a1 : Memref sig .tc .vmem S256x1024 .f32) (h1 : a1.IsWhole) (a2 : Memref sig .tc .vmem S1x1024 .f32)
    (h2 : a2.IsWhole) (a3 : Memref sig .tc .vmem S256x1024 .f32) (h3 : a3.IsWhole) (a4 : Memref sig .tc .vmem S256x1024 .f32) (h4 : a4.IsWhole)
    (a5 : Memref sig .tc .vmem S256x1024 .f32) (h5 : a5.IsWhole) (a6 : Memref sig .tc .vmem S1x1024 .f32) (h6 : a6.IsWhole) (hc : ¬cond0_0 i)
    (x : Vec Ideal S256x1024 .f32) (w : Vec Ideal S1x1024 .f32) (d e : Vec Ideal S256x1024 .f32) (acc : Vec Ideal S1x1024 .f32) (j : S1x1024.Idx) :
    out0_B_5 c i a1 h1 a2 h2 a3 h3 a4 h4 a5 h5 a6 h6 hc x w d e acc j = acc j + weight x d j := by
  unfold out0_B_5
  rw [View.read_writes_eq_canon _ _ _ (cover0_B_5 c i a1 h1 a2 h2 a3 h3 a4 h4 a5 h5 a6 h6 hc x w d e acc)]
  unfold kernelRun0_B
  dsimp only
  sl_unfold_words
  rw [View.canon_unit_zero Cert.Product.origin]
  simp only [View.readAt_eq_ld, h1.read_unread, h3.read_unread, h6.read_unread, View.ld_unit_zero (S := S256x1024) Cert.Product.origin,
    View.ld_unit_zero (S := S1x1024) Cert.Product.origin, weight_at]
  exact add_at _ _ j

end Kernel

section Host

open Idealize.ShloMosaic Cert.GradXRefIdeal Cert.GradXRefIdeal.Facts₀ Cert.NormBack

set_option maxRecDepth 16384

/-- The reference's mean of the squares of the rows, -/
def hostSpread (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem host_spread_at (x : FVec Ideal S8192x1024 .f32) (a : Fin 8192) (z : Fin 1) : hostSpread x (ix2 a z) = spread (row x a) := by
  pointwise [hostSpread, spread, row]

/-- what the rows' gradients take along the rows, -/
def hostAlong (x : FVec Ideal S8192x1024 .f32) (w : FVec Ideal S1x1024 .f32) (d : FVec Ideal S8192x1024 .f32) : FVec Ideal S8192 .f32 :=
  Host.reduceAdd (Host.divf (mulf (shapeCast _ (Host.reduceAdd (mulf x (mulf d (broadcastInDim S8192x1024 ![0, 1] bcast_S1x1024_S8192x1024_0_1 w))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (hostSpread x)) (hostSpread x)))) (broadcastInDim S8192x1 ![] bcast_S_S8192x1 (constant S_ .f32 0x44800000#32))) (constant S_ .f32 0x00000000#32) reducesTo_S8192x1_S8192_d1 h_S_

theorem host_along_at (x d : FVec Ideal S8192x1024 .f32) (w : FVec Ideal S1x1024 .f32) (a : Fin 8192) :
    hostAlong x w d (ix1 a) = along (row x a) (row w 0) (row d a) := by
  pointwise [hostAlong, along]
  simp only [host_spread_at, Fin.sum_univ_one]
  rfl

/-- its gradient of the rows, -/
theorem host_rows (x d e : FVec Ideal S8192x1024 .f32) (w : FVec Ideal S1x1024 .f32) :
    addf (addf (addf (mulf (mulf d (broadcastInDim S8192x1024 ![0, 1] bcast_S1x1024_S8192x1024_0_1 w)) (broadcastInDim S8192x1024 ![0, 1] bcast_S8192x1_S8192x1024_0_1 (Host.rsqrt (hostSpread x)))) (mulf x (broadcastInDim S8192x1024 ![0] bcast_S8192_S8192x1024_0 (hostAlong x w d)))) (mulf (broadcastInDim S8192x1024 ![0] bcast_S8192_S8192x1024_0 (hostAlong x w d)) x)) e = rows x d e w := by
  funext j
  obtain ⟨a, b, rfl⟩ : ∃ (a : Fin 8192) (b : Fin 1024), j = ix2 a b := ⟨j 0, j 1, eq_ix2 j⟩
  pointwise [rows, back]
  simp only [host_spread_at, host_along_at]
  rfl

/-- and its gradient of the weight. -/
theorem host_weight (x d : FVec Ideal S8192x1024 .f32) :
    shapeCast _ (Host.reduceAdd (mulf (mulf x (broadcastInDim S8192x1024 ![0, 1] bcast_S8192x1_S8192x1024_0_1 (Host.rsqrt (hostSpread x)))) d) (constant S_ .f32 0x00000000#32) reducesTo_S8192x1024_S1024_d0 h_S_) shapeCasts_S1024_S1x1024 = weight x d := by
  funext j
  obtain ⟨a, b, rfl⟩ : ∃ (a : Fin 1) (b : Fin 1024), j = ix2 a b := ⟨j 0, j 1, eq_ix2 j⟩
  pointwise [weight, part]
  simp only [host_spread_at]
  rfl

end Host

section Run

open Idealize.ShloMosaic Idealize.ShloMosaic.TcCoe Idealize.SL.Sem Cert.GradXIdeal Cert.GradXIdeal.Gen Cert.GradXIdeal.Value Cert.NormBack

/-- The rows of a block are rows of the matrices, which lie in the block in order from row `p * 256` (`s`, `u`, `v` where they are read, `o`
    where they are written). -/
theorem block_rows (X D E : (⟨2, ![8192, 1024]⟩ : Shape).Idx → EReal) (W : (⟨2, ![1, 1024]⟩ : Shape).Idx → EReal) (p : ℕ)
    (s u v o : (⟨2, ![256, 1024]⟩ : Shape).Idx → (⟨2, ![8192, 1024]⟩ : Shape).Idx) (q : (⟨2, ![1, 1024]⟩ : Shape).Idx → (⟨2, ![1, 1024]⟩ : Shape).Idx)
    (f₀ f₁ f₂ f₃ f₄ : Fin 2 → ℕ) (hf : (f₀ 0 = p ∧ f₀ 1 = 0) ∧ (f₁ 0 = 0 ∧ f₁ 1 = 0) ∧ (f₂ 0 = p ∧ f₂ 1 = 0) ∧ (f₃ 0 = p ∧ f₃ 1 = 0) ∧ f₄ 0 = p ∧ f₄ 1 = 0)
    (hs : ∀ y, (s y 0).val = f₀ 0 * 256 + 1 * (y 0).val ∧ (s y 1).val = f₀ 1 * 1024 + 1 * (y 1).val)
    (hq : ∀ y, (q y 0).val = f₁ 0 * 1 + 1 * (y 0).val ∧ (q y 1).val = f₁ 1 * 1024 + 1 * (y 1).val)
    (hu : ∀ y, (u y 0).val = f₂ 0 * 256 + 1 * (y 0).val ∧ (u y 1).val = f₂ 1 * 1024 + 1 * (y 1).val)
    (hv : ∀ y, (v y 0).val = f₃ 0 * 256 + 1 * (y 0).val ∧ (v y 1).val = f₃ 1 * 1024 + 1 * (y 1).val)
    (ho : ∀ y, (o y 0).val = f₄ 0 * 256 + 1 * (y 0).val ∧ (o y 1).val = f₄ 1 * 1024 + 1 * (y 1).val)
    (x d e : (⟨2, ![256, 1024]⟩ : Shape).Idx → EReal) (w : (⟨2, ![1, 1024]⟩ : Shape).Idx → EReal) (hx : ∀ y, x y = X (s y)) (hd : ∀ y, d y = D (u y))
    (he : ∀ y, e y = E (v y)) (hw : ∀ y, w y = W (q y)) (j : (⟨2, ![256, 1024]⟩ : Shape).Idx) : rows x d e w j = rows X D E W (o j) := by
  obtain ⟨⟨a0, a1⟩, ⟨b0, b1⟩, ⟨c0, c1⟩, ⟨d0, d1⟩, e0, e1⟩ := hf
  simp only [a0, a1, b0, b1, c0, c1, d0, d1, e0, e1, one_mul, zero_mul, zero_add] at hs hq hu hv ho
  have h0 : row x (j 0) = row X (o j 0) :=
    funext fun k => (hx _).trans (congrArg X (Cert.Product.ix_ext ((hs _).1.trans (ho j).1.symm) (hs _).2))
  have h1 : row d (j 0) = row D (o j 0) :=
    funext fun k => (hd _).trans (congrArg D (Cert.Product.ix_ext ((hu _).1.trans (ho j).1.symm) (hu _).2))
  have h2 : row e (j 0) = row E (o j 0) :=
    funext fun k => (he _).trans (congrArg E (Cert.Product.ix_ext ((hv _).1.trans (ho j).1.symm) (hv _).2))
  have h3 : row w 0 = row W 0 := funext fun k => (hw _).trans (congrArg W (Cert.Product.ix_ext (hq _).1 (hq _).2))
  have h4 : (o j 1 : Fin 1024) = j 1 := Fin.ext (ho j).2
  show back (row x (j 0)) (row w 0) (row d (j 0)) (row e (j 0)) (j 1) = back (row X (o j 0)) (row W 0) (row D (o j 0)) (row E (o j 0)) (o j 1)
  rw [h0, h1, h2, h3, h4]

/-- The part of row `r` in the gradient of the weight, and nothing beyond the rows. -/
def term (X D : (⟨2, ![8192, 1024]⟩ : Shape).Idx → EReal) (b : Fin 1024) (r : ℕ) : EReal :=
  if h : r < 8192 then part (row X ⟨r, h⟩) (row D ⟨r, h⟩) b else 0

theorem term_of (X D : (⟨2, ![8192, 1024]⟩ : Shape).Idx → EReal) (b : Fin 1024) {r : ℕ} (h : r < 8192) :
    term X D b r = part (row X ⟨r, h⟩) (row D ⟨r, h⟩) b := dif_pos h

/-- A block's part is the sum over its rows. -/
theorem block_weight (X D : (⟨2, ![8192, 1024]⟩ : Shape).Idx → EReal) (p : ℕ) (hp : p < 32)
    (s u : (⟨2, ![256, 1024]⟩ : Shape).Idx → (⟨2, ![8192, 1024]⟩ : Shape).Idx) (f₀ f₂ : Fin 2 → ℕ)
    (hf : (f₀ 0 = p ∧ f₀ 1 = 0) ∧ f₂ 0 = p ∧ f₂ 1 = 0)
    (hs : ∀ y, (s y 0).val = f₀ 0 * 256 + 1 * (y 0).val ∧ (s y 1).val = f₀ 1 * 1024 + 1 * (y 1).val)
    (hu : ∀ y, (u y 0).val = f₂ 0 * 256 + 1 * (y 0).val ∧ (u y 1).val = f₂ 1 * 1024 + 1 * (y 1).val)
    (x d : (⟨2, ![256, 1024]⟩ : Shape).Idx → EReal) (hx : ∀ y, x y = X (s y)) (hd : ∀ y, d y = D (u y)) (j : (⟨2, ![1, 1024]⟩ : Shape).Idx) :
    weight x d j = ∑ k ∈ Finset.range 256, term X D (j 1) (p * 256 + k) := by
  obtain ⟨⟨a0, a1⟩, c0, c1⟩ := hf
  simp only [a0, a1, c0, c1, one_mul, zero_mul, zero_add] at hs hu
  rw [Finset.sum_range]
  refine Finset.sum_congr rfl fun r _ => ?_
  have hr : p * 256 + r.val < 8192 := by have := r.isLt; omega
  have h0 : row x r = row X ⟨p * 256 + r.val, hr⟩ := funext fun k => (hx _).trans (congrArg X (Cert.Product.ix_ext (hs _).1 (hs _).2))
  have h1 : row d r = row D ⟨p * 256 + r.val, hr⟩ := funext fun k => (hd _).trans (congrArg D (Cert.Product.ix_ext (hu _).1 (hu _).2))
  exact (congrArg₂ (fun y z => part y z (j 1)) h0 h1).trans (term_of X D (j 1) hr).symm

/-- Point `t` reads and writes the blocks of rows number `t`. -/
theorem places : ∀ t : Fin grid0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ win0_5.index t (0 : Fin 2) = 0 ∧ win0_5.index t (1 : Fin 2) = 0 := by decide +kernel

variable (m : (ℓ : Loc nD τ sig) → Buf (Elt Ideal) ℓ)

/-- It writes the gradients of its rows, -/
theorem flushed_rows (c : Dev nD) (t : Fin cfg0.N) : (dats m 0 c).flushed 4 t = ((cfg0.win 4).blk t).view.read (Elt Ideal)
    (rows (V m c main_arg0) (V m c main_arg2) (V m c main_arg3) (V m c main_arg1)) := by
  have key := block_rows (V m c main_arg0) (V m c main_arg2) (V m c main_arg3) (V m c main_arg1) t.val ((cfg0.win 0).blk t).view.emb
    ((cfg0.win 2).blk t).view.emb ((cfg0.win 3).blk t).view.emb ((cfg0.win 4).blk t).view.emb ((cfg0.win 1).blk t).view.emb _ _ _ _ _
    ⟨(places t).1, (places t).2.1, (places t).2.2.1, (places t).2.2.2.1, (places t).2.2.2.2.1⟩ (fun _ => ⟨rfl, rfl⟩) (fun _ => ⟨rfl, rfl⟩)
    (fun _ => ⟨rfl, rfl⟩) (fun _ => ⟨rfl, rfl⟩) (fun _ => ⟨rfl, rfl⟩) (iblk m c 0 t) (iblk m c 2 t) (iblk m c 3 t) (iblk m c 1 t)
    (fun _ => rfl) (fun _ => rfl) (fun _ => rfl) (fun _ => rfl)
  by_cases h : t.val % 32 = 0
  · rw [flushed4_A m c t h, first_rows]; exact funext key
  · rw [flushed4_B m c t h, later_rows]; exact funext key

/-- and every row is written at some point. -/
theorem covered_rows (i : S8192x1024.Idx) : ∃ t : Fin cfg0.N, (cfg0.win 4).flush t = true ∧ i ∈ ((cfg0.win 4).blk t).view.set := by
  obtain ⟨t, ht⟩ := Cert.Product.tile (M := 8192) (N := 1024) (tm := 256) (tn := 1024) 32 1 N_0 rfl rfl (fun t => win0_4.index t)
    (fun t => ⟨(places t).2.2.2.2.1.1.trans (Nat.div_one _).symm, (places t).2.2.2.2.1.2.trans (Nat.mod_one _).symm⟩) i
  exact ⟨t, flush0_4 t, by rw [View.set_slice_whole, Rect.mem_set_unit]; exact ht⟩

/-- After point `n` the rows of the blocks up to it are in the gradient of the weight. -/
theorem weight_upto (c : Dev nD) (j : S1x1024.Idx) : ∀ (n : ℕ) (h : n < cfg0.N), (outsAt0 m c n h).2 j
    = ∑ e ∈ Finset.range (n + 1), ∑ k ∈ Finset.range 256, term (V m c main_arg0) (V m c main_arg2) (j 1) (e * 256 + k) := by
  have hN : cfg0.N = 32 := N_0
  have key (t : Fin cfg0.N) : weight (iblk m c 0 t) (iblk m c 2 t) j
      = ∑ k ∈ Finset.range 256, term (V m c main_arg0) (V m c main_arg2) (j 1) (t.val * 256 + k) :=
    block_weight (V m c main_arg0) (V m c main_arg2) t.val (hN ▸ t.isLt) ((cfg0.win 0).blk t).view.emb ((cfg0.win 2).blk t).view.emb _ _
      ⟨(places t).1, (places t).2.2.1⟩ (fun _ => ⟨rfl, rfl⟩) (fun _ => ⟨rfl, rfl⟩) (iblk m c 0 t) (iblk m c 2 t) (fun _ => rfl) (fun _ => rfl) j
  intro n
  induction n with
  | zero =>
    intro h
    refine (congrArg (fun q => q.2 j) (outsAt0_A m c ⟨0, h⟩ rfl)).trans ?_
    dsimp only
    rw [first_weight, key ⟨0, h⟩, Finset.sum_range_one]
  | succ n ih =>
    intro h
    have hB : ¬(⟨n + 1, h⟩ : Fin cfg0.N).val % 32 = 0 := by dsimp only; omega
    refine (congrArg (fun q => q.2 j) (outsAt0_B m c ⟨n + 1, h⟩ hB)).trans ?_
    dsimp only
    rw [later_weight, key ⟨n + 1, h⟩]
    exact (congrArg₂ (· + ·) (ih (Nat.lt_of_succ_lt h)) rfl).trans (Finset.sum_range_succ _ _).symm

/-- So after the last they all are. -/
theorem weight_last (c : Dev nD) (j : S1x1024.Idx) (h : 31 < cfg0.N) :
    (outsAt0 m c 31 h).2 j = weight (V m c main_arg0) (V m c main_arg2) j := by
  rw [weight_upto, Cert.Product.sum_blocks]
  refine (Finset.sum_range _).trans (Finset.sum_congr rfl fun r _ => ?_)
  exact term_of _ _ _ r.isLt

theorem flushed_weight (c : Dev nD) (t : Fin cfg0.N) (hf : (cfg0.win 5).flush t = true) :
    (dats m 0 c).flushed 5 t = ((cfg0.win 5).blk t).view.read (Elt Ideal) (weight (V m c main_arg0) (V m c main_arg2)) := by
  have hN : cfg0.N = 32 := N_0
  have h31 : t.val = 31 := by have := (flush0_5 t).mp hf; have := t.isLt; omega
  obtain ⟨n, hn⟩ := t
  obtain rfl : n = 31 := h31
  have last := fun j => weight_last m c j hn
  generalize weight (V m c main_arg0) (V m c main_arg2) = G at last ⊢
  rw [flushed5]
  funext j
  have hj : ∀ y : S1x1024.Idx, ((cfg0.win 5).blk ⟨31, hn⟩).view.emb y = y := fun y => by
    obtain ⟨e0, e1⟩ := (places ⟨31, hn⟩).2.2.2.2.2
    refine Cert.Product.ix_ext ?_ ?_
    · show win0_5.index ⟨31, hn⟩ (0 : Fin 2) * 1 + 1 * (y 0).val = (y 0).val
      rw [e0, Nat.zero_mul, Nat.zero_add, Nat.one_mul]
    · show win0_5.index ⟨31, hn⟩ (1 : Fin 2) * 1024 + 1 * (y 1).val = (y 1).val
      rw [e1, Nat.zero_mul, Nat.zero_add, Nat.one_mul]
  exact (last j).trans (congrArg G (hj j).symm)

theorem covered_weight (i : S1x1024.Idx) : ∃ t : Fin cfg0.N, (cfg0.win 5).flush t = true ∧ i ∈ ((cfg0.win 5).blk t).view.set := by
  have hn : 31 < cfg0.N := by rw [show cfg0.N = 32 from N_0]; decide
  refine ⟨⟨31, hn⟩, (flush0_5 ⟨31, hn⟩).mpr rfl, ?_⟩
  rw [View.set_slice_whole, Rect.mem_set_unit]
  obtain ⟨e0, e1⟩ := (places ⟨31, hn⟩).2.2.2.2.2
  intro a
  match a with
  | ⟨0, _⟩ =>
    show win0_5.index ⟨31, hn⟩ (0 : Fin 2) * 1 ≤ (i 0).val ∧ (i 0).val < win0_5.index ⟨31, hn⟩ (0 : Fin 2) * 1 + 1
    have : (i 0).val < 1 := (i 0).isLt
    rw [e0]; omega
  | ⟨1, _⟩ =>
    show win0_5.index ⟨31, hn⟩ (1 : Fin 2) * 1024 ≤ (i 1).val ∧ (i 1).val < win0_5.index ⟨31, hn⟩ (1 : Fin 2) * 1024 + 1024
    have : (i 1).val < 1024 := (i 1).isLt
    rw [e1]; omega

theorem frame_ref : Cert.quiescent_GradXRefIdeal := fun m ρ _ =>
  (θ_run Cert.GradXRefIdeal.defs _ _).mono (fun r h => ⟨fun c => (h c).2.2, sem_eq_zero_of_no_sems (by decide) r.2⟩)
    (Cert.GradXRefIdeal.Value.run (F := Ideal) m ρ)

/-- The gradient of `x` and that of the norm's weight are the reference's. -/
theorem algebraic : Cert.algebraic_GradXIdeal_GradXRefIdeal := by
  intro m g m' g' _ hin
  refine ⟨_, _, (θ_run Cert.GradXIdeal.defs _ _).mono (fun r h c => ⟨(h c).1.trans ((dats m 0 c).arrAt_eq_of_cover 4 _
    (fun t _ => flushed_rows m c t) covered_rows), (h c).2.1.trans ((dats m 0 c).arrAt_eq_of_cover 5 _ (flushed_weight m c) covered_weight),
    (h c).2.2⟩) (run_blocks (F := Ideal) m g),
    (θ_run Cert.GradXRefIdeal.defs _ _).mono (fun r h c => ?_) (Cert.GradXRefIdeal.Value.run (F := Ideal) m' g')⟩
  obtain ⟨h0, h1, hargs⟩ := h c
  obtain ⟨e0, e1, e2, e3⟩ := hin c
  refine ⟨(h0.trans (host_rows _ _ _ _)).trans ?_, (h1.trans (host_weight _ _)).trans ?_, hargs⟩
  · rw [e0, e1, e2, e3]
  · rw [e0, e2]

end Run

end Cert.Proof.GradX
-- ==== Proof.Norms.lean ====
/-
The norm that the sequence mixers read, and the residual after them with the norm that the channel mixer reads: a block of 256 rows at a
point, each row by itself.
-/
module

public import proofs.«01_k».proof.Defs
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.GradX
public import Idealize.ShloMosaic.Lib.Pointwise
public import Idealize.ShloMosaic.Lib.Tactic

@[expose] public section

noncomputable section

/-! ## Rows -/

namespace Cert.NormBack

open Idealize.ShloMosaic

variable {R : ℕ}

/-- The norm of a row, -/
def normed (x w : Fin 1024 → EReal) (k : Fin 1024) : EReal := x k * Ideal.rsqrt (spread x) * w k

/-- the row with the norm of another added, -/
def mixed (x m w : Fin 1024 → EReal) (k : Fin 1024) : EReal := x k + normed m w k

/-- and the same of all rows. -/
def normedRows (X : (⟨2, ![R, 1024]⟩ : Shape).Idx → EReal) (W : (⟨2, ![1, 1024]⟩ : Shape).Idx → EReal)
    (i : (⟨2, ![R, 1024]⟩ : Shape).Idx) : EReal := normed (row X (i 0)) (row W 0) (i 1)

def residualRows (X M : (⟨2, ![R, 1024]⟩ : Shape).Idx → EReal) (W : (⟨2, ![1, 1024]⟩ : Shape).Idx → EReal)
    (i : (⟨2, ![R, 1024]⟩ : Shape).Idx) : EReal := mixed (row X (i 0)) (row M (i 0)) (row W 0) (i 1)

theorem row_residualRows (X M : (⟨2, ![R, 1024]⟩ : Shape).Idx → EReal) (W : (⟨2, ![1, 1024]⟩ : Shape).Idx → EReal) (r : Fin R) :
    row (residualRows X M W) r = mixed (row X r) (row M r) (row W 0) := rfl

/-- Row `j 0` of a block (read through `s`) is a row of the matrix, the one that index `j` is written in (through `o`), -/
theorem row_of_block (X : (⟨2, ![8192, 1024]⟩ : Shape).Idx → EReal) (p : ℕ) (s o : (⟨2, ![256, 1024]⟩ : Shape).Idx → (⟨2, ![8192, 1024]⟩ : Shape).Idx)
    (f g : Fin 2 → ℕ) (hf : f 0 = p ∧ f 1 = 0) (hg : g 0 = p ∧ g 1 = 0)
    (hs : ∀ y, (s y 0).val = f 0 * 256 + 1 * (y 0).val ∧ (s y 1).val = f 1 * 1024 + 1 * (y 1).val)
    (ho : ∀ y, (o y 0).val = g 0 * 256 + 1 * (y 0).val ∧ (o y 1).val = g 1 * 1024 + 1 * (y 1).val)
    (x : (⟨2, ![256, 1024]⟩ : Shape).Idx → EReal) (hx : ∀ y, x y = X (s y)) (j : (⟨2, ![256, 1024]⟩ : Shape).Idx) :
    row x (j 0) = row X (o j 0) := by
  simp only [hf.1, hf.2, hg.1, hg.2, one_mul, zero_mul, zero_add] at hs ho
  exact funext fun k => (hx _).trans (congrArg X (Cert.Product.ix_ext ((hs _).1.trans (ho j).1.symm) (hs _).2))

/-- in the same column; -/
theorem column_of_block (o : (⟨2, ![256, 1024]⟩ : Shape).Idx → (⟨2, ![8192, 1024]⟩ : Shape).Idx) (g : Fin 2 → ℕ) (hg : g 1 = 0)
    (ho : ∀ y, (o y 1).val = g 1 * 1024 + 1 * (y 1).val) (j : (⟨2, ![256, 1024]⟩ : Shape).Idx) : (o j 1 : Fin 1024) = j 1 :=
  Fin.ext ((ho j).trans (by rw [hg, Nat.zero_mul, Nat.zero_add, Nat.one_mul]))

/-- and the weight, read through `q`, is read whole. -/
theorem weight_of_block (W : (⟨2, ![1, 1024]⟩ : Shape).Idx → EReal) (q : (⟨2, ![1, 1024]⟩ : Shape).Idx → (⟨2, ![1, 1024]⟩ : Shape).Idx) (f : Fin 2 → ℕ)
    (hf : f 0 = 0 ∧ f 1 = 0) (hq : ∀ y, (q y 0).val = f 0 * 1 + 1 * (y 0).val ∧ (q y 1).val = f 1 * 1024 + 1 * (y 1).val)
    (w : (⟨2, ![1, 1024]⟩ : Shape).Idx → EReal) (hw : ∀ y, w y = W (q y)) : row w 0 = row W 0 := by
  simp only [hf.1, hf.2, one_mul, zero_mul, zero_add] at hq
  exact funext fun k => (hw _).trans (congrArg W (Cert.Product.ix_ext (hq _).1 (hq _).2))

end Cert.NormBack

/-! ## `rms0_fwd` -/

namespace Cert.Proof.Norm

section Kernel

open Idealize.ShloMosaic Cert.NormIdeal Cert.NormIdeal.Gen Cert.NormBack

set_option maxRecDepth 16384

theorem block_at (x : Vec Ideal S256x1024 .f32) (w : Vec Ideal S1x1024 .f32) : k0_pay1 (F := Ideal) x w = normedRows x w := by
  funext j
  obtain ⟨a, b, rfl⟩ : ∃ (a : Fin 256) (b : Fin 1024), j = ix2 a b := ⟨j 0, j 1, eq_ix2 j⟩
  pointwise [k0_pay1, normedRows, normed, spread, row]

end Kernel

section Host

open Idealize.ShloMosaic Cert.NormRefIdeal Cert.NormRefIdeal.Facts₀ Cert.NormBack

set_option maxRecDepth 16384

theorem host_normed (x : FVec Ideal S8192x1024 .f32) (w : FVec Ideal S1x1024 .f32) :
    truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 w)) bitsLt_bf16_f32 = normedRows x w := by
  funext j
  obtain ⟨a, b, rfl⟩ : ∃ (a : Fin 8192) (b : Fin 1024), j = ix2 a b := ⟨j 0, j 1, eq_ix2 j⟩
  pointwise [normedRows, normed, spread, row]

end Host

section Run

open Idealize.ShloMosaic Idealize.ShloMosaic.TcCoe Idealize.SL.Sem Cert.NormIdeal Cert.NormIdeal.Gen Cert.NormIdeal.Value Cert.NormBack

/-- Point `t` reads and writes the block of rows number `t`. -/
theorem places : ∀ t : Fin grid0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 := by decide +kernel

theorem flushed (m : (ℓ : Loc nD τ sig) → Buf (Elt Ideal) ℓ) (c : Dev nD) (t : Fin cfg0.N) :
    (dats m 0 c).flushed 2 t = ((cfg0.win 2).blk t).view.read (Elt Ideal) (normedRows (V m c main_arg0) (V m c main_arg1)) := by
  have h0 := row_of_block (V m c main_arg0) t.val ((cfg0.win 0).blk t).view.emb ((cfg0.win 2).blk t).view.emb _ _ (places t).1 (places t).2.2
    (fun _ => ⟨rfl, rfl⟩) (fun _ => ⟨rfl, rfl⟩) (iblk m c 0 t) (fun _ => rfl)
  have h1 := weight_of_block (V m c main_arg1) ((cfg0.win 1).blk t).view.emb _ (places t).2.1 (fun _ => ⟨rfl, rfl⟩) (iblk m c 1 t) (fun _ => rfl)
  have h2 := column_of_block ((cfg0.win 2).blk t).view.emb _ (places t).2.2.2 (fun _ => rfl)
  rw [flushed2, out0_2, View.canon_unit_zero Cert.Product.origin, View.ld_unit_zero (S := S256x1024) Cert.Product.origin,
    View.ld_unit_zero (S := S1x1024) Cert.Product.origin, block_at]
  funext j
  show normed (row (iblk m c 0 t) (j 0)) (row (iblk m c 1 t) 0) (j 1) = normed (row (V m c main_arg0) (((cfg0.win 2).blk t).view.emb j 0))
    (row (V m c main_arg1) 0) (((cfg0.win 2).blk t).view.emb j 1)
  rw [h1, h2 j]
  exact congrArg (fun x => normed x _ _) (h0 j)

/-- Every row is written at some point. -/
theorem covered (i : S8192x1024.Idx) : ∃ t : Fin cfg0.N, (cfg0.win 2).flush t = true ∧ i ∈ ((cfg0.win 2).blk t).view.set := by
  obtain ⟨t, ht⟩ := Cert.Product.tile (M := 8192) (N := 1024) (tm := 256) (tn := 1024) 32 1 N_0 rfl rfl (fun t => win0_2.index t)
    (fun t => ⟨(places t).2.2.1.trans (Nat.div_one _).symm, (places t).2.2.2.trans (Nat.mod_one _).symm⟩) i
  exact ⟨t, flush0_2 t, by rw [View.set_slice_whole, Rect.mem_set_unit]; exact ht⟩

theorem frame_ref : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The norm that the call leaves is the reference's. -/
theorem algebraic : Cert.algebraic_NormIdeal_NormRefIdeal := by
  intro m g m' g' _ hin
  refine ⟨_, (θ_run Cert.NormIdeal.defs _ _).mono (fun r h c => ⟨(h c).1.trans ((dats m 0 c).arrAt_eq_of_cover 2 _
    (fun t _ => flushed m c t) covered), (h c).2⟩) (run_blocks (F := Ideal) m g),
    (θ_run Cert.NormRefIdeal.defs _ _).mono (fun r h c => ?_) (Cert.NormRefIdeal.Value.run (F := Ideal) m' g')⟩
  obtain ⟨h0, hargs⟩ := h c
  refine ⟨(h0.trans (host_normed _ _)).trans ?_, hargs⟩
  rw [(hin c).1, (hin c).2]

end Run

end Cert.Proof.Norm

/-! ## `res1_fwd` -/

namespace Cert.Proof.Mix

section Kernel

open Idealize.ShloMosaic Cert.MixIdeal Cert.MixIdeal.Gen Cert.NormBack

set_option maxRecDepth 16384

theorem residual_at (x y : Vec Ideal S256x1024 .f32) (w : Vec Ideal S1x1024 .f32) : k0_pay1 (F := Ideal) x y w = residualRows x y w := by
  funext j
  obtain ⟨a, b, rfl⟩ : ∃ (a : Fin 256) (b : Fin 1024), j = ix2 a b := ⟨j 0, j 1, eq_ix2 j⟩
  pointwise [k0_pay1, residualRows, mixed, normed, spread, row]

theorem normed_at (x y : Vec Ideal S256x1024 .f32) (w v : Vec Ideal S1x1024 .f32) :
    k0_pay2 (F := Ideal) x y w v = normedRows (residualRows x y w) v := by
  unfold k0_pay2
  rw [residual_at]
  generalize residualRows x y w = z
  funext j
  obtain ⟨a, b, rfl⟩ : ∃ (a : Fin 256) (b : Fin 1024), j = ix2 a b := ⟨j 0, j 1, eq_ix2 j⟩
  pointwise [normedRows, normed, spread, row]

end Kernel

section Host

open Idealize.ShloMosaic Cert.MixRefIdeal Cert.MixRefIdeal.Facts₀ Cert.NormBack

set_option maxRecDepth 16384

/-- The norm of the rows, as the reference takes it. -/
def hostNormed (x : FVec Ideal S8192x1024 .f32) (w : FVec Ideal S1x1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 w)

theorem host_normed (x : FVec Ideal S8192x1024 .f32) (w : FVec Ideal S1x1024 .f32) : hostNormed x w = normedRows x w := by
  funext j
  obtain ⟨a, b, rfl⟩ : ∃ (a : Fin 8192) (b : Fin 1024), j = ix2 a b := ⟨j 0, j 1, eq_ix2 j⟩
  pointwise [hostNormed, normedRows, normed, spread, row]

theorem host_residual (x y : FVec Ideal S8192x1024 .f32) (w : FVec Ideal S1x1024 .f32) : addf x (hostNormed y w) = residualRows x y w := by
  rw [host_normed]
  funext j
  obtain ⟨a, b, rfl⟩ : ∃ (a : Fin 8192) (b : Fin 1024), j = ix2 a b := ⟨j 0, j 1, eq_ix2 j⟩
  rfl

theorem host_both (x y : FVec Ideal S8192x1024 .f32) (w v : FVec Ideal S1x1024 .f32) :
    truncf .bf16 (hostNormed (addf x (hostNormed y w)) v) bitsLt_bf16_f32 = normedRows (residualRows x y w) v := by
  rw [host_residual, host_normed]; rfl

end Host

section Run

open Idealize.ShloMosaic Idealize.ShloMosaic.TcCoe Idealize.SL.Sem Cert.MixIdeal Cert.MixIdeal.Gen Cert.MixIdeal.Value Cert.NormBack

/-- Point `t` reads and writes the blocks of rows number `t`. -/
theorem places : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0)
    ∧ win0_5.index t (0 : Fin 2) = t.val ∧ win0_5.index t (1 : Fin 2) = 0 := by decide +kernel

variable (m : (ℓ : Loc nD τ sig) → Buf (Elt Ideal) ℓ)

theorem flushed_residual (c : Dev nD) (t : Fin cfg0.N) : (dats m 0 c).flushed 4 t = ((cfg0.win 4).blk t).view.read (Elt Ideal)
    (residualRows (V m c main_arg0) (V m c main_arg1) (V m c main_arg2)) := by
  obtain ⟨p0, p1, p2, _, p4, _⟩ := places t
  have h0 := row_of_block (V m c main_arg0) t.val ((cfg0.win 0).blk t).view.emb ((cfg0.win 4).blk t).view.emb _ _ p0 p4
    (fun _ => ⟨rfl, rfl⟩) (fun _ => ⟨rfl, rfl⟩) (iblk m c 0 t) (fun _ => rfl)
  have h1 := row_of_block (V m c main_arg1) t.val ((cfg0.win 1).blk t).view.emb ((cfg0.win 4).blk t).view.emb _ _ p1 p4
    (fun _ => ⟨rfl, rfl⟩) (fun _ => ⟨rfl, rfl⟩) (iblk m c 1 t) (fun _ => rfl)
  have h2 := weight_of_block (V m c main_arg2) ((cfg0.win 2).blk t).view.emb _ p2 (fun _ => ⟨rfl, rfl⟩) (iblk m c 2 t) (fun _ => rfl)
  have h4 := column_of_block ((cfg0.win 4).blk t).view.emb _ p4.2 (fun _ => rfl)
  rw [flushed4, out0_4, View.canon_unit_zero Cert.Product.origin, View.ld_unit_zero (S := S256x1024) Cert.Product.origin,
    View.ld_unit_zero (S := S256x1024) Cert.Product.origin, View.ld_unit_zero (S := S1x1024) Cert.Product.origin, residual_at]
  funext j
  show mixed (row (iblk m c 0 t) (j 0)) (row (iblk m c 1 t) (j 0)) (row (iblk m c 2 t) 0) (j 1)
    = mixed (row (V m c main_arg0) (((cfg0.win 4).blk t).view.emb j 0)) (row (V m c main_arg1) (((cfg0.win 4).blk t).view.emb j 0))
      (row (V m c main_arg2) 0) (((cfg0.win 4).blk t).view.emb j 1)
  rw [h2, h4 j]
  exact congrArg₂ (fun x y => mixed x y _ _) (h0 j) (h1 j)

theorem flushed_normed (c : Dev nD) (t : Fin cfg0.N) : (dats m 0 c).flushed 5 t = ((cfg0.win 5).blk t).view.read (Elt Ideal)
    (normedRows (residualRows (V m c main_arg0) (V m c main_arg1) (V m c main_arg2)) (V m c main_arg3)) := by
  obtain ⟨p0, p1, p2, p3, _, p5⟩ := places t
  have h0 := row_of_block (V m c main_arg0) t.val ((cfg0.win 0).blk t).view.emb ((cfg0.win 5).blk t).view.emb _ _ p0 p5
    (fun _ => ⟨rfl, rfl⟩) (fun _ => ⟨rfl, rfl⟩) (iblk m c 0 t) (fun _ => rfl)
  have h1 := row_of_block (V m c main_arg1) t.val ((cfg0.win 1).blk t).view.emb ((cfg0.win 5).blk t).view.emb _ _ p1 p5
    (fun _ => ⟨rfl, rfl⟩) (fun _ => ⟨rfl, rfl⟩) (iblk m c 1 t) (fun _ => rfl)
  have h2 := weight_of_block (V m c main_arg2) ((cfg0.win 2).blk t).view.emb _ p2 (fun _ => ⟨rfl, rfl⟩) (iblk m c 2 t) (fun _ => rfl)
  have h3 := weight_of_block (V m c main_arg3) ((cfg0.win 3).blk t).view.emb _ p3 (fun _ => ⟨rfl, rfl⟩) (iblk m c 3 t) (fun _ => rfl)
  have h5 := column_of_block ((cfg0.win 5).blk t).view.emb _ p5.2 (fun _ => rfl)
  rw [flushed5, out0_5, View.canon_unit_zero Cert.Product.origin, View.ld_unit_zero (S := S256x1024) Cert.Product.origin,
    View.ld_unit_zero (S := S256x1024) Cert.Product.origin, View.ld_unit_zero (S := S1x1024) Cert.Product.origin,
    View.ld_unit_zero (S := S1x1024) Cert.Product.origin, normed_at]
  funext j
  show normed (mixed (row (iblk m c 0 t) (j 0)) (row (iblk m c 1 t) (j 0)) (row (iblk m c 2 t) 0)) (row (iblk m c 3 t) 0) (j 1)
    = normed (mixed (row (V m c main_arg0) (((cfg0.win 5).blk t).view.emb j 0)) (row (V m c main_arg1) (((cfg0.win 5).blk t).view.emb j 0))
      (row (V m c main_arg2) 0)) (row (V m c main_arg3) 0) (((cfg0.win 5).blk t).view.emb j 1)
  rw [h2, h3, h5 j]
  exact congrArg₂ (fun x y => normed (mixed x y _) _ _) (h0 j) (h1 j)

/-- Every row of either result is written at some point. -/
theorem covered_residual (i : S8192x1024.Idx) : ∃ t : Fin cfg0.N, (cfg0.win 4).flush t = true ∧ i ∈ ((cfg0.win 4).blk t).view.set := by
  obtain ⟨t, ht⟩ := Cert.Product.tile (M := 8192) (N := 1024) (tm := 256) (tn := 1024) 32 1 N_0 rfl rfl (fun t => win0_4.index t)
    (fun t => ⟨(places t).2.2.2.2.1.1.trans (Nat.div_one _).symm, (places t).2.2.2.2.1.2.trans (Nat.mod_one _).symm⟩) i
  exact ⟨t, flush0_4 t, by rw [View.set_slice_whole, Rect.mem_set_unit]; exact ht⟩

theorem covered_normed (i : S8192x1024.Idx) : ∃ t : Fin cfg0.N, (cfg0.win 5).flush t = true ∧ i ∈ ((cfg0.win 5).blk t).view.set := by
  obtain ⟨t, ht⟩ := Cert.Product.tile (M := 8192) (N := 1024) (tm := 256) (tn := 1024) 32 1 N_0 rfl rfl (fun t => win0_5.index t)
    (fun t => ⟨(places t).2.2.2.2.2.1.trans (Nat.div_one _).symm, (places t).2.2.2.2.2.2.trans (Nat.mod_one _).symm⟩) i
  exact ⟨t, flush0_5 t, by rw [View.set_slice_whole, Rect.mem_set_unit]; exact ht⟩

theorem frame_ref : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The residual and its norm are the reference's. -/
theorem algebraic : Cert.algebraic_MixIdeal_MixRefIdeal := by
  intro m g m' g' _ hin
  refine ⟨_, _, (θ_run Cert.MixIdeal.defs _ _).mono (fun r h c => ⟨(h c).1.trans ((dats m 0 c).arrAt_eq_of_cover 4 _
    (fun t _ => flushed_residual m c t) covered_residual), (h c).2.1.trans ((dats m 0 c).arrAt_eq_of_cover 5 _
    (fun t _ => flushed_normed m c t) covered_normed), (h c).2.2⟩) (run_blocks (F := Ideal) m g),
    (θ_run Cert.MixRefIdeal.defs _ _).mono (fun r h c => ?_) (Cert.MixRefIdeal.Value.run (F := Ideal) m' g')⟩
  obtain ⟨h0, h1, hargs⟩ := h c
  obtain ⟨e0, e1, e2, e3⟩ := hin c
  refine ⟨(h0.trans (host_residual _ _ _)).trans ?_, (h1.trans (host_both _ _ _ _)).trans ?_, hargs⟩
  · rw [e0, e1, e2]
  · rw [e0, e1, e2, e3]

end Run

end Cert.Proof.Mix
-- ==== Proof.Back.lean ====
/-
What the calls that go back through a norm share: the rows of a block as rows of a matrix, the gradients of a row, and sums over all rows
taken a block at a time.
-/
module

public import proofs.«01_k».proof.Proof.Norms

@[expose] public section

noncomputable section

namespace Cert.NormBack

open Idealize.ShloMosaic

variable {R : ℕ}

/-! ## Blocks of rows -/

/-- `x` is block `p` of the rows of `X`. -/
def Block (p : ℕ) (x : (⟨2, ![256, 1024]⟩ : Shape).Idx → EReal) (X : (⟨2, ![8192, 1024]⟩ : Shape).Idx → EReal) : Prop :=
  ∀ (a : Fin 256) (h : p * 256 + a.val < 8192), row x a = row X ⟨p * 256 + a.val, h⟩

/-- What is read through a window at block `p`, -/
theorem block_read (X : (⟨2, ![8192, 1024]⟩ : Shape).Idx → EReal) (p : ℕ) (s : (⟨2, ![256, 1024]⟩ : Shape).Idx → (⟨2, ![8192, 1024]⟩ : Shape).Idx)
    (f : Fin 2 → ℕ) (hf : f 0 = p ∧ f 1 = 0) (hs : ∀ y, (s y 0).val = f 0 * 256 + 1 * (y 0).val ∧ (s y 1).val = f 1 * 1024 + 1 * (y 1).val)
    (x : (⟨2, ![256, 1024]⟩ : Shape).Idx → EReal) (hx : ∀ y, x y = X (s y)) : Block p x X := by
  simp only [hf.1, hf.2, one_mul, zero_mul, zero_add] at hs
  exact fun a h => funext fun k => (hx _).trans (congrArg X (Cert.Product.ix_ext (hs _).1 (hs _).2))

/-- what is written there, -/
theorem block_written {x : (⟨2, ![256, 1024]⟩ : Shape).Idx → EReal} {X : (⟨2, ![8192, 1024]⟩ : Shape).Idx → EReal} {p : ℕ} (hx : Block p x X) (hp : p < 32)
    (o : (⟨2, ![256, 1024]⟩ : Shape).Idx → (⟨2, ![8192, 1024]⟩ : Shape).Idx) (g : Fin 2 → ℕ) (hg : g 0 = p ∧ g 1 = 0)
    (ho : ∀ y, (o y 0).val = g 0 * 256 + 1 * (y 0).val ∧ (o y 1).val = g 1 * 1024 + 1 * (y 1).val) (j : (⟨2, ![256, 1024]⟩ : Shape).Idx) : x j = X (o j) := by
  simp only [hg.1, hg.2, one_mul, zero_mul, zero_add] at ho
  obtain ⟨a, b, rfl⟩ : ∃ (a : Fin 256) (b : Fin 1024), j = ix2 a b := ⟨j 0, j 1, eq_ix2 j⟩
  have h : p * 256 + a.val < 8192 := by have := a.isLt; omega
  exact (congrFun (hx a h) b).trans (congrArg X (Cert.Product.ix_ext (ho (ix2 a b)).1.symm (ho (ix2 a b)).2.symm))

/-- and the weight, which is read whole. -/
theorem weight_read (W : (⟨2, ![1, 1024]⟩ : Shape).Idx → EReal) (q : (⟨2, ![1, 1024]⟩ : Shape).Idx → (⟨2, ![1, 1024]⟩ : Shape).Idx) (f : Fin 2 → ℕ)
    (hf : f 0 = 0 ∧ f 1 = 0) (hq : ∀ y, (q y 0).val = f 0 * 1 + 1 * (y 0).val ∧ (q y 1).val = f 1 * 1024 + 1 * (y 1).val)
    (w : (⟨2, ![1, 1024]⟩ : Shape).Idx → EReal) (hw : ∀ y, w y = W (q y)) : w = W := by
  simp only [hf.1, hf.2, one_mul, zero_mul, zero_add] at hq
  exact funext fun k => (hw _).trans (congrArg W (Cert.Product.ix_ext (hq _).1 (hq _).2))

/-- A block whose rows are made from the rows of other blocks. -/
theorem block_residual {p : ℕ} {x m : (⟨2, ![256, 1024]⟩ : Shape).Idx → EReal} {X M : (⟨2, ![8192, 1024]⟩ : Shape).Idx → EReal} (hx : Block p x X) (hm : Block p m M)
    (W : (⟨2, ![1, 1024]⟩ : Shape).Idx → EReal) : Block p (residualRows x m W) (residualRows X M W) := fun a h => by
  show mixed (row x a) (row m a) (row W 0) = mixed (row X ⟨_, h⟩) (row M ⟨_, h⟩) (row W 0)
  rw [hx a h, hm a h]

/-! ## Gradients -/

/-- The gradient of a row `x` of a norm, from that of its output (`d`), -/
def fall (x w d : Fin 1024 → EReal) (k : Fin 1024) : EReal :=
  d k * w k * Ideal.rsqrt (spread x) + x k * along x w d + along x w d * x k

/-- and of all rows; -/
def fallRows (X D : (⟨2, ![R, 1024]⟩ : Shape).Idx → EReal) (W : (⟨2, ![1, 1024]⟩ : Shape).Idx → EReal)
    (i : (⟨2, ![R, 1024]⟩ : Shape).Idx) : EReal := fall (row X (i 0)) (row W 0) (row D (i 0)) (i 1)

/-- the same onto the gradient `e` along the residual. -/
def onto (x w d e : Fin 1024 → EReal) (k : Fin 1024) : EReal :=
  e k + d k * w k * Ideal.rsqrt (spread x) + x k * along x w d + along x w d * x k

def ontoRows (X D E : (⟨2, ![R, 1024]⟩ : Shape).Idx → EReal) (W : (⟨2, ![1, 1024]⟩ : Shape).Idx → EReal)
    (i : (⟨2, ![R, 1024]⟩ : Shape).Idx) : EReal := onto (row X (i 0)) (row W 0) (row D (i 0)) (row E (i 0)) (i 1)

theorem block_fall {p : ℕ} {x d : (⟨2, ![256, 1024]⟩ : Shape).Idx → EReal} {X D : (⟨2, ![8192, 1024]⟩ : Shape).Idx → EReal} (hx : Block p x X) (hd : Block p d D)
    (W : (⟨2, ![1, 1024]⟩ : Shape).Idx → EReal) : Block p (fallRows x d W) (fallRows X D W) := fun a h => by
  show fall (row x a) (row W 0) (row d a) = fall (row X ⟨_, h⟩) (row W 0) (row D ⟨_, h⟩)
  rw [hx a h, hd a h]

theorem block_onto {p : ℕ} {x d e : (⟨2, ![256, 1024]⟩ : Shape).Idx → EReal} {X D E : (⟨2, ![8192, 1024]⟩ : Shape).Idx → EReal} (hx : Block p x X)
    (hd : Block p d D) (he : Block p e E) (W : (⟨2, ![1, 1024]⟩ : Shape).Idx → EReal) : Block p (ontoRows x d e W) (ontoRows X D E W) := fun a h => by
  show onto (row x a) (row W 0) (row d a) (row e a) = onto (row X ⟨_, h⟩) (row W 0) (row D ⟨_, h⟩) (row E ⟨_, h⟩)
  rw [hx a h, hd a h, he a h]

/-! ## Sums over the rows -/

/-- The value of row `r`, and nothing beyond the rows. -/
def rowOr (v : Fin 8192 → EReal) (r : ℕ) : EReal := if h : r < 8192 then v ⟨r, h⟩ else 0

theorem rowOr_of (v : Fin 8192 → EReal) {r : ℕ} (h : r < 8192) : rowOr v r = v ⟨r, h⟩ := dif_pos h

/-- The sum over a block, -/
theorem sum_block (u : Fin 256 → EReal) (v : Fin 8192 → EReal) (p : ℕ) (hp : p < 32)
    (h : ∀ (a : Fin 256) (h : p * 256 + a.val < 8192), u a = v ⟨p * 256 + a.val, h⟩) : ∑ a, u a = ∑ k ∈ Finset.range 256, rowOr v (p * 256 + k) := by
  rw [Finset.sum_range]
  refine Finset.sum_congr rfl fun a _ => ?_
  have ha : p * 256 + a.val < 8192 := by have := a.isLt; omega
  exact (h a ha).trans (rowOr_of v ha).symm

theorem weight_block {p : ℕ} (hp : p < 32) {x d : (⟨2, ![256, 1024]⟩ : Shape).Idx → EReal} {X D : (⟨2, ![8192, 1024]⟩ : Shape).Idx → EReal} (hx : Block p x X)
    (hd : Block p d D) (j : (⟨2, ![1, 1024]⟩ : Shape).Idx) :
    weight x d j = ∑ k ∈ Finset.range 256, rowOr (fun r => part (row X r) (row D r) (j 1)) (p * 256 + k) :=
  sum_block _ (fun r => part (row X r) (row D r) (j 1)) p hp fun a h => by rw [hx a h, hd a h]

/-- and over all blocks. -/
theorem sum_all (v : Fin 8192 → EReal) : ∑ e ∈ Finset.range (31 + 1), ∑ k ∈ Finset.range 256, rowOr v (e * 256 + k) = ∑ r, v r := by
  rw [Cert.Product.sum_blocks]
  exact (Finset.sum_range _).trans (Finset.sum_congr rfl fun r _ => rowOr_of v r.isLt)

/-- A value that each point adds to. -/
theorem sum_upto {N : ℕ} (f : (n : ℕ) → n < N → EReal) (b : ℕ → EReal) (h0 : ∀ h, f 0 h = b 0)
    (hs : ∀ n (h : n + 1 < N), f (n + 1) h = f n (Nat.lt_of_succ_lt h) + b (n + 1)) : ∀ n (h : n < N), f n h = ∑ e ∈ Finset.range (n + 1), b e
  | 0, h => (h0 h).trans (Finset.sum_range_one _).symm
  | n + 1, h => (hs n h).trans ((congrArg (· + _) (sum_upto f b h0 hs n _)).trans (Finset.sum_range_succ _ _).symm)

end Cert.NormBack
-- ==== Proof.Loss.lean ====
/-
The loss. A block of 256 rows at a point: the error of each row adds to the loss, its gradients go back through the norm, and the rows'
parts of the gradient of the norm's weight add up.
-/
module

public import proofs.«01_k».proof.Proof.Back
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run

@[expose] public section

noncomputable section

namespace Cert.Proof.Loss

section Rows

open Idealize.ShloMosaic Cert.NormBack

variable {R : ℕ}

/-- The errors, -/
def errors (X F T : (⟨2, ![R, 1024]⟩ : Shape).Idx → EReal) (W : (⟨2, ![1, 1024]⟩ : Shape).Idx → EReal) (i : (⟨2, ![R, 1024]⟩ : Shape).Idx) : EReal :=
  residualRows X F W i - T i

/-- the gradient of one, -/
def rate : EReal := Ideal.div (Ideal.ofBits .f32 0x3F000000#32 * Ideal.ofBits .f32 0x3F800000#32) (Ideal.ofBits .f32 0x44800000#32)

def steps (E : (⟨2, ![R, 1024]⟩ : Shape).Idx → EReal) (i : (⟨2, ![R, 1024]⟩ : Shape).Idx) : EReal := E i * rate + rate * E i

/-- the mean square of a row, -/
def square (e : Fin 1024 → EReal) : EReal := Ideal.div (∑ k, e k * e k) (Ideal.ofBits .f32 0x44800000#32)

/-- and the loss. -/
def loss (E : (⟨2, ![R, 1024]⟩ : Shape).Idx → EReal) : EReal := Ideal.ofBits .f32 0x3F000000#32 * ∑ r, square (row E r)

theorem block_errors {p : ℕ} {x f t : (⟨2, ![256, 1024]⟩ : Shape).Idx → EReal} {X F T : (⟨2, ![8192, 1024]⟩ : Shape).Idx → EReal} (hx : Block p x X)
    (hf : Block p f F) (ht : Block p t T) (W : (⟨2, ![1, 1024]⟩ : Shape).Idx → EReal) : Block p (errors x f t W) (errors X F T W) := fun a h =>
  funext fun k => congrArg₂ (· - ·) (congrFun (block_residual hx hf W a h) k) (congrFun (ht a h) k)

theorem block_steps {p : ℕ} {e : (⟨2, ![256, 1024]⟩ : Shape).Idx → EReal} {E : (⟨2, ![8192, 1024]⟩ : Shape).Idx → EReal} (he : Block p e E) :
    Block p (steps e) (steps E) := fun a h => funext fun k => congrArg (fun z => z * rate + rate * z) (congrFun (he a h) k)

theorem half : Ideal.ofBits .f32 0x3F000000#32 = (((1 : ℝ) / 2 : ℝ) : EReal) := by
  simp [Ideal.ofBits, Ideal.ieee, -EReal.coe_mul]; norm_num

/-- Halves of sums are sums of halves. -/
theorem half_sum (b : ℕ → EReal) (n : ℕ) : ∑ e ∈ Finset.range n, Ideal.ofBits .f32 0x3F000000#32 * b e
    = Ideal.ofBits .f32 0x3F000000#32 * ∑ e ∈ Finset.range n, b e := by
  induction n with
  | zero => simp
  | succ n ih =>
    rw [Finset.sum_range_succ, Finset.sum_range_succ, ih, half]
    exact (EReal.left_distrib_of_nonneg_of_ne_top (EReal.coe_nonneg.mpr (by norm_num)) (EReal.coe_ne_top _) _ _).symm

end Rows

section Kernel

open Idealize.ShloMosaic Cert.LossIdeal Cert.LossIdeal.Gen Cert.NormBack

set_option maxRecDepth 16384

theorem spread_at (f : Vec Ideal S256x1024 .f32) (a : Fin 256) (z : Fin 1) : k0_pay7 (F := Ideal) f (ix2 a z) = spread (row f a) := by
  pointwise [k0_pay7, spread, row]

theorem inverse_at (f : Vec Ideal S256x1024 .f32) (a : Fin 256) (z : Fin 1) :
    k0_pay8 (F := Ideal) f (ix2 a z) = Ideal.rsqrt (spread (row f a)) := by
  rw [← spread_at f a z]; rfl

theorem errors_at (x f t : Vec Ideal S256x1024 .f32) (w : Vec Ideal S1x1024 .f32) : k0_pay11 (F := Ideal) x f w t = errors x f t w := by
  funext j
  obtain ⟨a, b, rfl⟩ : ∃ (a : Fin 256) (b : Fin 1024), j = ix2 a b := ⟨j 0, j 1, eq_ix2 j⟩
  pointwise [k0_pay11, k0_pay10, errors, residualRows, mixed, normed]
  simp only [inverse_at]
  rfl

theorem rate_at (a : Fin 256) : k0_pay13 (F := Ideal) (ix1 a) = rate := rfl

theorem steps_at (e : Vec Ideal S256x1024 .f32) : k0_pay1 (F := Ideal) e (k0_pay13 (F := Ideal)) = steps e := by
  funext j
  obtain ⟨a, b, rfl⟩ : ∃ (a : Fin 256) (b : Fin 1024), j = ix2 a b := ⟨j 0, j 1, eq_ix2 j⟩
  pointwise [k0_pay1, steps]
  simp only [rate_at]

theorem fall_at (e f : Vec Ideal S256x1024 .f32) (w : Vec Ideal S1x1024 .f32) :
    k0_pay3 (F := Ideal) f w (k0_pay8 f) (k0_pay9 f) e (k0_pay13 (F := Ideal)) = fallRows f (steps e) w := by
  unfold k0_pay3
  rw [steps_at]
  generalize steps e = d
  funext j
  obtain ⟨a, b, rfl⟩ : ∃ (a : Fin 256) (b : Fin 1024), j = ix2 a b := ⟨j 0, j 1, eq_ix2 j⟩
  pointwise [k0_pay9, fallRows, fall, along]
  simp only [spread_at, inverse_at, Fin.sum_univ_one]
  rfl

theorem weight_at (e f : Vec Ideal S256x1024 .f32) (acc : Vec Ideal S1x1024 .f32) (j : S1x1024.Idx) :
    k0_pay4 (F := Ideal) (k0_pay10 f) e (k0_pay13 (F := Ideal)) acc j = acc j + weight f (steps e) j := by
  unfold k0_pay4
  rw [steps_at]
  generalize steps e = d
  obtain ⟨a, b, rfl⟩ : ∃ (a : Fin 1) (b : Fin 1024), j = ix2 a b := ⟨j 0, j 1, eq_ix2 j⟩
  pointwise [k0_pay10, weight, part]
  simp only [inverse_at]
  rfl

theorem weight_at_zero (e f : Vec Ideal S256x1024 .f32) (j : S1x1024.Idx) :
    k0_pay4 (F := Ideal) (k0_pay10 f) e (k0_pay13 (F := Ideal)) (k0_pay6 (F := Ideal)) j = weight f (steps e) j := by
  rw [weight_at]
  exact (congrArg (· + _) Ideal.ofBits_zero_f32).trans (zero_add _)

theorem loss_at (x f t : Vec Ideal S256x1024 .f32) (w : Vec Ideal S1x1024 .f32) : k0_pay12 (F := Ideal) x f w t = loss (errors x f t w) := by
  unfold k0_pay12
  rw [errors_at]
  generalize errors x f t w = e
  pointwise [loss, square, row]

theorem add_at (v : EReal) (acc : Vec Ideal S8x128 .f32) (j : S8x128.Idx) : k0_pay2 (F := Ideal) v acc j = acc j + v := by
  obtain ⟨a, b, rfl⟩ : ∃ (a : Fin 8) (b : Fin 128), j = ix2 a b := ⟨j 0, j 1, eq_ix2 j⟩
  pointwise [k0_pay2]

theorem add_at_zero (v : EReal) (j : S8x128.Idx) : k0_pay2 (F := Ideal) v (k0_pay5 (F := Ideal)) j = v := by
  rw [add_at]
  exact (congrArg (· + _) Ideal.ofBits_zero_f32).trans (zero_add _)

/-! What a point leaves in the blocks of the four results: the first point of all, and every later one, which finds `u` for the loss and `v`
    for the gradient of the weight. -/

theorem first_loss (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S256x1024 .f32)
    (h4 : a4.IsWhole) (a5 : Memref sig .tc .vmem S8x128 .f32) (h5 : a5.IsWhole) (a6 : Memref sig .tc .vmem S256x1024 .f32)
    (h6 : a6.IsWhole) (a7 : Memref sig .tc .vmem S256x1024 .bf16) (h7 : a7.IsWhole) (a8 : Memref sig .tc .vmem S1x1024 .f32)
    (h8 : a8.IsWhole) (hc : cond0_0 i)
    (x : Vec Ideal S256x1024 .f32) (f : Vec Ideal S256x1024 .f32) (w : Vec Ideal S1x1024 .f32) (t : Vec Ideal S256x1024 .f32) (j : S8x128.Idx) :
    out0_A_4 c i a1 h1 a2 h2 a3 h3 a4 h4 a5 h5 a6 h6 a7 h7 a8 h8 hc x f w t j = loss (errors x f t w) := by
  unfold out0_A_4
  rw [View.read_writes_eq_canon _ _ _ (cover0_A_4 c i a1 h1 a2 h2 a3 h3 a4 h4 a5 h5 a6 h6 a7 h7 a8 h8 hc x f w t)]
  unfold kernelRun0_A
  dsimp only
  sl_unfold_words
  rw [View.canon_cons_unit_zero (S := S8x128) Cert.Product.origin, View.readCov_unit_zero (S := S8x128) _ Cert.Product.origin]
  simp only [View.readAt_eq_ld, h1.read_unread, h2.read_unread, h3.read_unread, h4.read_unread,
    View.ld_unit_zero (S := S1x1024) Cert.Product.origin, View.ld_unit_zero (S := S256x1024) Cert.Product.origin, View.ld_unit_zero (S := S8x128) Cert.Product.origin]
  exact (add_at_zero _ j).trans (loss_at x f t w)

theorem first_steps (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S256x1024 .f32)
    (h4 : a4.IsWhole) (a5 : Memref sig .tc .vmem S8x128 .f32) (h5 : a5.IsWhole) (a6 : Memref sig .tc .vmem S256x1024 .f32)
    (h6 : a6.IsWhole) (a7 : Memref sig .tc .vmem S256x1024 .bf16) (h7 : a7.IsWhole) (a8 : Memref sig .tc .vmem S1x1024 .f32)
    (h8 : a8.IsWhole) (hc : cond0_0 i)
    (x : Vec Ideal S256x1024 .f32) (f : Vec Ideal S256x1024 .f32) (w : Vec Ideal S1x1024 .f32) (t : Vec Ideal S256x1024 .f32) :
    out0_A_5 c i a1 h1 a2 h2 a3 h3 a4 h4 a5 h5 a6 h6 a7 h7 a8 h8 hc x f w t = steps (errors x f t w) := by
  unfold out0_A_5
  rw [View.read_writes_eq_canon _ _ _ (cover0_A_5 c i a1 h1 a2 h2 a3 h3 a4 h4 a5 h5 a6 h6 a7 h7 a8 h8 hc x f w t)]
  unfold kernelRun0_A
  dsimp only
  sl_unfold_words
  rw [View.canon_unit_zero Cert.Product.origin]
  simp only [View.readAt_eq_ld, h1.read_unread, h2.read_unread, h3.read_unread, h4.read_unread,
    View.ld_unit_zero (S := S1x1024) Cert.Product.origin, View.ld_unit_zero (S := S256x1024) Cert.Product.origin, View.ld_unit_zero (S := S8x128) Cert.Product.origin]
  exact (steps_at _).trans (congrArg steps (errors_at x f t w))

theorem first_fall (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S256x1024 .f32)
    (h4 : a4.IsWhole) (a5 : Memref sig .tc .vmem S8x128 .f32) (h5 : a5.IsWhole) (a6 : Memref sig .tc .vmem S256x1024 .f32)
    (h6 : a6.IsWhole) (a7 : Memref sig .tc .vmem S256x1024 .bf16) (h7 : a7.IsWhole) (a8 : Memref sig .tc .vmem S1x1024 .f32)
    (h8 : a8.IsWhole) (hc : cond0_0 i)
    (x : Vec Ideal S256x1024 .f32) (f : Vec Ideal S256x1024 .f32) (w : Vec Ideal S1x1024 .f32) (t : Vec Ideal S256x1024 .f32) :
    out0_A_6 c i a1 h1 a2 h2 a3 h3 a4 h4 a5 h5 a6 h6 a7 h7 a8 h8 hc x f w t = fallRows f (steps (errors x f t w)) w := by
  unfold out0_A_6
  rw [View.read_writes_eq_canon _ _ _ (cover0_A_6 c i a1 h1 a2 h2 a3 h3 a4 h4 a5 h5 a6 h6 a7 h7 a8 h8 hc x f w t)]
  unfold kernelRun0_A
  dsimp only
  sl_unfold_words
  rw [View.canon_unit_zero Cert.Product.origin]
  simp only [View.readAt_eq_ld, h1.read_unread, h2.read_unread, h3.read_unread, h4.read_unread,
    View.ld_unit_zero (S := S1x1024) Cert.Product.origin, View.ld_unit_zero (S := S256x1024) Cert.Product.origin, View.ld_unit_zero (S := S8x128) Cert.Product.origin]
  exact (fall_at _ f w).trans (by rw [errors_at])

theorem first_weight (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S256x1024 .f32)
    (h4 : a4.IsWhole) (a5 : Memref sig .tc .vmem S8x128 .f32) (h5 : a5.IsWhole) (a6 : Memref sig .tc .vmem S256x1024 .f32)
    (h6 : a6.IsWhole) (a7 : Memref sig .tc .vmem S256x1024 .bf16) (h7 : a7.IsWhole) (a8 : Memref sig .tc .vmem S1x1024 .f32)
    (h8 : a8.IsWhole) (hc : cond0_0 i)
    (x : Vec Ideal S256x1024 .f32) (f : Vec Ideal S256x1024 .f32) (w : Vec Ideal S1x1024 .f32) (t : Vec Ideal S256x1024 .f32) (j : S1x1024.Idx) :
    out0_A_7 c i a1 h1 a2 h2 a3 h3 a4 h4 a5 h5 a6 h6 a7 h7 a8 h8 hc x f w t j = weight f (steps (errors x f t w)) j := by
  unfold out0_A_7
  rw [View.read_writes_eq_canon _ _ _ (cover0_A_7 c i a1 h1 a2 h2 a3 h3 a4 h4 a5 h5 a6 h6 a7 h7 a8 h8 hc x f w t)]
  unfold kernelRun0_A
  dsimp only
  sl_unfold_words
  rw [View.canon_cons_unit_zero (S := S1x1024) Cert.Product.origin, View.readCov_unit_zero (S := S1x1024) _ Cert.Product.origin]
  simp only [View.readAt_eq_ld, h1.read_unread, h2.read_unread, h3.read_unread, h4.read_unread,
    View.ld_unit_zero (S := S1x1024) Cert.Product.origin, View.ld_unit_zero (S := S256x1024) Cert.Product.origin, View.ld_unit_zero (S := S8x128) Cert.Product.origin]
  exact (weight_at_zero _ f j).trans (by rw [errors_at])

theorem later_loss (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S256x1024 .f32)
    (h4 : a4.IsWhole) (a5 : Memref sig .tc .vmem S8x128 .f32) (h5 : a5.IsWhole) (a6 : Memref sig .tc .vmem S256x1024 .f32)
    (h6 : a6.IsWhole) (a7 : Memref sig .tc .vmem S256x1024 .bf16) (h7 : a7.IsWhole) (a8 : Memref sig .tc .vmem S1x1024 .f32)
    (h8 : a8.IsWhole) (hc : ¬cond0_0 i)
    (x : Vec Ideal S256x1024 .f32) (f : Vec Ideal S256x1024 .f32) (w : Vec Ideal S1x1024 .f32) (t : Vec Ideal S256x1024 .f32) (u : Vec Ideal S8x128 .f32) (v : Vec Ideal S1x1024 .f32) (j : S8x128.Idx) :
    out0_B_4 c i a1 h1 a2 h2 a3 h3 a4 h4 a5 h5 a6 h6 a7 h7 a8 h8 hc x f w t u v j = u j + loss (errors x f t w) := by
  unfold out0_B_4
  rw [View.read_writes_eq_canon _ _ _ (cover0_B_4 c i a1 h1 a2 h2 a3 h3 a4 h4 a5 h5 a6 h6 a7 h7 a8 h8 hc x f w t u v)]
  unfold kernelRun0_B
  dsimp only
  sl_unfold_words
  rw [View.canon_unit_zero Cert.Product.origin]
  simp only [View.readAt_eq_ld, h1.read_unread, h2.read_unread, h3.read_unread, h4.read_unread, h5.read_unread, h8.read_unread,
    View.ld_unit_zero (S := S1x1024) Cert.Product.origin, View.ld_unit_zero (S := S256x1024) Cert.Product.origin, View.ld_unit_zero (S := S8x128) Cert.Product.origin]
  exact (add_at _ _ j).trans (congrArg (u j + ·) (loss_at x f t w))

theorem later_steps (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S256x1024 .f32)
    (h4 : a4.IsWhole) (a5 : Memref sig .tc .vmem S8x128 .f32) (h5 : a5.IsWhole) (a6 : Memref sig .tc .vmem S256x1024 .f32)
    (h6 : a6.IsWhole) (a7 : Memref sig .tc .vmem S256x1024 .bf16) (h7 : a7.IsWhole) (a8 : Memref sig .tc .vmem S1x1024 .f32)
    (h8 : a8.IsWhole) (hc : ¬cond0_0 i)
    (x : Vec Ideal S256x1024 .f32) (f : Vec Ideal S256x1024 .f32) (w : Vec Ideal S1x1024 .f32) (t : Vec Ideal S256x1024 .f32) (u : Vec Ideal S8x128 .f32) (v : Vec Ideal S1x1024 .f32) :
    out0_B_5 c i a1 h1 a2 h2 a3 h3 a4 h4 a5 h5 a6 h6 a7 h7 a8 h8 hc x f w t u v = steps (errors x f t w) := by
  unfold out0_B_5
  rw [View.read_writes_eq_canon _ _ _ (cover0_B_5 c i a1 h1 a2 h2 a3 h3 a4 h4 a5 h5 a6 h6 a7 h7 a8 h8 hc x f w t u v)]
  unfold kernelRun0_B
  dsimp only
  sl_unfold_words
  rw [View.canon_unit_zero Cert.Product.origin]
  simp only [View.readAt_eq_ld, h1.read_unread, h2.read_unread, h3.read_unread, h4.read_unread, h5.read_unread, h8.read_unread,
    View.ld_unit_zero (S := S1x1024) Cert.Product.origin, View.ld_unit_zero (S := S256x1024) Cert.Product.origin, View.ld_unit_zero (S := S8x128) Cert.Product.origin]
  exact (steps_at _).trans (congrArg steps (errors_at x f t w))

theorem later_fall (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S256x1024 .f32)
    (h4 : a4.IsWhole) (a5 : Memref sig .tc .vmem S8x128 .f32) (h5 : a5.IsWhole) (a6 : Memref sig .tc .vmem S256x1024 .f32)
    (h6 : a6.IsWhole) (a7 : Memref sig .tc .vmem S256x1024 .bf16) (h7 : a7.IsWhole) (a8 : Memref sig .tc .vmem S1x1024 .f32)
    (h8 : a8.IsWhole) (hc : ¬cond0_0 i)
    (x : Vec Ideal S256x1024 .f32) (f : Vec Ideal S256x1024 .f32) (w : Vec Ideal S1x1024 .f32) (t : Vec Ideal S256x1024 .f32) (u : Vec Ideal S8x128 .f32) (v : Vec Ideal S1x1024 .f32) :
    out0_B_6 c i a1 h1 a2 h2 a3 h3 a4 h4 a5 h5 a6 h6 a7 h7 a8 h8 hc x f w t u v = fallRows f (steps (errors x f t w)) w := by
  unfold out0_B_6
  rw [View.read_writes_eq_canon _ _ _ (cover0_B_6 c i a1 h1 a2 h2 a3 h3 a4 h4 a5 h5 a6 h6 a7 h7 a8 h8 hc x f w t u v)]
  unfold kernelRun0_B
  dsimp only
  sl_unfold_words
  rw [View.canon_unit_zero Cert.Product.origin]
  simp only [View.readAt_eq_ld, h1.read_unread, h2.read_unread, h3.read_unread, h4.read_unread, h5.read_unread, h8.read_unread,
    View.ld_unit_zero (S := S1x1024) Cert.Product.origin, View.ld_unit_zero (S := S256x1024) Cert.Product.origin, View.ld_unit_zero (S := S8x128) Cert.Product.origin]
  exact (fall_at _ f w).trans (by rw [errors_at])

theorem later_weight (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S256x1024 .f32)
    (h4 : a4.IsWhole) (a5 : Memref sig .tc .vmem S8x128 .f32) (h5 : a5.IsWhole) (a6 : Memref sig .tc .vmem S256x1024 .f32)
    (h6 : a6.IsWhole) (a7 : Memref sig .tc .vmem S256x1024 .bf16) (h7 : a7.IsWhole) (a8 : Memref sig .tc .vmem S1x1024 .f32)
    (h8 : a8.IsWhole) (hc : ¬cond0_0 i)
    (x : Vec Ideal S256x1024 .f32) (f : Vec Ideal S256x1024 .f32) (w : Vec Ideal S1x1024 .f32) (t : Vec Ideal S256x1024 .f32) (u : Vec Ideal S8x128 .f32) (v : Vec Ideal S1x1024 .f32) (j : S1x1024.Idx) :
    out0_B_7 c i a1 h1 a2 h2 a3 h3 a4 h4 a5 h5 a6 h6 a7 h7 a8 h8 hc x f w t u v j = v j + weight f (steps (errors x f t w)) j := by
  unfold out0_B_7
  rw [View.read_writes_eq_canon _ _ _ (cover0_B_7 c i a1 h1 a2 h2 a3 h3 a4 h4 a5 h5 a6 h6 a7 h7 a8 h8 hc x f w t u v)]
  unfold kernelRun0_B
  dsimp only
  sl_unfold_words
  rw [View.canon_unit_zero Cert.Product.origin]
  simp only [View.readAt_eq_ld, h1.read_unread, h2.read_unread, h3.read_unread, h4.read_unread, h5.read_unread, h8.read_unread,
    View.ld_unit_zero (S := S1x1024) Cert.Product.origin, View.ld_unit_zero (S := S256x1024) Cert.Product.origin, View.ld_unit_zero (S := S8x128) Cert.Product.origin]
  exact (weight_at _ f v j).trans (by rw [errors_at])

end Kernel

section Host

open Idealize.ShloMosaic Cert.LossRefIdeal Cert.LossRefIdeal.Facts₀ Cert.NormBack

set_option maxRecDepth 16384

/-- The reference's errors, -/
def hostErrors (x f t : FVec Ideal S8192x1024 .f32) (w : FVec Ideal S1x1024 .f32) : FVec Ideal S8192x1024 .f32 :=
  subf (addf x (mulf (mulf f (broadcastInDim S8192x1024 ![0, 1] bcast_S8192x1_S8192x1024_0_1 (Host.rsqrt (Cert.Proof.GradX.hostSpread f)))) (broadcastInDim S8192x1024 ![0, 1] bcast_S1x1024_S8192x1024_0_1 w))) t

theorem host_errors (x f t : FVec Ideal S8192x1024 .f32) (w : FVec Ideal S1x1024 .f32) : hostErrors x f t w = errors x f t w := by
  funext j
  obtain ⟨a, b, rfl⟩ : ∃ (a : Fin 8192) (b : Fin 1024), j = ix2 a b := ⟨j 0, j 1, eq_ix2 j⟩
  pointwise [hostErrors, errors, residualRows, mixed, normed]
  simp only [Cert.Proof.GradX.host_spread_at]
  rfl

/-- their gradients, -/
def hostRate : FVec Ideal S8192x1024 .f32 :=
  broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))

def hostSteps (e : FVec Ideal S8192x1024 .f32) : FVec Ideal S8192x1024 .f32 := addf (mulf e hostRate) (mulf hostRate e)

theorem host_steps (e : FVec Ideal S8192x1024 .f32) : hostSteps e = steps e := rfl

/-- those of the rows under the norm, -/
theorem host_fall (f d : FVec Ideal S8192x1024 .f32) (w : FVec Ideal S1x1024 .f32) :
    truncf .bf16 (addf (addf (mulf (mulf d (broadcastInDim S8192x1024 ![0, 1] bcast_S1x1024_S8192x1024_0_1 w)) (broadcastInDim S8192x1024 ![0, 1] bcast_S8192x1_S8192x1024_0_1 (Host.rsqrt (Cert.Proof.GradX.hostSpread f)))) (mulf f (broadcastInDim S8192x1024 ![0] bcast_S8192_S8192x1024_0 (Cert.Proof.GradX.hostAlong f w d)))) (mulf (broadcastInDim S8192x1024 ![0] bcast_S8192_S8192x1024_0 (Cert.Proof.GradX.hostAlong f w d)) f)) bitsLt_bf16_f32 = fallRows f d w := by
  funext j
  obtain ⟨a, b, rfl⟩ : ∃ (a : Fin 8192) (b : Fin 1024), j = ix2 a b := ⟨j 0, j 1, eq_ix2 j⟩
  pointwise [fallRows, fall]
  simp only [Cert.Proof.GradX.host_spread_at, Cert.Proof.GradX.host_along_at]
  rfl

/-- and its loss. -/
theorem host_loss (e : FVec Ideal S8192x1024 .f32) :
    broadcastInDim S8x128 ![] bcast_S_S8x128 (mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) = fun _ => loss e := by
  funext j
  obtain ⟨a, b, rfl⟩ : ∃ (a : Fin 8) (b : Fin 128), j = ix2 a b := ⟨j 0, j 1, eq_ix2 j⟩
  pointwise [loss, square, row]

end Host

section Run

open Idealize.ShloMosaic Idealize.ShloMosaic.TcCoe Idealize.SL.Sem Cert.LossIdeal Cert.LossIdeal.Gen Cert.LossIdeal.Value Cert.NormBack

set_option maxRecDepth 16384

/-- Point `t` reads and writes the blocks of rows number `t`. -/
theorem places : ∀ t : Fin grid0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = 0 ∧ win0_2.index t (1 : Fin 2) = 0)
    ∧ (win0_3.index t (0 : Fin 2) = t.val ∧ win0_3.index t (1 : Fin 2) = 0) ∧ (win0_4.index t (0 : Fin 2) = 0 ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ win0_7.index t (0 : Fin 2) = 0 ∧ win0_7.index t (1 : Fin 2) = 0 := by decide +kernel

variable (m : (ℓ : Loc nD τ sig) → Buf (Elt Ideal) ℓ)

/-- The errors of all rows, -/
def E (c : Dev nD) : (⟨2, ![8192, 1024]⟩ : Shape).Idx → EReal := errors (V m c main_arg0) (V m c main_arg1) (V m c main_arg3) (V m c main_arg2)

theorem under (t : Fin cfg0.N) : t.val < 32 := lt_of_lt_of_eq t.isLt N_0

theorem block_f (c : Dev nD) (t : Fin cfg0.N) : Block t.val (iblk m c 1 t) (V m c main_arg1) :=
  block_read _ _ ((cfg0.win 1).blk t).view.emb _ (places t).2.1 (fun _ => ⟨rfl, rfl⟩) _ (fun _ => rfl)

theorem all_w (c : Dev nD) (t : Fin cfg0.N) : iblk m c 2 t = V m c main_arg2 :=
  weight_read _ ((cfg0.win 2).blk t).view.emb _ (places t).2.2.1 (fun _ => ⟨rfl, rfl⟩) _ (fun _ => rfl)

/-- and those of a point's block. -/
theorem block_E (c : Dev nD) (t : Fin cfg0.N) : Block t.val (errors (iblk m c 0 t) (iblk m c 1 t) (iblk m c 3 t) (iblk m c 2 t)) (E m c) := by
  rw [all_w]
  exact block_errors (block_read _ _ ((cfg0.win 0).blk t).view.emb _ (places t).1 (fun _ => ⟨rfl, rfl⟩) _ (fun _ => rfl)) (block_f m c t)
    (block_read _ _ ((cfg0.win 3).blk t).view.emb _ (places t).2.2.2.1 (fun _ => ⟨rfl, rfl⟩) _ (fun _ => rfl)) _

theorem flushed_steps (c : Dev nD) (t : Fin cfg0.N) :
    (dats m 0 c).flushed 5 t = ((cfg0.win 5).blk t).view.read (Elt Ideal) (steps (E m c)) := by
  have key := block_written (block_steps (block_E m c t)) (under t) ((cfg0.win 5).blk t).view.emb _ (places t).2.2.2.2.2.1 (fun _ => ⟨rfl, rfl⟩)
  by_cases h : t.val % 32 = 0
  · rw [flushed5_A m c t h, first_steps]; exact funext key
  · rw [flushed5_B m c t h, later_steps]; exact funext key

theorem flushed_fall (c : Dev nD) (t : Fin cfg0.N) :
    (dats m 0 c).flushed 6 t = ((cfg0.win 6).blk t).view.read (Elt Ideal) (fallRows (V m c main_arg1) (steps (E m c)) (V m c main_arg2)) := by
  have key := block_written (block_fall (block_f m c t) (block_steps (block_E m c t)) (iblk m c 2 t)) (under t) ((cfg0.win 6).blk t).view.emb _
    (places t).2.2.2.2.2.2.1 (fun _ => ⟨rfl, rfl⟩)
  rw [← all_w m c t]
  by_cases h : t.val % 32 = 0
  · rw [flushed6_A m c t h, first_fall]; exact funext key
  · rw [flushed6_B m c t h, later_fall]; exact funext key

theorem covered_steps (i : S8192x1024.Idx) : ∃ t : Fin cfg0.N, (cfg0.win 5).flush t = true ∧ i ∈ ((cfg0.win 5).blk t).view.set := by
  obtain ⟨t, ht⟩ := Cert.Product.tile (M := 8192) (N := 1024) (tm := 256) (tn := 1024) 32 1 N_0 rfl rfl (fun t => win0_5.index t)
    (fun t => ⟨(places t).2.2.2.2.2.1.1.trans (Nat.div_one _).symm, (places t).2.2.2.2.2.1.2.trans (Nat.mod_one _).symm⟩) i
  exact ⟨t, flush0_5 t, by rw [View.set_slice_whole, Rect.mem_set_unit]; exact ht⟩

theorem covered_fall (i : S8192x1024.Idx) : ∃ t : Fin cfg0.N, (cfg0.win 6).flush t = true ∧ i ∈ ((cfg0.win 6).blk t).view.set := by
  obtain ⟨t, ht⟩ := Cert.Product.tile (M := 8192) (N := 1024) (tm := 256) (tn := 1024) 32 1 N_0 rfl rfl (fun t => win0_6.index t)
    (fun t => ⟨(places t).2.2.2.2.2.2.1.1.trans (Nat.div_one _).symm, (places t).2.2.2.2.2.2.1.2.trans (Nat.mod_one _).symm⟩) i
  exact ⟨t, flush0_6 t, by rw [View.set_slice_whole, Rect.mem_set_unit]; exact ht⟩

/-- After point `n` the rows of the blocks up to it are in the loss -/
theorem loss_upto (c : Dev nD) (j : S8x128.Idx) : ∀ (n : ℕ) (h : n < cfg0.N), (outsAt0 m c n h).1 j
    = ∑ e ∈ Finset.range (n + 1), Ideal.ofBits .f32 0x3F000000#32 * ∑ k ∈ Finset.range 256, rowOr (fun r => square (row (E m c) r)) (e * 256 + k) := by
  have key (t : Fin cfg0.N) : loss (errors (iblk m c 0 t) (iblk m c 1 t) (iblk m c 3 t) (iblk m c 2 t))
      = Ideal.ofBits .f32 0x3F000000#32 * ∑ k ∈ Finset.range 256, rowOr (fun r => square (row (E m c) r)) (t.val * 256 + k) :=
    congrArg (Ideal.ofBits .f32 0x3F000000#32 * ·) (sum_block _ (fun r => square (row (E m c) r)) t.val (under t) fun a h =>
      congrArg square (block_E m c t a h))
  refine sum_upto _ _ (fun h => ?_) fun n h => ?_
  · refine (congrArg (fun q => q.1 j) (outsAt0_A m c ⟨0, h⟩ rfl)).trans ?_
    dsimp only
    rw [first_loss, key ⟨0, h⟩]
  · have hB : ¬(⟨n + 1, h⟩ : Fin cfg0.N).val % 32 = 0 := by have := under ⟨n + 1, h⟩; dsimp only at this ⊢; omega
    refine (congrArg (fun q => q.1 j) (outsAt0_B m c ⟨n + 1, h⟩ hB)).trans ?_
    dsimp only
    rw [later_loss, key ⟨n + 1, h⟩]
    rfl

/-- and in the gradient of the weight. -/
theorem weight_upto (c : Dev nD) (j : S1x1024.Idx) : ∀ (n : ℕ) (h : n < cfg0.N), (outsAt0 m c n h).2.2.2 j
    = ∑ e ∈ Finset.range (n + 1), ∑ k ∈ Finset.range 256,
      rowOr (fun r => part (row (V m c main_arg1) r) (row (steps (E m c)) r) (j 1)) (e * 256 + k) := by
  have key (t : Fin cfg0.N) := weight_block (under t) (block_f m c t) (block_steps (block_E m c t)) j
  refine sum_upto _ _ (fun h => ?_) fun n h => ?_
  · refine (congrArg (fun q => q.2.2.2 j) (outsAt0_A m c ⟨0, h⟩ rfl)).trans ?_
    dsimp only
    rw [first_weight, key ⟨0, h⟩]
  · have hB : ¬(⟨n + 1, h⟩ : Fin cfg0.N).val % 32 = 0 := by have := under ⟨n + 1, h⟩; dsimp only at this ⊢; omega
    refine (congrArg (fun q => q.2.2.2 j) (outsAt0_B m c ⟨n + 1, h⟩ hB)).trans ?_
    dsimp only
    rw [later_weight, key ⟨n + 1, h⟩]
    rfl

/-- So after the last they all are. -/
theorem loss_last (c : Dev nD) (j : S8x128.Idx) (h : 31 < cfg0.N) : (outsAt0 m c 31 h).1 j = loss (E m c) := by
  rw [loss_upto, half_sum, sum_all]; rfl

theorem weight_last (c : Dev nD) (j : S1x1024.Idx) (h : 31 < cfg0.N) :
    (outsAt0 m c 31 h).2.2.2 j = weight (V m c main_arg1) (steps (E m c)) j := by
  rw [weight_upto, sum_all]; rfl

theorem flushed_loss (c : Dev nD) (t : Fin cfg0.N) (hf : (cfg0.win 4).flush t = true) :
    (dats m 0 c).flushed 4 t = ((cfg0.win 4).blk t).view.read (Elt Ideal) (fun _ => loss (E m c)) := by
  have h31 : t.val = 31 := by have := (flush0_4 t).mp hf; have := under t; omega
  obtain ⟨n, hn⟩ := t
  obtain rfl : n = 31 := h31
  have last := fun j => loss_last m c j hn
  generalize loss (E m c) = G at last ⊢
  rw [flushed4]
  exact funext fun j => last j

theorem flushed_weight (c : Dev nD) (t : Fin cfg0.N) (hf : (cfg0.win 7).flush t = true) :
    (dats m 0 c).flushed 7 t = ((cfg0.win 7).blk t).view.read (Elt Ideal) (weight (V m c main_arg1) (steps (E m c))) := by
  have h31 : t.val = 31 := by have := (flush0_7 t).mp hf; have := under t; omega
  obtain ⟨n, hn⟩ := t
  obtain rfl : n = 31 := h31
  have last := fun j => weight_last m c j hn
  generalize weight (V m c main_arg1) (steps (E m c)) = G at last ⊢
  rw [flushed7]
  funext j
  have hj : ((cfg0.win 7).blk ⟨31, hn⟩).view.emb j = j := by
    obtain ⟨e0, e1⟩ := (places ⟨31, hn⟩).2.2.2.2.2.2.2
    refine Cert.Product.ix_ext ?_ ?_
    · show win0_7.index ⟨31, hn⟩ (0 : Fin 2) * 1 + 1 * (j 0).val = (j 0).val
      rw [e0, Nat.zero_mul, Nat.zero_add, Nat.one_mul]
    · show win0_7.index ⟨31, hn⟩ (1 : Fin 2) * 1024 + 1 * (j 1).val = (j 1).val
      rw [e1, Nat.zero_mul, Nat.zero_add, Nat.one_mul]
  exact (last j).trans (congrArg G hj.symm)

theorem covered_loss (i : S8x128.Idx) : ∃ t : Fin cfg0.N, (cfg0.win 4).flush t = true ∧ i ∈ ((cfg0.win 4).blk t).view.set := by
  have hn : 31 < cfg0.N := by rw [show cfg0.N = 32 from N_0]; decide
  refine ⟨⟨31, hn⟩, (flush0_4 ⟨31, hn⟩).mpr rfl, ?_⟩
  rw [View.set_slice_whole, Rect.mem_set_unit]
  obtain ⟨e0, e1⟩ := (places ⟨31, hn⟩).2.2.2.2.1
  intro a
  match a with
  | ⟨0, _⟩ =>
    show win0_4.index ⟨31, hn⟩ (0 : Fin 2) * 8 ≤ (i 0).val ∧ (i 0).val < win0_4.index ⟨31, hn⟩ (0 : Fin 2) * 8 + 8
    have : (i 0).val < 8 := (i 0).isLt
    rw [e0]; omega
  | ⟨1, _⟩ =>
    show win0_4.index ⟨31, hn⟩ (1 : Fin 2) * 128 ≤ (i 1).val ∧ (i 1).val < win0_4.index ⟨31, hn⟩ (1 : Fin 2) * 128 + 128
    have : (i 1).val < 128 := (i 1).isLt
    rw [e1]; omega

theorem covered_weight (i : S1x1024.Idx) : ∃ t : Fin cfg0.N, (cfg0.win 7).flush t = true ∧ i ∈ ((cfg0.win 7).blk t).view.set := by
  have hn : 31 < cfg0.N := by rw [show cfg0.N = 32 from N_0]; decide
  refine ⟨⟨31, hn⟩, (flush0_7 ⟨31, hn⟩).mpr rfl, ?_⟩
  rw [View.set_slice_whole, Rect.mem_set_unit]
  obtain ⟨e0, e1⟩ := (places ⟨31, hn⟩).2.2.2.2.2.2.2
  intro a
  match a with
  | ⟨0, _⟩ =>
    show win0_7.index ⟨31, hn⟩ (0 : Fin 2) * 1 ≤ (i 0).val ∧ (i 0).val < win0_7.index ⟨31, hn⟩ (0 : Fin 2) * 1 + 1
    have : (i 0).val < 1 := (i 0).isLt
    rw [e0]; omega
  | ⟨1, _⟩ =>
    show win0_7.index ⟨31, hn⟩ (1 : Fin 2) * 1024 ≤ (i 1).val ∧ (i 1).val < win0_7.index ⟨31, hn⟩ (1 : Fin 2) * 1024 + 1024
    have : (i 1).val < 1024 := (i 1).isLt
    rw [e1]; omega

theorem frame_ref : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

/-- The reference's loss and gradients, of any arguments. -/
theorem reference (x f t : (⟨2, ![8192, 1024]⟩ : Shape).Idx → EReal) (w : (⟨2, ![1, 1024]⟩ : Shape).Idx → EReal) :
    hostSteps (hostErrors x f t w) = steps (errors x f t w) := by rw [host_errors]; rfl

/-- The loss and its gradients are the reference's. -/
theorem algebraic : Cert.algebraic_LossIdeal_LossRefIdeal := by
  intro m g m' g' _ hin
  refine ⟨_, _, _, _, (θ_run Cert.LossIdeal.defs _ _).mono (fun r h c => ⟨(h c).1.trans ((dats m 0 c).arrAt_eq_of_cover 4 (fun _ => loss (E m c))
    (flushed_loss m c) covered_loss), (h c).2.1.trans ((dats m 0 c).arrAt_eq_of_cover 5 _ (fun t _ => flushed_steps m c t) covered_steps),
    (h c).2.2.1.trans ((dats m 0 c).arrAt_eq_of_cover 6 _ (fun t _ => flushed_fall m c t) covered_fall),
    (h c).2.2.2.1.trans ((dats m 0 c).arrAt_eq_of_cover 7 _ (flushed_weight m c) covered_weight), (h c).2.2.2.2⟩) (run_blocks (F := Ideal) m g),
    (θ_run Cert.LossRefIdeal.defs _ _).mono (fun r h c => ?_) (Cert.LossRefIdeal.Value.run (F := Ideal) m' g')⟩
  obtain ⟨h0, h1, h2, h3, hargs⟩ := h c
  obtain ⟨e0, e1, e2, e3⟩ := hin c
  refine ⟨(h0.trans (host_loss (hostErrors _ _ _ _))).trans ?_, (h1.trans (reference _ _ _ _)).trans ?_,
    (h2.trans (host_fall _ (hostSteps (hostErrors _ _ _ _)) _)).trans ?_,
    (h3.trans (Cert.Proof.GradX.host_weight _ (hostSteps (hostErrors _ _ _ _)))).trans ?_, hargs⟩
  · rw [host_errors, e0, e1, e2, e3]; rfl
  · rw [e0, e1, e2, e3]; rfl
  · rw [reference, e0, e1, e2, e3]; rfl
  · rw [reference, e0, e1, e2, e3]; rfl

end Run

end Cert.Proof.Loss
-- ==== Proof.MixBack.lean ====
/-
The gradients around the sequence mixers. A block of 256 rows at a point: the residual after the mixers and its norm are taken again, the
gradients go back through both norms, and the rows' parts of the gradients of the two norms' weights add up.
-/
module

public import proofs.«01_k».proof.Proof.Back
public import proofs.«01_k».proof.Proof.Gen.MixBack.Frame
public import proofs.«01_k».proof.Proof.Gen.MixBackIdeal.Frame
public import proofs.«01_k».proof.Proof.Gen.MixBackIdeal.Value
public import proofs.«01_k».proof.Proof.Gen.MixBackRefIdeal.Run

@[expose] public section

noncomputable section

namespace Cert.Proof.MixBack

section Kernel

open Idealize.ShloMosaic Cert.MixBackIdeal Cert.MixBackIdeal.Gen Cert.NormBack

set_option maxRecDepth 16384

/-! The norm of the mixers' output, -/

theorem spread_at (y : Vec Ideal S256x1024 .f32) (a : Fin 256) (z : Fin 1) : k0_pay5 (F := Ideal) y (ix2 a z) = spread (row y a) := by
  pointwise [k0_pay5, spread, row]

theorem inverse_at (y : Vec Ideal S256x1024 .f32) (a : Fin 256) (z : Fin 1) :
    k0_pay6 (F := Ideal) y (ix2 a z) = Ideal.rsqrt (spread (row y a)) := by
  rw [← spread_at y a z]; rfl

/-! the residual and its norm, -/

theorem residual_at (x y : Vec Ideal S256x1024 .f32) (w : Vec Ideal S1x1024 .f32) : k0_pay9 (F := Ideal) x y w = residualRows x y w := by
  funext j
  obtain ⟨a, b, rfl⟩ : ∃ (a : Fin 256) (b : Fin 1024), j = ix2 a b := ⟨j 0, j 1, eq_ix2 j⟩
  pointwise [k0_pay9, k0_pay8, residualRows, mixed, normed]
  simp only [inverse_at]
  rfl

theorem next_spread_at (x y : Vec Ideal S256x1024 .f32) (w : Vec Ideal S1x1024 .f32) (a : Fin 256) (z : Fin 1) :
    k0_pay10 (F := Ideal) x y w (ix2 a z) = spread (row (residualRows x y w) a) := by
  unfold k0_pay10
  rw [residual_at]
  generalize residualRows x y w = r
  pointwise [spread, row]

theorem next_inverse_at (x y : Vec Ideal S256x1024 .f32) (w : Vec Ideal S1x1024 .f32) (a : Fin 256) (z : Fin 1) :
    k0_pay11 (F := Ideal) x y w (ix2 a z) = Ideal.rsqrt (spread (row (residualRows x y w) a)) := by
  rw [← next_spread_at x y w a z]; rfl

/-! and the gradients of all of them. -/

theorem onto_at (x y c d : Vec Ideal S256x1024 .f32) (w v : Vec Ideal S1x1024 .f32) :
    k0_pay15 (F := Ideal) v (k0_pay9 x y w) (k0_pay11 x y w) (k0_pay12 x y w) c d = ontoRows (residualRows x y w) d c v := by
  rw [residual_at]
  funext j
  obtain ⟨a, b, rfl⟩ : ∃ (a : Fin 256) (b : Fin 1024), j = ix2 a b := ⟨j 0, j 1, eq_ix2 j⟩
  pointwise [k0_pay15, k0_pay12, ontoRows, onto, along]
  simp only [next_spread_at, next_inverse_at, Fin.sum_univ_one]
  rfl

theorem again_at (x y c d : Vec Ideal S256x1024 .f32) (w v : Vec Ideal S1x1024 .f32) :
    k0_pay16 (F := Ideal) v (k0_pay9 x y w) (k0_pay11 x y w) (k0_pay12 x y w) c d = ontoRows (residualRows x y w) d c v := by
  unfold k0_pay16
  rw [onto_at]
  generalize ontoRows (residualRows x y w) d c v = r
  funext j
  obtain ⟨a, b, rfl⟩ : ∃ (a : Fin 256) (b : Fin 1024), j = ix2 a b := ⟨j 0, j 1, eq_ix2 j⟩
  pointwise []

theorem fall_at (x y c d : Vec Ideal S256x1024 .f32) (w v : Vec Ideal S1x1024 .f32) :
    k0_pay18 (F := Ideal) y w v (k0_pay6 y) (k0_pay7 y) (k0_pay9 x y w) (k0_pay11 x y w) (k0_pay12 x y w) c d
      = fallRows y (ontoRows (residualRows x y w) d c v) w := by
  unfold k0_pay18
  rw [again_at]
  generalize ontoRows (residualRows x y w) d c v = r
  funext j
  obtain ⟨a, b, rfl⟩ : ∃ (a : Fin 256) (b : Fin 1024), j = ix2 a b := ⟨j 0, j 1, eq_ix2 j⟩
  pointwise [k0_pay7, fallRows, fall, along]
  simp only [spread_at, inverse_at, Fin.sum_univ_one]
  rfl

theorem weight_at (x y c d : Vec Ideal S256x1024 .f32) (w v acc : Vec Ideal S1x1024 .f32) (j : S1x1024.Idx) :
    k0_pay1 (F := Ideal) (k0_pay17 v (k0_pay8 y) (k0_pay9 x y w) (k0_pay11 x y w) (k0_pay12 x y w) c d) acc j
      = acc j + weight y (ontoRows (residualRows x y w) d c v) j := by
  unfold k0_pay17
  rw [again_at]
  generalize ontoRows (residualRows x y w) d c v = r
  obtain ⟨a, b, rfl⟩ : ∃ (a : Fin 1) (b : Fin 1024), j = ix2 a b := ⟨j 0, j 1, eq_ix2 j⟩
  pointwise [k0_pay1, k0_pay8, weight, part]
  simp only [inverse_at]
  rfl

theorem weight_at_zero (x y c d : Vec Ideal S256x1024 .f32) (w v : Vec Ideal S1x1024 .f32) (j : S1x1024.Idx) :
    k0_pay1 (F := Ideal) (k0_pay17 v (k0_pay8 y) (k0_pay9 x y w) (k0_pay11 x y w) (k0_pay12 x y w) c d) (k0_pay3 (F := Ideal)) j
      = weight y (ontoRows (residualRows x y w) d c v) j := by
  rw [weight_at]
  exact (congrArg (· + _) Ideal.ofBits_zero_f32).trans (zero_add _)

theorem next_at (x y d : Vec Ideal S256x1024 .f32) (w acc : Vec Ideal S1x1024 .f32) (j : S1x1024.Idx) :
    k0_pay2 (F := Ideal) (k0_pay14 (k0_pay13 x y w) d) acc j = acc j + weight (residualRows x y w) d j := by
  unfold k0_pay13
  rw [residual_at]
  obtain ⟨a, b, rfl⟩ : ∃ (a : Fin 1) (b : Fin 1024), j = ix2 a b := ⟨j 0, j 1, eq_ix2 j⟩
  pointwise [k0_pay2, k0_pay14, weight, part]
  simp only [next_inverse_at]
  rfl

theorem next_at_zero (x y d : Vec Ideal S256x1024 .f32) (w : Vec Ideal S1x1024 .f32) (j : S1x1024.Idx) :
    k0_pay2 (F := Ideal) (k0_pay14 (k0_pay13 x y w) d) (k0_pay4 (F := Ideal)) j = weight (residualRows x y w) d j := by
  rw [next_at]
  exact (congrArg (· + _) Ideal.ofBits_zero_f32).trans (zero_add _)

/-! What a point leaves in the blocks of the four results: the first point of all, and every later one, which finds `u` and `s` for the
    gradients of the weights. -/

theorem first_onto (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S1x1024 .f32)
    (h4 : a4.IsWhole) (a5 : Memref sig .tc .vmem S256x1024 .f32) (h5 : a5.IsWhole) (a6 : Memref sig .tc .vmem S256x1024 .f32)
    (h6 : a6.IsWhole) (a7 : Memref sig .tc .vmem S256x1024 .f32) (h7 : a7.IsWhole) (a8 : Memref sig .tc .vmem S256x1024 .bf16)
    (h8 : a8.IsWhole) (a9 : Memref sig .tc .vmem S1x1024 .f32) (h9 : a9.IsWhole) (a10 : Memref sig .tc .vmem S1x1024 .f32)
    (h10 : a10.IsWhole) (hc : cond0_0 i)
    (x : Vec Ideal S256x1024 .f32) (y : Vec Ideal S256x1024 .f32) (w : Vec Ideal S1x1024 .f32) (v : Vec Ideal S1x1024 .f32) (c0 : Vec Ideal S256x1024 .f32) (d : Vec Ideal S256x1024 .f32) :
    out0_A_6 c i a1 h1 a2 h2 a3 h3 a4 h4 a5 h5 a6 h6 a7 h7 a8 h8 a9 h9 a10 h10 hc x y w v c0 d = ontoRows (residualRows x y w) d c0 v := by
  unfold out0_A_6
  rw [View.read_writes_eq_canon _ _ _ (cover0_A_6 c i a1 h1 a2 h2 a3 h3 a4 h4 a5 h5 a6 h6 a7 h7 a8 h8 a9 h9 a10 h10 hc x y w v c0 d)]
  unfold kernelRun0_A
  dsimp only
  sl_unfold_words
  rw [View.canon_unit_zero Cert.Product.origin]
  simp only [View.readAt_eq_ld, h1.read_unread, h2.read_unread, h3.read_unread, h4.read_unread, h5.read_unread, h6.read_unread,
    View.ld_unit_zero (S := S1x1024) Cert.Product.origin, View.ld_unit_zero (S := S256x1024) Cert.Product.origin]
  exact onto_at x y c0 d w v

theorem first_fall (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S1x1024 .f32)
    (h4 : a4.IsWhole) (a5 : Memref sig .tc .vmem S256x1024 .f32) (h5 : a5.IsWhole) (a6 : Memref sig .tc .vmem S256x1024 .f32)
    (h6 : a6.IsWhole) (a7 : Memref sig .tc .vmem S256x1024 .f32) (h7 : a7.IsWhole) (a8 : Memref sig .tc .vmem S256x1024 .bf16)
    (h8 : a8.IsWhole) (a9 : Memref sig .tc .vmem S1x1024 .f32) (h9 : a9.IsWhole) (a10 : Memref sig .tc .vmem S1x1024 .f32)
    (h10 : a10.IsWhole) (hc : cond0_0 i)
    (x : Vec Ideal S256x1024 .f32) (y : Vec Ideal S256x1024 .f32) (w : Vec Ideal S1x1024 .f32) (v : Vec Ideal S1x1024 .f32) (c0 : Vec Ideal S256x1024 .f32) (d : Vec Ideal S256x1024 .f32) :
    out0_A_7 c i a1 h1 a2 h2 a3 h3 a4 h4 a5 h5 a6 h6 a7 h7 a8 h8 a9 h9 a10 h10 hc x y w v c0 d = fallRows y (ontoRows (residualRows x y w) d c0 v) w := by
  unfold out0_A_7
  rw [View.read_writes_eq_canon _ _ _ (cover0_A_7 c i a1 h1 a2 h2 a3 h3 a4 h4 a5 h5 a6 h6 a7 h7 a8 h8 a9 h9 a10 h10 hc x y w v c0 d)]
  unfold kernelRun0_A
  dsimp only
  sl_unfold_words
  rw [View.canon_unit_zero Cert.Product.origin]
  simp only [View.readAt_eq_ld, h1.read_unread, h2.read_unread, h3.read_unread, h4.read_unread, h5.read_unread, h6.read_unread,
    View.ld_unit_zero (S := S1x1024) Cert.Product.origin, View.ld_unit_zero (S := S256x1024) Cert.Product.origin]
  exact fall_at x y c0 d w v

theorem first_weight (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S1x1024 .f32)
    (h4 : a4.IsWhole) (a5 : Memref sig .tc .vmem S256x1024 .f32) (h5 : a5.IsWhole) (a6 : Memref sig .tc .vmem S256x1024 .f32)
    (h6 : a6.IsWhole) (a7 : Memref sig .tc .vmem S256x1024 .f32) (h7 : a7.IsWhole) (a8 : Memref sig .tc .vmem S256x1024 .bf16)
    (h8 : a8.IsWhole) (a9 : Memref sig .tc .vmem S1x1024 .f32) (h9 : a9.IsWhole) (a10 : Memref sig .tc .vmem S1x1024 .f32)
    (h10 : a10.IsWhole) (hc : cond0_0 i)
    (x : Vec Ideal S256x1024 .f32) (y : Vec Ideal S256x1024 .f32) (w : Vec Ideal S1x1024 .f32) (v : Vec Ideal S1x1024 .f32) (c0 : Vec Ideal S256x1024 .f32) (d : Vec Ideal S256x1024 .f32) (j : S1x1024.Idx) :
    out0_A_8 c i a1 h1 a2 h2 a3 h3 a4 h4 a5 h5 a6 h6 a7 h7 a8 h8 a9 h9 a10 h10 hc x y w v c0 d j = weight y (ontoRows (residualRows x y w) d c0 v) j := by
  unfold out0_A_8
  rw [View.read_writes_eq_canon _ _ _ (cover0_A_8 c i a1 h1 a2 h2 a3 h3 a4 h4 a5 h5 a6 h6 a7 h7 a8 h8 a9 h9 a10 h10 hc x y w v c0 d)]
  unfold kernelRun0_A
  dsimp only
  sl_unfold_words
  rw [View.canon_cons_unit_zero (S := S1x1024) Cert.Product.origin, View.readCov_unit_zero (S := S1x1024) _ Cert.Product.origin]
  simp only [View.readAt_eq_ld, h1.read_unread, h2.read_unread, h3.read_unread, h4.read_unread, h5.read_unread, h6.read_unread,
    View.ld_unit_zero (S := S1x1024) Cert.Product.origin, View.ld_unit_zero (S := S256x1024) Cert.Product.origin]
  exact weight_at_zero x y c0 d w v j

theorem first_next (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S1x1024 .f32)
    (h4 : a4.IsWhole) (a5 : Memref sig .tc .vmem S256x1024 .f32) (h5 : a5.IsWhole) (a6 : Memref sig .tc .vmem S256x1024 .f32)
    (h6 : a6.IsWhole) (a7 : Memref sig .tc .vmem S256x1024 .f32) (h7 : a7.IsWhole) (a8 : Memref sig .tc .vmem S256x1024 .bf16)
    (h8 : a8.IsWhole) (a9 : Memref sig .tc .vmem S1x1024 .f32) (h9 : a9.IsWhole) (a10 : Memref sig .tc .vmem S1x1024 .f32)
    (h10 : a10.IsWhole) (hc : cond0_0 i)
    (x : Vec Ideal S256x1024 .f32) (y : Vec Ideal S256x1024 .f32) (w : Vec Ideal S1x1024 .f32) (v : Vec Ideal S1x1024 .f32) (c0 : Vec Ideal S256x1024 .f32) (d : Vec Ideal S256x1024 .f32) (j : S1x1024.Idx) :
    out0_A_9 c i a1 h1 a2 h2 a3 h3 a4 h4 a5 h5 a6 h6 a7 h7 a8 h8 a9 h9 a10 h10 hc x y w v c0 d j = weight (residualRows x y w) d j := by
  unfold out0_A_9
  rw [View.read_writes_eq_canon _ _ _ (cover0_A_9 c i a1 h1 a2 h2 a3 h3 a4 h4 a5 h5 a6 h6 a7 h7 a8 h8 a9 h9 a10 h10 hc x y w v c0 d)]
  unfold kernelRun0_A
  dsimp only
  sl_unfold_words
  rw [View.canon_cons_unit_zero (S := S1x1024) Cert.Product.origin, View.readCov_unit_zero (S := S1x1024) _ Cert.Product.origin]
  simp only [View.readAt_eq_ld, h1.read_unread, h2.read_unread, h3.read_unread, h4.read_unread, h5.read_unread, h6.read_unread,
    View.ld_unit_zero (S := S1x1024) Cert.Product.origin, View.ld_unit_zero (S := S256x1024) Cert.Product.origin]
  exact next_at_zero x y d w j

theorem later_onto (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S1x1024 .f32)
    (h4 : a4.IsWhole) (a5 : Memref sig .tc .vmem S256x1024 .f32) (h5 : a5.IsWhole) (a6 : Memref sig .tc .vmem S256x1024 .f32)
    (h6 : a6.IsWhole) (a7 : Memref sig .tc .vmem S256x1024 .f32) (h7 : a7.IsWhole) (a8 : Memref sig .tc .vmem S256x1024 .bf16)
    (h8 : a8.IsWhole) (a9 : Memref sig .tc .vmem S1x1024 .f32) (h9 : a9.IsWhole) (a10 : Memref sig .tc .vmem S1x1024 .f32)
    (h10 : a10.IsWhole) (hc : ¬cond0_0 i)
    (x : Vec Ideal S256x1024 .f32) (y : Vec Ideal S256x1024 .f32) (w : Vec Ideal S1x1024 .f32) (v : Vec Ideal S1x1024 .f32) (c0 : Vec Ideal S256x1024 .f32) (d : Vec Ideal S256x1024 .f32) (u : Vec Ideal S1x1024 .f32) (s : Vec Ideal S1x1024 .f32) :
    out0_B_6 c i a1 h1 a2 h2 a3 h3 a4 h4 a5 h5 a6 h6 a7 h7 a8 h8 a9 h9 a10 h10 hc x y w v c0 d u s = ontoRows (residualRows x y w) d c0 v := by
  unfold out0_B_6
  rw [View.read_writes_eq_canon _ _ _ (cover0_B_6 c i a1 h1 a2 h2 a3 h3 a4 h4 a5 h5 a6 h6 a7 h7 a8 h8 a9 h9 a10 h10 hc x y w v c0 d u s)]
  unfold kernelRun0_B
  dsimp only
  sl_unfold_words
  rw [View.canon_unit_zero Cert.Product.origin]
  simp only [View.readAt_eq_ld, h1.read_unread, h2.read_unread, h3.read_unread, h4.read_unread, h5.read_unread, h6.read_unread, h9.read_unread, h10.read_unread,
    View.ld_unit_zero (S := S1x1024) Cert.Product.origin, View.ld_unit_zero (S := S256x1024) Cert.Product.origin]
  exact onto_at x y c0 d w v

theorem later_fall (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S1x1024 .f32)
    (h4 : a4.IsWhole) (a5 : Memref sig .tc .vmem S256x1024 .f32) (h5 : a5.IsWhole) (a6 : Memref sig .tc .vmem S256x1024 .f32)
    (h6 : a6.IsWhole) (a7 : Memref sig .tc .vmem S256x1024 .f32) (h7 : a7.IsWhole) (a8 : Memref sig .tc .vmem S256x1024 .bf16)
    (h8 : a8.IsWhole) (a9 : Memref sig .tc .vmem S1x1024 .f32) (h9 : a9.IsWhole) (a10 : Memref sig .tc .vmem S1x1024 .f32)
    (h10 : a10.IsWhole) (hc : ¬cond0_0 i)
    (x : Vec Ideal S256x1024 .f32) (y : Vec Ideal S256x1024 .f32) (w : Vec Ideal S1x1024 .f32) (v : Vec Ideal S1x1024 .f32) (c0 : Vec Ideal S256x1024 .f32) (d : Vec Ideal S256x1024 .f32) (u : Vec Ideal S1x1024 .f32) (s : Vec Ideal S1x1024 .f32) :
    out0_B_7 c i a1 h1 a2 h2 a3 h3 a4 h4 a5 h5 a6 h6 a7 h7 a8 h8 a9 h9 a10 h10 hc x y w v c0 d u s = fallRows y (ontoRows (residualRows x y w) d c0 v) w := by
  unfold out0_B_7
  rw [View.read_writes_eq_canon _ _ _ (cover0_B_7 c i a1 h1 a2 h2 a3 h3 a4 h4 a5 h5 a6 h6 a7 h7 a8 h8 a9 h9 a10 h10 hc x y w v c0 d u s)]
  unfold kernelRun0_B
  dsimp only
  sl_unfold_words
  rw [View.canon_unit_zero Cert.Product.origin]
  simp only [View.readAt_eq_ld, h1.read_unread, h2.read_unread, h3.read_unread, h4.read_unread, h5.read_unread, h6.read_unread, h9.read_unread, h10.read_unread,
    View.ld_unit_zero (S := S1x1024) Cert.Product.origin, View.ld_unit_zero (S := S256x1024) Cert.Product.origin]
  exact fall_at x y c0 d w v

theorem later_weight (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S1x1024 .f32)
    (h4 : a4.IsWhole) (a5 : Memref sig .tc .vmem S256x1024 .f32) (h5 : a5.IsWhole) (a6 : Memref sig .tc .vmem S256x1024 .f32)
    (h6 : a6.IsWhole) (a7 : Memref sig .tc .vmem S256x1024 .f32) (h7 : a7.IsWhole) (a8 : Memref sig .tc .vmem S256x1024 .bf16)
    (h8 : a8.IsWhole) (a9 : Memref sig .tc .vmem S1x1024 .f32) (h9 : a9.IsWhole) (a10 : Memref sig .tc .vmem S1x1024 .f32)
    (h10 : a10.IsWhole) (hc : ¬cond0_0 i)
    (x : Vec Ideal S256x1024 .f32) (y : Vec Ideal S256x1024 .f32) (w : Vec Ideal S1x1024 .f32) (v : Vec Ideal S1x1024 .f32) (c0 : Vec Ideal S256x1024 .f32) (d : Vec Ideal S256x1024 .f32) (u : Vec Ideal S1x1024 .f32) (s : Vec Ideal S1x1024 .f32) (j : S1x1024.Idx) :
    out0_B_8 c i a1 h1 a2 h2 a3 h3 a4 h4 a5 h5 a6 h6 a7 h7 a8 h8 a9 h9 a10 h10 hc x y w v c0 d u s j = u j + weight y (ontoRows (residualRows x y w) d c0 v) j := by
  unfold out0_B_8
  rw [View.read_writes_eq_canon _ _ _ (cover0_B_8 c i a1 h1 a2 h2 a3 h3 a4 h4 a5 h5 a6 h6 a7 h7 a8 h8 a9 h9 a10 h10 hc x y w v c0 d u s)]
  unfold kernelRun0_B
  dsimp only
  sl_unfold_words
  rw [View.canon_unit_zero Cert.Product.origin]
  simp only [View.readAt_eq_ld, h1.read_unread, h2.read_unread, h3.read_unread, h4.read_unread, h5.read_unread, h6.read_unread, h9.read_unread, h10.read_unread,
    View.ld_unit_zero (S := S1x1024) Cert.Product.origin, View.ld_unit_zero (S := S256x1024) Cert.Product.origin]
  exact weight_at x y c0 d w v u j

theorem later_next (c : Dev nD) (i : grid0.Coords) (a1 : Memref sig .tc .vmem S256x1024 .f32) (h1 : a1.IsWhole) (a2 : Memref sig .tc .vmem S256x1024 .f32)
    (h2 : a2.IsWhole) (a3 : Memref sig .tc .vmem S1x1024 .f32) (h3 : a3.IsWhole) (a4 : Memref sig .tc .vmem S1x1024 .f32)
    (h4 : a4.IsWhole) (a5 : Memref sig .tc .vmem S256x1024 .f32) (h5 : a5.IsWhole) (a6 : Memref sig .tc .vmem S256x1024 .f32)
    (h6 : a6.IsWhole) (a7 : Memref sig .tc .vmem S256x1024 .f32) (h7 : a7.IsWhole) (a8 : Memref sig .tc .vmem S256x1024 .bf16)
    (h8 : a8.IsWhole) (a9 : Memref sig .tc .vmem S1x1024 .f32) (h9 : a9.IsWhole) (a10 : Memref sig .tc .vmem S1x1024 .f32)
    (h10 : a10.IsWhole) (hc : ¬cond0_0 i)
    (x : Vec Ideal S256x1024 .f32) (y : Vec Ideal S256x1024 .f32) (w : Vec Ideal S1x1024 .f32) (v : Vec Ideal S1x1024 .f32) (c0 : Vec Ideal S256x1024 .f32) (d : Vec Ideal S256x1024 .f32) (u : Vec Ideal S1x1024 .f32) (s : Vec Ideal S1x1024 .f32) (j : S1x1024.Idx) :
    out0_B_9 c i a1 h1 a2 h2 a3 h3 a4 h4 a5 h5 a6 h6 a7 h7 a8 h8 a9 h9 a10 h10 hc x y w v c0 d u s j = s j + weight (residualRows x y w) d j := by
  unfold out0_B_9
  rw [View.read_writes_eq_canon _ _ _ (cover0_B_9 c i a1 h1 a2 h2 a3 h3 a4 h4 a5 h5 a6 h6 a7 h7 a8 h8 a9 h9 a10 h10 hc x y w v c0 d u s)]
  unfold kernelRun0_B
  dsimp only
  sl_unfold_words
  rw [View.canon_unit_zero Cert.Product.origin]
  simp only [View.readAt_eq_ld, h1.read_unread, h2.read_unread, h3.read_unread, h4.read_unread, h5.read_unread, h6.read_unread, h9.read_unread, h10.read_unread,
    View.ld_unit_zero (S := S1x1024) Cert.Product.origin, View.ld_unit_zero (S := S256x1024) Cert.Product.origin]
  exact next_at x y d w s j

end Kernel

section Host

open Idealize.ShloMosaic Cert.MixBackRefIdeal Cert.MixBackRefIdeal.Facts₀ Cert.NormBack

set_option maxRecDepth 16384

/-- The reference's residual, -/
def hostResidual (x y : FVec Ideal S8192x1024 .f32) (w : FVec Ideal S1x1024 .f32) : FVec Ideal S8192x1024 .f32 :=
  addf x (mulf (mulf y (broadcastInDim S8192x1024 ![0, 1] bcast_S8192x1_S8192x1024_0_1 (Host.rsqrt (Cert.Proof.GradX.hostSpread y)))) (broadcastInDim S8192x1024 ![0, 1] bcast_S1x1024_S8192x1024_0_1 w))

theorem host_residual (x y : FVec Ideal S8192x1024 .f32) (w : FVec Ideal S1x1024 .f32) : hostResidual x y w = residualRows x y w := by
  funext j
  obtain ⟨a, b, rfl⟩ : ∃ (a : Fin 8192) (b : Fin 1024), j = ix2 a b := ⟨j 0, j 1, eq_ix2 j⟩
  pointwise [hostResidual, residualRows, mixed, normed]
  simp only [Cert.Proof.GradX.host_spread_at]
  rfl

/-- its gradient, -/
def hostOnto (x d e : FVec Ideal S8192x1024 .f32) (w : FVec Ideal S1x1024 .f32) : FVec Ideal S8192x1024 .f32 :=
  addf (addf (addf e (mulf (mulf d (broadcastInDim S8192x1024 ![0, 1] bcast_S1x1024_S8192x1024_0_1 w)) (broadcastInDim S8192x1024 ![0, 1] bcast_S8192x1_S8192x1024_0_1 (Host.rsqrt (Cert.Proof.GradX.hostSpread x))))) (mulf x (broadcastInDim S8192x1024 ![0] bcast_S8192_S8192x1024_0 (Cert.Proof.GradX.hostAlong x w d)))) (mulf (broadcastInDim S8192x1024 ![0] bcast_S8192_S8192x1024_0 (Cert.Proof.GradX.hostAlong x w d)) x)

theorem host_onto (x d e : FVec Ideal S8192x1024 .f32) (w : FVec Ideal S1x1024 .f32) : hostOnto x d e w = ontoRows x d e w := by
  funext j
  obtain ⟨a, b, rfl⟩ : ∃ (a : Fin 8192) (b : Fin 1024), j = ix2 a b := ⟨j 0, j 1, eq_ix2 j⟩
  pointwise [hostOnto, ontoRows, onto]
  simp only [Cert.Proof.GradX.host_spread_at, Cert.Proof.GradX.host_along_at]
  rfl

/-- which is taken in the shape it has, -/
def hostAgain (g : FVec Ideal S8192x1024 .f32) : FVec Ideal S8192x1024 .f32 := shapeCast _ g shapeCasts_S8192x1024_S8192x1024

theorem host_again (g : FVec Ideal S8192x1024 .f32) : hostAgain g = g := by
  funext j
  obtain ⟨a, b, rfl⟩ : ∃ (a : Fin 8192) (b : Fin 1024), j = ix2 a b := ⟨j 0, j 1, eq_ix2 j⟩
  pointwise [hostAgain]

/-- and that of the mixers' output. -/
def hostFall (f d : FVec Ideal S8192x1024 .f32) (w : FVec Ideal S1x1024 .f32) : FVec Ideal S8192x1024 .bf16 :=
  truncf .bf16 (addf (addf (mulf (mulf d (broadcastInDim S8192x1024 ![0, 1] bcast_S1x1024_S8192x1024_0_1 w)) (broadcastInDim S8192x1024 ![0, 1] bcast_S8192x1_S8192x1024_0_1 (Host.rsqrt (Cert.Proof.GradX.hostSpread f)))) (mulf f (broadcastInDim S8192x1024 ![0] bcast_S8192_S8192x1024_0 (Cert.Proof.GradX.hostAlong f w d)))) (mulf (broadcastInDim S8192x1024 ![0] bcast_S8192_S8192x1024_0 (Cert.Proof.GradX.hostAlong f w d)) f)) bitsLt_bf16_f32

theorem host_fall (f d : FVec Ideal S8192x1024 .f32) (w : FVec Ideal S1x1024 .f32) : hostFall f d w = fallRows f d w := by
  funext j
  obtain ⟨a, b, rfl⟩ : ∃ (a : Fin 8192) (b : Fin 1024), j = ix2 a b := ⟨j 0, j 1, eq_ix2 j⟩
  pointwise [hostFall, fallRows, fall]
  simp only [Cert.Proof.GradX.host_spread_at, Cert.Proof.GradX.host_along_at]
  rfl

/-- The gradient of a weight, as the reference takes it. -/
def hostWeight (x d : FVec Ideal S8192x1024 .f32) : FVec Ideal S1x1024 .f32 :=
  shapeCast _ (Host.reduceAdd (mulf (mulf x (broadcastInDim S8192x1024 ![0, 1] bcast_S8192x1_S8192x1024_0_1 (Host.rsqrt (Cert.Proof.GradX.hostSpread x)))) d) (constant S_ .f32 0x00000000#32) reducesTo_S8192x1024_S1024_d0 h_S_) shapeCasts_S1024_S1x1024

theorem host_weight (x d : FVec Ideal S8192x1024 .f32) : hostWeight x d = weight x d := Cert.Proof.GradX.host_weight x d

section Results

open Idealize.ShloMosaic.TcCoe Cert.MixBackRefIdeal.Value

variable (m : (ℓ : Loc nD τ sig) → Buf (Elt Ideal) ℓ) (c : Dev nD)

/-- The reference's residual and its gradient, of the arguments. -/
def refResidual : FVec Ideal S8192x1024 .f32 :=
  hostResidual (m ((c.tc : Thread nD τ).loc main_arg0)) (m ((c.tc : Thread nD τ).loc main_arg1)) (m ((c.tc : Thread nD τ).loc main_arg2))

def refOnto : FVec Ideal S8192x1024 .f32 := hostOnto (refResidual m c) (m ((c.tc : Thread nD τ).loc main_arg5)) (m ((c.tc : Thread nD τ).loc main_arg4))
  (m ((c.tc : Thread nD τ).loc main_arg3))

theorem ref_residual : refResidual m c = residualRows (m ((c.tc : Thread nD τ).loc main_arg0)) (m ((c.tc : Thread nD τ).loc main_arg1))
    (m ((c.tc : Thread nD τ).loc main_arg2)) := host_residual _ _ _

theorem ref_onto : refOnto m c = ontoRows (residualRows (m ((c.tc : Thread nD τ).loc main_arg0)) (m ((c.tc : Thread nD τ).loc main_arg1))
    (m ((c.tc : Thread nD τ).loc main_arg2))) (m ((c.tc : Thread nD τ).loc main_arg5)) (m ((c.tc : Thread nD τ).loc main_arg4))
    (m ((c.tc : Thread nD τ).loc main_arg3)) := by
  unfold refOnto
  rw [ref_residual, host_onto]

/-- The four results. -/
theorem result_onto : res_main_v50 m c = refOnto m c := rfl

theorem result_fall : res_main_v71 m c = fallRows (m ((c.tc : Thread nD τ).loc main_arg1)) (refOnto m c) (m ((c.tc : Thread nD τ).loc main_arg2)) := by
  refine (show res_main_v71 m c = hostFall _ (hostAgain (refOnto m c)) _ from rfl).trans ?_
  rw [host_fall, host_again]

theorem result_weight : res_main_v54 m c = weight (m ((c.tc : Thread nD τ).loc main_arg1)) (refOnto m c) := by
  refine (show res_main_v54 m c = hostWeight _ (hostAgain (refOnto m c)) from rfl).trans ?_
  rw [host_weight, host_again]

theorem result_next (d : FVec Ideal S8192x1024 .f32) : hostWeight (refResidual m c) d = weight (residualRows (m ((c.tc : Thread nD τ).loc main_arg0))
    (m ((c.tc : Thread nD τ).loc main_arg1)) (m ((c.tc : Thread nD τ).loc main_arg2))) d := by
  rw [ref_residual, host_weight]

end Results

end Host

section Run

open Idealize.ShloMosaic Idealize.ShloMosaic.TcCoe Idealize.SL.Sem Cert.MixBackIdeal Cert.MixBackIdeal.Gen Cert.MixBackIdeal.Value Cert.NormBack

set_option maxRecDepth 16384

/-! Point `t` reads and writes the blocks of rows number `t`, and the weights whole. -/

theorem place_0 : ∀ t : Fin grid0.N, win0_0.index t (0 : Fin 2) = t.val ∧ win0_0.index t (1 : Fin 2) = 0 := by decide +kernel

theorem place_1 : ∀ t : Fin grid0.N, win0_1.index t (0 : Fin 2) = t.val ∧ win0_1.index t (1 : Fin 2) = 0 := by decide +kernel

theorem place_2 : ∀ t : Fin grid0.N, win0_2.index t (0 : Fin 2) = 0 ∧ win0_2.index t (1 : Fin 2) = 0 := by decide +kernel

theorem place_3 : ∀ t : Fin grid0.N, win0_3.index t (0 : Fin 2) = 0 ∧ win0_3.index t (1 : Fin 2) = 0 := by decide +kernel

theorem place_4 : ∀ t : Fin grid0.N, win0_4.index t (0 : Fin 2) = t.val ∧ win0_4.index t (1 : Fin 2) = 0 := by decide +kernel

theorem place_5 : ∀ t : Fin grid0.N, win0_5.index t (0 : Fin 2) = t.val ∧ win0_5.index t (1 : Fin 2) = 0 := by decide +kernel

theorem place_6 : ∀ t : Fin grid0.N, win0_6.index t (0 : Fin 2) = t.val ∧ win0_6.index t (1 : Fin 2) = 0 := by decide +kernel

theorem place_7 : ∀ t : Fin grid0.N, win0_7.index t (0 : Fin 2) = t.val ∧ win0_7.index t (1 : Fin 2) = 0 := by decide +kernel

theorem place_8 : ∀ t : Fin grid0.N, win0_8.index t (0 : Fin 2) = 0 ∧ win0_8.index t (1 : Fin 2) = 0 := by decide +kernel

theorem place_9 : ∀ t : Fin grid0.N, win0_9.index t (0 : Fin 2) = 0 ∧ win0_9.index t (1 : Fin 2) = 0 := by decide +kernel

variable (m : (ℓ : Loc nD τ sig) → Buf (Elt Ideal) ℓ)

/-- The residual, -/
def Res (c : Dev nD) : (⟨2, ![8192, 1024]⟩ : Shape).Idx → EReal := residualRows (V m c main_arg0) (V m c main_arg1) (V m c main_arg2)

/-- and its gradient. -/
def Grad (c : Dev nD) : (⟨2, ![8192, 1024]⟩ : Shape).Idx → EReal := ontoRows (Res m c) (V m c main_arg5) (V m c main_arg4) (V m c main_arg3)

theorem under (t : Fin cfg0.N) : t.val < 32 := lt_of_lt_of_eq t.isLt N_0

theorem block_0 (c : Dev nD) (t : Fin cfg0.N) : Block t.val (iblk m c 0 t) (V m c main_arg0) :=
  block_read _ _ ((cfg0.win 0).blk t).view.emb _ (place_0 t) (fun _ => ⟨rfl, rfl⟩) _ (fun _ => rfl)

theorem block_1 (c : Dev nD) (t : Fin cfg0.N) : Block t.val (iblk m c 1 t) (V m c main_arg1) :=
  block_read _ _ ((cfg0.win 1).blk t).view.emb _ (place_1 t) (fun _ => ⟨rfl, rfl⟩) _ (fun _ => rfl)

theorem block_4 (c : Dev nD) (t : Fin cfg0.N) : Block t.val (iblk m c 4 t) (V m c main_arg4) :=
  block_read _ _ ((cfg0.win 4).blk t).view.emb _ (place_4 t) (fun _ => ⟨rfl, rfl⟩) _ (fun _ => rfl)

theorem block_5 (c : Dev nD) (t : Fin cfg0.N) : Block t.val (iblk m c 5 t) (V m c main_arg5) :=
  block_read _ _ ((cfg0.win 5).blk t).view.emb _ (place_5 t) (fun _ => ⟨rfl, rfl⟩) _ (fun _ => rfl)

theorem all_2 (c : Dev nD) (t : Fin cfg0.N) : iblk m c 2 t = V m c main_arg2 :=
  weight_read _ ((cfg0.win 2).blk t).view.emb _ (place_2 t) (fun _ => ⟨rfl, rfl⟩) _ (fun _ => rfl)

theorem all_3 (c : Dev nD) (t : Fin cfg0.N) : iblk m c 3 t = V m c main_arg3 :=
  weight_read _ ((cfg0.win 3).blk t).view.emb _ (place_3 t) (fun _ => ⟨rfl, rfl⟩) _ (fun _ => rfl)

theorem block_res (c : Dev nD) (t : Fin cfg0.N) : Block t.val (residualRows (iblk m c 0 t) (iblk m c 1 t) (iblk m c 2 t)) (Res m c) := by
  rw [all_2]; exact block_residual (block_0 m c t) (block_1 m c t) _

theorem block_grad (c : Dev nD) (t : Fin cfg0.N) : Block t.val (ontoRows (residualRows (iblk m c 0 t) (iblk m c 1 t) (iblk m c 2 t)) (iblk m c 5 t)
    (iblk m c 4 t) (iblk m c 3 t)) (Grad m c) := by
  rw [all_3]; exact block_onto (block_res m c t) (block_5 m c t) (block_4 m c t) _

theorem block_under (c : Dev nD) (t : Fin cfg0.N) : Block t.val (fallRows (iblk m c 1 t) (ontoRows (residualRows (iblk m c 0 t) (iblk m c 1 t) (iblk m c 2 t))
    (iblk m c 5 t) (iblk m c 4 t) (iblk m c 3 t)) (iblk m c 2 t)) (fallRows (V m c main_arg1) (Grad m c) (V m c main_arg2)) :=
  (congrArg (fun w => Block t.val (fallRows (iblk m c 1 t) (ontoRows (residualRows (iblk m c 0 t) (iblk m c 1 t) (iblk m c 2 t))
    (iblk m c 5 t) (iblk m c 4 t) (iblk m c 3 t)) (iblk m c 2 t)) (fallRows (V m c main_arg1) (Grad m c) w)) (all_2 m c t)).mp
    (block_fall (block_1 m c t) (block_grad m c t) (iblk m c 2 t))

theorem flushed_onto (c : Dev nD) (t : Fin cfg0.N) : (dats m 0 c).flushed 6 t = ((cfg0.win 6).blk t).view.read (Elt Ideal) (Grad m c) := by
  have key := block_written (block_grad m c t) (under t) ((cfg0.win 6).blk t).view.emb _ (place_6 t) (fun _ => ⟨rfl, rfl⟩)
  by_cases h : t.val % 32 = 0
  · rw [flushed6_A m c t h, first_onto]; exact funext key
  · rw [flushed6_B m c t h, later_onto]; exact funext key

theorem covered_onto (i : S8192x1024.Idx) : ∃ t : Fin cfg0.N, (cfg0.win 6).flush t = true ∧ i ∈ ((cfg0.win 6).blk t).view.set := by
  obtain ⟨t, ht⟩ := Cert.Product.tile (M := 8192) (N := 1024) (tm := 256) (tn := 1024) 32 1 N_0 rfl rfl (fun t => win0_6.index t)
    (fun t => ⟨(place_6 t).1.trans (Nat.div_one _).symm, (place_6 t).2.trans (Nat.mod_one _).symm⟩) i
  exact ⟨t, flush0_6 t, by rw [View.set_slice_whole, Rect.mem_set_unit]; exact ht⟩

theorem flushed_fall (c : Dev nD) (t : Fin cfg0.N) : (dats m 0 c).flushed 7 t = ((cfg0.win 7).blk t).view.read (Elt Ideal) (fallRows (V m c main_arg1) (Grad m c) (V m c main_arg2)) := by
  have key := block_written (block_under m c t) (under t) ((cfg0.win 7).blk t).view.emb _ (place_7 t) (fun _ => ⟨rfl, rfl⟩)
  by_cases h : t.val % 32 = 0
  · rw [flushed7_A m c t h, first_fall]; exact funext key
  · rw [flushed7_B m c t h, later_fall]; exact funext key

theorem covered_fall (i : S8192x1024.Idx) : ∃ t : Fin cfg0.N, (cfg0.win 7).flush t = true ∧ i ∈ ((cfg0.win 7).blk t).view.set := by
  obtain ⟨t, ht⟩ := Cert.Product.tile (M := 8192) (N := 1024) (tm := 256) (tn := 1024) 32 1 N_0 rfl rfl (fun t => win0_7.index t)
    (fun t => ⟨(place_7 t).1.trans (Nat.div_one _).symm, (place_7 t).2.trans (Nat.mod_one _).symm⟩) i
  exact ⟨t, flush0_7 t, by rw [View.set_slice_whole, Rect.mem_set_unit]; exact ht⟩

/-- After point `n` the rows of the blocks up to it are in the gradient of the weight, and after the last they all are; -/
theorem weight_upto (c : Dev nD) (j : S1x1024.Idx) : ∀ (n : ℕ) (h : n < cfg0.N), (outsAt0 m c n h).2.2.1 j
    = ∑ e ∈ Finset.range (n + 1), ∑ k ∈ Finset.range 256, rowOr (fun r => part (row (V m c main_arg1) r) (row (Grad m c) r) (j 1)) (e * 256 + k) := by
  have key (t : Fin cfg0.N) := weight_block (under t) (block_1 m c t) (block_grad m c t) j
  refine sum_upto _ _ (fun h => ?_) fun n h => ?_
  · refine (congrArg (fun q => q.2.2.1 j) (outsAt0_A m c ⟨0, h⟩ rfl)).trans ?_
    dsimp only
    rw [first_weight, key ⟨0, h⟩]
  · have hB : ¬(⟨n + 1, h⟩ : Fin cfg0.N).val % 32 = 0 := by have := under ⟨n + 1, h⟩; dsimp only at this ⊢; omega
    refine (congrArg (fun q => q.2.2.1 j) (outsAt0_B m c ⟨n + 1, h⟩ hB)).trans ?_
    dsimp only
    rw [later_weight, key ⟨n + 1, h⟩]
    rfl

theorem weight_last (c : Dev nD) (j : S1x1024.Idx) (t : Fin cfg0.N) (h : t.val = 31) : (outsAt0 m c t.val t.isLt).2.2.1 j = weight (V m c main_arg1) (Grad m c) j := by
  rw [weight_upto, h, sum_all]; rfl

theorem cut_weight (t : Fin cfg0.N) (a G : FVec Ideal S1x1024 .f32) (h : ∀ j, a j = G j) :
    (cfg0.win 8).cut (grid0.coords t) a = ((cfg0.win 8).blk t).view.read (Elt Ideal) G := by
  funext j
  have hj : ((cfg0.win 8).blk t).view.emb j = j := by
    obtain ⟨e0, e1⟩ := place_8 t
    refine Cert.Product.ix_ext ?_ ?_
    · show win0_8.index t (0 : Fin 2) * 1 + 1 * (j 0).val = (j 0).val
      rw [e0, Nat.zero_mul, Nat.zero_add, Nat.one_mul]
    · show win0_8.index t (1 : Fin 2) * 1024 + 1 * (j 1).val = (j 1).val
      rw [e1, Nat.zero_mul, Nat.zero_add, Nat.one_mul]
  exact (h j).trans (congrArg G hj.symm)

theorem flushed_weight (c : Dev nD) (t : Fin cfg0.N) (hf : (cfg0.win 8).flush t = true) :
    (dats m 0 c).flushed 8 t = ((cfg0.win 8).blk t).view.read (Elt Ideal) (weight (V m c main_arg1) (Grad m c)) :=
  have h31 : t.val = 31 := by have := (flush0_8 t).mp hf; have := under t; omega
  (flushed8 m c t).trans (cut_weight t _ _ fun j => weight_last m c j t h31)

theorem covered_weight (i : S1x1024.Idx) : ∃ t : Fin cfg0.N, (cfg0.win 8).flush t = true ∧ i ∈ ((cfg0.win 8).blk t).view.set := by
  have hn : 31 < cfg0.N := by rw [show cfg0.N = 32 from N_0]; decide
  refine ⟨⟨31, hn⟩, (flush0_8 ⟨31, hn⟩).mpr rfl, ?_⟩
  rw [View.set_slice_whole, Rect.mem_set_unit]
  obtain ⟨e0, e1⟩ := place_8 ⟨31, hn⟩
  intro a
  match a with
  | ⟨0, _⟩ =>
    show win0_8.index ⟨31, hn⟩ (0 : Fin 2) * 1 ≤ (i 0).val ∧ (i 0).val < win0_8.index ⟨31, hn⟩ (0 : Fin 2) * 1 + 1
    have : (i 0).val < 1 := (i 0).isLt
    rw [e0]; omega
  | ⟨1, _⟩ =>
    show win0_8.index ⟨31, hn⟩ (1 : Fin 2) * 1024 ≤ (i 1).val ∧ (i 1).val < win0_8.index ⟨31, hn⟩ (1 : Fin 2) * 1024 + 1024
    have : (i 1).val < 1024 := (i 1).isLt
    rw [e1]; omega

/-- the same for the weight of the next norm. -/
theorem next_upto (c : Dev nD) (j : S1x1024.Idx) : ∀ (n : ℕ) (h : n < cfg0.N), (outsAt0 m c n h).2.2.2 j
    = ∑ e ∈ Finset.range (n + 1), ∑ k ∈ Finset.range 256, rowOr (fun r => part (row (Res m c) r) (row (V m c main_arg5) r) (j 1)) (e * 256 + k) := by
  have key (t : Fin cfg0.N) := weight_block (under t) (block_res m c t) (block_5 m c t) j
  refine sum_upto _ _ (fun h => ?_) fun n h => ?_
  · refine (congrArg (fun q => q.2.2.2 j) (outsAt0_A m c ⟨0, h⟩ rfl)).trans ?_
    dsimp only
    rw [first_next, key ⟨0, h⟩]
  · have hB : ¬(⟨n + 1, h⟩ : Fin cfg0.N).val % 32 = 0 := by have := under ⟨n + 1, h⟩; dsimp only at this ⊢; omega
    refine (congrArg (fun q => q.2.2.2 j) (outsAt0_B m c ⟨n + 1, h⟩ hB)).trans ?_
    dsimp only
    rw [later_next, key ⟨n + 1, h⟩]
    rfl

theorem next_last (c : Dev nD) (j : S1x1024.Idx) (t : Fin cfg0.N) (h : t.val = 31) : (outsAt0 m c t.val t.isLt).2.2.2 j = weight (Res m c) (V m c main_arg5) j := by
  rw [next_upto, h, sum_all]; rfl

theorem cut_next (t : Fin cfg0.N) (a G : FVec Ideal S1x1024 .f32) (h : ∀ j, a j = G j) :
    (cfg0.win 9).cut (grid0.coords t) a = ((cfg0.win 9).blk t).view.read (Elt Ideal) G := by
  funext j
  have hj : ((cfg0.win 9).blk t).view.emb j = j := by
    obtain ⟨e0, e1⟩ := place_9 t
    refine Cert.Product.ix_ext ?_ ?_
    · show win0_9.index t (0 : Fin 2) * 1 + 1 * (j 0).val = (j 0).val
      rw [e0, Nat.zero_mul, Nat.zero_add, Nat.one_mul]
    · show win0_9.index t (1 : Fin 2) * 1024 + 1 * (j 1).val = (j 1).val
      rw [e1, Nat.zero_mul, Nat.zero_add, Nat.one_mul]
  exact (h j).trans (congrArg G hj.symm)

theorem flushed_next (c : Dev nD) (t : Fin cfg0.N) (hf : (cfg0.win 9).flush t = true) :
    (dats m 0 c).flushed 9 t = ((cfg0.win 9).blk t).view.read (Elt Ideal) (weight (Res m c) (V m c main_arg5)) :=
  have h31 : t.val = 31 := by have := (flush0_9 t).mp hf; have := under t; omega
  (flushed9 m c t).trans (cut_next t _ _ fun j => next_last m c j t h31)

theorem covered_next (i : S1x1024.Idx) : ∃ t : Fin cfg0.N, (cfg0.win 9).flush t = true ∧ i ∈ ((cfg0.win 9).blk t).view.set := by
  have hn : 31 < cfg0.N := by rw [show cfg0.N = 32 from N_0]; decide
  refine ⟨⟨31, hn⟩, (flush0_9 ⟨31, hn⟩).mpr rfl, ?_⟩
  rw [View.set_slice_whole, Rect.mem_set_unit]
  obtain ⟨e0, e1⟩ := place_9 ⟨31, hn⟩
  intro a
  match a with
  | ⟨0, _⟩ =>
    show win0_9.index ⟨31, hn⟩ (0 : Fin 2) * 1 ≤ (i 0).val ∧ (i 0).val < win0_9.index ⟨31, hn⟩ (0 : Fin 2) * 1 + 1
    have : (i 0).val < 1 := (i 0).isLt
    rw [e0]; omega
  | ⟨1, _⟩ =>
    show win0_9.index ⟨31, hn⟩ (1 : Fin 2) * 1024 ≤ (i 1).val ∧ (i 1).val < win0_9.index ⟨31, hn⟩ (1 : Fin 2) * 1024 + 1024
    have : (i 1).val < 1024 := (i 1).isLt
    rw [e1]; omega

theorem frame_ref : Cert.quiescent_MixBackRefIdeal := fun m ρ _ =>
  (θ_run Cert.MixBackRefIdeal.defs _ _).mono (fun r h => ⟨fun c => (h c).2.2.2.2, sem_eq_zero_of_no_sems (by decide) r.2⟩)
    (Cert.MixBackRefIdeal.Value.run (F := Ideal) m ρ)

/-- The gradients that the call leaves are the reference's. -/
theorem algebraic : Cert.algebraic_MixBackIdeal_MixBackRefIdeal := by
  intro m g m' g' _ hin
  refine ⟨_, _, _, _, (θ_run Cert.MixBackIdeal.defs _ _).mono (fun r h c => ⟨(h c).1.trans ((dats m 0 c).arrAt_eq_of_cover 6 (Grad m c)
    (fun t _ => flushed_onto m c t) covered_onto), (h c).2.1.trans ((dats m 0 c).arrAt_eq_of_cover 7 _ (fun t _ => flushed_fall m c t) covered_fall),
    (h c).2.2.1.trans ((dats m 0 c).arrAt_eq_of_cover 8 _ (flushed_weight m c) covered_weight),
    (h c).2.2.2.1.trans ((dats m 0 c).arrAt_eq_of_cover 9 _ (flushed_next m c) covered_next), (h c).2.2.2.2⟩) (run_blocks (F := Ideal) m g),
    (θ_run Cert.MixBackRefIdeal.defs _ _).mono (fun r h c => ?_) (Cert.MixBackRefIdeal.Value.run (F := Ideal) m' g')⟩
  obtain ⟨h0, h1, h2, h3, hargs⟩ := h c
  obtain ⟨e0, e1, e2, e3, e4, e5⟩ := hin c
  refine ⟨(h0.trans (result_onto m' c)).trans ?_, (h1.trans (result_fall m' c)).trans ?_, (h2.trans (result_weight m' c)).trans ?_,
    (h3.trans (result_next m' c _)).trans ?_, hargs⟩
  · rw [ref_onto, e0, e1, e2, e3, e4, e5]; rfl
  · rw [ref_onto, e0, e1, e2, e3, e4, e5]; rfl
  · rw [ref_onto, e0, e1, e2, e3, e4, e5]; rfl
  · rw [e0, e1, e2, e5]; rfl

end Run

end Cert.Proof.MixBack
-- ==== Proof.lean ====
/-
The proof of the claims: the frames and the values of the four exchanges and of the calls of one device, from their own modules.
-/
module

public import proofs.«01_k».proof.Defs
public import proofs.«01_k».proof.Proof.Gen.Gather
public import proofs.«01_k».proof.Proof.Gen.GatherIdeal
public import proofs.«01_k».proof.Proof.Gen.GatherRefIdeal
public import proofs.«01_k».proof.Proof.Gen.Send
public import proofs.«01_k».proof.Proof.Gen.SendIdeal
public import proofs.«01_k».proof.Proof.Gen.SendRefIdeal
public import proofs.«01_k».proof.Proof.Gen.Scatter
public import proofs.«01_k».proof.Proof.Gen.ScatterIdeal
public import proofs.«01_k».proof.Proof.Gen.ScatterRefIdeal
public import proofs.«01_k».proof.Proof.Gen.Pair
public import proofs.«01_k».proof.Proof.Gen.PairIdeal
public import proofs.«01_k».proof.Proof.Gen.PairRefIdeal
public import proofs.«01_k».proof.Proof.Gen.AdamIn
public import proofs.«01_k».proof.Proof.Gen.AdamInIdeal
public import proofs.«01_k».proof.Proof.Gen.AdamInRefIdeal
public import proofs.«01_k».proof.Proof.Gen.AdamOut
public import proofs.«01_k».proof.Proof.Gen.AdamOutIdeal
public import proofs.«01_k».proof.Proof.Gen.AdamOutRefIdeal
public import proofs.«01_k».proof.Proof.Gen.AdamUp
public import proofs.«01_k».proof.Proof.Gen.AdamUpIdeal
public import proofs.«01_k».proof.Proof.Gen.AdamUpRefIdeal
public import proofs.«01_k».proof.Proof.Gen.AdamDown
public import proofs.«01_k».proof.Proof.Gen.AdamDownIdeal
public import proofs.«01_k».proof.Proof.Gen.AdamDownRefIdeal
public import proofs.«01_k».proof.Proof.Gen.Small
public import proofs.«01_k».proof.Proof.Gen.SmallIdeal
public import proofs.«01_k».proof.Proof.Gen.SmallRefIdeal
public import proofs.«01_k».proof.Proof.Gen.SumIn
public import proofs.«01_k».proof.Proof.Gen.SumInIdeal
public import proofs.«01_k».proof.Proof.Gen.SumInRefIdeal
public import proofs.«01_k».proof.Proof.Gen.SumOut
public import proofs.«01_k».proof.Proof.Gen.SumOutIdeal
public import proofs.«01_k».proof.Proof.Gen.SumOutRefIdeal
public import proofs.«01_k».proof.Proof.Gen.SumUp
public import proofs.«01_k».proof.Proof.Gen.SumUpIdeal
public import proofs.«01_k».proof.Proof.Gen.SumUpRefIdeal
public import proofs.«01_k».proof.Proof.Gen.SumDown
public import proofs.«01_k».proof.Proof.Gen.SumDownIdeal
public import proofs.«01_k».proof.Proof.Gen.SumDownRefIdeal
public import proofs.«01_k».proof.Proof.Gen.MmInBig
public import proofs.«01_k».proof.Proof.Gen.MmInBigIdeal
public import proofs.«01_k».proof.Proof.Gen.MmInBigRefIdeal
public import proofs.«01_k».proof.Proof.Gen.MmInBigDx
public import proofs.«01_k».proof.Proof.Gen.MmInBigDxIdeal
public import proofs.«01_k».proof.Proof.Gen.MmInBigDxRefIdeal
public import proofs.«01_k».proof.Proof.Gen.MmInBigDw
public import proofs.«01_k».proof.Proof.Gen.MmInBigDwIdeal
public import proofs.«01_k».proof.Proof.Gen.MmInBigDwRefIdeal
public import proofs.«01_k».proof.Proof.Gen.MmInSmall
public import proofs.«01_k».proof.Proof.Gen.MmInSmallIdeal
public import proofs.«01_k».proof.Proof.Gen.MmInSmallRefIdeal
public import proofs.«01_k».proof.Proof.Gen.MmInSmallDx
public import proofs.«01_k».proof.Proof.Gen.MmInSmallDxIdeal
public import proofs.«01_k».proof.Proof.Gen.MmInSmallDxRefIdeal
public import proofs.«01_k».proof.Proof.Gen.MmInSmallDw
public import proofs.«01_k».proof.Proof.Gen.MmInSmallDwIdeal
public import proofs.«01_k».proof.Proof.Gen.MmInSmallDwRefIdeal
public import proofs.«01_k».proof.Proof.Gen.MmOut
public import proofs.«01_k».proof.Proof.Gen.MmOutIdeal
public import proofs.«01_k».proof.Proof.Gen.MmOutRefIdeal
public import proofs.«01_k».proof.Proof.Gen.MmOutDx
public import proofs.«01_k».proof.Proof.Gen.MmOutDxIdeal
public import proofs.«01_k».proof.Proof.Gen.MmOutDxRefIdeal
public import proofs.«01_k».proof.Proof.Gen.MmOutDw
public import proofs.«01_k».proof.Proof.Gen.MmOutDwIdeal
public import proofs.«01_k».proof.Proof.Gen.MmOutDwRefIdeal
public import proofs.«01_k».proof.Proof.Gen.MmUp
public import proofs.«01_k».proof.Proof.Gen.MmUpIdeal
public import proofs.«01_k».proof.Proof.Gen.MmUpRefIdeal
public import proofs.«01_k».proof.Proof.Gen.MmUpDx
public import proofs.«01_k».proof.Proof.Gen.MmUpDxIdeal
public import proofs.«01_k».proof.Proof.Gen.MmUpDxRefIdeal
public import proofs.«01_k».proof.Proof.Gen.MmUpDw
public import proofs.«01_k».proof.Proof.Gen.MmUpDwIdeal
public import proofs.«01_k».proof.Proof.Gen.MmUpDwRefIdeal
public import proofs.«01_k».proof.Proof.Gen.MmDown
public import proofs.«01_k».proof.Proof.Gen.MmDownIdeal
public import proofs.«01_k».proof.Proof.Gen.MmDownRefIdeal
public import proofs.«01_k».proof.Proof.Gen.MmDownDx
public import proofs.«01_k».proof.Proof.Gen.MmDownDxIdeal
public import proofs.«01_k».proof.Proof.Gen.MmDownDxRefIdeal
public import proofs.«01_k».proof.Proof.Gen.MmDownDw
public import proofs.«01_k».proof.Proof.Gen.MmDownDwIdeal
public import proofs.«01_k».proof.Proof.Gen.MmDownDwRefIdeal
public import proofs.«01_k».proof.Proof.Gen.AddDh
public import proofs.«01_k».proof.Proof.Gen.AddDhIdeal
public import proofs.«01_k».proof.Proof.Gen.AddDhRefIdeal
public import proofs.«01_k».proof.Proof.Gen.AddDx
public import proofs.«01_k».proof.Proof.Gen.AddDxIdeal
public import proofs.«01_k».proof.Proof.Gen.AddDxRefIdeal
public import proofs.«01_k».proof.Proof.Gen.GradX
public import proofs.«01_k».proof.Proof.Gen.GradXIdeal
public import proofs.«01_k».proof.Proof.Gen.GradXRefIdeal
public import proofs.«01_k».proof.Proof.Gen.Norm
public import proofs.«01_k».proof.Proof.Gen.NormIdeal
public import proofs.«01_k».proof.Proof.Gen.NormRefIdeal
public import proofs.«01_k».proof.Proof.Gen.Mix
public import proofs.«01_k».proof.Proof.Gen.MixIdeal
public import proofs.«01_k».proof.Proof.Gen.MixRefIdeal
public import proofs.«01_k».proof.Proof.Gen.MixBack
public import proofs.«01_k».proof.Proof.Gen.MixBackIdeal
public import proofs.«01_k».proof.Proof.Gen.MixBackRefIdeal
public import proofs.«01_k».proof.Proof.Gen.Loss
public import proofs.«01_k».proof.Proof.Gen.LossIdeal
public import proofs.«01_k».proof.Proof.Gen.LossRefIdeal
public import proofs.«01_k».proof.Proof.Gen.GatherRef
public import proofs.«01_k».proof.Proof.Gen.SendRef
public import proofs.«01_k».proof.Proof.Gen.ScatterRef
public import proofs.«01_k».proof.Proof.Gen.PairRef
public import proofs.«01_k».proof.Proof.GatherRef
public import proofs.«01_k».proof.Proof.SendRef
public import proofs.«01_k».proof.Proof.ScatterRef
public import proofs.«01_k».proof.Proof.PairRef
public import proofs.«01_k».proof.Proof.Adam
public import proofs.«01_k».proof.Proof.Small
public import proofs.«01_k».proof.Proof.Sum
public import proofs.«01_k».proof.Proof.Products
public import proofs.«01_k».proof.Proof.GradX
public import proofs.«01_k».proof.Proof.Norms
public import proofs.«01_k».proof.Proof.Loss
public import proofs.«01_k».proof.Proof.MixBack

@[expose] public section

noncomputable section

namespace Cert.Proof

open Idealize.ShloMosaic Idealize.SL.Sem Cert.Gather

theorem claim : Cert.Claim := ⟨Cert.Gather.Gen.facts, Cert.GatherIdeal.Gen.facts, Cert.GatherRefIdeal.Gen.facts,
  Cert.Send.Gen.facts, Cert.SendIdeal.Gen.facts, Cert.SendRefIdeal.Gen.facts,
  Cert.Scatter.Gen.facts, Cert.ScatterIdeal.Gen.facts, Cert.ScatterRefIdeal.Gen.facts,
  Cert.Pair.Gen.facts, Cert.PairIdeal.Gen.facts, Cert.PairRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.Small.Gen.facts, Cert.SmallIdeal.Gen.facts, Cert.SmallRefIdeal.Gen.facts,
  Cert.SumIn.Gen.facts, Cert.SumInIdeal.Gen.facts, Cert.SumInRefIdeal.Gen.facts,
  Cert.SumOut.Gen.facts, Cert.SumOutIdeal.Gen.facts, Cert.SumOutRefIdeal.Gen.facts,
  Cert.SumUp.Gen.facts, Cert.SumUpIdeal.Gen.facts, Cert.SumUpRefIdeal.Gen.facts,
  Cert.SumDown.Gen.facts, Cert.SumDownIdeal.Gen.facts, Cert.SumDownRefIdeal.Gen.facts,
  Cert.MmInBig.Gen.facts, Cert.MmInBigIdeal.Gen.facts, Cert.MmInBigRefIdeal.Gen.facts,
  Cert.MmInBigDx.Gen.facts, Cert.MmInBigDxIdeal.Gen.facts, Cert.MmInBigDxRefIdeal.Gen.facts,
  Cert.MmInBigDw.Gen.facts, Cert.MmInBigDwIdeal.Gen.facts, Cert.MmInBigDwRefIdeal.Gen.facts,
  Cert.MmInSmall.Gen.facts, Cert.MmInSmallIdeal.Gen.facts, Cert.MmInSmallRefIdeal.Gen.facts,
  Cert.MmInSmallDx.Gen.facts, Cert.MmInSmallDxIdeal.Gen.facts, Cert.MmInSmallDxRefIdeal.Gen.facts,
  Cert.MmInSmallDw.Gen.facts, Cert.MmInSmallDwIdeal.Gen.facts, Cert.MmInSmallDwRefIdeal.Gen.facts,
  Cert.MmOut.Gen.facts, Cert.MmOutIdeal.Gen.facts, Cert.MmOutRefIdeal.Gen.facts,
  Cert.MmOutDx.Gen.facts, Cert.MmOutDxIdeal.Gen.facts, Cert.MmOutDxRefIdeal.Gen.facts,
  Cert.MmOutDw.Gen.facts, Cert.MmOutDwIdeal.Gen.facts, Cert.MmOutDwRefIdeal.Gen.facts,
  Cert.MmUp.Gen.facts, Cert.MmUpIdeal.Gen.facts, Cert.MmUpRefIdeal.Gen.facts,
  Cert.MmUpDx.Gen.facts, Cert.MmUpDxIdeal.Gen.facts, Cert.MmUpDxRefIdeal.Gen.facts,
  Cert.MmUpDw.Gen.facts, Cert.MmUpDwIdeal.Gen.facts, Cert.MmUpDwRefIdeal.Gen.facts,
  Cert.MmDown.Gen.facts, Cert.MmDownIdeal.Gen.facts, Cert.MmDownRefIdeal.Gen.facts,
  Cert.MmDownDx.Gen.facts, Cert.MmDownDxIdeal.Gen.facts, Cert.MmDownDxRefIdeal.Gen.facts,
  Cert.MmDownDw.Gen.facts, Cert.MmDownDwIdeal.Gen.facts, Cert.MmDownDwRefIdeal.Gen.facts,
  Cert.AddDh.Gen.facts, Cert.AddDhIdeal.Gen.facts, Cert.AddDhRefIdeal.Gen.facts,
  Cert.AddDx.Gen.facts, Cert.AddDxIdeal.Gen.facts, Cert.AddDxRefIdeal.Gen.facts,
  Cert.GradX.Gen.facts, Cert.GradXIdeal.Gen.facts, Cert.GradXRefIdeal.Gen.facts,
  Cert.Norm.Gen.facts, Cert.NormIdeal.Gen.facts, Cert.NormRefIdeal.Gen.facts,
  Cert.Mix.Gen.facts, Cert.MixIdeal.Gen.facts, Cert.MixRefIdeal.Gen.facts,
  Cert.MixBack.Gen.facts, Cert.MixBackIdeal.Gen.facts, Cert.MixBackRefIdeal.Gen.facts,
  Cert.Loss.Gen.facts, Cert.LossIdeal.Gen.facts, Cert.LossRefIdeal.Gen.facts,
  Cert.GatherRef.Gen.facts, Cert.SendRef.Gen.facts, Cert.ScatterRef.Gen.facts, Cert.PairRef.Gen.facts,
  Gather.frame_kernel, Gather.frame_ideal, Gather.frame_ref,
  Send.frame_kernel, Send.frame_ideal, Send.frame_ref,
  Scatter.frame_kernel, Scatter.frame_ideal, Scatter.frame_ref,
  Pair.frame_kernel, Pair.frame_ideal, Pair.frame_ref,
  fun m ρ _ => Cert.AdamIn.Gen.frame m ρ, fun m ρ _ => Cert.AdamInIdeal.Gen.frame m ρ, AdamIn.frame_ref,
  fun m ρ _ => Cert.AdamOut.Gen.frame m ρ, fun m ρ _ => Cert.AdamOutIdeal.Gen.frame m ρ, AdamOut.frame_ref,
  fun m ρ _ => Cert.AdamUp.Gen.frame m ρ, fun m ρ _ => Cert.AdamUpIdeal.Gen.frame m ρ, AdamUp.frame_ref,
  fun m ρ _ => Cert.AdamDown.Gen.frame m ρ, fun m ρ _ => Cert.AdamDownIdeal.Gen.frame m ρ, AdamDown.frame_ref,
  fun m ρ _ => Cert.Small.Gen.frame m ρ, fun m ρ _ => Cert.SmallIdeal.Gen.frame m ρ, Small.frame_ref,
  fun m ρ _ => Cert.SumIn.Gen.frame m ρ, fun m ρ _ => Cert.SumInIdeal.Gen.frame m ρ, SumIn.frame_ref,
  fun m ρ _ => Cert.SumOut.Gen.frame m ρ, fun m ρ _ => Cert.SumOutIdeal.Gen.frame m ρ, SumOut.frame_ref,
  fun m ρ _ => Cert.SumUp.Gen.frame m ρ, fun m ρ _ => Cert.SumUpIdeal.Gen.frame m ρ, SumUp.frame_ref,
  fun m ρ _ => Cert.SumDown.Gen.frame m ρ, fun m ρ _ => Cert.SumDownIdeal.Gen.frame m ρ, SumDown.frame_ref,
  fun m ρ _ => Cert.MmInBig.Gen.frame m ρ, fun m ρ _ => Cert.MmInBigIdeal.Gen.frame m ρ, MmInBig.frame_ref,
  fun m ρ _ => Cert.MmInBigDx.Gen.frame m ρ, fun m ρ _ => Cert.MmInBigDxIdeal.Gen.frame m ρ, MmInBigDx.frame_ref,
  fun m ρ _ => Cert.MmInBigDw.Gen.frame m ρ, fun m ρ _ => Cert.MmInBigDwIdeal.Gen.frame m ρ, MmInBigDw.frame_ref,
  fun m ρ _ => Cert.MmInSmall.Gen.frame m ρ, fun m ρ _ => Cert.MmInSmallIdeal.Gen.frame m ρ, MmInSmall.frame_ref,
  fun m ρ _ => Cert.MmInSmallDx.Gen.frame m ρ, fun m ρ _ => Cert.MmInSmallDxIdeal.Gen.frame m ρ, MmInSmallDx.frame_ref,
  fun m ρ _ => Cert.MmInSmallDw.Gen.frame m ρ, fun m ρ _ => Cert.MmInSmallDwIdeal.Gen.frame m ρ, MmInSmallDw.frame_ref,
  fun m ρ _ => Cert.MmOut.Gen.frame m ρ, fun m ρ _ => Cert.MmOutIdeal.Gen.frame m ρ, MmOut.frame_ref,
  fun m ρ _ => Cert.MmOutDx.Gen.frame m ρ, fun m ρ _ => Cert.MmOutDxIdeal.Gen.frame m ρ, MmOutDx.frame_ref,
  fun m ρ _ => Cert.MmOutDw.Gen.frame m ρ, fun m ρ _ => Cert.MmOutDwIdeal.Gen.frame m ρ, MmOutDw.frame_ref,
  fun m ρ _ => Cert.MmUp.Gen.frame m ρ, fun m ρ _ => Cert.MmUpIdeal.Gen.frame m ρ, MmUp.frame_ref,
  fun m ρ _ => Cert.MmUpDx.Gen.frame m ρ, fun m ρ _ => Cert.MmUpDxIdeal.Gen.frame m ρ, MmUpDx.frame_ref,
  fun m ρ _ => Cert.MmUpDw.Gen.frame m ρ, fun m ρ _ => Cert.MmUpDwIdeal.Gen.frame m ρ, MmUpDw.frame_ref,
  fun m ρ _ => Cert.MmDown.Gen.frame m ρ, fun m ρ _ => Cert.MmDownIdeal.Gen.frame m ρ, MmDown.frame_ref,
  fun m ρ _ => Cert.MmDownDx.Gen.frame m ρ, fun m ρ _ => Cert.MmDownDxIdeal.Gen.frame m ρ, MmDownDx.frame_ref,
  fun m ρ _ => Cert.MmDownDw.Gen.frame m ρ, fun m ρ _ => Cert.MmDownDwIdeal.Gen.frame m ρ, MmDownDw.frame_ref,
  fun m ρ _ => Cert.AddDh.Gen.frame m ρ, fun m ρ _ => Cert.AddDhIdeal.Gen.frame m ρ, AddDh.frame_ref,
  fun m ρ _ => Cert.AddDx.Gen.frame m ρ, fun m ρ _ => Cert.AddDxIdeal.Gen.frame m ρ, AddDx.frame_ref,
  fun m ρ _ => Cert.GradX.Gen.frame m ρ, fun m ρ _ => Cert.GradXIdeal.Gen.frame m ρ, GradX.frame_ref,
  fun m ρ _ => Cert.Norm.Gen.frame m ρ, fun m ρ _ => Cert.NormIdeal.Gen.frame m ρ, Norm.frame_ref,
  fun m ρ _ => Cert.Mix.Gen.frame m ρ, fun m ρ _ => Cert.MixIdeal.Gen.frame m ρ, Mix.frame_ref,
  fun m ρ _ => Cert.MixBack.Gen.frame m ρ, fun m ρ _ => Cert.MixBackIdeal.Gen.frame m ρ, MixBack.frame_ref,
  fun m ρ _ => Cert.Loss.Gen.frame m ρ, fun m ρ _ => Cert.LossIdeal.Gen.frame m ρ, Loss.frame_ref,
  Gather.frame_words, Send.frame_words, Scatter.frame_words, Pair.frame_words,
  trivial, Gather.algebraic, trivial, Send.algebraic, trivial, Scatter.algebraic, trivial, Pair.algebraic,
  trivial, AdamIn.algebraic, trivial, AdamOut.algebraic, trivial, AdamUp.algebraic, trivial, AdamDown.algebraic, trivial, Small.algebraic,
  trivial, SumIn.algebraic, trivial, SumOut.algebraic, trivial, SumUp.algebraic, trivial, SumDown.algebraic,
  trivial, MmInBig.algebraic, trivial, MmInBigDx.algebraic, trivial, MmInBigDw.algebraic,
  trivial, MmInSmall.algebraic, trivial, MmInSmallDx.algebraic, trivial, MmInSmallDw.algebraic,
  trivial, MmOut.algebraic, trivial, MmOutDx.algebraic, trivial, MmOutDw.algebraic,
  trivial, MmUp.algebraic, trivial, MmUpDx.algebraic, trivial, MmUpDw.algebraic,
  trivial, MmDown.algebraic, trivial, MmDownDx.algebraic, trivial, MmDownDw.algebraic,
  trivial, AddDh.algebraic, trivial, AddDx.algebraic, trivial, GradX.algebraic,
  trivial, Norm.algebraic, trivial, Mix.algebraic, trivial, MixBack.algebraic, trivial, Loss.algebraic,
  Gather.bitexact, Send.bitexact, Scatter.bitexact, Pair.bitexact⟩

end Cert.Proof

end
